-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2.2 = (fun _ => 1#1)

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite_scan [hPre_finite_scan : Cert.Pre_finite_scan.Facts] (m : (ℓ : Loc Cert.ScanIdeal.nD Cert.ScanIdeal.τ Cert.ScanIdeal.sig) → Buf (Elt Ideal) ℓ) : Prop :=
  ∀ c : Dev Cert.ScanIdeal.nD,
    (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2))).1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2))).2 = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_finite_scan [hPre_finite_scan : Cert.Pre_finite_scan.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2))).1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2))).2 = (fun _ => 1#1)

def Pre_Conv4 (m : (ℓ : Loc Cert.Conv4.nD Cert.Conv4.τ Cert.Conv4.sig) → Buf (Elt Bits) ℓ) : Prop :=
  True

def Pre_Conv4Ideal (m : (ℓ : Loc Cert.Conv4Ideal.nD Cert.Conv4Ideal.τ Cert.Conv4Ideal.sig) → Buf (Elt Ideal) ℓ) : Prop :=
  True

def Pre_Conv4RefIdeal (m : (ℓ : Loc Cert.Conv4RefIdeal.nD Cert.Conv4RefIdeal.τ Cert.Conv4RefIdeal.sig) → Buf (Elt Ideal) ℓ) : Prop :=
  True

def Pre_Conv31 (m : (ℓ : Loc Cert.Conv31.nD Cert.Conv31.τ Cert.Conv31.sig) → Buf (Elt Bits) ℓ) : Prop :=
  True

def Pre_Conv31Ideal (m : (ℓ : Loc Cert.Conv31Ideal.nD Cert.Conv31Ideal.τ Cert.Conv31Ideal.sig) → Buf (Elt Ideal) ℓ) : Prop :=
  True

def Pre_Conv31Ideal_finite_conv31 [hPre_finite_conv31 : Cert.Pre_finite_conv31.Facts] (m : (ℓ : Loc Cert.Conv31Ideal.nD Cert.Conv31Ideal.τ Cert.Conv31Ideal.sig) → Buf (Elt Ideal) ℓ) : Prop :=
  ∀ c : Dev Cert.Conv31Ideal.nD,
    (Cert.Pre_finite_conv31.fn (F := Ideal) (m ((c.tc : Thread Cert.Conv31Ideal.nD Cert.Conv31Ideal.τ).loc Cert.Conv31Ideal.main_arg0)) (m ((c.tc : Thread Cert.Conv31Ideal.nD Cert.Conv31Ideal.τ).loc Cert.Conv31Ideal.main_arg1)) (m ((c.tc : Thread Cert.Conv31Ideal.nD Cert.Conv31Ideal.τ).loc Cert.Conv31Ideal.main_arg2)) (m ((c.tc : Thread Cert.Conv31Ideal.nD Cert.Conv31Ideal.τ).loc Cert.Conv31Ideal.main_arg3)) (m ((c.tc : Thread Cert.Conv31Ideal.nD Cert.Conv31Ideal.τ).loc Cert.Conv31Ideal.main_arg4)) (m ((c.tc : Thread Cert.Conv31Ideal.nD Cert.Conv31Ideal.τ).loc Cert.Conv31Ideal.main_arg5)) (m ((c.tc : Thread Cert.Conv31Ideal.nD Cert.Conv31Ideal.τ).loc Cert.Conv31Ideal.main_arg6))).1 = (fun _ => 1#1)
    ∧ (Cert.Pre_finite_conv31.fn (F := Ideal) (m ((c.tc : Thread Cert.Conv31Ideal.nD Cert.Conv31Ideal.τ).loc Cert.Conv31Ideal.main_arg0)) (m ((c.tc : Thread Cert.Conv31Ideal.nD Cert.Conv31Ideal.τ).loc Cert.Conv31Ideal.main_arg1)) (m ((c.tc : Thread Cert.Conv31Ideal.nD Cert.Conv31Ideal.τ).loc Cert.Conv31Ideal.main_arg2)) (m ((c.tc : Thread Cert.Conv31Ideal.nD Cert.Conv31Ideal.τ).loc Cert.Conv31Ideal.main_arg3)) (m ((c.tc : Thread Cert.Conv31Ideal.nD Cert.Conv31Ideal.τ).loc Cert.Conv31Ideal.main_arg4)) (m ((c.tc : Thread Cert.Conv31Ideal.nD Cert.Conv31Ideal.τ).loc Cert.Conv31Ideal.main_arg5)) (m ((c.tc : Thread Cert.Conv31Ideal.nD Cert.Conv31Ideal.τ).loc Cert.Conv31Ideal.main_arg6))).2.1 = (fun _ => 1#1)
    ∧ (Cert.Pre_finite_conv31.fn (F := Ideal) (m ((c.tc : Thread Cert.Conv31Ideal.nD Cert.Conv31Ideal.τ).loc Cert.Conv31Ideal.main_arg0)) (m ((c.tc : Thread Cert.Conv31Ideal.nD Cert.Conv31Ideal.τ).loc Cert.Conv31Ideal.main_arg1)) (m ((c.tc : Thread Cert.Conv31Ideal.nD Cert.Conv31Ideal.τ).loc Cert.Conv31Ideal.main_arg2)) (m ((c.tc : Thread Cert.Conv31Ideal.nD Cert.Conv31Ideal.τ).loc Cert.Conv31Ideal.main_arg3)) (m ((c.tc : Thread Cert.Conv31Ideal.nD Cert.Conv31Ideal.τ).loc Cert.Conv31Ideal.main_arg4)) (m ((c.tc : Thread Cert.Conv31Ideal.nD Cert.Conv31Ideal.τ).loc Cert.Conv31Ideal.main_arg5)) (m ((c.tc : Thread Cert.Conv31Ideal.nD Cert.Conv31Ideal.τ).loc Cert.Conv31Ideal.main_arg6))).2.2.1 = (fun _ => 1#1)
    ∧ (Cert.Pre_finite_conv31.fn (F := Ideal) (m ((c.tc : Thread Cert.Conv31Ideal.nD Cert.Conv31Ideal.τ).loc Cert.Conv31Ideal.main_arg0)) (m ((c.tc : Thread Cert.Conv31Ideal.nD Cert.Conv31Ideal.τ).loc Cert.Conv31Ideal.main_arg1)) (m ((c.tc : Thread Cert.Conv31Ideal.nD Cert.Conv31Ideal.τ).loc Cert.Conv31Ideal.main_arg2)) (m ((c.tc : Thread Cert.Conv31Ideal.nD Cert.Conv31Ideal.τ).loc Cert.Conv31Ideal.main_arg3)) (m ((c.tc : Thread Cert.Conv31Ideal.nD Cert.Conv31Ideal.τ).loc Cert.Conv31Ideal.main_arg4)) (m ((c.tc : Thread Cert.Conv31Ideal.nD Cert.Conv31Ideal.τ).loc Cert.Conv31Ideal.main_arg5)) (m ((c.tc : Thread Cert.Conv31Ideal.nD Cert.Conv31Ideal.τ).loc Cert.Conv31Ideal.main_arg6))).2.2.2.1 = (fun _ => 1#1)
    ∧ (Cert.Pre_finite_conv31.fn (F := Ideal) (m ((c.tc : Thread Cert.Conv31Ideal.nD Cert.Conv31Ideal.τ).loc Cert.Conv31Ideal.main_arg0)) (m ((c.tc : Thread Cert.Conv31Ideal.nD Cert.Conv31Ideal.τ).loc Cert.Conv31Ideal.main_arg1)) (m ((c.tc : Thread Cert.Conv31Ideal.nD Cert.Conv31Ideal.τ).loc Cert.Conv31Ideal.main_arg2)) (m ((c.tc : Thread Cert.Conv31Ideal.nD Cert.Conv31Ideal.τ).loc Cert.Conv31Ideal.main_arg3)) (m ((c.tc : Thread Cert.Conv31Ideal.nD Cert.Conv31Ideal.τ).loc Cert.Conv31Ideal.main_arg4)) (m ((c.tc : Thread Cert.Conv31Ideal.nD Cert.Conv31Ideal.τ).loc Cert.Conv31Ideal.main_arg5)) (m ((c.tc : Thread Cert.Conv31Ideal.nD Cert.Conv31Ideal.τ).loc Cert.Conv31Ideal.main_arg6))).2.2.2.2.1 = (fun _ => 1#1)
    ∧ (Cert.Pre_finite_conv31.fn (F := Ideal) (m ((c.tc : Thread Cert.Conv31Ideal.nD Cert.Conv31Ideal.τ).loc Cert.Conv31Ideal.main_arg0)) (m ((c.tc : Thread Cert.Conv31Ideal.nD Cert.Conv31Ideal.τ).loc Cert.Conv31Ideal.main_arg1)) (m ((c.tc : Thread Cert.Conv31Ideal.nD Cert.Conv31Ideal.τ).loc Cert.Conv31Ideal.main_arg2)) (m ((c.tc : Thread Cert.Conv31Ideal.nD Cert.Conv31Ideal.τ).loc Cert.Conv31Ideal.main_arg3)) (m ((c.tc : Thread Cert.Conv31Ideal.nD Cert.Conv31Ideal.τ).loc Cert.Conv31Ideal.main_arg4)) (m ((c.tc : Thread Cert.Conv31Ideal.nD Cert.Conv31Ideal.τ).loc Cert.Conv31Ideal.main_arg5)) (m ((c.tc : Thread Cert.Conv31Ideal.nD Cert.Conv31Ideal.τ).loc Cert.Conv31Ideal.main_arg6))).2.2.2.2.2.1 = (fun _ => 1#1)
    ∧ (Cert.Pre_finite_conv31.fn (F := Ideal) (m ((c.tc : Thread Cert.Conv31Ideal.nD Cert.Conv31Ideal.τ).loc Cert.Conv31Ideal.main_arg0)) (m ((c.tc : Thread Cert.Conv31Ideal.nD Cert.Conv31Ideal.τ).loc Cert.Conv31Ideal.main_arg1)) (m ((c.tc : Thread Cert.Conv31Ideal.nD Cert.Conv31Ideal.τ).loc Cert.Conv31Ideal.main_arg2)) (m ((c.tc : Thread Cert.Conv31Ideal.nD Cert.Conv31Ideal.τ).loc Cert.Conv31Ideal.main_arg3)) (m ((c.tc : Thread Cert.Conv31Ideal.nD Cert.Conv31Ideal.τ).loc Cert.Conv31Ideal.main_arg4)) (m ((c.tc : Thread Cert.Conv31Ideal.nD Cert.Conv31Ideal.τ).loc Cert.Conv31Ideal.main_arg5)) (m ((c.tc : Thread Cert.Conv31Ideal.nD Cert.Conv31Ideal.τ).loc Cert.Conv31Ideal.main_arg6))).2.2.2.2.2.2 = (fun _ => 1#1)

def Pre_Conv31RefIdeal (m : (ℓ : Loc Cert.Conv31RefIdeal.nD Cert.Conv31RefIdeal.τ Cert.Conv31RefIdeal.sig) → Buf (Elt Ideal) ℓ) : Prop :=
  True

def Pre_Conv31RefIdeal_finite_conv31 [hPre_finite_conv31 : Cert.Pre_finite_conv31.Facts] (m : (ℓ : Loc Cert.Conv31RefIdeal.nD Cert.Conv31RefIdeal.τ Cert.Conv31RefIdeal.sig) → Buf (Elt Ideal) ℓ) : Prop :=
  ∀ c : Dev Cert.Conv31RefIdeal.nD,
    (Cert.Pre_finite_conv31.fn (F := Ideal) (m ((c.tc : Thread Cert.Conv31RefIdeal.nD Cert.Conv31RefIdeal.τ).loc Cert.Conv31RefIdeal.main_arg0)) (m ((c.tc : Thread Cert.Conv31RefIdeal.nD Cert.Conv31RefIdeal.τ).loc Cert.Conv31RefIdeal.main_arg1)) (m ((c.tc : Thread Cert.Conv31RefIdeal.nD Cert.Conv31RefIdeal.τ).loc Cert.Conv31RefIdeal.main_arg2)) (m ((c.tc : Thread Cert.Conv31RefIdeal.nD Cert.Conv31RefIdeal.τ).loc Cert.Conv31RefIdeal.main_arg3)) (m ((c.tc : Thread Cert.Conv31RefIdeal.nD Cert.Conv31RefIdeal.τ).loc Cert.Conv31RefIdeal.main_arg4)) (m ((c.tc : Thread Cert.Conv31RefIdeal.nD Cert.Conv31RefIdeal.τ).loc Cert.Conv31RefIdeal.main_arg5)) (m ((c.tc : Thread Cert.Conv31RefIdeal.nD Cert.Conv31RefIdeal.τ).loc Cert.Conv31RefIdeal.main_arg6))).1 = (fun _ => 1#1)
    ∧ (Cert.Pre_finite_conv31.fn (F := Ideal) (m ((c.tc : Thread Cert.Conv31RefIdeal.nD Cert.Conv31RefIdeal.τ).loc Cert.Conv31RefIdeal.main_arg0)) (m ((c.tc : Thread Cert.Conv31RefIdeal.nD Cert.Conv31RefIdeal.τ).loc Cert.Conv31RefIdeal.main_arg1)) (m ((c.tc : Thread Cert.Conv31RefIdeal.nD Cert.Conv31RefIdeal.τ).loc Cert.Conv31RefIdeal.main_arg2)) (m ((c.tc : Thread Cert.Conv31RefIdeal.nD Cert.Conv31RefIdeal.τ).loc Cert.Conv31RefIdeal.main_arg3)) (m ((c.tc : Thread Cert.Conv31RefIdeal.nD Cert.Conv31RefIdeal.τ).loc Cert.Conv31RefIdeal.main_arg4)) (m ((c.tc : Thread Cert.Conv31RefIdeal.nD Cert.Conv31RefIdeal.τ).loc Cert.Conv31RefIdeal.main_arg5)) (m ((c.tc : Thread Cert.Conv31RefIdeal.nD Cert.Conv31RefIdeal.τ).loc Cert.Conv31RefIdeal.main_arg6))).2.1 = (fun _ => 1#1)
    ∧ (Cert.Pre_finite_conv31.fn (F := Ideal) (m ((c.tc : Thread Cert.Conv31RefIdeal.nD Cert.Conv31RefIdeal.τ).loc Cert.Conv31RefIdeal.main_arg0)) (m ((c.tc : Thread Cert.Conv31RefIdeal.nD Cert.Conv31RefIdeal.τ).loc Cert.Conv31RefIdeal.main_arg1)) (m ((c.tc : Thread Cert.Conv31RefIdeal.nD Cert.Conv31RefIdeal.τ).loc Cert.Conv31RefIdeal.main_arg2)) (m ((c.tc : Thread Cert.Conv31RefIdeal.nD Cert.Conv31RefIdeal.τ).loc Cert.Conv31RefIdeal.main_arg3)) (m ((c.tc : Thread Cert.Conv31RefIdeal.nD Cert.Conv31RefIdeal.τ).loc Cert.Conv31RefIdeal.main_arg4)) (m ((c.tc : Thread Cert.Conv31RefIdeal.nD Cert.Conv31RefIdeal.τ).loc Cert.Conv31RefIdeal.main_arg5)) (m ((c.tc : Thread Cert.Conv31RefIdeal.nD Cert.Conv31RefIdeal.τ).loc Cert.Conv31RefIdeal.main_arg6))).2.2.1 = (fun _ => 1#1)
    ∧ (Cert.Pre_finite_conv31.fn (F := Ideal) (m ((c.tc : Thread Cert.Conv31RefIdeal.nD Cert.Conv31RefIdeal.τ).loc Cert.Conv31RefIdeal.main_arg0)) (m ((c.tc : Thread Cert.Conv31RefIdeal.nD Cert.Conv31RefIdeal.τ).loc Cert.Conv31RefIdeal.main_arg1)) (m ((c.tc : Thread Cert.Conv31RefIdeal.nD Cert.Conv31RefIdeal.τ).loc Cert.Conv31RefIdeal.main_arg2)) (m ((c.tc : Thread Cert.Conv31RefIdeal.nD Cert.Conv31RefIdeal.τ).loc Cert.Conv31RefIdeal.main_arg3)) (m ((c.tc : Thread Cert.Conv31RefIdeal.nD Cert.Conv31RefIdeal.τ).loc Cert.Conv31RefIdeal.main_arg4)) (m ((c.tc : Thread Cert.Conv31RefIdeal.nD Cert.Conv31RefIdeal.τ).loc Cert.Conv31RefIdeal.main_arg5)) (m ((c.tc : Thread Cert.Conv31RefIdeal.nD Cert.Conv31RefIdeal.τ).loc Cert.Conv31RefIdeal.main_arg6))).2.2.2.1 = (fun _ => 1#1)
    ∧ (Cert.Pre_finite_conv31.fn (F := Ideal) (m ((c.tc : Thread Cert.Conv31RefIdeal.nD Cert.Conv31RefIdeal.τ).loc Cert.Conv31RefIdeal.main_arg0)) (m ((c.tc : Thread Cert.Conv31RefIdeal.nD Cert.Conv31RefIdeal.τ).loc Cert.Conv31RefIdeal.main_arg1)) (m ((c.tc : Thread Cert.Conv31RefIdeal.nD Cert.Conv31RefIdeal.τ).loc Cert.Conv31RefIdeal.main_arg2)) (m ((c.tc : Thread Cert.Conv31RefIdeal.nD Cert.Conv31RefIdeal.τ).loc Cert.Conv31RefIdeal.main_arg3)) (m ((c.tc : Thread Cert.Conv31RefIdeal.nD Cert.Conv31RefIdeal.τ).loc Cert.Conv31RefIdeal.main_arg4)) (m ((c.tc : Thread Cert.Conv31RefIdeal.nD Cert.Conv31RefIdeal.τ).loc Cert.Conv31RefIdeal.main_arg5)) (m ((c.tc : Thread Cert.Conv31RefIdeal.nD Cert.Conv31RefIdeal.τ).loc Cert.Conv31RefIdeal.main_arg6))).2.2.2.2.1 = (fun _ => 1#1)
    ∧ (Cert.Pre_finite_conv31.fn (F := Ideal) (m ((c.tc : Thread Cert.Conv31RefIdeal.nD Cert.Conv31RefIdeal.τ).loc Cert.Conv31RefIdeal.main_arg0)) (m ((c.tc : Thread Cert.Conv31RefIdeal.nD Cert.Conv31RefIdeal.τ).loc Cert.Conv31RefIdeal.main_arg1)) (m ((c.tc : Thread Cert.Conv31RefIdeal.nD Cert.Conv31RefIdeal.τ).loc Cert.Conv31RefIdeal.main_arg2)) (m ((c.tc : Thread Cert.Conv31RefIdeal.nD Cert.Conv31RefIdeal.τ).loc Cert.Conv31RefIdeal.main_arg3)) (m ((c.tc : Thread Cert.Conv31RefIdeal.nD Cert.Conv31RefIdeal.τ).loc Cert.Conv31RefIdeal.main_arg4)) (m ((c.tc : Thread Cert.Conv31RefIdeal.nD Cert.Conv31RefIdeal.τ).loc Cert.Conv31RefIdeal.main_arg5)) (m ((c.tc : Thread Cert.Conv31RefIdeal.nD Cert.Conv31RefIdeal.τ).loc Cert.Conv31RefIdeal.main_arg6))).2.2.2.2.2.1 = (fun _ => 1#1)
    ∧ (Cert.Pre_finite_conv31.fn (F := Ideal) (m ((c.tc : Thread Cert.Conv31RefIdeal.nD Cert.Conv31RefIdeal.τ).loc Cert.Conv31RefIdeal.main_arg0)) (m ((c.tc : Thread Cert.Conv31RefIdeal.nD Cert.Conv31RefIdeal.τ).loc Cert.Conv31RefIdeal.main_arg1)) (m ((c.tc : Thread Cert.Conv31RefIdeal.nD Cert.Conv31RefIdeal.τ).loc Cert.Conv31RefIdeal.main_arg2)) (m ((c.tc : Thread Cert.Conv31RefIdeal.nD Cert.Conv31RefIdeal.τ).loc Cert.Conv31RefIdeal.main_arg3)) (m ((c.tc : Thread Cert.Conv31RefIdeal.nD Cert.Conv31RefIdeal.τ).loc Cert.Conv31RefIdeal.main_arg4)) (m ((c.tc : Thread Cert.Conv31RefIdeal.nD Cert.Conv31RefIdeal.τ).loc Cert.Conv31RefIdeal.main_arg5)) (m ((c.tc : Thread Cert.Conv31RefIdeal.nD Cert.Conv31RefIdeal.τ).loc Cert.Conv31RefIdeal.main_arg6))).2.2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5))).2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5))).2.2.2.2 = (fun _ => 1#1)

def Pre_Mixin (m : (ℓ : Loc Cert.Mixin.nD Cert.Mixin.τ Cert.Mixin.sig) → Buf (Elt Bits) ℓ) : Prop :=
  True

def Pre_MixinIdeal (m : (ℓ : Loc Cert.MixinIdeal.nD Cert.MixinIdeal.τ Cert.MixinIdeal.sig) → Buf (Elt Ideal) ℓ) : Prop :=
  True

def Pre_MixinIdeal_finite_mixin [hPre_finite_mixin : Cert.Pre_finite_mixin.Facts] (m : (ℓ : Loc Cert.MixinIdeal.nD Cert.MixinIdeal.τ Cert.MixinIdeal.sig) → Buf (Elt Ideal) ℓ) : Prop :=
  ∀ c : Dev Cert.MixinIdeal.nD,
    (Cert.Pre_finite_mixin.fn (F := Ideal) (m ((c.tc : Thread Cert.MixinIdeal.nD Cert.MixinIdeal.τ).loc Cert.MixinIdeal.main_arg0)) (m ((c.tc : Thread Cert.MixinIdeal.nD Cert.MixinIdeal.τ).loc Cert.MixinIdeal.main_arg1)) (m ((c.tc : Thread Cert.MixinIdeal.nD Cert.MixinIdeal.τ).loc Cert.MixinIdeal.main_arg2)) (m ((c.tc : Thread Cert.MixinIdeal.nD Cert.MixinIdeal.τ).loc Cert.MixinIdeal.main_arg3)) (m ((c.tc : Thread Cert.MixinIdeal.nD Cert.MixinIdeal.τ).loc Cert.MixinIdeal.main_arg4)) (m ((c.tc : Thread Cert.MixinIdeal.nD Cert.MixinIdeal.τ).loc Cert.MixinIdeal.main_arg5)) (m ((c.tc : Thread Cert.MixinIdeal.nD Cert.MixinIdeal.τ).loc Cert.MixinIdeal.main_arg6))).1 = (fun _ => 1#1)
    ∧ (Cert.Pre_finite_mixin.fn (F := Ideal) (m ((c.tc : Thread Cert.MixinIdeal.nD Cert.MixinIdeal.τ).loc Cert.MixinIdeal.main_arg0)) (m ((c.tc : Thread Cert.MixinIdeal.nD Cert.MixinIdeal.τ).loc Cert.MixinIdeal.main_arg1)) (m ((c.tc : Thread Cert.MixinIdeal.nD Cert.MixinIdeal.τ).loc Cert.MixinIdeal.main_arg2)) (m ((c.tc : Thread Cert.MixinIdeal.nD Cert.MixinIdeal.τ).loc Cert.MixinIdeal.main_arg3)) (m ((c.tc : Thread Cert.MixinIdeal.nD Cert.MixinIdeal.τ).loc Cert.MixinIdeal.main_arg4)) (m ((c.tc : Thread Cert.MixinIdeal.nD Cert.MixinIdeal.τ).loc Cert.MixinIdeal.main_arg5)) (m ((c.tc : Thread Cert.MixinIdeal.nD Cert.MixinIdeal.τ).loc Cert.MixinIdeal.main_arg6))).2.1 = (fun _ => 1#1)
    ∧ (Cert.Pre_finite_mixin.fn (F := Ideal) (m ((c.tc : Thread Cert.MixinIdeal.nD Cert.MixinIdeal.τ).loc Cert.MixinIdeal.main_arg0)) (m ((c.tc : Thread Cert.MixinIdeal.nD Cert.MixinIdeal.τ).loc Cert.MixinIdeal.main_arg1)) (m ((c.tc : Thread Cert.MixinIdeal.nD Cert.MixinIdeal.τ).loc Cert.MixinIdeal.main_arg2)) (m ((c.tc : Thread Cert.MixinIdeal.nD Cert.MixinIdeal.τ).loc Cert.MixinIdeal.main_arg3)) (m ((c.tc : Thread Cert.MixinIdeal.nD Cert.MixinIdeal.τ).loc Cert.MixinIdeal.main_arg4)) (m ((c.tc : Thread Cert.MixinIdeal.nD Cert.MixinIdeal.τ).loc Cert.MixinIdeal.main_arg5)) (m ((c.tc : Thread Cert.MixinIdeal.nD Cert.MixinIdeal.τ).loc Cert.MixinIdeal.main_arg6))).2.2.1 = (fun _ => 1#1)
    ∧ (Cert.Pre_finite_mixin.fn (F := Ideal) (m ((c.tc : Thread Cert.MixinIdeal.nD Cert.MixinIdeal.τ).loc Cert.MixinIdeal.main_arg0)) (m ((c.tc : Thread Cert.MixinIdeal.nD Cert.MixinIdeal.τ).loc Cert.MixinIdeal.main_arg1)) (m ((c.tc : Thread Cert.MixinIdeal.nD Cert.MixinIdeal.τ).loc Cert.MixinIdeal.main_arg2)) (m ((c.tc : Thread Cert.MixinIdeal.nD Cert.MixinIdeal.τ).loc Cert.MixinIdeal.main_arg3)) (m ((c.tc : Thread Cert.MixinIdeal.nD Cert.MixinIdeal.τ).loc Cert.MixinIdeal.main_arg4)) (m ((c.tc : Thread Cert.MixinIdeal.nD Cert.MixinIdeal.τ).loc Cert.MixinIdeal.main_arg5)) (m ((c.tc : Thread Cert.MixinIdeal.nD Cert.MixinIdeal.τ).loc Cert.MixinIdeal.main_arg6))).2.2.2.1 = (fun _ => 1#1)
    ∧ (Cert.Pre_finite_mixin.fn (F := Ideal) (m ((c.tc : Thread Cert.MixinIdeal.nD Cert.MixinIdeal.τ).loc Cert.MixinIdeal.main_arg0)) (m ((c.tc : Thread Cert.MixinIdeal.nD Cert.MixinIdeal.τ).loc Cert.MixinIdeal.main_arg1)) (m ((c.tc : Thread Cert.MixinIdeal.nD Cert.MixinIdeal.τ).loc Cert.MixinIdeal.main_arg2)) (m ((c.tc : Thread Cert.MixinIdeal.nD Cert.MixinIdeal.τ).loc Cert.MixinIdeal.main_arg3)) (m ((c.tc : Thread Cert.MixinIdeal.nD Cert.MixinIdeal.τ).loc Cert.MixinIdeal.main_arg4)) (m ((c.tc : Thread Cert.MixinIdeal.nD Cert.MixinIdeal.τ).loc Cert.MixinIdeal.main_arg5)) (m ((c.tc : Thread Cert.MixinIdeal.nD Cert.MixinIdeal.τ).loc Cert.MixinIdeal.main_arg6))).2.2.2.2 = (fun _ => 1#1)

def Pre_MixinRefIdeal (m : (ℓ : Loc Cert.MixinRefIdeal.nD Cert.MixinRefIdeal.τ Cert.MixinRefIdeal.sig) → Buf (Elt Ideal) ℓ) : Prop :=
  True

def Pre_MixinRefIdeal_finite_mixin [hPre_finite_mixin : Cert.Pre_finite_mixin.Facts] (m : (ℓ : Loc Cert.MixinRefIdeal.nD Cert.MixinRefIdeal.τ Cert.MixinRefIdeal.sig) → Buf (Elt Ideal) ℓ) : Prop :=
  ∀ c : Dev Cert.MixinRefIdeal.nD,
    (Cert.Pre_finite_mixin.fn (F := Ideal) (m ((c.tc : Thread Cert.MixinRefIdeal.nD Cert.MixinRefIdeal.τ).loc Cert.MixinRefIdeal.main_arg0)) (m ((c.tc : Thread Cert.MixinRefIdeal.nD Cert.MixinRefIdeal.τ).loc Cert.MixinRefIdeal.main_arg1)) (m ((c.tc : Thread Cert.MixinRefIdeal.nD Cert.MixinRefIdeal.τ).loc Cert.MixinRefIdeal.main_arg2)) (m ((c.tc : Thread Cert.MixinRefIdeal.nD Cert.MixinRefIdeal.τ).loc Cert.MixinRefIdeal.main_arg3)) (m ((c.tc : Thread Cert.MixinRefIdeal.nD Cert.MixinRefIdeal.τ).loc Cert.MixinRefIdeal.main_arg4)) (m ((c.tc : Thread Cert.MixinRefIdeal.nD Cert.MixinRefIdeal.τ).loc Cert.MixinRefIdeal.main_arg5)) (m ((c.tc : Thread Cert.MixinRefIdeal.nD Cert.MixinRefIdeal.τ).loc Cert.MixinRefIdeal.main_arg6))).1 = (fun _ => 1#1)
    ∧ (Cert.Pre_finite_mixin.fn (F := Ideal) (m ((c.tc : Thread Cert.MixinRefIdeal.nD Cert.MixinRefIdeal.τ).loc Cert.MixinRefIdeal.main_arg0)) (m ((c.tc : Thread Cert.MixinRefIdeal.nD Cert.MixinRefIdeal.τ).loc Cert.MixinRefIdeal.main_arg1)) (m ((c.tc : Thread Cert.MixinRefIdeal.nD Cert.MixinRefIdeal.τ).loc Cert.MixinRefIdeal.main_arg2)) (m ((c.tc : Thread Cert.MixinRefIdeal.nD Cert.MixinRefIdeal.τ).loc Cert.MixinRefIdeal.main_arg3)) (m ((c.tc : Thread Cert.MixinRefIdeal.nD Cert.MixinRefIdeal.τ).loc Cert.MixinRefIdeal.main_arg4)) (m ((c.tc : Thread Cert.MixinRefIdeal.nD Cert.MixinRefIdeal.τ).loc Cert.MixinRefIdeal.main_arg5)) (m ((c.tc : Thread Cert.MixinRefIdeal.nD Cert.MixinRefIdeal.τ).loc Cert.MixinRefIdeal.main_arg6))).2.1 = (fun _ => 1#1)
    ∧ (Cert.Pre_finite_mixin.fn (F := Ideal) (m ((c.tc : Thread Cert.MixinRefIdeal.nD Cert.MixinRefIdeal.τ).loc Cert.MixinRefIdeal.main_arg0)) (m ((c.tc : Thread Cert.MixinRefIdeal.nD Cert.MixinRefIdeal.τ).loc Cert.MixinRefIdeal.main_arg1)) (m ((c.tc : Thread Cert.MixinRefIdeal.nD Cert.MixinRefIdeal.τ).loc Cert.MixinRefIdeal.main_arg2)) (m ((c.tc : Thread Cert.MixinRefIdeal.nD Cert.MixinRefIdeal.τ).loc Cert.MixinRefIdeal.main_arg3)) (m ((c.tc : Thread Cert.MixinRefIdeal.nD Cert.MixinRefIdeal.τ).loc Cert.MixinRefIdeal.main_arg4)) (m ((c.tc : Thread Cert.MixinRefIdeal.nD Cert.MixinRefIdeal.τ).loc Cert.MixinRefIdeal.main_arg5)) (m ((c.tc : Thread Cert.MixinRefIdeal.nD Cert.MixinRefIdeal.τ).loc Cert.MixinRefIdeal.main_arg6))).2.2.1 = (fun _ => 1#1)
    ∧ (Cert.Pre_finite_mixin.fn (F := Ideal) (m ((c.tc : Thread Cert.MixinRefIdeal.nD Cert.MixinRefIdeal.τ).loc Cert.MixinRefIdeal.main_arg0)) (m ((c.tc : Thread Cert.MixinRefIdeal.nD Cert.MixinRefIdeal.τ).loc Cert.MixinRefIdeal.main_arg1)) (m ((c.tc : Thread Cert.MixinRefIdeal.nD Cert.MixinRefIdeal.τ).loc Cert.MixinRefIdeal.main_arg2)) (m ((c.tc : Thread Cert.MixinRefIdeal.nD Cert.MixinRefIdeal.τ).loc Cert.MixinRefIdeal.main_arg3)) (m ((c.tc : Thread Cert.MixinRefIdeal.nD Cert.MixinRefIdeal.τ).loc Cert.MixinRefIdeal.main_arg4)) (m ((c.tc : Thread Cert.MixinRefIdeal.nD Cert.MixinRefIdeal.τ).loc Cert.MixinRefIdeal.main_arg5)) (m ((c.tc : Thread Cert.MixinRefIdeal.nD Cert.MixinRefIdeal.τ).loc Cert.MixinRefIdeal.main_arg6))).2.2.2.1 = (fun _ => 1#1)
    ∧ (Cert.Pre_finite_mixin.fn (F := Ideal) (m ((c.tc : Thread Cert.MixinRefIdeal.nD Cert.MixinRefIdeal.τ).loc Cert.MixinRefIdeal.main_arg0)) (m ((c.tc : Thread Cert.MixinRefIdeal.nD Cert.MixinRefIdeal.τ).loc Cert.MixinRefIdeal.main_arg1)) (m ((c.tc : Thread Cert.MixinRefIdeal.nD Cert.MixinRefIdeal.τ).loc Cert.MixinRefIdeal.main_arg2)) (m ((c.tc : Thread Cert.MixinRefIdeal.nD Cert.MixinRefIdeal.τ).loc Cert.MixinRefIdeal.main_arg3)) (m ((c.tc : Thread Cert.MixinRefIdeal.nD Cert.MixinRefIdeal.τ).loc Cert.MixinRefIdeal.main_arg4)) (m ((c.tc : Thread Cert.MixinRefIdeal.nD Cert.MixinRefIdeal.τ).loc Cert.MixinRefIdeal.main_arg5)) (m ((c.tc : Thread Cert.MixinRefIdeal.nD Cert.MixinRefIdeal.τ).loc Cert.MixinRefIdeal.main_arg6))).2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.2.2.2 = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitRefIdeal (m : (ℓ : Loc Cert.SplitRefIdeal.nD Cert.SplitRefIdeal.τ Cert.SplitRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Rconv (m : (ℓ : Loc Cert.Rconv.nD Cert.Rconv.τ Cert.Rconv.sig) → Buf (Elt Bits) ℓ) : Prop :=
  True

def Pre_RconvIdeal (m : (ℓ : Loc Cert.RconvIdeal.nD Cert.RconvIdeal.τ Cert.RconvIdeal.sig) → Buf (Elt Ideal) ℓ) : Prop :=
  True

def Pre_RconvRefIdeal (m : (ℓ : Loc Cert.RconvRefIdeal.nD Cert.RconvRefIdeal.τ Cert.RconvRefIdeal.sig) → Buf (Elt Ideal) ℓ) : Prop :=
  True

def Pre_Rgates (m : (ℓ : Loc Cert.Rgates.nD Cert.Rgates.τ Cert.Rgates.sig) → Buf (Elt Bits) ℓ) : Prop :=
  True

def Pre_RgatesIdeal (m : (ℓ : Loc Cert.RgatesIdeal.nD Cert.RgatesIdeal.τ Cert.RgatesIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Recur (m : (ℓ : Loc Cert.Recur.nD Cert.Recur.τ Cert.Recur.sig) → Buf (Elt Bits) ℓ) : Prop :=
  True

def Pre_RecurIdeal (m : (ℓ : Loc Cert.RecurIdeal.nD Cert.RecurIdeal.τ Cert.RecurIdeal.sig) → Buf (Elt Ideal) ℓ) : Prop :=
  True

def Pre_RecurIdeal_finite_recur [hPre_finite_recur : Cert.Pre_finite_recur.Facts] (m : (ℓ : Loc Cert.RecurIdeal.nD Cert.RecurIdeal.τ Cert.RecurIdeal.sig) → Buf (Elt Ideal) ℓ) : Prop :=
  ∀ c : Dev Cert.RecurIdeal.nD,
    (Cert.Pre_finite_recur.fn (F := Ideal) (m ((c.tc : Thread Cert.RecurIdeal.nD Cert.RecurIdeal.τ).loc Cert.RecurIdeal.main_arg0)) (m ((c.tc : Thread Cert.RecurIdeal.nD Cert.RecurIdeal.τ).loc Cert.RecurIdeal.main_arg1)) (m ((c.tc : Thread Cert.RecurIdeal.nD Cert.RecurIdeal.τ).loc Cert.RecurIdeal.main_arg2))).1 = (fun _ => 1#1)
    ∧ (Cert.Pre_finite_recur.fn (F := Ideal) (m ((c.tc : Thread Cert.RecurIdeal.nD Cert.RecurIdeal.τ).loc Cert.RecurIdeal.main_arg0)) (m ((c.tc : Thread Cert.RecurIdeal.nD Cert.RecurIdeal.τ).loc Cert.RecurIdeal.main_arg1)) (m ((c.tc : Thread Cert.RecurIdeal.nD Cert.RecurIdeal.τ).loc Cert.RecurIdeal.main_arg2))).2 = (fun _ => 1#1)

def Pre_RecurRefIdeal (m : (ℓ : Loc Cert.RecurRefIdeal.nD Cert.RecurRefIdeal.τ Cert.RecurRefIdeal.sig) → Buf (Elt Ideal) ℓ) : Prop :=
  True

def Pre_RecurRefIdeal_finite_recur [hPre_finite_recur : Cert.Pre_finite_recur.Facts] (m : (ℓ : Loc Cert.RecurRefIdeal.nD Cert.RecurRefIdeal.τ Cert.RecurRefIdeal.sig) → Buf (Elt Ideal) ℓ) : Prop :=
  ∀ c : Dev Cert.RecurRefIdeal.nD,
    (Cert.Pre_finite_recur.fn (F := Ideal) (m ((c.tc : Thread Cert.RecurRefIdeal.nD Cert.RecurRefIdeal.τ).loc Cert.RecurRefIdeal.main_arg0)) (m ((c.tc : Thread Cert.RecurRefIdeal.nD Cert.RecurRefIdeal.τ).loc Cert.RecurRefIdeal.main_arg1)) (m ((c.tc : Thread Cert.RecurRefIdeal.nD Cert.RecurRefIdeal.τ).loc Cert.RecurRefIdeal.main_arg2))).1 = (fun _ => 1#1)
    ∧ (Cert.Pre_finite_recur.fn (F := Ideal) (m ((c.tc : Thread Cert.RecurRefIdeal.nD Cert.RecurRefIdeal.τ).loc Cert.RecurRefIdeal.main_arg0)) (m ((c.tc : Thread Cert.RecurRefIdeal.nD Cert.RecurRefIdeal.τ).loc Cert.RecurRefIdeal.main_arg1)) (m ((c.tc : Thread Cert.RecurRefIdeal.nD Cert.RecurRefIdeal.τ).loc Cert.RecurRefIdeal.main_arg2))).2 = (fun _ => 1#1)

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2))
      ∧ r.2.sem = fun _ => 0)

def quiescent_ScanIdeal_pre_finite_scan [hScanIdeal : Cert.ScanIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite_scan m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2))
      ∧ r.2.sem = fun _ => 0)

def quiescent_ScanRefIdeal_pre_finite_scan [hScanRefIdeal : Cert.ScanRefIdeal.Facts] [hPre_finite_scan : Cert.Pre_finite_scan.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_finite_scan m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2))
      ∧ r.2.sem = fun _ => 0)

def quiescent_Conv4 [hConv4 : Cert.Conv4.Facts] : Prop :=
  ∀ (m : (ℓ : Loc Cert.Conv4.nD Cert.Conv4.τ Cert.Conv4.sig) → Buf (Elt Bits) ℓ) (g : Dev Cert.Conv4.nD → PrngReg), Pre_Conv4 m →
    θ_run (Cert.Conv4.defs (F := Bits)) (onTc (τ := Cert.Conv4.τ) (Cert.Conv4.main (F := Bits))) ⟨m, fun _ => 0, g⟩ (fun r => (∀ c : Dev Cert.Conv4.nD,
      r.2.mem ((c.tc : Thread Cert.Conv4.nD Cert.Conv4.τ).loc Cert.Conv4.main_arg0) = m ((c.tc : Thread Cert.Conv4.nD Cert.Conv4.τ).loc Cert.Conv4.main_arg0)
      ∧ r.2.mem ((c.tc : Thread Cert.Conv4.nD Cert.Conv4.τ).loc Cert.Conv4.main_arg1) = m ((c.tc : Thread Cert.Conv4.nD Cert.Conv4.τ).loc Cert.Conv4.main_arg1)
      ∧ r.2.mem ((c.tc : Thread Cert.Conv4.nD Cert.Conv4.τ).loc Cert.Conv4.main_arg2) = m ((c.tc : Thread Cert.Conv4.nD Cert.Conv4.τ).loc Cert.Conv4.main_arg2)
      ∧ r.2.mem ((c.tc : Thread Cert.Conv4.nD Cert.Conv4.τ).loc Cert.Conv4.main_arg3) = m ((c.tc : Thread Cert.Conv4.nD Cert.Conv4.τ).loc Cert.Conv4.main_arg3))
      ∧ r.2.sem = fun _ => 0)

def quiescent_Conv4Ideal [hConv4Ideal : Cert.Conv4Ideal.Facts] : Prop :=
  ∀ (m : (ℓ : Loc Cert.Conv4Ideal.nD Cert.Conv4Ideal.τ Cert.Conv4Ideal.sig) → Buf (Elt Ideal) ℓ) (g : Dev Cert.Conv4Ideal.nD → PrngReg), Pre_Conv4Ideal m →
    θ_run (Cert.Conv4Ideal.defs (F := Ideal)) (onTc (τ := Cert.Conv4Ideal.τ) (Cert.Conv4Ideal.main (F := Ideal))) ⟨m, fun _ => 0, g⟩ (fun r => (∀ c : Dev Cert.Conv4Ideal.nD,
      r.2.mem ((c.tc : Thread Cert.Conv4Ideal.nD Cert.Conv4Ideal.τ).loc Cert.Conv4Ideal.main_arg0) = m ((c.tc : Thread Cert.Conv4Ideal.nD Cert.Conv4Ideal.τ).loc Cert.Conv4Ideal.main_arg0)
      ∧ r.2.mem ((c.tc : Thread Cert.Conv4Ideal.nD Cert.Conv4Ideal.τ).loc Cert.Conv4Ideal.main_arg1) = m ((c.tc : Thread Cert.Conv4Ideal.nD Cert.Conv4Ideal.τ).loc Cert.Conv4Ideal.main_arg1)
      ∧ r.2.mem ((c.tc : Thread Cert.Conv4Ideal.nD Cert.Conv4Ideal.τ).loc Cert.Conv4Ideal.main_arg2) = m ((c.tc : Thread Cert.Conv4Ideal.nD Cert.Conv4Ideal.τ).loc Cert.Conv4Ideal.main_arg2)
      ∧ r.2.mem ((c.tc : Thread Cert.Conv4Ideal.nD Cert.Conv4Ideal.τ).loc Cert.Conv4Ideal.main_arg3) = m ((c.tc : Thread Cert.Conv4Ideal.nD Cert.Conv4Ideal.τ).loc Cert.Conv4Ideal.main_arg3))
      ∧ r.2.sem = fun _ => 0)

def quiescent_Conv4RefIdeal [hConv4RefIdeal : Cert.Conv4RefIdeal.Facts] : Prop :=
  ∀ (m : (ℓ : Loc Cert.Conv4RefIdeal.nD Cert.Conv4RefIdeal.τ Cert.Conv4RefIdeal.sig) → Buf (Elt Ideal) ℓ) (g : Dev Cert.Conv4RefIdeal.nD → PrngReg), Pre_Conv4RefIdeal m →
    θ_run (Cert.Conv4RefIdeal.defs (F := Ideal)) (onTc (τ := Cert.Conv4RefIdeal.τ) (Cert.Conv4RefIdeal.main (F := Ideal))) ⟨m, fun _ => 0, g⟩ (fun r => (∀ c : Dev Cert.Conv4RefIdeal.nD,
      r.2.mem ((c.tc : Thread Cert.Conv4RefIdeal.nD Cert.Conv4RefIdeal.τ).loc Cert.Conv4RefIdeal.main_arg0) = m ((c.tc : Thread Cert.Conv4RefIdeal.nD Cert.Conv4RefIdeal.τ).loc Cert.Conv4RefIdeal.main_arg0)
      ∧ r.2.mem ((c.tc : Thread Cert.Conv4RefIdeal.nD Cert.Conv4RefIdeal.τ).loc Cert.Conv4RefIdeal.main_arg1) = m ((c.tc : Thread Cert.Conv4RefIdeal.nD Cert.Conv4RefIdeal.τ).loc Cert.Conv4RefIdeal.main_arg1)
      ∧ r.2.mem ((c.tc : Thread Cert.Conv4RefIdeal.nD Cert.Conv4RefIdeal.τ).loc Cert.Conv4RefIdeal.main_arg2) = m ((c.tc : Thread Cert.Conv4RefIdeal.nD Cert.Conv4RefIdeal.τ).loc Cert.Conv4RefIdeal.main_arg2)
      ∧ r.2.mem ((c.tc : Thread Cert.Conv4RefIdeal.nD Cert.Conv4RefIdeal.τ).loc Cert.Conv4RefIdeal.main_arg3) = m ((c.tc : Thread Cert.Conv4RefIdeal.nD Cert.Conv4RefIdeal.τ).loc Cert.Conv4RefIdeal.main_arg3))
      ∧ r.2.sem = fun _ => 0)

def quiescent_Conv31 [hConv31 : Cert.Conv31.Facts] : Prop :=
  ∀ (m : (ℓ : Loc Cert.Conv31.nD Cert.Conv31.τ Cert.Conv31.sig) → Buf (Elt Bits) ℓ) (g : Dev Cert.Conv31.nD → PrngReg), Pre_Conv31 m →
    θ_run (Cert.Conv31.defs (F := Bits)) (onTc (τ := Cert.Conv31.τ) (Cert.Conv31.main (F := Bits))) ⟨m, fun _ => 0, g⟩ (fun r => (∀ c : Dev Cert.Conv31.nD,
      r.2.mem ((c.tc : Thread Cert.Conv31.nD Cert.Conv31.τ).loc Cert.Conv31.main_arg0) = m ((c.tc : Thread Cert.Conv31.nD Cert.Conv31.τ).loc Cert.Conv31.main_arg0)
      ∧ r.2.mem ((c.tc : Thread Cert.Conv31.nD Cert.Conv31.τ).loc Cert.Conv31.main_arg1) = m ((c.tc : Thread Cert.Conv31.nD Cert.Conv31.τ).loc Cert.Conv31.main_arg1)
      ∧ r.2.mem ((c.tc : Thread Cert.Conv31.nD Cert.Conv31.τ).loc Cert.Conv31.main_arg2) = m ((c.tc : Thread Cert.Conv31.nD Cert.Conv31.τ).loc Cert.Conv31.main_arg2)
      ∧ r.2.mem ((c.tc : Thread Cert.Conv31.nD Cert.Conv31.τ).loc Cert.Conv31.main_arg3) = m ((c.tc : Thread Cert.Conv31.nD Cert.Conv31.τ).loc Cert.Conv31.main_arg3)
      ∧ r.2.mem ((c.tc : Thread Cert.Conv31.nD Cert.Conv31.τ).loc Cert.Conv31.main_arg4) = m ((c.tc : Thread Cert.Conv31.nD Cert.Conv31.τ).loc Cert.Conv31.main_arg4)
      ∧ r.2.mem ((c.tc : Thread Cert.Conv31.nD Cert.Conv31.τ).loc Cert.Conv31.main_arg5) = m ((c.tc : Thread Cert.Conv31.nD Cert.Conv31.τ).loc Cert.Conv31.main_arg5)
      ∧ r.2.mem ((c.tc : Thread Cert.Conv31.nD Cert.Conv31.τ).loc Cert.Conv31.main_arg6) = m ((c.tc : Thread Cert.Conv31.nD Cert.Conv31.τ).loc Cert.Conv31.main_arg6))
      ∧ r.2.sem = fun _ => 0)

def quiescent_Conv31Ideal [hConv31Ideal : Cert.Conv31Ideal.Facts] : Prop :=
  ∀ (m : (ℓ : Loc Cert.Conv31Ideal.nD Cert.Conv31Ideal.τ Cert.Conv31Ideal.sig) → Buf (Elt Ideal) ℓ) (g : Dev Cert.Conv31Ideal.nD → PrngReg), Pre_Conv31Ideal m →
    θ_run (Cert.Conv31Ideal.defs (F := Ideal)) (onTc (τ := Cert.Conv31Ideal.τ) (Cert.Conv31Ideal.main (F := Ideal))) ⟨m, fun _ => 0, g⟩ (fun r => (∀ c : Dev Cert.Conv31Ideal.nD,
      r.2.mem ((c.tc : Thread Cert.Conv31Ideal.nD Cert.Conv31Ideal.τ).loc Cert.Conv31Ideal.main_arg0) = m ((c.tc : Thread Cert.Conv31Ideal.nD Cert.Conv31Ideal.τ).loc Cert.Conv31Ideal.main_arg0)
      ∧ r.2.mem ((c.tc : Thread Cert.Conv31Ideal.nD Cert.Conv31Ideal.τ).loc Cert.Conv31Ideal.main_arg1) = m ((c.tc : Thread Cert.Conv31Ideal.nD Cert.Conv31Ideal.τ).loc Cert.Conv31Ideal.main_arg1)
      ∧ r.2.mem ((c.tc : Thread Cert.Conv31Ideal.nD Cert.Conv31Ideal.τ).loc Cert.Conv31Ideal.main_arg2) = m ((c.tc : Thread Cert.Conv31Ideal.nD Cert.Conv31Ideal.τ).loc Cert.Conv31Ideal.main_arg2)
      ∧ r.2.mem ((c.tc : Thread Cert.Conv31Ideal.nD Cert.Conv31Ideal.τ).loc Cert.Conv31Ideal.main_arg3) = m ((c.tc : Thread Cert.Conv31Ideal.nD Cert.Conv31Ideal.τ).loc Cert.Conv31Ideal.main_arg3)
      ∧ r.2.mem ((c.tc : Thread Cert.Conv31Ideal.nD Cert.Conv31Ideal.τ).loc Cert.Conv31Ideal.main_arg4) = m ((c.tc : Thread Cert.Conv31Ideal.nD Cert.Conv31Ideal.τ).loc Cert.Conv31Ideal.main_arg4)
      ∧ r.2.mem ((c.tc : Thread Cert.Conv31Ideal.nD Cert.Conv31Ideal.τ).loc Cert.Conv31Ideal.main_arg5) = m ((c.tc : Thread Cert.Conv31Ideal.nD Cert.Conv31Ideal.τ).loc Cert.Conv31Ideal.main_arg5)
      ∧ r.2.mem ((c.tc : Thread Cert.Conv31Ideal.nD Cert.Conv31Ideal.τ).loc Cert.Conv31Ideal.main_arg6) = m ((c.tc : Thread Cert.Conv31Ideal.nD Cert.Conv31Ideal.τ).loc Cert.Conv31Ideal.main_arg6))
      ∧ r.2.sem = fun _ => 0)

def quiescent_Conv31Ideal_pre_finite_conv31 [hConv31Ideal : Cert.Conv31Ideal.Facts] [hPre_finite_conv31 : Cert.Pre_finite_conv31.Facts] : Prop :=
  ∀ (m : (ℓ : Loc Cert.Conv31Ideal.nD Cert.Conv31Ideal.τ Cert.Conv31Ideal.sig) → Buf (Elt Ideal) ℓ) (g : Dev Cert.Conv31Ideal.nD → PrngReg), Pre_Conv31Ideal_finite_conv31 m →
    θ_run (Cert.Conv31Ideal.defs (F := Ideal)) (onTc (τ := Cert.Conv31Ideal.τ) (Cert.Conv31Ideal.main (F := Ideal))) ⟨m, fun _ => 0, g⟩ (fun r => (∀ c : Dev Cert.Conv31Ideal.nD,
      r.2.mem ((c.tc : Thread Cert.Conv31Ideal.nD Cert.Conv31Ideal.τ).loc Cert.Conv31Ideal.main_arg0) = m ((c.tc : Thread Cert.Conv31Ideal.nD Cert.Conv31Ideal.τ).loc Cert.Conv31Ideal.main_arg0)
      ∧ r.2.mem ((c.tc : Thread Cert.Conv31Ideal.nD Cert.Conv31Ideal.τ).loc Cert.Conv31Ideal.main_arg1) = m ((c.tc : Thread Cert.Conv31Ideal.nD Cert.Conv31Ideal.τ).loc Cert.Conv31Ideal.main_arg1)
      ∧ r.2.mem ((c.tc : Thread Cert.Conv31Ideal.nD Cert.Conv31Ideal.τ).loc Cert.Conv31Ideal.main_arg2) = m ((c.tc : Thread Cert.Conv31Ideal.nD Cert.Conv31Ideal.τ).loc Cert.Conv31Ideal.main_arg2)
      ∧ r.2.mem ((c.tc : Thread Cert.Conv31Ideal.nD Cert.Conv31Ideal.τ).loc Cert.Conv31Ideal.main_arg3) = m ((c.tc : Thread Cert.Conv31Ideal.nD Cert.Conv31Ideal.τ).loc Cert.Conv31Ideal.main_arg3)
      ∧ r.2.mem ((c.tc : Thread Cert.Conv31Ideal.nD Cert.Conv31Ideal.τ).loc Cert.Conv31Ideal.main_arg4) = m ((c.tc : Thread Cert.Conv31Ideal.nD Cert.Conv31Ideal.τ).loc Cert.Conv31Ideal.main_arg4)
      ∧ r.2.mem ((c.tc : Thread Cert.Conv31Ideal.nD Cert.Conv31Ideal.τ).loc Cert.Conv31Ideal.main_arg5) = m ((c.tc : Thread Cert.Conv31Ideal.nD Cert.Conv31Ideal.τ).loc Cert.Conv31Ideal.main_arg5)
      ∧ r.2.mem ((c.tc : Thread Cert.Conv31Ideal.nD Cert.Conv31Ideal.τ).loc Cert.Conv31Ideal.main_arg6) = m ((c.tc : Thread Cert.Conv31Ideal.nD Cert.Conv31Ideal.τ).loc Cert.Conv31Ideal.main_arg6))
      ∧ r.2.sem = fun _ => 0)

def quiescent_Conv31RefIdeal [hConv31RefIdeal : Cert.Conv31RefIdeal.Facts] : Prop :=
  ∀ (m : (ℓ : Loc Cert.Conv31RefIdeal.nD Cert.Conv31RefIdeal.τ Cert.Conv31RefIdeal.sig) → Buf (Elt Ideal) ℓ) (g : Dev Cert.Conv31RefIdeal.nD → PrngReg), Pre_Conv31RefIdeal m →
    θ_run (Cert.Conv31RefIdeal.defs (F := Ideal)) (onTc (τ := Cert.Conv31RefIdeal.τ) (Cert.Conv31RefIdeal.main (F := Ideal))) ⟨m, fun _ => 0, g⟩ (fun r => (∀ c : Dev Cert.Conv31RefIdeal.nD,
      r.2.mem ((c.tc : Thread Cert.Conv31RefIdeal.nD Cert.Conv31RefIdeal.τ).loc Cert.Conv31RefIdeal.main_arg0) = m ((c.tc : Thread Cert.Conv31RefIdeal.nD Cert.Conv31RefIdeal.τ).loc Cert.Conv31RefIdeal.main_arg0)
      ∧ r.2.mem ((c.tc : Thread Cert.Conv31RefIdeal.nD Cert.Conv31RefIdeal.τ).loc Cert.Conv31RefIdeal.main_arg1) = m ((c.tc : Thread Cert.Conv31RefIdeal.nD Cert.Conv31RefIdeal.τ).loc Cert.Conv31RefIdeal.main_arg1)
      ∧ r.2.mem ((c.tc : Thread Cert.Conv31RefIdeal.nD Cert.Conv31RefIdeal.τ).loc Cert.Conv31RefIdeal.main_arg2) = m ((c.tc : Thread Cert.Conv31RefIdeal.nD Cert.Conv31RefIdeal.τ).loc Cert.Conv31RefIdeal.main_arg2)
      ∧ r.2.mem ((c.tc : Thread Cert.Conv31RefIdeal.nD Cert.Conv31RefIdeal.τ).loc Cert.Conv31RefIdeal.main_arg3) = m ((c.tc : Thread Cert.Conv31RefIdeal.nD Cert.Conv31RefIdeal.τ).loc Cert.Conv31RefIdeal.main_arg3)
      ∧ r.2.mem ((c.tc : Thread Cert.Conv31RefIdeal.nD Cert.Conv31RefIdeal.τ).loc Cert.Conv31RefIdeal.main_arg4) = m ((c.tc : Thread Cert.Conv31RefIdeal.nD Cert.Conv31RefIdeal.τ).loc Cert.Conv31RefIdeal.main_arg4)
      ∧ r.2.mem ((c.tc : Thread Cert.Conv31RefIdeal.nD Cert.Conv31RefIdeal.τ).loc Cert.Conv31RefIdeal.main_arg5) = m ((c.tc : Thread Cert.Conv31RefIdeal.nD Cert.Conv31RefIdeal.τ).loc Cert.Conv31RefIdeal.main_arg5)
      ∧ r.2.mem ((c.tc : Thread Cert.Conv31RefIdeal.nD Cert.Conv31RefIdeal.τ).loc Cert.Conv31RefIdeal.main_arg6) = m ((c.tc : Thread Cert.Conv31RefIdeal.nD Cert.Conv31RefIdeal.τ).loc Cert.Conv31RefIdeal.main_arg6))
      ∧ r.2.sem = fun _ => 0)

def quiescent_Conv31RefIdeal_pre_finite_conv31 [hConv31RefIdeal : Cert.Conv31RefIdeal.Facts] [hPre_finite_conv31 : Cert.Pre_finite_conv31.Facts] : Prop :=
  ∀ (m : (ℓ : Loc Cert.Conv31RefIdeal.nD Cert.Conv31RefIdeal.τ Cert.Conv31RefIdeal.sig) → Buf (Elt Ideal) ℓ) (g : Dev Cert.Conv31RefIdeal.nD → PrngReg), Pre_Conv31RefIdeal_finite_conv31 m →
    θ_run (Cert.Conv31RefIdeal.defs (F := Ideal)) (onTc (τ := Cert.Conv31RefIdeal.τ) (Cert.Conv31RefIdeal.main (F := Ideal))) ⟨m, fun _ => 0, g⟩ (fun r => (∀ c : Dev Cert.Conv31RefIdeal.nD,
      r.2.mem ((c.tc : Thread Cert.Conv31RefIdeal.nD Cert.Conv31RefIdeal.τ).loc Cert.Conv31RefIdeal.main_arg0) = m ((c.tc : Thread Cert.Conv31RefIdeal.nD Cert.Conv31RefIdeal.τ).loc Cert.Conv31RefIdeal.main_arg0)
      ∧ r.2.mem ((c.tc : Thread Cert.Conv31RefIdeal.nD Cert.Conv31RefIdeal.τ).loc Cert.Conv31RefIdeal.main_arg1) = m ((c.tc : Thread Cert.Conv31RefIdeal.nD Cert.Conv31RefIdeal.τ).loc Cert.Conv31RefIdeal.main_arg1)
      ∧ r.2.mem ((c.tc : Thread Cert.Conv31RefIdeal.nD Cert.Conv31RefIdeal.τ).loc Cert.Conv31RefIdeal.main_arg2) = m ((c.tc : Thread Cert.Conv31RefIdeal.nD Cert.Conv31RefIdeal.τ).loc Cert.Conv31RefIdeal.main_arg2)
      ∧ r.2.mem ((c.tc : Thread Cert.Conv31RefIdeal.nD Cert.Conv31RefIdeal.τ).loc Cert.Conv31RefIdeal.main_arg3) = m ((c.tc : Thread Cert.Conv31RefIdeal.nD Cert.Conv31RefIdeal.τ).loc Cert.Conv31RefIdeal.main_arg3)
      ∧ r.2.mem ((c.tc : Thread Cert.Conv31RefIdeal.nD Cert.Conv31RefIdeal.τ).loc Cert.Conv31RefIdeal.main_arg4) = m ((c.tc : Thread Cert.Conv31RefIdeal.nD Cert.Conv31RefIdeal.τ).loc Cert.Conv31RefIdeal.main_arg4)
      ∧ r.2.mem ((c.tc : Thread Cert.Conv31RefIdeal.nD Cert.Conv31RefIdeal.τ).loc Cert.Conv31RefIdeal.main_arg5) = m ((c.tc : Thread Cert.Conv31RefIdeal.nD Cert.Conv31RefIdeal.τ).loc Cert.Conv31RefIdeal.main_arg5)
      ∧ r.2.mem ((c.tc : Thread Cert.Conv31RefIdeal.nD Cert.Conv31RefIdeal.τ).loc Cert.Conv31RefIdeal.main_arg6) = m ((c.tc : Thread Cert.Conv31RefIdeal.nD Cert.Conv31RefIdeal.τ).loc Cert.Conv31RefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_Mixin [hMixin : Cert.Mixin.Facts] : Prop :=
  ∀ (m : (ℓ : Loc Cert.Mixin.nD Cert.Mixin.τ Cert.Mixin.sig) → Buf (Elt Bits) ℓ) (g : Dev Cert.Mixin.nD → PrngReg), Pre_Mixin m →
    θ_run (Cert.Mixin.defs (F := Bits)) (onTc (τ := Cert.Mixin.τ) (Cert.Mixin.main (F := Bits))) ⟨m, fun _ => 0, g⟩ (fun r => (∀ c : Dev Cert.Mixin.nD,
      r.2.mem ((c.tc : Thread Cert.Mixin.nD Cert.Mixin.τ).loc Cert.Mixin.main_arg0) = m ((c.tc : Thread Cert.Mixin.nD Cert.Mixin.τ).loc Cert.Mixin.main_arg0)
      ∧ r.2.mem ((c.tc : Thread Cert.Mixin.nD Cert.Mixin.τ).loc Cert.Mixin.main_arg1) = m ((c.tc : Thread Cert.Mixin.nD Cert.Mixin.τ).loc Cert.Mixin.main_arg1)
      ∧ r.2.mem ((c.tc : Thread Cert.Mixin.nD Cert.Mixin.τ).loc Cert.Mixin.main_arg2) = m ((c.tc : Thread Cert.Mixin.nD Cert.Mixin.τ).loc Cert.Mixin.main_arg2)
      ∧ r.2.mem ((c.tc : Thread Cert.Mixin.nD Cert.Mixin.τ).loc Cert.Mixin.main_arg3) = m ((c.tc : Thread Cert.Mixin.nD Cert.Mixin.τ).loc Cert.Mixin.main_arg3)
      ∧ r.2.mem ((c.tc : Thread Cert.Mixin.nD Cert.Mixin.τ).loc Cert.Mixin.main_arg4) = m ((c.tc : Thread Cert.Mixin.nD Cert.Mixin.τ).loc Cert.Mixin.main_arg4)
      ∧ r.2.mem ((c.tc : Thread Cert.Mixin.nD Cert.Mixin.τ).loc Cert.Mixin.main_arg5) = m ((c.tc : Thread Cert.Mixin.nD Cert.Mixin.τ).loc Cert.Mixin.main_arg5)
      ∧ r.2.mem ((c.tc : Thread Cert.Mixin.nD Cert.Mixin.τ).loc Cert.Mixin.main_arg6) = m ((c.tc : Thread Cert.Mixin.nD Cert.Mixin.τ).loc Cert.Mixin.main_arg6))
      ∧ r.2.sem = fun _ => 0)

def quiescent_MixinIdeal [hMixinIdeal : Cert.MixinIdeal.Facts] : Prop :=
  ∀ (m : (ℓ : Loc Cert.MixinIdeal.nD Cert.MixinIdeal.τ Cert.MixinIdeal.sig) → Buf (Elt Ideal) ℓ) (g : Dev Cert.MixinIdeal.nD → PrngReg), Pre_MixinIdeal m →
    θ_run (Cert.MixinIdeal.defs (F := Ideal)) (onTc (τ := Cert.MixinIdeal.τ) (Cert.MixinIdeal.main (F := Ideal))) ⟨m, fun _ => 0, g⟩ (fun r => (∀ c : Dev Cert.MixinIdeal.nD,
      r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
      ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1)
      ∧ r.2.mem ((c.tc : Thread Cert.MixinIdeal.nD Cert.MixinIdeal.τ).loc Cert.MixinIdeal.main_arg2) = m ((c.tc : Thread Cert.MixinIdeal.nD Cert.MixinIdeal.τ).loc Cert.MixinIdeal.main_arg2)
      ∧ r.2.mem ((c.tc : Thread Cert.MixinIdeal.nD Cert.MixinIdeal.τ).loc Cert.MixinIdeal.main_arg3) = m ((c.tc : Thread Cert.MixinIdeal.nD Cert.MixinIdeal.τ).loc Cert.MixinIdeal.main_arg3)
      ∧ r.2.mem ((c.tc : Thread Cert.MixinIdeal.nD Cert.MixinIdeal.τ).loc Cert.MixinIdeal.main_arg4) = m ((c.tc : Thread Cert.MixinIdeal.nD Cert.MixinIdeal.τ).loc Cert.MixinIdeal.main_arg4)
      ∧ r.2.mem ((c.tc : Thread Cert.MixinIdeal.nD Cert.MixinIdeal.τ).loc Cert.MixinIdeal.main_arg5) = m ((c.tc : Thread Cert.MixinIdeal.nD Cert.MixinIdeal.τ).loc Cert.MixinIdeal.main_arg5)
      ∧ r.2.mem ((c.tc : Thread Cert.MixinIdeal.nD Cert.MixinIdeal.τ).loc Cert.MixinIdeal.main_arg6) = m ((c.tc : Thread Cert.MixinIdeal.nD Cert.MixinIdeal.τ).loc Cert.MixinIdeal.main_arg6))
      ∧ r.2.sem = fun _ => 0)

def quiescent_MixinIdeal_pre_finite_mixin [hMixinIdeal : Cert.MixinIdeal.Facts] [hPre_finite_mixin : Cert.Pre_finite_mixin.Facts] : Prop :=
  ∀ (m : (ℓ : Loc Cert.MixinIdeal.nD Cert.MixinIdeal.τ Cert.MixinIdeal.sig) → Buf (Elt Ideal) ℓ) (g : Dev Cert.MixinIdeal.nD → PrngReg), Pre_MixinIdeal_finite_mixin m →
    θ_run (Cert.MixinIdeal.defs (F := Ideal)) (onTc (τ := Cert.MixinIdeal.τ) (Cert.MixinIdeal.main (F := Ideal))) ⟨m, fun _ => 0, g⟩ (fun r => (∀ c : Dev Cert.MixinIdeal.nD,
      r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
      ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1)
      ∧ r.2.mem ((c.tc : Thread Cert.MixinIdeal.nD Cert.MixinIdeal.τ).loc Cert.MixinIdeal.main_arg2) = m ((c.tc : Thread Cert.MixinIdeal.nD Cert.MixinIdeal.τ).loc Cert.MixinIdeal.main_arg2)
      ∧ r.2.mem ((c.tc : Thread Cert.MixinIdeal.nD Cert.MixinIdeal.τ).loc Cert.MixinIdeal.main_arg3) = m ((c.tc : Thread Cert.MixinIdeal.nD Cert.MixinIdeal.τ).loc Cert.MixinIdeal.main_arg3)
      ∧ r.2.mem ((c.tc : Thread Cert.MixinIdeal.nD Cert.MixinIdeal.τ).loc Cert.MixinIdeal.main_arg4) = m ((c.tc : Thread Cert.MixinIdeal.nD Cert.MixinIdeal.τ).loc Cert.MixinIdeal.main_arg4)
      ∧ r.2.mem ((c.tc : Thread Cert.MixinIdeal.nD Cert.MixinIdeal.τ).loc Cert.MixinIdeal.main_arg5) = m ((c.tc : Thread Cert.MixinIdeal.nD Cert.MixinIdeal.τ).loc Cert.MixinIdeal.main_arg5)
      ∧ r.2.mem ((c.tc : Thread Cert.MixinIdeal.nD Cert.MixinIdeal.τ).loc Cert.MixinIdeal.main_arg6) = m ((c.tc : Thread Cert.MixinIdeal.nD Cert.MixinIdeal.τ).loc Cert.MixinIdeal.main_arg6))
      ∧ r.2.sem = fun _ => 0)

def quiescent_MixinRefIdeal [hMixinRefIdeal : Cert.MixinRefIdeal.Facts] : Prop :=
  ∀ (m : (ℓ : Loc Cert.MixinRefIdeal.nD Cert.MixinRefIdeal.τ Cert.MixinRefIdeal.sig) → Buf (Elt Ideal) ℓ) (g : Dev Cert.MixinRefIdeal.nD → PrngReg), Pre_MixinRefIdeal m →
    θ_run (Cert.MixinRefIdeal.defs (F := Ideal)) (onTc (τ := Cert.MixinRefIdeal.τ) (Cert.MixinRefIdeal.main (F := Ideal))) ⟨m, fun _ => 0, g⟩ (fun r => (∀ c : Dev Cert.MixinRefIdeal.nD,
      r.2.mem ((c.tc : Thread Cert.MixinRefIdeal.nD Cert.MixinRefIdeal.τ).loc Cert.MixinRefIdeal.main_arg0) = m ((c.tc : Thread Cert.MixinRefIdeal.nD Cert.MixinRefIdeal.τ).loc Cert.MixinRefIdeal.main_arg0)
      ∧ r.2.mem ((c.tc : Thread Cert.MixinRefIdeal.nD Cert.MixinRefIdeal.τ).loc Cert.MixinRefIdeal.main_arg1) = m ((c.tc : Thread Cert.MixinRefIdeal.nD Cert.MixinRefIdeal.τ).loc Cert.MixinRefIdeal.main_arg1)
      ∧ r.2.mem ((c.tc : Thread Cert.MixinRefIdeal.nD Cert.MixinRefIdeal.τ).loc Cert.MixinRefIdeal.main_arg2) = m ((c.tc : Thread Cert.MixinRefIdeal.nD Cert.MixinRefIdeal.τ).loc Cert.MixinRefIdeal.main_arg2)
      ∧ r.2.mem ((c.tc : Thread Cert.MixinRefIdeal.nD Cert.MixinRefIdeal.τ).loc Cert.MixinRefIdeal.main_arg3) = m ((c.tc : Thread Cert.MixinRefIdeal.nD Cert.MixinRefIdeal.τ).loc Cert.MixinRefIdeal.main_arg3)
      ∧ r.2.mem ((c.tc : Thread Cert.MixinRefIdeal.nD Cert.MixinRefIdeal.τ).loc Cert.MixinRefIdeal.main_arg4) = m ((c.tc : Thread Cert.MixinRefIdeal.nD Cert.MixinRefIdeal.τ).loc Cert.MixinRefIdeal.main_arg4)
      ∧ r.2.mem ((c.tc : Thread Cert.MixinRefIdeal.nD Cert.MixinRefIdeal.τ).loc Cert.MixinRefIdeal.main_arg5) = m ((c.tc : Thread Cert.MixinRefIdeal.nD Cert.MixinRefIdeal.τ).loc Cert.MixinRefIdeal.main_arg5)
      ∧ r.2.mem ((c.tc : Thread Cert.MixinRefIdeal.nD Cert.MixinRefIdeal.τ).loc Cert.MixinRefIdeal.main_arg6) = m ((c.tc : Thread Cert.MixinRefIdeal.nD Cert.MixinRefIdeal.τ).loc Cert.MixinRefIdeal.main_arg6))
      ∧ r.2.sem = fun _ => 0)

def quiescent_MixinRefIdeal_pre_finite_mixin [hMixinRefIdeal : Cert.MixinRefIdeal.Facts] [hPre_finite_mixin : Cert.Pre_finite_mixin.Facts] : Prop :=
  ∀ (m : (ℓ : Loc Cert.MixinRefIdeal.nD Cert.MixinRefIdeal.τ Cert.MixinRefIdeal.sig) → Buf (Elt Ideal) ℓ) (g : Dev Cert.MixinRefIdeal.nD → PrngReg), Pre_MixinRefIdeal_finite_mixin m →
    θ_run (Cert.MixinRefIdeal.defs (F := Ideal)) (onTc (τ := Cert.MixinRefIdeal.τ) (Cert.MixinRefIdeal.main (F := Ideal))) ⟨m, fun _ => 0, g⟩ (fun r => (∀ c : Dev Cert.MixinRefIdeal.nD,
      r.2.mem ((c.tc : Thread Cert.MixinRefIdeal.nD Cert.MixinRefIdeal.τ).loc Cert.MixinRefIdeal.main_arg0) = m ((c.tc : Thread Cert.MixinRefIdeal.nD Cert.MixinRefIdeal.τ).loc Cert.MixinRefIdeal.main_arg0)
      ∧ r.2.mem ((c.tc : Thread Cert.MixinRefIdeal.nD Cert.MixinRefIdeal.τ).loc Cert.MixinRefIdeal.main_arg1) = m ((c.tc : Thread Cert.MixinRefIdeal.nD Cert.MixinRefIdeal.τ).loc Cert.MixinRefIdeal.main_arg1)
      ∧ r.2.mem ((c.tc : Thread Cert.MixinRefIdeal.nD Cert.MixinRefIdeal.τ).loc Cert.MixinRefIdeal.main_arg2) = m ((c.tc : Thread Cert.MixinRefIdeal.nD Cert.MixinRefIdeal.τ).loc Cert.MixinRefIdeal.main_arg2)
      ∧ r.2.mem ((c.tc : Thread Cert.MixinRefIdeal.nD Cert.MixinRefIdeal.τ).loc Cert.MixinRefIdeal.main_arg3) = m ((c.tc : Thread Cert.MixinRefIdeal.nD Cert.MixinRefIdeal.τ).loc Cert.MixinRefIdeal.main_arg3)
      ∧ r.2.mem ((c.tc : Thread Cert.MixinRefIdeal.nD Cert.MixinRefIdeal.τ).loc Cert.MixinRefIdeal.main_arg4) = m ((c.tc : Thread Cert.MixinRefIdeal.nD Cert.MixinRefIdeal.τ).loc Cert.MixinRefIdeal.main_arg4)
      ∧ r.2.mem ((c.tc : Thread Cert.MixinRefIdeal.nD Cert.MixinRefIdeal.τ).loc Cert.MixinRefIdeal.main_arg5) = m ((c.tc : Thread Cert.MixinRefIdeal.nD Cert.MixinRefIdeal.τ).loc Cert.MixinRefIdeal.main_arg5)
      ∧ r.2.mem ((c.tc : Thread Cert.MixinRefIdeal.nD Cert.MixinRefIdeal.τ).loc Cert.MixinRefIdeal.main_arg6) = m ((c.tc : Thread Cert.MixinRefIdeal.nD Cert.MixinRefIdeal.τ).loc Cert.MixinRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6)
      ∧ r.2.mem ((c.tc : Thread Cert.Gates.nD Cert.Gates.τ).loc Cert.Gates.main_arg7) = m ((c.tc : Thread Cert.Gates.nD Cert.Gates.τ).loc Cert.Gates.main_arg7))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0)
      ∧ r.2.mem ((c.tc : Thread Cert.Split.nD Cert.Split.τ).loc Cert.Split.main_arg1) = m ((c.tc : Thread Cert.Split.nD Cert.Split.τ).loc Cert.Split.main_arg1)
      ∧ r.2.mem ((c.tc : Thread Cert.Split.nD Cert.Split.τ).loc Cert.Split.main_arg2) = m ((c.tc : Thread Cert.Split.nD Cert.Split.τ).loc Cert.Split.main_arg2))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
      ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2))
      ∧ r.2.sem = fun _ => 0)

def quiescent_SplitRefIdeal [hSplitRefIdeal : Cert.SplitRefIdeal.Facts] : Prop :=
  ∀ (m : (ℓ : Loc Cert.SplitRefIdeal.nD Cert.SplitRefIdeal.τ Cert.SplitRefIdeal.sig) → Buf (Elt Ideal) ℓ) (g : Dev Cert.SplitRefIdeal.nD → PrngReg), Pre_SplitRefIdeal m →
    θ_run (Cert.SplitRefIdeal.defs (F := Ideal)) (onTc (τ := Cert.SplitRefIdeal.τ) (Cert.SplitRefIdeal.main (F := Ideal))) ⟨m, fun _ => 0, g⟩ (fun r => (∀ c : Dev Cert.SplitRefIdeal.nD,
      r.2.mem ((c.tc : Thread Cert.SplitRefIdeal.nD Cert.SplitRefIdeal.τ).loc Cert.SplitRefIdeal.main_arg0) = m ((c.tc : Thread Cert.SplitRefIdeal.nD Cert.SplitRefIdeal.τ).loc Cert.SplitRefIdeal.main_arg0)
      ∧ r.2.mem ((c.tc : Thread Cert.SplitRefIdeal.nD Cert.SplitRefIdeal.τ).loc Cert.SplitRefIdeal.main_arg1) = m ((c.tc : Thread Cert.SplitRefIdeal.nD Cert.SplitRefIdeal.τ).loc Cert.SplitRefIdeal.main_arg1)
      ∧ r.2.mem ((c.tc : Thread Cert.SplitRefIdeal.nD Cert.SplitRefIdeal.τ).loc Cert.SplitRefIdeal.main_arg2) = m ((c.tc : Thread Cert.SplitRefIdeal.nD Cert.SplitRefIdeal.τ).loc Cert.SplitRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Rconv [hRconv : Cert.Rconv.Facts] : Prop :=
  ∀ (m : (ℓ : Loc Cert.Rconv.nD Cert.Rconv.τ Cert.Rconv.sig) → Buf (Elt Bits) ℓ) (g : Dev Cert.Rconv.nD → PrngReg), Pre_Rconv m →
    θ_run (Cert.Rconv.defs (F := Bits)) (onTc (τ := Cert.Rconv.τ) (Cert.Rconv.main (F := Bits))) ⟨m, fun _ => 0, g⟩ (fun r => (∀ c : Dev Cert.Rconv.nD,
      r.2.mem ((c.tc : Thread Cert.Rconv.nD Cert.Rconv.τ).loc Cert.Rconv.main_arg0) = m ((c.tc : Thread Cert.Rconv.nD Cert.Rconv.τ).loc Cert.Rconv.main_arg0)
      ∧ r.2.mem ((c.tc : Thread Cert.Rconv.nD Cert.Rconv.τ).loc Cert.Rconv.main_arg1) = m ((c.tc : Thread Cert.Rconv.nD Cert.Rconv.τ).loc Cert.Rconv.main_arg1)
      ∧ r.2.mem ((c.tc : Thread Cert.Rconv.nD Cert.Rconv.τ).loc Cert.Rconv.main_arg2) = m ((c.tc : Thread Cert.Rconv.nD Cert.Rconv.τ).loc Cert.Rconv.main_arg2))
      ∧ r.2.sem = fun _ => 0)

def quiescent_RconvIdeal [hRconvIdeal : Cert.RconvIdeal.Facts] : Prop :=
  ∀ (m : (ℓ : Loc Cert.RconvIdeal.nD Cert.RconvIdeal.τ Cert.RconvIdeal.sig) → Buf (Elt Ideal) ℓ) (g : Dev Cert.RconvIdeal.nD → PrngReg), Pre_RconvIdeal m →
    θ_run (Cert.RconvIdeal.defs (F := Ideal)) (onTc (τ := Cert.RconvIdeal.τ) (Cert.RconvIdeal.main (F := Ideal))) ⟨m, fun _ => 0, g⟩ (fun r => (∀ c : Dev Cert.RconvIdeal.nD,
      r.2.mem ((c.tc : Thread Cert.RconvIdeal.nD Cert.RconvIdeal.τ).loc Cert.RconvIdeal.main_arg0) = m ((c.tc : Thread Cert.RconvIdeal.nD Cert.RconvIdeal.τ).loc Cert.RconvIdeal.main_arg0)
      ∧ r.2.mem ((c.tc : Thread Cert.RconvIdeal.nD Cert.RconvIdeal.τ).loc Cert.RconvIdeal.main_arg1) = m ((c.tc : Thread Cert.RconvIdeal.nD Cert.RconvIdeal.τ).loc Cert.RconvIdeal.main_arg1)
      ∧ r.2.mem ((c.tc : Thread Cert.RconvIdeal.nD Cert.RconvIdeal.τ).loc Cert.RconvIdeal.main_arg2) = m ((c.tc : Thread Cert.RconvIdeal.nD Cert.RconvIdeal.τ).loc Cert.RconvIdeal.main_arg2))
      ∧ r.2.sem = fun _ => 0)

def quiescent_RconvRefIdeal [hRconvRefIdeal : Cert.RconvRefIdeal.Facts] : Prop :=
  ∀ (m : (ℓ : Loc Cert.RconvRefIdeal.nD Cert.RconvRefIdeal.τ Cert.RconvRefIdeal.sig) → Buf (Elt Ideal) ℓ) (g : Dev Cert.RconvRefIdeal.nD → PrngReg), Pre_RconvRefIdeal m →
    θ_run (Cert.RconvRefIdeal.defs (F := Ideal)) (onTc (τ := Cert.RconvRefIdeal.τ) (Cert.RconvRefIdeal.main (F := Ideal))) ⟨m, fun _ => 0, g⟩ (fun r => (∀ c : Dev Cert.RconvRefIdeal.nD,
      r.2.mem ((c.tc : Thread Cert.RconvRefIdeal.nD Cert.RconvRefIdeal.τ).loc Cert.RconvRefIdeal.main_arg0) = m ((c.tc : Thread Cert.RconvRefIdeal.nD Cert.RconvRefIdeal.τ).loc Cert.RconvRefIdeal.main_arg0)
      ∧ r.2.mem ((c.tc : Thread Cert.RconvRefIdeal.nD Cert.RconvRefIdeal.τ).loc Cert.RconvRefIdeal.main_arg1) = m ((c.tc : Thread Cert.RconvRefIdeal.nD Cert.RconvRefIdeal.τ).loc Cert.RconvRefIdeal.main_arg1)
      ∧ r.2.mem ((c.tc : Thread Cert.RconvRefIdeal.nD Cert.RconvRefIdeal.τ).loc Cert.RconvRefIdeal.main_arg2) = m ((c.tc : Thread Cert.RconvRefIdeal.nD Cert.RconvRefIdeal.τ).loc Cert.RconvRefIdeal.main_arg2))
      ∧ r.2.sem = fun _ => 0)

def quiescent_Rgates [hRgates : Cert.Rgates.Facts] : Prop :=
  ∀ (m : (ℓ : Loc Cert.Rgates.nD Cert.Rgates.τ Cert.Rgates.sig) → Buf (Elt Bits) ℓ) (g : Dev Cert.Rgates.nD → PrngReg), Pre_Rgates m →
    θ_run (Cert.Rgates.defs (F := Bits)) (onTc (τ := Cert.Rgates.τ) (Cert.Rgates.main (F := Bits))) ⟨m, fun _ => 0, g⟩ (fun r => (∀ c : Dev Cert.Rgates.nD,
      r.2.mem ((c.tc : Thread Cert.Rgates.nD Cert.Rgates.τ).loc Cert.Rgates.main_arg0) = m ((c.tc : Thread Cert.Rgates.nD Cert.Rgates.τ).loc Cert.Rgates.main_arg0)
      ∧ r.2.mem ((c.tc : Thread Cert.Rgates.nD Cert.Rgates.τ).loc Cert.Rgates.main_arg1) = m ((c.tc : Thread Cert.Rgates.nD Cert.Rgates.τ).loc Cert.Rgates.main_arg1)
      ∧ r.2.mem ((c.tc : Thread Cert.Rgates.nD Cert.Rgates.τ).loc Cert.Rgates.main_arg2) = m ((c.tc : Thread Cert.Rgates.nD Cert.Rgates.τ).loc Cert.Rgates.main_arg2)
      ∧ r.2.mem ((c.tc : Thread Cert.Rgates.nD Cert.Rgates.τ).loc Cert.Rgates.main_arg3) = m ((c.tc : Thread Cert.Rgates.nD Cert.Rgates.τ).loc Cert.Rgates.main_arg3)
      ∧ r.2.mem ((c.tc : Thread Cert.Rgates.nD Cert.Rgates.τ).loc Cert.Rgates.main_arg4) = m ((c.tc : Thread Cert.Rgates.nD Cert.Rgates.τ).loc Cert.Rgates.main_arg4)
      ∧ r.2.mem ((c.tc : Thread Cert.Rgates.nD Cert.Rgates.τ).loc Cert.Rgates.main_arg5) = m ((c.tc : Thread Cert.Rgates.nD Cert.Rgates.τ).loc Cert.Rgates.main_arg5))
      ∧ r.2.sem = fun _ => 0)

def quiescent_RgatesIdeal [hRgatesIdeal : Cert.RgatesIdeal.Facts] : Prop :=
  ∀ (m : (ℓ : Loc Cert.RgatesIdeal.nD Cert.RgatesIdeal.τ Cert.RgatesIdeal.sig) → Buf (Elt Ideal) ℓ) (g : Dev Cert.RgatesIdeal.nD → PrngReg), Pre_RgatesIdeal m →
    θ_run (Cert.RgatesIdeal.defs (F := Ideal)) (onTc (τ := Cert.RgatesIdeal.τ) (Cert.RgatesIdeal.main (F := Ideal))) ⟨m, fun _ => 0, g⟩ (fun r => (∀ c : Dev Cert.RgatesIdeal.nD,
      r.2.mem ((c.tc : Thread Cert.RgatesIdeal.nD Cert.RgatesIdeal.τ).loc Cert.RgatesIdeal.main_arg0) = m ((c.tc : Thread Cert.RgatesIdeal.nD Cert.RgatesIdeal.τ).loc Cert.RgatesIdeal.main_arg0)
      ∧ r.2.mem ((c.tc : Thread Cert.RgatesIdeal.nD Cert.RgatesIdeal.τ).loc Cert.RgatesIdeal.main_arg1) = m ((c.tc : Thread Cert.RgatesIdeal.nD Cert.RgatesIdeal.τ).loc Cert.RgatesIdeal.main_arg1)
      ∧ r.2.mem ((c.tc : Thread Cert.RgatesIdeal.nD Cert.RgatesIdeal.τ).loc Cert.RgatesIdeal.main_arg2) = m ((c.tc : Thread Cert.RgatesIdeal.nD Cert.RgatesIdeal.τ).loc Cert.RgatesIdeal.main_arg2)
      ∧ r.2.mem ((c.tc : Thread Cert.RgatesIdeal.nD Cert.RgatesIdeal.τ).loc Cert.RgatesIdeal.main_arg3) = m ((c.tc : Thread Cert.RgatesIdeal.nD Cert.RgatesIdeal.τ).loc Cert.RgatesIdeal.main_arg3)
      ∧ r.2.mem ((c.tc : Thread Cert.RgatesIdeal.nD Cert.RgatesIdeal.τ).loc Cert.RgatesIdeal.main_arg4) = m ((c.tc : Thread Cert.RgatesIdeal.nD Cert.RgatesIdeal.τ).loc Cert.RgatesIdeal.main_arg4)
      ∧ r.2.mem ((c.tc : Thread Cert.RgatesIdeal.nD Cert.RgatesIdeal.τ).loc Cert.RgatesIdeal.main_arg5) = m ((c.tc : Thread Cert.RgatesIdeal.nD Cert.RgatesIdeal.τ).loc Cert.RgatesIdeal.main_arg5))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Recur [hRecur : Cert.Recur.Facts] : Prop :=
  ∀ (m : (ℓ : Loc Cert.Recur.nD Cert.Recur.τ Cert.Recur.sig) → Buf (Elt Bits) ℓ) (g : Dev Cert.Recur.nD → PrngReg), Pre_Recur m →
    θ_run (Cert.Recur.defs (F := Bits)) (onTc (τ := Cert.Recur.τ) (Cert.Recur.main (F := Bits))) ⟨m, fun _ => 0, g⟩ (fun r => (∀ c : Dev Cert.Recur.nD,
      r.2.mem ((c.tc : Thread Cert.Recur.nD Cert.Recur.τ).loc Cert.Recur.main_arg0) = m ((c.tc : Thread Cert.Recur.nD Cert.Recur.τ).loc Cert.Recur.main_arg0)
      ∧ r.2.mem ((c.tc : Thread Cert.Recur.nD Cert.Recur.τ).loc Cert.Recur.main_arg1) = m ((c.tc : Thread Cert.Recur.nD Cert.Recur.τ).loc Cert.Recur.main_arg1)
      ∧ r.2.mem ((c.tc : Thread Cert.Recur.nD Cert.Recur.τ).loc Cert.Recur.main_arg2) = m ((c.tc : Thread Cert.Recur.nD Cert.Recur.τ).loc Cert.Recur.main_arg2))
      ∧ r.2.sem = fun _ => 0)

def quiescent_RecurIdeal [hRecurIdeal : Cert.RecurIdeal.Facts] : Prop :=
  ∀ (m : (ℓ : Loc Cert.RecurIdeal.nD Cert.RecurIdeal.τ Cert.RecurIdeal.sig) → Buf (Elt Ideal) ℓ) (g : Dev Cert.RecurIdeal.nD → PrngReg), Pre_RecurIdeal m →
    θ_run (Cert.RecurIdeal.defs (F := Ideal)) (onTc (τ := Cert.RecurIdeal.τ) (Cert.RecurIdeal.main (F := Ideal))) ⟨m, fun _ => 0, g⟩ (fun r => (∀ c : Dev Cert.RecurIdeal.nD,
      r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
      ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
      ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2))
      ∧ r.2.sem = fun _ => 0)

def quiescent_RecurIdeal_pre_finite_recur [hRecurIdeal : Cert.RecurIdeal.Facts] [hPre_finite_recur : Cert.Pre_finite_recur.Facts] : Prop :=
  ∀ (m : (ℓ : Loc Cert.RecurIdeal.nD Cert.RecurIdeal.τ Cert.RecurIdeal.sig) → Buf (Elt Ideal) ℓ) (g : Dev Cert.RecurIdeal.nD → PrngReg), Pre_RecurIdeal_finite_recur m →
    θ_run (Cert.RecurIdeal.defs (F := Ideal)) (onTc (τ := Cert.RecurIdeal.τ) (Cert.RecurIdeal.main (F := Ideal))) ⟨m, fun _ => 0, g⟩ (fun r => (∀ c : Dev Cert.RecurIdeal.nD,
      r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
      ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
      ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2))
      ∧ r.2.sem = fun _ => 0)

def quiescent_RecurRefIdeal [hRecurRefIdeal : Cert.RecurRefIdeal.Facts] : Prop :=
  ∀ (m : (ℓ : Loc Cert.RecurRefIdeal.nD Cert.RecurRefIdeal.τ Cert.RecurRefIdeal.sig) → Buf (Elt Ideal) ℓ) (g : Dev Cert.RecurRefIdeal.nD → PrngReg), Pre_RecurRefIdeal m →
    θ_run (Cert.RecurRefIdeal.defs (F := Ideal)) (onTc (τ := Cert.RecurRefIdeal.τ) (Cert.RecurRefIdeal.main (F := Ideal))) ⟨m, fun _ => 0, g⟩ (fun r => (∀ c : Dev Cert.RecurRefIdeal.nD,
      r.2.mem ((c.tc : Thread Cert.RecurRefIdeal.nD Cert.RecurRefIdeal.τ).loc Cert.RecurRefIdeal.main_arg0) = m ((c.tc : Thread Cert.RecurRefIdeal.nD Cert.RecurRefIdeal.τ).loc Cert.RecurRefIdeal.main_arg0)
      ∧ r.2.mem ((c.tc : Thread Cert.RecurRefIdeal.nD Cert.RecurRefIdeal.τ).loc Cert.RecurRefIdeal.main_arg1) = m ((c.tc : Thread Cert.RecurRefIdeal.nD Cert.RecurRefIdeal.τ).loc Cert.RecurRefIdeal.main_arg1)
      ∧ r.2.mem ((c.tc : Thread Cert.RecurRefIdeal.nD Cert.RecurRefIdeal.τ).loc Cert.RecurRefIdeal.main_arg2) = m ((c.tc : Thread Cert.RecurRefIdeal.nD Cert.RecurRefIdeal.τ).loc Cert.RecurRefIdeal.main_arg2))
      ∧ r.2.sem = fun _ => 0)

def quiescent_RecurRefIdeal_pre_finite_recur [hRecurRefIdeal : Cert.RecurRefIdeal.Facts] [hPre_finite_recur : Cert.Pre_finite_recur.Facts] : Prop :=
  ∀ (m : (ℓ : Loc Cert.RecurRefIdeal.nD Cert.RecurRefIdeal.τ Cert.RecurRefIdeal.sig) → Buf (Elt Ideal) ℓ) (g : Dev Cert.RecurRefIdeal.nD → PrngReg), Pre_RecurRefIdeal_finite_recur m →
    θ_run (Cert.RecurRefIdeal.defs (F := Ideal)) (onTc (τ := Cert.RecurRefIdeal.τ) (Cert.RecurRefIdeal.main (F := Ideal))) ⟨m, fun _ => 0, g⟩ (fun r => (∀ c : Dev Cert.RecurRefIdeal.nD,
      r.2.mem ((c.tc : Thread Cert.RecurRefIdeal.nD Cert.RecurRefIdeal.τ).loc Cert.RecurRefIdeal.main_arg0) = m ((c.tc : Thread Cert.RecurRefIdeal.nD Cert.RecurRefIdeal.τ).loc Cert.RecurRefIdeal.main_arg0)
      ∧ r.2.mem ((c.tc : Thread Cert.RecurRefIdeal.nD Cert.RecurRefIdeal.τ).loc Cert.RecurRefIdeal.main_arg1) = m ((c.tc : Thread Cert.RecurRefIdeal.nD Cert.RecurRefIdeal.τ).loc Cert.RecurRefIdeal.main_arg1)
      ∧ r.2.mem ((c.tc : Thread Cert.RecurRefIdeal.nD Cert.RecurRefIdeal.τ).loc Cert.RecurRefIdeal.main_arg2) = m ((c.tc : Thread Cert.RecurRefIdeal.nD Cert.RecurRefIdeal.τ).loc Cert.RecurRefIdeal.main_arg2))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2))
      ∧ r.2.sem = fun _ => 0)

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v15) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Scan_ScanIdeal : Prop :=
  True

def algebraic_ScanIdeal_ScanRefIdeal_pre_finite_scan [hScanIdeal : Cert.ScanIdeal.Facts] [hScanRefIdeal : Cert.ScanRefIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_finite_scan m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)) →
    ∃ (v0 : (c : Dev Cert.ScanIdeal.nD) → Buf (Elt Ideal) ((c.tc : Thread Cert.ScanIdeal.nD Cert.ScanIdeal.τ).loc Cert.ScanIdeal.main_v0)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v3_4) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2))

def preserves_Conv4_Conv4Ideal : Prop :=
  True

def algebraic_Conv4Ideal_Conv4RefIdeal [hConv4Ideal : Cert.Conv4Ideal.Facts] [hConv4RefIdeal : Cert.Conv4RefIdeal.Facts] : Prop :=
  ∀ (m : (ℓ : Loc Cert.Conv4Ideal.nD Cert.Conv4Ideal.τ Cert.Conv4Ideal.sig) → Buf (Elt Ideal) ℓ) (g : Dev Cert.Conv4Ideal.nD → PrngReg)
    (m' : (ℓ : Loc Cert.Conv4RefIdeal.nD Cert.Conv4RefIdeal.τ Cert.Conv4RefIdeal.sig) → Buf (Elt Ideal) ℓ) (g' : Dev Cert.Conv4RefIdeal.nD → PrngReg), Pre_Conv4Ideal m →
    (∀ c : Dev Cert.Conv4Ideal.nD,
      m' ((c.tc : Thread Cert.Conv4RefIdeal.nD Cert.Conv4RefIdeal.τ).loc Cert.Conv4RefIdeal.main_arg0) = m ((c.tc : Thread Cert.Conv4Ideal.nD Cert.Conv4Ideal.τ).loc Cert.Conv4Ideal.main_arg0)
      ∧ m' ((c.tc : Thread Cert.Conv4RefIdeal.nD Cert.Conv4RefIdeal.τ).loc Cert.Conv4RefIdeal.main_arg1) = m ((c.tc : Thread Cert.Conv4Ideal.nD Cert.Conv4Ideal.τ).loc Cert.Conv4Ideal.main_arg1)
      ∧ m' ((c.tc : Thread Cert.Conv4RefIdeal.nD Cert.Conv4RefIdeal.τ).loc Cert.Conv4RefIdeal.main_arg2) = m ((c.tc : Thread Cert.Conv4Ideal.nD Cert.Conv4Ideal.τ).loc Cert.Conv4Ideal.main_arg2)
      ∧ m' ((c.tc : Thread Cert.Conv4RefIdeal.nD Cert.Conv4RefIdeal.τ).loc Cert.Conv4RefIdeal.main_arg3) = m ((c.tc : Thread Cert.Conv4Ideal.nD Cert.Conv4Ideal.τ).loc Cert.Conv4Ideal.main_arg3)) →
    ∃ (v0 : (c : Dev Cert.Conv4Ideal.nD) → Buf (Elt Ideal) ((c.tc : Thread Cert.Conv4Ideal.nD Cert.Conv4Ideal.τ).loc Cert.Conv4Ideal.main_v0_0)) (v1 : (c : Dev Cert.Conv4Ideal.nD) → Buf (Elt Ideal) ((c.tc : Thread Cert.Conv4Ideal.nD Cert.Conv4Ideal.τ).loc Cert.Conv4Ideal.main_v0_1)) (v2 : (c : Dev Cert.Conv4Ideal.nD) → Buf (Elt Ideal) ((c.tc : Thread Cert.Conv4Ideal.nD Cert.Conv4Ideal.τ).loc Cert.Conv4Ideal.main_v0_2)),
      θ_run (Cert.Conv4Ideal.defs (F := Ideal)) (onTc (τ := Cert.Conv4Ideal.τ) (Cert.Conv4Ideal.main (F := Ideal))) ⟨m, fun _ => 0, g⟩ (fun r => ∀ c : Dev Cert.Conv4Ideal.nD,
          r.2.mem ((c.tc : Thread Cert.Conv4Ideal.nD Cert.Conv4Ideal.τ).loc Cert.Conv4Ideal.main_v0_0) = v0 c
          ∧ r.2.mem ((c.tc : Thread Cert.Conv4Ideal.nD Cert.Conv4Ideal.τ).loc Cert.Conv4Ideal.main_v0_1) = v1 c
          ∧ r.2.mem ((c.tc : Thread Cert.Conv4Ideal.nD Cert.Conv4Ideal.τ).loc Cert.Conv4Ideal.main_v0_2) = v2 c
          ∧ r.2.mem ((c.tc : Thread Cert.Conv4Ideal.nD Cert.Conv4Ideal.τ).loc Cert.Conv4Ideal.main_arg0) = m ((c.tc : Thread Cert.Conv4Ideal.nD Cert.Conv4Ideal.τ).loc Cert.Conv4Ideal.main_arg0)
          ∧ r.2.mem ((c.tc : Thread Cert.Conv4Ideal.nD Cert.Conv4Ideal.τ).loc Cert.Conv4Ideal.main_arg1) = m ((c.tc : Thread Cert.Conv4Ideal.nD Cert.Conv4Ideal.τ).loc Cert.Conv4Ideal.main_arg1)
          ∧ r.2.mem ((c.tc : Thread Cert.Conv4Ideal.nD Cert.Conv4Ideal.τ).loc Cert.Conv4Ideal.main_arg2) = m ((c.tc : Thread Cert.Conv4Ideal.nD Cert.Conv4Ideal.τ).loc Cert.Conv4Ideal.main_arg2)
          ∧ r.2.mem ((c.tc : Thread Cert.Conv4Ideal.nD Cert.Conv4Ideal.τ).loc Cert.Conv4Ideal.main_arg3) = m ((c.tc : Thread Cert.Conv4Ideal.nD Cert.Conv4Ideal.τ).loc Cert.Conv4Ideal.main_arg3))
      ∧ θ_run (Cert.Conv4RefIdeal.defs (F := Ideal)) (onTc (τ := Cert.Conv4RefIdeal.τ) (Cert.Conv4RefIdeal.main (F := Ideal))) ⟨m', fun _ => 0, g'⟩ (fun r => ∀ c : Dev Cert.Conv4RefIdeal.nD,
          r.2.mem ((c.tc : Thread Cert.Conv4RefIdeal.nD Cert.Conv4RefIdeal.τ).loc Cert.Conv4RefIdeal.main_v83) = v0 c
          ∧ r.2.mem ((c.tc : Thread Cert.Conv4RefIdeal.nD Cert.Conv4RefIdeal.τ).loc Cert.Conv4RefIdeal.main_v85) = v1 c
          ∧ r.2.mem ((c.tc : Thread Cert.Conv4RefIdeal.nD Cert.Conv4RefIdeal.τ).loc Cert.Conv4RefIdeal.main_v86) = v2 c
          ∧ r.2.mem ((c.tc : Thread Cert.Conv4RefIdeal.nD Cert.Conv4RefIdeal.τ).loc Cert.Conv4RefIdeal.main_arg0) = m' ((c.tc : Thread Cert.Conv4RefIdeal.nD Cert.Conv4RefIdeal.τ).loc Cert.Conv4RefIdeal.main_arg0)
          ∧ r.2.mem ((c.tc : Thread Cert.Conv4RefIdeal.nD Cert.Conv4RefIdeal.τ).loc Cert.Conv4RefIdeal.main_arg1) = m' ((c.tc : Thread Cert.Conv4RefIdeal.nD Cert.Conv4RefIdeal.τ).loc Cert.Conv4RefIdeal.main_arg1)
          ∧ r.2.mem ((c.tc : Thread Cert.Conv4RefIdeal.nD Cert.Conv4RefIdeal.τ).loc Cert.Conv4RefIdeal.main_arg2) = m' ((c.tc : Thread Cert.Conv4RefIdeal.nD Cert.Conv4RefIdeal.τ).loc Cert.Conv4RefIdeal.main_arg2)
          ∧ r.2.mem ((c.tc : Thread Cert.Conv4RefIdeal.nD Cert.Conv4RefIdeal.τ).loc Cert.Conv4RefIdeal.main_arg3) = m' ((c.tc : Thread Cert.Conv4RefIdeal.nD Cert.Conv4RefIdeal.τ).loc Cert.Conv4RefIdeal.main_arg3))

def preserves_Conv31_Conv31Ideal : Prop :=
  True

def algebraic_Conv31Ideal_Conv31RefIdeal_pre_finite_conv31 [hConv31Ideal : Cert.Conv31Ideal.Facts] [hConv31RefIdeal : Cert.Conv31RefIdeal.Facts] [hPre_finite_conv31 : Cert.Pre_finite_conv31.Facts] : Prop :=
  ∀ (m : (ℓ : Loc Cert.Conv31Ideal.nD Cert.Conv31Ideal.τ Cert.Conv31Ideal.sig) → Buf (Elt Ideal) ℓ) (g : Dev Cert.Conv31Ideal.nD → PrngReg)
    (m' : (ℓ : Loc Cert.Conv31RefIdeal.nD Cert.Conv31RefIdeal.τ Cert.Conv31RefIdeal.sig) → Buf (Elt Ideal) ℓ) (g' : Dev Cert.Conv31RefIdeal.nD → PrngReg), Pre_Conv31Ideal_finite_conv31 m →
    (∀ c : Dev Cert.Conv31Ideal.nD,
      m' ((c.tc : Thread Cert.Conv31RefIdeal.nD Cert.Conv31RefIdeal.τ).loc Cert.Conv31RefIdeal.main_arg0) = m ((c.tc : Thread Cert.Conv31Ideal.nD Cert.Conv31Ideal.τ).loc Cert.Conv31Ideal.main_arg0)
      ∧ m' ((c.tc : Thread Cert.Conv31RefIdeal.nD Cert.Conv31RefIdeal.τ).loc Cert.Conv31RefIdeal.main_arg1) = m ((c.tc : Thread Cert.Conv31Ideal.nD Cert.Conv31Ideal.τ).loc Cert.Conv31Ideal.main_arg1)
      ∧ m' ((c.tc : Thread Cert.Conv31RefIdeal.nD Cert.Conv31RefIdeal.τ).loc Cert.Conv31RefIdeal.main_arg2) = m ((c.tc : Thread Cert.Conv31Ideal.nD Cert.Conv31Ideal.τ).loc Cert.Conv31Ideal.main_arg2)
      ∧ m' ((c.tc : Thread Cert.Conv31RefIdeal.nD Cert.Conv31RefIdeal.τ).loc Cert.Conv31RefIdeal.main_arg3) = m ((c.tc : Thread Cert.Conv31Ideal.nD Cert.Conv31Ideal.τ).loc Cert.Conv31Ideal.main_arg3)
      ∧ m' ((c.tc : Thread Cert.Conv31RefIdeal.nD Cert.Conv31RefIdeal.τ).loc Cert.Conv31RefIdeal.main_arg4) = m ((c.tc : Thread Cert.Conv31Ideal.nD Cert.Conv31Ideal.τ).loc Cert.Conv31Ideal.main_arg4)
      ∧ m' ((c.tc : Thread Cert.Conv31RefIdeal.nD Cert.Conv31RefIdeal.τ).loc Cert.Conv31RefIdeal.main_arg5) = m ((c.tc : Thread Cert.Conv31Ideal.nD Cert.Conv31Ideal.τ).loc Cert.Conv31Ideal.main_arg5)
      ∧ m' ((c.tc : Thread Cert.Conv31RefIdeal.nD Cert.Conv31RefIdeal.τ).loc Cert.Conv31RefIdeal.main_arg6) = m ((c.tc : Thread Cert.Conv31Ideal.nD Cert.Conv31Ideal.τ).loc Cert.Conv31Ideal.main_arg6)) →
    ∃ (v0 : (c : Dev Cert.Conv31Ideal.nD) → Buf (Elt Ideal) ((c.tc : Thread Cert.Conv31Ideal.nD Cert.Conv31Ideal.τ).loc Cert.Conv31Ideal.main_v10_1)) (v1 : (c : Dev Cert.Conv31Ideal.nD) → Buf (Elt Ideal) ((c.tc : Thread Cert.Conv31Ideal.nD Cert.Conv31Ideal.τ).loc Cert.Conv31Ideal.main_v15_0)) (v2 : (c : Dev Cert.Conv31Ideal.nD) → Buf (Elt Ideal) ((c.tc : Thread Cert.Conv31Ideal.nD Cert.Conv31Ideal.τ).loc Cert.Conv31Ideal.main_v15_1)) (v3 : (c : Dev Cert.Conv31Ideal.nD) → Buf (Elt Ideal) ((c.tc : Thread Cert.Conv31Ideal.nD Cert.Conv31Ideal.τ).loc Cert.Conv31Ideal.main_v15_2)) (v4 : (c : Dev Cert.Conv31Ideal.nD) → Buf (Elt Ideal) ((c.tc : Thread Cert.Conv31Ideal.nD Cert.Conv31Ideal.τ).loc Cert.Conv31Ideal.main_v15_3)) (v5 : (c : Dev Cert.Conv31Ideal.nD) → Buf (Elt Ideal) ((c.tc : Thread Cert.Conv31Ideal.nD Cert.Conv31Ideal.τ).loc Cert.Conv31Ideal.main_v15_4)) (v6 : (c : Dev Cert.Conv31Ideal.nD) → Buf (Elt Ideal) ((c.tc : Thread Cert.Conv31Ideal.nD Cert.Conv31Ideal.τ).loc Cert.Conv31Ideal.main_v15_5)),
      θ_run (Cert.Conv31Ideal.defs (F := Ideal)) (onTc (τ := Cert.Conv31Ideal.τ) (Cert.Conv31Ideal.main (F := Ideal))) ⟨m, fun _ => 0, g⟩ (fun r => ∀ c : Dev Cert.Conv31Ideal.nD,
          r.2.mem ((c.tc : Thread Cert.Conv31Ideal.nD Cert.Conv31Ideal.τ).loc Cert.Conv31Ideal.main_v10_1) = v0 c
          ∧ r.2.mem ((c.tc : Thread Cert.Conv31Ideal.nD Cert.Conv31Ideal.τ).loc Cert.Conv31Ideal.main_v15_0) = v1 c
          ∧ r.2.mem ((c.tc : Thread Cert.Conv31Ideal.nD Cert.Conv31Ideal.τ).loc Cert.Conv31Ideal.main_v15_1) = v2 c
          ∧ r.2.mem ((c.tc : Thread Cert.Conv31Ideal.nD Cert.Conv31Ideal.τ).loc Cert.Conv31Ideal.main_v15_2) = v3 c
          ∧ r.2.mem ((c.tc : Thread Cert.Conv31Ideal.nD Cert.Conv31Ideal.τ).loc Cert.Conv31Ideal.main_v15_3) = v4 c
          ∧ r.2.mem ((c.tc : Thread Cert.Conv31Ideal.nD Cert.Conv31Ideal.τ).loc Cert.Conv31Ideal.main_v15_4) = v5 c
          ∧ r.2.mem ((c.tc : Thread Cert.Conv31Ideal.nD Cert.Conv31Ideal.τ).loc Cert.Conv31Ideal.main_v15_5) = v6 c
          ∧ r.2.mem ((c.tc : Thread Cert.Conv31Ideal.nD Cert.Conv31Ideal.τ).loc Cert.Conv31Ideal.main_arg0) = m ((c.tc : Thread Cert.Conv31Ideal.nD Cert.Conv31Ideal.τ).loc Cert.Conv31Ideal.main_arg0)
          ∧ r.2.mem ((c.tc : Thread Cert.Conv31Ideal.nD Cert.Conv31Ideal.τ).loc Cert.Conv31Ideal.main_arg1) = m ((c.tc : Thread Cert.Conv31Ideal.nD Cert.Conv31Ideal.τ).loc Cert.Conv31Ideal.main_arg1)
          ∧ r.2.mem ((c.tc : Thread Cert.Conv31Ideal.nD Cert.Conv31Ideal.τ).loc Cert.Conv31Ideal.main_arg2) = m ((c.tc : Thread Cert.Conv31Ideal.nD Cert.Conv31Ideal.τ).loc Cert.Conv31Ideal.main_arg2)
          ∧ r.2.mem ((c.tc : Thread Cert.Conv31Ideal.nD Cert.Conv31Ideal.τ).loc Cert.Conv31Ideal.main_arg3) = m ((c.tc : Thread Cert.Conv31Ideal.nD Cert.Conv31Ideal.τ).loc Cert.Conv31Ideal.main_arg3)
          ∧ r.2.mem ((c.tc : Thread Cert.Conv31Ideal.nD Cert.Conv31Ideal.τ).loc Cert.Conv31Ideal.main_arg4) = m ((c.tc : Thread Cert.Conv31Ideal.nD Cert.Conv31Ideal.τ).loc Cert.Conv31Ideal.main_arg4)
          ∧ r.2.mem ((c.tc : Thread Cert.Conv31Ideal.nD Cert.Conv31Ideal.τ).loc Cert.Conv31Ideal.main_arg5) = m ((c.tc : Thread Cert.Conv31Ideal.nD Cert.Conv31Ideal.τ).loc Cert.Conv31Ideal.main_arg5)
          ∧ r.2.mem ((c.tc : Thread Cert.Conv31Ideal.nD Cert.Conv31Ideal.τ).loc Cert.Conv31Ideal.main_arg6) = m ((c.tc : Thread Cert.Conv31Ideal.nD Cert.Conv31Ideal.τ).loc Cert.Conv31Ideal.main_arg6))
      ∧ θ_run (Cert.Conv31RefIdeal.defs (F := Ideal)) (onTc (τ := Cert.Conv31RefIdeal.τ) (Cert.Conv31RefIdeal.main (F := Ideal))) ⟨m', fun _ => 0, g'⟩ (fun r => ∀ c : Dev Cert.Conv31RefIdeal.nD,
          r.2.mem ((c.tc : Thread Cert.Conv31RefIdeal.nD Cert.Conv31RefIdeal.τ).loc Cert.Conv31RefIdeal.main_v105) = v0 c
          ∧ r.2.mem ((c.tc : Thread Cert.Conv31RefIdeal.nD Cert.Conv31RefIdeal.τ).loc Cert.Conv31RefIdeal.main_v106) = v1 c
          ∧ r.2.mem ((c.tc : Thread Cert.Conv31RefIdeal.nD Cert.Conv31RefIdeal.τ).loc Cert.Conv31RefIdeal.main_v107) = v2 c
          ∧ r.2.mem ((c.tc : Thread Cert.Conv31RefIdeal.nD Cert.Conv31RefIdeal.τ).loc Cert.Conv31RefIdeal.main_v109) = v3 c
          ∧ r.2.mem ((c.tc : Thread Cert.Conv31RefIdeal.nD Cert.Conv31RefIdeal.τ).loc Cert.Conv31RefIdeal.main_v110) = v4 c
          ∧ r.2.mem ((c.tc : Thread Cert.Conv31RefIdeal.nD Cert.Conv31RefIdeal.τ).loc Cert.Conv31RefIdeal.main_v111) = v5 c
          ∧ r.2.mem ((c.tc : Thread Cert.Conv31RefIdeal.nD Cert.Conv31RefIdeal.τ).loc Cert.Conv31RefIdeal.main_v112) = v6 c
          ∧ r.2.mem ((c.tc : Thread Cert.Conv31RefIdeal.nD Cert.Conv31RefIdeal.τ).loc Cert.Conv31RefIdeal.main_arg0) = m' ((c.tc : Thread Cert.Conv31RefIdeal.nD Cert.Conv31RefIdeal.τ).loc Cert.Conv31RefIdeal.main_arg0)
          ∧ r.2.mem ((c.tc : Thread Cert.Conv31RefIdeal.nD Cert.Conv31RefIdeal.τ).loc Cert.Conv31RefIdeal.main_arg1) = m' ((c.tc : Thread Cert.Conv31RefIdeal.nD Cert.Conv31RefIdeal.τ).loc Cert.Conv31RefIdeal.main_arg1)
          ∧ r.2.mem ((c.tc : Thread Cert.Conv31RefIdeal.nD Cert.Conv31RefIdeal.τ).loc Cert.Conv31RefIdeal.main_arg2) = m' ((c.tc : Thread Cert.Conv31RefIdeal.nD Cert.Conv31RefIdeal.τ).loc Cert.Conv31RefIdeal.main_arg2)
          ∧ r.2.mem ((c.tc : Thread Cert.Conv31RefIdeal.nD Cert.Conv31RefIdeal.τ).loc Cert.Conv31RefIdeal.main_arg3) = m' ((c.tc : Thread Cert.Conv31RefIdeal.nD Cert.Conv31RefIdeal.τ).loc Cert.Conv31RefIdeal.main_arg3)
          ∧ r.2.mem ((c.tc : Thread Cert.Conv31RefIdeal.nD Cert.Conv31RefIdeal.τ).loc Cert.Conv31RefIdeal.main_arg4) = m' ((c.tc : Thread Cert.Conv31RefIdeal.nD Cert.Conv31RefIdeal.τ).loc Cert.Conv31RefIdeal.main_arg4)
          ∧ r.2.mem ((c.tc : Thread Cert.Conv31RefIdeal.nD Cert.Conv31RefIdeal.τ).loc Cert.Conv31RefIdeal.main_arg5) = m' ((c.tc : Thread Cert.Conv31RefIdeal.nD Cert.Conv31RefIdeal.τ).loc Cert.Conv31RefIdeal.main_arg5)
          ∧ r.2.mem ((c.tc : Thread Cert.Conv31RefIdeal.nD Cert.Conv31RefIdeal.τ).loc Cert.Conv31RefIdeal.main_arg6) = m' ((c.tc : Thread Cert.Conv31RefIdeal.nD Cert.Conv31RefIdeal.τ).loc Cert.Conv31RefIdeal.main_arg6))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v23_0)) (v1 : (c : Dev Cert.LossIdeal.nD) → Buf (Elt Ideal) ((c.tc : Thread Cert.LossIdeal.nD Cert.LossIdeal.τ).loc Cert.LossIdeal.main_v23_1)) (v2 : (c : Dev Cert.LossIdeal.nD) → Buf (Elt Ideal) ((c.tc : Thread Cert.LossIdeal.nD Cert.LossIdeal.τ).loc Cert.LossIdeal.main_v23_2)) (v3 : (c : Dev Cert.LossIdeal.nD) → Buf (Elt Ideal) ((c.tc : Thread Cert.LossIdeal.nD Cert.LossIdeal.τ).loc Cert.LossIdeal.main_v23_3)) (v4 : (c : Dev Cert.LossIdeal.nD) → Buf (Elt Ideal) ((c.tc : Thread Cert.LossIdeal.nD Cert.LossIdeal.τ).loc Cert.LossIdeal.main_v23_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v23_0) = v0 c
          ∧ r.2.mem ((c.tc : Thread Cert.LossIdeal.nD Cert.LossIdeal.τ).loc Cert.LossIdeal.main_v23_1) = v1 c
          ∧ r.2.mem ((c.tc : Thread Cert.LossIdeal.nD Cert.LossIdeal.τ).loc Cert.LossIdeal.main_v23_2) = v2 c
          ∧ r.2.mem ((c.tc : Thread Cert.LossIdeal.nD Cert.LossIdeal.τ).loc Cert.LossIdeal.main_v23_3) = v3 c
          ∧ r.2.mem ((c.tc : Thread Cert.LossIdeal.nD Cert.LossIdeal.τ).loc Cert.LossIdeal.main_v23_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v71) = v0 c
          ∧ r.2.mem ((c.tc : Thread Cert.LossRefIdeal.nD Cert.LossRefIdeal.τ).loc Cert.LossRefIdeal.main_v70) = v1 c
          ∧ r.2.mem ((c.tc : Thread Cert.LossRefIdeal.nD Cert.LossRefIdeal.τ).loc Cert.LossRefIdeal.main_v72) = v2 c
          ∧ r.2.mem ((c.tc : Thread Cert.LossRefIdeal.nD Cert.LossRefIdeal.τ).loc Cert.LossRefIdeal.main_v73) = v3 c
          ∧ r.2.mem ((c.tc : Thread Cert.LossRefIdeal.nD Cert.LossRefIdeal.τ).loc Cert.LossRefIdeal.main_v74) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v4_0)) (v1 : (c : Dev Cert.NormIdeal.nD) → Buf (Elt Ideal) ((c.tc : Thread Cert.NormIdeal.nD Cert.NormIdeal.τ).loc Cert.NormIdeal.main_v4_1)) (v2 : (c : Dev Cert.NormIdeal.nD) → Buf (Elt Ideal) ((c.tc : Thread Cert.NormIdeal.nD Cert.NormIdeal.τ).loc Cert.NormIdeal.main_v4_2)) (v3 : (c : Dev Cert.NormIdeal.nD) → Buf (Elt Ideal) ((c.tc : Thread Cert.NormIdeal.nD Cert.NormIdeal.τ).loc Cert.NormIdeal.main_v4_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4_0) = v0 c
          ∧ r.2.mem ((c.tc : Thread Cert.NormIdeal.nD Cert.NormIdeal.τ).loc Cert.NormIdeal.main_v4_1) = v1 c
          ∧ r.2.mem ((c.tc : Thread Cert.NormIdeal.nD Cert.NormIdeal.τ).loc Cert.NormIdeal.main_v4_2) = v2 c
          ∧ r.2.mem ((c.tc : Thread Cert.NormIdeal.nD Cert.NormIdeal.τ).loc Cert.NormIdeal.main_v4_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v62) = v0 c
          ∧ r.2.mem ((c.tc : Thread Cert.NormRefIdeal.nD Cert.NormRefIdeal.τ).loc Cert.NormRefIdeal.main_v63) = v1 c
          ∧ r.2.mem ((c.tc : Thread Cert.NormRefIdeal.nD Cert.NormRefIdeal.τ).loc Cert.NormRefIdeal.main_v64) = v2 c
          ∧ r.2.mem ((c.tc : Thread Cert.NormRefIdeal.nD Cert.NormRefIdeal.τ).loc Cert.NormRefIdeal.main_v65) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_Mixin_MixinIdeal : Prop :=
  True

def algebraic_MixinIdeal_MixinRefIdeal_pre_finite_mixin [hMixinIdeal : Cert.MixinIdeal.Facts] [hMixinRefIdeal : Cert.MixinRefIdeal.Facts] [hPre_finite_mixin : Cert.Pre_finite_mixin.Facts] : Prop :=
  ∀ (m : (ℓ : Loc Cert.MixinIdeal.nD Cert.MixinIdeal.τ Cert.MixinIdeal.sig) → Buf (Elt Ideal) ℓ) (g : Dev Cert.MixinIdeal.nD → PrngReg)
    (m' : (ℓ : Loc Cert.MixinRefIdeal.nD Cert.MixinRefIdeal.τ Cert.MixinRefIdeal.sig) → Buf (Elt Ideal) ℓ) (g' : Dev Cert.MixinRefIdeal.nD → PrngReg), Pre_MixinIdeal_finite_mixin m →
    (∀ c : Dev Cert.MixinIdeal.nD,
      m' ((c.tc : Thread Cert.MixinRefIdeal.nD Cert.MixinRefIdeal.τ).loc Cert.MixinRefIdeal.main_arg0) = m ((c.tc : Thread Cert.MixinIdeal.nD Cert.MixinIdeal.τ).loc Cert.MixinIdeal.main_arg0)
      ∧ m' ((c.tc : Thread Cert.MixinRefIdeal.nD Cert.MixinRefIdeal.τ).loc Cert.MixinRefIdeal.main_arg1) = m ((c.tc : Thread Cert.MixinIdeal.nD Cert.MixinIdeal.τ).loc Cert.MixinIdeal.main_arg1)
      ∧ m' ((c.tc : Thread Cert.MixinRefIdeal.nD Cert.MixinRefIdeal.τ).loc Cert.MixinRefIdeal.main_arg2) = m ((c.tc : Thread Cert.MixinIdeal.nD Cert.MixinIdeal.τ).loc Cert.MixinIdeal.main_arg2)
      ∧ m' ((c.tc : Thread Cert.MixinRefIdeal.nD Cert.MixinRefIdeal.τ).loc Cert.MixinRefIdeal.main_arg3) = m ((c.tc : Thread Cert.MixinIdeal.nD Cert.MixinIdeal.τ).loc Cert.MixinIdeal.main_arg3)
      ∧ m' ((c.tc : Thread Cert.MixinRefIdeal.nD Cert.MixinRefIdeal.τ).loc Cert.MixinRefIdeal.main_arg4) = m ((c.tc : Thread Cert.MixinIdeal.nD Cert.MixinIdeal.τ).loc Cert.MixinIdeal.main_arg4)
      ∧ m' ((c.tc : Thread Cert.MixinRefIdeal.nD Cert.MixinRefIdeal.τ).loc Cert.MixinRefIdeal.main_arg5) = m ((c.tc : Thread Cert.MixinIdeal.nD Cert.MixinIdeal.τ).loc Cert.MixinIdeal.main_arg5)
      ∧ m' ((c.tc : Thread Cert.MixinRefIdeal.nD Cert.MixinRefIdeal.τ).loc Cert.MixinRefIdeal.main_arg6) = m ((c.tc : Thread Cert.MixinIdeal.nD Cert.MixinIdeal.τ).loc Cert.MixinIdeal.main_arg6)) →
    ∃ (v0 : (c : Dev Cert.MixinIdeal.nD) → Buf (Elt Ideal) ((c.tc : Thread Cert.MixinIdeal.nD Cert.MixinIdeal.τ).loc Cert.MixinIdeal.main_v11_0)) (v1 : (c : Dev Cert.MixinIdeal.nD) → Buf (Elt Ideal) ((c.tc : Thread Cert.MixinIdeal.nD Cert.MixinIdeal.τ).loc Cert.MixinIdeal.main_v11_1)) (v2 : (c : Dev Cert.MixinIdeal.nD) → Buf (Elt Ideal) ((c.tc : Thread Cert.MixinIdeal.nD Cert.MixinIdeal.τ).loc Cert.MixinIdeal.main_v11_2)) (v3 : (c : Dev Cert.MixinIdeal.nD) → Buf (Elt Ideal) ((c.tc : Thread Cert.MixinIdeal.nD Cert.MixinIdeal.τ).loc Cert.MixinIdeal.main_v11_3)) (v4 : (c : Dev Cert.MixinIdeal.nD) → Buf (Elt Ideal) ((c.tc : Thread Cert.MixinIdeal.nD Cert.MixinIdeal.τ).loc Cert.MixinIdeal.main_v11_4)),
      θ_run (Cert.MixinIdeal.defs (F := Ideal)) (onTc (τ := Cert.MixinIdeal.τ) (Cert.MixinIdeal.main (F := Ideal))) ⟨m, fun _ => 0, g⟩ (fun r => ∀ c : Dev Cert.MixinIdeal.nD,
          r.2.mem ((c.tc : Thread Cert.MixinIdeal.nD Cert.MixinIdeal.τ).loc Cert.MixinIdeal.main_v11_0) = v0 c
          ∧ r.2.mem ((c.tc : Thread Cert.MixinIdeal.nD Cert.MixinIdeal.τ).loc Cert.MixinIdeal.main_v11_1) = v1 c
          ∧ r.2.mem ((c.tc : Thread Cert.MixinIdeal.nD Cert.MixinIdeal.τ).loc Cert.MixinIdeal.main_v11_2) = v2 c
          ∧ r.2.mem ((c.tc : Thread Cert.MixinIdeal.nD Cert.MixinIdeal.τ).loc Cert.MixinIdeal.main_v11_3) = v3 c
          ∧ r.2.mem ((c.tc : Thread Cert.MixinIdeal.nD Cert.MixinIdeal.τ).loc Cert.MixinIdeal.main_v11_4) = v4 c
          ∧ r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
          ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1)
          ∧ r.2.mem ((c.tc : Thread Cert.MixinIdeal.nD Cert.MixinIdeal.τ).loc Cert.MixinIdeal.main_arg2) = m ((c.tc : Thread Cert.MixinIdeal.nD Cert.MixinIdeal.τ).loc Cert.MixinIdeal.main_arg2)
          ∧ r.2.mem ((c.tc : Thread Cert.MixinIdeal.nD Cert.MixinIdeal.τ).loc Cert.MixinIdeal.main_arg3) = m ((c.tc : Thread Cert.MixinIdeal.nD Cert.MixinIdeal.τ).loc Cert.MixinIdeal.main_arg3)
          ∧ r.2.mem ((c.tc : Thread Cert.MixinIdeal.nD Cert.MixinIdeal.τ).loc Cert.MixinIdeal.main_arg4) = m ((c.tc : Thread Cert.MixinIdeal.nD Cert.MixinIdeal.τ).loc Cert.MixinIdeal.main_arg4)
          ∧ r.2.mem ((c.tc : Thread Cert.MixinIdeal.nD Cert.MixinIdeal.τ).loc Cert.MixinIdeal.main_arg5) = m ((c.tc : Thread Cert.MixinIdeal.nD Cert.MixinIdeal.τ).loc Cert.MixinIdeal.main_arg5)
          ∧ r.2.mem ((c.tc : Thread Cert.MixinIdeal.nD Cert.MixinIdeal.τ).loc Cert.MixinIdeal.main_arg6) = m ((c.tc : Thread Cert.MixinIdeal.nD Cert.MixinIdeal.τ).loc Cert.MixinIdeal.main_arg6))
      ∧ θ_run (Cert.MixinRefIdeal.defs (F := Ideal)) (onTc (τ := Cert.MixinRefIdeal.τ) (Cert.MixinRefIdeal.main (F := Ideal))) ⟨m', fun _ => 0, g'⟩ (fun r => ∀ c : Dev Cert.MixinRefIdeal.nD,
          r.2.mem ((c.tc : Thread Cert.MixinRefIdeal.nD Cert.MixinRefIdeal.τ).loc Cert.MixinRefIdeal.main_v69) = v0 c
          ∧ r.2.mem ((c.tc : Thread Cert.MixinRefIdeal.nD Cert.MixinRefIdeal.τ).loc Cert.MixinRefIdeal.main_v70) = v1 c
          ∧ r.2.mem ((c.tc : Thread Cert.MixinRefIdeal.nD Cert.MixinRefIdeal.τ).loc Cert.MixinRefIdeal.main_v71) = v2 c
          ∧ r.2.mem ((c.tc : Thread Cert.MixinRefIdeal.nD Cert.MixinRefIdeal.τ).loc Cert.MixinRefIdeal.main_v72) = v3 c
          ∧ r.2.mem ((c.tc : Thread Cert.MixinRefIdeal.nD Cert.MixinRefIdeal.τ).loc Cert.MixinRefIdeal.main_v73) = v4 c
          ∧ r.2.mem ((c.tc : Thread Cert.MixinRefIdeal.nD Cert.MixinRefIdeal.τ).loc Cert.MixinRefIdeal.main_arg0) = m' ((c.tc : Thread Cert.MixinRefIdeal.nD Cert.MixinRefIdeal.τ).loc Cert.MixinRefIdeal.main_arg0)
          ∧ r.2.mem ((c.tc : Thread Cert.MixinRefIdeal.nD Cert.MixinRefIdeal.τ).loc Cert.MixinRefIdeal.main_arg1) = m' ((c.tc : Thread Cert.MixinRefIdeal.nD Cert.MixinRefIdeal.τ).loc Cert.MixinRefIdeal.main_arg1)
          ∧ r.2.mem ((c.tc : Thread Cert.MixinRefIdeal.nD Cert.MixinRefIdeal.τ).loc Cert.MixinRefIdeal.main_arg2) = m' ((c.tc : Thread Cert.MixinRefIdeal.nD Cert.MixinRefIdeal.τ).loc Cert.MixinRefIdeal.main_arg2)
          ∧ r.2.mem ((c.tc : Thread Cert.MixinRefIdeal.nD Cert.MixinRefIdeal.τ).loc Cert.MixinRefIdeal.main_arg3) = m' ((c.tc : Thread Cert.MixinRefIdeal.nD Cert.MixinRefIdeal.τ).loc Cert.MixinRefIdeal.main_arg3)
          ∧ r.2.mem ((c.tc : Thread Cert.MixinRefIdeal.nD Cert.MixinRefIdeal.τ).loc Cert.MixinRefIdeal.main_arg4) = m' ((c.tc : Thread Cert.MixinRefIdeal.nD Cert.MixinRefIdeal.τ).loc Cert.MixinRefIdeal.main_arg4)
          ∧ r.2.mem ((c.tc : Thread Cert.MixinRefIdeal.nD Cert.MixinRefIdeal.τ).loc Cert.MixinRefIdeal.main_arg5) = m' ((c.tc : Thread Cert.MixinRefIdeal.nD Cert.MixinRefIdeal.τ).loc Cert.MixinRefIdeal.main_arg5)
          ∧ r.2.mem ((c.tc : Thread Cert.MixinRefIdeal.nD Cert.MixinRefIdeal.τ).loc Cert.MixinRefIdeal.main_arg6) = m' ((c.tc : Thread Cert.MixinRefIdeal.nD Cert.MixinRefIdeal.τ).loc Cert.MixinRefIdeal.main_arg6))

def preserves_Mix_MixIdeal : Prop :=
  IdealRules.named_const.Statement Cert.MixIdeal.κ "gelu_c" .f32 0x3D372713#32 ((8943 / 200000 : ℝ) : EReal)
  ∧ IdealRules.named_const.Statement Cert.MixIdeal.κ "gelu_3c" .f32 0x3E095D4F#32 ((26829 / 200000 : ℝ) : EReal)

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v28_0)) (v1 : (c : Dev Cert.MixIdeal.nD) → Buf (Elt Ideal) ((c.tc : Thread Cert.MixIdeal.nD Cert.MixIdeal.τ).loc Cert.MixIdeal.main_v28_1)) (v2 : (c : Dev Cert.MixIdeal.nD) → Buf (Elt Ideal) ((c.tc : Thread Cert.MixIdeal.nD Cert.MixIdeal.τ).loc Cert.MixIdeal.main_v28_2)) (v3 : (c : Dev Cert.MixIdeal.nD) → Buf (Elt Ideal) ((c.tc : Thread Cert.MixIdeal.nD Cert.MixIdeal.τ).loc Cert.MixIdeal.main_v28_3)) (v4 : (c : Dev Cert.MixIdeal.nD) → Buf (Elt Ideal) ((c.tc : Thread Cert.MixIdeal.nD Cert.MixIdeal.τ).loc Cert.MixIdeal.main_v28_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v28_0) = v0 c
          ∧ r.2.mem ((c.tc : Thread Cert.MixIdeal.nD Cert.MixIdeal.τ).loc Cert.MixIdeal.main_v28_1) = v1 c
          ∧ r.2.mem ((c.tc : Thread Cert.MixIdeal.nD Cert.MixIdeal.τ).loc Cert.MixIdeal.main_v28_2) = v2 c
          ∧ r.2.mem ((c.tc : Thread Cert.MixIdeal.nD Cert.MixIdeal.τ).loc Cert.MixIdeal.main_v28_3) = v3 c
          ∧ r.2.mem ((c.tc : Thread Cert.MixIdeal.nD Cert.MixIdeal.τ).loc Cert.MixIdeal.main_v28_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v16_0) = v0 c
          ∧ r.2.mem ((c.tc : Thread Cert.MixRefIdeal.nD Cert.MixRefIdeal.τ).loc Cert.MixRefIdeal.main_v16_1) = v1 c
          ∧ r.2.mem ((c.tc : Thread Cert.MixRefIdeal.nD Cert.MixRefIdeal.τ).loc Cert.MixRefIdeal.main_v16_2) = v2 c
          ∧ r.2.mem ((c.tc : Thread Cert.MixRefIdeal.nD Cert.MixRefIdeal.τ).loc Cert.MixRefIdeal.main_v16_3) = v3 c
          ∧ r.2.mem ((c.tc : Thread Cert.MixRefIdeal.nD Cert.MixRefIdeal.τ).loc Cert.MixRefIdeal.main_v16_4) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Gates_GatesIdeal : Prop :=
  True

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)) (v2 : (c : Dev Cert.DownIdeal.nD) → Buf (Elt Ideal) ((c.tc : Thread Cert.DownIdeal.nD Cert.DownIdeal.τ).loc Cert.DownIdeal.main_v4_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_v4_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v27) = v1 c
          ∧ r.2.mem ((c.tc : Thread Cert.DownRefIdeal.nD Cert.DownRefIdeal.τ).loc Cert.DownRefIdeal.main_v28) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Split_SplitIdeal : Prop :=
  True

def algebraic_SplitIdeal_SplitRefIdeal [hSplitIdeal : Cert.SplitIdeal.Facts] [hSplitRefIdeal : Cert.SplitRefIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitRefIdeal.nD Cert.SplitRefIdeal.τ Cert.SplitRefIdeal.sig) → Buf (Elt Ideal) ℓ) (g' : Dev Cert.SplitRefIdeal.nD → PrngReg), Pre_SplitIdeal m →
    (∀ c : Dev Cert.SplitIdeal.nD,
      m' ((c.tc : Thread Cert.SplitRefIdeal.nD Cert.SplitRefIdeal.τ).loc Cert.SplitRefIdeal.main_arg0) = m ((c.tc : Thread Cert.SplitIdeal.nD Cert.SplitIdeal.τ).loc Cert.SplitIdeal.main_arg0)
      ∧ m' ((c.tc : Thread Cert.SplitRefIdeal.nD Cert.SplitRefIdeal.τ).loc Cert.SplitRefIdeal.main_arg1) = m ((c.tc : Thread Cert.SplitIdeal.nD Cert.SplitIdeal.τ).loc Cert.SplitIdeal.main_arg1)
      ∧ m' ((c.tc : Thread Cert.SplitRefIdeal.nD Cert.SplitRefIdeal.τ).loc Cert.SplitRefIdeal.main_arg2) = m ((c.tc : Thread Cert.SplitIdeal.nD Cert.SplitIdeal.τ).loc Cert.SplitIdeal.main_arg2)) →
    ∃ (v0 : (c : Dev Cert.SplitIdeal.nD) → Buf (Elt Ideal) ((c.tc : Thread Cert.SplitIdeal.nD Cert.SplitIdeal.τ).loc Cert.SplitIdeal.main_v4_0)) (v1 : (c : Dev Cert.SplitIdeal.nD) → Buf (Elt Ideal) ((c.tc : Thread Cert.SplitIdeal.nD Cert.SplitIdeal.τ).loc Cert.SplitIdeal.main_v4_1)) (v2 : (c : Dev Cert.SplitIdeal.nD) → Buf (Elt Ideal) ((c.tc : Thread Cert.SplitIdeal.nD Cert.SplitIdeal.τ).loc Cert.SplitIdeal.main_v4_2)) (v3 : (c : Dev Cert.SplitIdeal.nD) → Buf (Elt Ideal) ((c.tc : Thread Cert.SplitIdeal.nD Cert.SplitIdeal.τ).loc Cert.SplitIdeal.main_v4_3)) (v4 : (c : Dev Cert.SplitIdeal.nD) → Buf (Elt Ideal) ((c.tc : Thread Cert.SplitIdeal.nD Cert.SplitIdeal.τ).loc Cert.SplitIdeal.main_v4_4)) (v5 : (c : Dev Cert.SplitIdeal.nD) → Buf (Elt Ideal) ((c.tc : Thread Cert.SplitIdeal.nD Cert.SplitIdeal.τ).loc Cert.SplitIdeal.main_v4_5)) (v6 : (c : Dev Cert.SplitIdeal.nD) → Buf (Elt Ideal) ((c.tc : Thread Cert.SplitIdeal.nD Cert.SplitIdeal.τ).loc Cert.SplitIdeal.main_v4_6)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v4_0) = v0 c
          ∧ r.2.mem ((c.tc : Thread Cert.SplitIdeal.nD Cert.SplitIdeal.τ).loc Cert.SplitIdeal.main_v4_1) = v1 c
          ∧ r.2.mem ((c.tc : Thread Cert.SplitIdeal.nD Cert.SplitIdeal.τ).loc Cert.SplitIdeal.main_v4_2) = v2 c
          ∧ r.2.mem ((c.tc : Thread Cert.SplitIdeal.nD Cert.SplitIdeal.τ).loc Cert.SplitIdeal.main_v4_3) = v3 c
          ∧ r.2.mem ((c.tc : Thread Cert.SplitIdeal.nD Cert.SplitIdeal.τ).loc Cert.SplitIdeal.main_v4_4) = v4 c
          ∧ r.2.mem ((c.tc : Thread Cert.SplitIdeal.nD Cert.SplitIdeal.τ).loc Cert.SplitIdeal.main_v4_5) = v5 c
          ∧ r.2.mem ((c.tc : Thread Cert.SplitIdeal.nD Cert.SplitIdeal.τ).loc Cert.SplitIdeal.main_v4_6) = v6 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
          ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
          ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2))
      ∧ θ_run (Cert.SplitRefIdeal.defs (F := Ideal)) (onTc (τ := Cert.SplitRefIdeal.τ) (Cert.SplitRefIdeal.main (F := Ideal))) ⟨m', fun _ => 0, g'⟩ (fun r => ∀ c : Dev Cert.SplitRefIdeal.nD,
          r.2.mem ((c.tc : Thread Cert.SplitRefIdeal.nD Cert.SplitRefIdeal.τ).loc Cert.SplitRefIdeal.main_v16) = v0 c
          ∧ r.2.mem ((c.tc : Thread Cert.SplitRefIdeal.nD Cert.SplitRefIdeal.τ).loc Cert.SplitRefIdeal.main_v17) = v1 c
          ∧ r.2.mem ((c.tc : Thread Cert.SplitRefIdeal.nD Cert.SplitRefIdeal.τ).loc Cert.SplitRefIdeal.main_v18) = v2 c
          ∧ r.2.mem ((c.tc : Thread Cert.SplitRefIdeal.nD Cert.SplitRefIdeal.τ).loc Cert.SplitRefIdeal.main_v6) = v3 c
          ∧ r.2.mem ((c.tc : Thread Cert.SplitRefIdeal.nD Cert.SplitRefIdeal.τ).loc Cert.SplitRefIdeal.main_v19) = v4 c
          ∧ r.2.mem ((c.tc : Thread Cert.SplitRefIdeal.nD Cert.SplitRefIdeal.τ).loc Cert.SplitRefIdeal.main_v20) = v5 c
          ∧ r.2.mem ((c.tc : Thread Cert.SplitRefIdeal.nD Cert.SplitRefIdeal.τ).loc Cert.SplitRefIdeal.main_v21) = v6 c
          ∧ r.2.mem ((c.tc : Thread Cert.SplitRefIdeal.nD Cert.SplitRefIdeal.τ).loc Cert.SplitRefIdeal.main_arg0) = m' ((c.tc : Thread Cert.SplitRefIdeal.nD Cert.SplitRefIdeal.τ).loc Cert.SplitRefIdeal.main_arg0)
          ∧ r.2.mem ((c.tc : Thread Cert.SplitRefIdeal.nD Cert.SplitRefIdeal.τ).loc Cert.SplitRefIdeal.main_arg1) = m' ((c.tc : Thread Cert.SplitRefIdeal.nD Cert.SplitRefIdeal.τ).loc Cert.SplitRefIdeal.main_arg1)
          ∧ r.2.mem ((c.tc : Thread Cert.SplitRefIdeal.nD Cert.SplitRefIdeal.τ).loc Cert.SplitRefIdeal.main_arg2) = m' ((c.tc : Thread Cert.SplitRefIdeal.nD Cert.SplitRefIdeal.τ).loc Cert.SplitRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)) (v2 : (c : Dev Cert.MergeIdeal.nD) → Buf (Elt Ideal) ((c.tc : Thread Cert.MergeIdeal.nD Cert.MergeIdeal.τ).loc Cert.MergeIdeal.main_v9_2)) (v3 : (c : Dev Cert.MergeIdeal.nD) → Buf (Elt Ideal) ((c.tc : Thread Cert.MergeIdeal.nD Cert.MergeIdeal.τ).loc Cert.MergeIdeal.main_v9_3)) (v4 : (c : Dev Cert.MergeIdeal.nD) → Buf (Elt Ideal) ((c.tc : Thread Cert.MergeIdeal.nD Cert.MergeIdeal.τ).loc Cert.MergeIdeal.main_v9_4)) (v5 : (c : Dev Cert.MergeIdeal.nD) → Buf (Elt Ideal) ((c.tc : Thread Cert.MergeIdeal.nD Cert.MergeIdeal.τ).loc Cert.MergeIdeal.main_v9_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_v9_2) = v2 c
          ∧ r.2.mem ((c.tc : Thread Cert.MergeIdeal.nD Cert.MergeIdeal.τ).loc Cert.MergeIdeal.main_v9_3) = v3 c
          ∧ r.2.mem ((c.tc : Thread Cert.MergeIdeal.nD Cert.MergeIdeal.τ).loc Cert.MergeIdeal.main_v9_4) = v4 c
          ∧ r.2.mem ((c.tc : Thread Cert.MergeIdeal.nD Cert.MergeIdeal.τ).loc Cert.MergeIdeal.main_v9_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_v45) = v2 c
          ∧ r.2.mem ((c.tc : Thread Cert.MergeRefIdeal.nD Cert.MergeRefIdeal.τ).loc Cert.MergeRefIdeal.main_v20) = v3 c
          ∧ r.2.mem ((c.tc : Thread Cert.MergeRefIdeal.nD Cert.MergeRefIdeal.τ).loc Cert.MergeRefIdeal.main_v42) = v4 c
          ∧ r.2.mem ((c.tc : Thread Cert.MergeRefIdeal.nD Cert.MergeRefIdeal.τ).loc Cert.MergeRefIdeal.main_v46) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Rconv_RconvIdeal : Prop :=
  True

def algebraic_RconvIdeal_RconvRefIdeal [hRconvIdeal : Cert.RconvIdeal.Facts] [hRconvRefIdeal : Cert.RconvRefIdeal.Facts] : Prop :=
  ∀ (m : (ℓ : Loc Cert.RconvIdeal.nD Cert.RconvIdeal.τ Cert.RconvIdeal.sig) → Buf (Elt Ideal) ℓ) (g : Dev Cert.RconvIdeal.nD → PrngReg)
    (m' : (ℓ : Loc Cert.RconvRefIdeal.nD Cert.RconvRefIdeal.τ Cert.RconvRefIdeal.sig) → Buf (Elt Ideal) ℓ) (g' : Dev Cert.RconvRefIdeal.nD → PrngReg), Pre_RconvIdeal m →
    (∀ c : Dev Cert.RconvIdeal.nD,
      m' ((c.tc : Thread Cert.RconvRefIdeal.nD Cert.RconvRefIdeal.τ).loc Cert.RconvRefIdeal.main_arg0) = m ((c.tc : Thread Cert.RconvIdeal.nD Cert.RconvIdeal.τ).loc Cert.RconvIdeal.main_arg0)
      ∧ m' ((c.tc : Thread Cert.RconvRefIdeal.nD Cert.RconvRefIdeal.τ).loc Cert.RconvRefIdeal.main_arg1) = m ((c.tc : Thread Cert.RconvIdeal.nD Cert.RconvIdeal.τ).loc Cert.RconvIdeal.main_arg1)
      ∧ m' ((c.tc : Thread Cert.RconvRefIdeal.nD Cert.RconvRefIdeal.τ).loc Cert.RconvRefIdeal.main_arg2) = m ((c.tc : Thread Cert.RconvIdeal.nD Cert.RconvIdeal.τ).loc Cert.RconvIdeal.main_arg2)) →
    ∃ (v0 : (c : Dev Cert.RconvIdeal.nD) → Buf (Elt Ideal) ((c.tc : Thread Cert.RconvIdeal.nD Cert.RconvIdeal.τ).loc Cert.RconvIdeal.main_v1)),
      θ_run (Cert.RconvIdeal.defs (F := Ideal)) (onTc (τ := Cert.RconvIdeal.τ) (Cert.RconvIdeal.main (F := Ideal))) ⟨m, fun _ => 0, g⟩ (fun r => ∀ c : Dev Cert.RconvIdeal.nD,
          r.2.mem ((c.tc : Thread Cert.RconvIdeal.nD Cert.RconvIdeal.τ).loc Cert.RconvIdeal.main_v1) = v0 c
          ∧ r.2.mem ((c.tc : Thread Cert.RconvIdeal.nD Cert.RconvIdeal.τ).loc Cert.RconvIdeal.main_arg0) = m ((c.tc : Thread Cert.RconvIdeal.nD Cert.RconvIdeal.τ).loc Cert.RconvIdeal.main_arg0)
          ∧ r.2.mem ((c.tc : Thread Cert.RconvIdeal.nD Cert.RconvIdeal.τ).loc Cert.RconvIdeal.main_arg1) = m ((c.tc : Thread Cert.RconvIdeal.nD Cert.RconvIdeal.τ).loc Cert.RconvIdeal.main_arg1)
          ∧ r.2.mem ((c.tc : Thread Cert.RconvIdeal.nD Cert.RconvIdeal.τ).loc Cert.RconvIdeal.main_arg2) = m ((c.tc : Thread Cert.RconvIdeal.nD Cert.RconvIdeal.τ).loc Cert.RconvIdeal.main_arg2))
      ∧ θ_run (Cert.RconvRefIdeal.defs (F := Ideal)) (onTc (τ := Cert.RconvRefIdeal.τ) (Cert.RconvRefIdeal.main (F := Ideal))) ⟨m', fun _ => 0, g'⟩ (fun r => ∀ c : Dev Cert.RconvRefIdeal.nD,
          r.2.mem ((c.tc : Thread Cert.RconvRefIdeal.nD Cert.RconvRefIdeal.τ).loc Cert.RconvRefIdeal.main_v32) = v0 c
          ∧ r.2.mem ((c.tc : Thread Cert.RconvRefIdeal.nD Cert.RconvRefIdeal.τ).loc Cert.RconvRefIdeal.main_arg0) = m' ((c.tc : Thread Cert.RconvRefIdeal.nD Cert.RconvRefIdeal.τ).loc Cert.RconvRefIdeal.main_arg0)
          ∧ r.2.mem ((c.tc : Thread Cert.RconvRefIdeal.nD Cert.RconvRefIdeal.τ).loc Cert.RconvRefIdeal.main_arg1) = m' ((c.tc : Thread Cert.RconvRefIdeal.nD Cert.RconvRefIdeal.τ).loc Cert.RconvRefIdeal.main_arg1)
          ∧ r.2.mem ((c.tc : Thread Cert.RconvRefIdeal.nD Cert.RconvRefIdeal.τ).loc Cert.RconvRefIdeal.main_arg2) = m' ((c.tc : Thread Cert.RconvRefIdeal.nD Cert.RconvRefIdeal.τ).loc Cert.RconvRefIdeal.main_arg2))

def preserves_Rgates_RgatesIdeal : Prop :=
  True

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v3)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v3) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v6) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v2) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v6) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Recur_RecurIdeal : Prop :=
  True

def algebraic_RecurIdeal_RecurRefIdeal_pre_finite_recur [hRecurIdeal : Cert.RecurIdeal.Facts] [hRecurRefIdeal : Cert.RecurRefIdeal.Facts] [hPre_finite_recur : Cert.Pre_finite_recur.Facts] : Prop :=
  ∀ (m : (ℓ : Loc Cert.RecurIdeal.nD Cert.RecurIdeal.τ Cert.RecurIdeal.sig) → Buf (Elt Ideal) ℓ) (g : Dev Cert.RecurIdeal.nD → PrngReg)
    (m' : (ℓ : Loc Cert.RecurRefIdeal.nD Cert.RecurRefIdeal.τ Cert.RecurRefIdeal.sig) → Buf (Elt Ideal) ℓ) (g' : Dev Cert.RecurRefIdeal.nD → PrngReg), Pre_RecurIdeal_finite_recur m →
    (∀ c : Dev Cert.RecurIdeal.nD,
      m' ((c.tc : Thread Cert.RecurRefIdeal.nD Cert.RecurRefIdeal.τ).loc Cert.RecurRefIdeal.main_arg0) = m ((c.tc : Thread Cert.RecurIdeal.nD Cert.RecurIdeal.τ).loc Cert.RecurIdeal.main_arg0)
      ∧ m' ((c.tc : Thread Cert.RecurRefIdeal.nD Cert.RecurRefIdeal.τ).loc Cert.RecurRefIdeal.main_arg1) = m ((c.tc : Thread Cert.RecurIdeal.nD Cert.RecurIdeal.τ).loc Cert.RecurIdeal.main_arg1)
      ∧ m' ((c.tc : Thread Cert.RecurRefIdeal.nD Cert.RecurRefIdeal.τ).loc Cert.RecurRefIdeal.main_arg2) = m ((c.tc : Thread Cert.RecurIdeal.nD Cert.RecurIdeal.τ).loc Cert.RecurIdeal.main_arg2)) →
    ∃ (v0 : (c : Dev Cert.RecurIdeal.nD) → Buf (Elt Ideal) ((c.tc : Thread Cert.RecurIdeal.nD Cert.RecurIdeal.τ).loc Cert.RecurIdeal.main_v1_0)) (v1 : (c : Dev Cert.RecurIdeal.nD) → Buf (Elt Ideal) ((c.tc : Thread Cert.RecurIdeal.nD Cert.RecurIdeal.τ).loc Cert.RecurIdeal.main_v1_1)) (v2 : (c : Dev Cert.RecurIdeal.nD) → Buf (Elt Ideal) ((c.tc : Thread Cert.RecurIdeal.nD Cert.RecurIdeal.τ).loc Cert.RecurIdeal.main_v1_2)),
      θ_run (Cert.RecurIdeal.defs (F := Ideal)) (onTc (τ := Cert.RecurIdeal.τ) (Cert.RecurIdeal.main (F := Ideal))) ⟨m, fun _ => 0, g⟩ (fun r => ∀ c : Dev Cert.RecurIdeal.nD,
          r.2.mem ((c.tc : Thread Cert.RecurIdeal.nD Cert.RecurIdeal.τ).loc Cert.RecurIdeal.main_v1_0) = v0 c
          ∧ r.2.mem ((c.tc : Thread Cert.RecurIdeal.nD Cert.RecurIdeal.τ).loc Cert.RecurIdeal.main_v1_1) = v1 c
          ∧ r.2.mem ((c.tc : Thread Cert.RecurIdeal.nD Cert.RecurIdeal.τ).loc Cert.RecurIdeal.main_v1_2) = v2 c
          ∧ r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
          ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
          ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2))
      ∧ θ_run (Cert.RecurRefIdeal.defs (F := Ideal)) (onTc (τ := Cert.RecurRefIdeal.τ) (Cert.RecurRefIdeal.main (F := Ideal))) ⟨m', fun _ => 0, g'⟩ (fun r => ∀ c : Dev Cert.RecurRefIdeal.nD,
          r.2.mem ((c.tc : Thread Cert.RecurRefIdeal.nD Cert.RecurRefIdeal.τ).loc Cert.RecurRefIdeal.main_v3_4) = v0 c
          ∧ r.2.mem ((c.tc : Thread Cert.RecurRefIdeal.nD Cert.RecurRefIdeal.τ).loc Cert.RecurRefIdeal.main_v3_5) = v1 c
          ∧ r.2.mem ((c.tc : Thread Cert.RecurRefIdeal.nD Cert.RecurRefIdeal.τ).loc Cert.RecurRefIdeal.main_v18) = v2 c
          ∧ r.2.mem ((c.tc : Thread Cert.RecurRefIdeal.nD Cert.RecurRefIdeal.τ).loc Cert.RecurRefIdeal.main_arg0) = m' ((c.tc : Thread Cert.RecurRefIdeal.nD Cert.RecurRefIdeal.τ).loc Cert.RecurRefIdeal.main_arg0)
          ∧ r.2.mem ((c.tc : Thread Cert.RecurRefIdeal.nD Cert.RecurRefIdeal.τ).loc Cert.RecurRefIdeal.main_arg1) = m' ((c.tc : Thread Cert.RecurRefIdeal.nD Cert.RecurRefIdeal.τ).loc Cert.RecurRefIdeal.main_arg1)
          ∧ r.2.mem ((c.tc : Thread Cert.RecurRefIdeal.nD Cert.RecurRefIdeal.τ).loc Cert.RecurRefIdeal.main_arg2) = m' ((c.tc : Thread Cert.RecurRefIdeal.nD Cert.RecurRefIdeal.τ).loc Cert.RecurRefIdeal.main_arg2))

def preserves_Band_BandIdeal : Prop :=
  True

def Claim : Prop :=
  ∃ (hFfn : Cert.Ffn.Facts) (hFfnIdeal : Cert.FfnIdeal.Facts) (hFfnRefIdeal : Cert.FfnRefIdeal.Facts) (hScan : Cert.Scan.Facts) (hScanIdeal : Cert.ScanIdeal.Facts) (hScanRefIdeal : Cert.ScanRefIdeal.Facts) (hConv4 : Cert.Conv4.Facts) (hConv4Ideal : Cert.Conv4Ideal.Facts) (hConv4RefIdeal : Cert.Conv4RefIdeal.Facts) (hConv31 : Cert.Conv31.Facts) (hConv31Ideal : Cert.Conv31Ideal.Facts) (hConv31RefIdeal : Cert.Conv31RefIdeal.Facts) (hLoss : Cert.Loss.Facts) (hLossIdeal : Cert.LossIdeal.Facts) (hLossRefIdeal : Cert.LossRefIdeal.Facts) (hNorm : Cert.Norm.Facts) (hNormIdeal : Cert.NormIdeal.Facts) (hNormRefIdeal : Cert.NormRefIdeal.Facts) (hMixin : Cert.Mixin.Facts) (hMixinIdeal : Cert.MixinIdeal.Facts) (hMixinRefIdeal : Cert.MixinRefIdeal.Facts) (hMix : Cert.Mix.Facts) (hMixIdeal : Cert.MixIdeal.Facts) (hMixRefIdeal : Cert.MixRefIdeal.Facts) (hGates : Cert.Gates.Facts) (hGatesIdeal : Cert.GatesIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hSplit : Cert.Split.Facts) (hSplitIdeal : Cert.SplitIdeal.Facts) (hSplitRefIdeal : Cert.SplitRefIdeal.Facts) (hMerge : Cert.Merge.Facts) (hMergeIdeal : Cert.MergeIdeal.Facts) (hMergeRefIdeal : Cert.MergeRefIdeal.Facts) (hRconv : Cert.Rconv.Facts) (hRconvIdeal : Cert.RconvIdeal.Facts) (hRconvRefIdeal : Cert.RconvRefIdeal.Facts) (hRgates : Cert.Rgates.Facts) (hRgatesIdeal : Cert.RgatesIdeal.Facts) (hDx : Cert.Dx.Facts) (hDxIdeal : Cert.DxIdeal.Facts) (hDxRefIdeal : Cert.DxRefIdeal.Facts) (hDw : Cert.Dw.Facts) (hDwIdeal : Cert.DwIdeal.Facts) (hDwRefIdeal : Cert.DwRefIdeal.Facts) (hAdamw : Cert.Adamw.Facts) (hAdamwIdeal : Cert.AdamwIdeal.Facts) (hAdamwRefIdeal : Cert.AdamwRefIdeal.Facts) (hRecur : Cert.Recur.Facts) (hRecurIdeal : Cert.RecurIdeal.Facts) (hRecurRefIdeal : Cert.RecurRefIdeal.Facts) (hBand : Cert.Band.Facts) (hBandIdeal : Cert.BandIdeal.Facts) (hPre_finite_ffn : Cert.Pre_finite_ffn.Facts) (hPre_finite_scan : Cert.Pre_finite_scan.Facts) (hPre_finite_conv31 : Cert.Pre_finite_conv31.Facts) (hPre_finite_loss : Cert.Pre_finite_loss.Facts) (hPre_finite_norm : Cert.Pre_finite_norm.Facts) (hPre_finite_mixin : Cert.Pre_finite_mixin.Facts) (hPre_finite_mix : Cert.Pre_finite_mix.Facts) (hPre_finite_recur : Cert.Pre_finite_recur.Facts),
    quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Scan (hScan := hScan)
    ∧ quiescent_ScanIdeal (hScanIdeal := hScanIdeal)
    ∧ quiescent_ScanIdeal_pre_finite_scan (hScanIdeal := hScanIdeal) (hPre_finite_scan := hPre_finite_scan)
    ∧ quiescent_ScanRefIdeal (hScanRefIdeal := hScanRefIdeal)
    ∧ quiescent_ScanRefIdeal_pre_finite_scan (hScanRefIdeal := hScanRefIdeal) (hPre_finite_scan := hPre_finite_scan)
    ∧ quiescent_Conv4 (hConv4 := hConv4)
    ∧ quiescent_Conv4Ideal (hConv4Ideal := hConv4Ideal)
    ∧ quiescent_Conv4RefIdeal (hConv4RefIdeal := hConv4RefIdeal)
    ∧ quiescent_Conv31 (hConv31 := hConv31)
    ∧ quiescent_Conv31Ideal (hConv31Ideal := hConv31Ideal)
    ∧ quiescent_Conv31Ideal_pre_finite_conv31 (hConv31Ideal := hConv31Ideal) (hPre_finite_conv31 := hPre_finite_conv31)
    ∧ quiescent_Conv31RefIdeal (hConv31RefIdeal := hConv31RefIdeal)
    ∧ quiescent_Conv31RefIdeal_pre_finite_conv31 (hConv31RefIdeal := hConv31RefIdeal) (hPre_finite_conv31 := hPre_finite_conv31)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Mixin (hMixin := hMixin)
    ∧ quiescent_MixinIdeal (hMixinIdeal := hMixinIdeal)
    ∧ quiescent_MixinIdeal_pre_finite_mixin (hMixinIdeal := hMixinIdeal) (hPre_finite_mixin := hPre_finite_mixin)
    ∧ quiescent_MixinRefIdeal (hMixinRefIdeal := hMixinRefIdeal)
    ∧ quiescent_MixinRefIdeal_pre_finite_mixin (hMixinRefIdeal := hMixinRefIdeal) (hPre_finite_mixin := hPre_finite_mixin)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Gates (hGates := hGates)
    ∧ quiescent_GatesIdeal (hGatesIdeal := hGatesIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Split (hSplit := hSplit)
    ∧ quiescent_SplitIdeal (hSplitIdeal := hSplitIdeal)
    ∧ quiescent_SplitRefIdeal (hSplitRefIdeal := hSplitRefIdeal)
    ∧ quiescent_Merge (hMerge := hMerge)
    ∧ quiescent_MergeIdeal (hMergeIdeal := hMergeIdeal)
    ∧ quiescent_MergeRefIdeal (hMergeRefIdeal := hMergeRefIdeal)
    ∧ quiescent_Rconv (hRconv := hRconv)
    ∧ quiescent_RconvIdeal (hRconvIdeal := hRconvIdeal)
    ∧ quiescent_RconvRefIdeal (hRconvRefIdeal := hRconvRefIdeal)
    ∧ quiescent_Rgates (hRgates := hRgates)
    ∧ quiescent_RgatesIdeal (hRgatesIdeal := hRgatesIdeal)
    ∧ quiescent_Dx (hDx := hDx)
    ∧ quiescent_DxIdeal (hDxIdeal := hDxIdeal)
    ∧ quiescent_DxRefIdeal (hDxRefIdeal := hDxRefIdeal)
    ∧ quiescent_Dw (hDw := hDw)
    ∧ quiescent_DwIdeal (hDwIdeal := hDwIdeal)
    ∧ quiescent_DwRefIdeal (hDwRefIdeal := hDwRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Recur (hRecur := hRecur)
    ∧ quiescent_RecurIdeal (hRecurIdeal := hRecurIdeal)
    ∧ quiescent_RecurIdeal_pre_finite_recur (hRecurIdeal := hRecurIdeal) (hPre_finite_recur := hPre_finite_recur)
    ∧ quiescent_RecurRefIdeal (hRecurRefIdeal := hRecurRefIdeal)
    ∧ quiescent_RecurRefIdeal_pre_finite_recur (hRecurRefIdeal := hRecurRefIdeal) (hPre_finite_recur := hPre_finite_recur)
    ∧ quiescent_Band (hBand := hBand)
    ∧ quiescent_BandIdeal (hBandIdeal := hBandIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Scan_ScanIdeal
    ∧ algebraic_ScanIdeal_ScanRefIdeal_pre_finite_scan (hScanIdeal := hScanIdeal) (hScanRefIdeal := hScanRefIdeal) (hPre_finite_scan := hPre_finite_scan)
    ∧ preserves_Conv4_Conv4Ideal
    ∧ algebraic_Conv4Ideal_Conv4RefIdeal (hConv4Ideal := hConv4Ideal) (hConv4RefIdeal := hConv4RefIdeal)
    ∧ preserves_Conv31_Conv31Ideal
    ∧ algebraic_Conv31Ideal_Conv31RefIdeal_pre_finite_conv31 (hConv31Ideal := hConv31Ideal) (hConv31RefIdeal := hConv31RefIdeal) (hPre_finite_conv31 := hPre_finite_conv31)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Mixin_MixinIdeal
    ∧ algebraic_MixinIdeal_MixinRefIdeal_pre_finite_mixin (hMixinIdeal := hMixinIdeal) (hMixinRefIdeal := hMixinRefIdeal) (hPre_finite_mixin := hPre_finite_mixin)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Gates_GatesIdeal
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Split_SplitIdeal
    ∧ algebraic_SplitIdeal_SplitRefIdeal (hSplitIdeal := hSplitIdeal) (hSplitRefIdeal := hSplitRefIdeal)
    ∧ preserves_Merge_MergeIdeal
    ∧ algebraic_MergeIdeal_MergeRefIdeal (hMergeIdeal := hMergeIdeal) (hMergeRefIdeal := hMergeRefIdeal)
    ∧ preserves_Rconv_RconvIdeal
    ∧ algebraic_RconvIdeal_RconvRefIdeal (hRconvIdeal := hRconvIdeal) (hRconvRefIdeal := hRconvRefIdeal)
    ∧ preserves_Rgates_RgatesIdeal
    ∧ preserves_Dx_DxIdeal
    ∧ algebraic_DxIdeal_DxRefIdeal (hDxIdeal := hDxIdeal) (hDxRefIdeal := hDxRefIdeal)
    ∧ preserves_Dw_DwIdeal
    ∧ algebraic_DwIdeal_DwRefIdeal (hDwIdeal := hDwIdeal) (hDwRefIdeal := hDwRefIdeal)
    ∧ preserves_Adamw_AdamwIdeal
    ∧ algebraic_AdamwIdeal_AdamwRefIdeal (hAdamwIdeal := hAdamwIdeal) (hAdamwRefIdeal := hAdamwRefIdeal)
    ∧ preserves_Recur_RecurIdeal
    ∧ algebraic_RecurIdeal_RecurRefIdeal_pre_finite_recur (hRecurIdeal := hRecurIdeal) (hRecurRefIdeal := hRecurRefIdeal) (hPre_finite_recur := hPre_finite_recur)
    ∧ preserves_Band_BandIdeal
-- ==== Pre_finite_conv31.lean ====
abbrev S8192x1024 : Shape := ⟨2, ![8192, 1024]⟩
abbrev S31x1024 : Shape := ⟨2, ![31, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S31x1024 : S_.BroadcastsInDim S31x1024 (![] : Fin 0 → Fin S31x1024.rank)
  bcast_S_S1024 : S_.BroadcastsInDim S1024 (![] : Fin 0 → Fin S1024.rank)

variable [Facts]

def fn_part1 {F : FTy → Type} [FloatOps F] (main_arg6 : FVec F S8192x1024 .f32) (main_v2 : IVec S8192x1024 1) (main_v5 : IVec S8192x1024 1) (main_v8 : IVec S31x1024 1) (main_v11 : IVec S1024 1) (main_v14 : IVec S1024 1) (main_v17 : IVec S1024 1) : IVec S8192x1024 1 × IVec S8192x1024 1 × IVec S31x1024 1 × IVec S1024 1 × IVec S1024 1 × IVec S1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S31x1024 .f32) (main_arg3 : FVec F S1024 .f32) (main_arg4 : FVec F S1024 .f32) (main_arg5 : FVec F S1024 .f32) (main_arg6 : FVec F S8192x1024 .f32) : IVec S8192x1024 1 × IVec S8192x1024 1 × IVec S31x1024 1 × IVec S1024 1 × IVec S1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S31x1024 .f32 := Host.absf main_arg2
  let main_cst_1 : FVec F S_ .f32 := constant S_ .f32 0x7F800000#32
  let main_v7 : FVec F S31x1024 .f32 := broadcastInDim S31x1024 ![] bcast_S_S31x1024 main_cst_1
  let main_v8 : IVec S31x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_finite_ffn.lean ====
abbrev S8192x1024 : Shape := ⟨2, ![8192, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024x5632 .f32) (main_arg2 : FVec F S2816x1024 .f32) (main_arg3 : FVec F S8192x1024 .f32) : IVec S8192x1024 1 × IVec S1024x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S1024 .f32) (main_arg3 : FVec F S8192x1024 .f32) : IVec S8192x1024 1 × IVec S1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_mix.lean ====
abbrev S8192x1024 : Shape := ⟨2, ![8192, 1024]⟩
abbrev S8192x1408 : Shape := ⟨2, ![8192, 1408]⟩
abbrev S1024x1024 : Shape := ⟨2, ![1024, 1024]⟩
abbrev S1408x1024 : Shape := ⟨2, ![1408, 1024]⟩
abbrev S_ : Shape := ⟨0, ![]⟩

class Facts : Prop where
  bcast_S_S8192x1024 : S_.BroadcastsInDim S8192x1024 (![] : Fin 0 → Fin S8192x1024.rank)
  bcast_S_S8192x1408 : S_.BroadcastsInDim S8192x1408 (![] : Fin 0 → Fin S8192x1408.rank)
  bcast_S_S1024x1024 : S_.BroadcastsInDim S1024x1024 (![] : Fin 0 → Fin S1024x1024.rank)
  bcast_S_S1408x1024 : S_.BroadcastsInDim S1408x1024 (![] : Fin 0 → Fin S1408x1024.rank)

variable [Facts]

def fn_part1 {F : FTy → Type} [FloatOps F] (main_arg6 : FVec F S1408x1024 .f32) (main_arg7 : FVec F S1024x1024 .f32) (main_arg8 : FVec F S8192x1024 .f32) (main_v2 : IVec S8192x1024 1) (main_v5 : IVec S8192x1408 1) (main_v8 : IVec S8192x1408 1) (main_v11 : IVec S8192x1024 1) (main_v14 : IVec S8192x1024 1) (main_v17 : IVec S1024x1024 1) : IVec S8192x1024 1 × IVec S8192x1408 1 × IVec S8192x1408 1 × IVec S8192x1024 1 × IVec S8192x1024 1 × IVec S1024x1024 1 × IVec S1408x1024 1 × IVec S1024x1024 1 × IVec S8192x1024 1 :=
  let main_v18 : FVec F S1408x1024 .f32 := Host.absf main_arg6
  let main_cst_5 : FVec F S_ .f32 := constant S_ .f32 0x7F800000#32
  let main_v19 : FVec F S1408x1024 .f32 := broadcastInDim S1408x1024 ![] bcast_S_S1408x1024 main_cst_5
  let main_v20 : IVec S1408x1024 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S8192x1024 .f32 := Host.absf main_arg8
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x1408 .f32) (main_arg2 : FVec F S8192x1408 .f32) (main_arg3 : FVec F S8192x1024 .f32) (main_arg4 : FVec F S8192x1024 .f32) (main_arg5 : FVec F S1024x1024 .f32) (main_arg6 : FVec F S1408x1024 .f32) (main_arg7 : FVec F S1024x1024 .f32) (main_arg8 : FVec F S8192x1024 .f32) : IVec S8192x1024 1 × IVec S8192x1408 1 × IVec S8192x1408 1 × IVec S8192x1024 1 × IVec S8192x1024 1 × IVec S1024x1024 1 × IVec S1408x1024 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1408 .f32 := Host.absf main_arg1
  let main_cst_0 : FVec F S_ .f32 := constant S_ .f32 0x7F800000#32
  let main_v4 : FVec F S8192x1408 .f32 := broadcastInDim S8192x1408 ![] bcast_S_S8192x1408 main_cst_0
  let main_v5 : IVec S8192x1408 1 := cmpf .olt main_v3 main_v4
  let main_v6 : FVec F S8192x1408 .f32 := Host.absf main_arg2
  let main_cst_1 : FVec F S_ .f32 := constant S_ .f32 0x7F800000#32
  let main_v7 : FVec F S8192x1408 .f32 := broadcastInDim S8192x1408 ![] bcast_S_S8192x1408 main_cst_1
  let main_v8 : IVec S8192x1408 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_v2 main_v5 main_v8 main_v11 main_v14 main_v17
-- ==== Pre_finite_mixin.lean ====
abbrev S8192x1024 : Shape := ⟨2, ![8192, 1024]⟩
abbrev S1024 : Shape := ⟨1, ![1024]⟩
abbrev S1024x6912 : Shape := ⟨2, ![1024, 6912]⟩
abbrev S6912 : Shape := ⟨1, ![6912]⟩
abbrev S8192x6912 : Shape := ⟨2, ![8192, 6912]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x6912 : S_.BroadcastsInDim S1024x6912 (![] : Fin 0 → Fin S1024x6912.rank)
  bcast_S_S8192x6912 : S_.BroadcastsInDim S8192x6912 (![] : Fin 0 → Fin S8192x6912.rank)

variable [Facts]

def fn {F : FTy → Type} [FloatOps F] (main_arg0 : FVec F S8192x1024 .f32) (main_arg1 : FVec F S1024 .f32) (main_arg2 : FVec F S1024 .f32) (main_arg3 : FVec F S1024x6912 .f32) (main_arg4 : FVec F S6912 .f32) (main_arg5 : FVec F S8192x6912 .f32) (main_arg6 : FVec F S8192x1024 .f32) : IVec S8192x1024 1 × IVec S1024 1 × IVec S1024x6912 1 × IVec S8192x6912 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x6912 .f32 := Host.absf main_arg3
  let main_cst_1 : FVec F S_ .f32 := constant S_ .f32 0x7F800000#32
  let main_v7 : FVec F S1024x6912 .f32 := broadcastInDim S1024x6912 ![] bcast_S_S1024x6912 main_cst_1
  let main_v8 : IVec S1024x6912 1 := cmpf .olt main_v6 main_v7
  let main_v9 : FVec F S8192x6912 .f32 := Host.absf main_arg5
  let main_cst_2 : FVec F S_ .f32 := constant S_ .f32 0x7F800000#32
  let main_v10 : FVec F S8192x6912 .f32 := broadcastInDim S8192x6912 ![] bcast_S_S8192x6912 main_cst_2
  let main_v11 : IVec S8192x6912 1 := cmpf .olt main_v9 main_v10
  let main_v12 : FVec F S8192x1024 .f32 := Host.absf main_arg6
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_norm.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S8192x5632 : S_.BroadcastsInDim S8192x5632 (![] : Fin 0 → Fin S8192x5632.rank)

variable [Facts]

def fn {F : FTy → Type} [FloatOps F] (main_arg0 : FVec F S8192x1024 .f32) (main_arg1 : FVec F S1024 .f32) (main_arg2 : FVec F S1024 .f32) (main_arg3 : FVec F S1024x5632 .f32) (main_arg4 : FVec F S8192x5632 .f32) (main_arg5 : FVec F S8192x1024 .f32) : IVec S8192x1024 1 × IVec S1024 1 × IVec S1024x5632 1 × IVec S8192x5632 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg3
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S8192x5632 .f32 := Host.absf main_arg4
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  let main_v12 : FVec F S8192x1024 .f32 := Host.absf main_arg5
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_recur.lean ====
abbrev S8192x1408 : Shape := ⟨2, ![8192, 1408]⟩
abbrev S_ : Shape := ⟨0, ![]⟩

class Facts : Prop where
  bcast_S_S8192x1408 : S_.BroadcastsInDim S8192x1408 (![] : Fin 0 → Fin S8192x1408.rank)

variable [Facts]

def fn {F : FTy → Type} [FloatOps F] (main_arg0 : FVec F S8192x1408 .f32) (main_arg1 : FVec F S8192x1408 .f32) (main_arg2 : FVec F S8192x1408 .f32) : IVec S8192x1408 1 × IVec S8192x1408 1 :=
  let main_v0 : FVec F S8192x1408 .f32 := Host.absf main_arg0
  let main_cst : FVec F S_ .f32 := constant S_ .f32 0x7F800000#32
  let main_v1 : FVec F S8192x1408 .f32 := broadcastInDim S8192x1408 ![] bcast_S_S8192x1408 main_cst
  let main_v2 : IVec S8192x1408 1 := cmpf .olt main_v0 main_v1
  let main_v3 : FVec F S8192x1408 .f32 := Host.absf main_arg1
  let main_cst_0 : FVec F S_ .f32 := constant S_ .f32 0x7F800000#32
  let main_v4 : FVec F S8192x1408 .f32 := broadcastInDim S8192x1408 ![] bcast_S_S8192x1408 main_cst_0
  let main_v5 : IVec S8192x1408 1 := cmpf .olt main_v3 main_v4
  (main_v2, main_v5)
-- ==== Pre_finite_scan.lean ====
abbrev S8192x1408 : Shape := ⟨2, ![8192, 1408]⟩
abbrev S_ : Shape := ⟨0, ![]⟩

class Facts : Prop where
  bcast_S_S8192x1408 : S_.BroadcastsInDim S8192x1408 (![] : Fin 0 → Fin S8192x1408.rank)

variable [Facts]

def fn {F : FTy → Type} [FloatOps F] (main_arg0 : FVec F S8192x1408 .f32) (main_arg1 : FVec F S8192x1408 .f32) (main_arg2 : FVec F S8192x1408 .f32) : IVec S8192x1408 1 × IVec S8192x1408 1 :=
  let main_v0 : FVec F S8192x1408 .f32 := Host.absf main_arg0
  let main_cst : FVec F S_ .f32 := constant S_ .f32 0x7F800000#32
  let main_v1 : FVec F S8192x1408 .f32 := broadcastInDim S8192x1408 ![] bcast_S_S8192x1408 main_cst
  let main_v2 : IVec S8192x1408 1 := cmpf .olt main_v0 main_v1
  let main_v3 : FVec F S8192x1408 .f32 := Host.absf main_arg2
  let main_cst_0 : FVec F S_ .f32 := constant S_ .f32 0x7F800000#32
  let main_v4 : FVec F S8192x1408 .f32 := broadcastInDim S8192x1408 ![] bcast_S_S8192x1408 main_cst_0
  let main_v5 : IVec S8192x1408 1 := cmpf .olt main_v3 main_v4
  (main_v2, main_v5)
-- ==== Ffn.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S512x1024 : Shape := ⟨2, ![512, 1024]⟩
abbrev S512x5632 : Shape := ⟨2, ![512, 5632]⟩
abbrev S256x1024 : Shape := ⟨2, ![256, 1024]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S8192x1024, .bf16⟩
  | .hbm, ⟨5, _⟩ => ⟨S1024x5632, .bf16⟩
  | .hbm, ⟨6, _⟩ => ⟨S8192x5632, .f32⟩
  | .hbm, ⟨7, _⟩ => ⟨S8192x5632, .bf16⟩
  | .hbm, ⟨8, _⟩ => ⟨S8192x1024, .bf16⟩
  | .hbm, ⟨9, _⟩ => ⟨S2816x1024, .bf16⟩
  | .hbm, ⟨10, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnRefIdeal.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x5632, .f32⟩
  | .hbm, ⟨36, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Scan.lean ====
abbrev S8192x1408 : Shape := ⟨2, ![8192, 1408]⟩
abbrev S512x1408 : Shape := ⟨2, ![512, 1408]⟩
abbrev S1x1408 : Shape := ⟨2, ![1, 1408]⟩
abbrev S8x1408 : Shape := ⟨2, ![8, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S1x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_2 : BitVec 32 := 0#32
  let c64_i32 : BitVec 32 := 64#32
  let v5 : BitVec 32 := Scalar.addi c0_i32_2 c64_i32
  let c1_i32 : BitVec 32 := 1#32
  ⟨c0_i32_2, v5, c1_i32⟩
def k0_mult1 (k0_t1 : Fin k0_t1_loop.trips) : BitVec 32 :=
  let c63_i32 : BitVec 32 := 63#32
  let c0_i32_2 : BitVec 32 := 0#32
  let c1_i32 : BitVec 32 := 1#32
  let arg5 : BitVec 32 := Scf.iv c0_i32_2 c1_i32 k0_t1
  let v10 : BitVec 32 := Scalar.subi c63_i32 arg5
  let c8_i32 : BitVec 32 := 8#32
  let v11 : BitVec 32 := Scalar.muli v10 c8_i32
  v11
def k0_off1 (k0_t1 : Fin k0_t1_loop.trips) : Fin 2 → Nat :=
  let c63_i32 : BitVec 32 := 63#32
  let c0_i32_2 : BitVec 32 := 0#32
  let c1_i32 : BitVec 32 := 1#32
  let arg5 : BitVec 32 := Scf.iv c0_i32_2 c1_i32 k0_t1
  let v10 : BitVec 32 := Scalar.subi c63_i32 arg5
  let c8_i32 : BitVec 32 := 8#32
  let v11 : BitVec 32 := Scalar.muli v10 c8_i32
  let v12 : BitVec 32 := v11
  let v13 : Index := Scalar.indexCast v12
  let c0_6 : Index := 0#32
  ![v13.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ScanRefIdeal.lean ====
abbrev S8192x1408 : Shape := ⟨2, ![8192, 1408]⟩
abbrev S_ : Shape := ⟨0, ![]⟩
abbrev S1408 : Shape := ⟨1, ![1408]⟩
abbrev S1x1408 : Shape := ⟨2, ![1, 1408]⟩

abbrev nBuf : Space → Nat
  | .hbm => 34
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S_, .f32⟩
  | .hbm, ⟨4, _⟩ => ⟨S1408, .f32⟩
  | .hbm, ⟨5, _⟩ => ⟨S_, .f32⟩
  | .hbm, ⟨6, _⟩ => ⟨S1408, .f32⟩
  | .hbm, ⟨7, _⟩ => ⟨S_, .f32⟩
  | .hbm, ⟨8, _⟩ => ⟨S8192x1408, .f32⟩
  | .hbm, ⟨9, _⟩ => ⟨S_, .i32⟩
  | .hbm, ⟨10, _⟩ => ⟨S8192x1408, .f32⟩
  | .hbm, ⟨11, _⟩ => ⟨S8192x1408, .f32⟩
  | .hbm, ⟨12, _⟩ => ⟨S_, .i32⟩
  | .hbm, ⟨13, _⟩ => ⟨S1408, .f32⟩
  | .hbm, ⟨14, _⟩ => ⟨S8192x1408, .f32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x1408, .f32⟩
  | .hbm, ⟨23, _⟩ => ⟨S1408, .f32⟩
  | .hbm, ⟨24, _⟩ => ⟨S_, .i32⟩
  | .hbm, ⟨25, _⟩ => ⟨S1x1408, .f32⟩
  | .hbm, ⟨26, _⟩ => ⟨S1408, .f32⟩
  | .hbm, ⟨27, _⟩ => ⟨S1408, .f32⟩
  | .hbm, ⟨28, _⟩ => ⟨S1408, .f32⟩
  | .hbm, ⟨29, _⟩ => ⟨S1x1408, .f32⟩
  | .hbm, ⟨30, _⟩ => ⟨S_, .i32⟩
  | .hbm, ⟨31, _⟩ => ⟨S8192x1408, .f32⟩
  | .hbm, ⟨32, _⟩ => ⟨S_, .i32⟩
  | .hbm, ⟨33, _⟩ => ⟨S_, .i32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_while0c_c_6 : Ref sig .tc := ⟨.hbm, 15, rfl⟩
abbrev main_while0c_v4 : Ref sig .tc := ⟨.hbm, 16, rfl⟩
abbrev main_while0b_c_6 : Ref sig .tc := ⟨.hbm, 17, rfl⟩
abbrev main_while0b_v4 : Ref sig .tc := ⟨.hbm, 18, rfl⟩
abbrev main_while0b_c_7 : Ref sig .tc := ⟨.hbm, 19, rfl⟩
abbrev main_while0b_v5 : Ref sig .tc := ⟨.hbm, 20, rfl⟩
abbrev main_while0b_call0_c : Ref sig .tc := ⟨.hbm, 21, rfl⟩
abbrev main_while0b_call0_v0 : Ref sig .tc := ⟨.hbm, 22, rfl⟩
abbrev main_while0b_v6 : Ref sig .tc := ⟨.hbm, 23, rfl⟩
abbrev main_while0b_call1_c : Ref sig .tc := ⟨.hbm, 24, rfl⟩
abbrev main_while0b_call1_v0 : Ref sig .tc := ⟨.hbm, 25, rfl⟩
abbrev main_while0b_v7 : Ref sig .tc := ⟨.hbm, 26, rfl⟩
abbrev main_while0b_v8 : Ref sig .tc := ⟨.hbm, 27, rfl⟩
abbrev main_while0b_v9 : Ref sig .tc := ⟨.hbm, 28, rfl⟩
abbrev main_while0b_call2_v0 : Ref sig .tc := ⟨.hbm, 29, rfl⟩
abbrev main_while0b_call2_c : Ref sig .tc := ⟨.hbm, 30, rfl⟩
abbrev main_while0b_v10 : Ref sig .tc := ⟨.hbm, 31, rfl⟩
abbrev main_while0b_c_8 : Ref sig .tc := ⟨.hbm, 32, rfl⟩
abbrev main_while0b_v11 : Ref sig .tc := ⟨.hbm, 33, rfl⟩

abbrev nD : Nat := 1
abbrev τ : Topo := Topo.v7x

variable {F : FTy → Type} [FloatOps F]

abbrev main_while0_count : Scf.Loop 32 := ⟨0#32, 8192#32, 1#32⟩
-- ==== Conv4.lean ====
abbrev S8192x1408 : Shape := ⟨2, ![8192, 1408]⟩
abbrev S4x1408 : Shape := ⟨2, ![4, 1408]⟩
abbrev S1408 : Shape := ⟨1, ![1408]⟩
abbrev S8x1408 : Shape := ⟨2, ![8, 1408]⟩
abbrev S1x1408 : Shape := ⟨2, ![1, 1408]⟩
abbrev S8192x128 : Shape := ⟨2, ![8192, 128]⟩
abbrev S4x128 : Shape := ⟨2, ![4, 128]⟩
abbrev S8x128 : Shape := ⟨2, ![8, 128]⟩
abbrev S1x128 : Shape := ⟨2, ![1, 128]⟩
abbrev S8200x128 : Shape := ⟨2, ![8200, 128]⟩
abbrev S64x128 : Shape := ⟨2, ![64, 128]⟩
abbrev S40x128 : Shape := ⟨2, ![40, 128]⟩
abbrev S32x128 : Shape := ⟨2, ![32, 128]⟩
abbrev S128 : Shape := ⟨1, ![128]⟩

abbrev nBuf : Space → Nat
  | .hbm => 7
  | .vmem => 16
  | .smem => 0
  | _ => 0

abbrev bufTy : (tb : Table) → Fin (tcTables nBuf tb) → BufTy
  | .hbm, ⟨0, _⟩ => ⟨S8192x1408, .f32⟩
  | .hbm, ⟨1, _⟩ => ⟨S4x1408, .f32⟩
  | .hbm, ⟨2, _⟩ => ⟨S1408, .f32⟩
  | .hbm, ⟨3, _⟩ => ⟨S8192x1408, .f32⟩
  | .hbm, ⟨4, _⟩ => ⟨S8192x1408, .bf16⟩
  | .hbm, ⟨5, _⟩ => ⟨S8x1408, .f32⟩
  | .hbm, ⟨6, _⟩ => ⟨S1x1408, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S4x128, .f32⟩
  | .local _ .vmem, ⟨5, _⟩ => ⟨S4x128, .f32⟩
  | .local _ .vmem, ⟨6, _⟩ => ⟨S8192x128, .bf16⟩
  | .local _ .vmem, ⟨7, _⟩ => ⟨S8192x128, .bf16⟩
  | .local _ .vmem, ⟨8, _⟩ => ⟨S8x128, .f32⟩
  | .local _ .vmem, ⟨9, _⟩ => ⟨S8x128, .f32⟩
  | .local _ .vmem, ⟨10, _⟩ => ⟨S1x128, .f32⟩
  | .local _ .vmem, ⟨11, _⟩ => ⟨S1x128, .f32⟩
  | .local _ .vmem, ⟨12, _⟩ => ⟨S8200x128, .f32⟩
  | .local _ .vmem, ⟨13, _⟩ => ⟨S8200x128, .f32⟩
  | .local _ .vmem, ⟨14, _⟩ => ⟨S64x128, .f32⟩
  | .local _ .vmem, ⟨15, _⟩ => ⟨S8x128, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c256_i32 : BitVec 32 := 256#32
  let v25 : BitVec 32 := Scalar.addi c0_i32 c256_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v48 : BitVec 32 := Scalar.muli arg11 c32_i32
  v48
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v48 : BitVec 32 := Scalar.muli arg11 c32_i32
  let v49 : BitVec 32 := v48
  let v50 : Index := Scalar.indexCast v49
  let c0_42 : Index := 0#32
  ![v50.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v48 : BitVec 32 := Scalar.muli arg11 c32_i32
  let v49 : BitVec 32 := v48
  let v78 : Index := Scalar.indexCast v49
  let c0_44 : Index := 0#32
  ![v78.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Conv4RefIdeal.lean ====
abbrev S8192x1408 : Shape := ⟨2, ![8192, 1408]⟩
abbrev S4x1408 : Shape := ⟨2, ![4, 1408]⟩
abbrev S1408 : Shape := ⟨1, ![1408]⟩
abbrev S_ : Shape := ⟨0, ![]⟩
abbrev S3x1408 : Shape := ⟨2, ![3, 1408]⟩
abbrev S8195x1408 : Shape := ⟨2, ![8195, 1408]⟩
abbrev S1x1408 : Shape := ⟨2, ![1, 1408]⟩
abbrev S8x1408 : Shape := ⟨2, ![8, 1408]⟩

abbrev nBuf : Space → Nat
  | .hbm => 113
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S4x1408, .f32⟩
  | .hbm, ⟨2, _⟩ => ⟨S1408, .f32⟩
  | .hbm, ⟨3, _⟩ => ⟨S8192x1408, .f32⟩
  | .hbm, ⟨4, _⟩ => ⟨S_, .f32⟩
  | .hbm, ⟨5, _⟩ => ⟨S3x1408, .f32⟩
  | .hbm, ⟨6, _⟩ => ⟨S8195x1408, .f32⟩
  | .hbm, ⟨7, _⟩ => ⟨S_, .f32⟩
  | .hbm, ⟨8, _⟩ => ⟨S3x1408, .f32⟩
  | .hbm, ⟨9, _⟩ => ⟨S1x1408, .f32⟩
  | .hbm, ⟨10, _⟩ => ⟨S1408, .f32⟩
  | .hbm, ⟨11, _⟩ => ⟨S8192x1408, .f32⟩
  | .hbm, ⟨12, _⟩ => ⟨S1x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S1x1408, .f32⟩
  | .hbm, ⟨19, _⟩ => ⟨S1408, .f32⟩
  | .hbm, ⟨20, _⟩ => ⟨S8192x1408, .f32⟩
  | .hbm, ⟨21, _⟩ => ⟨S1x1408, .f32⟩
  | .hbm, ⟨22, _⟩ => ⟨S8192x1408, .f32⟩
  | .hbm, ⟨23, _⟩ => ⟨S8192x1408, .f32⟩
  | .hbm, ⟨24, _⟩ => ⟨S8192x1408, .f32⟩
  | .hbm, ⟨25, _⟩ => ⟨S1x1408, .f32⟩
  | .hbm, ⟨26, _⟩ => ⟨S1408, .f32⟩
  | .hbm, ⟨27, _⟩ => ⟨S8192x1408, .f32⟩
  | .hbm, ⟨28, _⟩ => ⟨S1x1408, .f32⟩
  | .hbm, ⟨29, _⟩ => ⟨S8192x1408, .f32⟩
  | .hbm, ⟨30, _⟩ => ⟨S8192x1408, .f32⟩
  | .hbm, ⟨31, _⟩ => ⟨S8192x1408, .f32⟩
  | .hbm, ⟨32, _⟩ => ⟨S1x1408, .f32⟩
  | .hbm, ⟨33, _⟩ => ⟨S1408, .f32⟩
  | .hbm, ⟨34, _⟩ => ⟨S8192x1408, .f32⟩
  | .hbm, ⟨35, _⟩ => ⟨S1x1408, .f32⟩
  | .hbm, ⟨36, _⟩ => ⟨S8192x1408, .f32⟩
  | .hbm, ⟨37, _⟩ => ⟨S8192x1408, .f32⟩
  | .hbm, ⟨38, _⟩ => ⟨S8192x1408, .f32⟩
  | .hbm, ⟨39, _⟩ => ⟨S1x1408, .f32⟩
  | .hbm, ⟨40, _⟩ => ⟨S8192x1408, .f32⟩
  | .hbm, ⟨41, _⟩ => ⟨S8192x1408, .f32⟩
  | .hbm, ⟨42, _⟩ => ⟨S8192x1408, .f32⟩
  | .hbm, ⟨43, _⟩ => ⟨S_, .f32⟩
  | .hbm, ⟨44, _⟩ => ⟨S1408, .f32⟩
  | .hbm, ⟨45, _⟩ => ⟨S1x1408, .f32⟩
  | .hbm, ⟨46, _⟩ => ⟨S_, .f32⟩
  | .hbm, ⟨47, _⟩ => ⟨S1408, .f32⟩
  | .hbm, ⟨48, _⟩ => ⟨S8192x1408, .f32⟩
  | .hbm, ⟨49, _⟩ => ⟨S8192x1408, .f32⟩
  | .hbm, ⟨50, _⟩ => ⟨S8192x1408, .f32⟩
  | .hbm, ⟨51, _⟩ => ⟨S_, .f32⟩
  | .hbm, ⟨52, _⟩ => ⟨S1408, .f32⟩
  | .hbm, ⟨53, _⟩ => ⟨S1x1408, .f32⟩
  | .hbm, ⟨54, _⟩ => ⟨S_, .f32⟩
  | .hbm, ⟨55, _⟩ => ⟨S1408, .f32⟩
  | .hbm, ⟨56, _⟩ => ⟨S_, .f32⟩
  | .hbm, ⟨57, _⟩ => ⟨S8195x1408, .f32⟩
  | .hbm, ⟨58, _⟩ => ⟨S1x1408, .f32⟩
  | .hbm, ⟨59, _⟩ => ⟨S_, .f32⟩
  | .hbm, ⟨60, _⟩ => ⟨S4x1408, .f32⟩
  | .hbm, ⟨61, _⟩ => ⟨S8192x1408, .f32⟩
  | .hbm, ⟨62, _⟩ => ⟨S8192x1408, .f32⟩
  | .hbm, ⟨63, _⟩ => ⟨S8192x1408, .f32⟩
  | .hbm, ⟨64, _⟩ => ⟨S_, .f32⟩
  | .hbm, ⟨65, _⟩ => ⟨S1408, .f32⟩
  | .hbm, ⟨66, _⟩ => ⟨S1x1408, .f32⟩
  | .hbm, ⟨67, _⟩ => ⟨S_, .f32⟩
  | .hbm, ⟨68, _⟩ => ⟨S1408, .f32⟩
  | .hbm, ⟨69, _⟩ => ⟨S_, .f32⟩
  | .hbm, ⟨70, _⟩ => ⟨S8195x1408, .f32⟩
  | .hbm, ⟨71, _⟩ => ⟨S8195x1408, .f32⟩
  | .hbm, ⟨72, _⟩ => ⟨S1x1408, .f32⟩
  | .hbm, ⟨73, _⟩ => ⟨S_, .f32⟩
  | .hbm, ⟨74, _⟩ => ⟨S4x1408, .f32⟩
  | .hbm, ⟨75, _⟩ => ⟨S4x1408, .f32⟩
  | .hbm, ⟨76, _⟩ => ⟨S8192x1408, .f32⟩
  | .hbm, ⟨77, _⟩ => ⟨S8192x1408, .f32⟩
  | .hbm, ⟨78, _⟩ => ⟨S8192x1408, .f32⟩
  | .hbm, ⟨79, _⟩ => ⟨S_, .f32⟩
  | .hbm, ⟨80, _⟩ => ⟨S1408, .f32⟩
  | .hbm, ⟨81, _⟩ => ⟨S1x1408, .f32⟩
  | .hbm, ⟨82, _⟩ => ⟨S_, .f32⟩
  | .hbm, ⟨83, _⟩ => ⟨S1408, .f32⟩
  | .hbm, ⟨84, _⟩ => ⟨S_, .f32⟩
  | .hbm, ⟨85, _⟩ => ⟨S8195x1408, .f32⟩
  | .hbm, ⟨86, _⟩ => ⟨S8195x1408, .f32⟩
  | .hbm, ⟨87, _⟩ => ⟨S1x1408, .f32⟩
  | .hbm, ⟨88, _⟩ => ⟨S_, .f32⟩
  | .hbm, ⟨89, _⟩ => ⟨S4x1408, .f32⟩
  | .hbm, ⟨90, _⟩ => ⟨S4x1408, .f32⟩
  | .hbm, ⟨91, _⟩ => ⟨S8192x1408, .f32⟩
  | .hbm, ⟨92, _⟩ => ⟨S8192x1408, .f32⟩
  | .hbm, ⟨93, _⟩ => ⟨S8192x1408, .f32⟩
  | .hbm, ⟨94, _⟩ => ⟨S_, .f32⟩
  | .hbm, ⟨95, _⟩ => ⟨S1408, .f32⟩
  | .hbm, ⟨96, _⟩ => ⟨S1x1408, .f32⟩
  | .hbm, ⟨97, _⟩ => ⟨S_, .f32⟩
  | .hbm, ⟨98, _⟩ => ⟨S1408, .f32⟩
  | .hbm, ⟨99, _⟩ => ⟨S_, .f32⟩
  | .hbm, ⟨100, _⟩ => ⟨S8195x1408, .f32⟩
  | .hbm, ⟨101, _⟩ => ⟨S8195x1408, .f32⟩
  | .hbm, ⟨102, _⟩ => ⟨S1x1408, .f32⟩
  | .hbm, ⟨103, _⟩ => ⟨S_, .f32⟩
  | .hbm, ⟨104, _⟩ => ⟨S4x1408, .f32⟩
  | .hbm, ⟨105, _⟩ => ⟨S4x1408, .f32⟩
  | .hbm, ⟨106, _⟩ => ⟨S3x1408, .f32⟩
  | .hbm, ⟨107, _⟩ => ⟨S8192x1408, .f32⟩
  | .hbm, ⟨108, _⟩ => ⟨S8192x1408, .bf16⟩
  | .hbm, ⟨109, _⟩ => ⟨S_, .f32⟩
  | .hbm, ⟨110, _⟩ => ⟨S4x1408, .f32⟩
  | .hbm, ⟨111, _⟩ => ⟨S8x1408, .f32⟩
  | .hbm, ⟨112, _⟩ => ⟨S1x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_cst_14 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_15 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_16 : Ref sig .tc := ⟨.hbm, 94, rfl⟩
abbrev main_v73 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_cst_18 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_19 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_20 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== Conv31.lean ====
abbrev S8192x1024 : Shape := ⟨2, ![8192, 1024]⟩
abbrev S31x1024 : Shape := ⟨2, ![31, 1024]⟩
abbrev S1024 : Shape := ⟨1, ![1024]⟩
abbrev S_ : Shape := ⟨0, ![]⟩
abbrev S1x1024 : Shape := ⟨2, ![1, 1024]⟩
abbrev S8192x128 : Shape := ⟨2, ![8192, 128]⟩
abbrev S31x128 : Shape := ⟨2, ![31, 128]⟩
abbrev S1x128 : Shape := ⟨2, ![1, 128]⟩
abbrev S8224x128 : Shape := ⟨2, ![8224, 128]⟩
abbrev S32x128 : Shape := ⟨2, ![32, 128]⟩
abbrev S64x128 : Shape := ⟨2, ![64, 128]⟩
abbrev S1024x128 : Shape := ⟨2, ![1024, 128]⟩
abbrev S1024x1 : Shape := ⟨2, ![1024, 1]⟩
abbrev S32x1024 : Shape := ⟨2, ![32, 1024]⟩
abbrev S256x128 : Shape := ⟨2, ![256, 128]⟩
abbrev S128 : Shape := ⟨1, ![128]⟩
abbrev S8x128 : Shape := ⟨2, ![8, 128]⟩

abbrev nBuf : Space → Nat
  | .hbm => 31
  | .vmem => 46
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S1x1024, .f32⟩
  | .hbm, ⟨24, _⟩ => ⟨S1x1024, .f32⟩
  | .hbm, ⟨25, _⟩ => ⟨S8192x1024, .bf16⟩
  | .hbm, ⟨26, _⟩ => ⟨S8192x1024, .bf16⟩
  | .hbm, ⟨27, _⟩ => ⟨S32x1024, .f32⟩
  | .hbm, ⟨28, _⟩ => ⟨S1x1024, .f32⟩
  | .hbm, ⟨29, _⟩ => ⟨S1x1024, .f32⟩
  | .hbm, ⟨30, _⟩ => ⟨S1x1024, .f32⟩
  | .local _ .vmem, ⟨0, _⟩ => ⟨S8192x128, .f32⟩
  | .local _ .vmem, ⟨1, _⟩ => ⟨S8192x128, .f32⟩
  | .local _ .vmem, ⟨2, _⟩ => ⟨S31x128, .f32⟩
  | .local _ .vmem, ⟨3, _⟩ => ⟨S31x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S8192x128, .f32⟩
  | .local _ .vmem, ⟨11, _⟩ => ⟨S8192x128, .f32⟩
  | .local _ .vmem, ⟨12, _⟩ => ⟨S8192x128, .bf16⟩
  | .local _ .vmem, ⟨13, _⟩ => ⟨S8192x128, .bf16⟩
  | .local _ .vmem, ⟨14, _⟩ => ⟨S8224x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S8192x128, .bf16⟩
  | .local _ .vmem, ⟨22, _⟩ => ⟨S8192x128, .bf16⟩
  | .local _ .vmem, ⟨23, _⟩ => ⟨S8192x128, .bf16⟩
  | .local _ .vmem, ⟨24, _⟩ => ⟨S8192x128, .bf16⟩
  | .local _ .vmem, ⟨25, _⟩ => ⟨S31x128, .f32⟩
  | .local _ .vmem, ⟨26, _⟩ => ⟨S31x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S8192x128, .bf16⟩
  | .local _ .vmem, ⟨32, _⟩ => ⟨S8192x128, .bf16⟩
  | .local _ .vmem, ⟨33, _⟩ => ⟨S8192x128, .bf16⟩
  | .local _ .vmem, ⟨34, _⟩ => ⟨S8192x128, .bf16⟩
  | .local _ .vmem, ⟨35, _⟩ => ⟨S32x128, .f32⟩
  | .local _ .vmem, ⟨36, _⟩ => ⟨S32x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S8224x128, .f32⟩
  | .local _ .vmem, ⟨44, _⟩ => ⟨S8224x128, .f32⟩
  | .local _ .vmem, ⟨45, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg12_1 : Ref sig .tc := ⟨.vmem, 40, rfl⟩
abbrev cc1_stg13_0 : Ref sig .tc := ⟨.vmem, 41, rfl⟩
abbrev cc1_stg13_1 : Ref sig .tc := ⟨.vmem, 42, rfl⟩
abbrev cc1_scratch0 : Ref sig .tc := ⟨.vmem, 43, rfl⟩
abbrev cc1_scratch1 : Ref sig .tc := ⟨.vmem, 44, rfl⟩
abbrev cc1_scratch2 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c256_i32 : BitVec 32 := 256#32
  let v16 : BitVec 32 := Scalar.addi c0_i32 c256_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v18 : BitVec 32 := Scalar.muli arg9 c32_i32
  v18
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v18 : BitVec 32 := Scalar.muli arg9 c32_i32
  let v19 : BitVec 32 := v18
  let v20 : Index := Scalar.indexCast v19
  let c0_16 : Index := 0#32
  ![v20.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v18 : BitVec 32 := Scalar.muli arg9 c32_i32
  let v19 : BitVec 32 := v18
  let v185 : Index := Scalar.indexCast v19
  let c0_17 : Index := 0#32
  ![v185.toNat, 0]
@[reducible] def k0_t2_loop : Scf.Loop 32 :=
  let c0_i32_13 : BitVec 32 := 0#32
  let c8_i32 : BitVec 32 := 8#32
  let v17 : BitVec 32 := Scalar.addi c0_i32_13 c8_i32
  let c1_i32_14 : BitVec 32 := 1#32
  ⟨c0_i32_13, v17, c1_i32_14⟩
def k0_mult2 (k0_t2 : Fin k0_t2_loop.trips) : BitVec 32 :=
  let c0_i32_13 : BitVec 32 := 0#32
  let c1_i32_14 : BitVec 32 := 1#32
  let arg9 : BitVec 32 := Scf.iv c0_i32_13 c1_i32_14 k0_t2
  let c1024_i32 : BitVec 32 := 1024#32
  let v18 : BitVec 32 := Scalar.muli arg9 c1024_i32
  v18
def k0_off3 (k0_t2 : Fin k0_t2_loop.trips) : Fin 2 → Nat :=
  let c0_i32_13 : BitVec 32 := 0#32
  let c1_i32_14 : BitVec 32 := 1#32
  let arg9 : BitVec 32 := Scf.iv c0_i32_13 c1_i32_14 k0_t2
  let c1024_i32 : BitVec 32 := 1024#32
  let v18 : BitVec 32 := Scalar.muli arg9 c1024_i32
  let v19 : BitVec 32 := v18
  let v20 : Index := Scalar.indexCast v19
  let c0_16 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

@[reducible] def k1_t1_loop : Scf.Loop 32 :=
  let c0_i32 : BitVec 32 := 0#32
  let c8_i32 : BitVec 32 := 8#32
  let v28 : BitVec 32 := Scalar.addi c0_i32 c8_i32
  let c1_i32 : BitVec 32 := 1#32
  ⟨c0_i32, v28, c1_i32⟩
def k1_mult1 (k1_t1 : Fin k1_t1_loop.trips) : BitVec 32 :=
  let c0_i32 : BitVec 32 := 0#32
  let c1_i32 : BitVec 32 := 1#32
  let arg18 : BitVec 32 := Scf.iv c0_i32 c1_i32 k1_t1
  let c1024_i32 : BitVec 32 := 1024#32
  let v156 : BitVec 32 := Scalar.muli arg18 c1024_i32
  v156
def k1_off1 (k1_t1 : Fin k1_t1_loop.trips) : Fin 2 → Nat :=
  let c0_i32 : BitVec 32 := 0#32
  let c1_i32 : BitVec 32 := 1#32
  let arg18 : BitVec 32 := Scf.iv c0_i32 c1_i32 k1_t1
  let c1024_i32 : BitVec 32 := 1024#32
  let v156 : BitVec 32 := Scalar.muli arg18 c1024_i32
  let v157 : BitVec 32 := v156
  let v158 : Index := Scalar.indexCast v157
  let c0_130 : Index := 0#32
  ![v158.toNat, 0]
def k1_off2 (k1_t1 : Fin k1_t1_loop.trips) : Fin 2 → Nat :=
  let c0_i32 : BitVec 32 := 0#32
  let c1_i32 : BitVec 32 := 1#32
  let arg18 : BitVec 32 := Scf.iv c0_i32 c1_i32 k1_t1
  let c1024_i32 : BitVec 32 := 1024#32
  let v156 : BitVec 32 := Scalar.muli arg18 c1024_i32
  let v157 : BitVec 32 := v156
  let v222 : Index := Scalar.indexCast v157
  let c0_153 : Index := 0#32
  ![v222.toNat, 0]
@[reducible] def k1_t2_loop : Scf.Loop 32 :=
  let c0_i32_25 : BitVec 32 := 0#32
  let c256_i32 : BitVec 32 := 256#32
  let v29 : BitVec 32 := Scalar.addi c0_i32_25 c256_i32
  let c1_i32_26 : BitVec 32 := 1#32
  ⟨c0_i32_25, v29, c1_i32_26⟩
def k1_mult2 (k1_t2 : Fin k1_t2_loop.trips) : BitVec 32 :=
  let c0_i32_25 : BitVec 32 := 0#32
  let c1_i32_26 : BitVec 32 := 1#32
  let arg18 : BitVec 32 := Scf.iv c0_i32_25 c1_i32_26 k1_t2
  let c32_i32 : BitVec 32 := 32#32
  let v156 : BitVec 32 := Scalar.muli arg18 c32_i32
  v156
def k1_off3 (k1_t2 : Fin k1_t2_loop.trips) : Fin 2 → Nat :=
  let c0_i32_25 : BitVec 32 := 0#32
  let c1_i32_26 : BitVec 32 := 1#32
  let arg18 : BitVec 32 := Scf.iv c0_i32_25 c1_i32_26 k1_t2
  let c32_i32 : BitVec 32 := 32#32
  let v156 : BitVec 32 := Scalar.muli arg18 c32_i32
  let v157 : BitVec 32 := v156
  let v158 : Index := Scalar.indexCast v157
  let c0_130 : Index := 0#32
  ![v158.toNat, 0]
def k1_off4 (k1_t2 : Fin k1_t2_loop.trips) : Fin 2 → Nat :=
  let c0_i32_25 : BitVec 32 := 0#32
  let c1_i32_26 : BitVec 32 := 1#32
  let arg18 : BitVec 32 := Scf.iv c0_i32_25 c1_i32_26 k1_t2
  let c32_i32 : BitVec 32 := 32#32
  let v156 : BitVec 32 := Scalar.muli arg18 c32_i32
  let v157 : BitVec 32 := v156
  let v765 : Index := Scalar.indexCast v157
  let c0_263 : Index := 0#32
  ![v765.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8192x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S31x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8192x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8192x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S32x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== Conv31RefIdeal.lean ====
abbrev S8192x1024 : Shape := ⟨2, ![8192, 1024]⟩
abbrev S31x1024 : Shape := ⟨2, ![31, 1024]⟩
abbrev S1024 : Shape := ⟨1, ![1024]⟩
abbrev S_ : Shape := ⟨0, ![]⟩
abbrev S31x8192x8192 : Shape := ⟨3, ![31, 8192, 8192]⟩
abbrev S31x8192x1024 : Shape := ⟨3, ![31, 8192, 1024]⟩
abbrev S31x1x1024 : Shape := ⟨3, ![31, 1, 1024]⟩
abbrev S1x1024 : Shape := ⟨2, ![1, 1024]⟩
abbrev S8192x8x128 : Shape := ⟨3, ![8192, 8, 128]⟩
abbrev S8192x8 : Shape := ⟨2, ![8192, 8]⟩
abbrev S8192x8x1 : Shape := ⟨3, ![8192, 8, 1]⟩
abbrev S31x1024x8192 : Shape := ⟨3, ![31, 1024, 8192]⟩
abbrev S32x1024 : Shape := ⟨2, ![32, 1024]⟩

abbrev nBuf : Space → Nat
  | .hbm => 166
  | .vmem => 0
  | .smem => 0
  | _ => 0

abbrev hbmTy0_0 (i : Nat) : BufTy := match i % 128 with
  | 0 => ⟨S8192x1024, .f32⟩
  | 1 => ⟨S8192x1024, .f32⟩
  | 2 => ⟨S31x1024, .f32⟩
  | 3 => ⟨S1024, .f32⟩
  | 4 => ⟨S1024, .f32⟩
  | 5 => ⟨S1024, .f32⟩
  | 6 => ⟨S8192x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S8192x1024, .f32⟩
  | 20 => ⟨S31x8192x8192, .i32⟩
  | 21 => ⟨S31x8192x8192, .i32⟩
  | 22 => ⟨S31x8192x8192, .i32⟩
  | 23 => ⟨S_, .i32⟩
  | 24 => ⟨S31x8192x8192, .i32⟩
  | 25 => ⟨S31x8192x8192, .i32⟩
  | 26 => ⟨S31x8192x8192, .i32⟩
  | 27 => ⟨S31x8192x8192, .i1⟩
  | 28 => ⟨S_, .f32⟩
  | 29 => ⟨S_, .f32⟩
  | 30 => ⟨S31x8192x8192, .f32⟩
  | 31 => ⟨S31x8192x8192, .f32⟩
  | 32 => ⟨S31x8192x8192, .f32⟩
  | 33 => ⟨S31x8192x1024, .f32⟩
  | 34 => ⟨S31x8192x1024, .f32⟩
  | 35 => ⟨S31x1x1024, .f32⟩
  | 36 => ⟨S31x8192x1024, .f32⟩
  | 37 => ⟨S31x8192x1024, .f32⟩
  | 38 => ⟨S_, .f32⟩
  | 39 => ⟨S8192x1024, .f32⟩
  | 40 => ⟨S1x1024, .f32⟩
  | 41 => ⟨S8192x1024, .f32⟩
  | 42 => ⟨S8192x1024, .f32⟩
  | 43 => ⟨S8192x8x128, .f32⟩
  | 44 => ⟨S_, .f32⟩
  | 45 => ⟨S8192x8, .f32⟩
  | 46 => ⟨S8192x8x1, .f32⟩
  | 47 => ⟨S_, .f32⟩
  | 48 => ⟨S8192x8x1, .f32⟩
  | 49 => ⟨S8192x8x1, .f32⟩
  | 50 => ⟨S8192x8x128, .f32⟩
  | 51 => ⟨S8192x8x128, .f32⟩
  | 52 => ⟨S8192x8x128, .f32⟩
  | 53 => ⟨S_, .f32⟩
  | 54 => ⟨S8192x8, .f32⟩
  | 55 => ⟨S8192x8x1, .f32⟩
  | 56 => ⟨S_, .f32⟩
  | 57 => ⟨S8192x8x1, .f32⟩
  | 58 => ⟨S8192x8x1, .f32⟩
  | 59 => ⟨S_, .f32⟩
  | 60 => ⟨S8192x8x1, .f32⟩
  | 61 => ⟨S8192x8x1, .f32⟩
  | 62 => ⟨S8192x8x1, .f32⟩
  | 63 => ⟨S8192x8x1, .f32⟩
  | 64 => ⟨S_, .f32⟩
  | 65 => ⟨S8192x8x1, .f32⟩
  | 66 => ⟨S8192x8x1, .f32⟩
  | 67 => ⟨S8192x8x128, .f32⟩
  | 68 => ⟨S8192x8x128, .f32⟩
  | 69 => ⟨S8192x1024, .f32⟩
  | 70 => ⟨S1x1024, .f32⟩
  | 71 => ⟨S8192x1024, .f32⟩
  | 72 => ⟨S8192x1024, .f32⟩
  | 73 => ⟨S1x1024, .f32⟩
  | 74 => ⟨S8192x1024, .f32⟩
  | 75 => ⟨S8192x1024, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S_, .f32⟩
  | 94 => ⟨S1024, .f32⟩
  | 95 => ⟨S1x1024, .f32⟩
  | 96 => ⟨S_, .f32⟩
  | 97 => ⟨S1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S_, .f32⟩
  | 105 => ⟨S1024, .f32⟩
  | 106 => ⟨S8192x8x128, .f32⟩
  | 107 => ⟨S8192x8x128, .f32⟩
  | 108 => ⟨S_, .f32⟩
  | 109 => ⟨S8192x8, .f32⟩
  | 110 => ⟨S8192x8x1, .f32⟩
  | 111 => ⟨S8192x8x128, .f32⟩
  | 112 => ⟨S8192x8x128, .f32⟩
  | 113 => ⟨S8192x8x1, .f32⟩
  | 114 => ⟨S_, .f32⟩
  | 115 => ⟨S8192x8x1, .f32⟩
  | 116 => ⟨S8192x8x1, .f32⟩
  | 117 => ⟨S_, .f32⟩
  | 118 => ⟨S8192x8, .f32⟩
  | 119 => ⟨S8192x8x128, .f32⟩
  | 120 => ⟨S8192x8x128, .f32⟩
  | 121 => ⟨S8192x8x128, .f32⟩
  | 122 => ⟨S8192x8x128, .f32⟩
  | 123 => ⟨S8192x8x128, .f32⟩
  | 124 => ⟨S8192x8x128, .f32⟩
  | 125 => ⟨S_, .f32⟩
  | 126 => ⟨S8192x8, .f32⟩
  | 127 => ⟨S8192x8x1, .f32⟩
  | _ => ⟨S8192x1024, .f32⟩

abbrev hbmTy0_1 (i : Nat) : BufTy := match i % 128 with
  | 0 => ⟨S_, .f32⟩
  | 1 => ⟨S8192x8x1, .f32⟩
  | 2 => ⟨S8192x8x1, .f32⟩
  | 3 => ⟨S_, .f32⟩
  | 4 => ⟨S8192x8, .f32⟩
  | 5 => ⟨S8192x8x128, .f32⟩
  | 6 => ⟨S8192x8x128, .f32⟩
  | 7 => ⟨S8192x1024, .f32⟩
  | 8 => ⟨S_, .f32⟩
  | 9 => ⟨S1024, .f32⟩
  | 10 => ⟨S1x1024, .f32⟩
  | 11 => ⟨S_, .f32⟩
  | 12 => ⟨S1024, .f32⟩
  | 13 => ⟨S31x8192x1024, .f32⟩
  | 14 => ⟨S31x8192x1024, .f32⟩
  | 15 => ⟨S31x8192x1024, .f32⟩
  | 16 => ⟨S31x8192x1024, .f32⟩
  | 17 => ⟨S_, .f32⟩
  | 18 => ⟨S31x1024, .f32⟩
  | 19 => ⟨S31x1x1024, .f32⟩
  | 20 => ⟨S_, .f32⟩
  | 21 => ⟨S31x1024, .f32⟩
  | 22 => ⟨S31x1024x8192, .f32⟩
  | 23 => ⟨S31x8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S8192x1024, .bf16⟩
  | 30 => ⟨S8192x1024, .bf16⟩
  | 31 => ⟨S8192x1024, .bf16⟩
  | 32 => ⟨S_, .f32⟩
  | 33 => ⟨S1x1024, .f32⟩
  | 34 => ⟨S32x1024, .f32⟩
  | 35 => ⟨S1x1024, .f32⟩
  | 36 => ⟨S1x1024, .f32⟩
  | 37 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_v54_2 : Ref sig .tc := ⟨.hbm, 83, rfl⟩
abbrev main_call1_cst_1 : Ref sig .tc := ⟨.hbm, 84, rfl⟩
abbrev main_call1_v6 : Ref sig .tc := ⟨.hbm, 85, rfl⟩
abbrev main_call1_v7 : Ref sig .tc := ⟨.hbm, 86, rfl⟩
abbrev main_v54_1 : Ref sig .tc := ⟨.hbm, 87, rfl⟩
abbrev main_v54_0 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v55 : Ref sig .tc := ⟨.hbm, 92, rfl⟩
abbrev main_cst_11 : Ref sig .tc := ⟨.hbm, 93, rfl⟩
abbrev main_v56 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_14 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_15 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_16 : Ref sig .tc := ⟨.hbm, 114, rfl⟩
abbrev main_v72 : Ref sig .tc := ⟨.hbm, 115, rfl⟩
abbrev main_v73 : Ref sig .tc := ⟨.hbm, 116, rfl⟩
abbrev main_cst_17 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_18 : Ref sig .tc := ⟨.hbm, 125, rfl⟩
abbrev main_v81 : Ref sig .tc := ⟨.hbm, 126, rfl⟩
abbrev main_v82 : Ref sig .tc := ⟨.hbm, 127, rfl⟩
abbrev main_cst_19 : Ref sig .tc := ⟨.hbm, 128, rfl⟩
abbrev main_v83 : Ref sig .tc := ⟨.hbm, 129, rfl⟩
abbrev main_v84 : Ref sig .tc := ⟨.hbm, 130, rfl⟩
abbrev main_cst_20 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_21 : Ref sig .tc := ⟨.hbm, 136, rfl⟩
abbrev main_v89 : Ref sig .tc := ⟨.hbm, 137, rfl⟩
abbrev main_v90 : Ref sig .tc := ⟨.hbm, 138, rfl⟩
abbrev main_cst_22 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_23 : Ref sig .tc := ⟨.hbm, 145, rfl⟩
abbrev main_v96 : Ref sig .tc := ⟨.hbm, 146, rfl⟩
abbrev main_v97 : Ref sig .tc := ⟨.hbm, 147, rfl⟩
abbrev main_cst_24 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_25 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_26 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S512 : Shape := ⟨1, ![512]⟩
abbrev S512x1 : Shape := ⟨2, ![512, 1]⟩

abbrev nBuf : Space → Nat
  | .hbm => 37
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8x128, .f32⟩
  | .hbm, ⟨33, _⟩ => ⟨S8192x1024, .f32⟩
  | .hbm, ⟨34, _⟩ => ⟨S8192x1024, .bf16⟩
  | .hbm, ⟨35, _⟩ => ⟨S1x1024, .f32⟩
  | .hbm, ⟨36, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8x128, .f32⟩
  | .hbm, ⟨100, _⟩ => ⟨S8192x1024, .bf16⟩
  | .hbm, ⟨101, _⟩ => ⟨S1x1024, .f32⟩
  | .hbm, ⟨102, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_cst_10 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_cst_15 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_cst_17 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_18 : Ref sig .tc := ⟨.hbm, 78, rfl⟩
abbrev main_v55 : Ref sig .tc := ⟨.hbm, 79, rfl⟩
abbrev main_v56 : Ref sig .tc := ⟨.hbm, 80, rfl⟩
abbrev main_cst_19 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_cst_21 : Ref sig .tc := ⟨.hbm, 92, rfl⟩
abbrev main_v66 : Ref sig .tc := ⟨.hbm, 93, rfl⟩
abbrev main_v67 : Ref sig .tc := ⟨.hbm, 94, rfl⟩
abbrev main_cst_22 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S5632x1024 : Shape := ⟨2, ![5632, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S8192x5632, .f32⟩
  | .hbm, ⟨5, _⟩ => ⟨S8192x1024, .f32⟩
  | .hbm, ⟨6, _⟩ => ⟨S8192x5632, .bf16⟩
  | .hbm, ⟨7, _⟩ => ⟨S5632x1024, .f32⟩
  | .hbm, ⟨8, _⟩ => ⟨S5632x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .hbm, ⟨13, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRefIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S8192x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x5632, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .bf16⟩
  | .hbm, ⟨88, _⟩ => ⟨S1x1024, .f32⟩
  | .hbm, ⟨89, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Mixin.lean ====
abbrev S8192x1024 : Shape := ⟨2, ![8192, 1024]⟩
abbrev S1024 : Shape := ⟨1, ![1024]⟩
abbrev S1024x6912 : Shape := ⟨2, ![1024, 6912]⟩
abbrev S6912 : Shape := ⟨1, ![6912]⟩
abbrev S8192x6912 : Shape := ⟨2, ![8192, 6912]⟩
abbrev S8192x1408 : Shape := ⟨2, ![8192, 1408]⟩
abbrev S8192x3456 : Shape := ⟨2, ![8192, 3456]⟩
abbrev S6912x1024 : Shape := ⟨2, ![6912, 1024]⟩
abbrev S1x1024 : Shape := ⟨2, ![1, 1024]⟩
abbrev S1x6912 : Shape := ⟨2, ![1, 6912]⟩
abbrev S512x1024 : Shape := ⟨2, ![512, 1024]⟩
abbrev S512x1408 : Shape := ⟨2, ![512, 1408]⟩
abbrev S512x3456 : Shape := ⟨2, ![512, 3456]⟩
abbrev S1024x1024 : Shape := ⟨2, ![1024, 1024]⟩
abbrev S1408x1024 : Shape := ⟨2, ![1408, 1024]⟩
abbrev S3456x1024 : Shape := ⟨2, ![3456, 1024]⟩
abbrev S512 : Shape := ⟨1, ![512]⟩
abbrev S512x1 : Shape := ⟨2, ![512, 1]⟩
abbrev S1x1408 : Shape := ⟨2, ![1, 1408]⟩
abbrev S1408 : Shape := ⟨1, ![1408]⟩
abbrev S1x3456 : Shape := ⟨2, ![1, 3456]⟩
abbrev S3456 : Shape := ⟨1, ![3456]⟩

abbrev nBuf : Space → Nat
  | .hbm => 23
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x6912, .f32⟩
  | .hbm, ⟨4, _⟩ => ⟨S6912, .f32⟩
  | .hbm, ⟨5, _⟩ => ⟨S8192x6912, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1408, .f32⟩
  | .hbm, ⟨10, _⟩ => ⟨S8192x3456, .f32⟩
  | .hbm, ⟨11, _⟩ => ⟨S8192x1024, .bf16⟩
  | .hbm, ⟨12, _⟩ => ⟨S8192x1024, .bf16⟩
  | .hbm, ⟨13, _⟩ => ⟨S8192x1408, .bf16⟩
  | .hbm, ⟨14, _⟩ => ⟨S8192x3456, .bf16⟩
  | .hbm, ⟨15, _⟩ => ⟨S6912x1024, .f32⟩
  | .hbm, ⟨16, _⟩ => ⟨S6912x1024, .bf16⟩
  | .hbm, ⟨17, _⟩ => ⟨S1x1024, .f32⟩
  | .hbm, ⟨18, _⟩ => ⟨S8192x1024, .f32⟩
  | .hbm, ⟨19, _⟩ => ⟨S8192x1024, .bf16⟩
  | .hbm, ⟨20, _⟩ => ⟨S1x1024, .f32⟩
  | .hbm, ⟨21, _⟩ => ⟨S1x1024, .f32⟩
  | .hbm, ⟨22, _⟩ => ⟨S1x6912, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1408, .bf16⟩
  | .local _ .vmem, ⟨5, _⟩ => ⟨S512x1408, .bf16⟩
  | .local _ .vmem, ⟨6, _⟩ => ⟨S512x3456, .bf16⟩
  | .local _ .vmem, ⟨7, _⟩ => ⟨S512x3456, .bf16⟩
  | .local _ .vmem, ⟨8, _⟩ => ⟨S6912x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | .local _ .vmem, ⟨20, _⟩ => ⟨S1x6912, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3456 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6912x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x6912 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixinRefIdeal.lean ====
abbrev S8192x1024 : Shape := ⟨2, ![8192, 1024]⟩
abbrev S1024 : Shape := ⟨1, ![1024]⟩
abbrev S1024x6912 : Shape := ⟨2, ![1024, 6912]⟩
abbrev S6912 : Shape := ⟨1, ![6912]⟩
abbrev S8192x6912 : Shape := ⟨2, ![8192, 6912]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x6912 : Shape := ⟨2, ![1, 6912]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x6912, .f32⟩
  | .hbm, ⟨4, _⟩ => ⟨S6912, .f32⟩
  | .hbm, ⟨5, _⟩ => ⟨S8192x6912, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x6912, .f32⟩
  | .hbm, ⟨39, _⟩ => ⟨S1x6912, .f32⟩
  | .hbm, ⟨40, _⟩ => ⟨S8192x6912, .f32⟩
  | .hbm, ⟨41, _⟩ => ⟨S8192x6912, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x6912, .f32⟩
  | .hbm, ⟨49, _⟩ => ⟨S_, .f32⟩
  | .hbm, ⟨50, _⟩ => ⟨S6912, .f32⟩
  | .hbm, ⟨51, _⟩ => ⟨S1x6912, .f32⟩
  | .hbm, ⟨52, _⟩ => ⟨S_, .f32⟩
  | .hbm, ⟨53, _⟩ => ⟨S6912, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S1x1024, .f32⟩
  | .hbm, ⟨99, _⟩ => ⟨S1x1024, .f32⟩
  | .hbm, ⟨100, _⟩ => ⟨S1x6912, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_v66 : Ref sig .tc := ⟨.hbm, 92, rfl⟩
abbrev main_cst_18 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Mix.lean ====
abbrev S8192x1024 : Shape := ⟨2, ![8192, 1024]⟩
abbrev S8192x1408 : Shape := ⟨2, ![8192, 1408]⟩
abbrev S1024x1024 : Shape := ⟨2, ![1024, 1024]⟩
abbrev S1408x1024 : Shape := ⟨2, ![1408, 1024]⟩
abbrev S_ : Shape := ⟨0, ![]⟩
abbrev S8192x3456 : Shape := ⟨2, ![8192, 3456]⟩
abbrev S512x1024 : Shape := ⟨2, ![512, 1024]⟩
abbrev S512x1408 : Shape := ⟨2, ![512, 1408]⟩
abbrev S512x3456 : Shape := ⟨2, ![512, 3456]⟩

abbrev nBuf : Space → Nat
  | .hbm => 46
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1408, .f32⟩
  | .hbm, ⟨2, _⟩ => ⟨S8192x1408, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1408x1024, .f32⟩
  | .hbm, ⟨7, _⟩ => ⟨S1024x1024, .f32⟩
  | .hbm, ⟨8, _⟩ => ⟨S8192x1024, .f32⟩
  | .hbm, ⟨9, _⟩ => ⟨S8192x1408, .bf16⟩
  | .hbm, ⟨10, _⟩ => ⟨S1024x1024, .bf16⟩
  | .hbm, ⟨11, _⟩ => ⟨S1408x1024, .bf16⟩
  | .hbm, ⟨12, _⟩ => ⟨S8192x1408, .f32⟩
  | .hbm, ⟨13, _⟩ => ⟨S_, .f32⟩
  | .hbm, ⟨14, _⟩ => ⟨S8192x1408, .f32⟩
  | .hbm, ⟨15, _⟩ => ⟨S8192x1408, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S8192x1408, .f32⟩
  | .hbm, ⟨23, _⟩ => ⟨S_, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S8192x1408, .f32⟩
  | .hbm, ⟨31, _⟩ => ⟨S8192x1408, .bf16⟩
  | .hbm, ⟨32, _⟩ => ⟨S8192x1024, .bf16⟩
  | .hbm, ⟨33, _⟩ => ⟨S8192x1024, .f32⟩
  | .hbm, ⟨34, _⟩ => ⟨S8192x1024, .bf16⟩
  | .hbm, ⟨35, _⟩ => ⟨S8192x1024, .f32⟩
  | .hbm, ⟨36, _⟩ => ⟨S8192x1024, .bf16⟩
  | .hbm, ⟨37, _⟩ => ⟨S8192x1024, .bf16⟩
  | .hbm, ⟨38, _⟩ => ⟨S1024x1024, .bf16⟩
  | .hbm, ⟨39, _⟩ => ⟨S8192x1024, .bf16⟩
  | .hbm, ⟨40, _⟩ => ⟨S8192x1024, .bf16⟩
  | .hbm, ⟨41, _⟩ => ⟨S8192x1024, .bf16⟩
  | .hbm, ⟨42, _⟩ => ⟨S8192x1024, .bf16⟩
  | .hbm, ⟨43, _⟩ => ⟨S8192x3456, .bf16⟩
  | .hbm, ⟨44, _⟩ => ⟨S8192x1024, .f32⟩
  | .hbm, ⟨45, _⟩ => ⟨S8192x1408, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .f32⟩
  | .local _ .vmem, ⟨16, _⟩ => ⟨S512x1408, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3456, .bf16⟩
  | .local _ .vmem, ⟨22, _⟩ => ⟨S512x3456, .bf16⟩
  | .local _ .vmem, ⟨23, _⟩ => ⟨S512x1024, .f32⟩
  | .local _ .vmem, ⟨24, _⟩ => ⟨S512x1024, .f32⟩
  | .local _ .vmem, ⟨25, _⟩ => ⟨S512x1408, .f32⟩
  | .local _ .vmem, ⟨26, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev main_v28_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3456 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== MixRefIdeal.lean ====
abbrev S8192x1024 : Shape := ⟨2, ![8192, 1024]⟩
abbrev S8192x1408 : Shape := ⟨2, ![8192, 1408]⟩
abbrev S1024x1024 : Shape := ⟨2, ![1024, 1024]⟩
abbrev S1408x1024 : Shape := ⟨2, ![1408, 1024]⟩
abbrev S_ : Shape := ⟨0, ![]⟩
abbrev S8192x3456 : Shape := ⟨2, ![8192, 3456]⟩

abbrev nBuf : Space → Nat
  | .hbm => 34
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1408, .f32⟩
  | .hbm, ⟨2, _⟩ => ⟨S8192x1408, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1408x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1408, .f32⟩
  | .hbm, ⟨11, _⟩ => ⟨S8192x1408, .f32⟩
  | .hbm, ⟨12, _⟩ => ⟨S_, .f32⟩
  | .hbm, ⟨13, _⟩ => ⟨S8192x1408, .f32⟩
  | .hbm, ⟨14, _⟩ => ⟨S8192x1408, .f32⟩
  | .hbm, ⟨15, _⟩ => ⟨S8192x1408, .f32⟩
  | .hbm, ⟨16, _⟩ => ⟨S_, .f32⟩
  | .hbm, ⟨17, _⟩ => ⟨S8192x1408, .f32⟩
  | .hbm, ⟨18, _⟩ => ⟨S8192x1408, .f32⟩
  | .hbm, ⟨19, _⟩ => ⟨S8192x1408, .f32⟩
  | .hbm, ⟨20, _⟩ => ⟨S_, .f32⟩
  | .hbm, ⟨21, _⟩ => ⟨S8192x1408, .f32⟩
  | .hbm, ⟨22, _⟩ => ⟨S8192x1408, .f32⟩
  | .hbm, ⟨23, _⟩ => ⟨S_, .f32⟩
  | .hbm, ⟨24, _⟩ => ⟨S8192x1408, .f32⟩
  | .hbm, ⟨25, _⟩ => ⟨S8192x1408, .f32⟩
  | .hbm, ⟨26, _⟩ => ⟨S8192x1408, .f32⟩
  | .hbm, ⟨27, _⟩ => ⟨S8192x1408, .f32⟩
  | .hbm, ⟨28, _⟩ => ⟨S8192x1024, .f32⟩
  | .hbm, ⟨29, _⟩ => ⟨S8192x1024, .bf16⟩
  | .hbm, ⟨30, _⟩ => ⟨S8192x1024, .bf16⟩
  | .hbm, ⟨31, _⟩ => ⟨S8192x3456, .bf16⟩
  | .hbm, ⟨32, _⟩ => ⟨S8192x1024, .f32⟩
  | .hbm, ⟨33, _⟩ => ⟨S8192x1408, .f32⟩
  | .local _ .vmem, ⟨0, _⟩ => ⟨S8192x1024, .f32⟩
  | .local _ .vmem, ⟨1, _⟩ => ⟨S8192x1408, .f32⟩
  | .local _ .vmem, ⟨2, _⟩ => ⟨S8192x1408, .f32⟩
  | .local _ .vmem, ⟨3, _⟩ => ⟨S8192x1024, .f32⟩
  | .local _ .vmem, ⟨4, _⟩ => ⟨S8192x1024, .f32⟩
  | .local _ .vmem, ⟨5, _⟩ => ⟨S8192x1024, .f32⟩
  | .local _ .vmem, ⟨6, _⟩ => ⟨S8192x1024, .f32⟩
  | .local _ .vmem, ⟨7, _⟩ => ⟨S1024x1024, .f32⟩
  | .local _ .vmem, ⟨8, _⟩ => ⟨S1408x1024, .f32⟩
  | .local _ .vmem, ⟨9, _⟩ => ⟨S1024x1024, .f32⟩
  | .local _ .vmem, ⟨10, _⟩ => ⟨S8192x1024, .f32⟩
  | .local _ .vmem, ⟨11, _⟩ => ⟨S8192x1024, .bf16⟩
  | .local _ .vmem, ⟨12, _⟩ => ⟨S8192x1024, .bf16⟩
  | .local _ .vmem, ⟨13, _⟩ => ⟨S8192x3456, .bf16⟩
  | .local _ .vmem, ⟨14, _⟩ => ⟨S8192x1024, .f32⟩
  | .local _ .vmem, ⟨15, _⟩ => ⟨S8192x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F] [Named F]

def κ : String → Option EReal := fun
  | "gelu_c" => some ((8943 / 200000 : ℝ) : EReal)
  | _ => none

abbrev grid0 : Pipeline.Grid := .none

abbrev stage0_0 : Fin 1 → Memref sig .tc .vmem S8192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1408x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x3456 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8192x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8192x1408 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Gates.lean ====
abbrev S8192x1408 : Shape := ⟨2, ![8192, 1408]⟩
abbrev S1408 : Shape := ⟨1, ![1408]⟩
abbrev S1408x1408 : Shape := ⟨2, ![1408, 1408]⟩
abbrev S1x1408 : Shape := ⟨2, ![1, 1408]⟩
abbrev S512x1408 : Shape := ⟨2, ![512, 1408]⟩
abbrev S512x256 : Shape := ⟨2, ![512, 256]⟩
abbrev S1x256 : Shape := ⟨2, ![1, 256]⟩
abbrev S256 : Shape := ⟨1, ![256]⟩
abbrev S512x128 : Shape := ⟨2, ![512, 128]⟩
abbrev S1x128 : Shape := ⟨2, ![1, 128]⟩
abbrev S128 : Shape := ⟨1, ![128]⟩
abbrev S512x384 : Shape := ⟨2, ![512, 384]⟩
abbrev S384x256 : Shape := ⟨2, ![384, 256]⟩
abbrev S512x512 : Shape := ⟨2, ![512, 512]⟩
abbrev S256x128 : Shape := ⟨2, ![256, 128]⟩

abbrev nBuf : Space → Nat
  | .hbm => 17
  | .vmem => 22
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S1408, .f32⟩
  | .hbm, ⟨6, _⟩ => ⟨S1408x1408, .f32⟩
  | .hbm, ⟨7, _⟩ => ⟨S1408x1408, .f32⟩
  | .hbm, ⟨8, _⟩ => ⟨S1x1408, .f32⟩
  | .hbm, ⟨9, _⟩ => ⟨S1408x1408, .bf16⟩
  | .hbm, ⟨10, _⟩ => ⟨S1408x1408, .bf16⟩
  | .hbm, ⟨11, _⟩ => ⟨S8192x1408, .f32⟩
  | .hbm, ⟨12, _⟩ => ⟨S8192x1408, .bf16⟩
  | .hbm, ⟨13, _⟩ => ⟨S8192x1408, .bf16⟩
  | .hbm, ⟨14, _⟩ => ⟨S1x1408, .f32⟩
  | .hbm, ⟨15, _⟩ => ⟨S1x1408, .f32⟩
  | .hbm, ⟨16, _⟩ => ⟨S1x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S1x1408, .f32⟩
  | .local _ .vmem, ⟨11, _⟩ => ⟨S1408x1408, .bf16⟩
  | .local _ .vmem, ⟨12, _⟩ => ⟨S1408x1408, .bf16⟩
  | .local _ .vmem, ⟨13, _⟩ => ⟨S512x1408, .f32⟩
  | .local _ .vmem, ⟨14, _⟩ => ⟨S512x1408, .f32⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S1x1408, .f32⟩
  | .local _ .vmem, ⟨20, _⟩ => ⟨S1x1408, .f32⟩
  | .local _ .vmem, ⟨21, _⟩ => ⟨S1x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1408x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1408x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1408 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1408 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1408 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Up.lean ====
abbrev S8192x1024 : Shape := ⟨2, ![8192, 1024]⟩
abbrev S1024x5632 : Shape := ⟨2, ![1024, 5632]⟩
abbrev S5632x1024 : Shape := ⟨2, ![5632, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S8192x5632, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S5632x1024, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x5632, .bf16⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Split.lean ====
abbrev S8192x1024 : Shape := ⟨2, ![8192, 1024]⟩
abbrev S1024x6912 : Shape := ⟨2, ![1024, 6912]⟩
abbrev S6912 : Shape := ⟨1, ![6912]⟩
abbrev S6912x1024 : Shape := ⟨2, ![6912, 1024]⟩
abbrev S1x6912 : Shape := ⟨2, ![1, 6912]⟩
abbrev S8192x1408 : Shape := ⟨2, ![8192, 1408]⟩
abbrev S512x1024 : Shape := ⟨2, ![512, 1024]⟩
abbrev S512x1408 : Shape := ⟨2, ![512, 1408]⟩
abbrev S256x1024 : Shape := ⟨2, ![256, 1024]⟩
abbrev S512x256 : Shape := ⟨2, ![512, 256]⟩
abbrev S1x256 : Shape := ⟨2, ![1, 256]⟩
abbrev S128x1024 : Shape := ⟨2, ![128, 1024]⟩
abbrev S512x128 : Shape := ⟨2, ![512, 128]⟩
abbrev S1x128 : Shape := ⟨2, ![1, 128]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x6912, .f32⟩
  | .hbm, ⟨2, _⟩ => ⟨S6912, .f32⟩
  | .hbm, ⟨3, _⟩ => ⟨S8192x1024, .bf16⟩
  | .hbm, ⟨4, _⟩ => ⟨S6912x1024, .f32⟩
  | .hbm, ⟨5, _⟩ => ⟨S6912x1024, .bf16⟩
  | .hbm, ⟨6, _⟩ => ⟨S1x6912, .f32⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1408, .f32⟩
  | .hbm, ⟨11, _⟩ => ⟨S8192x1408, .bf16⟩
  | .hbm, ⟨12, _⟩ => ⟨S8192x1024, .bf16⟩
  | .hbm, ⟨13, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S6912x1024, .bf16⟩
  | .local _ .vmem, ⟨3, _⟩ => ⟨S1x6912, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1408, .f32⟩
  | .local _ .vmem, ⟨11, _⟩ => ⟨S512x1408, .f32⟩
  | .local _ .vmem, ⟨12, _⟩ => ⟨S512x1408, .bf16⟩
  | .local _ .vmem, ⟨13, _⟩ => ⟨S512x1408, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6912x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SplitRefIdeal.lean ====
abbrev S8192x1024 : Shape := ⟨2, ![8192, 1024]⟩
abbrev S1024x6912 : Shape := ⟨2, ![1024, 6912]⟩
abbrev S6912 : Shape := ⟨1, ![6912]⟩
abbrev S8192x6912 : Shape := ⟨2, ![8192, 6912]⟩
abbrev S1x6912 : Shape := ⟨2, ![1, 6912]⟩
abbrev S8192x1408 : Shape := ⟨2, ![8192, 1408]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6912, .f32⟩
  | .hbm, ⟨2, _⟩ => ⟨S6912, .f32⟩
  | .hbm, ⟨3, _⟩ => ⟨S8192x6912, .f32⟩
  | .hbm, ⟨4, _⟩ => ⟨S1x6912, .f32⟩
  | .hbm, ⟨5, _⟩ => ⟨S8192x6912, .f32⟩
  | .hbm, ⟨6, _⟩ => ⟨S8192x6912, .f32⟩
  | .hbm, ⟨7, _⟩ => ⟨S8192x1024, .f32⟩
  | .hbm, ⟨8, _⟩ => ⟨S8192x1024, .f32⟩
  | .hbm, ⟨9, _⟩ => ⟨S8192x1408, .f32⟩
  | .hbm, ⟨10, _⟩ => ⟨S8192x1408, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S8192x1408, .bf16⟩
  | .hbm, ⟨25, _⟩ => ⟨S8192x1024, .bf16⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Merge.lean ====
abbrev S8192x1024 : Shape := ⟨2, ![8192, 1024]⟩
abbrev S8192x1408 : Shape := ⟨2, ![8192, 1408]⟩
abbrev S1024x1024 : Shape := ⟨2, ![1024, 1024]⟩
abbrev S1408x1024 : Shape := ⟨2, ![1408, 1024]⟩
abbrev S1024 : Shape := ⟨1, ![1024]⟩
abbrev S1x1024 : Shape := ⟨2, ![1, 1024]⟩
abbrev S512x1024 : Shape := ⟨2, ![512, 1024]⟩
abbrev S512x1408 : Shape := ⟨2, ![512, 1408]⟩
abbrev S512 : Shape := ⟨1, ![512]⟩
abbrev S512x1 : Shape := ⟨2, ![512, 1]⟩

abbrev nBuf : Space → Nat
  | .hbm => 25
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1408, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1408x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8192x1024, .bf16⟩
  | .hbm, ⟨11, _⟩ => ⟨S8192x1408, .bf16⟩
  | .hbm, ⟨12, _⟩ => ⟨S8192x1024, .bf16⟩
  | .hbm, ⟨13, _⟩ => ⟨S8192x1024, .bf16⟩
  | .hbm, ⟨14, _⟩ => ⟨S1024x1024, .bf16⟩
  | .hbm, ⟨15, _⟩ => ⟨S1408x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .f32⟩
  | .hbm, ⟨23, _⟩ => ⟨S8192x1024, .f32⟩
  | .hbm, ⟨24, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1408x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S8192x1024 : Shape := ⟨2, ![8192, 1024]⟩
abbrev S8192x1408 : Shape := ⟨2, ![8192, 1408]⟩
abbrev S1024x1024 : Shape := ⟨2, ![1024, 1024]⟩
abbrev S1408x1024 : Shape := ⟨2, ![1408, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1408, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1408x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | .hbm, ⟨64, _⟩ => ⟨S8192x1024, .bf16⟩
  | .hbm, ⟨65, _⟩ => ⟨S8192x1024, .bf16⟩
  | .hbm, ⟨66, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Rconv.lean ====
abbrev S8192x1408 : Shape := ⟨2, ![8192, 1408]⟩
abbrev S4x1408 : Shape := ⟨2, ![4, 1408]⟩
abbrev S1408 : Shape := ⟨1, ![1408]⟩
abbrev S1x1408 : Shape := ⟨2, ![1, 1408]⟩
abbrev S8192x128 : Shape := ⟨2, ![8192, 128]⟩
abbrev S4x128 : Shape := ⟨2, ![4, 128]⟩
abbrev S1x128 : Shape := ⟨2, ![1, 128]⟩
abbrev S8200x128 : Shape := ⟨2, ![8200, 128]⟩
abbrev S8x128 : Shape := ⟨2, ![8, 128]⟩
abbrev S136x128 : Shape := ⟨2, ![136, 128]⟩
abbrev S128x128 : Shape := ⟨2, ![128, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x1408, .f32⟩
  | .hbm, ⟨1, _⟩ => ⟨S4x1408, .f32⟩
  | .hbm, ⟨2, _⟩ => ⟨S1408, .f32⟩
  | .hbm, ⟨3, _⟩ => ⟨S1x1408, .f32⟩
  | .hbm, ⟨4, _⟩ => ⟨S8192x1408, .f32⟩
  | .local _ .vmem, ⟨0, _⟩ => ⟨S8192x128, .f32⟩
  | .local _ .vmem, ⟨1, _⟩ => ⟨S8192x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | .local _ .vmem, ⟨8, _⟩ => ⟨S8200x128, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c64_i32 : BitVec 32 := 64#32
  let v11 : BitVec 32 := Scalar.addi c0_i32 c64_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v12 : BitVec 32 := Scalar.muli arg6 c128_i32
  v12
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v12 : BitVec 32 := Scalar.muli arg6 c128_i32
  let v13 : BitVec 32 := v12
  let v14 : Index := Scalar.indexCast v13
  let c0_9 : Index := 0#32
  ![v14.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v12 : BitVec 32 := Scalar.muli arg6 c128_i32
  let v13 : BitVec 32 := v12
  let v39 : Index := Scalar.indexCast v13
  let c0_11 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RconvRefIdeal.lean ====
abbrev S8192x1408 : Shape := ⟨2, ![8192, 1408]⟩
abbrev S4x1408 : Shape := ⟨2, ![4, 1408]⟩
abbrev S1408 : Shape := ⟨1, ![1408]⟩
abbrev S_ : Shape := ⟨0, ![]⟩
abbrev S8195x1408 : Shape := ⟨2, ![8195, 1408]⟩
abbrev S1x1408 : Shape := ⟨2, ![1, 1408]⟩

abbrev nBuf : Space → Nat
  | .hbm => 39
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S4x1408, .f32⟩
  | .hbm, ⟨2, _⟩ => ⟨S1408, .f32⟩
  | .hbm, ⟨3, _⟩ => ⟨S_, .i32⟩
  | .hbm, ⟨4, _⟩ => ⟨S_, .f32⟩
  | .hbm, ⟨5, _⟩ => ⟨S8195x1408, .f32⟩
  | .hbm, ⟨6, _⟩ => ⟨S1x1408, .f32⟩
  | .hbm, ⟨7, _⟩ => ⟨S1408, .f32⟩
  | .hbm, ⟨8, _⟩ => ⟨S8192x1408, .f32⟩
  | .hbm, ⟨9, _⟩ => ⟨S1x1408, .f32⟩
  | .hbm, ⟨10, _⟩ => ⟨S8192x1408, .f32⟩
  | .hbm, ⟨11, _⟩ => ⟨S8192x1408, .f32⟩
  | .hbm, ⟨12, _⟩ => ⟨S_, .f32⟩
  | .hbm, ⟨13, _⟩ => ⟨S8192x1408, .f32⟩
  | .hbm, ⟨14, _⟩ => ⟨S8192x1408, .f32⟩
  | .hbm, ⟨15, _⟩ => ⟨S1x1408, .f32⟩
  | .hbm, ⟨16, _⟩ => ⟨S1408, .f32⟩
  | .hbm, ⟨17, _⟩ => ⟨S8192x1408, .f32⟩
  | .hbm, ⟨18, _⟩ => ⟨S1x1408, .f32⟩
  | .hbm, ⟨19, _⟩ => ⟨S8192x1408, .f32⟩
  | .hbm, ⟨20, _⟩ => ⟨S8192x1408, .f32⟩
  | .hbm, ⟨21, _⟩ => ⟨S8192x1408, .f32⟩
  | .hbm, ⟨22, _⟩ => ⟨S1x1408, .f32⟩
  | .hbm, ⟨23, _⟩ => ⟨S1408, .f32⟩
  | .hbm, ⟨24, _⟩ => ⟨S8192x1408, .f32⟩
  | .hbm, ⟨25, _⟩ => ⟨S1x1408, .f32⟩
  | .hbm, ⟨26, _⟩ => ⟨S8192x1408, .f32⟩
  | .hbm, ⟨27, _⟩ => ⟨S8192x1408, .f32⟩
  | .hbm, ⟨28, _⟩ => ⟨S8192x1408, .f32⟩
  | .hbm, ⟨29, _⟩ => ⟨S1x1408, .f32⟩
  | .hbm, ⟨30, _⟩ => ⟨S1408, .f32⟩
  | .hbm, ⟨31, _⟩ => ⟨S8192x1408, .f32⟩
  | .hbm, ⟨32, _⟩ => ⟨S1x1408, .f32⟩
  | .hbm, ⟨33, _⟩ => ⟨S8192x1408, .f32⟩
  | .hbm, ⟨34, _⟩ => ⟨S8192x1408, .f32⟩
  | .hbm, ⟨35, _⟩ => ⟨S8192x1408, .f32⟩
  | .hbm, ⟨36, _⟩ => ⟨S1x1408, .f32⟩
  | .hbm, ⟨37, _⟩ => ⟨S8192x1408, .f32⟩
  | .hbm, ⟨38, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Rgates.lean ====
abbrev S8192x1408 : Shape := ⟨2, ![8192, 1408]⟩
abbrev S1408x1408 : Shape := ⟨2, ![1408, 1408]⟩
abbrev S1408 : Shape := ⟨1, ![1408]⟩
abbrev S1x1408 : Shape := ⟨2, ![1, 1408]⟩
abbrev S512x1408 : Shape := ⟨2, ![512, 1408]⟩
abbrev S512x384 : Shape := ⟨2, ![512, 384]⟩
abbrev S384x256 : Shape := ⟨2, ![384, 256]⟩
abbrev S512x256 : Shape := ⟨2, ![512, 256]⟩
abbrev S1x256 : Shape := ⟨2, ![1, 256]⟩
abbrev S512x512 : Shape := ⟨2, ![512, 512]⟩
abbrev S256x128 : Shape := ⟨2, ![256, 128]⟩
abbrev S512x128 : Shape := ⟨2, ![512, 128]⟩
abbrev S1x128 : Shape := ⟨2, ![1, 128]⟩

abbrev nBuf : Space → Nat
  | .hbm => 15
  | .vmem => 15
  | .smem => 0
  | _ => 0

abbrev bufTy : (tb : Table) → Fin (tcTables nBuf tb) → BufTy
  | .hbm, ⟨0, _⟩ => ⟨S8192x1408, .f32⟩
  | .hbm, ⟨1, _⟩ => ⟨S1408x1408, .f32⟩
  | .hbm, ⟨2, _⟩ => ⟨S1408x1408, .f32⟩
  | .hbm, ⟨3, _⟩ => ⟨S1408, .f32⟩
  | .hbm, ⟨4, _⟩ => ⟨S1408, .f32⟩
  | .hbm, ⟨5, _⟩ => ⟨S1408, .f32⟩
  | .hbm, ⟨6, _⟩ => ⟨S1408x1408, .bf16⟩
  | .hbm, ⟨7, _⟩ => ⟨S1408x1408, .bf16⟩
  | .hbm, ⟨8, _⟩ => ⟨S1x1408, .f32⟩
  | .hbm, ⟨9, _⟩ => ⟨S1x1408, .f32⟩
  | .hbm, ⟨10, _⟩ => ⟨S1x1408, .f32⟩
  | .hbm, ⟨11, _⟩ => ⟨S8192x1408, .f32⟩
  | .hbm, ⟨12, _⟩ => ⟨S8192x1408, .f32⟩
  | .hbm, ⟨13, _⟩ => ⟨S8192x1408, .f32⟩
  | .hbm, ⟨14, _⟩ => ⟨S8192x1408, .f32⟩
  | .local _ .vmem, ⟨0, _⟩ => ⟨S512x1408, .f32⟩
  | .local _ .vmem, ⟨1, _⟩ => ⟨S512x1408, .f32⟩
  | .local _ .vmem, ⟨2, _⟩ => ⟨S1408x1408, .bf16⟩
  | .local _ .vmem, ⟨3, _⟩ => ⟨S1408x1408, .bf16⟩
  | .local _ .vmem, ⟨4, _⟩ => ⟨S1x1408, .f32⟩
  | .local _ .vmem, ⟨5, _⟩ => ⟨S1x1408, .f32⟩
  | .local _ .vmem, ⟨6, _⟩ => ⟨S1x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | .local _ .vmem, ⟨14, _⟩ => ⟨S512x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Dx.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩
abbrev S512x5632 : Shape := ⟨2, ![512, 5632]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .f32⟩
  | .hbm, ⟨4, _⟩ => ⟨S8192x5632, .bf16⟩
  | .hbm, ⟨5, _⟩ => ⟨S5632x1024, .f32⟩
  | .hbm, ⟨6, _⟩ => ⟨S5632x1024, .bf16⟩
  | .hbm, ⟨7, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DxRefIdeal.lean ====
abbrev S8192x1024 : Shape := ⟨2, ![8192, 1024]⟩
abbrev S1024x5632 : Shape := ⟨2, ![1024, 5632]⟩
abbrev S8192x5632 : Shape := ⟨2, ![8192, 5632]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .f32⟩
  | .hbm, ⟨4, _⟩ => ⟨S8192x5632, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Dw.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x2816 : Shape := ⟨2, ![1024, 2816]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .bf16⟩
  | .hbm, ⟨4, _⟩ => ⟨S8192x5632, .bf16⟩
  | .hbm, ⟨5, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwRefIdeal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S5632x1024, .f32⟩
  | .hbm, ⟨5, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Adamw.lean ====
abbrev S8x528x1024 : Shape := ⟨3, ![8, 528, 1024]⟩
abbrev S1x528x1024 : Shape := ⟨3, ![1, 528, 1024]⟩
abbrev S8x264x1024 : Shape := ⟨3, ![8, 264, 1024]⟩
abbrev S1x264x1024 : Shape := ⟨3, ![1, 264, 1024]⟩
abbrev S264x1024 : Shape := ⟨2, ![264, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x528x1024, .f32⟩
  | .hbm, ⟨1, _⟩ => ⟨S1x528x1024, .f32⟩
  | .hbm, ⟨2, _⟩ => ⟨S1x528x1024, .f32⟩
  | .hbm, ⟨3, _⟩ => ⟨S1x528x1024, .f32⟩
  | .hbm, ⟨4, _⟩ => ⟨S1x528x1024, .f32⟩
  | .hbm, ⟨5, _⟩ => ⟨S1x528x1024, .f32⟩
  | .hbm, ⟨6, _⟩ => ⟨S1x528x1024, .f32⟩
  | .hbm, ⟨7, _⟩ => ⟨S1x528x1024, .f32⟩
  | .local _ .vmem, ⟨0, _⟩ => ⟨S8x264x1024, .f32⟩
  | .local _ .vmem, ⟨1, _⟩ => ⟨S8x264x1024, .f32⟩
  | .local _ .vmem, ⟨2, _⟩ => ⟨S1x264x1024, .f32⟩
  | .local _ .vmem, ⟨3, _⟩ => ⟨S1x264x1024, .f32⟩
  | .local _ .vmem, ⟨4, _⟩ => ⟨S1x264x1024, .f32⟩
  | .local _ .vmem, ⟨5, _⟩ => ⟨S1x264x1024, .f32⟩
  | .local _ .vmem, ⟨6, _⟩ => ⟨S1x264x1024, .f32⟩
  | .local _ .vmem, ⟨7, _⟩ => ⟨S1x264x1024, .f32⟩
  | .local _ .vmem, ⟨8, _⟩ => ⟨S1x264x1024, .f32⟩
  | .local _ .vmem, ⟨9, _⟩ => ⟨S1x264x1024, .f32⟩
  | .local _ .vmem, ⟨10, _⟩ => ⟨S1x264x1024, .f32⟩
  | .local _ .vmem, ⟨11, _⟩ => ⟨S1x264x1024, .f32⟩
  | .local _ .vmem, ⟨12, _⟩ => ⟨S1x264x1024, .f32⟩
  | .local _ .vmem, ⟨13, _⟩ => ⟨S1x264x1024, .f32⟩
  | .local _ .vmem, ⟨14, _⟩ => ⟨S1x264x1024, .f32⟩
  | .local _ .vmem, ⟨15, _⟩ => ⟨S1x264x1024, .f32⟩
  | _, _ => ⟨S8x528x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x264x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x264x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x264x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x264x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x264x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x264x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x264x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x264x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwRefIdeal.lean ====
abbrev S8x528x1024 : Shape := ⟨3, ![8, 528, 1024]⟩
abbrev S1x528x1024 : Shape := ⟨3, ![1, 528, 1024]⟩
abbrev S_ : Shape := ⟨0, ![]⟩
abbrev S528x1024 : Shape := ⟨2, ![528, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x528x1024, .f32⟩
  | .hbm, ⟨1, _⟩ => ⟨S1x528x1024, .f32⟩
  | .hbm, ⟨2, _⟩ => ⟨S1x528x1024, .f32⟩
  | .hbm, ⟨3, _⟩ => ⟨S1x528x1024, .f32⟩
  | .hbm, ⟨4, _⟩ => ⟨S_, .f32⟩
  | .hbm, ⟨5, _⟩ => ⟨S528x1024, .f32⟩
  | .hbm, ⟨6, _⟩ => ⟨S1x528x1024, .f32⟩
  | .hbm, ⟨7, _⟩ => ⟨S_, .f32⟩
  | .hbm, ⟨8, _⟩ => ⟨S1x528x1024, .f32⟩
  | .hbm, ⟨9, _⟩ => ⟨S1x528x1024, .f32⟩
  | .hbm, ⟨10, _⟩ => ⟨S_, .f32⟩
  | .hbm, ⟨11, _⟩ => ⟨S1x528x1024, .f32⟩
  | .hbm, ⟨12, _⟩ => ⟨S1x528x1024, .f32⟩
  | .hbm, ⟨13, _⟩ => ⟨S1x528x1024, .f32⟩
  | .hbm, ⟨14, _⟩ => ⟨S_, .f32⟩
  | .hbm, ⟨15, _⟩ => ⟨S1x528x1024, .f32⟩
  | .hbm, ⟨16, _⟩ => ⟨S1x528x1024, .f32⟩
  | .hbm, ⟨17, _⟩ => ⟨S1x528x1024, .f32⟩
  | .hbm, ⟨18, _⟩ => ⟨S_, .f32⟩
  | .hbm, ⟨19, _⟩ => ⟨S1x528x1024, .f32⟩
  | .hbm, ⟨20, _⟩ => ⟨S1x528x1024, .f32⟩
  | .hbm, ⟨21, _⟩ => ⟨S1x528x1024, .f32⟩
  | .hbm, ⟨22, _⟩ => ⟨S_, .f32⟩
  | .hbm, ⟨23, _⟩ => ⟨S1x528x1024, .f32⟩
  | .hbm, ⟨24, _⟩ => ⟨S1x528x1024, .f32⟩
  | .hbm, ⟨25, _⟩ => ⟨S_, .f32⟩
  | .hbm, ⟨26, _⟩ => ⟨S1x528x1024, .f32⟩
  | .hbm, ⟨27, _⟩ => ⟨S1x528x1024, .f32⟩
  | .hbm, ⟨28, _⟩ => ⟨S1x528x1024, .f32⟩
  | .hbm, ⟨29, _⟩ => ⟨S_, .f32⟩
  | .hbm, ⟨30, _⟩ => ⟨S1x528x1024, .f32⟩
  | .hbm, ⟨31, _⟩ => ⟨S1x528x1024, .f32⟩
  | .hbm, ⟨32, _⟩ => ⟨S1x528x1024, .f32⟩
  | .hbm, ⟨33, _⟩ => ⟨S_, .f32⟩
  | .hbm, ⟨34, _⟩ => ⟨S1x528x1024, .f32⟩
  | .hbm, ⟨35, _⟩ => ⟨S1x528x1024, .f32⟩
  | .hbm, ⟨36, _⟩ => ⟨S1x528x1024, .f32⟩
  | .hbm, ⟨37, _⟩ => ⟨S_, .f32⟩
  | .hbm, ⟨38, _⟩ => ⟨S1x528x1024, .f32⟩
  | .hbm, ⟨39, _⟩ => ⟨S1x528x1024, .f32⟩
  | _, _ => ⟨S8x528x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Recur.lean ====
abbrev S8192x1408 : Shape := ⟨2, ![8192, 1408]⟩
abbrev S512x1408 : Shape := ⟨2, ![512, 1408]⟩
abbrev S1x1408 : Shape := ⟨2, ![1, 1408]⟩
abbrev S8x1408 : Shape := ⟨2, ![8, 1408]⟩

abbrev nBuf : Space → Nat
  | .hbm => 7
  | .vmem => 13
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .bf16⟩
  | .hbm, ⟨4, _⟩ => ⟨S8192x1408, .f32⟩
  | .hbm, ⟨5, _⟩ => ⟨S8192x1408, .f32⟩
  | .hbm, ⟨6, _⟩ => ⟨S8192x1408, .bf16⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | .local _ .vmem, ⟨12, _⟩ => ⟨S1x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_2 : BitVec 32 := 0#32
  let c64_i32 : BitVec 32 := 64#32
  let v5 : BitVec 32 := Scalar.addi c0_i32_2 c64_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg8 : BitVec 32 := Scf.iv c0_i32_2 c1_i32 k0_t1
  let c8_i32 : BitVec 32 := 8#32
  let v31 : BitVec 32 := Scalar.muli arg8 c8_i32
  v31
def k0_off1 (k0_t1 : Fin k0_t1_loop.trips) : Fin 2 → Nat :=
  let c0_i32_2 : BitVec 32 := 0#32
  let c1_i32 : BitVec 32 := 1#32
  let arg8 : BitVec 32 := Scf.iv c0_i32_2 c1_i32 k0_t1
  let c8_i32 : BitVec 32 := 8#32
  let v31 : BitVec 32 := Scalar.muli arg8 c8_i32
  let v32 : BitVec 32 := v31
  let v33 : Index := Scalar.indexCast v32
  let c0_15 : Index := 0#32
  ![v33.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RecurRefIdeal.lean ====
abbrev S8192x1408 : Shape := ⟨2, ![8192, 1408]⟩
abbrev S_ : Shape := ⟨0, ![]⟩
abbrev S1408 : Shape := ⟨1, ![1408]⟩
abbrev S1x1408 : Shape := ⟨2, ![1, 1408]⟩

abbrev nBuf : Space → Nat
  | .hbm => 55
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S_, .f32⟩
  | .hbm, ⟨4, _⟩ => ⟨S1408, .f32⟩
  | .hbm, ⟨5, _⟩ => ⟨S_, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S_, .i32⟩
  | .hbm, ⟨10, _⟩ => ⟨S8192x1408, .f32⟩
  | .hbm, ⟨11, _⟩ => ⟨S8192x1408, .f32⟩
  | .hbm, ⟨12, _⟩ => ⟨S_, .i32⟩
  | .hbm, ⟨13, _⟩ => ⟨S1408, .f32⟩
  | .hbm, ⟨14, _⟩ => ⟨S8192x1408, .f32⟩
  | .hbm, ⟨15, _⟩ => ⟨S8192x1408, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S1x1408, .f32⟩
  | .hbm, ⟨20, _⟩ => ⟨S1408, .f32⟩
  | .hbm, ⟨21, _⟩ => ⟨S_, .i32⟩
  | .hbm, ⟨22, _⟩ => ⟨S1x1408, .f32⟩
  | .hbm, ⟨23, _⟩ => ⟨S1408, .f32⟩
  | .hbm, ⟨24, _⟩ => ⟨S1408, .f32⟩
  | .hbm, ⟨25, _⟩ => ⟨S1408, .f32⟩
  | .hbm, ⟨26, _⟩ => ⟨S1408, .f32⟩
  | .hbm, ⟨27, _⟩ => ⟨S1408, .f32⟩
  | .hbm, ⟨28, _⟩ => ⟨S1x1408, .f32⟩
  | .hbm, ⟨29, _⟩ => ⟨S_, .i32⟩
  | .hbm, ⟨30, _⟩ => ⟨S8192x1408, .f32⟩
  | .hbm, ⟨31, _⟩ => ⟨S1x1408, .f32⟩
  | .hbm, ⟨32, _⟩ => ⟨S_, .i32⟩
  | .hbm, ⟨33, _⟩ => ⟨S8192x1408, .f32⟩
  | .hbm, ⟨34, _⟩ => ⟨S_, .i32⟩
  | .hbm, ⟨35, _⟩ => ⟨S_, .i32⟩
  | .hbm, ⟨36, _⟩ => ⟨S8192x1408, .f32⟩
  | .hbm, ⟨37, _⟩ => ⟨S8192x1408, .f32⟩
  | .hbm, ⟨38, _⟩ => ⟨S_, .f32⟩
  | .hbm, ⟨39, _⟩ => ⟨S8192x1408, .f32⟩
  | .hbm, ⟨40, _⟩ => ⟨S8192x1408, .f32⟩
  | .hbm, ⟨41, _⟩ => ⟨S8192x1408, .f32⟩
  | .hbm, ⟨42, _⟩ => ⟨S_, .f32⟩
  | .hbm, ⟨43, _⟩ => ⟨S8192x1408, .f32⟩
  | .hbm, ⟨44, _⟩ => ⟨S8192x1408, .f32⟩
  | .hbm, ⟨45, _⟩ => ⟨S8192x1408, .f32⟩
  | .hbm, ⟨46, _⟩ => ⟨S_, .f32⟩
  | .hbm, ⟨47, _⟩ => ⟨S8192x1408, .f32⟩
  | .hbm, ⟨48, _⟩ => ⟨S8192x1408, .f32⟩
  | .hbm, ⟨49, _⟩ => ⟨S_, .f32⟩
  | .hbm, ⟨50, _⟩ => ⟨S8192x1408, .f32⟩
  | .hbm, ⟨51, _⟩ => ⟨S8192x1408, .f32⟩
  | .hbm, ⟨52, _⟩ => ⟨S8192x1408, .f32⟩
  | .hbm, ⟨53, _⟩ => ⟨S8192x1408, .f32⟩
  | .hbm, ⟨54, _⟩ => ⟨S8192x1408, .bf16⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_while0c_c_11 : Ref sig .tc := ⟨.hbm, 16, rfl⟩
abbrev main_while0c_v19 : Ref sig .tc := ⟨.hbm, 17, rfl⟩
abbrev main_while0b_call0_c : Ref sig .tc := ⟨.hbm, 18, rfl⟩
abbrev main_while0b_call0_v0 : Ref sig .tc := ⟨.hbm, 19, rfl⟩
abbrev main_while0b_v19 : Ref sig .tc := ⟨.hbm, 20, rfl⟩
abbrev main_while0b_call1_c : Ref sig .tc := ⟨.hbm, 21, rfl⟩
abbrev main_while0b_call1_v0 : Ref sig .tc := ⟨.hbm, 22, rfl⟩
abbrev main_while0b_v20 : Ref sig .tc := ⟨.hbm, 23, rfl⟩
abbrev main_while0b_v21 : Ref sig .tc := ⟨.hbm, 24, rfl⟩
abbrev main_while0b_v22 : Ref sig .tc := ⟨.hbm, 25, rfl⟩
abbrev main_while0b_v23 : Ref sig .tc := ⟨.hbm, 26, rfl⟩
abbrev main_while0b_v24 : Ref sig .tc := ⟨.hbm, 27, rfl⟩
abbrev main_while0b_call2_v0 : Ref sig .tc := ⟨.hbm, 28, rfl⟩
abbrev main_while0b_call2_c : Ref sig .tc := ⟨.hbm, 29, rfl⟩
abbrev main_while0b_v25 : Ref sig .tc := ⟨.hbm, 30, rfl⟩
abbrev main_while0b_call3_v0 : Ref sig .tc := ⟨.hbm, 31, rfl⟩
abbrev main_while0b_call3_c : Ref sig .tc := ⟨.hbm, 32, rfl⟩
abbrev main_while0b_v26 : Ref sig .tc := ⟨.hbm, 33, rfl⟩
abbrev main_while0b_c_11 : Ref sig .tc := ⟨.hbm, 34, rfl⟩
abbrev main_while0b_v27 : Ref sig .tc := ⟨.hbm, 35, rfl⟩
abbrev main_v4 : Ref sig .tc := ⟨.hbm, 36, rfl⟩
abbrev main_v5 : Ref sig .tc := ⟨.hbm, 37, rfl⟩
abbrev main_cst_2 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst_3 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_4 : Ref sig .tc := ⟨.hbm, 46, rfl⟩
abbrev main_v12 : Ref sig .tc := ⟨.hbm, 47, rfl⟩
abbrev main_v13 : Ref sig .tc := ⟨.hbm, 48, rfl⟩
abbrev main_cst_5 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩

abbrev nD : Nat := 1
abbrev τ : Topo := Topo.v7x

variable {F : FTy → Type} [FloatOps F]

abbrev main_while0_count : Scf.Loop 32 := ⟨0#32, 8192#32, 1#32⟩
-- ==== Band.lean ====
abbrev S8192x1408 : Shape := ⟨2, ![8192, 1408]⟩
abbrev S1408x1408 : Shape := ⟨2, ![1408, 1408]⟩
abbrev S512x1408 : Shape := ⟨2, ![512, 1408]⟩
abbrev S512x384 : Shape := ⟨2, ![512, 384]⟩
abbrev S384x256 : Shape := ⟨2, ![384, 256]⟩
abbrev S512x256 : Shape := ⟨2, ![512, 256]⟩
abbrev S512x512 : Shape := ⟨2, ![512, 512]⟩
abbrev S256x128 : Shape := ⟨2, ![256, 128]⟩
abbrev S512x128 : Shape := ⟨2, ![512, 128]⟩

abbrev nBuf : Space → Nat
  | .hbm => 7
  | .vmem => 8
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .bf16⟩
  | .hbm, ⟨4, _⟩ => ⟨S8192x1408, .bf16⟩
  | .hbm, ⟨5, _⟩ => ⟨S1408x1408, .f32⟩
  | .hbm, ⟨6, _⟩ => ⟨S1408x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1408, .f32⟩
  | .local _ .vmem, ⟨7, _⟩ => ⟨S1408x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1408x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1408x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Proof.Reals.lean ====
module

public import Idealize.ShloMosaic.Lib.Pointwise
public import Idealize.ShloMosaic.PureOps.Ideal.Laws

/-! Arrays of real values over the extended reals: finite arguments are such arrays, and sums and products of them stay such. -/

@[expose] public section

set_option maxRecDepth 16384

noncomputable section

namespace Cert.Reals

open Idealize.ShloMosaic

/-- Every element is a real. -/
def IsReal {ι : Type} (f : ι → EReal) : Prop := ∀ i, ∃ r : ℝ, f i = (r : EReal)

theorem IsReal.lift {ι : Type} {f : ι → EReal} (h : IsReal f) : ∃ r : ι → ℝ, f = fun i => (r i : EReal) := by
  choose r hr using h
  exact ⟨r, funext hr⟩

theorem real_of_abs_lt_top {x : EReal} (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The precondition's comparison of an array with infinity says that the array is real. -/
theorem isReal_of_pre {σ : Shape} (x : FVec Ideal σ .f32)
    (y : FVec Ideal σ .f32)
    (h : cmpf .olt (Host.absf x) y = fun _ => 1#1) (hy : ∀ i, y i = Ideal.ofBits .f32 0x7F800000#32) : IsReal (ι := σ.Idx) x := by
  intro i
  have hi := congrFun h i
  have ht : Ideal.ofBits .f32 0x7F800000#32 = (⊤ : EReal) := by simp [Ideal.ofBits, Ideal.ieee]
  apply real_of_abs_lt_top
  rw [← ht, ← hy i]
  exact hi

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem half_f32 : Ideal.ofBits .f32 0x3F000000#32 = ((1 / 2 : ℝ) : EReal) := by
  simp [Ideal.ofBits, Ideal.ieee, -EReal.coe_mul]; norm_num

theorem coe_div {a b : ℝ} (hb : b ≠ 0) : Ideal.div (a : EReal) (b : EReal) = ((a / b : ℝ) : EReal) := by
  rw [Ideal.div_coe hb, ← EReal.coe_mul, mul_one_div]

theorem coe_div_one_add_exp (a z : ℝ) : Ideal.div (a : EReal) ((1 + Real.exp z : ℝ) : EReal) = ((a / (1 + Real.exp z) : ℝ) : EReal) :=
  coe_div (by positivity)

/-- A unit-stride rectangle of a matrix places an index at its corner plus the index. -/
theorem emb_ix2 {N M n m o p : Nat} (inb : ∀ a, (![o, p] : Fin 2 → Nat) a + (![n, m] : Fin 2 → Nat) a ≤ (⟨2, ![N, M]⟩ : Shape).size a)
    (a : Fin n) (b : Fin m) (ha : o + a.val < N) (hb : p + b.val < M) :
    (Rect.unit (s := ⟨2, ![N, M]⟩) ![o, p] ![n, m] inb).emb (ix2 a b) = ix2 ⟨o + a.val, ha⟩ ⟨p + b.val, hb⟩ := by
  funext k
  apply Fin.ext
  match k with
  | ⟨0, _⟩ => show o + 1 * a.val = o + a.val; omega
  | ⟨1, _⟩ => show p + 1 * b.val = p + b.val; omega

end Cert.Reals

end
-- ==== Proof.FfnValue.lean ====
module

public import proofs.«01_k».proof.Proof.Gen.FfnIdeal.Value
public import proofs.«01_k».proof.Proof.Gen.FfnRefIdeal.Run
public import proofs.«01_k».proof.Proof.Gen.FfnRefIdeal.Read
public import proofs.«01_k».proof.Proof.Reals
public import Idealize.ShloMosaic.Lib.Claim
public import Idealize.ShloMosaic.Lib.Pipeline.ValueKit

@[expose] public section

set_option maxRecDepth 16384

noncomputable section

namespace Cert.FfnValue

open Cert.FfnIdeal Cert.FfnIdeal.Gen Idealize.ShloMosaic Idealize.ShloMosaic.TcCoe Idealize.SL.Sem

/-- The gate half of a row of the gradient, from the row's cotangent and its hidden products, at a hidden column. -/
def gate (d : Fin 1024 → EReal) (w : S2816x1024.Idx → EReal) (gu : Fin 5632 → EReal) (k : Nat) (h : k < 2816) : EReal :=
  (Ideal.ofBits .f32 0x3F000000#32 * ∑ q : Fin 1024, d q * w (ix2 ⟨k, h⟩ q)) * gu ⟨2816 + k, by omega⟩ *
    (Ideal.logistic (gu ⟨k, by omega⟩) * (1 + gu ⟨k, by omega⟩ * (1 - Ideal.logistic (gu ⟨k, by omega⟩))))

/-- The up half. -/
def up (d : Fin 1024 → EReal) (w : S2816x1024.Idx → EReal) (gu : Fin 5632 → EReal) (k : Nat) (h : k < 2816) : EReal :=
  (Ideal.ofBits .f32 0x3F000000#32 * ∑ q : Fin 1024, d q * w (ix2 ⟨k, h⟩ q)) *
    (gu ⟨k, by omega⟩ * Ideal.logistic (gu ⟨k, by omega⟩))

/-- A row of the gradient, at a column. -/
def rowGrad (d : Fin 1024 → EReal) (w : S2816x1024.Idx → EReal) (gu : Fin 5632 → EReal) (k : Fin 5632) : EReal :=
  if h : k.val < 2816 then gate d w gu k.val h else up d w gu (k.val - 2816) (by omega)

/-- The gradient, of a block of rows. -/
def block {n : Nat} (d : (⟨2, ![n, 1024]⟩ : Shape).Idx → EReal) (w : S2816x1024.Idx → EReal) (gu : (⟨2, ![n, 5632]⟩ : Shape).Idx → EReal)
    (i : (⟨2, ![n, 5632]⟩ : Shape).Idx) : EReal :=
  rowGrad (fun q => d (ix2 (i 0) q)) w (fun k => gu (ix2 (i 0) k)) (i 1)

section
variable (d : S512x1024.Idx → EReal) (w : S2816x1024.Idx → EReal) (gu : S512x5632.Idx → EReal)

theorem emb_val (c : Nat) (inb : ∀ a, (![0, c] : Fin 2 → Nat) a + S512x256.size a ≤ S512x5632.size a) (a : Fin 512) (b : Fin 256)
    (h : c + b.val < 5632) :
    (Rect.unit (s := S512x5632) ![0, c] S512x256.size inb).emb (ix2 a b) = ix2 a ⟨c + b.val, h⟩ := by
  refine (Cert.Reals.emb_ix2 inb a b (by omega) h).trans ?_
  simp only [Nat.zero_add]

theorem block_gate (c : Nat) (inb : ∀ a, (![0, c] : Fin 2 → Nat) a + S512x256.size a ≤ S512x5632.size a) (a : Fin 512) (b : Fin 256)
    (h : c + b.val < 2816) :
    block d w gu ((Rect.unit (s := S512x5632) ![0, c] S512x256.size inb).emb (ix2 a b)) = gate (fun q => d (ix2 a q)) w (fun k => gu (ix2 a k)) (c + b.val) h := by
  rw [emb_val (h := by omega)]
  exact dif_pos h

theorem block_up (c : Nat) (inb : ∀ a, (![0, c] : Fin 2 → Nat) a + S512x256.size a ≤ S512x5632.size a) (a : Fin 512) (b : Fin 256)
    (hc : 2816 ≤ c) (h : c - 2816 + b.val < 2816) :
    block d w gu ((Rect.unit (s := S512x5632) ![0, c] S512x256.size inb).emb (ix2 a b)) = up (fun q => d (ix2 a q)) w (fun k => gu (ix2 a k)) (c - 2816 + b.val) h := by
  rw [emb_val (h := by omega)]
  have h1 : ¬ (c + b.val < 2816) := by omega
  have h2 : c + b.val - 2816 = c - 2816 + b.val := by omega
  refine (dif_neg h1).trans ?_
  simp only [h2, ix2_0, ix2_1]

end

/-- What a point leaves in the output's block: every piece is the gradient's element at its place. -/
theorem out_apply (x0 : Vec Ideal S512x1024 .bf16) (x1 : Vec Ideal S2816x1024 .bf16) (x2 : Vec Ideal S512x5632 .bf16) (y : S512x5632.Idx) :
    out0_3 x0 x1 x2 y = block x0 x1 x2 y := by
  unfold_out out0_3
  refine View.canon_apply_of_pieces (Val := Elt Ideal) (e := .bf16) (block x0 x1 x2) _ ?_ y (cover0_3 _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl <;>
  · idx_vars x
    first
      | rw [block_gate (h := by omega)]
        unfold_payloads
        pointwise [gate]
      | rw [block_up (hc := by omega) (h := by omega)]
        unfold_payloads
        pointwise [up]
    try simp only [← Nat.add_assoc, Nat.reduceAdd, Nat.reduceSub, Nat.zero_add]

/-- The windows' block indices. -/
theorem idx : ∀ t : Fin cfg0.N, win0_0.index t = ![(grid0.coords t 0).val, 0] ∧ win0_1.index t = ![0, 0] ∧
    win0_2.index t = ![(grid0.coords t 0).val, 0] ∧ win0_3.index t = ![(grid0.coords t 0).val, 0] :=
  (by decide +kernel : ∀ t : Fin grid0.N, _)

variable (m : (ℓ : Loc nD τ sig) → Buf (Elt Ideal) ℓ)

/-- The first product. -/
def hidden (x : FVec Ideal S8192x1024 .f32) (wgu : FVec Ideal S1024x5632 .f32) (i : S8192x5632.Idx) : EReal :=
  ∑ k : Fin 1024, x (ix2 (i 0) k) * wgu (ix2 k (i 1))

/-- The arguments as launched. -/
abbrev argX (c : Dev nD) : FVec Ideal S8192x1024 .f32 := m ((c : Thread nD τ).loc main_arg0)
abbrev argGu (c : Dev nD) : FVec Ideal S1024x5632 .f32 := m ((c : Thread nD τ).loc main_arg1)
abbrev argDown (c : Dev nD) : FVec Ideal S2816x1024 .f32 := m ((c : Thread nD τ).loc main_arg2)
abbrev argCt (c : Dev nD) : FVec Ideal S8192x1024 .f32 := m ((c : Thread nD τ).loc main_arg3)

/-- The kernel's whole output, over the arguments. -/
def out (x : FVec Ideal S8192x1024 .f32) (wgu : FVec Ideal S1024x5632 .f32) (wd : FVec Ideal S2816x1024 .f32) (ct : FVec Ideal S8192x1024 .f32) :
    FVec Ideal S8192x5632 .bf16 :=
  block (n := 8192) ct wd (hidden x wgu)

/-- An element of the gradient depends on its own row only. -/
theorem block_congr {n n' : Nat} {d : (⟨2, ![n, 1024]⟩ : Shape).Idx → EReal} {d' : (⟨2, ![n', 1024]⟩ : Shape).Idx → EReal}
    {w : S2816x1024.Idx → EReal} {gu : (⟨2, ![n, 5632]⟩ : Shape).Idx → EReal} {gu' : (⟨2, ![n', 5632]⟩ : Shape).Idx → EReal}
    {r : Fin n} {r' : Fin n'} (hd : ∀ q, d (ix2 r q) = d' (ix2 r' q)) (hg : ∀ k, gu (ix2 r k) = gu' (ix2 r' k)) (k : Fin 5632) :
    block d w gu (ix2 r k) = block d' w gu' (ix2 r' k) := by
  unfold block
  rw [show (fun q => d (ix2 (ix2 r k 0) q)) = fun q => d' (ix2 (ix2 r' k 0) q) from funext hd,
    show (fun q => gu (ix2 (ix2 r k 0) q)) = fun q => gu' (ix2 (ix2 r' k 0) q) from funext hg]
  rfl

/-- The row of the whole arrays that row `a` of point `t`'s blocks is. -/
def row (t : Fin cfg0.N) (a : Fin 512) : Fin 8192 :=
  ⟨(grid0.coords t 0).val * 512 + a.val, by have : (grid0.coords t 0).val < 16 := (grid0.coords t 0).isLt; omega⟩

theorem iblk0 (c : Dev nD) (t : Fin cfg0.N) (a : Fin 512) (k : Fin 1024) : iblk m c 0 t (ix2 a k) = argCt m c (ix2 (row t a) k) := by
  blk_simp [iblk]; entry_read; pointwise; blk_ext [idx t, row]

theorem iblk1 (c : Dev nD) (t : Fin cfg0.N) : iblk m c 1 t = argDown m c := by
  funext y; idx_vars y
  blk_simp [iblk]; entry_read; pointwise; blk_ext [idx t, row]

theorem iblk2 (c : Dev nD) (t : Fin cfg0.N) (a : Fin 512) (k : Fin 5632) :
    iblk m c 2 t (ix2 a k) = hidden (argX m c) (argGu m c) (ix2 (row t a) k) := by
  blk_simp [iblk]; entry_read; pointwise [hidden]; blk_point [idx t, row]

theorem emb3 (t : Fin cfg0.N) (a : Fin 512) (k : Fin 5632) :
    ((cfg0.win 3).blk t).view.emb (ix2 a k) = ix2 (row t a) k := by
  blk_ext [idx t, row]

theorem final (c : Dev nD) : (dats m 0 c).arrAt 3 cfg0.N = out (argX m c) (argGu m c) (argDown m c) (argCt m c) := by
  refine (dats m 0 c).arrAt_eq_of_covers 3 _ (by decide +kernel) fun t _ y => ?_
  blk_simp
  rw [after0_3, out_apply, iblk1]
  obtain ⟨a, b, rfl⟩ : ∃ (a : Fin 512) (b : Fin 5632), y = ix2 a b := ⟨y 0, y 1, eq_ix2 y⟩
  refine Eq.trans ?_ (congrArg (out _ _ _ _) (emb3 t a b)).symm
  exact block_congr (iblk0 m c t a) (iblk2 m c t a) b

end Cert.FfnValue

end
-- ==== Proof.FfnRef.lean ====
module

public import proofs.«01_k».proof.Proof.FfnValue

@[expose] public section

set_option maxRecDepth 16384

noncomputable section

namespace Cert.FfnRef

open Cert.FfnRefIdeal Cert.FfnRefIdeal.Gen Cert.FfnRefIdeal.Read Idealize.ShloMosaic Cert.FfnValue Cert.Reals

/-- The reference's result is the same function of real arguments. -/
theorem ref_eq (x : FVec Ideal S8192x1024 .f32) (wgu : FVec Ideal S1024x5632 .f32) (wd : FVec Ideal S2816x1024 .f32) (ct : FVec Ideal S8192x1024 .f32)
    (hx : IsReal (ι := S8192x1024.Idx) x) (hgu : IsReal (ι := S1024x5632.Idx) wgu) (hd : IsReal (ι := S2816x1024.Idx) wd) (hc : IsReal (ι := S8192x1024.Idx) ct) :
    val_main_v15 (F := Ideal) x wgu wd ct = out x wgu wd ct := by
  obtain ⟨x, rfl⟩ := hx.lift
  obtain ⟨wgu, rfl⟩ := hgu.lift
  obtain ⟨wd, rfl⟩ := hd.lift
  obtain ⟨ct, rfl⟩ := hc.lift
  funext i
  idx_vars i
  pointwise [val_main_v15, val_main_v14, val_main_v13, val_main_v11, val_main_v12, val_main_v10, val_main_v9, val_main_v8, val_main_v3_0, val_main_v3_1,
    val_main_v3_2, val_main_v2, val_main_v1, val_main_v0, val_main_call0_v0, val_main_call0_v1, val_main_call0_v2, val_main_call0_v3, val_main_call0_v4,
    val_main_call0_v6, val_main_call0_v7, val_main_call0_cst, val_main_call0_cst_0, val_main_call0_cst_1, val_main_cst_0, val_main_call1_v0,
    val_main_call1_v1, val_main_call1_v2, out, block, rowGrad, Cert.FfnValue.hidden, gate, up]
  have hs : ∀ k : Fin 2816, ∑ q : Fin 1024, 1 / 2 * ct (ix2 i0 q) * wd (ix2 k q) = 1 / 2 * ∑ q : Fin 1024, ct (ix2 i0 q) * wd (ix2 k q) := fun k => by
    rw [Finset.mul_sum]; exact Finset.sum_congr rfl fun q _ => mul_assoc _ _ _
  by_cases h : i1.val < 2816 <;>
  · simp only [h, ↓reduceDIte, half_f32, Ideal.ofBits_one_f32, ← EReal.coe_one, ← EReal.coe_mul, ← EReal.coe_add, ← EReal.coe_sub, ← EReal.coe_neg, ← coe_sum,
      Ideal.logistic_coe, Ideal.exp_coe, coe_div_one_add_exp, hs]
    refine congrArg Real.toEReal ?_
    ring

end Cert.FfnRef

end
-- ==== Proof.FfnClaim.lean ====
module

public import proofs.«01_k».proof.Defs
public import proofs.«01_k».proof.Proof.FfnRef
public import proofs.«01_k».proof.Proof.Gen.Ffn.Frame
public import proofs.«01_k».proof.Proof.Gen.Pre_finite_ffn

/-! The claims about the gradient of the second feed-forward product's input. -/

@[expose] public section

set_option maxRecDepth 16384

noncomputable section

namespace Cert.FfnClaim

open Idealize.ShloMosaic Idealize.ShloMosaic.TcCoe Idealize.SL.Sem Cert.Reals

theorem frame : Cert.quiescent_Ffn := fun m ρ _ => Cert.Ffn.Gen.frame m ρ
theorem frame_ideal : Cert.quiescent_FfnIdeal := fun m ρ _ => Cert.FfnIdeal.Gen.frame m ρ
theorem frame_ideal_pre : Cert.quiescent_FfnIdeal_pre_finite_ffn := fun m ρ _ => Cert.FfnIdeal.Gen.frame m ρ

theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem frame_ref_pre : Cert.quiescent_FfnRefIdeal_pre_finite_ffn := fun m ρ _ => frame_ref m ρ trivial

theorem algebraic : Cert.algebraic_FfnIdeal_FfnRefIdeal_pre_finite_ffn := by
  intro m g m' g' hp hm
  refine ⟨fun c => FfnValue.out (FfnValue.argX m c) (FfnValue.argGu m c) (FfnValue.argDown m c) (FfnValue.argCt m c),
    (θ_run Cert.FfnIdeal.defs _ _).mono (fun r h c => ⟨(h c).1.trans (FfnValue.final m c), (h c).2⟩) (Cert.FfnIdeal.Value.run_blocks (F := Ideal) m g),
    (θ_run Cert.FfnRefIdeal.defs _ _).mono (fun r h c => ⟨(h c).1.trans ?_, (h c).2⟩) (Cert.FfnRefIdeal.Value.run (F := Ideal) m' g')⟩
  obtain ⟨e0, e1, e2, e3⟩ := hm c
  obtain ⟨p0, p1, p2, p3⟩ := hp c
  refine (Cert.FfnRefIdeal.Read.val_main_v15_eq _ _ _ _).trans ?_
  rw [e0, e1, e2, e3]
  exact FfnRef.ref_eq _ _ _ _ (isReal_of_pre _ _ p0 fun _ => rfl) (isReal_of_pre _ _ p1 fun _ => rfl) (isReal_of_pre _ _ p2 fun _ => rfl)
    (isReal_of_pre _ _ p3 fun _ => rfl)

end Cert.FfnClaim

end
-- ==== Proof.ScanTrip.lean ====
module

public import proofs.«01_k».proof.Proof.Gen.ScanIdeal.Frame
public import proofs.«01_k».proof.Proof.Gen.ScanIdeal.Loops
public import Idealize.ShloMosaic.Lib.Claim
public import Idealize.ShloMosaic.Lib.Pipeline.ValueKit

@[expose] public section

set_option maxRecDepth 16384

noncomputable section

namespace Cert.ScanTrip

open Cert.ScanIdeal Cert.ScanIdeal.Gen Idealize.ShloMosaic Idealize.ShloMosaic.TcCoe
open Idealize.SL.Sem

variable {F : FTy → Type} [FloatOps F]

/-- The row number of every entry of a group of eight rows. -/
abbrev rowNo : IVec S8x1408 32 := iota .tc S8x1408 32 [0] iota_S8x1408_d0_w32

/-- Trip `k`'s eight rows of a block. -/
abbrev rect (k : Fin k0_t1_loop.trips) : Rect S512x1408 :=
  Rect.unit (s := S512x1408) (k0_off1 k) S8x1408.size (k0_off1_inb k)

def rows (X : Vec F S512x1408 .f32) (k : Fin k0_t1_loop.trips) : Vec F S8x1408 .f32 := View.ld X (rect k)

/-- What a trip hands to the next: the row above its eight. -/
def carry1 (d a : Vec F S512x1408 .f32) (k : Fin k0_t1_loop.trips) (e : Vec F S1x1408 .f32) : Vec F S1x1408 .f32 :=
  k0_pay4 e (k0_pay9 rowNo (rows a k)) (k0_pay11 rowNo (rows a k)) (k0_pay12 rowNo (rows a k) (rows d k))

/-- What a trip stores. -/
def grad1 (d a : Vec F S512x1408 .f32) (k : Fin k0_t1_loop.trips) (e : Vec F S1x1408 .f32) : Vec F S8x1408 .f32 :=
  k0_pay3 e (rows d k) (k0_pay9 rowNo (rows a k)) (k0_pay11 rowNo (rows a k)) (k0_pay12 rowNo (rows a k) (rows d k))

theorem tripR (𝒱 : Variants) (c : Dev nD) (bd : Option 𝒱.V) (i : grid0.Coords) (arg1 : Memref sig .tc .vmem S512x1408 .f32) (h1 : arg1.IsWhole) (arg2 : Memref sig .tc .vmem S512x1408 .f32) (h2 : arg2.IsWhole) (arg3 : Memref sig .tc .vmem S512x1408 .f32) (h3 : arg3.IsWhole) (arg4 : Memref sig .tc .vmem S1x1408 .f32) (h4 : arg4.IsWhole)
    (d a : Vec F S512x1408 .f32) (k : Fin k0_t1_loop.trips) (e : Vec F S1x1408 .f32) :
    tripR_k0_t1 𝒱 c bd i arg1 h1 arg2 h2 arg3 h3 arg4 h4 rowNo (h1.unread d) (h2.unread a) k e = carry1 d a k e
    ∧ tripL_k0_t1 𝒱 c bd i arg1 h1 arg2 h2 arg3 h3 arg4 h4 rowNo (h1.unread d) (h2.unread a) k e = [⟨rect k, grad1 d a k e⟩] := by
  unfold tripR_k0_t1 tripL_k0_t1 trip_k0_t1 carry1 grad1 rows
  dsimp only
  sl_unfold_words
  simp only [View.readAt_eq_ld, h1.read_unread, h2.read_unread]
  exact ⟨rfl, rfl⟩

/-- The row a block's trips carry, from the last row upwards. -/
def carry (d a : Vec F S512x1408 .f32) (e : Vec F S1x1408 .f32) : ℕ → Vec F S1x1408 .f32
  | 0 => e
  | k + 1 => if h : k < k0_t1_loop.trips then carry1 d a ⟨k, h⟩ (carry d a e k) else carry d a e k

/-- What the first `n` trips of a block have stored, the latest first. -/
def stored (d a : Vec F S512x1408 .f32) (e : Vec F S1x1408 .f32) : ℕ → List (View.Piece (Elt F) S512x1408 .f32)
  | 0 => []
  | k + 1 => if h : k < k0_t1_loop.trips then ⟨rect ⟨k, h⟩, grad1 d a ⟨k, h⟩ (carry d a e k)⟩ :: stored d a e k else stored d a e k

theorem carry_succ (d a : Vec F S512x1408 .f32) (e : Vec F S1x1408 .f32) (k : Fin k0_t1_loop.trips) :
    carry d a e (k.val + 1) = carry1 d a k (carry d a e k.val) := dif_pos k.isLt

theorem stored_succ (d a : Vec F S512x1408 .f32) (e : Vec F S1x1408 .f32) (k : Fin k0_t1_loop.trips) :
    stored d a e (k.val + 1) = ⟨rect k, grad1 d a k (carry d a e k.val)⟩ :: stored d a e k.val := dif_pos k.isLt

theorem st_eq (𝒱 : Variants) (c : Dev nD) (bd : Option 𝒱.V) (i : grid0.Coords) (arg1 : Memref sig .tc .vmem S512x1408 .f32) (h1 : arg1.IsWhole) (arg2 : Memref sig .tc .vmem S512x1408 .f32) (h2 : arg2.IsWhole) (arg3 : Memref sig .tc .vmem S512x1408 .f32) (h3 : arg3.IsWhole) (arg4 : Memref sig .tc .vmem S1x1408 .f32) (h4 : arg4.IsWhole)
    (d a : Vec F S512x1408 .f32) (e : Vec F S1x1408 .f32) : ∀ n, n ≤ k0_t1_loop.trips →
    st_k0_t1 𝒱 c bd i arg1 h1 arg2 h2 arg3 h3 arg4 h4 rowNo (h1.unread d) (h2.unread a) e n = (carry d a e n, stored d a e n)
  | 0, _ => rfl
  | n + 1, hn => by
    have ih := st_eq 𝒱 c bd i arg1 h1 arg2 h2 arg3 h3 arg4 h4 d a e n (Nat.le_of_succ_le hn)
    have hs := st_k0_t1_succ (F := F) 𝒱 c bd i arg1 h1 arg2 h2 arg3 h3 arg4 h4 rowNo (h1.unread d) (h2.unread a) e ⟨n, hn⟩
    dsimp only at hs
    rw [hs, ih]
    dsimp only
    obtain ⟨q1, q2⟩ := tripR 𝒱 c bd i arg1 h1 arg2 h2 arg3 h3 arg4 h4 d a ⟨n, hn⟩ (carry d a e n)
    rw [q1, q2, carry_succ d a e ⟨n, hn⟩, stored_succ d a e ⟨n, hn⟩]
    rfl

end Cert.ScanTrip

end
-- ==== Proof.ScanBody.lean ====
module

public import proofs.«01_k».proof.Proof.ScanTrip

@[expose] public section

set_option maxRecDepth 16384

noncomputable section

namespace Cert.ScanBody

open Cert.ScanIdeal Cert.ScanIdeal.Gen Cert.ScanTrip Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a block's sixty-four trips leave: the gradients of its rows, -/
def block (d a : Vec F S512x1408 .f32) (e : Vec F S1x1408 .f32) : Vec F S512x1408 .f32 :=
  View.canon (Val := Elt F) (stored d a e k0_t1_loop.trips)

/-- and the row handed to the block above. -/
def above (d a : Vec F S512x1408 .f32) (e : Vec F S1x1408 .f32) : Vec F S1x1408 .f32 := k0_pay5 (carry d a e k0_t1_loop.trips)

theorem stored_cover (d a : Vec F S512x1408 .f32) (e : Vec F S1x1408 .f32) (y : S512x1408.Idx) :
    ∃ p ∈ stored d a e k0_t1_loop.trips, y ∈ p.1.set :=
  View.cover_of_tiledL (stored d a e k0_t1_loop.trips) S8x1408.size (by sl_kernel_rfl) y

theorem hz : (![0, 0] : Fin S1x1408.rank → ℕ) = fun _ => 0 := by funext k; fin_cases k <;> rfl

/-- The first block is the one that starts the row from zero. -/
abbrev first (i : grid0.Coords) : Prop :=
  (Scalar.cmpi .ne (Scalar.extui (Scalar.cmpi .eq (BitVec.ofNat 32 (i 0).val) 0#32)) 0#32) = 1#1

theorem first_iff : ∀ t : Fin cfg0.N, first (grid0.coords t) ↔ t.val = 0 :=
  (by decide +kernel : ∀ t : Fin grid0.N, first (grid0.coords t) ↔ t.val = 0)

section
variable (c : Dev nD) (i : grid0.Coords)
  (arg1 : Memref sig .tc .vmem S512x1408 .f32) (h1 : arg1.IsWhole) (arg2 : Memref sig .tc .vmem S512x1408 .f32) (h2 : arg2.IsWhole)
  (arg3 : Memref sig .tc .vmem S512x1408 .f32) (h3 : arg3.IsWhole) (arg4 : Memref sig .tc .vmem S1x1408 .f32) (h4 : arg4.IsWhole)
  (d a : Vec F S512x1408 .f32)

theorem left_rows (e : Vec F S1x1408 .f32) (f : BufTy.Contents (Elt F) arg3.view.ty) :
    View.read (Elt F) arg3.view (arg3.view.writes (Elt F) f
      (st_k0_t1 Variants.none c none i arg1 h1 arg2 h2 arg3 h3 arg4 h4 rowNo (h1.unread d) (h2.unread a) e k0_t1_loop.trips).2) = block d a e := by
  rw [st_eq Variants.none c none i arg1 h1 arg2 h2 arg3 h3 arg4 h4 d a e _ (Nat.le_refl _)]
  exact View.read_writes_eq_canon _ _ _ (stored_cover d a e)

theorem left_carry (e : Vec F S1x1408 .f32) (f : BufTy.Contents (Elt F) arg4.view.ty) (L : List (View.Piece (Elt F) S1x1408 .f32)) :
    View.read (Elt F) arg4.view (arg4.view.writes (Elt F) f (⟨Rect.unit ![0, 0] S1x1408.size inb_S1x1408_S1x1408_0_0,
        k0_pay5 (st_k0_t1 Variants.none c none i arg1 h1 arg2 h2 arg3 h3 arg4 h4 rowNo (h1.unread d) (h2.unread a) e k0_t1_loop.trips).1⟩ :: L)) = above d a e := by
  rw [st_eq Variants.none c none i arg1 h1 arg2 h2 arg3 h3 arg4 h4 d a e _ (Nat.le_refl _)]
  have hy : ∀ y : S1x1408.Idx, y ∈ (Rect.unit (s := S1x1408) ![0, 0] S1x1408.size inb_S1x1408_S1x1408_0_0).set :=
    View.mem_set_unit_zero (S := S1x1408) hz _
  refine (View.read_writes_eq_canon _ _ _ fun y => ⟨_, List.mem_cons_self, hy y⟩).trans ?_
  exact View.canon_cons_unit_zero (Val := Elt F) (S := S1x1408) hz _ _ _

theorem body_first (hc : first i) (K : PUnit → sProp 𝕄) :
    iprop(owns (c : Thread nD τ) arg1 fullShare d ∗ owns (c : Thread nD τ) arg2 fullShare a ∗ (∃ x, owns (c : Thread nD τ) arg3 fullShare x)
        ∗ (∃ x, owns (c : Thread nD τ) arg4 fullShare x)
        ∗ (iprop(owns (c : Thread nD τ) arg1 fullShare d ∗ owns (c : Thread nD τ) arg2 fullShare a
            ∗ owns (c : Thread nD τ) arg3 fullShare (block d a k0_pay1) ∗ owns (c : Thread nD τ) arg4 fullShare (above d a k0_pay1)) -∗ K ⟨⟩))
      ⊢ wp frame (wpE (defs₀ (F := F)) Variants.none c none) Set.univ (cc0_scan_bwd_1 i arg1 h1 arg2 h2 arg3 h3 arg4 h4) K := by
  simp only [cc0_scan_bwd_1_eq_skeleton]; unfold cc0_scan_bwd_1_skel
  unfold owns
  iintro ⟨⟨%f1, %hf1, H1⟩, ⟨%f2, %hf2, H2⟩, ⟨%d3, %f3, -, H3⟩, ⟨%d4, %f4, -, H4⟩, Hk⟩
  obtain rfl := h1.eq_unread hf1; obtain rfl := h2.eq_unread hf2
  sl_exec (disch := first | sl_exact hc)
  sl_step
  have e0 : body_first.sl.v4 (F := F) c arg4 = k0_pay1 := by
    sl_unfold_words
    exact View.readCov_unit_zero (Val := Elt F) (S := S1x1408) _ hz ..
  rw [e0]
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro; exact left_rows c i arg1 h1 arg2 h2 arg3 h3 arg4 h4 d a _ _
  iexists _; isplitr; swap; · iexact H4
  ipureintro; exact left_carry c i arg1 h1 arg2 h2 arg3 h3 arg4 h4 d a _ _ _

theorem body_next (hc : ¬first i) (e : Vec F S1x1408 .f32) (K : PUnit → sProp 𝕄) :
    iprop(owns (c : Thread nD τ) arg1 fullShare d ∗ owns (c : Thread nD τ) arg2 fullShare a ∗ (∃ x, owns (c : Thread nD τ) arg3 fullShare x)
        ∗ owns (c : Thread nD τ) arg4 fullShare e
        ∗ (iprop(owns (c : Thread nD τ) arg1 fullShare d ∗ owns (c : Thread nD τ) arg2 fullShare a
            ∗ owns (c : Thread nD τ) arg3 fullShare (block d a e) ∗ owns (c : Thread nD τ) arg4 fullShare (above d a e)) -∗ K ⟨⟩))
      ⊢ wp frame (wpE (defs₀ (F := F)) Variants.none c none) Set.univ (cc0_scan_bwd_1 i arg1 h1 arg2 h2 arg3 h3 arg4 h4) K := by
  simp only [cc0_scan_bwd_1_eq_skeleton]; unfold cc0_scan_bwd_1_skel
  unfold owns
  iintro ⟨⟨%f1, %hf1, H1⟩, ⟨%f2, %hf2, H2⟩, ⟨%d3, %f3, -, H3⟩, ⟨%f4, %hf4, H4⟩, Hk⟩
  obtain rfl := h1.eq_unread hf1; obtain rfl := h2.eq_unread hf2; obtain rfl := h4.eq_unread hf4
  sl_exec (disch := first | sl_exact hc)
  sl_step
  have e0 : View.readAt (Elt F) arg4.view (Rect.unit (s := S1x1408) ![0, 0] S1x1408.size inb_S1x1408_S1x1408_0_0).toLoadRect (h4.unread e) = e := by
    rw [View.readAt_eq_ld, h4.read_unread]
    exact View.ld_unit_zero (S := S1x1408) hz ..
  rw [e0]
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro; exact left_rows c i arg1 h1 arg2 h2 arg3 h3 arg4 h4 d a _ _
  iexists _; isplitr; swap; · iexact H4
  ipureintro; exact left_carry c i arg1 h1 arg2 h2 arg3 h3 arg4 h4 d a _ _ _
end

end Cert.ScanBody

end
-- ==== Proof.ScanRun.lean ====
module

public import proofs.«01_k».proof.Proof.ScanBody

@[expose] public section

set_option maxRecDepth 16384

noncomputable section

namespace Cert.ScanRun

open Cert.ScanIdeal Cert.ScanIdeal.Gen Cert.ScanTrip Cert.ScanBody Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row handed to point `n`: zeros to the first, then what each block hands to the one above it. -/
def row (c : Dev nD) : ℕ → Vec F S1x1408 .f32
  | 0 => k0_pay1
  | n + 1 => if h : n < cfg0.N then above (iblk m c 0 ⟨n, h⟩) (iblk m c 1 ⟨n, h⟩) (row c n) else row c n

theorem row_zero (c : Dev nD) : row m c 0 = k0_pay1 := by unfold row; rfl

theorem row_succ (c : Dev nD) (t : Fin cfg0.N) : row m c (t.val + 1) = above (iblk m c 0 t) (iblk m c 1 t) (row m c t.val) := by
  rw [row]; exact dif_pos t.isLt

/-- What holds between the points: before the first the scratch row holds anything, afterwards the row the
    last point handed over. -/
def between (c : Dev nD) (n : ℕ) : sProp 𝕄 :=
  if n = 0 then Pipeline.ΦA spec0 c
  else iprop(owns (c : Thread nD τ) (Memref.whole cc0_scratch0) fullShare (row m c n) ∗ ∃ r, prngReg c r)

theorem start_eq (c : Dev nD) : (Pipeline.ΦA spec0 c : sProp 𝕄)
    = iprop((∃ d, owns (c : Thread nD τ) (Memref.whole cc0_scratch0) fullShare d) ∗ ∃ r, prngReg c r) := by
  unfold Pipeline.ΦA; rw [scopedRest0_eq]; simp only [owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => block (iblk m c 0 t) (iblk m c 1 t) (row m c t.val)
  Φ t := between m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = block (iblk m c 0 t) (iblk m c 1 t) (row m c t.val) := by
  dsimp only [dats]

theorem before_zero (c : Dev nD) (t : ℕ) (h : t = 0) : between m c t = Pipeline.ΦA spec0 c := if_pos h
theorem before_pos (c : Dev nD) (t : ℕ) (h : t ≠ 0) : between m c t
    = iprop(owns (c : Thread nD τ) (Memref.whole cc0_scratch0) fullShare (row m c t) ∗ ∃ r, prngReg c r) := if_neg h
theorem Φ_castSucc (c : Dev nD) (t : Fin cfg0.N) : (dats m 0 c).Φ t.castSucc = between m c t.val := by dsimp only [dats]; rfl
theorem Φ_succ (c : Dev nD) (t : Fin cfg0.N) : (dats m 0 c).Φ t.succ = between m c (t.val + 1) := by dsimp only [dats]; rfl

theorem point (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (win0_0.stage (cfg0.slots t 0)) fullShare ((dats m 0 c).after 0 t)
        ∗ owns (c : Thread nD τ) (win0_1.stage (cfg0.slots t 1)) fullShare ((dats m 0 c).after 1 t)
        ∗ owns (c : Thread nD τ) (win0_2.stage (cfg0.slots t 2)) fullShare ((dats m 0 c).after 2 t))) := by
  simp only [before0_0_of m (dats m 0 c) (A_eq m c 0) (after0_0 m c) t, before0_1_of m (dats m 0 c) (A_eq m c 1) (after0_1 m c) t,
    after0_0, after0_1, after0_2]
  rw [show (dats m 0 c).owesAt () t.succ = (dats m 0 c).owesAt () t.castSucc from rfl,
    Φ_castSucc, Φ_succ, before_pos m c (t.val + 1) (Nat.succ_ne_zero _), row_succ]
  unfold bodyAt0
  by_cases h0 : t.val = 0
  · rw [before_zero m c _ h0, start_eq, show row m c t.val = k0_pay1 by rw [h0, row_zero]]
    iintro ⟨⟨HS, Hg⟩, Ho, ⟨%d0, H0⟩, ⟨%d1, H1⟩, ⟨%d2, H2⟩⟩
    iapply (body_first c (grid0.coords t) _ _ _ _ _ _ _ _ (iblk m c 0 t) (iblk m c 1 t) ((first_iff t).mpr h0))
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [before_pos m c _ h0]
    iintro ⟨⟨HS, Hg⟩, Ho, ⟨%d0, H0⟩, ⟨%d1, H1⟩, ⟨%d2, H2⟩⟩
    iapply (body_next c (grid0.coords t) _ _ _ _ _ _ _ _ (iblk m c 0 t) (iblk m c 1 t) (fun h => h0 ((first_iff t).mp h)) (row m c t.val))
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point m c t) rfl .rfl fun _ => .rfl

theorem enter (c : Dev nD) : Pipeline.ΦA spec0 c ⊢ (dats m 0 c).Φ 0 := by
  rw [show (dats m 0 c).Φ 0 = between m c 0 by dsimp only [dats]; rfl, before_zero m c 0 rfl]

theorem leave (c : Dev nD) : (dats m 0 c).Φ (Fin.last cfg0.N) ⊢ Pipeline.ΦA spec0 c := by
  rw [show (dats m 0 c).Φ (Fin.last cfg0.N) = between m c (Fin.last cfg0.N).val by dsimp only [dats],
    before_pos m c _ (by rw [Fin.val_last]; have : cfg0.N = 16 := N_0; omega), start_eq]
  iintro ⟨HS, Hg⟩
  isplitl [HS]
  · iexists _; iexact HS
  iexact Hg

set_option backward.isDefEq.respectTransparency.types false in
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.ScanRun

end
-- ==== Proof.ScanValue.lean ====
module

public import proofs.«01_k».proof.Proof.ScanRun
public import proofs.«01_k».proof.Proof.Reals

@[expose] public section

set_option maxRecDepth 16384

noncomputable section

namespace Cert.ScanValue

open Cert.ScanIdeal Cert.ScanIdeal.Gen Cert.ScanTrip Cert.ScanBody Cert.ScanRun Idealize.ShloMosaic Idealize.ShloMosaic.TcCoe Idealize.SL.Sem

/-- The recurrence, backwards: `al n` and `de n` are the factor and the cotangent of the `n`-th row from the end. -/
def acc (al de : ℕ → ℝ) (e : ℝ) : ℕ → ℝ
  | 0 => e
  | n + 1 => al n * (de n + acc al de e n)

theorem acc_add (al de : ℕ → ℝ) (e : ℝ) (m : ℕ) : ∀ n,
    acc (fun i => al (m + i)) (fun i => de (m + i)) (acc al de e m) n = acc al de e (m + n)
  | 0 => rfl
  | n + 1 => by
    show al (m + n) * (de (m + n) + _) = al (m + n) * (de (m + n) + _)
    rw [acc_add al de e m n]; rfl

section group
variable (X Y : Vec Ideal S8x1408 .f32) (e : Vec Ideal S1x1408 .f32) (q : Fin 1408) (al de : ℕ → ℝ) (r : ℝ)
  (hX : ∀ j : Fin 8, X (ix2 j q) = (al (7 - j.val) : EReal)) (hY : ∀ j : Fin 8, Y (ix2 j q) = (de (7 - j.val) : EReal))
  (he : e (ix2 0 q) = (r : EReal))

include hX hY he in
/-- A group's eight rows, by the doubling steps, are the recurrence's. -/
theorem group_rows (j : Fin 8) :
    k0_pay2 e (k0_pay9 rowNo X) (k0_pay11 rowNo X) (k0_pay12 rowNo X Y) (ix2 j q) = (acc al de r (8 - j.val) : EReal) := by
  unfold_payloads
  pointwise [rowNo]
  simp only [hX, hY, he]
  fin_cases j <;>
  · simp [Scalar.select, IntOp.cmpi, acc, -EReal.coe_mul, -EReal.coe_add]
    simp only [← EReal.coe_mul, ← EReal.coe_add, ← EReal.coe_one]
    refine congrArg Real.toEReal ?_
    ring

include hX hY he in
theorem group_grad (j : Fin 8) :
    k0_pay3 e Y (k0_pay9 rowNo X) (k0_pay11 rowNo X) (k0_pay12 rowNo X Y) (ix2 j q) = (de (7 - j.val) + acc al de r (7 - j.val) : ℝ) := by
  have h := group_rows X Y e q al de r hX hY he
  unfold k0_pay3
  generalize k0_pay2 e (k0_pay9 rowNo X) (k0_pay11 rowNo X) (k0_pay12 rowNo X Y) = Z at h
  pointwise
  simp only [hY, he, h]
  fin_cases j <;>
  · simp [Scalar.select, IntOp.cmpi, acc]

end group

theorem off : ∀ k : Fin k0_t1_loop.trips, k0_off1 k = ![(63 - k.val) * 8, 0] := by decide +kernel

theorem trips : k0_t1_loop.trips = 64 := by decide +kernel

theorem lt64 (k : Fin k0_t1_loop.trips) : k.val < 64 := Nat.lt_of_lt_of_eq k.isLt trips

theorem emb_rect (k : Fin k0_t1_loop.trips) (j : Fin 8) (q : Fin 1408) :
    (rect k).emb (ix2 j q) = ix2 ⟨(63 - k.val) * 8 + j.val, by have := lt64 k; omega⟩ q := by
  have h := off k
  have := lt64 k
  funext a
  apply Fin.ext
  match a with
  | ⟨0, _⟩ => show k0_off1 k 0 + 1 * j.val = (63 - k.val) * 8 + j.val; rw [h]; show (63 - k.val) * 8 + 1 * j.val = _; omega
  | ⟨1, _⟩ => show k0_off1 k 1 + 1 * q.val = q.val; rw [h]; show 0 + 1 * q.val = _; omega

theorem rows_apply (X : Vec Ideal S512x1408 .f32) (k : Fin k0_t1_loop.trips) (j : Fin 8) (q : Fin 1408) :
    rows X k (ix2 j q) = X (ix2 ⟨(63 - k.val) * 8 + j.val, by have := lt64 k; omega⟩ q) :=
  congrArg X (emb_rect k j q)

section blocks
variable (d a : Vec Ideal S512x1408 .f32) (e : Vec Ideal S1x1408 .f32) (al de : Fin 1408 → ℕ → ℝ) (r : Fin 1408 → ℝ)
  (ha : ∀ (i : Fin 512) (q : Fin 1408), a (ix2 i q) = (al q (511 - i.val) : EReal))
  (hd : ∀ (i : Fin 512) (q : Fin 1408), d (ix2 i q) = (de q (511 - i.val) : EReal))
  (he : ∀ q : Fin 1408, e (ix2 0 q) = (r q : EReal))

include ha in
theorem rows_real (k : Fin k0_t1_loop.trips) (q : Fin 1408) (j : Fin 8) :
    rows a k (ix2 j q) = ((fun i => al q (8 * k.val + i)) (7 - j.val) : EReal) := by
  have := lt64 k
  rw [rows_apply, ha]
  refine congrArg (fun n => ((al q n : ℝ) : EReal)) ?_
  show 511 - ((63 - k.val) * 8 + j.val) = 8 * k.val + (7 - j.val)
  omega

include ha hd he in
theorem carry_real (q : Fin 1408) : ∀ n, n ≤ k0_t1_loop.trips → carry d a e n (ix2 0 q) = (acc (al q) (de q) (r q) (8 * n) : EReal)
  | 0, _ => he q
  | n + 1, hn => by
    rw [carry_succ d a e ⟨n, hn⟩]
    have ih := carry_real q n (Nat.le_of_succ_le hn)
    have h := group_rows (rows a ⟨n, hn⟩) (rows d ⟨n, hn⟩) (carry d a e n) q (fun i => al q (8 * n + i)) (fun i => de q (8 * n + i)) _ (rows_real a al ha ⟨n, hn⟩ q) (rows_real d de hd ⟨n, hn⟩ q) ih 0
    rw [acc_add] at h
    refine Eq.trans ?_ h
    unfold carry1 k0_pay4
    pointwise

include ha hd he in
theorem grad_real (k : Fin k0_t1_loop.trips) (j : Fin 8) (q : Fin 1408) :
    grad1 d a k (carry d a e k.val) (ix2 j q)
      = (de q (8 * k.val + (7 - j.val)) + acc (al q) (de q) (r q) (8 * k.val + (7 - j.val)) : ℝ) := by
  have h := group_grad (rows a k) (rows d k) (carry d a e k.val) q (fun i => al q (8 * k.val + i)) (fun i => de q (8 * k.val + i)) _ (rows_real a al ha k q) (rows_real d de hd k q)
    (carry_real d a e al de r ha hd he q k.val (Nat.le_of_lt k.isLt)) j
  rw [acc_add] at h
  exact h

/-- The block's gradients. -/
def target (i : S512x1408.Idx) : EReal := (de (i 1) (511 - (i 0).val) + acc (al (i 1)) (de (i 1)) (r (i 1)) (511 - (i 0).val) : ℝ)

include ha hd he in
theorem stored_real : ∀ n, n ≤ k0_t1_loop.trips → ∀ p ∈ stored d a e n, ∀ x, p.2 x = target al de r (p.1.emb x)
  | 0, _ => fun p hp => absurd hp List.not_mem_nil
  | n + 1, hn => fun p hp => by
    rw [stored_succ d a e ⟨n, hn⟩] at hp
    rcases List.mem_cons.mp hp with rfl | hp
    · intro x
      obtain ⟨j, q, rfl⟩ : ∃ (j : Fin 8) (q : Fin 1408), x = ix2 j q := ⟨x 0, x 1, eq_ix2 x⟩
      have hn' := hn; rw [trips] at hn'
      refine (grad_real d a e al de r ha hd he ⟨n, hn⟩ j q).trans ?_
      refine Eq.trans ?_ (congrArg (target al de r) (emb_rect ⟨n, hn⟩ j q)).symm
      show ((_ : ℝ) : EReal) = ((_ : ℝ) : EReal)
      have : 511 - ((63 - n) * 8 + j.val) = 8 * n + (7 - j.val) := by omega
      show _ = ((de q (511 - ((63 - n) * 8 + j.val)) + acc (al q) (de q) (r q) (511 - ((63 - n) * 8 + j.val)) : ℝ) : EReal)
      rw [this]
    · exact stored_real n (Nat.le_of_succ_le hn) p hp

include ha hd he in
theorem block_real (i : S512x1408.Idx) : block d a e i = target al de r i :=
  View.canon_apply_of_pieces (Val := Elt Ideal) (e := .f32) (target al de r) _
    (stored_real d a e al de r ha hd he _ (Nat.le_refl _)) i (stored_cover d a e i)

include ha hd he in
theorem above_real (q : Fin 1408) : above d a e (ix2 0 q) = (acc (al q) (de q) (r q) 512 : EReal) := by
  have h := carry_real d a e al de r ha hd he q _ (Nat.le_refl _)
  refine Eq.trans ?_ (h.trans (by rw [trips]))
  unfold above k0_pay5
  rw [shapeCast_self]

end blocks

theorem idx : ∀ t : Fin cfg0.N, win0_0.index t = ![15 - t.val, 0] ∧ win0_1.index t = ![15 - t.val, 0] ∧ win0_2.index t = ![15 - t.val, 0] :=
  (by decide +kernel : ∀ t : Fin grid0.N, _)

/-- Column `q` of an array read from its last row upwards. -/
def col (X : FVec Ideal S8192x1408 .f32) (q : Fin 1408) (n : ℕ) : ℝ := (X (ix2 ⟨8191 - n, by omega⟩ q)).toReal

theorem col_coe {X : FVec Ideal S8192x1408 .f32} (hX : Cert.Reals.IsReal (ι := S8192x1408.Idx) X) (q : Fin 1408) (i : Fin 8192) (n : ℕ) (h : n = 8191 - i.val) :
    X (ix2 i q) = (col X q n : EReal) := by
  subst h
  obtain ⟨x, rfl⟩ := hX.lift
  unfold col
  rw [EReal.toReal_coe]
  have e : (⟨8191 - (8191 - i.val), by omega⟩ : Fin 8192) = i := Fin.ext (by show 8191 - (8191 - i.val) = i.val; omega)
  rw [e]

/-- The gradient of the recurrence's input. -/
def out (a dh : FVec Ideal S8192x1408 .f32) : FVec Ideal S8192x1408 .f32 := fun i =>
  (col dh (i 1) (8191 - (i 0).val) + acc (col a (i 1)) (col dh (i 1)) 0 (8191 - (i 0).val) : ℝ)

variable (m : (ℓ : Loc nD τ sig) → Buf (Elt Ideal) ℓ)

abbrev argA (c : Dev nD) : FVec Ideal S8192x1408 .f32 := m ((c : Thread nD τ).loc main_arg0)
abbrev argDh (c : Dev nD) : FVec Ideal S8192x1408 .f32 := m ((c : Thread nD τ).loc main_arg2)

theorem lt16 (t : Fin cfg0.N) : t.val < 16 := Nat.lt_of_lt_of_eq t.isLt N_0

def at_ (t : Fin cfg0.N) (i : Fin 512) : Fin 8192 := ⟨(15 - t.val) * 512 + i.val, by omega⟩

theorem iblk0 (c : Dev nD) (t : Fin cfg0.N) (i : Fin 512) (q : Fin 1408) : iblk m c 0 t (ix2 i q) = argDh m c (ix2 (at_ t i) q) := by
  blk_simp [iblk]; entry_read; pointwise; blk_ext [idx t, at_]

theorem iblk1 (c : Dev nD) (t : Fin cfg0.N) (i : Fin 512) (q : Fin 1408) : iblk m c 1 t (ix2 i q) = argA m c (ix2 (at_ t i) q) := by
  blk_simp [iblk]; entry_read; pointwise; blk_ext [idx t, at_]

theorem emb2 (t : Fin cfg0.N) (i : Fin 512) (q : Fin 1408) : ((cfg0.win 2).blk t).view.emb (ix2 i q) = ix2 (at_ t i) q := by
  blk_ext [idx t, at_]

section real
variable (c : Dev nD) (hA : Cert.Reals.IsReal (ι := S8192x1408.Idx) (argA m c)) (hD : Cert.Reals.IsReal (ι := S8192x1408.Idx) (argDh m c))

theorem at_col (t : Fin cfg0.N) (i : Fin 512) : 512 * t.val + (511 - i.val) = 8191 - (at_ t i).val := by
  have := lt16 t
  show _ = 8191 - ((15 - t.val) * 512 + i.val)
  omega

include hA in
theorem iblk1_real (t : Fin cfg0.N) (i : Fin 512) (q : Fin 1408) :
    iblk m c 1 t (ix2 i q) = ((fun (q : Fin 1408) n => col (argA m c) q (512 * t.val + n)) q (511 - i.val) : EReal) := by
  rw [iblk1]; exact col_coe hA q _ _ (at_col t i)

include hD in
theorem iblk0_real (t : Fin cfg0.N) (i : Fin 512) (q : Fin 1408) :
    iblk m c 0 t (ix2 i q) = ((fun (q : Fin 1408) n => col (argDh m c) q (512 * t.val + n)) q (511 - i.val) : EReal) := by
  rw [iblk0]; exact col_coe hD q _ _ (at_col t i)

include hA hD in
theorem row_real (q : Fin 1408) : ∀ n, n ≤ cfg0.N → row m c n (ix2 0 q) = (acc (col (argA m c) q) (col (argDh m c) q) 0 (512 * n) : EReal)
  | 0, _ => by
    rw [row_zero]
    unfold k0_pay1
    pointwise
    rfl
  | n + 1, hn => by
    rw [row_succ m c ⟨n, hn⟩]
    have h := above_real (iblk m c 0 ⟨n, hn⟩) (iblk m c 1 ⟨n, hn⟩) (row m c n) (fun q i => col (argA m c) q (512 * n + i))
      (fun q i => col (argDh m c) q (512 * n + i)) (fun q => acc (col (argA m c) q) (col (argDh m c) q) 0 (512 * n))
      (iblk1_real m c hA ⟨n, hn⟩) (iblk0_real m c hD ⟨n, hn⟩) (fun q => row_real q n (Nat.le_of_succ_le hn)) q
    refine h.trans ?_
    rw [acc_add]
    rfl

include hA hD in
theorem final : (dats m 0 c).arrAt 2 cfg0.N = out (argA m c) (argDh m c) := by
  refine (dats m 0 c).arrAt_eq_of_covers 2 _ (by decide +kernel) fun t _ y => ?_
  blk_simp
  rw [after0_2]
  obtain ⟨i, q, rfl⟩ : ∃ (i : Fin 512) (q : Fin 1408), y = ix2 i q := ⟨y 0, y 1, eq_ix2 y⟩
  refine Eq.trans ?_ (congrArg (out _ _) (emb2 t i q)).symm
  refine (block_real (iblk m c 0 t) (iblk m c 1 t) (row m c t.val) (fun q i => col (argA m c) q (512 * t.val + i))
      (fun q i => col (argDh m c) q (512 * t.val + i)) (fun q => acc (col (argA m c) q) (col (argDh m c) q) 0 (512 * t.val))
      (iblk1_real m c hA t) (iblk0_real m c hD t) (fun q => row_real m c hA hD q t.val (Nat.le_of_lt t.isLt)) (ix2 i q)).trans ?_
  unfold target out
  dsimp only [ix2_0, ix2_1]
  rw [acc_add, at_col]
end real

/-- The kernel's result. -/
theorem result (ρ : Dev nD → PrngReg)
    (hA : ∀ c, Cert.Reals.IsReal (ι := S8192x1408.Idx) (argA m c)) (hD : ∀ c, Cert.Reals.IsReal (ι := S8192x1408.Idx) (argDh m c)) :
    θ_run defs (onTc (τ := τ) (main (F := Ideal))) ⟨m, fun _ => 0, ρ⟩ (fun r => ∀ c : Dev nD,
      r.2.mem ((c.tc : Thread nD τ).loc main_v0) = out (argA m c) (argDh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 2).trans (final m c (hA c) (hD c)), h.2.1 c⟩) (θ_run_and (run m ρ) (frame m ρ))

end Cert.ScanValue

end
-- ==== Proof.ScanRef.lean ====
module

public import proofs.«01_k».proof.Proof.ScanValue
public import proofs.«01_k».proof.Proof.Gen.ScanRefIdeal.Run
public import Idealize.ShloMosaic.Lib.DynamicIndex

@[expose] public section

set_option maxRecDepth 65536

noncomputable section

namespace Cert.ScanRef

open Cert.ScanRefIdeal Cert.ScanRefIdeal.Gen Cert.ScanRefIdeal.Value
open Idealize.ShloMosaic Idealize.ShloMosaic.TcCoe Idealize.ShloMosaic.StableHlo Idealize.SL.Sem
open Cert.ScanValue (acc col col_coe out)

/-- The contents of every buffer during the reference's loop. -/
abbrev Mem := Valuation τ sig (Elt Ideal)

/-- A trip's number as the word the loop counts with. -/
def word (n : ℕ) : (⟨S_, .i32⟩ : BufTy).Contents (Elt Ideal) := constantI S_ 32 (BitVec.ofNat 32 n)

abbrev count (V : Mem) : (⟨S_, .i32⟩ : BufTy).Contents (Elt Ideal) := V (Proc.devRef .tc main_v3_2)
abbrev incoming (V : Mem) : FVec Ideal S8192x1408 .f32 := V (Proc.devRef .tc main_v3_0)
abbrev decay (V : Mem) : FVec Ideal S8192x1408 .f32 := V (Proc.devRef .tc main_v3_1)
abbrev carried (V : Mem) : FVec Ideal S1408 .f32 := V (Proc.devRef .tc main_v3_3)
abbrev written (V : Mem) : FVec Ideal S8192x1408 .f32 := V (Proc.devRef .tc main_v3_4)

/-- Trip `n` works on row `8191 - n`. -/
theorem row_word (V : Mem) (n : ℕ) (hn : n < 8192) (hV : count V = word n) (i : S_.Idx) :
    (res_main_while0b_v5 V i).toInt = ((8191 - n : ℕ) : Int) := by
  have e : res_main_while0b_v5 V i = BitVec.ofNat 32 (8191 - n) := by
    show (8192#32 - count V i) - 1#32 = _
    rw [hV]
    show (8192#32 - BitVec.ofNat 32 n) - 1#32 = _
    apply BitVec.eq_of_toNat_eq
    simp only [BitVec.toNat_sub, BitVec.toNat_ofNat]
    omega
  rw [e]; exact toInt_ofNat_of_lt (by omega)

theorem fits (n : ℕ) : S8192x1408.Slices ![8191 - n, 0] S1x1408 :=
  ⟨rfl, fun k => by
    match k with
    | ⟨0, _⟩ => show 8191 - n + 1 ≤ 8192; omega
    | ⟨1, _⟩ => show 0 + 1408 ≤ 1408; omega⟩

theorem starts (V : Mem) (n : ℕ) (hn : n < 8192) (hV : count V = word n) (k : Fin 2) :
    (((![res_main_while0b_v5 V, constantI S_ 32 0#32] : Fin 2 → (⟨S_, .i32⟩ : BufTy).Contents (Elt Ideal))) k (Shape.Idx.first h_S_)).toInt
      = ((![8191 - n, 0] : Fin 2 → ℕ) k : Int) := by
  match k with
  | ⟨0, _⟩ => exact row_word V n hn hV _
  | ⟨1, _⟩ => rfl

/-- A trip's read of an array: its row. -/
theorem read_row (X : FVec Ideal S8192x1408 .f32) (n : ℕ) (hn : n < 8192) (st : Fin 2 → Int) (hst : ∀ k, st k = ((![8191 - n, 0] : Fin 2 → ℕ) k : Int))
    (h : S8192x1408.Slices (fun _ => 0) S1x1408) (hc : S1x1408.ShapeCasts S1408) (q : Fin 1408) :
    shapeCast S1408 (Host.dynamicSlice S1x1408 X st h) hc (ix1 q) = X (ix2 ⟨8191 - n, by omega⟩ q) := by
  rw [Host.dynamicSlice_eq_extractStridedSlice S1x1408 X st _ h (fits n) hst]
  pointwise

/-- A trip's write of an array: its row. -/
theorem write_row (X : FVec Ideal S8192x1408 .f32) (z : FVec Ideal S1408 .f32) (n : ℕ) (hn : n < 8192) (st : Fin 2 → Int)
    (hst : ∀ k, st k = ((![8191 - n, 0] : Fin 2 → ℕ) k : Int)) (h : S8192x1408.Slices (fun _ => 0) S1x1408) (i : Fin 8192) (q : Fin 1408) :
    Host.dynamicUpdateSlice X (broadcastInDim S1x1408 ![1] bcast_S1408_S1x1408_1 z) st h (ix2 i q)
      = if i.val = 8191 - n then z (ix1 q) else X (ix2 i q) := by
  rw [WordCmp.dynamicUpdateSlice_eq_update X _ st h _ (fits n) hst]
  pointwise
  by_cases e : i.val = 8191 - n
  · rw [if_pos e, dif_pos (by omega)]
  · rw [if_neg e, dif_neg (by omega)]

/-- The sum a trip forms: what it is handed plus its row of the incoming gradient. -/
theorem sum_apply (V : Mem) (n : ℕ) (hn : n < 8192) (hV : count V = word n) (q : Fin 1408) :
    res_main_while0b_v8 V (ix1 q) = carried V (ix1 q) + incoming V (ix2 ⟨8191 - n, by omega⟩ q) :=
  congrArg (carried V (ix1 q) + ·) (read_row (incoming V) n hn _ (starts V n hn hV) _ _ q)

theorem step_carried (V : Mem) (n : ℕ) (hn : n < 8192) (hV : count V = word n) (q : Fin 1408) :
    carried (STEP V) (ix1 q) = decay V (ix2 ⟨8191 - n, by omega⟩ q) * res_main_while0b_v8 V (ix1 q) := by
  rw [show carried (STEP V) = step_main_v3_3 V from STEP_main_v3_3 V]
  exact congrArg (· * res_main_while0b_v8 V (ix1 q)) (read_row (decay V) n hn _ (starts V n hn hV) _ _ q)

theorem step_written (V : Mem) (n : ℕ) (hn : n < 8192) (hV : count V = word n) (i : Fin 8192) (q : Fin 1408) :
    written (STEP V) (ix2 i q) = if i.val = 8191 - n then res_main_while0b_v8 V (ix1 q) else written V (ix2 i q) := by
  rw [show written (STEP V) = step_main_v3_4 V from STEP_main_v3_4 V]
  unfold step_main_v3_4
  rw [id]
  exact write_row (written V) (res_main_while0b_v8 V) n hn _ (starts V n hn hV) _ i q

theorem step_count (V : Mem) (n : ℕ) (hV : count V = word n) : count (STEP V) = word (n + 1) := by
  rw [show count (STEP V) = step_main_v3_2 V from STEP_main_v3_2 V]
  unfold step_main_v3_2
  rw [show V (Proc.devRef .tc main_v3_2) = word n from hV]
  funext i
  show BitVec.ofNat 32 n + 1#32 = BitVec.ofNat 32 (n + 1)
  simp only [BitVec.ofNat_add]

variable (m : (ℓ : Loc nD τ sig) → Buf (Elt Ideal) ℓ) (c : Dev nD)

/-- The buffers before trip `n`. -/
def mem (n : ℕ) : Mem := STEP^[n] (entryContents preI m c)

theorem mem_succ (n : ℕ) : mem m c (n + 1) = STEP (mem m c n) := Function.iterate_succ_apply' _ _ _

abbrev argA : FVec Ideal S8192x1408 .f32 := m ((c.tc : Thread nD τ).loc main_arg0)
abbrev argDh : FVec Ideal S8192x1408 .f32 := m ((c.tc : Thread nD τ).loc main_arg2)

theorem entry : count (mem m c 0) = word 0 ∧ incoming (mem m c 0) = argDh m c ∧ decay (mem m c 0) = argA m c
    ∧ ∀ q, carried (mem m c 0) (ix1 q) = (0 : EReal) := by
  refine ⟨?_, ?_, ?_, fun q => ?_⟩
  · show entryContents preI m c _ = _
    simp only [entryContents, afterL_cons, afterL_nil]; after_reads_simp; rfl
  · show entryContents preI m c _ = _
    simp only [entryContents, afterL_cons, afterL_nil]; after_reads_simp; rfl
  · show entryContents preI m c _ = _
    simp only [entryContents, afterL_cons, afterL_nil]; after_reads_simp; rfl
  · show entryContents preI m c _ _ = _
    simp only [entryContents, afterL_cons, afterL_nil]; after_reads_simp
    pointwise
    exact Ideal.ofBits_zero_f32

/-- What no trip changes, and the trip's number. -/
theorem keeps : ∀ n, count (mem m c n) = word n ∧ incoming (mem m c n) = argDh m c ∧ decay (mem m c n) = argA m c
  | 0 => ⟨(entry m c).1, (entry m c).2.1, (entry m c).2.2.1⟩
  | n + 1 => by
    obtain ⟨h1, h2, h3⟩ := keeps n
    rw [mem_succ]
    exact ⟨step_count _ n h1, (STEP_main_v3_0 _).trans h2, (STEP_main_v3_1 _).trans h3⟩

variable (hA : Cert.Reals.IsReal (ι := S8192x1408.Idx) (argA m c)) (hD : Cert.Reals.IsReal (ι := S8192x1408.Idx) (argDh m c))

include hA hD in
theorem sum_row (n : ℕ) (hn : n < 8192) (q : Fin 1408)
    (h : carried (mem m c n) (ix1 q) = (acc (col (argA m c) q) (col (argDh m c) q) 0 n : EReal)) :
    res_main_while0b_v8 (mem m c n) (ix1 q) = Real.toEReal (col (argDh m c) q n + acc (col (argA m c) q) (col (argDh m c) q) 0 n) := by
  rw [sum_apply _ n hn (keeps m c n).1, h, (keeps m c n).2.1,
    col_coe hD q _ n (by show n = 8191 - (8191 - n); omega), ← EReal.coe_add, add_comm]

include hA hD in
theorem carried_eq (q : Fin 1408) : ∀ n, n ≤ 8192 → carried (mem m c n) (ix1 q) = (acc (col (argA m c) q) (col (argDh m c) q) 0 n : EReal)
  | 0, _ => (entry m c).2.2.2 q
  | n + 1, hn => by
    rw [mem_succ, step_carried _ n hn (keeps m c n).1, sum_row m c hA hD n hn q (carried_eq q n (Nat.le_of_succ_le hn)),
      (keeps m c n).2.2, col_coe hA q _ n (by show n = 8191 - (8191 - n); omega), ← EReal.coe_mul]
    rfl

include hA hD in
theorem written_eq (i : Fin 8192) (q : Fin 1408) :
    ∀ n, n ≤ 8192 → 8191 - i.val < n → written (mem m c n) (ix2 i q) = out (argA m c) (argDh m c) (ix2 i q)
  | 0, _, h => absurd h (Nat.not_lt_zero _)
  | n + 1, hn, h => by
    rw [mem_succ, step_written _ n hn (keeps m c n).1]
    by_cases hi : i.val = 8191 - n
    · rw [if_pos hi, sum_row m c hA hD n hn q (carried_eq m c hA hD q n (Nat.le_of_succ_le hn))]
      have e : n = 8191 - i.val := by omega
      unfold out
      dsimp only [ix2_0, ix2_1]
      rw [← e]
    · rw [if_neg hi]
      exact written_eq i q n (Nat.le_of_succ_le hn) (by omega)

include hA hD in
theorem ref_eq : written (mem m c 8192) = out (argA m c) (argDh m c) := by
  funext y
  obtain ⟨i, q, rfl⟩ : ∃ (i : Fin 8192) (q : Fin 1408), y = ix2 i q := ⟨y 0, y 1, eq_ix2 y⟩
  exact written_eq m c hA hD i q 8192 (Nat.le_refl _) (by omega)

end Cert.ScanRef

end
-- ==== Proof.ScanClaim.lean ====
module

public import proofs.«01_k».proof.Defs
public import proofs.«01_k».proof.Proof.ScanRef
public import proofs.«01_k».proof.Proof.Gen.Scan
public import proofs.«01_k».proof.Proof.Gen.Pre_finite_scan

/-! The claims about the gradient through the linear recurrence. -/

@[expose] public section

set_option maxRecDepth 16384

noncomputable section

namespace Cert.ScanClaim

open Idealize.ShloMosaic Idealize.ShloMosaic.TcCoe Idealize.SL.Sem Cert.Reals

/-- No operation was rewritten: at the bits the two prints have the same kernel body. -/
theorem bodies : Cert.Scan.defs₀ (F := Bits) = Cert.ScanIdeal.defs₀ (F := Bits) := by
  unfold Cert.Scan.defs₀ Cert.ScanIdeal.defs₀
  refine congrArg Defs.onTc ?_
  funext x y
  match x, y with
  | 0, (t, s) => rfl

theorem programs : Cert.Scan.defs (F := Bits) = Cert.ScanIdeal.defs (F := Bits) :=
  congrArg (Pipeline.defs Cert.Scan.pcfgs) bodies

theorem frame : Cert.quiescent_Scan := fun m ρ _ => by
  rw [programs]
  exact ScanRun.frame m ρ
theorem frame_ideal : Cert.quiescent_ScanIdeal := fun m ρ _ => ScanRun.frame m ρ
theorem frame_ideal_pre : Cert.quiescent_ScanIdeal_pre_finite_scan := fun m ρ _ => ScanRun.frame m ρ

theorem frame_ref : Cert.quiescent_ScanRefIdeal := fun m ρ _ =>
  (θ_run Cert.ScanRefIdeal.defs _ _).mono (fun r h => ⟨fun c => (h c).2, sem_eq_zero_of_no_sems (by decide) r.2⟩)
    (Cert.ScanRefIdeal.Value.run (F := Ideal) m ρ)

theorem frame_ref_pre : Cert.quiescent_ScanRefIdeal_pre_finite_scan := fun m ρ _ => frame_ref m ρ trivial

theorem algebraic : Cert.algebraic_ScanIdeal_ScanRefIdeal_pre_finite_scan := by
  intro m g m' g' hp hm
  have hA : ∀ c, IsReal (ι := Cert.ScanIdeal.S8192x1408.Idx) (ScanValue.argA m c) := fun c => isReal_of_pre _ _ (hp c).1 fun _ => rfl
  have hD : ∀ c, IsReal (ι := Cert.ScanIdeal.S8192x1408.Idx) (ScanValue.argDh m c) := fun c => isReal_of_pre _ _ (hp c).2 fun _ => rfl
  refine ⟨fun c => ScanValue.out (ScanValue.argA m c) (ScanValue.argDh m c), ScanValue.result m g hA hD,
    (θ_run Cert.ScanRefIdeal.defs _ _).mono (fun r h c => ⟨(h c).1.trans ?_, (h c).2⟩) (Cert.ScanRefIdeal.Value.run (F := Ideal) m' g')⟩
  obtain ⟨e0, _, e2⟩ := hm c
  have ea : ScanRef.argA m' c = ScanValue.argA m c := e0
  have ed : ScanRef.argDh m' c = ScanValue.argDh m c := e2
  have h := ScanRef.ref_eq m' c (by rw [ea]; exact hA c) (by rw [ed]; exact hD c)
  rw [ea, ed] at h
  exact h

end Cert.ScanClaim

end
-- ==== Proof.Conv4Trip.lean ====
module

public import proofs.«01_k».proof.Proof.Gen.Conv4Ideal.Frame.Runs
public import proofs.«01_k».proof.Proof.Gen.Conv4Ideal.Loops
public import Idealize.ShloMosaic.Lib.Claim
public import Idealize.ShloMosaic.Lib.VecWindow
public import Idealize.ShloMosaic.Lib.Pipeline.ValueKit

@[expose] public section

set_option maxRecDepth 16384

noncomputable section

namespace Cert.Conv4Trip

open Cert.Conv4Ideal Cert.Conv4Ideal.Gen Idealize.ShloMosaic Idealize.ShloMosaic.TcCoe
open Idealize.SL.Sem

variable {F : FTy → Type} [FloatOps F]

/-- The forty rows of a padded array that trip `k` loads. -/
def rows (X : Vec F S8200x128 .f32) (k : Fin k0_t1_loop.trips) : Vec F S40x128 .f32 :=
  View.ld X (Rect.unit (s := S8200x128) (k0_off1 k) S40x128.size (k0_off1_inb k))

/-- The four blocks of eight rows in which the taps' products are summed. -/
abbrev blk0 : Rect S64x128 := Rect.unit (s := S64x128) ![0, 0] S8x128.size inb_S64x128_S8x128_0_0
abbrev blk1 : Rect S64x128 := Rect.unit (s := S64x128) ![8, 0] S8x128.size inb_S64x128_S8x128_8_0
abbrev blk2 : Rect S64x128 := Rect.unit (s := S64x128) ![16, 0] S8x128.size inb_S64x128_S8x128_16_0
abbrev blk3 : Rect S64x128 := Rect.unit (s := S64x128) ![24, 0] S8x128.size inb_S64x128_S8x128_24_0
abbrev blkA : Rect S64x128 := Rect.unit (s := S64x128) ![0, 0] S64x128.size inb_S64x128_S64x128_0_0
abbrev blkB : Rect S8x128 := Rect.unit (s := S8x128) ![0, 0] S8x128.size inb_S8x128_S8x128_0_0

/-- The thirty-two rows of the input's gradient that trip `k` stores. -/
abbrev rect (k : Fin k0_t1_loop.trips) : Rect S8192x128 :=
  Rect.unit (s := S8192x128) (k0_off2 k) S32x128.size (k0_off2_inb k)

/-- What trip `k` stores: of the input's gradient, -/
def put4 (w : Vec F S4x128 .f32) (d : Vec F S8200x128 .f32) (k : Fin k0_t1_loop.trips) : List (View.Piece (Elt F) S8192x128 .bf16) :=
  [⟨rect k, k0_pay8 w (rows d k)⟩]

/-- of the taps' sums, from the sums before it, -/
def put9 (d x : Vec F S8200x128 .f32) (k : Fin k0_t1_loop.trips) (A : Vec F S64x128 .f32) : List (View.Piece (Elt F) S64x128 .f32) :=
  [⟨blk2, k0_pay19 (k0_pay12 (rows x k) (k0_pay7 (rows d k)) (View.ld A blk2))⟩, ⟨blk1, k0_pay11 (rows x k) (k0_pay7 (rows d k)) (View.ld A blk1)⟩,
    ⟨blk0, k0_pay10 (rows x k) (k0_pay7 (rows d k)) (View.ld A blk0)⟩, ⟨blk3, k0_pay9 (rows d k) (rows x k) (View.ld A blk3)⟩]

/-- and of the bias' sum. -/
def put10 (d : Vec F S8200x128 .f32) (k : Fin k0_t1_loop.trips) (B : Vec F S8x128 .f32) : List (View.Piece (Elt F) S8x128 .f32) :=
  [⟨blkB, k0_pay20 (k0_pay7 (rows d k)) (View.ld B blkB)⟩]

theorem trip (𝒱 : Variants) (c : Dev nD) (bd : Option 𝒱.V) (i : grid0.Coords) (arg1 : Memref sig .tc .vmem S8192x128 .f32) (h1 : arg1.IsWhole) (arg2 : Memref sig .tc .vmem S8192x128 .f32) (h2 : arg2.IsWhole) (arg3 : Memref sig .tc .vmem S4x128 .f32) (h3 : arg3.IsWhole) (arg4 : Memref sig .tc .vmem S8192x128 .bf16) (h4 : arg4.IsWhole) (arg5 : Memref sig .tc .vmem S8x128 .f32) (h5 : arg5.IsWhole) (arg6 : Memref sig .tc .vmem S1x128 .f32) (h6 : arg6.IsWhole) (arg7 : Memref sig .tc .vmem S8200x128 .f32) (h7 : arg7.IsWhole) (arg8 : Memref sig .tc .vmem S8200x128 .f32) (h8 : arg8.IsWhole) (arg9 : Memref sig .tc .vmem S64x128 .f32) (h9 : arg9.IsWhole) (arg10 : Memref sig .tc .vmem S8x128 .f32) (h10 : arg10.IsWhole)
    (w : Vec F S4x128 .f32) (d x : Vec F S8200x128 .f32) (k : Fin k0_t1_loop.trips) (f4 : arg4.view.ty.Contents (Elt F)) (f9 : arg9.view.ty.Contents (Elt F)) (f10 : arg10.view.ty.Contents (Elt F)) :
    tripL_k0_t1 𝒱 c bd i arg1 h1 arg2 h2 arg3 h3 arg4 h4 arg5 h5 arg6 h6 arg7 h7 arg8 h8 arg9 h9 arg10 h10 w (h7.unread d) (h8.unread x) k f4 f9 f10
      = (put4 w d k, put9 d x k (View.read (Elt F) arg9.view f9), put10 d k (View.read (Elt F) arg10.view f10)) := by
  unfold tripL_k0_t1 trip_k0_t1
  dsimp only
  sl_unfold_words
  simp only [View.readAt_eq_ld, h7.read_unread, h8.read_unread]
  rfl

/-- The pieces that the first `n` trips have stored, the latest first, the sums' zeros beneath them. -/
def stored (w : Vec F S4x128 .f32) (d x : Vec F S8200x128 .f32) : ℕ →
    List (View.Piece (Elt F) S8192x128 .bf16) × List (View.Piece (Elt F) S64x128 .f32) × List (View.Piece (Elt F) S8x128 .f32)
  | 0 => ([], [⟨blkA, k0_pay17⟩], [⟨blkB, k0_pay18⟩])
  | k + 1 => if h : k < k0_t1_loop.trips then
      (put4 w d ⟨k, h⟩ ++ (stored w d x k).1,
        put9 d x ⟨k, h⟩ (View.canon (Val := Elt F) (stored w d x k).2.1) ++ (stored w d x k).2.1,
        put10 d ⟨k, h⟩ (View.canon (Val := Elt F) (stored w d x k).2.2) ++ (stored w d x k).2.2)
    else stored w d x k

theorem stored_succ (w : Vec F S4x128 .f32) (d x : Vec F S8200x128 .f32) (k : Fin k0_t1_loop.trips) :
    stored w d x (k.val + 1) = (put4 w d k ++ (stored w d x k.val).1,
        put9 d x k (View.canon (Val := Elt F) (stored w d x k.val).2.1) ++ (stored w d x k.val).2.1,
        put10 d k (View.canon (Val := Elt F) (stored w d x k.val).2.2) ++ (stored w d x k.val).2.2) := dif_pos k.isLt

theorem hz64 : (![0, 0] : Fin S64x128.rank → ℕ) = fun _ => 0 := by funext k; fin_cases k <;> rfl
theorem hz8 : (![0, 0] : Fin S8x128.rank → ℕ) = fun _ => 0 := by funext k; fin_cases k <;> rfl

theorem cover9 (w : Vec F S4x128 .f32) (d x : Vec F S8200x128 .f32) (y : S64x128.Idx) : ∀ n, n ≤ k0_t1_loop.trips →
    ∃ p ∈ (stored w d x n).2.1, y ∈ p.1.set
  | 0, _ => ⟨_, List.mem_cons_self, View.mem_set_unit_zero (S := S64x128) hz64 inb_S64x128_S64x128_0_0 y⟩
  | n + 1, hn => by
    obtain ⟨p, hp, hy⟩ := cover9 w d x y n (Nat.le_of_succ_le hn)
    rw [stored_succ w d x ⟨n, hn⟩]
    exact ⟨p, List.mem_append_right _ hp, hy⟩

theorem cover10 (w : Vec F S4x128 .f32) (d x : Vec F S8200x128 .f32) (y : S8x128.Idx) : ∀ n, n ≤ k0_t1_loop.trips →
    ∃ p ∈ (stored w d x n).2.2, y ∈ p.1.set
  | 0, _ => ⟨_, List.mem_cons_self, View.mem_set_unit_zero (S := S8x128) hz8 inb_S8x128_S8x128_0_0 y⟩
  | n + 1, hn => by
    obtain ⟨p, hp, hy⟩ := cover10 w d x y n (Nat.le_of_succ_le hn)
    rw [stored_succ w d x ⟨n, hn⟩]
    exact ⟨p, List.mem_append_right _ hp, hy⟩

theorem pb_eq (𝒱 : Variants) (c : Dev nD) (bd : Option 𝒱.V) (i : grid0.Coords) (arg1 : Memref sig .tc .vmem S8192x128 .f32) (h1 : arg1.IsWhole) (arg2 : Memref sig .tc .vmem S8192x128 .f32) (h2 : arg2.IsWhole) (arg3 : Memref sig .tc .vmem S4x128 .f32) (h3 : arg3.IsWhole) (arg4 : Memref sig .tc .vmem S8192x128 .bf16) (h4 : arg4.IsWhole) (arg5 : Memref sig .tc .vmem S8x128 .f32) (h5 : arg5.IsWhole) (arg6 : Memref sig .tc .vmem S1x128 .f32) (h6 : arg6.IsWhole) (arg7 : Memref sig .tc .vmem S8200x128 .f32) (h7 : arg7.IsWhole) (arg8 : Memref sig .tc .vmem S8200x128 .f32) (h8 : arg8.IsWhole) (arg9 : Memref sig .tc .vmem S64x128 .f32) (h9 : arg9.IsWhole) (arg10 : Memref sig .tc .vmem S8x128 .f32) (h10 : arg10.IsWhole)
    (w : Vec F S4x128 .f32) (d x : Vec F S8200x128 .f32) (f4 : arg4.view.ty.Contents (Elt F)) (f9 : arg9.view.ty.Contents (Elt F)) (f10 : arg10.view.ty.Contents (Elt F)) : ∀ n, n ≤ k0_t1_loop.trips →
    ∃ L9 L10, pb_k0_t1 𝒱 c bd i arg1 h1 arg2 h2 arg3 h3 arg4 h4 arg5 h5 arg6 h6 arg7 h7 arg8 h8 arg9 h9 arg10 h10 w (h7.unread d) (h8.unread x) f4 (arg9.view.writes (Elt F) f9 (stored w d x 0).2.1) (arg10.view.writes (Elt F) f10 (stored w d x 0).2.2) n
      = ((stored w d x n).1, L9, L10) ∧ L9 ++ (stored w d x 0).2.1 = (stored w d x n).2.1 ∧ L10 ++ (stored w d x 0).2.2 = (stored w d x n).2.2
  | 0, _ => ⟨[], [], rfl, rfl, rfl⟩
  | n + 1, hn => by
    obtain ⟨L9, L10, e, e9, e10⟩ := pb_eq 𝒱 c bd i arg1 h1 arg2 h2 arg3 h3 arg4 h4 arg5 h5 arg6 h6 arg7 h7 arg8 h8 arg9 h9 arg10 h10 w d x f4 f9 f10 n (Nat.le_of_succ_le hn)
    have hs := pb_k0_t1_succ (F := F) 𝒱 c bd i arg1 h1 arg2 h2 arg3 h3 arg4 h4 arg5 h5 arg6 h6 arg7 h7 arg8 h8 arg9 h9 arg10 h10 w (h7.unread d) (h8.unread x) f4 (arg9.view.writes (Elt F) f9 (stored w d x 0).2.1) (arg10.view.writes (Elt F) f10 (stored w d x 0).2.2) ⟨n, hn⟩
    rw [e] at hs
    have t := trip 𝒱 c bd i arg1 h1 arg2 h2 arg3 h3 arg4 h4 arg5 h5 arg6 h6 arg7 h7 arg8 h8 arg9 h9 arg10 h10 w d x ⟨n, hn⟩ (arg4.view.writes (Elt F) f4 (stored w d x n).1) (arg9.view.writes (Elt F) (arg9.view.writes (Elt F) f9 (stored w d x 0).2.1) L9) (arg10.view.writes (Elt F) (arg10.view.writes (Elt F) f10 (stored w d x 0).2.2) L10)
    rw [← View.writes_append, ← View.writes_append, e9, e10, View.read_writes_eq_canon _ _ _ fun y => cover9 w d x y n (Nat.le_of_succ_le hn),
      View.read_writes_eq_canon _ _ _ fun y => cover10 w d x y n (Nat.le_of_succ_le hn)] at t
    have t1 := congrArg Prod.fst t
    have t2 := congrArg (fun p => p.2.1) t
    have t3 := congrArg (fun p => p.2.2) t
    dsimp only at t1 t2 t3 hs
    rw [← View.writes_append, ← View.writes_append, e9, e10, t1, t2, t3] at hs
    rw [stored_succ w d x ⟨n, hn⟩]
    exact ⟨_, _, hs, by rw [List.append_assoc, e9], by rw [List.append_assoc, e10]⟩

end Cert.Conv4Trip

end
-- ==== Proof.Conv4Body.lean ====
module

public import proofs.«01_k».proof.Proof.Conv4Trip

@[expose] public section

set_option maxRecDepth 16384

noncomputable section

namespace Cert.Conv4Body

open Cert.Conv4Ideal Cert.Conv4Ideal.Gen Cert.Conv4Trip Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The convolution's cotangent with eight rows of zeros below it, -/
def dpad (d : Vec F S8192x128 .f32) : Vec F S8200x128 .f32 := View.canon (Val := Elt F)
  [⟨Rect.unit (s := S8200x128) ![8192, 0] S8x128.size inb_S8200x128_S8x128_8192_0, k0_pay14⟩,
    ⟨Rect.unit (s := S8200x128) ![0, 0] S8192x128.size inb_S8200x128_S8192x128_0_0, k0_pay13 d⟩]

/-- and its input with eight rows of zeros above it. -/
def xpad (x : Vec F S8192x128 .f32) : Vec F S8200x128 .f32 := View.canon (Val := Elt F)
  [⟨Rect.unit (s := S8200x128) ![8, 0] S8192x128.size inb_S8200x128_S8192x128_8_0, k0_pay16 x⟩,
    ⟨Rect.unit (s := S8200x128) ![0, 0] S8x128.size inb_S8200x128_S8x128_0_0, k0_pay15⟩]

/-- What all the trips leave. -/
def final (w : Vec F S4x128 .f32) (d x : Vec F S8192x128 .f32) := stored w (dpad d) (xpad x) k0_t1_loop.trips

/-- The taps' sums and the bias' sum, before their eight rows are added up. -/
def taps (w : Vec F S4x128 .f32) (d x : Vec F S8192x128 .f32) : Vec F S64x128 .f32 := View.canon (Val := Elt F) (final w d x).2.1
def bias (w : Vec F S4x128 .f32) (d x : Vec F S8192x128 .f32) : Vec F S8x128 .f32 := View.canon (Val := Elt F) (final w d x).2.2

/-- What a block's body leaves: the input's gradient, -/
def outX (w : Vec F S4x128 .f32) (d x : Vec F S8192x128 .f32) : Vec F S8192x128 .bf16 := View.canon (Val := Elt F) (final w d x).1

def putW (w : Vec F S4x128 .f32) (d x : Vec F S8192x128 .f32) : List (View.Piece (Elt F) S8x128 .f32) :=
  [⟨Rect.unit (s := S8x128) ![3, 0] S1x128.size inb_S8x128_S1x128_3_0, k0_pay5 (View.ld (taps w d x) blk3)⟩,
    ⟨Rect.unit (s := S8x128) ![2, 0] S1x128.size inb_S8x128_S1x128_2_0, k0_pay4 (View.ld (taps w d x) blk2)⟩,
    ⟨Rect.unit (s := S8x128) ![1, 0] S1x128.size inb_S8x128_S1x128_1_0, k0_pay3 (View.ld (taps w d x) blk1)⟩,
    ⟨Rect.unit (s := S8x128) ![0, 0] S1x128.size inb_S8x128_S1x128_0_0, k0_pay2 (View.ld (taps w d x) blk0)⟩,
    ⟨blkB, k0_pay1⟩]

/-- the weight's -/
def outW (w : Vec F S4x128 .f32) (d x : Vec F S8192x128 .f32) : Vec F S8x128 .f32 := View.canon (Val := Elt F) (putW w d x)

/-- and the bias'. -/
def outB (w : Vec F S4x128 .f32) (d x : Vec F S8192x128 .f32) : Vec F S1x128 .f32 := k0_pay6 (View.ld (bias w d x) blkB)

theorem cover4 (w : Vec F S4x128 .f32) (d x : Vec F S8192x128 .f32) (y : S8192x128.Idx) : ∃ p ∈ (final w d x).1, y ∈ p.1.set :=
  View.cover_of_tiledL (final w d x).1 S32x128.size (by sl_kernel_rfl) y

theorem coverW (w : Vec F S4x128 .f32) (d x : Vec F S8192x128 .f32) (y : S8x128.Idx) : ∃ p ∈ putW w d x, y ∈ p.1.set :=
  ⟨_, List.mem_of_getElem? (i := 4) rfl, View.mem_set_unit_zero (S := S8x128) hz8 inb_S8x128_S8x128_0_0 y⟩

theorem hzx : (![0, 0] : Fin S8192x128.rank → ℕ) = fun _ => 0 := by funext k; fin_cases k <;> rfl
theorem hzw : (![0, 0] : Fin S4x128.rank → ℕ) = fun _ => 0 := by funext k; fin_cases k <;> rfl
theorem hz1 : (![0, 0] : Fin S1x128.rank → ℕ) = fun _ => 0 := by funext k; fin_cases k <;> rfl

theorem loop_end (c : Dev nD) (i : grid0.Coords) (arg1 : Memref sig .tc .vmem S8192x128 .f32) (h1 : arg1.IsWhole) (arg2 : Memref sig .tc .vmem S8192x128 .f32) (h2 : arg2.IsWhole) (arg3 : Memref sig .tc .vmem S4x128 .f32) (h3 : arg3.IsWhole) (arg4 : Memref sig .tc .vmem S8192x128 .bf16) (h4 : arg4.IsWhole) (arg5 : Memref sig .tc .vmem S8x128 .f32) (h5 : arg5.IsWhole) (arg6 : Memref sig .tc .vmem S1x128 .f32) (h6 : arg6.IsWhole) (arg7 : Memref sig .tc .vmem S8200x128 .f32) (h7 : arg7.IsWhole) (arg8 : Memref sig .tc .vmem S8200x128 .f32) (h8 : arg8.IsWhole) (arg9 : Memref sig .tc .vmem S64x128 .f32) (h9 : arg9.IsWhole) (arg10 : Memref sig .tc .vmem S8x128 .f32) (h10 : arg10.IsWhole)
    (d x : Vec F S8192x128 .f32) (w : Vec F S4x128 .f32) (f4 : arg4.view.ty.Contents (Elt F)) :
    ∃ L9 L10, pb_k0_t1 Variants.none c none i arg1 h1 arg2 h2 arg3 h3 arg4 h4 arg5 h5 arg6 h6 arg7 h7 arg8 h8 arg9 h9 arg10 h10
      (View.readAt (Elt F) arg3.view (Rect.unit (s := S4x128) ![0, 0] S4x128.size inb_S4x128_S4x128_0_0).toLoadRect (h3.unread w))
      (arg7.view.writes (Elt F) arg7.view.junk
        [⟨Rect.unit (s := S8200x128) ![8192, 0] S8x128.size inb_S8200x128_S8x128_8192_0, k0_pay14⟩,
          ⟨Rect.unit (s := S8200x128) ![0, 0] S8192x128.size inb_S8200x128_S8192x128_0_0,
            k0_pay13 (View.readAt (Elt F) arg1.view (Rect.unit (s := S8192x128) ![0, 0] S8192x128.size inb_S8192x128_S8192x128_0_0).toLoadRect (h1.unread d))⟩])
      (arg8.view.writes (Elt F) arg8.view.junk
        [⟨Rect.unit (s := S8200x128) ![8, 0] S8192x128.size inb_S8200x128_S8192x128_8_0,
            k0_pay16 (View.readAt (Elt F) arg2.view (Rect.unit (s := S8192x128) ![0, 0] S8192x128.size inb_S8192x128_S8192x128_0_0).toLoadRect (h2.unread x))⟩,
          ⟨Rect.unit (s := S8200x128) ![0, 0] S8x128.size inb_S8200x128_S8x128_0_0, k0_pay15⟩])
      f4 (arg9.view.writes (Elt F) arg9.view.junk [⟨blkA, k0_pay17⟩]) (arg10.view.writes (Elt F) arg10.view.junk [⟨blkB, k0_pay18⟩]) k0_t1_loop.trips
      = ((final w d x).1, L9, L10) ∧ L9 ++ [⟨blkA, k0_pay17⟩] = (final w d x).2.1 ∧ L10 ++ [⟨blkB, k0_pay18⟩] = (final w d x).2.2 := by
  have ew : View.readAt (Elt F) arg3.view (Rect.unit (s := S4x128) ![0, 0] S4x128.size inb_S4x128_S4x128_0_0).toLoadRect (h3.unread w) = w := by
    rw [View.readAt_eq_ld, h3.read_unread]
    exact View.ld_unit_zero (S := S4x128) hzw ..
  have ed : View.readAt (Elt F) arg1.view (Rect.unit (s := S8192x128) ![0, 0] S8192x128.size inb_S8192x128_S8192x128_0_0).toLoadRect (h1.unread d) = d := by
    rw [View.readAt_eq_ld, h1.read_unread]
    exact View.ld_unit_zero (S := S8192x128) hzx ..
  have ex : View.readAt (Elt F) arg2.view (Rect.unit (s := S8192x128) ![0, 0] S8192x128.size inb_S8192x128_S8192x128_0_0).toLoadRect (h2.unread x) = x := by
    rw [View.readAt_eq_ld, h2.read_unread]
    exact View.ld_unit_zero (S := S8192x128) hzx ..
  rw [ew, ed, ex]
  have e7 := h7.eq_unread (f := arg7.view.writes (Elt F) arg7.view.junk
        [⟨Rect.unit (s := S8200x128) ![8192, 0] S8x128.size inb_S8200x128_S8x128_8192_0, k0_pay14⟩,
          ⟨Rect.unit (s := S8200x128) ![0, 0] S8192x128.size inb_S8200x128_S8192x128_0_0, k0_pay13 d⟩]) (X := dpad d)
    (funext fun y => View.read_writes_junk_apply_eq_canon arg7.view y _)
  have e8 := h8.eq_unread (f := arg8.view.writes (Elt F) arg8.view.junk
        [⟨Rect.unit (s := S8200x128) ![8, 0] S8192x128.size inb_S8200x128_S8192x128_8_0, k0_pay16 x⟩,
          ⟨Rect.unit (s := S8200x128) ![0, 0] S8x128.size inb_S8200x128_S8x128_0_0, k0_pay15⟩]) (X := xpad x)
    (funext fun y => View.read_writes_junk_apply_eq_canon arg8.view y _)
  rw [e7, e8]
  exact pb_eq Variants.none c none i arg1 h1 arg2 h2 arg3 h3 arg4 h4 arg5 h5 arg6 h6 arg7 h7 arg8 h8 arg9 h9 arg10 h10 w (dpad d) (xpad x) f4 arg9.view.junk arg10.view.junk _ (Nat.le_refl _)

set_option maxHeartbeats 8000000 in
theorem body (c : Dev nD) (i : grid0.Coords) (arg1 : Memref sig .tc .vmem S8192x128 .f32) (h1 : arg1.IsWhole) (arg2 : Memref sig .tc .vmem S8192x128 .f32) (h2 : arg2.IsWhole) (arg3 : Memref sig .tc .vmem S4x128 .f32) (h3 : arg3.IsWhole) (arg4 : Memref sig .tc .vmem S8192x128 .bf16) (h4 : arg4.IsWhole) (arg5 : Memref sig .tc .vmem S8x128 .f32) (h5 : arg5.IsWhole) (arg6 : Memref sig .tc .vmem S1x128 .f32) (h6 : arg6.IsWhole) (arg7 : Memref sig .tc .vmem S8200x128 .f32) (h7 : arg7.IsWhole) (arg8 : Memref sig .tc .vmem S8200x128 .f32) (h8 : arg8.IsWhole) (arg9 : Memref sig .tc .vmem S64x128 .f32) (h9 : arg9.IsWhole) (arg10 : Memref sig .tc .vmem S8x128 .f32) (h10 : arg10.IsWhole)
    (d x : Vec F S8192x128 .f32) (w : Vec F S4x128 .f32) (K : PUnit → sProp 𝕄) :
    iprop(owns (c : Thread nD τ) arg1 fullShare d ∗ owns (c : Thread nD τ) arg2 fullShare x ∗ owns (c : Thread nD τ) arg3 fullShare w
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare d ∗ owns (c : Thread nD τ) arg2 fullShare x ∗ owns (c : Thread nD τ) arg3 fullShare w
          ∗ owns (c : Thread nD τ) arg4 fullShare (outX w d x) ∗ owns (c : Thread nD τ) arg5 fullShare (outW w d x) ∗ owns (c : Thread nD τ) arg6 fullShare (outB w d x)
          ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) Set.univ (cc0_conv4_bwd_1 i arg1 h1 arg2 h2 arg3 h3 arg4 h4 arg5 h5 arg6 h6 arg7 h7 arg8 h8 arg9 h9 arg10 h10) K := by
  simp only [cc0_conv4_bwd_1_eq_skeleton]; unfold cc0_conv4_bwd_1_skel
  simp only [k0_part3_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := h1.eq_unread hf1; obtain rfl := h2.eq_unread hf2; obtain rfl := h3.eq_unread hf3
  sl_exec
  sl_step
  obtain ⟨L9, L10, e, e9, e10⟩ := loop_end c i arg1 h1 arg2 h2 arg3 h3 arg4 h4 arg5 h5 arg6 h6 arg7 h7 arg8 h8 arg9 h9 arg10 h10 d x w f4
  have q0 : body.sl.v28 c i arg1 h1 arg2 h2 arg3 h3 arg4 h4 arg5 h5 arg6 h6 arg7 h7 arg8 h8 arg9 h9 arg10 h10 d x w f4 = View.ld (taps w d x) blk0 := by
    sl_unfold_words; rw [e]; dsimp only; rw [e9]; exact View.readCov_eq_canon' _ _ _
  have q1 : body.sl.v32 c i arg1 h1 arg2 h2 arg3 h3 arg4 h4 arg5 h5 arg6 h6 arg7 h7 arg8 h8 arg9 h9 arg10 h10 d x w f4 = View.ld (taps w d x) blk1 := by
    sl_unfold_words; rw [e]; dsimp only; rw [e9]; exact View.readCov_eq_canon' _ _ _
  have q2 : body.sl.v36 c i arg1 h1 arg2 h2 arg3 h3 arg4 h4 arg5 h5 arg6 h6 arg7 h7 arg8 h8 arg9 h9 arg10 h10 d x w f4 = View.ld (taps w d x) blk2 := by
    sl_unfold_words; rw [e]; dsimp only; rw [e9]; exact View.readCov_eq_canon' _ _ _
  have q3 : body.sl.v40 c i arg1 h1 arg2 h2 arg3 h3 arg4 h4 arg5 h5 arg6 h6 arg7 h7 arg8 h8 arg9 h9 arg10 h10 d x w f4 = View.ld (taps w d x) blk3 := by
    sl_unfold_words; rw [e]; dsimp only; rw [e9]; exact View.readCov_eq_canon' _ _ _
  have qB : body.sl.v44 c i arg1 h1 arg2 h2 arg3 h3 arg4 h4 arg5 h5 arg6 h6 arg7 h7 arg8 h8 arg9 h9 arg10 h10 d x w f4 = View.ld (bias w d x) blkB := by
    sl_unfold_words; rw [e]; dsimp only; rw [e10]; exact View.readCov_eq_canon' _ _ _
  rw [q0, q1, q2, q3, qB]
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro
    sl_unfold_words
    rw [e]
    exact View.read_writes_eq_canon _ _ _ (cover4 w d x)
  isplitl [H5]
  · iexists _; isplitr; swap; · iexact H5
    ipureintro
    exact View.read_writes_eq_canon _ _ _ (coverW w d x)
  isplitl [H6]
  · iexists _; isplitr; swap; · iexact H6
    ipureintro
    refine (View.read_writes_eq_canon _ _ _ fun y => ⟨_, List.mem_cons_self, View.mem_set_unit_zero (S := S1x128) hz1 inb_S1x128_S1x128_0_0 y⟩).trans ?_
    exact View.canon_cons_unit_zero (Val := Elt F) (S := S1x128) hz1 _ _ _
  isplitl [H7]; · iexists _, _; isplitr; swap; · iexact H7
                  ipureintro; rfl
  isplitl [H8]; · iexists _, _; isplitr; swap; · iexact H8
                  ipureintro; rfl
  isplitl [H9]; · iexists _, _; isplitr; swap; · iexact H9
                  ipureintro; rfl
  iexists _, _; isplitr; swap; · iexact H10
  ipureintro; rfl

end Cert.Conv4Body

end
-- ==== Proof.Conv4Run.lean ====
module

public import proofs.«01_k».proof.Proof.Conv4Body

@[expose] public section

set_option maxRecDepth 16384

noncomputable section

namespace Cert.Conv4Run

open Cert.Conv4Ideal Cert.Conv4Ideal.Gen Cert.Conv4Body Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each point leaves in its blocks; between the points the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outX (iblk m c 2 t) (iblk m c 0 t) (iblk m c 1 t)
    | ⟨4, _⟩ => outW (iblk m c 2 t) (iblk m c 0 t) (iblk m c 1 t)
    | ⟨5, _⟩ => outB (iblk m c 2 t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outX (iblk m c 2 t) (iblk m c 0 t) (iblk m c 1 t) := by dsimp only [dats]
theorem after0_4 (c : Dev nD) (t : Fin cfg0.N) : (dats m 0 c).after 4 t = outW (iblk m c 2 t) (iblk m c 0 t) (iblk m c 1 t) := by dsimp only [dats]
theorem after0_5 (c : Dev nD) (t : Fin cfg0.N) : (dats m 0 c).after 5 t = outB (iblk m c 2 t) (iblk m c 0 t) (iblk m c 1 t) := by dsimp only [dats]
theorem Φ_eq (c : Dev nD) (t : Fin (cfg0.N + 1)) : (dats m 0 c).Φ t = Pipeline.ΦA spec0 c := by dsimp only [dats]

theorem point (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (win0_0.stage (cfg0.slots t 0)) fullShare ((dats m 0 c).after 0 t)
        ∗ owns (c : Thread nD τ) (win0_1.stage (cfg0.slots t 1)) fullShare ((dats m 0 c).after 1 t)
        ∗ owns (c : Thread nD τ) (win0_2.stage (cfg0.slots t 2)) fullShare ((dats m 0 c).after 2 t)
        ∗ owns (c : Thread nD τ) (win0_3.stage (cfg0.slots t 3)) fullShare ((dats m 0 c).after 3 t)
        ∗ owns (c : Thread nD τ) (win0_4.stage (cfg0.slots t 4)) fullShare ((dats m 0 c).after 4 t)
        ∗ owns (c : Thread nD τ) (win0_5.stage (cfg0.slots t 5)) fullShare ((dats m 0 c).after 5 t))) := by
  simp only [before0_0_of m (dats m 0 c) (A_eq m c 0) (after0_0 m c) t,
    before0_1_of m (dats m 0 c) (A_eq m c 1) (after0_1 m c) t,
    before0_2_of m (dats m 0 c) (A_eq m c 2) (after0_2 m c) t,
    after0_0, after0_1, after0_2, after0_3, after0_4, after0_5]
  rw [show (dats m 0 c).owesAt () t.succ = (dats m 0 c).owesAt () t.castSucc from rfl, Φ_eq, Φ_eq, PhiA0_eq]
  unfold bodyAt0
  iintro ⟨⟨⟨S0, S1, S2, S3⟩, Hg⟩, Ho, ⟨%d0, H0⟩, ⟨%d1, H1⟩, ⟨%d2, H2⟩, ⟨%d3, H3⟩, ⟨%d4, H4⟩, ⟨%d5, H5⟩⟩
  iapply (body c (grid0.coords t) _ _ _ _ _ _ _ _ _ _ _ _ _ _ _ _ _ _ _ _ (iblk m c 0 t) (iblk m c 1 t) (iblk m c 2 t))
  isplitl [H0]; · iexact H0
  isplitl [H1]; · iexact H1
  isplitl [H2]; · iexact H2
  isplitl [H3]; · iexists _; iexact H3
  isplitl [H4]; · iexists _; iexact H4
  isplitl [H5]; · iexists _; iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point m c t) rfl .rfl fun _ => .rfl

theorem enter (c : Dev nD) : Pipeline.ΦA spec0 c ⊢ (dats m 0 c).Φ 0 := by rw [Φ_eq]

theorem leave (c : Dev nD) : (dats m 0 c).Φ (Fin.last cfg0.N) ⊢ Pipeline.ΦA spec0 c := by rw [Φ_eq]

set_option backward.isDefEq.respectTransparency.types false in
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Conv4Run

end
-- ==== Proof.Rows.lean ====
module

public import Idealize.ShloMosaic.Lib.Claim
public import Idealize.ShloMosaic.Lib.Pipeline.ValueKit
public import Idealize.ShloMosaic.Lib.Pipeline.FrameBody

@[expose] public section

set_option maxRecDepth 16384

noncomputable section

/-! Buffers written and read some whole rows at a time. -/

namespace Cert.Rows

open Idealize.ShloMosaic

variable {Val : EltTy → Type} {e : EltTy} {n m k : ℕ}

abbrev Mat (n m : ℕ) : Shape := ⟨2, ![n, m]⟩

theorem emb_row {off : Fin 2 → ℕ} (inb : ∀ a : Fin 2, off a + (Mat k m).size a ≤ (Mat n m).size a) {o : ℕ} (hoff : off = ![o, 0])
    (a : Fin n) (a' : Fin k) (q : Fin m) (h : a.val = o + a'.val) :
    (Rect.unit (s := Mat n m) off (Mat k m).size inb).emb (ix2 a' q) = ix2 a q := by
  subst hoff
  funext i
  apply Fin.ext
  match i with
  | ⟨0, _⟩ => show o + 1 * a'.val = a.val; omega
  | ⟨1, _⟩ => show 0 + 1 * q.val = q.val; omega

/-- A load of some rows reads them. -/
theorem ld_row {off : Fin 2 → ℕ} (inb : ∀ a : Fin 2, off a + (Mat k m).size a ≤ (Mat n m).size a) {o : ℕ} (hoff : off = ![o, 0])
    (X : (Mat n m).Idx → Val e) (a : Fin n) (a' : Fin k) (q : Fin m) (h : a.val = o + a'.val) :
    View.ld X (Rect.unit (s := Mat n m) off (Mat k m).size inb) (ix2 a' q) = X (ix2 a q) :=
  congrArg X (emb_row inb hoff a a' q h)

/-- A row of the last store holds what it stored, -/
theorem canon_row [∀ e, Nonempty (Val e)] {off : Fin 2 → ℕ} (inb : ∀ a : Fin 2, off a + (Mat k m).size a ≤ (Mat n m).size a) {o : ℕ} (hoff : off = ![o, 0])
    (p : (Mat k m).Idx → Val e) (L : List (View.Piece Val (Mat n m) e)) (a : Fin n) (a' : Fin k) (q : Fin m) (h : a.val = o + a'.val) :
    View.canon (⟨Rect.unit (s := Mat n m) off (Mat k m).size inb, p⟩ :: L) (ix2 a q) = p (ix2 a' q) := by
  rw [← emb_row inb hoff a a' q h]
  exact View.canon_cons_emb _ _ _ _

/-- and another row what was there before. -/
theorem canon_row_out [∀ e, Nonempty (Val e)] {off : Fin 2 → ℕ} (inb : ∀ a : Fin 2, off a + (Mat k m).size a ≤ (Mat n m).size a) {o : ℕ} (hoff : off = ![o, 0])
    (p : (Mat k m).Idx → Val e) (L : List (View.Piece Val (Mat n m) e)) (a : Fin n) (q : Fin m) (h : a.val < o ∨ o + k ≤ a.val) :
    View.canon (⟨Rect.unit (s := Mat n m) off (Mat k m).size inb, p⟩ :: L) (ix2 a q) = View.canon L (ix2 a q) := by
  subst hoff
  refine View.canon_cons_of_not_mem _ _ fun hm => ?_
  have hr := (Rect.mem_set_unit (s := Mat n m) (inb := inb)).mp hm 0
  have h0 : o ≤ a.val ∧ a.val < o + k := hr
  omega

end Cert.Rows

end
-- ==== Proof.Conv4Value.lean ====
module

public import proofs.«01_k».proof.Proof.Conv4Run
public import proofs.«01_k».proof.Proof.Reals
public import proofs.«01_k».proof.Proof.Rows

@[expose] public section

set_option maxRecDepth 16384

noncomputable section

namespace Cert.Conv4Value

open Cert.Conv4Ideal Cert.Conv4Ideal.Gen Cert.Conv4Trip Cert.Conv4Body Cert.Conv4Run Idealize.ShloMosaic Idealize.ShloMosaic.TcCoe Idealize.SL.Sem

/-! The sums of eight-row blocks, added up, are the sums over all rows. -/

theorem sum_rows32 (f : ℕ → EReal) (o : ℕ) : ∑ r ∈ Finset.range 8, (f (o + r) + f (o + (8 + r)) + f (o + (16 + r)) + f (o + (24 + r)))
    = ∑ r ∈ Finset.range 32, f (o + r) := by
  rw [show 32 = 8 + 8 + 8 + 8 from rfl, Finset.sum_range_add, Finset.sum_range_add, Finset.sum_range_add]
  simp only [Finset.sum_add_distrib, Nat.reduceAdd]

theorem sum_trips (f : ℕ → EReal) : ∀ n : ℕ, ∑ i ∈ Finset.range n, ∑ r ∈ Finset.range 8, (f (32 * i + r) + f (32 * i + (8 + r)) + f (32 * i + (16 + r)) + f (32 * i + (24 + r)))
    = ∑ t ∈ Finset.range (32 * n), f t
  | 0 => rfl
  | n + 1 => by rw [Finset.sum_range_succ, sum_trips f n, sum_rows32, Nat.mul_succ, Finset.sum_range_add]

theorem sum_all (f : ℕ → EReal) : ∑ r : Fin 8, ∑ i ∈ Finset.range 256, (f (32 * i + r.val) + f (32 * i + (8 + r.val)) + f (32 * i + (16 + r.val)) + f (32 * i + (24 + r.val)))
    = ∑ t : Fin 8192, f t.val := by
  rw [Fin.sum_univ_eq_sum_range (fun r => ∑ i ∈ Finset.range 256, (f (32 * i + r) + f (32 * i + (8 + r)) + f (32 * i + (16 + r)) + f (32 * i + (24 + r)))) 8,
    Finset.sum_comm, sum_trips, Fin.sum_univ_eq_sum_range f 8192]

theorem add4 {A A' a b c d a' b' c' d' : EReal} (h : A = A') (ha : a = a') (hb : b = b') (hc : c = c') (hd : d = d') :
    A + (a + b + c + d) = A' + (a' + b' + c' + d') := by rw [h, ha, hb, hc, hd]

section trip
variable (D X : Vec Ideal S40x128 .f32) (A : Vec Ideal S8x128 .f32) (w : Vec Ideal S4x128 .f32) (q : Fin 128)

/-- What a trip adds to a tap's sums, eight rows at a time. -/
def tapSum (b : Fin 4) (r : Fin 8) : EReal := A (ix2 r q) + (D (ix2 ⟨r.val, by omega⟩ q) * X (ix2 ⟨5 + b.val + r.val, by omega⟩ q)
    + D (ix2 ⟨8 + r.val, by omega⟩ q) * X (ix2 ⟨13 + b.val + r.val, by omega⟩ q) + D (ix2 ⟨16 + r.val, by omega⟩ q) * X (ix2 ⟨21 + b.val + r.val, by omega⟩ q)
    + D (ix2 ⟨24 + r.val, by omega⟩ q) * X (ix2 ⟨29 + b.val + r.val, by omega⟩ q))

theorem pay_tap0 (r : Fin 8) : k0_pay10 X (k0_pay7 D) A (ix2 r q) = tapSum D X A q 0 r := by
  unfold_payloads
  pointwise
  fin_cases r <;> rfl
theorem pay_tap1 (r : Fin 8) : k0_pay11 X (k0_pay7 D) A (ix2 r q) = tapSum D X A q 1 r := by
  unfold_payloads
  pointwise
  fin_cases r <;> rfl
theorem pay_tap2 (r : Fin 8) : k0_pay19 (k0_pay12 X (k0_pay7 D) A) (ix2 r q) = tapSum D X A q 2 r := by
  unfold_payloads
  pointwise
  fin_cases r <;> rfl
theorem pay_tap3 (r : Fin 8) : k0_pay9 D X A (ix2 r q) = tapSum D X A q 3 r := by
  unfold_payloads
  pointwise
  fin_cases r <;> rfl
theorem pay_bias (r : Fin 8) : k0_pay20 (k0_pay7 D) A (ix2 r q) = A (ix2 r q) + (D (ix2 ⟨r.val, by omega⟩ q)
    + D (ix2 ⟨8 + r.val, by omega⟩ q) + D (ix2 ⟨16 + r.val, by omega⟩ q) + D (ix2 ⟨24 + r.val, by omega⟩ q)) := by
  unfold_payloads
  pointwise

theorem pay_dx (j : Fin 32) : k0_pay8 w D (ix2 j q) = (w (ix2 3 q) * D (ix2 ⟨j.val, by omega⟩ q) + w (ix2 2 q) * D (ix2 ⟨1 + j.val, by omega⟩ q))
    + (w (ix2 1 q) * D (ix2 ⟨2 + j.val, by omega⟩ q) + w (ix2 0 q) * D (ix2 ⟨3 + j.val, by omega⟩ q)) := by
  unfold_payloads
  pointwise
  fin_cases j <;> rfl

theorem pay_zeroA (i : Fin 64) : k0_pay17 (F := Ideal) (ix2 i q) = 0 := by
  unfold_payloads
  pointwise
theorem pay_zeroB (i : Fin 8) : k0_pay18 (F := Ideal) (ix2 i q) = 0 := by
  unfold_payloads
  pointwise
theorem pay_zeroD (i : Fin 8) : k0_pay14 (F := Ideal) (ix2 i q) = 0 := by
  unfold_payloads
  pointwise
theorem pay_zeroX (i : Fin 8) : k0_pay15 (F := Ideal) (ix2 i q) = 0 := by
  unfold_payloads
  pointwise
theorem pay_zeroW (i : Fin 8) : k0_pay1 (F := Ideal) (ix2 i q) = 0 := by
  unfold_payloads
  pointwise

theorem pay_sum2 : k0_pay2 A (ix2 0 q) = ∑ r : Fin 8, A (ix2 r q) := by
  unfold_payloads
  pointwise
theorem pay_sum3 : k0_pay3 A (ix2 0 q) = ∑ r : Fin 8, A (ix2 r q) := by
  unfold_payloads
  pointwise
theorem pay_sum4 : k0_pay4 A (ix2 0 q) = ∑ r : Fin 8, A (ix2 r q) := by
  unfold_payloads
  pointwise
theorem pay_sum5 : k0_pay5 A (ix2 0 q) = ∑ r : Fin 8, A (ix2 r q) := by
  unfold_payloads
  pointwise
theorem pay_sumB : k0_pay6 A (ix2 0 q) = ∑ r : Fin 8, A (ix2 r q) := by
  unfold_payloads
  pointwise
end trip

/-! The padded arrays at a row. -/

/-- A column of the cotangent, zero below its last row, -/
def dz {m : ℕ} (d : (Rows.Mat 8192 m).Idx → EReal) (q : Fin m) (n : ℕ) : EReal := if h : n < 8192 then d (ix2 ⟨n, h⟩ q) else 0
/-- and a column of the input, moved eight rows down and zero above. -/
def xz {m : ℕ} (x : (Rows.Mat 8192 m).Idx → EReal) (q : Fin m) (n : ℕ) : EReal := if h : 8 ≤ n ∧ n < 8200 then x (ix2 ⟨n - 8, by omega⟩ q) else 0

variable (d x : Vec Ideal S8192x128 .f32) (w : Vec Ideal S4x128 .f32) (q : Fin 128)

theorem dpad_apply (a : Fin 8200) : dpad d (ix2 a q) = dz d q a.val := by
  unfold dpad dz
  by_cases h : a.val < 8192
  · rw [dif_pos h, Rows.canon_row_out (Val := Elt Ideal) _ rfl _ _ a q (.inl h), Rows.canon_row (Val := Elt Ideal) _ rfl _ _ a (⟨a.val, h⟩ : Fin 8192) q (Nat.zero_add _).symm]
    unfold_payloads
    pointwise
  · rw [dif_neg h, Rows.canon_row (Val := Elt Ideal) _ rfl _ _ a (⟨a.val - 8192, by omega⟩ : Fin 8) q (by show a.val = 8192 + (a.val - 8192); omega)]
    exact pay_zeroD q _

theorem xpad_apply (a : Fin 8200) : xpad x (ix2 a q) = xz x q a.val := by
  unfold xpad xz
  by_cases h : 8 ≤ a.val
  · rw [dif_pos ⟨h, a.isLt⟩, Rows.canon_row (Val := Elt Ideal) _ rfl _ _ a (⟨a.val - 8, by omega⟩ : Fin 8192) q (by show a.val = 8 + (a.val - 8); omega)]
    unfold_payloads
    pointwise
  · rw [dif_neg fun hh => h hh.1, Rows.canon_row_out (Val := Elt Ideal) _ rfl _ _ a q (.inl (by omega)), Rows.canon_row (Val := Elt Ideal) _ rfl _ _ a (⟨a.val, by omega⟩ : Fin 8) q (Nat.zero_add _).symm]
    exact pay_zeroX q _

theorem off1 : ∀ k : Fin k0_t1_loop.trips, k0_off1 k = ![32 * k.val, 0] := by decide +kernel
theorem off2 : ∀ k : Fin k0_t1_loop.trips, k0_off2 k = ![32 * k.val, 0] := by decide +kernel
theorem trips_eq : k0_t1_loop.trips = 256 := by decide +kernel

theorem rows_d (k : Fin k0_t1_loop.trips) (i : Fin 40) (n : ℕ) (h : n = 32 * k.val + i.val) : rows (dpad d) k (ix2 i q) = dz d q n := by
  have hk : k.val < 256 := Nat.lt_of_lt_of_eq k.isLt trips_eq
  subst h
  unfold rows
  rw [Rows.ld_row (Val := Elt Ideal) (e := .f32) _ (off1 k) (dpad d) ⟨32 * k.val + i.val, by omega⟩ i q rfl, dpad_apply]
theorem rows_x (k : Fin k0_t1_loop.trips) (i : Fin 40) (n : ℕ) (h : n = 32 * k.val + i.val) : rows (xpad x) k (ix2 i q) = xz x q n := by
  have hk : k.val < 256 := Nat.lt_of_lt_of_eq k.isLt trips_eq
  subst h
  unfold rows
  rw [Rows.ld_row (Val := Elt Ideal) (e := .f32) _ (off1 k) (xpad x) ⟨32 * k.val + i.val, by omega⟩ i q rfl, xpad_apply]

/-! The sums after some trips. -/

def term (b n : ℕ) : EReal := dz d q n * xz x q (n + 5 + b)

theorem tapSum_eq (k : Fin k0_t1_loop.trips) (A : Vec Ideal S8x128 .f32) (b : Fin 4) (r : Fin 8) :
    tapSum (rows (dpad d) k) (rows (xpad x) k) A q b r = A (ix2 r q) + (term d x q b (32 * k.val + r.val) + term d x q b (32 * k.val + (8 + r.val))
      + term d x q b (32 * k.val + (16 + r.val)) + term d x q b (32 * k.val + (24 + r.val))) := by
  unfold tapSum term
  refine add4 rfl ?_ ?_ ?_ ?_ <;> refine congrArg₂ (· * ·) (rows_d d q k _ _ rfl) (rows_x x q k _ _ ?_) <;> dsimp only <;> omega

theorem taps_at (b : Fin 4) (r : Fin 8) : ∀ n, n ≤ k0_t1_loop.trips →
    View.canon (Val := Elt Ideal) (stored w (dpad d) (xpad x) n).2.1 (ix2 ⟨8 * b.val + r.val, by omega⟩ q)
      = ∑ i ∈ Finset.range n, (term d x q b (32 * i + r.val) + term d x q b (32 * i + (8 + r.val)) + term d x q b (32 * i + (16 + r.val)) + term d x q b (32 * i + (24 + r.val)))
  | 0, _ => by
    refine (Rows.canon_row (Val := Elt Ideal) _ rfl _ _ _ ⟨8 * b.val + r.val, by omega⟩ q (Nat.zero_add _).symm).trans ?_
    exact pay_zeroA q _
  | n + 1, hn => by
    have ih := taps_at b r n (Nat.le_of_succ_le hn)
    rw [stored_succ w (dpad d) (xpad x) ⟨n, hn⟩, Finset.sum_range_succ, ← ih]
    dsimp only [put9, List.cons_append, List.nil_append]
    match b with
    | 0 =>
      rw [Rows.canon_row_out (Val := Elt Ideal) _ rfl _ _ _ q (.inl (by dsimp only; omega)), Rows.canon_row_out (Val := Elt Ideal) _ rfl _ _ _ q (.inl (by dsimp only; omega)),
        Rows.canon_row (Val := Elt Ideal) _ rfl _ _ _ r q (by dsimp only; omega), pay_tap0, tapSum_eq]
      exact congrArg (· + _) (Rows.ld_row (Val := Elt Ideal) (e := .f32) _ rfl _ _ r q (by dsimp only; omega))
    | 1 =>
      rw [Rows.canon_row_out (Val := Elt Ideal) _ rfl _ _ _ q (.inl (by dsimp only; omega)), Rows.canon_row (Val := Elt Ideal) _ rfl _ _ _ r q (by dsimp only; omega), pay_tap1, tapSum_eq]
      exact congrArg (· + _) (Rows.ld_row (Val := Elt Ideal) (e := .f32) _ rfl _ _ r q (by dsimp only; omega))
    | 2 =>
      rw [Rows.canon_row (Val := Elt Ideal) _ rfl _ _ _ r q (by dsimp only; omega), pay_tap2, tapSum_eq]
      exact congrArg (· + _) (Rows.ld_row (Val := Elt Ideal) (e := .f32) _ rfl _ _ r q (by dsimp only; omega))
    | 3 =>
      rw [Rows.canon_row_out (Val := Elt Ideal) _ rfl _ _ _ q (.inr (by dsimp only; omega)), Rows.canon_row_out (Val := Elt Ideal) _ rfl _ _ _ q (.inr (by dsimp only; omega)),
        Rows.canon_row_out (Val := Elt Ideal) _ rfl _ _ _ q (.inr (by dsimp only; omega)), Rows.canon_row (Val := Elt Ideal) _ rfl _ _ _ r q (by dsimp only; omega), pay_tap3, tapSum_eq]
      exact congrArg (· + _) (Rows.ld_row (Val := Elt Ideal) (e := .f32) _ rfl _ _ r q (by dsimp only; omega))

theorem bias_at (r : Fin 8) : ∀ n, n ≤ k0_t1_loop.trips →
    View.canon (Val := Elt Ideal) (stored w (dpad d) (xpad x) n).2.2 (ix2 r q)
      = ∑ i ∈ Finset.range n, (dz d q (32 * i + r.val) + dz d q (32 * i + (8 + r.val)) + dz d q (32 * i + (16 + r.val)) + dz d q (32 * i + (24 + r.val)))
  | 0, _ => by
    refine (Rows.canon_row (Val := Elt Ideal) _ rfl _ _ _ r q (Nat.zero_add _).symm).trans ?_
    exact pay_zeroB q _
  | n + 1, hn => by
    have ih := bias_at r n (Nat.le_of_succ_le hn)
    rw [stored_succ w (dpad d) (xpad x) ⟨n, hn⟩, Finset.sum_range_succ, ← ih]
    dsimp only [put10, List.cons_append, List.nil_append]
    rw [Rows.canon_row (Val := Elt Ideal) _ rfl _ _ _ r q (Nat.zero_add _).symm, pay_bias]
    exact add4 (Rows.ld_row (Val := Elt Ideal) (e := .f32) _ rfl _ _ r q (Nat.zero_add _).symm) (rows_d d q ⟨n, hn⟩ _ _ rfl) (rows_d d q ⟨n, hn⟩ _ _ rfl) (rows_d d q ⟨n, hn⟩ _ _ rfl) (rows_d d q ⟨n, hn⟩ _ _ rfl)

/-- The input's gradient at a row. -/
def dxAt {m : ℕ} (w : (Rows.Mat 4 m).Idx → EReal) (d : (Rows.Mat 8192 m).Idx → EReal) (q : Fin m) (t : ℕ) : EReal :=
  (w (ix2 3 q) * dz d q t + w (ix2 2 q) * dz d q (1 + t)) + (w (ix2 1 q) * dz d q (2 + t) + w (ix2 0 q) * dz d q (3 + t))

theorem dx_at (a : Fin 8192) : ∀ n, n ≤ k0_t1_loop.trips → a.val < 32 * n → View.canon (Val := Elt Ideal) (stored w (dpad d) (xpad x) n).1 (ix2 a q) = dxAt w d q a.val
  | 0, _, h => absurd h (by omega)
  | n + 1, hn, h => by
    rw [stored_succ w (dpad d) (xpad x) ⟨n, hn⟩]
    dsimp only [put4, List.cons_append, List.nil_append]
    by_cases hl : a.val < 32 * n
    · rw [Rows.canon_row_out (Val := Elt Ideal) _ (off2 ⟨n, hn⟩) _ _ a q (.inl hl)]
      exact dx_at a n (Nat.le_of_succ_le hn) hl
    · rw [Rows.canon_row (Val := Elt Ideal) _ (off2 ⟨n, hn⟩) _ _ a ⟨a.val - 32 * n, by omega⟩ q (by dsimp only; omega), pay_dx,
        rows_d d q ⟨n, hn⟩ _ a.val (by dsimp only; omega), rows_d d q ⟨n, hn⟩ _ (1 + a.val) (by dsimp only; omega), rows_d d q ⟨n, hn⟩ _ (2 + a.val) (by dsimp only; omega),
        rows_d d q ⟨n, hn⟩ _ (3 + a.val) (by dsimp only; omega)]
      rfl

/-! What a block's body leaves. -/

theorem outX_apply (a : Fin 8192) : outX w d x (ix2 a q) = dxAt w d q a.val :=
  dx_at d x w q a _ (Nat.le_refl _) (by rw [trips_eq]; omega)

theorem outB_apply : outB w d x (ix2 0 q) = ∑ t : Fin 8192, dz d q t.val := by
  unfold outB
  rw [pay_sumB, ← sum_all]
  refine Finset.sum_congr rfl fun r _ => ?_
  refine (Rows.ld_row (Val := Elt Ideal) (e := .f32) _ rfl _ r r q (Nat.zero_add _).symm).trans ((bias_at d x w q r _ (Nat.le_refl _)).trans ?_)
  rw [trips_eq]

theorem tap_total (b : Fin 4) : ∑ r : Fin 8, taps w d x (ix2 ⟨8 * b.val + r.val, by omega⟩ q) = ∑ t : Fin 8192, term d x q b t.val := by
  rw [← sum_all]
  refine Finset.sum_congr rfl fun r _ => (taps_at d x w q b r _ (Nat.le_refl _)).trans ?_
  rw [trips_eq]

theorem outW_zero (k : Fin 8) (h : 4 ≤ k.val) : outW w d x (ix2 k q) = 0 := by
  unfold outW putW
  rw [Rows.canon_row_out (Val := Elt Ideal) _ rfl _ _ k q (.inr (by omega)), Rows.canon_row_out (Val := Elt Ideal) _ rfl _ _ k q (.inr (by omega)),
    Rows.canon_row_out (Val := Elt Ideal) _ rfl _ _ k q (.inr (by omega)), Rows.canon_row_out (Val := Elt Ideal) _ rfl _ _ k q (.inr (by omega)),
    Rows.canon_row (Val := Elt Ideal) _ rfl _ _ k k q (Nat.zero_add _).symm]
  exact pay_zeroW q k

theorem outW_apply (b : Fin 4) : outW w d x (ix2 ⟨b.val, by omega⟩ q) = ∑ t : Fin 8192, term d x q b t.val := by
  rw [← tap_total d x w q b]
  unfold outW putW
  match b with
  | 0 =>
    rw [Rows.canon_row_out (Val := Elt Ideal) _ rfl _ _ _ q (.inl (by decide)), Rows.canon_row_out (Val := Elt Ideal) _ rfl _ _ _ q (.inl (by decide)),
      Rows.canon_row_out (Val := Elt Ideal) _ rfl _ _ _ q (.inl (by decide)), Rows.canon_row (Val := Elt Ideal) _ rfl _ _ _ 0 q (by decide), pay_sum2]
    exact Finset.sum_congr rfl fun r _ => Rows.ld_row (Val := Elt Ideal) (e := .f32) _ rfl _ _ r q (by dsimp only; omega)
  | 1 =>
    rw [Rows.canon_row_out (Val := Elt Ideal) _ rfl _ _ _ q (.inl (by decide)), Rows.canon_row_out (Val := Elt Ideal) _ rfl _ _ _ q (.inl (by decide)),
      Rows.canon_row (Val := Elt Ideal) _ rfl _ _ _ 0 q (by decide), pay_sum3]
    exact Finset.sum_congr rfl fun r _ => Rows.ld_row (Val := Elt Ideal) (e := .f32) _ rfl _ _ r q (by dsimp only; omega)
  | 2 =>
    rw [Rows.canon_row_out (Val := Elt Ideal) _ rfl _ _ _ q (.inl (by decide)), Rows.canon_row (Val := Elt Ideal) _ rfl _ _ _ 0 q (by decide), pay_sum4]
    exact Finset.sum_congr rfl fun r _ => Rows.ld_row (Val := Elt Ideal) (e := .f32) _ rfl _ _ r q (by dsimp only; omega)
  | 3 =>
    rw [Rows.canon_row (Val := Elt Ideal) _ rfl _ _ _ 0 q (by decide), pay_sum5]
    exact Finset.sum_congr rfl fun r _ => Rows.ld_row (Val := Elt Ideal) (e := .f32) _ rfl _ _ r q (by dsimp only; omega)

/-! The arrays. -/

/-- The gradients of the convolution's input, of its weight and of its bias. -/
def arrX (w : FVec Ideal S4x1408 .f32) (d : FVec Ideal S8192x1408 .f32) : FVec Ideal S8192x1408 .bf16 := fun i => dxAt w d (i 1) (i 0).val
def arrW (d x : FVec Ideal S8192x1408 .f32) : FVec Ideal S8x1408 .f32 := fun i =>
  if (i 0).val < 4 then ∑ t : Fin 8192, dz d (i 1) t.val * xz x (i 1) (t.val + 5 + (i 0).val) else 0
def arrB (d : FVec Ideal S8192x1408 .f32) : FVec Ideal S1x1408 .f32 := fun i => ∑ t : Fin 8192, d (ix2 t (i 1))

section blocks
variable (m : (ℓ : Loc nD τ sig) → Buf (Elt Ideal) ℓ)

abbrev argX (c : Dev nD) : FVec Ideal S8192x1408 .f32 := m ((c : Thread nD τ).loc main_arg0)
abbrev argW (c : Dev nD) : FVec Ideal S4x1408 .f32 := m ((c : Thread nD τ).loc main_arg1)
abbrev argD (c : Dev nD) : FVec Ideal S8192x1408 .f32 := m ((c : Thread nD τ).loc main_arg3)

theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, t.val] := (by decide +kernel : ∀ t : Fin grid0.N, _)
theorem lt11 (t : Fin cfg0.N) : t.val < 11 := Nat.lt_of_lt_of_eq t.isLt N_0

def lane (t : Fin cfg0.N) (q : Fin 128) : Fin 1408 := ⟨t.val * 128 + q.val, by have := lt11 t; omega⟩

theorem iblk0 (c : Dev nD) (t : Fin cfg0.N) (i : Fin 8192) (q : Fin 128) : iblk m c 0 t (ix2 i q) = argD m c (ix2 i (lane t q)) := by
  blk_simp [iblk]; entry_read; pointwise; blk_ext [idx t, lane]
theorem iblk1 (c : Dev nD) (t : Fin cfg0.N) (i : Fin 8192) (q : Fin 128) : iblk m c 1 t (ix2 i q) = argX m c (ix2 i (lane t q)) := by
  blk_simp [iblk]; entry_read; pointwise; blk_ext [idx t, lane]
theorem iblk2 (c : Dev nD) (t : Fin cfg0.N) (i : Fin 4) (q : Fin 128) : iblk m c 2 t (ix2 i q) = argW m c (ix2 i (lane t q)) := by
  blk_simp [iblk]; entry_read; pointwise; blk_ext [idx t, lane]
theorem emb3 (t : Fin cfg0.N) (i : Fin 8192) (q : Fin 128) : ((cfg0.win 3).blk t).view.emb (ix2 i q) = ix2 i (lane t q) := by
  blk_ext [idx t, lane]
theorem emb4 (t : Fin cfg0.N) (i : Fin 8) (q : Fin 128) : ((cfg0.win 4).blk t).view.emb (ix2 i q) = ix2 i (lane t q) := by
  blk_ext [idx t, lane]
theorem emb5 (t : Fin cfg0.N) (i : Fin 1) (q : Fin 128) : ((cfg0.win 5).blk t).view.emb (ix2 i q) = ix2 i (lane t q) := by
  blk_ext [idx t, lane]

theorem dz_blk (c : Dev nD) (t : Fin cfg0.N) (q : Fin 128) (n : ℕ) : dz (iblk m c 0 t) q n = dz (argD m c) (lane t q) n := by
  unfold dz
  by_cases h : n < 8192
  · rw [dif_pos h, dif_pos h]; exact iblk0 m c t _ q
  · rw [dif_neg h, dif_neg h]
theorem xz_blk (c : Dev nD) (t : Fin cfg0.N) (q : Fin 128) (n : ℕ) : xz (iblk m c 1 t) q n = xz (argX m c) (lane t q) n := by
  unfold xz
  by_cases h : 8 ≤ n ∧ n < 8200
  · rw [dif_pos h, dif_pos h]; exact iblk1 m c t _ q
  · rw [dif_neg h, dif_neg h]

theorem finalX (c : Dev nD) : (dats m 0 c).arrAt 3 cfg0.N = arrX (argW m c) (argD m c) := by
  refine (dats m 0 c).arrAt_eq_of_covers 3 _ (by decide +kernel) fun t _ y => ?_
  blk_simp
  rw [after0_3]
  obtain ⟨i, q, rfl⟩ : ∃ (i : Fin 8192) (q : Fin 128), y = ix2 i q := ⟨y 0, y 1, eq_ix2 y⟩
  refine Eq.trans ?_ (congrArg (arrX _ _) (emb3 t i q)).symm
  refine (outX_apply (iblk m c 0 t) (iblk m c 1 t) (iblk m c 2 t) q i).trans ?_
  unfold arrX dxAt
  dsimp only [ix2_0, ix2_1]
  refine congrArg₂ (· + ·) (congrArg₂ (· + ·) ?_ ?_) (congrArg₂ (· + ·) ?_ ?_) <;> exact congrArg₂ (· * ·) (iblk2 m c t _ q) (dz_blk m c t q _)

theorem finalW (c : Dev nD) : (dats m 0 c).arrAt 4 cfg0.N = arrW (argD m c) (argX m c) := by
  refine (dats m 0 c).arrAt_eq_of_covers 4 _ (by decide +kernel) fun t _ y => ?_
  blk_simp
  rw [after0_4]
  obtain ⟨i, q, rfl⟩ : ∃ (i : Fin 8) (q : Fin 128), y = ix2 i q := ⟨y 0, y 1, eq_ix2 y⟩
  refine Eq.trans ?_ (congrArg (arrW _ _) (emb4 t i q)).symm
  unfold arrW
  dsimp only [ix2_0, ix2_1]
  by_cases h : i.val < 4
  · refine Eq.trans ?_ (if_pos h).symm
    refine (outW_apply (iblk m c 0 t) (iblk m c 1 t) (iblk m c 2 t) q ⟨i.val, h⟩).trans ?_
    refine Finset.sum_congr rfl fun s _ => ?_
    unfold term
    rw [dz_blk, xz_blk]
  · refine Eq.trans ?_ (if_neg h).symm
    exact outW_zero (iblk m c 0 t) (iblk m c 1 t) (iblk m c 2 t) q i (by omega)

theorem finalB (c : Dev nD) : (dats m 0 c).arrAt 5 cfg0.N = arrB (argD m c) := by
  refine (dats m 0 c).arrAt_eq_of_covers 5 _ (by decide +kernel) fun t _ y => ?_
  blk_simp
  rw [after0_5]
  obtain ⟨i, q, rfl⟩ : ∃ (i : Fin 1) (q : Fin 128), y = ix2 i q := ⟨y 0, y 1, eq_ix2 y⟩
  obtain rfl : i = 0 := Subsingleton.elim _ _
  refine Eq.trans ?_ (congrArg (arrB _) (emb5 t 0 q)).symm
  refine (outB_apply (iblk m c 0 t) (iblk m c 1 t) (iblk m c 2 t) q).trans ?_
  unfold arrB
  dsimp only [ix2_1]
  refine Finset.sum_congr rfl fun s _ => ?_
  rw [dz_blk]
  exact dif_pos s.isLt

/-- The kernel's results. -/
theorem result (ρ : Dev nD → PrngReg) :
    θ_run defs (onTc (τ := τ) (main (F := Ideal))) ⟨m, fun _ => 0, ρ⟩ (fun r => ∀ c : Dev nD,
      r.2.mem ((c.tc : Thread nD τ).loc main_v0_0) = arrX (argW m c) (argD m c)
      ∧ r.2.mem ((c.tc : Thread nD τ).loc main_v0_1) = arrW (argD m c) (argX m c)
      ∧ r.2.mem ((c.tc : Thread nD τ).loc main_v0_2) = arrB (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).1 3).trans (finalX m c), ((h.1.1 c).1 4).trans (finalW m c), ((h.1.1 c).1 5).trans (finalB m c), h.2.1 c⟩)
    (θ_run_and (run m ρ) (frame m ρ))
end blocks

end Cert.Conv4Value

end
-- ==== Proof.Conv4Ref.lean ====
module

public import proofs.«01_k».proof.Proof.Conv4Value
public import proofs.«01_k».proof.Proof.Gen.Conv4RefIdeal.Read

@[expose] public section

set_option maxRecDepth 16384

noncomputable section

namespace Cert.Conv4Ref

open Cert.Conv4RefIdeal Cert.Conv4RefIdeal.Gen Cert.Conv4RefIdeal.Read Idealize.ShloMosaic Cert.Conv4Value

theorem ref_b (d : FVec Ideal S8192x1408 .f32) : val_main_v86 (F := Ideal) d = arrB d := by
  funext i
  idx_vars i
  pointwise [val_main_v86, val_main_v38, val_main_v37, val_main_v36, val_main_cst_3, val_main_cst_2, arrB]
  exact Fintype.sum_unique _

/-- A product with a value that is zero outside the array. -/
theorem mul_dite {P Q : Prop} [Decidable P] [Decidable Q] (h : P ↔ Q) (a : EReal) (f : P → EReal) (g : Q → EReal) (e : ∀ p q, f p = a * g q) :
    (if p : P then f p else 0) = a * (if q : Q then g q else 0) := by
  by_cases p : P
  · rw [dif_pos p, dif_pos (h.mp p)]; exact e p _
  · rw [dif_neg p, dif_neg fun q => p (h.mpr q), mul_zero]

theorem ref_x (w : FVec Ideal S4x1408 .f32) (d : FVec Ideal S8192x1408 .f32) : val_main_v83 (F := Ideal) w d = arrX w d := by
  funext i
  idx_vars i
  pointwise [val_main_v83, val_main_v82, val_main_v77, val_main_v66, val_main_v55, val_main_v45, val_main_v40, val_main_v39, val_main_v28, val_main_v26,
    val_main_v25, val_main_v35, val_main_cst_6, val_main_v54, val_main_v49, val_main_v48, val_main_v21, val_main_v19, val_main_v18, val_main_cst_10,
    val_main_v65, val_main_v60, val_main_v59, val_main_v14, val_main_v12, val_main_v11, val_main_cst_14, val_main_v76, val_main_v71, val_main_v70,
    val_main_v6, val_main_v4, val_main_v3, val_main_cst_18, arrX, dxAt, dz]
  rw [add_assoc]
  have row : ∀ a b : Fin 8192, a = b → d (ix2 a i1) = d (ix2 b i1) := fun a b e => by rw [e]
  refine congrArg₂ (· + ·) (congrArg₂ (· + ·) rfl (mul_dite ?_ _ _ _ ?_)) (congrArg₂ (· + ·) (mul_dite ?_ _ _ _ ?_) (mul_dite Iff.rfl _ _ _ fun _ _ => rfl))
  · omega
  · exact fun p q => congrArg (_ * ·) (row _ _ (Fin.ext (by dsimp only; omega)))
  · omega
  · exact fun p q => congrArg (_ * ·) (row _ _ (Fin.ext (by dsimp only; omega)))

theorem ref_w (x d : FVec Ideal S8192x1408 .f32) : val_main_v85 (F := Ideal) x d = arrW d x := by
  funext i
  idx_vars i
  pointwise [val_main_v85, val_main_v80, val_main_v69, val_main_v58, val_main_v47, val_main_v46, val_main_v44, val_main_v43, val_main_v42, val_main_v41,
    val_main_v35, val_main_v27, val_main_v1, val_main_v0, val_main_cst, val_main_cst_4, val_main_cst_5, val_main_cst_7, val_main_v57, val_main_v56,
    val_main_v53, val_main_v52, val_main_v51, val_main_v50, val_main_v20, val_main_cst_8, val_main_cst_9, val_main_cst_11, val_main_v68, val_main_v67,
    val_main_v64, val_main_v63, val_main_v62, val_main_v61, val_main_v13, val_main_cst_12, val_main_cst_13, val_main_cst_15, val_main_v79, val_main_v78,
    val_main_v75, val_main_v74, val_main_v73, val_main_v72, val_main_v5, val_main_cst_16, val_main_cst_17, val_main_cst_19, val_main_v84, val_main_cst_20,
    arrW, dz, xz]
  have row : ∀ a b : Fin 8192, a = b → x (ix2 a i1) = x (ix2 b i1) := fun a b e => by rw [e]
  fin_cases i0
  · simp
    refine Eq.trans ?_ (Fin.sum_univ_add (a := 3) (b := 8189) _).symm
    have none : ∀ t : Fin 3, ¬ (3 ≤ (Fin.castAdd 8189 t).val ∧ (Fin.castAdd 8189 t).val + 5 < 8200) := fun t h => absurd h.1 (by show ¬ 3 ≤ t.val; omega)
    have some : ∀ t : Fin 8189, 3 ≤ (Fin.natAdd 3 t).val ∧ (Fin.natAdd 3 t).val + 5 < 8200 := fun t => by show 3 ≤ 3 + t.val ∧ 3 + t.val + 5 < 8200; omega
    refine Eq.symm ((congrArg₂ (· + ·) (Finset.sum_eq_zero fun t _ => dif_neg (none t)) (Finset.sum_congr rfl fun t _ => (dif_pos (some t)).trans ?_)).trans (zero_add _))
    exact congrArg (_ * ·) (row _ _ (Fin.ext (Nat.add_sub_cancel_left ..)))
  · simp
    refine Finset.sum_congr rfl fun t _ => ?_
    by_cases h : 1 + t.val < 3
    · rw [dif_pos h, dif_neg (by omega)]
    · rw [dif_neg h, dif_pos (by omega)]
      exact congrArg (_ * ·) (row _ _ (Fin.ext (by dsimp only; omega)))
  · simp
    refine Finset.sum_congr rfl fun t _ => ?_
    by_cases h : 2 + t.val < 3
    · rw [dif_pos h, dif_neg (by omega)]
    · rw [dif_neg h, dif_pos (by omega)]
      exact congrArg (_ * ·) (row _ _ (Fin.ext (by dsimp only; omega)))
  · simp
    exact Finset.sum_congr rfl fun t _ => (if_pos (by omega)).symm
  all_goals simp
end Cert.Conv4Ref

end
-- ==== Proof.Conv4Claim.lean ====
module

public import proofs.«01_k».proof.Defs
public import proofs.«01_k».proof.Proof.Conv4Ref
public import proofs.«01_k».proof.Proof.Gen.Conv4

/-! The claims about the gradients of the convolution with four taps. -/

@[expose] public section

set_option maxRecDepth 16384

noncomputable section

namespace Cert.Conv4Claim

open Idealize.ShloMosaic Idealize.ShloMosaic.TcCoe Idealize.SL.Sem

/-- No operation was rewritten: at the bits the two prints have the same kernel body. -/
theorem bodies : Cert.Conv4.defs₀ (F := Bits) = Cert.Conv4Ideal.defs₀ (F := Bits) := by
  unfold Cert.Conv4.defs₀ Cert.Conv4Ideal.defs₀
  refine congrArg Defs.onTc ?_
  funext x y
  match x, y with
  | 0, (t, s) => rfl

theorem programs : Cert.Conv4.defs (F := Bits) = Cert.Conv4Ideal.defs (F := Bits) :=
  congrArg (Pipeline.defs Cert.Conv4.pcfgs) bodies

theorem frame : Cert.quiescent_Conv4 := fun m ρ _ => by
  rw [programs]
  exact Conv4Run.frame m ρ
theorem frame_ideal : Cert.quiescent_Conv4Ideal := fun m ρ _ => Conv4Run.frame m ρ

theorem frame_ref : Cert.quiescent_Conv4RefIdeal := fun m ρ _ =>
  (θ_run Cert.Conv4RefIdeal.defs _ _).mono (fun r h => ⟨fun c => (h c).2.2.2, sem_eq_zero_of_no_sems (by decide) r.2⟩)
    (Cert.Conv4RefIdeal.Value.run (F := Ideal) m ρ)

theorem algebraic : Cert.algebraic_Conv4Ideal_Conv4RefIdeal := by
  intro m g m' g' _ hm
  refine ⟨fun c => Conv4Value.arrX (Conv4Value.argW m c) (Conv4Value.argD m c), fun c => Conv4Value.arrW (Conv4Value.argD m c) (Conv4Value.argX m c),
    fun c => Conv4Value.arrB (Conv4Value.argD m c), Conv4Value.result m g,
    (θ_run Cert.Conv4RefIdeal.defs _ _).mono (fun r h c => ⟨(h c).1.trans ?_, (h c).2.1.trans ?_, (h c).2.2.1.trans ?_, (h c).2.2.2⟩) (Cert.Conv4RefIdeal.Value.run (F := Ideal) m' g')⟩
  all_goals obtain ⟨e0, e1, _, e3⟩ := hm c
  · exact (Conv4Ref.ref_x _ _).trans (congrArg₂ Conv4Value.arrX e1 e3)
  · exact (Conv4Ref.ref_w _ _).trans (congrArg₂ Conv4Value.arrW e3 e0)
  · exact (Conv4Ref.ref_b _).trans (congrArg Conv4Value.arrB e3)

end Cert.Conv4Claim

end
-- ==== Proof.Conv31FwdTrip.lean ====
module

public import proofs.«01_k».proof.Proof.Gen.Conv31Ideal.Loops
public import Idealize.ShloMosaic.Lib.Claim
public import Idealize.ShloMosaic.Lib.VecWindow
public import Idealize.ShloMosaic.Lib.Pipeline.ValueKit

@[expose] public section

set_option maxRecDepth 16384

noncomputable section

namespace Cert.Conv31FwdTrip

open Cert.Conv31Ideal Cert.Conv31Ideal.Gen Idealize.ShloMosaic Idealize.ShloMosaic.TcCoe
open Idealize.SL.Sem

variable {F : FTy → Type} [FloatOps F]

/-- The sixty-four rows of the padded input that trip `k` of the convolution loads. -/
def rows (X : Vec F S8224x128 .f32) (k : Fin k0_t1_loop.trips) : Vec F S64x128 .f32 :=
  View.ld X (Rect.unit (s := S8224x128) (k0_off1 k) S64x128.size (k0_off1_inb k))

/-- The convolution's next thirty-two rows, from the rows loaded. -/
def conv (w : Vec F S31x128 .f32) (b : Vec F S1x128 .f32) (v : Vec F S64x128 .f32) : Vec F S32x128 .f32 :=
  k0_pay22 w (k0_pay3 b) v (k0_pay15 w v (k0_pay10 w v)) (k0_pay16 w v (k0_pay6 w v) (k0_pay11 v) (k0_pay12 w)) (k0_pay17 v)
    (k0_pay18 w v (k0_pay8 w v)) (k0_pay19 w v (k0_pay9 w v)) (k0_pay20 w) (k0_pay21 v)

/-- What trip `k` of the convolution stores. -/
def putC (w : Vec F S31x128 .f32) (b : Vec F S1x128 .f32) (x : Vec F S8224x128 .f32) (k : Fin k0_t1_loop.trips) : List (View.Piece (Elt F) S8192x128 .f32) :=
  [⟨Rect.unit (s := S8192x128) (k0_off2 k) S32x128.size (k0_off2_inb k), conv w b (rows x k)⟩]

/-- What trip `k` of the normalisation stores. -/
def putS (gg gb : Vec F S1x128 .f32) (y : Vec F S8192x128 .f32) (k : Fin k0_t2_loop.trips) : List (View.Piece (Elt F) S8192x128 .bf16) :=
  [⟨Rect.unit (s := S8192x128) (k0_off3 k) S1024x128.size (k0_off3_inb k),
    k0_pay4 gg gb (View.ld y (Rect.unit (s := S8192x128) (k0_off3 k) S1024x128.size (k0_off3_inb k)))⟩]

theorem tripC (𝒱 : Variants) (c : Dev nD) (bd : Option 𝒱.V) (i : grid0.Coords) (arg1 : Memref sig .tc .vmem S8192x128 .f32) (h1 : arg1.IsWhole) (arg2 : Memref sig .tc .vmem S31x128 .f32) (h2 : arg2.IsWhole) (arg3 : Memref sig .tc .vmem S1x128 .f32) (h3 : arg3.IsWhole) (arg4 : Memref sig .tc .vmem S1x128 .f32) (h4 : arg4.IsWhole) (arg5 : Memref sig .tc .vmem S1x128 .f32) (h5 : arg5.IsWhole) (arg6 : Memref sig .tc .vmem S8192x128 .f32) (h6 : arg6.IsWhole) (arg7 : Memref sig .tc .vmem S8192x128 .bf16) (h7 : arg7.IsWhole) (arg8 : Memref sig .tc .vmem S8224x128 .f32) (h8 : arg8.IsWhole)
    (w : Vec F S31x128 .f32) (b : Vec F S1x128 .f32) (x : Vec F S8224x128 .f32) (k : Fin k0_t1_loop.trips) :
    tripL_k0_t1 𝒱 c bd i arg1 h1 arg2 h2 arg3 h3 arg4 h4 arg5 h5 arg6 h6 arg7 h7 arg8 h8 w b (h8.unread x) k = putC w b x k := by
  unfold tripL_k0_t1 trip_k0_t1
  dsimp only
  sl_unfold_words
  simp only [View.readAt_eq_ld, h8.read_unread]
  rfl

theorem tripS (𝒱 : Variants) (c : Dev nD) (bd : Option 𝒱.V) (i : grid0.Coords) (arg1 : Memref sig .tc .vmem S8192x128 .f32) (h1 : arg1.IsWhole) (arg2 : Memref sig .tc .vmem S31x128 .f32) (h2 : arg2.IsWhole) (arg3 : Memref sig .tc .vmem S1x128 .f32) (h3 : arg3.IsWhole) (arg4 : Memref sig .tc .vmem S1x128 .f32) (h4 : arg4.IsWhole) (arg5 : Memref sig .tc .vmem S1x128 .f32) (h5 : arg5.IsWhole) (arg6 : Memref sig .tc .vmem S8192x128 .f32) (h6 : arg6.IsWhole) (arg7 : Memref sig .tc .vmem S8192x128 .bf16) (h7 : arg7.IsWhole) (arg8 : Memref sig .tc .vmem S8224x128 .f32) (h8 : arg8.IsWhole)
    (gg gb : Vec F S1x128 .f32) (y : Vec F S8192x128 .f32) (k : Fin k0_t2_loop.trips) :
    tripL_k0_t2 𝒱 c bd i arg1 h1 arg2 h2 arg3 h3 arg4 h4 arg5 h5 arg6 h6 arg7 h7 arg8 h8 gg gb (h6.unread y) k = putS gg gb y k := by
  unfold tripL_k0_t2 trip_k0_t2
  dsimp only
  sl_unfold_words
  simp only [View.readAt_eq_ld, h6.read_unread]
  rfl

/-- The pieces that the first `n` trips have stored, the latest first: of the convolution, -/
def storedC (w : Vec F S31x128 .f32) (b : Vec F S1x128 .f32) (x : Vec F S8224x128 .f32) : ℕ → List (View.Piece (Elt F) S8192x128 .f32)
  | 0 => []
  | k + 1 => if h : k < k0_t1_loop.trips then putC w b x ⟨k, h⟩ ++ storedC w b x k else storedC w b x k

/-- of the normalisation. -/
def storedS (gg gb : Vec F S1x128 .f32) (y : Vec F S8192x128 .f32) : ℕ → List (View.Piece (Elt F) S8192x128 .bf16)
  | 0 => []
  | k + 1 => if h : k < k0_t2_loop.trips then putS gg gb y ⟨k, h⟩ ++ storedS gg gb y k else storedS gg gb y k

theorem storedC_succ (w : Vec F S31x128 .f32) (b : Vec F S1x128 .f32) (x : Vec F S8224x128 .f32) (k : Fin k0_t1_loop.trips) :
    storedC w b x (k.val + 1) = putC w b x k ++ storedC w b x k.val := dif_pos k.isLt

theorem storedS_succ (gg gb : Vec F S1x128 .f32) (y : Vec F S8192x128 .f32) (k : Fin k0_t2_loop.trips) :
    storedS gg gb y (k.val + 1) = putS gg gb y k ++ storedS gg gb y k.val := dif_pos k.isLt

theorem pbC (𝒱 : Variants) (c : Dev nD) (bd : Option 𝒱.V) (i : grid0.Coords) (arg1 : Memref sig .tc .vmem S8192x128 .f32) (h1 : arg1.IsWhole) (arg2 : Memref sig .tc .vmem S31x128 .f32) (h2 : arg2.IsWhole) (arg3 : Memref sig .tc .vmem S1x128 .f32) (h3 : arg3.IsWhole) (arg4 : Memref sig .tc .vmem S1x128 .f32) (h4 : arg4.IsWhole) (arg5 : Memref sig .tc .vmem S1x128 .f32) (h5 : arg5.IsWhole) (arg6 : Memref sig .tc .vmem S8192x128 .f32) (h6 : arg6.IsWhole) (arg7 : Memref sig .tc .vmem S8192x128 .bf16) (h7 : arg7.IsWhole) (arg8 : Memref sig .tc .vmem S8224x128 .f32) (h8 : arg8.IsWhole)
    (w : Vec F S31x128 .f32) (b : Vec F S1x128 .f32) (x : Vec F S8224x128 .f32) : ∀ n, n ≤ k0_t1_loop.trips →
    pb_k0_t1 𝒱 c bd i arg1 h1 arg2 h2 arg3 h3 arg4 h4 arg5 h5 arg6 h6 arg7 h7 arg8 h8 w b (h8.unread x) n = storedC w b x n
  | 0, _ => rfl
  | n + 1, hn => by
    rw [pb_k0_t1_succ (F := F) 𝒱 c bd i arg1 h1 arg2 h2 arg3 h3 arg4 h4 arg5 h5 arg6 h6 arg7 h7 arg8 h8 w b (h8.unread x) ⟨n, hn⟩, tripC, storedC_succ w b x ⟨n, hn⟩,
      pbC 𝒱 c bd i arg1 h1 arg2 h2 arg3 h3 arg4 h4 arg5 h5 arg6 h6 arg7 h7 arg8 h8 w b x n (Nat.le_of_succ_le hn)]

theorem pbS (𝒱 : Variants) (c : Dev nD) (bd : Option 𝒱.V) (i : grid0.Coords) (arg1 : Memref sig .tc .vmem S8192x128 .f32) (h1 : arg1.IsWhole) (arg2 : Memref sig .tc .vmem S31x128 .f32) (h2 : arg2.IsWhole) (arg3 : Memref sig .tc .vmem S1x128 .f32) (h3 : arg3.IsWhole) (arg4 : Memref sig .tc .vmem S1x128 .f32) (h4 : arg4.IsWhole) (arg5 : Memref sig .tc .vmem S1x128 .f32) (h5 : arg5.IsWhole) (arg6 : Memref sig .tc .vmem S8192x128 .f32) (h6 : arg6.IsWhole) (arg7 : Memref sig .tc .vmem S8192x128 .bf16) (h7 : arg7.IsWhole) (arg8 : Memref sig .tc .vmem S8224x128 .f32) (h8 : arg8.IsWhole)
    (gg gb : Vec F S1x128 .f32) (y : Vec F S8192x128 .f32) : ∀ n, n ≤ k0_t2_loop.trips →
    pb_k0_t2 𝒱 c bd i arg1 h1 arg2 h2 arg3 h3 arg4 h4 arg5 h5 arg6 h6 arg7 h7 arg8 h8 gg gb (h6.unread y) n = storedS gg gb y n
  | 0, _ => rfl
  | n + 1, hn => by
    rw [pb_k0_t2_succ (F := F) 𝒱 c bd i arg1 h1 arg2 h2 arg3 h3 arg4 h4 arg5 h5 arg6 h6 arg7 h7 arg8 h8 gg gb (h6.unread y) ⟨n, hn⟩, tripS, storedS_succ gg gb y ⟨n, hn⟩,
      pbS 𝒱 c bd i arg1 h1 arg2 h2 arg3 h3 arg4 h4 arg5 h5 arg6 h6 arg7 h7 arg8 h8 gg gb y n (Nat.le_of_succ_le hn)]

end Cert.Conv31FwdTrip

end
-- ==== Proof.Conv31FwdBody.lean ====
module

public import Idealize.ShloMosaic.Lib.Ring
public import proofs.«01_k».proof.Proof.Conv31FwdTrip

@[expose] public section

set_option maxRecDepth 16384

noncomputable section

namespace Cert.Conv31FwdBody

open Cert.Conv31Ideal Cert.Conv31Ideal.Gen Cert.Conv31FwdTrip Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The convolution's input with thirty-two rows of zeros above it. -/
def xpad (x : Vec F S8192x128 .f32) : Vec F S8224x128 .f32 := View.canon (Val := Elt F)
  [⟨Rect.unit (s := S8224x128) ![32, 0] S8192x128.size inb_S8224x128_S8192x128_32_0, k0_pay2 x⟩,
    ⟨Rect.unit (s := S8224x128) ![0, 0] S32x128.size inb_S8224x128_S32x128_0_0, k0_pay1⟩]

/-- What a block's body leaves: the convolution, -/
def outC (x : Vec F S8192x128 .f32) (w : Vec F S31x128 .f32) (b : Vec F S1x128 .f32) : Vec F S8192x128 .f32 :=
  View.canon (Val := Elt F) (storedC w b (xpad x) k0_t1_loop.trips)

/-- and its normalisation. -/
def outS (x : Vec F S8192x128 .f32) (w : Vec F S31x128 .f32) (b gg gb : Vec F S1x128 .f32) : Vec F S8192x128 .bf16 :=
  View.canon (Val := Elt F) (storedS gg gb (outC x w b) k0_t2_loop.trips)

theorem coverC (w : Vec F S31x128 .f32) (b : Vec F S1x128 .f32) (X : Vec F S8224x128 .f32) (y : S8192x128.Idx) :
    ∃ p ∈ storedC w b X k0_t1_loop.trips, y ∈ p.1.set :=
  View.cover_of_tiledL (storedC w b X k0_t1_loop.trips) S32x128.size (by sl_kernel_rfl) y

theorem coverS (gg gb : Vec F S1x128 .f32) (Y : Vec F S8192x128 .f32) (y : S8192x128.Idx) :
    ∃ p ∈ storedS gg gb Y k0_t2_loop.trips, y ∈ p.1.set :=
  View.cover_of_tiledL (storedS gg gb Y k0_t2_loop.trips) S1024x128.size (by sl_kernel_rfl) y

theorem hzx : (![0, 0] : Fin S8192x128.rank → ℕ) = fun _ => 0 := by funext k; fin_cases k <;> rfl
theorem hzw : (![0, 0] : Fin S31x128.rank → ℕ) = fun _ => 0 := by funext k; fin_cases k <;> rfl
theorem hz1 : (![0, 0] : Fin S1x128.rank → ℕ) = fun _ => 0 := by funext k; fin_cases k <;> rfl

/-- A whole array read is the array: a column block, -/
theorem readX (arg : Memref sig .tc .vmem S8192x128 .f32) (h : arg.IsWhole) (x : Vec F S8192x128 .f32) :
    View.readAt (Elt F) arg.view (Rect.unit (s := S8192x128) ![0, 0] S8192x128.size inb_S8192x128_S8192x128_0_0).toLoadRect (h.unread x) = x := by
  rw [View.readAt_eq_ld, h.read_unread]
  exact View.ld_unit_zero (S := S8192x128) hzx ..

/-- the taps' weights, -/
theorem readW (arg : Memref sig .tc .vmem S31x128 .f32) (h : arg.IsWhole) (x : Vec F S31x128 .f32) :
    View.readAt (Elt F) arg.view (Rect.unit (s := S31x128) ![0, 0] S31x128.size inb_S31x128_S31x128_0_0).toLoadRect (h.unread x) = x := by
  rw [View.readAt_eq_ld, h.read_unread]
  exact View.ld_unit_zero (S := S31x128) hzw ..

/-- a row. -/
theorem read1 (arg : Memref sig .tc .vmem S1x128 .f32) (h : arg.IsWhole) (x : Vec F S1x128 .f32) :
    View.readAt (Elt F) arg.view (Rect.unit (s := S1x128) ![0, 0] S1x128.size inb_S1x128_S1x128_0_0).toLoadRect (h.unread x) = x := by
  rw [View.readAt_eq_ld, h.read_unread]
  exact View.ld_unit_zero (S := S1x128) hz1 ..

theorem pad_end (arg8 : Memref sig .tc .vmem S8224x128 .f32) (h8 : arg8.IsWhole) (x : Vec F S8192x128 .f32) :
    arg8.view.writes (Elt F) arg8.view.junk
      [⟨Rect.unit (s := S8224x128) ![32, 0] S8192x128.size inb_S8224x128_S8192x128_32_0, k0_pay2 x⟩,
        ⟨Rect.unit (s := S8224x128) ![0, 0] S32x128.size inb_S8224x128_S32x128_0_0, k0_pay1⟩] = h8.unread (xpad x) :=
  h8.eq_unread (funext fun y => View.read_writes_junk_apply_eq_canon arg8.view y _)

theorem conv_end (arg6 : Memref sig .tc .vmem S8192x128 .f32) (h6 : arg6.IsWhole) (f6 : arg6.view.ty.Contents (Elt F))
    (x : Vec F S8192x128 .f32) (w : Vec F S31x128 .f32) (b : Vec F S1x128 .f32) :
    arg6.view.writes (Elt F) f6 (storedC w b (xpad x) k0_t1_loop.trips) = h6.unread (outC x w b) :=
  h6.eq_unread (View.read_writes_eq_canon _ _ _ (coverC w b (xpad x)))

set_option maxHeartbeats 8000000 in
theorem body (c : Dev nD) (i : grid0.Coords) (arg1 : Memref sig .tc .vmem S8192x128 .f32) (h1 : arg1.IsWhole) (arg2 : Memref sig .tc .vmem S31x128 .f32) (h2 : arg2.IsWhole) (arg3 : Memref sig .tc .vmem S1x128 .f32) (h3 : arg3.IsWhole) (arg4 : Memref sig .tc .vmem S1x128 .f32) (h4 : arg4.IsWhole) (arg5 : Memref sig .tc .vmem S1x128 .f32) (h5 : arg5.IsWhole) (arg6 : Memref sig .tc .vmem S8192x128 .f32) (h6 : arg6.IsWhole) (arg7 : Memref sig .tc .vmem S8192x128 .bf16) (h7 : arg7.IsWhole) (arg8 : Memref sig .tc .vmem S8224x128 .f32) (h8 : arg8.IsWhole)
    (x : Vec F S8192x128 .f32) (w : Vec F S31x128 .f32) (b gg gb : Vec F S1x128 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare gg ∗ owns (c : Thread nD τ) arg5 fullShare gb ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare w ∗ owns (c : Thread nD τ) arg3 fullShare b ∗ owns (c : Thread nD τ) arg4 fullShare gg ∗ owns (c : Thread nD τ) arg5 fullShare gb ∗ owns (c : Thread nD τ) arg6 fullShare (outC x w b) ∗ owns (c : Thread nD τ) arg7 fullShare (outS x w b gg gb) ∗ (∃ d, owns (c : Thread nD τ) arg8 fullShare d)) -∗ K ⟨⟩))
      ⊢ wp frame (wpE (defs₀ (F := F)) Variants.none c none) Set.univ (cc0_conv31_1 i arg1 h1 arg2 h2 arg3 h3 arg4 h4 arg5 h5 arg6 h6 arg7 h7 arg8 h8) K := by
  simp only [cc0_conv31_1_eq_skeleton]; unfold cc0_conv31_1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := h1.eq_unread hf1; obtain rfl := h2.eq_unread hf2; obtain rfl := h3.eq_unread hf3; obtain rfl := h4.eq_unread hf4; obtain rfl := h5.eq_unread hf5
  sl_exec
  sl_step
  sl_unfold_words
  rw [readX arg1 h1 x, readW arg2 h2 w, read1 arg3 h3 b, read1 arg4 h4 gg, read1 arg5 h5 gb, pad_end arg8 h8]
  have e1 : pb_k0_t1 Variants.none c none i arg1 h1 arg2 h2 arg3 h3 arg4 h4 arg5 h5 arg6 h6 arg7 h7 arg8 h8 w b (h8.unread (xpad x)) (Scf.trips k0_t1_loop.lb k0_t1_loop.ub k0_t1_loop.st) = _ :=
    pbC Variants.none c none i arg1 h1 arg2 h2 arg3 h3 arg4 h4 arg5 h5 arg6 h6 arg7 h7 arg8 h8 w b (xpad x) _ (Nat.le_refl k0_t1_loop.trips)
  have e2 : pb_k0_t2 Variants.none c none i arg1 h1 arg2 h2 arg3 h3 arg4 h4 arg5 h5 arg6 h6 arg7 h7 arg8 h8 gg gb (h6.unread (outC x w b)) (Scf.trips k0_t2_loop.lb k0_t2_loop.ub k0_t2_loop.st) = _ :=
    pbS Variants.none c none i arg1 h1 arg2 h2 arg3 h3 arg4 h4 arg5 h5 arg6 h6 arg7 h7 arg8 h8 gg gb (outC x w b) _ (Nat.le_refl k0_t2_loop.trips)
  rw [e1, conv_end arg6 h6, e2]
  iapply Hk
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact View.read_writes_eq_canon _ _ _ (coverS gg gb (outC x w b))
  iexists _, _; isplitr; swap; · iexact H8
  ipureintro; rfl

end Cert.Conv31FwdBody

end
-- ==== Proof.Conv31BwdTrip.lean ====
module

public import proofs.«01_k».proof.Proof.Gen.Conv31Ideal.Loops
public import Idealize.ShloMosaic.Lib.Claim
public import Idealize.ShloMosaic.Lib.VecWindow
public import Idealize.ShloMosaic.Lib.Pipeline.ValueKit

@[expose] public section

set_option maxRecDepth 16384

noncomputable section

namespace Cert.Conv31BwdTrip

open Cert.Conv31Ideal Cert.Conv31Ideal.Gen Idealize.ShloMosaic Idealize.ShloMosaic.TcCoe
open Idealize.SL.Sem

variable {F : FTy → Type} [FloatOps F]

/-! The first loop: the normalisation's gradient, a thousand rows a trip. -/

/-- The rows of an array that trip `k` loads. -/
abbrev slab (k : Fin k1_t1_loop.trips) : Rect S8192x128 := Rect.unit (s := S8192x128) (k1_off1 k) S1024x128.size (k1_off1_inb k)

/-- A row of sums. -/
abbrev one : Rect S1x128 := Rect.unit (s := S1x128) ![0, 0] S1x128.size inb_S1x128_S1x128_0_0

/-- The cotangent of the normalisation's output, before the gain. -/
def dgn (gg : FVec F S1x128 .f32) (gb : Vec F S1x128 .f32) (dy y : Vec F S8192x128 .f32) (k : Fin k1_t1_loop.trips) : Vec F S1024x128 .f32 :=
  k1_pay7 gg (k1_pay91 gb) (View.ld y (slab k)) (View.ld dy (slab k))

/-- What trip `k` stores: of the bias' sum, -/
def put12 (gg : FVec F S1x128 .f32) (gb : Vec F S1x128 .f32) (dy y : Vec F S8192x128 .f32) (k : Fin k1_t1_loop.trips) (A : Vec F S1x128 .f32) : List (View.Piece (Elt F) S1x128 .f32) :=
  [⟨one, k1_pay95 gg (k1_pay5 (View.ld y (slab k))) (k1_pay6 (View.ld y (slab k))) (dgn gg gb dy y k) (View.ld A one)⟩]

/-- of the gain's, -/
def put13 (gg : FVec F S1x128 .f32) (gb : Vec F S1x128 .f32) (dy y : Vec F S8192x128 .f32) (k : Fin k1_t1_loop.trips) (A : Vec F S1x128 .f32) : List (View.Piece (Elt F) S1x128 .f32) :=
  [⟨one, k1_pay8 gg (k1_pay91 gb) (View.ld y (slab k)) (View.ld dy (slab k)) (View.ld A one)⟩]

/-- of the offset's, -/
def put14 (gg : FVec F S1x128 .f32) (gb : Vec F S1x128 .f32) (dy y : Vec F S8192x128 .f32) (k : Fin k1_t1_loop.trips) (A : Vec F S1x128 .f32) : List (View.Piece (Elt F) S1x128 .f32) :=
  [⟨one, k1_pay92 (dgn gg gb dy y k) (View.ld A one)⟩]

/-- and of the convolution's cotangent. -/
def put15 (gg : FVec F S1x128 .f32) (gb : Vec F S1x128 .f32) (dy y : Vec F S8192x128 .f32) (k : Fin k1_t1_loop.trips) : List (View.Piece (Elt F) S8224x128 .f32) :=
  [⟨Rect.unit (s := S8224x128) (k1_off2 k) S1024x128.size (k1_off2_inb k),
    k1_pay94 gg (k1_pay5 (View.ld y (slab k))) (k1_pay6 (View.ld y (slab k))) (dgn gg gb dy y k)⟩]

theorem tripN (𝒱 : Variants) (c : Dev nD) (bd : Option 𝒱.V) (i : grid1.Coords) (arg1 : Memref sig .tc .vmem S8192x128 .f32) (h1 : arg1.IsWhole) (arg2 : Memref sig .tc .vmem S8192x128 .f32) (h2 : arg2.IsWhole) (arg3 : Memref sig .tc .vmem S8192x128 .f32) (h3 : arg3.IsWhole) (arg4 : Memref sig .tc .vmem S8192x128 .bf16) (h4 : arg4.IsWhole) (arg5 : Memref sig .tc .vmem S8192x128 .bf16) (h5 : arg5.IsWhole) (arg6 : Memref sig .tc .vmem S31x128 .f32) (h6 : arg6.IsWhole) (arg7 : Memref sig .tc .vmem S1x128 .f32) (h7 : arg7.IsWhole) (arg8 : Memref sig .tc .vmem S1x128 .f32) (h8 : arg8.IsWhole) (arg9 : Memref sig .tc .vmem S8192x128 .bf16) (h9 : arg9.IsWhole) (arg10 : Memref sig .tc .vmem S8192x128 .bf16) (h10 : arg10.IsWhole) (arg11 : Memref sig .tc .vmem S32x128 .f32) (h11 : arg11.IsWhole) (arg12 : Memref sig .tc .vmem S1x128 .f32) (h12 : arg12.IsWhole) (arg13 : Memref sig .tc .vmem S1x128 .f32) (h13 : arg13.IsWhole) (arg14 : Memref sig .tc .vmem S1x128 .f32) (h14 : arg14.IsWhole) (arg15 : Memref sig .tc .vmem S8224x128 .f32) (h15 : arg15.IsWhole) (arg16 : Memref sig .tc .vmem S8224x128 .f32) (h16 : arg16.IsWhole) (arg17 : Memref sig .tc .vmem S256x128 .f32) (h17 : arg17.IsWhole)
    (w : Vec F S31x128 .f32) (gg : FVec F S1x128 .f32) (gb : Vec F S1x128 .f32) (dy y : Vec F S8192x128 .f32) (k : Fin k1_t1_loop.trips) (f12 : arg12.view.ty.Contents (Elt F)) (f13 : arg13.view.ty.Contents (Elt F)) (f14 : arg14.view.ty.Contents (Elt F)) (f15 : arg15.view.ty.Contents (Elt F)) :
    tripL_k1_t1 𝒱 c bd i arg1 h1 arg2 h2 arg3 h3 arg4 h4 arg5 h5 arg6 h6 arg7 h7 arg8 h8 arg9 h9 arg10 h10 arg11 h11 arg12 h12 arg13 h13 arg14 h14 arg15 h15 arg16 h16 arg17 h17 w gg gb (h1.unread dy) (h2.unread y) k f12 f13 f14 f15
      = (put12 gg gb dy y k (View.read (Elt F) arg12.view f12), put13 gg gb dy y k (View.read (Elt F) arg13.view f13),
        put14 gg gb dy y k (View.read (Elt F) arg14.view f14), put15 gg gb dy y k) := by
  unfold tripL_k1_t1 trip_k1_t1
  dsimp only
  sl_unfold_words
  simp only [View.readAt_eq_ld, h1.read_unread, h2.read_unread]
  rfl

/-- The pieces that the first `n` trips have stored, the latest first, the zeros stored before the loop beneath them. -/
def storedN (gg : FVec F S1x128 .f32) (gb : Vec F S1x128 .f32) (dy y : Vec F S8192x128 .f32) : ℕ → List (View.Piece (Elt F) S1x128 .f32) × List (View.Piece (Elt F) S1x128 .f32) × List (View.Piece (Elt F) S1x128 .f32) × List (View.Piece (Elt F) S8224x128 .f32)
  | 0 => ([⟨one, k1_pay87⟩], [⟨one, k1_pay88⟩], [⟨one, k1_pay89⟩],
      [⟨Rect.unit (s := S8224x128) ![8192, 0] S32x128.size inb_S8224x128_S32x128_8192_0, k1_pay83⟩])
  | k + 1 => if h : k < k1_t1_loop.trips then
      (put12 gg gb dy y ⟨k, h⟩ (View.canon (Val := Elt F) (storedN gg gb dy y k).1) ++ (storedN gg gb dy y k).1,
        put13 gg gb dy y ⟨k, h⟩ (View.canon (Val := Elt F) (storedN gg gb dy y k).2.1) ++ (storedN gg gb dy y k).2.1,
        put14 gg gb dy y ⟨k, h⟩ (View.canon (Val := Elt F) (storedN gg gb dy y k).2.2.1) ++ (storedN gg gb dy y k).2.2.1,
        put15 gg gb dy y ⟨k, h⟩ ++ (storedN gg gb dy y k).2.2.2)
    else storedN gg gb dy y k

theorem storedN_succ (gg : FVec F S1x128 .f32) (gb : Vec F S1x128 .f32) (dy y : Vec F S8192x128 .f32) (k : Fin k1_t1_loop.trips) :
    storedN gg gb dy y (k.val + 1) = (put12 gg gb dy y k (View.canon (Val := Elt F) (storedN gg gb dy y k.val).1) ++ (storedN gg gb dy y k.val).1,
        put13 gg gb dy y k (View.canon (Val := Elt F) (storedN gg gb dy y k.val).2.1) ++ (storedN gg gb dy y k.val).2.1,
        put14 gg gb dy y k (View.canon (Val := Elt F) (storedN gg gb dy y k.val).2.2.1) ++ (storedN gg gb dy y k.val).2.2.1,
        put15 gg gb dy y k ++ (storedN gg gb dy y k.val).2.2.2) := dif_pos k.isLt

theorem hz1 : (![0, 0] : Fin S1x128.rank → ℕ) = fun _ => 0 := by funext k; fin_cases k <;> rfl

theorem coverN (gg : FVec F S1x128 .f32) (gb : Vec F S1x128 .f32) (dy y : Vec F S8192x128 .f32) (y' : S1x128.Idx) : ∀ n, n ≤ k1_t1_loop.trips →
    (∃ p ∈ (storedN gg gb dy y n).1, y' ∈ p.1.set) ∧ (∃ p ∈ (storedN gg gb dy y n).2.1, y' ∈ p.1.set) ∧ ∃ p ∈ (storedN gg gb dy y n).2.2.1, y' ∈ p.1.set
  | 0, _ => by
    have h := View.mem_set_unit_zero (S := S1x128) hz1 inb_S1x128_S1x128_0_0 y'
    exact ⟨⟨_, List.mem_cons_self, h⟩, ⟨_, List.mem_cons_self, h⟩, ⟨_, List.mem_cons_self, h⟩⟩
  | n + 1, hn => by
    obtain ⟨⟨p, hp, ha⟩, ⟨q, hq, hb⟩, ⟨r, hr, hc⟩⟩ := coverN gg gb dy y y' n (Nat.le_of_succ_le hn)
    rw [storedN_succ gg gb dy y ⟨n, hn⟩]
    exact ⟨⟨p, List.mem_append_right _ hp, ha⟩, ⟨q, List.mem_append_right _ hq, hb⟩, ⟨r, List.mem_append_right _ hr, hc⟩⟩

theorem pbN (𝒱 : Variants) (c : Dev nD) (bd : Option 𝒱.V) (i : grid1.Coords) (arg1 : Memref sig .tc .vmem S8192x128 .f32) (h1 : arg1.IsWhole) (arg2 : Memref sig .tc .vmem S8192x128 .f32) (h2 : arg2.IsWhole) (arg3 : Memref sig .tc .vmem S8192x128 .f32) (h3 : arg3.IsWhole) (arg4 : Memref sig .tc .vmem S8192x128 .bf16) (h4 : arg4.IsWhole) (arg5 : Memref sig .tc .vmem S8192x128 .bf16) (h5 : arg5.IsWhole) (arg6 : Memref sig .tc .vmem S31x128 .f32) (h6 : arg6.IsWhole) (arg7 : Memref sig .tc .vmem S1x128 .f32) (h7 : arg7.IsWhole) (arg8 : Memref sig .tc .vmem S1x128 .f32) (h8 : arg8.IsWhole) (arg9 : Memref sig .tc .vmem S8192x128 .bf16) (h9 : arg9.IsWhole) (arg10 : Memref sig .tc .vmem S8192x128 .bf16) (h10 : arg10.IsWhole) (arg11 : Memref sig .tc .vmem S32x128 .f32) (h11 : arg11.IsWhole) (arg12 : Memref sig .tc .vmem S1x128 .f32) (h12 : arg12.IsWhole) (arg13 : Memref sig .tc .vmem S1x128 .f32) (h13 : arg13.IsWhole) (arg14 : Memref sig .tc .vmem S1x128 .f32) (h14 : arg14.IsWhole) (arg15 : Memref sig .tc .vmem S8224x128 .f32) (h15 : arg15.IsWhole) (arg16 : Memref sig .tc .vmem S8224x128 .f32) (h16 : arg16.IsWhole) (arg17 : Memref sig .tc .vmem S256x128 .f32) (h17 : arg17.IsWhole)
    (w : Vec F S31x128 .f32) (gg : FVec F S1x128 .f32) (gb : Vec F S1x128 .f32) (dy y : Vec F S8192x128 .f32) (f12 : arg12.view.ty.Contents (Elt F)) (f13 : arg13.view.ty.Contents (Elt F)) (f14 : arg14.view.ty.Contents (Elt F)) (f15 : arg15.view.ty.Contents (Elt F)) : ∀ n, n ≤ k1_t1_loop.trips →
    ∃ L12 L13 L14 L15, pb_k1_t1 𝒱 c bd i arg1 h1 arg2 h2 arg3 h3 arg4 h4 arg5 h5 arg6 h6 arg7 h7 arg8 h8 arg9 h9 arg10 h10 arg11 h11 arg12 h12 arg13 h13 arg14 h14 arg15 h15 arg16 h16 arg17 h17 w gg gb (h1.unread dy) (h2.unread y) (arg12.view.writes (Elt F) f12 (storedN gg gb dy y 0).1) (arg13.view.writes (Elt F) f13 (storedN gg gb dy y 0).2.1) (arg14.view.writes (Elt F) f14 (storedN gg gb dy y 0).2.2.1) f15 n
      = (L12, L13, L14, L15) ∧ L12 ++ (storedN gg gb dy y 0).1 = (storedN gg gb dy y n).1 ∧ L13 ++ (storedN gg gb dy y 0).2.1 = (storedN gg gb dy y n).2.1
        ∧ L14 ++ (storedN gg gb dy y 0).2.2.1 = (storedN gg gb dy y n).2.2.1 ∧ L15 ++ (storedN gg gb dy y 0).2.2.2 = (storedN gg gb dy y n).2.2.2
  | 0, _ => ⟨[], [], [], [], rfl, rfl, rfl, rfl, rfl⟩
  | n + 1, hn => by
    obtain ⟨L12, L13, L14, L15, e, e12, e13, e14, e15⟩ := pbN 𝒱 c bd i arg1 h1 arg2 h2 arg3 h3 arg4 h4 arg5 h5 arg6 h6 arg7 h7 arg8 h8 arg9 h9 arg10 h10 arg11 h11 arg12 h12 arg13 h13 arg14 h14 arg15 h15 arg16 h16 arg17 h17 w gg gb dy y f12 f13 f14 f15 n (Nat.le_of_succ_le hn)
    have hs := pb_k1_t1_succ (F := F) 𝒱 c bd i arg1 h1 arg2 h2 arg3 h3 arg4 h4 arg5 h5 arg6 h6 arg7 h7 arg8 h8 arg9 h9 arg10 h10 arg11 h11 arg12 h12 arg13 h13 arg14 h14 arg15 h15 arg16 h16 arg17 h17 w gg gb (h1.unread dy) (h2.unread y) (arg12.view.writes (Elt F) f12 (storedN gg gb dy y 0).1) (arg13.view.writes (Elt F) f13 (storedN gg gb dy y 0).2.1) (arg14.view.writes (Elt F) f14 (storedN gg gb dy y 0).2.2.1) f15 ⟨n, hn⟩
    rw [e] at hs
    have t := tripN 𝒱 c bd i arg1 h1 arg2 h2 arg3 h3 arg4 h4 arg5 h5 arg6 h6 arg7 h7 arg8 h8 arg9 h9 arg10 h10 arg11 h11 arg12 h12 arg13 h13 arg14 h14 arg15 h15 arg16 h16 arg17 h17 w gg gb dy y ⟨n, hn⟩ (arg12.view.writes (Elt F) (arg12.view.writes (Elt F) f12 (storedN gg gb dy y 0).1) L12) (arg13.view.writes (Elt F) (arg13.view.writes (Elt F) f13 (storedN gg gb dy y 0).2.1) L13) (arg14.view.writes (Elt F) (arg14.view.writes (Elt F) f14 (storedN gg gb dy y 0).2.2.1) L14) (arg15.view.writes (Elt F) f15 L15)
    have hc := fun y' => coverN gg gb dy y y' n (Nat.le_of_succ_le hn)
    rw [← View.writes_append, ← View.writes_append, ← View.writes_append, e12, e13, e14, View.read_writes_eq_canon _ _ _ fun y' => (hc y').1,
      View.read_writes_eq_canon _ _ _ fun y' => (hc y').2.1, View.read_writes_eq_canon _ _ _ fun y' => (hc y').2.2] at t
    have t1 := congrArg Prod.fst t
    have t2 := congrArg (fun p => p.2.1) t
    have t3 := congrArg (fun p => p.2.2.1) t
    have t4 := congrArg (fun p => p.2.2.2) t
    dsimp only at t1 t2 t3 t4 hs
    rw [← View.writes_append, ← View.writes_append, ← View.writes_append, e12, e13, e14, t1, t2, t3, t4] at hs
    rw [storedN_succ gg gb dy y ⟨n, hn⟩]
    exact ⟨_, _, _, _, hs, by rw [List.append_assoc, e12], by rw [List.append_assoc, e13], by rw [List.append_assoc, e14], by rw [List.append_assoc, e15]⟩

/-! The second loop: the convolution's gradient, thirty-two rows a trip. -/

/-- The sixty-four rows of a padded array that trip `k` loads. -/
def rows (X : Vec F S8224x128 .f32) (k : Fin k1_t2_loop.trips) : Vec F S64x128 .f32 :=
  View.ld X (Rect.unit (s := S8224x128) (k1_off3 k) S64x128.size (k1_off3_inb k))

/-- The thirty-two rows of the input's halves and of their gradients that trip `k` loads and stores. -/
abbrev rect (k : Fin k1_t2_loop.trips) : Rect S8192x128 :=
  Rect.unit (s := S8192x128) (k1_off4 k) S32x128.size (k1_off4_inb k)

/-- The next thirty-two rows of the gradient of the convolution's input, from the rows of its cotangent. -/
def conv (w : Vec F S31x128 .f32) (D : Vec F S64x128 .f32) : FVec F S32x128 .f32 :=
  k1_pay26 w D (k1_pay19 w D (k1_pay15 w D)) (k1_pay20 w D (k1_pay11 w D) (k1_pay16 w D)) (k1_pay21 w D (k1_pay12 w D) (k1_pay14 D))
    (k1_pay22 w D (k1_pay13 w D) (k1_pay14 D)) (k1_pay23 D) (k1_pay24 D) (k1_pay25 w)

/-- The block of eight rows in which the products of tap `j` are summed. -/
abbrev blk (j : Fin 31) : Rect S256x128 := Rect.unit (s := S256x128) ![8 * j.val, 0] S8x128.size
  (fun k => by fin_cases k <;> simp [S256x128, S8x128] <;> omega)

/-- Every tap's sums after a trip, from its sums before it: the trip's rows of the input and of the cotangent. -/
def taps (X : Vec F S64x128 .f32) (P : Vec F S32x128 .f32) : Fin 31 → Vec F S8x128 .f32 → Vec F S8x128 .f32 :=
  ![fun g => k1_pay42 X P g,
    fun g => k1_pay50 X P g,
    fun g => k1_pay60 (k1_pay58 X P) (k1_pay59 X P) g,
    fun g => k1_pay66 X P g,
    fun g => k1_pay72 X P g,
    fun g => k1_pay79 (k1_pay78 X P g),
    fun g => k1_pay28 P (k1_pay27 X) g,
    fun g => k1_pay36 X P g,
    fun g => k1_pay43 X P g,
    fun g => k1_pay53 (k1_pay51 X P) (k1_pay52 X P) g,
    fun g => k1_pay61 P (k1_pay56 X) g,
    fun g => k1_pay67 X P g,
    fun g => k1_pay74 (k1_pay73 X P g),
    fun g => k1_pay80 P (k1_pay77 X) g,
    fun g => k1_pay29 X P g,
    fun g => k1_pay37 X P g,
    fun g => k1_pay47 (k1_pay44 X P) (k1_pay45 X P) (k1_pay46 X P) g,
    fun g => k1_pay54 P (k1_pay49 X) g,
    fun g => k1_pay62 P (k1_pay56 X) g,
    fun g => k1_pay69 (k1_pay68 X P) g,
    fun g => k1_pay75 P (k1_pay71 X) g,
    fun g => k1_pay81 P (k1_pay77 X) g,
    fun g => k1_pay30 X P g,
    fun g => k1_pay40 (k1_pay38 X P) (k1_pay39 X P) g,
    fun g => k1_pay48 P (k1_pay41 X) g,
    fun g => k1_pay55 P (k1_pay49 X) g,
    fun g => k1_pay64 (k1_pay63 P (k1_pay56 X)) g,
    fun g => k1_pay70 P (k1_pay65 X) g,
    fun g => k1_pay76 P (k1_pay71 X) g,
    fun g => k1_pay96 (k1_pay82 P (k1_pay77 X) g),
    fun g => k1_pay34 (k1_pay31 X P) (k1_pay32 X P) (k1_pay33 X P) g]

/-- The order in which a trip stores the taps' sums, the last one first. -/
def order : List (Fin 31) := [29, 21, 13, 5, 28, 20, 12, 4, 27, 19, 11, 3, 26, 18, 10, 2, 25, 17, 9, 1, 24, 16, 8, 0, 23, 15, 7, 30, 22, 14, 6]

/-- What trip `k` stores: of the gradients of the input's two halves, -/
def put9 (w : Vec F S31x128 .f32) (d x : Vec F S8224x128 .f32) (v g : Vec F S8192x128 .bf16) (k : Fin k1_t2_loop.trips) : List (View.Piece (Elt F) S8192x128 .bf16) :=
  [⟨rect k, k1_pay98 (conv w (rows d k)) (View.ld g (rect k))⟩]
def put10 (w : Vec F S31x128 .f32) (d x : Vec F S8224x128 .f32) (v g : Vec F S8192x128 .bf16) (k : Fin k1_t2_loop.trips) : List (View.Piece (Elt F) S8192x128 .bf16) :=
  [⟨rect k, k1_pay99 (conv w (rows d k)) (View.ld g (rect k)) (View.ld v (rect k))⟩]

/-- and of the taps' sums. -/
def put17 (d x : Vec F S8224x128 .f32) (k : Fin k1_t2_loop.trips) (A : Vec F S256x128 .f32) : List (View.Piece (Elt F) S256x128 .f32) :=
  order.map fun j => ⟨blk j, taps (rows x k) (k1_pay9 (rows d k)) j (View.ld A (blk j))⟩

theorem tripX (𝒱 : Variants) (c : Dev nD) (bd : Option 𝒱.V) (i : grid1.Coords) (arg1 : Memref sig .tc .vmem S8192x128 .f32) (h1 : arg1.IsWhole) (arg2 : Memref sig .tc .vmem S8192x128 .f32) (h2 : arg2.IsWhole) (arg3 : Memref sig .tc .vmem S8192x128 .f32) (h3 : arg3.IsWhole) (arg4 : Memref sig .tc .vmem S8192x128 .bf16) (h4 : arg4.IsWhole) (arg5 : Memref sig .tc .vmem S8192x128 .bf16) (h5 : arg5.IsWhole) (arg6 : Memref sig .tc .vmem S31x128 .f32) (h6 : arg6.IsWhole) (arg7 : Memref sig .tc .vmem S1x128 .f32) (h7 : arg7.IsWhole) (arg8 : Memref sig .tc .vmem S1x128 .f32) (h8 : arg8.IsWhole) (arg9 : Memref sig .tc .vmem S8192x128 .bf16) (h9 : arg9.IsWhole) (arg10 : Memref sig .tc .vmem S8192x128 .bf16) (h10 : arg10.IsWhole) (arg11 : Memref sig .tc .vmem S32x128 .f32) (h11 : arg11.IsWhole) (arg12 : Memref sig .tc .vmem S1x128 .f32) (h12 : arg12.IsWhole) (arg13 : Memref sig .tc .vmem S1x128 .f32) (h13 : arg13.IsWhole) (arg14 : Memref sig .tc .vmem S1x128 .f32) (h14 : arg14.IsWhole) (arg15 : Memref sig .tc .vmem S8224x128 .f32) (h15 : arg15.IsWhole) (arg16 : Memref sig .tc .vmem S8224x128 .f32) (h16 : arg16.IsWhole) (arg17 : Memref sig .tc .vmem S256x128 .f32) (h17 : arg17.IsWhole)
    (gg : FVec F S1x128 .f32) (w : Vec F S31x128 .f32) (d x : Vec F S8224x128 .f32) (v g : Vec F S8192x128 .bf16) (k : Fin k1_t2_loop.trips) (f9 : arg9.view.ty.Contents (Elt F)) (f10 : arg10.view.ty.Contents (Elt F)) (f17 : arg17.view.ty.Contents (Elt F)) :
    tripL_k1_t2 𝒱 c bd i arg1 h1 arg2 h2 arg3 h3 arg4 h4 arg5 h5 arg6 h6 arg7 h7 arg8 h8 arg9 h9 arg10 h10 arg11 h11 arg12 h12 arg13 h13 arg14 h14 arg15 h15 arg16 h16 arg17 h17 w gg (h4.unread v) (h5.unread g) (h15.unread d) (h16.unread x) k f9 f10 f17
      = (put9 w d x v g k, put10 w d x v g k, put17 d x k (View.read (Elt F) arg17.view f17)) := by
  unfold tripL_k1_t2 trip_k1_t2
  dsimp only
  sl_unfold_words
  simp only [View.readAt_eq_ld, h4.read_unread, h5.read_unread, h15.read_unread, h16.read_unread]
  rfl

/-- The pieces that the first `n` trips have stored, the latest first, the sums' zeros beneath them. -/
def storedX (w : Vec F S31x128 .f32) (d x : Vec F S8224x128 .f32) (v g : Vec F S8192x128 .bf16) : ℕ →
    List (View.Piece (Elt F) S8192x128 .bf16) × List (View.Piece (Elt F) S8192x128 .bf16) × List (View.Piece (Elt F) S256x128 .f32)
  | 0 => ([], [], [⟨Rect.unit (s := S256x128) ![0, 0] S256x128.size inb_S256x128_S256x128_0_0, k1_pay86⟩])
  | k + 1 => if h : k < k1_t2_loop.trips then
      (put9 w d x v g ⟨k, h⟩ ++ (storedX w d x v g k).1, put10 w d x v g ⟨k, h⟩ ++ (storedX w d x v g k).2.1,
        put17 d x ⟨k, h⟩ (View.canon (Val := Elt F) (storedX w d x v g k).2.2) ++ (storedX w d x v g k).2.2)
    else storedX w d x v g k

theorem storedX_succ (w : Vec F S31x128 .f32) (d x : Vec F S8224x128 .f32) (v g : Vec F S8192x128 .bf16) (k : Fin k1_t2_loop.trips) :
    storedX w d x v g (k.val + 1) = (put9 w d x v g k ++ (storedX w d x v g k.val).1, put10 w d x v g k ++ (storedX w d x v g k.val).2.1,
        put17 d x k (View.canon (Val := Elt F) (storedX w d x v g k.val).2.2) ++ (storedX w d x v g k.val).2.2) := dif_pos k.isLt

theorem hz256 : (![0, 0] : Fin S256x128.rank → ℕ) = fun _ => 0 := by funext k; fin_cases k <;> rfl

theorem coverX (w : Vec F S31x128 .f32) (d x : Vec F S8224x128 .f32) (v g : Vec F S8192x128 .bf16) (y : S256x128.Idx) : ∀ n, n ≤ k1_t2_loop.trips → ∃ p ∈ (storedX w d x v g n).2.2, y ∈ p.1.set
  | 0, _ => ⟨_, List.mem_cons_self, View.mem_set_unit_zero (S := S256x128) hz256 inb_S256x128_S256x128_0_0 y⟩
  | n + 1, hn => by
    obtain ⟨p, hp, hy⟩ := coverX w d x v g y n (Nat.le_of_succ_le hn)
    rw [storedX_succ w d x v g ⟨n, hn⟩]
    exact ⟨p, List.mem_append_right _ hp, hy⟩

theorem pbX (𝒱 : Variants) (c : Dev nD) (bd : Option 𝒱.V) (i : grid1.Coords) (arg1 : Memref sig .tc .vmem S8192x128 .f32) (h1 : arg1.IsWhole) (arg2 : Memref sig .tc .vmem S8192x128 .f32) (h2 : arg2.IsWhole) (arg3 : Memref sig .tc .vmem S8192x128 .f32) (h3 : arg3.IsWhole) (arg4 : Memref sig .tc .vmem S8192x128 .bf16) (h4 : arg4.IsWhole) (arg5 : Memref sig .tc .vmem S8192x128 .bf16) (h5 : arg5.IsWhole) (arg6 : Memref sig .tc .vmem S31x128 .f32) (h6 : arg6.IsWhole) (arg7 : Memref sig .tc .vmem S1x128 .f32) (h7 : arg7.IsWhole) (arg8 : Memref sig .tc .vmem S1x128 .f32) (h8 : arg8.IsWhole) (arg9 : Memref sig .tc .vmem S8192x128 .bf16) (h9 : arg9.IsWhole) (arg10 : Memref sig .tc .vmem S8192x128 .bf16) (h10 : arg10.IsWhole) (arg11 : Memref sig .tc .vmem S32x128 .f32) (h11 : arg11.IsWhole) (arg12 : Memref sig .tc .vmem S1x128 .f32) (h12 : arg12.IsWhole) (arg13 : Memref sig .tc .vmem S1x128 .f32) (h13 : arg13.IsWhole) (arg14 : Memref sig .tc .vmem S1x128 .f32) (h14 : arg14.IsWhole) (arg15 : Memref sig .tc .vmem S8224x128 .f32) (h15 : arg15.IsWhole) (arg16 : Memref sig .tc .vmem S8224x128 .f32) (h16 : arg16.IsWhole) (arg17 : Memref sig .tc .vmem S256x128 .f32) (h17 : arg17.IsWhole)
    (gg : FVec F S1x128 .f32) (w : Vec F S31x128 .f32) (d x : Vec F S8224x128 .f32) (v g : Vec F S8192x128 .bf16) (f9 : arg9.view.ty.Contents (Elt F)) (f10 : arg10.view.ty.Contents (Elt F)) (f17 : arg17.view.ty.Contents (Elt F)) : ∀ n, n ≤ k1_t2_loop.trips →
    ∃ L17, pb_k1_t2 𝒱 c bd i arg1 h1 arg2 h2 arg3 h3 arg4 h4 arg5 h5 arg6 h6 arg7 h7 arg8 h8 arg9 h9 arg10 h10 arg11 h11 arg12 h12 arg13 h13 arg14 h14 arg15 h15 arg16 h16 arg17 h17 w gg (h4.unread v) (h5.unread g) (h15.unread d) (h16.unread x) f9 f10 (arg17.view.writes (Elt F) f17 (storedX w d x v g 0).2.2) n
      = ((storedX w d x v g n).1, (storedX w d x v g n).2.1, L17) ∧ L17 ++ (storedX w d x v g 0).2.2 = (storedX w d x v g n).2.2
  | 0, _ => ⟨[], rfl, rfl⟩
  | n + 1, hn => by
    obtain ⟨L17, e, e17⟩ := pbX 𝒱 c bd i arg1 h1 arg2 h2 arg3 h3 arg4 h4 arg5 h5 arg6 h6 arg7 h7 arg8 h8 arg9 h9 arg10 h10 arg11 h11 arg12 h12 arg13 h13 arg14 h14 arg15 h15 arg16 h16 arg17 h17 gg w d x v g f9 f10 f17 n (Nat.le_of_succ_le hn)
    have hs := pb_k1_t2_succ (F := F) 𝒱 c bd i arg1 h1 arg2 h2 arg3 h3 arg4 h4 arg5 h5 arg6 h6 arg7 h7 arg8 h8 arg9 h9 arg10 h10 arg11 h11 arg12 h12 arg13 h13 arg14 h14 arg15 h15 arg16 h16 arg17 h17 w gg (h4.unread v) (h5.unread g) (h15.unread d) (h16.unread x) f9 f10 (arg17.view.writes (Elt F) f17 (storedX w d x v g 0).2.2) ⟨n, hn⟩
    rw [e] at hs
    have t := tripX 𝒱 c bd i arg1 h1 arg2 h2 arg3 h3 arg4 h4 arg5 h5 arg6 h6 arg7 h7 arg8 h8 arg9 h9 arg10 h10 arg11 h11 arg12 h12 arg13 h13 arg14 h14 arg15 h15 arg16 h16 arg17 h17 gg w d x v g ⟨n, hn⟩ (arg9.view.writes (Elt F) f9 (storedX w d x v g n).1) (arg10.view.writes (Elt F) f10 (storedX w d x v g n).2.1) (arg17.view.writes (Elt F) (arg17.view.writes (Elt F) f17 (storedX w d x v g 0).2.2) L17)
    rw [← View.writes_append, e17, View.read_writes_eq_canon _ _ _ fun y => coverX w d x v g y n (Nat.le_of_succ_le hn)] at t
    have t1 := congrArg Prod.fst t
    have t2 := congrArg (fun p => p.2.1) t
    have t3 := congrArg (fun p => p.2.2) t
    dsimp only at t1 t2 t3 hs
    rw [← View.writes_append, e17, t1, t2, t3] at hs
    rw [storedX_succ w d x v g ⟨n, hn⟩]
    exact ⟨_, hs, by rw [List.append_assoc, e17]⟩

end Cert.Conv31BwdTrip

end
-- ==== Proof.Conv31BwdBody.lean ====
module

public import Idealize.ShloMosaic.Lib.Ring
public import proofs.«01_k».proof.Proof.Conv31BwdTrip
public import proofs.«01_k».proof.Proof.Conv31FwdBody

@[expose] public section

set_option maxRecDepth 16384

noncomputable section

namespace Cert.Conv31BwdBody

open Cert.Conv31Ideal Cert.Conv31Ideal.Gen Cert.Conv31BwdTrip Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The thirty-two rows below the padded cotangent. -/
abbrev tail : Rect S8224x128 := Rect.unit (s := S8224x128) ![8192, 0] S32x128.size inb_S8224x128_S32x128_8192_0

/-- All the rows of the taps' sums. -/
abbrev all : Rect S256x128 := Rect.unit (s := S256x128) ![0, 0] S256x128.size inb_S256x128_S256x128_0_0

/-- What the first loop's trips leave, -/
def finalN (dy y : Vec F S8192x128 .f32) (gg gb : Vec F S1x128 .f32) := storedN (k1_pay90 gg) gb dy y k1_t1_loop.trips

/-- of it the convolution's cotangent, with thirty-two rows of zeros below it. -/
def dpad (dy y : Vec F S8192x128 .f32) (gg gb : Vec F S1x128 .f32) : Vec F S8224x128 .f32 := View.canon (Val := Elt F) (finalN dy y gg gb).2.2.2

/-- The convolution's input with thirty-two rows of zeros above it. -/
def xpad (x : Vec F S8192x128 .f32) : Vec F S8224x128 .f32 := View.canon (Val := Elt F)
  [⟨Rect.unit (s := S8224x128) ![32, 0] S8192x128.size inb_S8224x128_S8192x128_32_0, k1_pay85 x⟩,
    ⟨Rect.unit (s := S8224x128) ![0, 0] S32x128.size inb_S8224x128_S32x128_0_0, k1_pay84⟩]

/-- What the second loop's trips leave, -/
def finalX (dy y x : Vec F S8192x128 .f32) (v g : Vec F S8192x128 .bf16) (w : Vec F S31x128 .f32) (gg gb : Vec F S1x128 .f32) := storedX w (dpad dy y gg gb) (xpad x) v g k1_t2_loop.trips

/-- of it the taps' sums, before their eight rows are added up. -/
def sums (dy y x : Vec F S8192x128 .f32) (v g : Vec F S8192x128 .bf16) (w : Vec F S31x128 .f32) (gg gb : Vec F S1x128 .f32) : Vec F S256x128 .f32 := View.canon (Val := Elt F) (finalX dy y x v g w gg gb).2.2

/-- The row of the weight's gradient that tap `j` fills. -/
abbrev row (j : Fin 31) : Rect S32x128 := Rect.unit (s := S32x128) ![j.val, 0] S1x128.size
  (fun k => by fin_cases k <;> simp [S32x128, S1x128] <;> omega)

/-- The stores of the weight's gradient, the last one first. -/
def putW (S : Vec F S256x128 .f32) : List (View.Piece (Elt F) S32x128 .f32) :=
  (([30, 29, 28, 27, 26, 25, 24, 23, 22, 21, 20, 19, 18, 17, 16, 15, 14, 13, 12, 11, 10, 9, 8, 7, 6, 5, 4, 3, 2, 1, 0] : List (Fin 31)).map fun j => ⟨row j, k1_pay101 (View.ld S (blk j))⟩)
    ++ [⟨Rect.unit (s := S32x128) ![0, 0] S32x128.size inb_S32x128_S32x128_0_0, k1_pay100⟩]

theorem coverW (S : Vec F S256x128 .f32) (y : S32x128.Idx) : ∃ p ∈ putW S, y ∈ p.1.set :=
  ⟨_, List.mem_append_right _ List.mem_cons_self, View.mem_set_unit_zero (S := S32x128) (by decide) inb_S32x128_S32x128_0_0 y⟩

/-- What a block's body leaves: the gradients of the input's two halves, -/
def outV (dy y x : Vec F S8192x128 .f32) (v g : Vec F S8192x128 .bf16) (w : Vec F S31x128 .f32) (gg gb : Vec F S1x128 .f32) : Vec F S8192x128 .bf16 := View.canon (Val := Elt F) (finalX dy y x v g w gg gb).1
def outG (dy y x : Vec F S8192x128 .f32) (v g : Vec F S8192x128 .bf16) (w : Vec F S31x128 .f32) (gg gb : Vec F S1x128 .f32) : Vec F S8192x128 .bf16 := View.canon (Val := Elt F) (finalX dy y x v g w gg gb).2.1

/-- the weight's, -/
def outW (dy y x : Vec F S8192x128 .f32) (v g : Vec F S8192x128 .bf16) (w : Vec F S31x128 .f32) (gg gb : Vec F S1x128 .f32) : Vec F S32x128 .f32 := View.canon (Val := Elt F) (putW (sums dy y x v g w gg gb))

/-- the bias', the gain's and the offset's. -/
def outB (dy y : Vec F S8192x128 .f32) (gg gb : Vec F S1x128 .f32) : Vec F S1x128 .f32 := View.canon (Val := Elt F) (finalN dy y gg gb).1
def outGg (dy y : Vec F S8192x128 .f32) (gg gb : Vec F S1x128 .f32) : Vec F S1x128 .f32 := View.canon (Val := Elt F) (finalN dy y gg gb).2.1
def outGb (dy y : Vec F S8192x128 .f32) (gg gb : Vec F S1x128 .f32) : Vec F S1x128 .f32 := View.canon (Val := Elt F) (finalN dy y gg gb).2.2.1

theorem off2 : ∀ k, k1_off2 k = ![1024 * k.val, 0] := by decide +kernel
theorem trips1 : k1_t1_loop.trips = 8 := by decide +kernel

theorem covers (gg : FVec F S1x128 .f32) (gb : Vec F S1x128 .f32) (dy y : Vec F S8192x128 .f32) (r : S8224x128.Idx) : ∀ n, n ≤ k1_t1_loop.trips →
    (r 0).val < 1024 * n ∨ 8192 ≤ (r 0).val → ∃ p ∈ (storedN gg gb dy y n).2.2.2, r ∈ p.1.set
  | 0, _, h => by
    have h0 : (r 0).val < 8224 := (r 0).isLt
    have h1 : (r 1).val < 128 := (r 1).isLt
    refine ⟨_, List.mem_cons_self, (Rect.mem_set_unit (s := S8224x128) (inb := inb_S8224x128_S32x128_8192_0)).mpr fun a => ?_⟩
    match a with
    | ⟨0, _⟩ => show 8192 ≤ (r 0).val ∧ (r 0).val < 8192 + 32; omega
    | ⟨1, _⟩ => show 0 ≤ (r 1).val ∧ (r 1).val < 0 + 128; omega
  | n + 1, hn, h => by
    rw [storedN_succ gg gb dy y ⟨n, hn⟩]
    by_cases hr : (r 0).val < 1024 * n ∨ 8192 ≤ (r 0).val
    · obtain ⟨p, hp, hy⟩ := covers gg gb dy y r n (Nat.le_of_succ_le hn) hr
      exact ⟨p, List.mem_append_right _ hp, hy⟩
    · have h1 : (r 1).val < 128 := (r 1).isLt
      refine ⟨_, List.mem_append_left _ List.mem_cons_self, (Rect.mem_set_unit (s := S8224x128) (inb := k1_off2_inb ⟨n, hn⟩)).mpr fun a => ?_⟩
      rw [off2]
      match a with
      | ⟨0, _⟩ => show 1024 * n ≤ (r 0).val ∧ (r 0).val < 1024 * n + 1024; omega
      | ⟨1, _⟩ => show 0 ≤ (r 1).val ∧ (r 1).val < 0 + 128; omega

theorem cover15 (dy y : Vec F S8192x128 .f32) (gg gb : Vec F S1x128 .f32) (r : S8224x128.Idx) : ∃ p ∈ (finalN dy y gg gb).2.2.2, r ∈ p.1.set :=
  covers (k1_pay90 gg) gb dy y r _ (Nat.le_refl _) (by rw [trips1]; omega)

theorem cover9 (dy y x : Vec F S8192x128 .f32) (v g : Vec F S8192x128 .bf16) (w : Vec F S31x128 .f32) (gg gb : Vec F S1x128 .f32) (r : S8192x128.Idx) : ∃ p ∈ (finalX dy y x v g w gg gb).1, r ∈ p.1.set :=
  View.cover_of_tiledL (finalX dy y x v g w gg gb).1 S32x128.size (by sl_kernel_rfl) r

theorem cover10 (dy y x : Vec F S8192x128 .f32) (v g : Vec F S8192x128 .bf16) (w : Vec F S31x128 .f32) (gg gb : Vec F S1x128 .f32) (r : S8192x128.Idx) : ∃ p ∈ (finalX dy y x v g w gg gb).2.1, r ∈ p.1.set :=
  View.cover_of_tiledL (finalX dy y x v g w gg gb).2.1 S32x128.size (by sl_kernel_rfl) r

theorem dpad_end (arg15 : Memref sig .tc .vmem S8224x128 .f32) (h15 : arg15.IsWhole) (f15 : arg15.view.ty.Contents (Elt F)) (dy y : Vec F S8192x128 .f32) (gg gb : Vec F S1x128 .f32) :
    arg15.view.writes (Elt F) f15 (finalN dy y gg gb).2.2.2 = h15.unread (dpad dy y gg gb) :=
  h15.eq_unread (View.read_writes_eq_canon _ _ _ (cover15 dy y gg gb))

theorem xpad_end (arg16 : Memref sig .tc .vmem S8224x128 .f32) (h16 : arg16.IsWhole) (x : Vec F S8192x128 .f32) :
    arg16.view.writes (Elt F) arg16.view.junk
      [⟨Rect.unit (s := S8224x128) ![32, 0] S8192x128.size inb_S8224x128_S8192x128_32_0, k1_pay85 x⟩,
        ⟨Rect.unit (s := S8224x128) ![0, 0] S32x128.size inb_S8224x128_S32x128_0_0, k1_pay84⟩] = h16.unread (xpad x) :=
  h16.eq_unread (funext fun y => View.read_writes_junk_apply_eq_canon arg16.view y _)

theorem loopN (c : Dev nD) (i : grid1.Coords) (arg1 : Memref sig .tc .vmem S8192x128 .f32) (h1 : arg1.IsWhole) (arg2 : Memref sig .tc .vmem S8192x128 .f32) (h2 : arg2.IsWhole) (arg3 : Memref sig .tc .vmem S8192x128 .f32) (h3 : arg3.IsWhole) (arg4 : Memref sig .tc .vmem S8192x128 .bf16) (h4 : arg4.IsWhole) (arg5 : Memref sig .tc .vmem S8192x128 .bf16) (h5 : arg5.IsWhole) (arg6 : Memref sig .tc .vmem S31x128 .f32) (h6 : arg6.IsWhole) (arg7 : Memref sig .tc .vmem S1x128 .f32) (h7 : arg7.IsWhole) (arg8 : Memref sig .tc .vmem S1x128 .f32) (h8 : arg8.IsWhole) (arg9 : Memref sig .tc .vmem S8192x128 .bf16) (h9 : arg9.IsWhole) (arg10 : Memref sig .tc .vmem S8192x128 .bf16) (h10 : arg10.IsWhole) (arg11 : Memref sig .tc .vmem S32x128 .f32) (h11 : arg11.IsWhole) (arg12 : Memref sig .tc .vmem S1x128 .f32) (h12 : arg12.IsWhole) (arg13 : Memref sig .tc .vmem S1x128 .f32) (h13 : arg13.IsWhole) (arg14 : Memref sig .tc .vmem S1x128 .f32) (h14 : arg14.IsWhole) (arg15 : Memref sig .tc .vmem S8224x128 .f32) (h15 : arg15.IsWhole) (arg16 : Memref sig .tc .vmem S8224x128 .f32) (h16 : arg16.IsWhole) (arg17 : Memref sig .tc .vmem S256x128 .f32) (h17 : arg17.IsWhole) (w : Vec F S31x128 .f32)
    (dy y : Vec F S8192x128 .f32) (gg gb : Vec F S1x128 .f32) (f15 : arg15.view.ty.Contents (Elt F)) :
    (pb_k1_t1 Variants.none c none i arg1 h1 arg2 h2 arg3 h3 arg4 h4 arg5 h5 arg6 h6 arg7 h7 arg8 h8 arg9 h9 arg10 h10 arg11 h11 arg12 h12 arg13 h13 arg14 h14 arg15 h15 arg16 h16 arg17 h17 w (k1_pay90 gg) gb (h1.unread dy) (h2.unread y) (arg12.view.writes (Elt F) arg12.view.junk [⟨one, k1_pay87⟩]) (arg13.view.writes (Elt F) arg13.view.junk [⟨one, k1_pay88⟩]) (arg14.view.writes (Elt F) arg14.view.junk [⟨one, k1_pay89⟩]) (arg15.view.writes (Elt F) f15 [⟨tail, k1_pay83⟩]) (Scf.trips k1_t1_loop.lb k1_t1_loop.ub k1_t1_loop.st)).1 ++ [⟨one, k1_pay87⟩] = (finalN dy y gg gb).1
    ∧ (pb_k1_t1 Variants.none c none i arg1 h1 arg2 h2 arg3 h3 arg4 h4 arg5 h5 arg6 h6 arg7 h7 arg8 h8 arg9 h9 arg10 h10 arg11 h11 arg12 h12 arg13 h13 arg14 h14 arg15 h15 arg16 h16 arg17 h17 w (k1_pay90 gg) gb (h1.unread dy) (h2.unread y) (arg12.view.writes (Elt F) arg12.view.junk [⟨one, k1_pay87⟩]) (arg13.view.writes (Elt F) arg13.view.junk [⟨one, k1_pay88⟩]) (arg14.view.writes (Elt F) arg14.view.junk [⟨one, k1_pay89⟩]) (arg15.view.writes (Elt F) f15 [⟨tail, k1_pay83⟩]) (Scf.trips k1_t1_loop.lb k1_t1_loop.ub k1_t1_loop.st)).2.1 ++ [⟨one, k1_pay88⟩] = (finalN dy y gg gb).2.1
    ∧ (pb_k1_t1 Variants.none c none i arg1 h1 arg2 h2 arg3 h3 arg4 h4 arg5 h5 arg6 h6 arg7 h7 arg8 h8 arg9 h9 arg10 h10 arg11 h11 arg12 h12 arg13 h13 arg14 h14 arg15 h15 arg16 h16 arg17 h17 w (k1_pay90 gg) gb (h1.unread dy) (h2.unread y) (arg12.view.writes (Elt F) arg12.view.junk [⟨one, k1_pay87⟩]) (arg13.view.writes (Elt F) arg13.view.junk [⟨one, k1_pay88⟩]) (arg14.view.writes (Elt F) arg14.view.junk [⟨one, k1_pay89⟩]) (arg15.view.writes (Elt F) f15 [⟨tail, k1_pay83⟩]) (Scf.trips k1_t1_loop.lb k1_t1_loop.ub k1_t1_loop.st)).2.2.1 ++ [⟨one, k1_pay89⟩] = (finalN dy y gg gb).2.2.1
    ∧ (pb_k1_t1 Variants.none c none i arg1 h1 arg2 h2 arg3 h3 arg4 h4 arg5 h5 arg6 h6 arg7 h7 arg8 h8 arg9 h9 arg10 h10 arg11 h11 arg12 h12 arg13 h13 arg14 h14 arg15 h15 arg16 h16 arg17 h17 w (k1_pay90 gg) gb (h1.unread dy) (h2.unread y) (arg12.view.writes (Elt F) arg12.view.junk [⟨one, k1_pay87⟩]) (arg13.view.writes (Elt F) arg13.view.junk [⟨one, k1_pay88⟩]) (arg14.view.writes (Elt F) arg14.view.junk [⟨one, k1_pay89⟩]) (arg15.view.writes (Elt F) f15 [⟨tail, k1_pay83⟩]) (Scf.trips k1_t1_loop.lb k1_t1_loop.ub k1_t1_loop.st)).2.2.2 ++ [⟨tail, k1_pay83⟩] = (finalN dy y gg gb).2.2.2 := by
  obtain ⟨L12, L13, L14, L15, e, e12, e13, e14, e15⟩ := pbN Variants.none c none i arg1 h1 arg2 h2 arg3 h3 arg4 h4 arg5 h5 arg6 h6 arg7 h7 arg8 h8 arg9 h9 arg10 h10 arg11 h11 arg12 h12 arg13 h13 arg14 h14 arg15 h15 arg16 h16 arg17 h17 w (k1_pay90 gg) gb dy y arg12.view.junk arg13.view.junk arg14.view.junk
    (arg15.view.writes (Elt F) f15 [⟨tail, k1_pay83⟩]) _ (Nat.le_refl k1_t1_loop.trips)
  exact ⟨(congrArg (fun p => p.1 ++ _) e).trans e12, (congrArg (fun p => p.2.1 ++ _) e).trans e13,
    (congrArg (fun p => p.2.2.1 ++ _) e).trans e14, (congrArg (fun p => p.2.2.2 ++ _) e).trans e15⟩

theorem loopX (c : Dev nD) (i : grid1.Coords) (arg1 : Memref sig .tc .vmem S8192x128 .f32) (h1 : arg1.IsWhole) (arg2 : Memref sig .tc .vmem S8192x128 .f32) (h2 : arg2.IsWhole) (arg3 : Memref sig .tc .vmem S8192x128 .f32) (h3 : arg3.IsWhole) (arg4 : Memref sig .tc .vmem S8192x128 .bf16) (h4 : arg4.IsWhole) (arg5 : Memref sig .tc .vmem S8192x128 .bf16) (h5 : arg5.IsWhole) (arg6 : Memref sig .tc .vmem S31x128 .f32) (h6 : arg6.IsWhole) (arg7 : Memref sig .tc .vmem S1x128 .f32) (h7 : arg7.IsWhole) (arg8 : Memref sig .tc .vmem S1x128 .f32) (h8 : arg8.IsWhole) (arg9 : Memref sig .tc .vmem S8192x128 .bf16) (h9 : arg9.IsWhole) (arg10 : Memref sig .tc .vmem S8192x128 .bf16) (h10 : arg10.IsWhole) (arg11 : Memref sig .tc .vmem S32x128 .f32) (h11 : arg11.IsWhole) (arg12 : Memref sig .tc .vmem S1x128 .f32) (h12 : arg12.IsWhole) (arg13 : Memref sig .tc .vmem S1x128 .f32) (h13 : arg13.IsWhole) (arg14 : Memref sig .tc .vmem S1x128 .f32) (h14 : arg14.IsWhole) (arg15 : Memref sig .tc .vmem S8224x128 .f32) (h15 : arg15.IsWhole) (arg16 : Memref sig .tc .vmem S8224x128 .f32) (h16 : arg16.IsWhole) (arg17 : Memref sig .tc .vmem S256x128 .f32) (h17 : arg17.IsWhole)
    (dy y x : Vec F S8192x128 .f32) (v g : Vec F S8192x128 .bf16) (w : Vec F S31x128 .f32) (gg gb : Vec F S1x128 .f32) (f9 : arg9.view.ty.Contents (Elt F)) (f10 : arg10.view.ty.Contents (Elt F)) :
    (pb_k1_t2 Variants.none c none i arg1 h1 arg2 h2 arg3 h3 arg4 h4 arg5 h5 arg6 h6 arg7 h7 arg8 h8 arg9 h9 arg10 h10 arg11 h11 arg12 h12 arg13 h13 arg14 h14 arg15 h15 arg16 h16 arg17 h17 w (k1_pay90 gg) (h4.unread v) (h5.unread g) (h15.unread (dpad dy y gg gb)) (h16.unread (xpad x)) f9 f10 (arg17.view.writes (Elt F) arg17.view.junk [⟨all, k1_pay86⟩]) (Scf.trips k1_t2_loop.lb k1_t2_loop.ub k1_t2_loop.st)).1 = (finalX dy y x v g w gg gb).1
    ∧ (pb_k1_t2 Variants.none c none i arg1 h1 arg2 h2 arg3 h3 arg4 h4 arg5 h5 arg6 h6 arg7 h7 arg8 h8 arg9 h9 arg10 h10 arg11 h11 arg12 h12 arg13 h13 arg14 h14 arg15 h15 arg16 h16 arg17 h17 w (k1_pay90 gg) (h4.unread v) (h5.unread g) (h15.unread (dpad dy y gg gb)) (h16.unread (xpad x)) f9 f10 (arg17.view.writes (Elt F) arg17.view.junk [⟨all, k1_pay86⟩]) (Scf.trips k1_t2_loop.lb k1_t2_loop.ub k1_t2_loop.st)).2.1 = (finalX dy y x v g w gg gb).2.1
    ∧ (pb_k1_t2 Variants.none c none i arg1 h1 arg2 h2 arg3 h3 arg4 h4 arg5 h5 arg6 h6 arg7 h7 arg8 h8 arg9 h9 arg10 h10 arg11 h11 arg12 h12 arg13 h13 arg14 h14 arg15 h15 arg16 h16 arg17 h17 w (k1_pay90 gg) (h4.unread v) (h5.unread g) (h15.unread (dpad dy y gg gb)) (h16.unread (xpad x)) f9 f10 (arg17.view.writes (Elt F) arg17.view.junk [⟨all, k1_pay86⟩]) (Scf.trips k1_t2_loop.lb k1_t2_loop.ub k1_t2_loop.st)).2.2 ++ [⟨all, k1_pay86⟩] = (finalX dy y x v g w gg gb).2.2 := by
  obtain ⟨L17, e, e17⟩ := pbX Variants.none c none i arg1 h1 arg2 h2 arg3 h3 arg4 h4 arg5 h5 arg6 h6 arg7 h7 arg8 h8 arg9 h9 arg10 h10 arg11 h11 arg12 h12 arg13 h13 arg14 h14 arg15 h15 arg16 h16 arg17 h17 (k1_pay90 gg) w (dpad dy y gg gb) (xpad x) v g f9 f10 arg17.view.junk _ (Nat.le_refl k1_t2_loop.trips)
  exact ⟨congrArg (fun p => p.1) e, congrArg (fun p => p.2.1) e, (congrArg (fun p => p.2.2 ++ _) e).trans e17⟩

set_option maxHeartbeats 2000000 in
theorem body (c : Dev nD) (i : grid1.Coords) (arg1 : Memref sig .tc .vmem S8192x128 .f32) (h1 : arg1.IsWhole) (arg2 : Memref sig .tc .vmem S8192x128 .f32) (h2 : arg2.IsWhole) (arg3 : Memref sig .tc .vmem S8192x128 .f32) (h3 : arg3.IsWhole) (arg4 : Memref sig .tc .vmem S8192x128 .bf16) (h4 : arg4.IsWhole) (arg5 : Memref sig .tc .vmem S8192x128 .bf16) (h5 : arg5.IsWhole) (arg6 : Memref sig .tc .vmem S31x128 .f32) (h6 : arg6.IsWhole) (arg7 : Memref sig .tc .vmem S1x128 .f32) (h7 : arg7.IsWhole) (arg8 : Memref sig .tc .vmem S1x128 .f32) (h8 : arg8.IsWhole) (arg9 : Memref sig .tc .vmem S8192x128 .bf16) (h9 : arg9.IsWhole) (arg10 : Memref sig .tc .vmem S8192x128 .bf16) (h10 : arg10.IsWhole) (arg11 : Memref sig .tc .vmem S32x128 .f32) (h11 : arg11.IsWhole) (arg12 : Memref sig .tc .vmem S1x128 .f32) (h12 : arg12.IsWhole) (arg13 : Memref sig .tc .vmem S1x128 .f32) (h13 : arg13.IsWhole) (arg14 : Memref sig .tc .vmem S1x128 .f32) (h14 : arg14.IsWhole) (arg15 : Memref sig .tc .vmem S8224x128 .f32) (h15 : arg15.IsWhole) (arg16 : Memref sig .tc .vmem S8224x128 .f32) (h16 : arg16.IsWhole) (arg17 : Memref sig .tc .vmem S256x128 .f32) (h17 : arg17.IsWhole)
    (dy y x : Vec F S8192x128 .f32) (v g : Vec F S8192x128 .bf16) (w : Vec F S31x128 .f32) (gg gb : Vec F S1x128 .f32) (K : PUnit → sProp 𝕄) :
    iprop(owns (c : Thread nD τ) arg1 fullShare dy ∗ owns (c : Thread nD τ) arg2 fullShare y ∗ owns (c : Thread nD τ) arg3 fullShare x ∗ owns (c : Thread nD τ) arg4 fullShare v ∗ owns (c : Thread nD τ) arg5 fullShare g ∗ owns (c : Thread nD τ) arg6 fullShare w ∗ owns (c : Thread nD τ) arg7 fullShare gg ∗ owns (c : Thread nD τ) arg8 fullShare gb ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare dy ∗ owns (c : Thread nD τ) arg2 fullShare y ∗ owns (c : Thread nD τ) arg3 fullShare x ∗ owns (c : Thread nD τ) arg4 fullShare v ∗ owns (c : Thread nD τ) arg5 fullShare g ∗ owns (c : Thread nD τ) arg6 fullShare w ∗ owns (c : Thread nD τ) arg7 fullShare gg ∗ owns (c : Thread nD τ) arg8 fullShare gb ∗ owns (c : Thread nD τ) arg9 fullShare (outV dy y x v g w gg gb) ∗ owns (c : Thread nD τ) arg10 fullShare (outG dy y x v g w gg gb) ∗ owns (c : Thread nD τ) arg11 fullShare (outW dy y x v g w gg gb) ∗ owns (c : Thread nD τ) arg12 fullShare (outB dy y gg gb) ∗ owns (c : Thread nD τ) arg13 fullShare (outGg dy y gg gb) ∗ owns (c : Thread nD τ) arg14 fullShare (outGb dy y gg gb) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ (cc1_conv31_bwd_1 i arg1 h1 arg2 h2 arg3 h3 arg4 h4 arg5 h5 arg6 h6 arg7 h7 arg8 h8 arg9 h9 arg10 h10 arg11 h11 arg12 h12 arg13 h13 arg14 h14 arg15 h15 arg16 h16 arg17 h17) K := by
  simp only [cc1_conv31_bwd_1_eq_skeleton]; unfold cc1_conv31_bwd_1_skel
  simp only [k1_part15_eq_skeleton, k1_part16_eq_skeleton, k1_part17_eq_skeleton, k1_part18_eq_skeleton, k1_part19_eq_skeleton, k1_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
  sl_exec
  sl_step
  sl_unfold_words
  rw [Conv31FwdBody.readX arg3 h3 x, Conv31FwdBody.readW arg6 h6 w, Conv31FwdBody.read1 arg7 h7 gg, Conv31FwdBody.read1 arg8 h8 gb, xpad_end arg16 h16]
  obtain ⟨e12, e13, e14, e15⟩ := loopN c i arg1 h1 arg2 h2 arg3 h3 arg4 h4 arg5 h5 arg6 h6 arg7 h7 arg8 h8 arg9 h9 arg10 h10 arg11 h11 arg12 h12 arg13 h13 arg14 h14 arg15 h15 arg16 h16 arg17 h17 w dy y gg gb f15
  rw [e12, e13, e14, e15, dpad_end arg15 h15]
  obtain ⟨e9, e10, e17⟩ := loopX c i arg1 h1 arg2 h2 arg3 h3 arg4 h4 arg5 h5 arg6 h6 arg7 h7 arg8 h8 arg9 h9 arg10 h10 arg11 h11 arg12 h12 arg13 h13 arg14 h14 arg15 h15 arg16 h16 arg17 h17 dy y x v g w gg gb f9 f10
  rw [e9, e10, e17]
  iapply Hk
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact View.read_writes_eq_canon _ _ _ (cover9 dy y x v g w gg gb)
  isplitl [H10]
  · iexists _; isplitr; swap; · iexact H10
    ipureintro; exact View.read_writes_eq_canon _ _ _ (cover10 dy y x v g w gg gb)
  isplitl [H11]
  · iexists _; isplitr; swap; · iexact H11
    ipureintro
    simp only [View.readCov_eq_canon']
    refine Eq.trans (congrArg (fun L => arg11.view.read (Elt F) (arg11.view.writes (Elt F) f11 L)) ?_) (View.read_writes_eq_canon _ _ _ (coverW (sums dy y x v g w gg gb)))
    unfold sums
    generalize View.canon (Val := Elt F) (finalX dy y x v g w gg gb).2.2 = S
    rfl
  isplitl [H12]
  · iexists _; isplitr; swap; · iexact H12
    ipureintro; exact funext fun r => View.read_writes_junk_apply_eq_canon _ r _
  isplitl [H13]
  · iexists _; isplitr; swap; · iexact H13
    ipureintro; exact funext fun r => View.read_writes_junk_apply_eq_canon _ r _
  isplitl [H14]
  · iexists _; isplitr; swap; · iexact H14
    ipureintro; exact funext fun r => View.read_writes_junk_apply_eq_canon _ r _
  isplitl [H15]; · iexists _, _; isplitr; swap; · iexact H15
                   ipureintro; rfl
  isplitl [H16]; · iexists _, _; isplitr; swap; · iexact H16
                   ipureintro; rfl
  iexists _, _; isplitr; swap; · iexact H17
  ipureintro; rfl

end Cert.Conv31BwdBody

end
-- ==== Proof.Conv31Points.lean ====
module

public import proofs.«01_k».proof.Proof.Conv31FwdBody
public import proofs.«01_k».proof.Proof.Conv31BwdBody
public import proofs.«01_k».proof.Proof.Gen.Conv31Ideal.Regions
public import proofs.«01_k».proof.Proof.Gen.Conv31Ideal.Points
public import Idealize.ShloMosaic.Lib.Pipeline.RegionArraysS

@[expose] public section

set_option maxRecDepth 16384

noncomputable section

namespace Cert.Conv31Run

open Cert.Conv31Ideal Cert.Conv31Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

namespace R0

open Cert.Conv31FwdBody

variable (V : Dev nD → Valuation τ sig (Elt F))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What each point leaves in its blocks; between the points the scratch buffers hold anything. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outC (blk V c 0 t) (blk V c 1 t) (blk V c 2 t)
    | ⟨6, _⟩ => outS (blk V c 0 t) (blk V c 1 t) (blk V c 2 t) (blk V c 3 t) (blk V c 4 t)
  Φ _ := Pipeline.scopedRest spec0 c
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = outC (blk V c 0 t) (blk V c 1 t) (blk V c 2 t) := by dsimp only [dat]
theorem after_6 (c : Dev nD) (t : Fin cfg0.N) : (dat V c).after 6 t = outS (blk V c 0 t) (blk V c 1 t) (blk V c 2 t) (blk V c 3 t) (blk V c 4 t) := by dsimp only [dat]
theorem Φ_eq (c : Dev nD) (t : Fin (cfg0.N + 1)) : (dat V c).Φ t = Pipeline.scopedRest spec0 c := by dsimp only [dat]

theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg0.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)

theorem rest_eq (c : Dev nD) :
    (Pipeline.scopedRest spec0 c : sProp 𝕄)
      = iprop((∃ d, owns (c : Thread nD τ) (Memref.whole cc0_scratch0) fullShare d) ∗ Pipeline.scopedRestBut spec0 c [cc0_scratch0]) := by
  rw [Pipeline.scopedRest_split_of_list spec0 c [cc0_scratch0] (by decide) (by decide)]
  simp only [owns_whole]; rfl

theorem point (c : Dev nD) (t : Fin cfg0.N) :
    iprop((dat V c).Φ t.castSucc ∗ (dat V c).owesAt () t.castSucc
      ∗ (∃ d, owns (c : Thread nD τ) (win0_0.stage (cfg0.slots t 0)) fullShare ((dat V c).before 0 t d))
      ∗ (∃ d, owns (c : Thread nD τ) (win0_1.stage (cfg0.slots t 1)) fullShare ((dat V c).before 1 t d))
      ∗ (∃ d, owns (c : Thread nD τ) (win0_2.stage (cfg0.slots t 2)) fullShare ((dat V c).before 2 t d))
      ∗ (∃ d, owns (c : Thread nD τ) (win0_3.stage (cfg0.slots t 3)) fullShare ((dat V c).before 3 t d))
      ∗ (∃ d, owns (c : Thread nD τ) (win0_4.stage (cfg0.slots t 4)) fullShare ((dat V c).before 4 t d))
      ∗ (∃ d, owns (c : Thread nD τ) (win0_5.stage (cfg0.slots t 5)) fullShare ((dat V c).before 5 t d))
      ∗ (∃ d, owns (c : Thread nD τ) (win0_6.stage (cfg0.slots t 6)) fullShare ((dat V c).before 6 t d)))
    ⊢ wp frame (wpE (defs₀ (F := F)) Variants.none c none) Set.univ (bodyAt0 t) (fun _ =>
      iprop((dat V c).Φ t.succ ∗ (dat V c).owesAt () t.succ
        ∗ owns (c : Thread nD τ) (win0_0.stage (cfg0.slots t 0)) fullShare ((dat V c).after 0 t)
        ∗ owns (c : Thread nD τ) (win0_1.stage (cfg0.slots t 1)) fullShare ((dat V c).after 1 t)
        ∗ owns (c : Thread nD τ) (win0_2.stage (cfg0.slots t 2)) fullShare ((dat V c).after 2 t)
        ∗ owns (c : Thread nD τ) (win0_3.stage (cfg0.slots t 3)) fullShare ((dat V c).after 3 t)
        ∗ owns (c : Thread nD τ) (win0_4.stage (cfg0.slots t 4)) fullShare ((dat V c).after 4 t)
        ∗ owns (c : Thread nD τ) (win0_5.stage (cfg0.slots t 5)) fullShare ((dat V c).after 5 t)
        ∗ owns (c : Thread nD τ) (win0_6.stage (cfg0.slots t 6)) fullShare ((dat V c).after 6 t))) := by
  simp only [before_0 V c t, before_1 V c t, before_2 V c t, before_3 V c t, before_4 V c t,
    after_0, after_1, after_2, after_3, after_4, after_5, after_6]
  rw [show (dat V c).owesAt () t.succ = (dat V c).owesAt () t.castSucc from rfl, Φ_eq, Φ_eq, rest_eq]
  unfold bodyAt0
  iintro ⟨⟨S0, Hg⟩, Ho, ⟨%d0, H0⟩, ⟨%d1, H1⟩, ⟨%d2, H2⟩, ⟨%d3, H3⟩, ⟨%d4, H4⟩, ⟨%d5, H5⟩, ⟨%d6, H6⟩⟩
  iapply (body c (grid0.coords t) _ _ _ _ _ _ _ _ _ _ _ _ _ _ _ _ (blk V c 0 t) (blk V c 1 t) (blk V c 2 t) (blk V c 3 t) (blk V c 4 t))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexact S0
  iintro ⟨H0, H1, H2, H3, H4, H5, H6, S0⟩
  isplitl [S0 Hg]
  · isplitl [S0]; · iexact S0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin cfg0.N) : defs₀ (F := F) .tc cfg0.body (cfg0.bodyArgs t (cfg0.slots t)) = bodyAt0 t := by
  unfold defs₀; rw [Defs.onTc_tc]

theorem obligation (c : Dev nD) : BodyObligation (dat (F := F) V c) (defs₀ (F := F)) Variants.none () Set.univ := fun t => by
  rw [bigSep_W0, bigSep_W0, body_row]
  exact triple_restated (point V c t) rfl .rfl fun _ => .rfl

end R0

namespace R1

open Cert.Conv31BwdBody

variable (V : Dev nD → Valuation τ sig (Elt F))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What each point leaves in its blocks; between the points the scratch buffers hold anything. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => outV (blk V c 0 t) (blk V c 1 t) (blk V c 2 t) (blk V c 3 t) (blk V c 4 t) (blk V c 5 t) (blk V c 6 t) (blk V c 7 t)
    | ⟨9, _⟩ => outG (blk V c 0 t) (blk V c 1 t) (blk V c 2 t) (blk V c 3 t) (blk V c 4 t) (blk V c 5 t) (blk V c 6 t) (blk V c 7 t)
    | ⟨10, _⟩ => outW (blk V c 0 t) (blk V c 1 t) (blk V c 2 t) (blk V c 3 t) (blk V c 4 t) (blk V c 5 t) (blk V c 6 t) (blk V c 7 t)
    | ⟨11, _⟩ => outB (blk V c 0 t) (blk V c 1 t) (blk V c 6 t) (blk V c 7 t)
    | ⟨12, _⟩ => outGg (blk V c 0 t) (blk V c 1 t) (blk V c 6 t) (blk V c 7 t)
    | ⟨13, _⟩ => outGb (blk V c 0 t) (blk V c 1 t) (blk V c 6 t) (blk V c 7 t)
  Φ _ := Pipeline.scopedRest spec1 c
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) : (dat V c).after 8 t = outV (blk V c 0 t) (blk V c 1 t) (blk V c 2 t) (blk V c 3 t) (blk V c 4 t) (blk V c 5 t) (blk V c 6 t) (blk V c 7 t) := by dsimp only [dat]
theorem after_9 (c : Dev nD) (t : Fin cfg1.N) : (dat V c).after 9 t = outG (blk V c 0 t) (blk V c 1 t) (blk V c 2 t) (blk V c 3 t) (blk V c 4 t) (blk V c 5 t) (blk V c 6 t) (blk V c 7 t) := by dsimp only [dat]
theorem after_10 (c : Dev nD) (t : Fin cfg1.N) : (dat V c).after 10 t = outW (blk V c 0 t) (blk V c 1 t) (blk V c 2 t) (blk V c 3 t) (blk V c 4 t) (blk V c 5 t) (blk V c 6 t) (blk V c 7 t) := by dsimp only [dat]
theorem after_11 (c : Dev nD) (t : Fin cfg1.N) : (dat V c).after 11 t = outB (blk V c 0 t) (blk V c 1 t) (blk V c 6 t) (blk V c 7 t) := by dsimp only [dat]
theorem after_12 (c : Dev nD) (t : Fin cfg1.N) : (dat V c).after 12 t = outGg (blk V c 0 t) (blk V c 1 t) (blk V c 6 t) (blk V c 7 t) := by dsimp only [dat]
theorem after_13 (c : Dev nD) (t : Fin cfg1.N) : (dat V c).after 13 t = outGb (blk V c 0 t) (blk V c 1 t) (blk V c 6 t) (blk V c 7 t) := by dsimp only [dat]
theorem Φ_eq (c : Dev nD) (t : Fin (cfg1.N + 1)) : (dat V c).Φ t = Pipeline.scopedRest spec1 c := by dsimp only [dat]

theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg1.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)
theorem before_6 (c : Dev nD) (t : Fin cfg1.N) (d) : (dat V c).before 6 t d = blk V c 6 t :=
  ((dat V c).before_in_eq_fetched 6 rfl (fun _ => rfl) (fun _ _ _ => rfl) (fun t => by rw [after_6]; unfold Dat.blockOf blk; rw [A_eq]; try rfl) t d).trans
    (by unfold Dat.fetched Dat.blockOf blk; rw [A_eq]; try rfl)
theorem before_7 (c : Dev nD) (t : Fin cfg1.N) (d) : (dat V c).before 7 t d = blk V c 7 t :=
  ((dat V c).before_in_eq_fetched 7 rfl (fun _ => rfl) (fun _ _ _ => rfl) (fun t => by rw [after_7]; unfold Dat.blockOf blk; rw [A_eq]; try rfl) t d).trans
    (by unfold Dat.fetched Dat.blockOf blk; rw [A_eq]; try rfl)

theorem rest_eq (c : Dev nD) :
    (Pipeline.scopedRest spec1 c : sProp 𝕄)
      = iprop(iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d)) ∗ Pipeline.scopedRestBut spec1 c [cc1_scratch0, cc1_scratch1, cc1_scratch2]) := by
  rw [Pipeline.scopedRest_split_of_list spec1 c [cc1_scratch0, cc1_scratch1, cc1_scratch2] (by decide) (by decide)]
  simp only [owns_whole]; rfl

theorem point (c : Dev nD) (t : Fin cfg1.N) :
    iprop((dat V c).Φ t.castSucc ∗ (dat V c).owesAt () t.castSucc
      ∗ (∃ d, owns (c : Thread nD τ) (win1_0.stage (cfg1.slots t 0)) fullShare ((dat V c).before 0 t d))
      ∗ (∃ d, owns (c : Thread nD τ) (win1_1.stage (cfg1.slots t 1)) fullShare ((dat V c).before 1 t d))
      ∗ (∃ d, owns (c : Thread nD τ) (win1_2.stage (cfg1.slots t 2)) fullShare ((dat V c).before 2 t d))
      ∗ (∃ d, owns (c : Thread nD τ) (win1_3.stage (cfg1.slots t 3)) fullShare ((dat V c).before 3 t d))
      ∗ (∃ d, owns (c : Thread nD τ) (win1_4.stage (cfg1.slots t 4)) fullShare ((dat V c).before 4 t d))
      ∗ (∃ d, owns (c : Thread nD τ) (win1_5.stage (cfg1.slots t 5)) fullShare ((dat V c).before 5 t d))
      ∗ (∃ d, owns (c : Thread nD τ) (win1_6.stage (cfg1.slots t 6)) fullShare ((dat V c).before 6 t d))
      ∗ (∃ d, owns (c : Thread nD τ) (win1_7.stage (cfg1.slots t 7)) fullShare ((dat V c).before 7 t d))
      ∗ (∃ d, owns (c : Thread nD τ) (win1_8.stage (cfg1.slots t 8)) fullShare ((dat V c).before 8 t d))
      ∗ (∃ d, owns (c : Thread nD τ) (win1_9.stage (cfg1.slots t 9)) fullShare ((dat V c).before 9 t d))
      ∗ (∃ d, owns (c : Thread nD τ) (win1_10.stage (cfg1.slots t 10)) fullShare ((dat V c).before 10 t d))
      ∗ (∃ d, owns (c : Thread nD τ) (win1_11.stage (cfg1.slots t 11)) fullShare ((dat V c).before 11 t d))
      ∗ (∃ d, owns (c : Thread nD τ) (win1_12.stage (cfg1.slots t 12)) fullShare ((dat V c).before 12 t d))
      ∗ (∃ d, owns (c : Thread nD τ) (win1_13.stage (cfg1.slots t 13)) fullShare ((dat V c).before 13 t d)))
    ⊢ wp frame (wpE (defs₀ (F := F)) Variants.none c none) Set.univ (bodyAt1 t) (fun _ =>
      iprop((dat V c).Φ t.succ ∗ (dat V c).owesAt () t.succ
        ∗ owns (c : Thread nD τ) (win1_0.stage (cfg1.slots t 0)) fullShare ((dat V c).after 0 t)
        ∗ owns (c : Thread nD τ) (win1_1.stage (cfg1.slots t 1)) fullShare ((dat V c).after 1 t)
        ∗ owns (c : Thread nD τ) (win1_2.stage (cfg1.slots t 2)) fullShare ((dat V c).after 2 t)
        ∗ owns (c : Thread nD τ) (win1_3.stage (cfg1.slots t 3)) fullShare ((dat V c).after 3 t)
        ∗ owns (c : Thread nD τ) (win1_4.stage (cfg1.slots t 4)) fullShare ((dat V c).after 4 t)
        ∗ owns (c : Thread nD τ) (win1_5.stage (cfg1.slots t 5)) fullShare ((dat V c).after 5 t)
        ∗ owns (c : Thread nD τ) (win1_6.stage (cfg1.slots t 6)) fullShare ((dat V c).after 6 t)
        ∗ owns (c : Thread nD τ) (win1_7.stage (cfg1.slots t 7)) fullShare ((dat V c).after 7 t)
        ∗ owns (c : Thread nD τ) (win1_8.stage (cfg1.slots t 8)) fullShare ((dat V c).after 8 t)
        ∗ owns (c : Thread nD τ) (win1_9.stage (cfg1.slots t 9)) fullShare ((dat V c).after 9 t)
        ∗ owns (c : Thread nD τ) (win1_10.stage (cfg1.slots t 10)) fullShare ((dat V c).after 10 t)
        ∗ owns (c : Thread nD τ) (win1_11.stage (cfg1.slots t 11)) fullShare ((dat V c).after 11 t)
        ∗ owns (c : Thread nD τ) (win1_12.stage (cfg1.slots t 12)) fullShare ((dat V c).after 12 t)
        ∗ owns (c : Thread nD τ) (win1_13.stage (cfg1.slots t 13)) fullShare ((dat V c).after 13 t))) := by
  simp only [before_0 V c t, before_1 V c t, before_2 V c t, before_3 V c t, before_4 V c t, before_5 V c t, before_6 V c t, before_7 V c t,
    after_0, after_1, after_2, after_3, after_4, after_5, after_6, after_7, after_8, after_9, after_10, after_11, after_12, after_13]
  rw [show (dat V c).owesAt () t.succ = (dat V c).owesAt () t.castSucc from rfl, Φ_eq, Φ_eq, rest_eq]
  unfold bodyAt1
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body c (grid1.coords t) _ _ _ _ _ _ _ _ _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [S0]; · iexact S0
  isplitl [S1]; · iexact S1
  isplitl [S2]; · iexact S2
  iintro ⟨H0, H1, H2, H3, H4, H5, H6, H7, H8, H9, H10, H11, H12, H13, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_row (t : Fin cfg1.N) : defs₀ (F := F) .tc cfg1.body (cfg1.bodyArgs t (cfg1.slots t)) = bodyAt1 t := by
  unfold defs₀; rw [Defs.onTc_tc]

theorem obligation (c : Dev nD) : BodyObligation (dat (F := F) V c) (defs₀ (F := F)) Variants.none () Set.univ := fun t => by
  rw [bigSep_W1, bigSep_W1, body_row]
  exact triple_restated (point V c t) rfl .rfl fun _ => .rfl

end R1

end Cert.Conv31Run

end
-- ==== Proof.Conv31Run.lean ====
module

public import proofs.«01_k».proof.Proof.Conv31Points

@[expose] public section

set_option maxRecDepth 16384

noncomputable section

namespace Cert.Conv31Run

open Cert.Conv31Ideal Cert.Conv31Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents as the forward region leaves them, -/
def W2 (c : Dev nD) : Valuation τ sig (Elt F) := Pipeline.afterRegion (R0.dat (V1 m) c) (V1 m c)
/-- as the backward region finds them, -/
def W3 (c : Dev nD) : Valuation τ sig (Elt F) := StableHlo.after hostOps1 (W2 m c)
/-- and at the end. -/
def W4 (c : Dev nD) : Valuation τ sig (Elt F) := Pipeline.afterRegion (R1.dat (W3 m) c) (W3 m c)

/-- The regions' data, from any contents that they find. -/
def pdats (VA VB : Dev nD → Valuation τ sig (Elt F)) : (p : Fin 2) → (c : Dev nD) → Dat τ (Elt F) Unit ℕ (UR sig nD τ) ℕ (cfgs p) c
  | ⟨0, _⟩ => R0.dat VA
  | ⟨1, _⟩ => R1.dat VB

/-- Every cell of a TensorCore waits at one level; nothing is owed. -/
def L (g : GSem nD τ sig) : Finset Unit := if g.1.2 = .tc then {()} else ∅
def lv (_ : GSem nD τ sig) (_ : Unit) : ℕ := 0

theorem cut (p : Fin 2) : Pipeline.LevelCut (pcfgs (F := F)) adm () L lv p (fun _ : Dev nD => (0 : CellTallies nD τ sig Unit)) fun _ => 0 where
  hι _ _ _ := by unfold L; rw [if_pos rfl]; exact Finset.mem_singleton_self _
  hιb _ _ _ := Nat.le_refl _
  hD _ _ _ h := absurd h (Nat.lt_irrefl 0)

/-- The rest of a core's state: what it owes. -/
def E (c : Dev nD) : sProp 𝕄 := iprop((∃ W, owes (c : Thread nD τ) (0 : CellTallies nD τ sig Unit) W) ∗ BI.emp ∗ BI.emp)

set_option backward.isDefEq.respectTransparency.types false in
def reg0 (VA VB : Dev nD → Valuation τ sig (Elt F)) : RegionSeg (pcfgs (F := F)) adm (pdats VA VB) () defs₀ Variants.none L lv 0 :=
  RegionSeg.ofHeldIn (pcfgs (F := F)) adm (pdats VA VB) () defs₀ Variants.none L lv 0 (fun _ => 0) (Pipeline.ucRefs τ sig) (fun _ => BI.emp) (fun _ => BI.emp)
    launch0.toP rfl (fun c => (R0.obligation VA c).loose) (fun _ _ => rfl) (fun _ => rfl) (fun c => (R0.dat VA c).share_full fun _ => rfl)
    (fun c => show iprop(Pipeline.scopedRest spec0 c ∗ BI.emp) ⊢ (Pipeline.scopedRest spec0 c : sProp 𝕄) from by iintro ⟨H, -⟩; iexact H)
    (fun c => show (Pipeline.scopedRest spec0 c : sProp 𝕄) ⊢ iprop(Pipeline.scopedRest spec0 c ∗ BI.emp) from by
      iintro H; isplitl [H]; · iexact H
      iempintro)
    (fun _ => 0) (cut 0) (fun _ => BI.emp) VA (fun _ _ => rfl)

set_option backward.isDefEq.respectTransparency.types false in
def reg1 (VA VB : Dev nD → Valuation τ sig (Elt F)) : RegionSeg (pcfgs (F := F)) adm (pdats VA VB) () defs₀ Variants.none L lv 1 :=
  RegionSeg.ofHeldIn (pcfgs (F := F)) adm (pdats VA VB) () defs₀ Variants.none L lv 1 (fun _ => 0) (Pipeline.ucRefs τ sig) (fun _ => BI.emp) (fun _ => BI.emp)
    launch1.toP rfl (fun c => (R1.obligation VB c).loose) (fun _ _ => rfl) (fun _ => rfl) (fun c => (R1.dat VB c).share_full fun _ => rfl)
    (fun c => show iprop(Pipeline.scopedRest spec1 c ∗ BI.emp) ⊢ (Pipeline.scopedRest spec1 c : sProp 𝕄) from by iintro ⟨H, -⟩; iexact H)
    (fun c => show (Pipeline.scopedRest spec1 c : sProp 𝕄) ⊢ iprop(Pipeline.scopedRest spec1 c ∗ BI.emp) from by
      iintro H; isplitl [H]; · iexact H
      iempintro)
    (fun _ => 0) (cut 1) (fun _ => BI.emp) VB (fun _ _ => rfl)

theorem arrs0 : Pipeline.arrRefs (τ := τ) spec0 ⊆ Pipeline.ucRefs τ sig := Pipeline.arrRefs_sub_ucRefs _ (by decide)
theorem arrs1 : Pipeline.arrRefs (τ := τ) spec1 ⊆ Pipeline.ucRefs τ sig := Pipeline.arrRefs_sub_ucRefs _ (by decide)

set_option backward.isDefEq.respectTransparency.types false in
theorem reg0_pre_eq (VA VB : Dev nD → Valuation τ sig (Elt F)) (c : Dev nD) : (reg0 VA VB).pre c
    = iprop(StableHlo.held (c : Thread nD τ) (Pipeline.arrRefs (τ := τ) spec0) (VA c) ∗ BI.emp
      ∗ (StableHlo.held (c : Thread nD τ) (Pipeline.ucRefs τ sig \ Pipeline.arrRefs (τ := τ) spec0) (VA c) ∗ BI.emp)
      ∗ ∃ W, owes (c : Thread nD τ) (0 : CellTallies nD τ sig Unit) W) := rfl

theorem reg0_pre (VA VB : Dev nD → Valuation τ sig (Elt F)) (c : Dev nD) :
    iprop(StableHlo.held (c : Thread nD τ) (Pipeline.ucRefs τ sig) (VA c) ∗ E c) ⊢ (reg0 VA VB).pre c := by
  rw [reg0_pre_eq, StableHlo.held_sub_split (c : Thread nD τ) arrs0 (VA c)]
  unfold E
  iintro ⟨⟨Ha, Hu⟩, HO, HX, HR⟩
  isplitl [Ha]; · iexact Ha
  isplitl [HX]; · iexact HX
  isplitl [Hu HR]
  · isplitl [Hu]; · iexact Hu
    iexact HR
  iexact HO

set_option backward.isDefEq.respectTransparency.types false in
theorem reg0_post_eq (VA VB : Dev nD → Valuation τ sig (Elt F)) (c : Dev nD) : (reg0 VA VB).post c
    = iprop(StableHlo.held (c : Thread nD τ) (Pipeline.arrRefs (τ := τ) spec0) (Pipeline.afterRegion (R0.dat VA c) (VA c)) ∗ BI.emp
      ∗ (StableHlo.held (c : Thread nD τ) (Pipeline.ucRefs τ sig \ Pipeline.arrRefs (τ := τ) spec0) (VA c) ∗ BI.emp)
      ∗ ∃ W, owes (c : Thread nD τ) (0 : CellTallies nD τ sig Unit) W) := rfl

theorem reg0_post (VA VB : Dev nD → Valuation τ sig (Elt F)) (c : Dev nD) :
    (reg0 VA VB).post c ⊢ iprop(StableHlo.held (c : Thread nD τ) (Pipeline.ucRefs τ sig) (Pipeline.afterRegion (R0.dat VA c) (VA c)) ∗ E c) := by
  rw [reg0_post_eq, StableHlo.held_sub_split (c : Thread nD τ) arrs0 (Pipeline.afterRegion (R0.dat VA c) (VA c)),
    StableHlo.held_congr (c : Thread nD τ) (S := Pipeline.ucRefs τ sig \ Pipeline.arrRefs (τ := τ) spec0) (V := Pipeline.afterRegion (R0.dat VA c) (VA c))
      (V' := VA c) (Pipeline.afterRegion_off (R0.dat VA c) (VA c) (Pipeline.ucRefs τ sig))]
  unfold E
  iintro ⟨Ha, HY, ⟨Hu, HR⟩, HO⟩
  isplitl [Ha Hu]
  · isplitl [Ha]; · iexact Ha
    iexact Hu
  isplitl [HO]; · iexact HO
  isplitl [HY]; · iexact HY
  iexact HR

set_option backward.isDefEq.respectTransparency.types false in
theorem reg1_pre_eq (VA VB : Dev nD → Valuation τ sig (Elt F)) (c : Dev nD) : (reg1 VA VB).pre c
    = iprop(StableHlo.held (c : Thread nD τ) (Pipeline.arrRefs (τ := τ) spec1) (VB c) ∗ BI.emp
      ∗ (StableHlo.held (c : Thread nD τ) (Pipeline.ucRefs τ sig \ Pipeline.arrRefs (τ := τ) spec1) (VB c) ∗ BI.emp)
      ∗ ∃ W, owes (c : Thread nD τ) (0 : CellTallies nD τ sig Unit) W) := rfl

theorem reg1_pre (VA VB : Dev nD → Valuation τ sig (Elt F)) (c : Dev nD) :
    iprop(StableHlo.held (c : Thread nD τ) (Pipeline.ucRefs τ sig) (VB c) ∗ E c) ⊢ (reg1 VA VB).pre c := by
  rw [reg1_pre_eq, StableHlo.held_sub_split (c : Thread nD τ) arrs1 (VB c)]
  unfold E
  iintro ⟨⟨Ha, Hu⟩, HO, HX, HR⟩
  isplitl [Ha]; · iexact Ha
  isplitl [HX]; · iexact HX
  isplitl [Hu HR]
  · isplitl [Hu]; · iexact Hu
    iexact HR
  iexact HO

set_option backward.isDefEq.respectTransparency.types false in
theorem reg1_post_eq (VA VB : Dev nD → Valuation τ sig (Elt F)) (c : Dev nD) : (reg1 VA VB).post c
    = iprop(StableHlo.held (c : Thread nD τ) (Pipeline.arrRefs (τ := τ) spec1) (Pipeline.afterRegion (R1.dat VB c) (VB c)) ∗ BI.emp
      ∗ (StableHlo.held (c : Thread nD τ) (Pipeline.ucRefs τ sig \ Pipeline.arrRefs (τ := τ) spec1) (VB c) ∗ BI.emp)
      ∗ ∃ W, owes (c : Thread nD τ) (0 : CellTallies nD τ sig Unit) W) := rfl

theorem reg1_post (VA VB : Dev nD → Valuation τ sig (Elt F)) (c : Dev nD) :
    (reg1 VA VB).post c ⊢ iprop(StableHlo.held (c : Thread nD τ) (Pipeline.ucRefs τ sig) (Pipeline.afterRegion (R1.dat VB c) (VB c)) ∗ E c) := by
  rw [reg1_post_eq, StableHlo.held_sub_split (c : Thread nD τ) arrs1 (Pipeline.afterRegion (R1.dat VB c) (VB c)),
    StableHlo.held_congr (c : Thread nD τ) (S := Pipeline.ucRefs τ sig \ Pipeline.arrRefs (τ := τ) spec1) (V := Pipeline.afterRegion (R1.dat VB c) (VB c))
      (V' := VB c) (Pipeline.afterRegion_off (R1.dat VB c) (VB c) (Pipeline.ucRefs τ sig))]
  unfold E
  iintro ⟨Ha, HY, ⟨Hu, HR⟩, HO⟩
  isplitl [Ha Hu]
  · isplitl [Ha]; · iexact Ha
    iexact Hu
  isplitl [HO]; · iexact HO
  isplitl [HY]; · iexact HY
  iexact HR

/-- A stretch of host operations, from any contents. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) E

def parts : List (Seg (pcfgs (F := F)) adm (pdats (V1 m) (W3 m)) () defs₀ Variants.none L lv) :=
  [.host (host0 m), .region (reg0 (V1 m) (W3 m)), .host (host1 m), .region (reg1 (V1 m) (W3 m))]

theorem rest (c : Dev nD) : (E c : sProp 𝕄) ⊢ iprop(∃ W, owes (c : Thread nD τ) (0 : CellTallies nD τ sig Unit) W) := by
  unfold E
  iintro ⟨HO, -, -⟩
  iexact HO

theorem chained (c : Dev nD) :
    Seg.ChainsAt c (fun c => iprop(StableHlo.held (c : Thread nD τ) (Pipeline.ucRefs τ sig) (V0 m c) ∗ E c)) (parts m)
      fun c => iprop(StableHlo.held (c : Thread nD τ) (Pipeline.ucRefs τ sig) (W4 m c) ∗ ∃ W, owes (c : Thread nD τ) (0 : CellTallies nD τ sig Unit) W) :=
  ⟨.rfl, reg0_pre (V1 m) (W3 m) c, reg0_post (V1 m) (W3 m) c, reg1_pre (V1 m) (W3 m) c, (reg1_post (V1 m) (W3 m) c).trans (sep_mono .rfl (rest c))⟩

set_option backward.isDefEq.respectTransparency.types false in
/-- Every run ends, with every unscoped buffer of a device at `W4` and every semaphore at zero. -/
theorem run : θ_run defs (onTc (τ := τ) (main (F := F))) ⟨m, fun _ => 0, ρ⟩
    (fun r => (∀ c : Dev nD, ∀ b ∈ Pipeline.ucRefs τ sig, r.2.mem (c, b) = W4 m c b) ∧ r.2.sem = fun _ => 0) := by
  refine Pipeline.θ_run_regions_kit_dev_sems (pcfgs (F := F)) adm (pdats (V1 m) (W3 m)) () cellOf_inj emb₁ defs₀ Variants.none L lv m ρ main
    (fun _ => parts m) (fun c Q => ?_) (fun c => ?_) (fun _ => 0) (fun g h => if_neg h) (fun _ => BI.emp)
    (initOf (Pipeline.cells cfgs cellOf_inj) (Pipeline.launchToks cfgs cellOf_inj)) ?_
    (fun c => iprop(StableHlo.held (c : Thread nD τ) (Pipeline.ucRefs τ sig) (V0 m c) ∗ E c))
    (fun c => StableHlo.held (c : Thread nD τ) (Pipeline.ucRefs τ sig) (W4 m c))
    (chained m) (Pipeline.initEach L lv fun c => ?_) (fun c s => ∀ b ∈ Pipeline.ucRefs τ sig, s.mem (c, b) = W4 m c b) (fun c s' => ?_)
    (fun _ h hz => ⟨h, funext fun g => hz g (.inr (regions_no_unscoped g.2))⟩)
  · rw [main_segs adm (pdats (V1 m) (W3 m)) () Variants.none L lv (host0 m) (host1 m) (reg0 (V1 m) (W3 m)) (reg1 (V1 m) (W3 m)) rfl rfl c]
    exact .rfl
  · simp only [parts, Seg.pipes_host, Seg.pipes_region, Seg.pipes_nil]; decide
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    rw [BI.bigSep_emp_const]; iempintro
  · rw [← Pipeline.unscopedBufs_held (Ix := Unit) (Name := ℕ) (U := UR sig nD τ) (Lvl := ℕ) c (V0 m c)]
    iintro ⟨⟨Hb, -, HO, -⟩, -⟩
    imodintro
    isplitl [Hb]; · iexact Hb
    unfold E
    isplitl [HO]; · iexists _; iexact HO
    isplitr <;> iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr; · ipureintro; exact h
    iexact HSI

theorem keeps0 (c : Dev nD) (r : Ref sig .tc) (h : r ∉ ([main_v10_0, main_v10_1] : List (Ref sig .tc))) : W2 m c r = V1 m c r :=
  Pipeline.afterRegion_keeps (R0.dat (V1 m) c) (V1 m c) winFacts0.arr_inj (fun _ => rfl) r fun w hw => by
    subst hw; revert h; revert w; decide

theorem keeps1 (c : Dev nD) (r : Ref sig .tc) (h : r ∉ ([main_v15_0, main_v15_1, main_v15_2, main_v15_3, main_v15_4, main_v15_5] : List (Ref sig .tc))) :
    W4 m c r = W3 m c r :=
  Pipeline.afterRegion_keeps (R1.dat (W3 m) c) (W3 m c) winFacts1.arr_inj (fun _ => rfl) r fun w hw => by
    subst hw; revert h; revert w; decide

theorem W3_of (c : Dev nD) (r : Ref sig .tc) (h : r ∉ hostOps1_W) : W3 m c r = W2 m c r :=
  StableHlo.after_of_writes_sub hostOps1 _ hostOps1_writes h

theorem W4_of (c : Dev nD) (r : Ref sig .tc) (h1 : r ∉ ([main_v15_0, main_v15_1, main_v15_2, main_v15_3, main_v15_4, main_v15_5] : List (Ref sig .tc)))
    (h2 : r ∉ hostOps1_W) (h3 : r ∉ ([main_v10_0, main_v10_1] : List (Ref sig .tc))) : W4 m c r = V1 m c r :=
  (keeps1 m c r h1).trans ((W3_of m c r h2).trans (keeps0 m c r h3))

theorem uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

theorem arg_of (c : Dev nD) {s : MemSt nD τ sig (Elt F)} (h : ∀ b ∈ Pipeline.ucRefs τ sig, s.mem (c, b) = W4 m c b) (r : Ref sig .tc) (hr : r.isScoped = false)
    (h1 : r ∉ ([main_v15_0, main_v15_1, main_v15_2, main_v15_3, main_v15_4, main_v15_5] : List (Ref sig .tc)))
    (h2 : r ∉ hostOps1_W) (h3 : r ∉ ([main_v10_0, main_v10_1] : List (Ref sig .tc))) (h4 : r ∉ hostOps0_W) :
    s.mem ((c : Thread nD τ).loc r) = m ((c : Thread nD τ).loc r) :=
  (h _ (uc r hr)).trans ((W4_of m c r h1 h2 h3).trans (V1_of m c r h4))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    have k := fun (r : Ref sig .tc) => arg_of m c (h.1 c) r
    ⟨k _ (by decide) (by decide) (by decide) (by decide) (by decide), k _ (by decide) (by decide) (by decide) (by decide) (by decide),
      k _ (by decide) (by decide) (by decide) (by decide) (by decide), k _ (by decide) (by decide) (by decide) (by decide) (by decide),
      k _ (by decide) (by decide) (by decide) (by decide) (by decide), k _ (by decide) (by decide) (by decide) (by decide) (by decide),
      k _ (by decide) (by decide) (by decide) (by decide) (by decide)⟩, h.2⟩) (run m ρ)

end Cert.Conv31Run

end
-- ==== Proof.Conv31Math.lean ====
module

public import proofs.«01_k».proof.Proof.Reals

/-! The convolution module over the reals: a block of 128 lanes, which is one group of the normalisation. -/

@[expose] public section

set_option maxRecDepth 16384

noncomputable section

namespace Cert.Conv31Math

open Cert.Reals Idealize.ShloMosaic

/-- The logistic function. -/
def sg (z : ℝ) : ℝ := 1 / (1 + Real.exp (-z))

abbrev Col := Fin 8192 → Fin 128 → ℝ
abbrev Lane := Fin 128 → ℝ

/-- The gated linear unit. -/
def glu (v g : Col) : Col := fun t q => v t q * sg (g t q)

/-- An array's columns with thirty-two rows of zeros above, -/
def above (x : Col) (n : ℕ) (q : Fin 128) : ℝ := if h : 32 ≤ n ∧ n < 8224 then x ⟨n - 32, by omega⟩ q else 0
/-- and with zeros below. -/
def below (d : Col) (n : ℕ) (q : Fin 128) : ℝ := if h : n < 8192 then d ⟨n, h⟩ q else 0

def conv (x : Col) (w : Fin 31 → Lane) (b : Lane) : Col := fun t q => (∑ k : Fin 31, w k q * above x (t.val + (2 + k.val)) q) + b q

/-! The normalisation of a row. -/

def mean (r : Lane) : ℝ := (∑ q, r q) / 128
def cent (r : Lane) : Lane := fun q => r q - mean r
def vari (r : Lane) : ℝ := mean fun q => cent r q * cent r q
def eps : ℝ := 10995116 / 1099511627776
def rstd (r : Lane) : ℝ := (Real.sqrt (vari r + eps))⁻¹
def xhat (r : Lane) : Lane := fun q => cent r q * rstd r
def gn (gg gb r : Lane) : Lane := fun q => xhat r q * gg q + gb q
def swish (z : ℝ) : ℝ := z * sg z

/-! Its gradient. -/

def dgn (gg gb d r : Lane) : Lane := fun q => d q * (sg (gn gg gb r q) * (1 + gn gg gb r q * (1 - sg (gn gg gb r q))))
def dxh (gg gb d r : Lane) : Lane := fun q => dgn gg gb d r q * gg q
def dcc (gg gb d r : Lane) : Lane := fun q => rstd r * (dxh gg gb d r q - mean (dxh gg gb d r) - xhat r q * mean fun l => dxh gg gb d r l * xhat r l)

/-- The gradient of the convolution's input from that of its output. -/
def dx (d : Col) (w : Fin 31 → Lane) : Col := fun t q => ∑ k : Fin 31, w k q * below d (t.val + (30 - k.val)) q
/-- The gradients of the gated linear unit's two inputs. -/
def dval (g : Col) (s : Col) : Col := fun t q => s t q * sg (g t q)
def dgate (v g : Col) (s : Col) : Col := fun t q => s t q * v t q * sg (g t q) * (1 - sg (g t q))
/-- The gradient of a tap's weight. -/
def dw (d x : Col) (k : Fin 31) : Lane := fun q => ∑ t : Fin 8192, d t q * above x (t.val + (2 + k.val)) q

/-! The same of reals as extended reals. -/

theorem f32_128 : Ideal.ofBits .f32 0x43000000#32 = ((128 : ℝ) : EReal) := by
  simp [Ideal.ofBits, Ideal.ieee, -EReal.coe_mul]; norm_num
theorem f32_eps : Ideal.ofBits .f32 0x3727C5AC#32 = (eps : EReal) := by
  simp [Ideal.ofBits, Ideal.ieee, -EReal.coe_mul, eps]; norm_num
theorem f32_one : Ideal.ofBits .f32 0x3F800000#32 = ((1 : ℝ) : EReal) := by
  simp [Ideal.ofBits, Ideal.ieee, -EReal.coe_mul]; norm_num

theorem mean_coe (r : Lane) : Ideal.div (∑ q : Fin 128, (r q : EReal)) ((128 : ℝ) : EReal) = (mean r : EReal) := by
  rw [← coe_sum, coe_div (by norm_num)]; rfl

theorem eps_pos : 0 < eps := by unfold eps; norm_num
theorem vari_nonneg (r : Lane) : 0 ≤ vari r := by
  unfold vari mean
  exact div_nonneg (Finset.sum_nonneg fun q _ => mul_self_nonneg _) (by norm_num)
theorem vari_pos (r : Lane) : 0 < vari r + eps := add_pos_of_nonneg_of_pos (vari_nonneg r) eps_pos

theorem rstd_coe (r : Lane) : Ideal.rsqrt ((vari r + eps : ℝ) : EReal) = (rstd r : EReal) := by
  rw [Ideal.rsqrt_coe, if_neg (not_lt.mpr (vari_pos r).le), if_neg (vari_pos r).ne']; rfl

theorem logistic_coe (z : ℝ) : Ideal.logistic (z : EReal) = (sg z : EReal) := by
  rw [Ideal.logistic_coe]
  congr 1
  simp [sg]

theorem host_logistic_coe (z : ℝ) : Ideal.div ((1 : ℝ) : EReal) (((1 : ℝ) : EReal) + Ideal.exp (-(z : EReal))) = (sg z : EReal) := by
  rw [← EReal.coe_neg, Ideal.exp_coe, ← EReal.coe_add, coe_div_one_add_exp]; rfl

end Cert.Conv31Math

end
-- ==== Proof.Conv31Taps.lean ====
module

public import proofs.«01_k».proof.Proof.Conv31FwdTrip
public import proofs.«01_k».proof.Proof.Conv31BwdTrip
public import proofs.«01_k».proof.Proof.Conv31Math

@[expose] public section

set_option maxRecDepth 16384

noncomputable section

/-! The sums over the thirty-one taps. -/

namespace Cert.Conv31Taps

open Cert.Conv31Ideal Cert.Conv31Ideal.Gen Idealize.ShloMosaic Idealize.ShloMosaic.TcCoe

/-- Terms added one after another, the first alone at the start. -/
def chain (f : Fin 31 → EReal) (a : Fin 31) (l : List (Fin 31)) : EReal := l.foldl (fun s k => s + f k) (f a)

theorem foldl_sum (f : Fin 31 → EReal) : ∀ (l : List (Fin 31)) (s : EReal), l.foldl (fun s k => s + f k) s = s + (l.map f).sum
  | [], s => (add_zero s).symm
  | k :: l, s => by rw [List.foldl_cons, foldl_sum f l, List.map_cons, List.sum_cons, add_assoc]

theorem chain_eq (f : Fin 31 → EReal) (a : Fin 31) (l : List (Fin 31)) : chain f a l = ((a :: l).map f).sum := foldl_sum f l _

/-- Four such sums that take every tap once add up to the sum over the taps. -/
theorem chains (f : Fin 31 → EReal) (a b c d : Fin 31) (k l m n : List (Fin 31)) (h : ((a :: k) ++ (b :: l) ++ ((c :: m) ++ (d :: n))).Perm (List.finRange 31)) :
    chain f a k + chain f b l + (chain f c m + chain f d n) = ∑ k : Fin 31, f k := by
  rw [chain_eq, chain_eq, chain_eq, chain_eq, ← List.sum_append, ← List.sum_append, ← List.sum_append, ← List.map_append, ← List.map_append, ← List.map_append]
  rw [(h.map f).sum_eq, Fin.sum_univ_def]

theorem fwd_conv (w : Vec Ideal S31x128 .f32) (b : Vec Ideal S1x128 .f32) (v : Vec Ideal S64x128 .f32) (j : Fin 32) (q : Fin 128) :
    Conv31FwdTrip.conv w b v (ix2 j q) = (∑ k : Fin 31, w (ix2 k q) * v (ix2 ⟨j.val + (2 + k.val), by omega⟩ q)) + b (ix2 0 q) := by
  rw [← chains _ 6 14 22 30 [7, 8, 9, 10, 11, 12, 13] [15, 16, 17, 18, 19, 20, 21] [23, 24, 25, 26, 27, 28, 29] [0, 1, 2, 3, 4, 5] (by decide)]
  unfold Conv31FwdTrip.conv
  unfold_payloads
  pointwise
  fin_cases j <;> rfl

theorem bwd_conv (w : Vec Ideal S31x128 .f32) (v : Vec Ideal S64x128 .f32) (j : Fin 32) (q : Fin 128) :
    Conv31BwdTrip.conv w v (ix2 j q) = ∑ k : Fin 31, w (ix2 k q) * v (ix2 ⟨j.val + (30 - k.val), by omega⟩ q) := by
  rw [← chains _ 6 14 22 30 [5, 4, 3, 2, 1, 0, 7] [13, 12, 11, 10, 9, 8, 15] [21, 20, 19, 18, 17, 16, 23] [29, 28, 27, 26, 25, 24] (by decide)]
  unfold Conv31BwdTrip.conv
  unfold_payloads
  pointwise
  fin_cases j <;> rfl

/-- What a trip adds to a tap's sums. -/
theorem tap (X : Vec Ideal S64x128 .f32) (D : Vec Ideal S64x128 .f32) (g : Vec Ideal S8x128 .f32) (k : Fin 31) (r : Fin 8) (q : Fin 128) :
    Conv31BwdTrip.taps X (k1_pay9 D) k g (ix2 r q) = g (ix2 r q) + (D (ix2 ⟨r.val, by omega⟩ q) * X (ix2 ⟨r.val + (2 + k.val), by omega⟩ q)
      + D (ix2 ⟨8 + r.val, by omega⟩ q) * X (ix2 ⟨8 + r.val + (2 + k.val), by omega⟩ q) + D (ix2 ⟨16 + r.val, by omega⟩ q) * X (ix2 ⟨16 + r.val + (2 + k.val), by omega⟩ q)
      + D (ix2 ⟨24 + r.val, by omega⟩ q) * X (ix2 ⟨24 + r.val + (2 + k.val), by omega⟩ q)) := by
  fin_cases k <;> (dsimp only [Conv31BwdTrip.taps, Matrix.cons_val]; unfold_payloads; pointwise; fin_cases r <;> rfl)

end Cert.Conv31Taps

end
-- ==== Proof.Conv31FwdValue.lean ====
module

public import proofs.«01_k».proof.Proof.Conv31FwdBody
public import proofs.«01_k».proof.Proof.Conv31Taps
public import proofs.«01_k».proof.Proof.Rows

@[expose] public section

set_option maxRecDepth 16384

noncomputable section

/-! The forward call's body on a block of real values. -/

namespace Cert.Conv31FwdValue

open Cert.Conv31Ideal Cert.Conv31Ideal.Gen Cert.Conv31FwdTrip Cert.Conv31FwdBody Cert.Conv31Math Cert.Reals
open Idealize.ShloMosaic Idealize.ShloMosaic.TcCoe

theorem pay_zero (i : Fin 32) (q : Fin 128) : k0_pay1 (F := Ideal) (ix2 i q) = 0 := by
  unfold_payloads
  pointwise

theorem pay_copy (x : Vec Ideal S8192x128 .f32) (i : Fin 8192) (q : Fin 128) : k0_pay2 x (ix2 i q) = x (ix2 i q) := by
  unfold_payloads
  pointwise

/-- A row of the normalised output. -/
theorem pay_norm (gg gb : Vec Ideal S1x128 .f32) (Y : Vec Ideal S1024x128 .f32) (i : Fin 1024) (G B r : Lane) (hG : ∀ q, gg (ix2 0 q) = (G q : EReal))
    (hB : ∀ q, gb (ix2 0 q) = (B q : EReal)) (hY : ∀ q, Y (ix2 i q) = (r q : EReal)) (q : Fin 128) : k0_pay4 gg gb Y (ix2 i q) = (swish (gn G B r q) : EReal) := by
  unfold_payloads
  pointwise
  simp only [hG, hB, hY, f32_128, f32_eps, mean_coe, ← EReal.coe_sub, ← EReal.coe_mul, ← EReal.coe_add]
  rw [show mean (fun q => (r q - mean r) * (r q - mean r)) = vari r from rfl, rstd_coe]
  simp only [← EReal.coe_mul, ← EReal.coe_add, logistic_coe]
  rfl

variable {x : Vec Ideal S8192x128 .f32} {w : Vec Ideal S31x128 .f32} {b gg gb : Vec Ideal S1x128 .f32} {X : Col} {W : Fin 31 → Lane} {B G O : Lane}

theorem xpad_apply (hx : ∀ t q, x (ix2 t q) = (X t q : EReal)) (a : Fin 8224) (q : Fin 128) : xpad x (ix2 a q) = (above X a.val q : EReal) := by
  unfold xpad above
  by_cases h : 32 ≤ a.val
  · rw [dif_pos ⟨h, a.isLt⟩, Rows.canon_row (Val := Elt Ideal) _ rfl _ _ a (⟨a.val - 32, by omega⟩ : Fin 8192) q (by show a.val = 32 + (a.val - 32); omega), pay_copy, hx]
  · rw [dif_neg fun hh => h hh.1, Rows.canon_row_out (Val := Elt Ideal) _ rfl _ _ a q (.inl (by omega)),
      Rows.canon_row (Val := Elt Ideal) _ rfl _ _ a (⟨a.val, by omega⟩ : Fin 32) q (Nat.zero_add _).symm, pay_zero]
    rfl

theorem off1 : ∀ k : Fin k0_t1_loop.trips, k0_off1 k = ![32 * k.val, 0] := by decide +kernel
theorem off2 : ∀ k : Fin k0_t1_loop.trips, k0_off2 k = ![32 * k.val, 0] := by decide +kernel
theorem off3 : ∀ k : Fin k0_t2_loop.trips, k0_off3 k = ![1024 * k.val, 0] := by decide +kernel
theorem trips1 : k0_t1_loop.trips = 256 := by decide +kernel
theorem trips2 : k0_t2_loop.trips = 8 := by decide +kernel

theorem rows_x (hx : ∀ t q, x (ix2 t q) = (X t q : EReal)) (k : Fin k0_t1_loop.trips) (i : Fin 64) (q : Fin 128) (n : ℕ) (h : n = 32 * k.val + i.val) :
    rows (xpad x) k (ix2 i q) = (above X n q : EReal) := by
  have hk : k.val < 256 := Nat.lt_of_lt_of_eq k.isLt trips1
  subst h
  unfold rows
  rw [Rows.ld_row (Val := Elt Ideal) (e := .f32) _ (off1 k) (xpad x) ⟨32 * k.val + i.val, by omega⟩ i q rfl, xpad_apply hx]

theorem conv_row (hx : ∀ t q, x (ix2 t q) = (X t q : EReal)) (hw : ∀ k q, w (ix2 k q) = (W k q : EReal)) (hb : ∀ q, b (ix2 0 q) = (B q : EReal))
    (k : Fin k0_t1_loop.trips) (j : Fin 32) (q : Fin 128) (t : Fin 8192) (h : t.val = 32 * k.val + j.val) :
    Conv31FwdTrip.conv w b (rows (xpad x) k) (ix2 j q) = (Conv31Math.conv X W B t q : EReal) := by
  rw [Conv31Taps.fwd_conv, hb]
  unfold Conv31Math.conv
  rw [EReal.coe_add, coe_sum]
  refine congrArg (· + _) (Finset.sum_congr rfl fun l _ => ?_)
  rw [hw, rows_x hx k _ q (t.val + (2 + l.val)) (by dsimp only; omega), EReal.coe_mul]

theorem storedC_at (hx : ∀ t q, x (ix2 t q) = (X t q : EReal)) (hw : ∀ k q, w (ix2 k q) = (W k q : EReal)) (hb : ∀ q, b (ix2 0 q) = (B q : EReal))
    (t : Fin 8192) (q : Fin 128) : ∀ n, n ≤ k0_t1_loop.trips → t.val < 32 * n →
    View.canon (Val := Elt Ideal) (storedC w b (xpad x) n) (ix2 t q) = (Conv31Math.conv X W B t q : EReal)
  | 0, _, h => absurd h (by omega)
  | n + 1, hn, h => by
    rw [storedC_succ w b (xpad x) ⟨n, hn⟩]
    dsimp only [putC, List.cons_append, List.nil_append]
    by_cases hl : t.val < 32 * n
    · rw [Rows.canon_row_out (Val := Elt Ideal) _ (off2 ⟨n, hn⟩) _ _ t q (.inl hl)]
      exact storedC_at hx hw hb t q n (Nat.le_of_succ_le hn) hl
    · rw [Rows.canon_row (Val := Elt Ideal) _ (off2 ⟨n, hn⟩) _ _ t ⟨t.val - 32 * n, by omega⟩ q (by dsimp only; omega)]
      exact conv_row hx hw hb ⟨n, hn⟩ _ q t (by dsimp only; omega)

/-- The convolution that a block's body leaves. -/
theorem outC_apply (hx : ∀ t q, x (ix2 t q) = (X t q : EReal)) (hw : ∀ k q, w (ix2 k q) = (W k q : EReal)) (hb : ∀ q, b (ix2 0 q) = (B q : EReal))
    (t : Fin 8192) (q : Fin 128) : outC x w b (ix2 t q) = (Conv31Math.conv X W B t q : EReal) :=
  storedC_at hx hw hb t q _ (Nat.le_refl _) (by rw [trips1]; omega)

theorem storedS_at {y : Vec Ideal S8192x128 .f32} {Y : Col} (hy : ∀ t q, y (ix2 t q) = (Y t q : EReal)) (hG : ∀ q, gg (ix2 0 q) = (G q : EReal))
    (hO : ∀ q, gb (ix2 0 q) = (O q : EReal)) (t : Fin 8192) (q : Fin 128) : ∀ n, n ≤ k0_t2_loop.trips → t.val < 1024 * n →
    View.canon (Val := Elt Ideal) (storedS gg gb y n) (ix2 t q) = (swish (gn G O (Y t) q) : EReal)
  | 0, _, h => absurd h (by omega)
  | n + 1, hn, h => by
    rw [storedS_succ gg gb y ⟨n, hn⟩]
    dsimp only [putS, List.cons_append, List.nil_append]
    by_cases hl : t.val < 1024 * n
    · rw [Rows.canon_row_out (Val := Elt Ideal) _ (off3 ⟨n, hn⟩) _ _ t q (.inl hl)]
      exact storedS_at hy hG hO t q n (Nat.le_of_succ_le hn) hl
    · rw [Rows.canon_row (Val := Elt Ideal) _ (off3 ⟨n, hn⟩) _ _ t ⟨t.val - 1024 * n, by omega⟩ q (by dsimp only; omega)]
      refine pay_norm gg gb _ _ G O (Y t) hG hO (fun l => ?_) q
      exact (Rows.ld_row (Val := Elt Ideal) (e := .f32) _ (off3 ⟨n, hn⟩) y t _ l (by dsimp only; omega)).trans (hy t l)

/-- The normalised convolution that it leaves. -/
theorem outS_apply (hx : ∀ t q, x (ix2 t q) = (X t q : EReal)) (hw : ∀ k q, w (ix2 k q) = (W k q : EReal)) (hb : ∀ q, b (ix2 0 q) = (B q : EReal))
    (hG : ∀ q, gg (ix2 0 q) = (G q : EReal)) (hO : ∀ q, gb (ix2 0 q) = (O q : EReal)) (t : Fin 8192) (q : Fin 128) :
    outS x w b gg gb (ix2 t q) = (swish (gn G O (Conv31Math.conv X W B t) q) : EReal) :=
  storedS_at (outC_apply hx hw hb) hG hO t q _ (Nat.le_refl _) (by rw [trips2]; omega)

end Cert.Conv31FwdValue

end
-- ==== Proof.Conv31BwdValue.lean ====
module

public import proofs.«01_k».proof.Proof.Conv31BwdBody
public import proofs.«01_k».proof.Proof.Conv31Taps
public import proofs.«01_k».proof.Proof.Conv4Value
public import proofs.«01_k».proof.Proof.Rows

@[expose] public section

set_option maxRecDepth 16384

noncomputable section

/-! The backward call's body on a block of real values. -/

namespace Cert.Conv31BwdValue

open Cert.Conv31Ideal Cert.Conv31Ideal.Gen Cert.Conv31BwdTrip Cert.Conv31BwdBody Cert.Conv31Math Cert.Reals
open Idealize.ShloMosaic Idealize.ShloMosaic.TcCoe

section rows
variable {gg gb : FVec Ideal S1x128 .f32} {Y D : Vec Ideal S1024x128 .f32} {i : Fin 1024} {G B r d : Lane}

/-- The reciprocal deviation of a row, -/
theorem pay_rstd (hY : ∀ q, Y (ix2 i q) = (r q : EReal)) : k1_pay5 Y (ix2 i 0) = (rstd r : EReal) := by
  unfold_payloads
  pointwise
  simp only [hY, f32_128, f32_eps, mean_coe, ← EReal.coe_sub, ← EReal.coe_mul, ← EReal.coe_add]
  exact rstd_coe r

/-- the row normalised, -/
theorem pay_xhat (hY : ∀ q, Y (ix2 i q) = (r q : EReal)) (q : Fin 128) : k1_pay6 Y (ix2 i q) = (xhat r q : EReal) := by
  unfold k1_pay6
  pointwise
  rw [pay_rstd hY]
  unfold k1_pay4
  pointwise
  simp only [hY, f32_128, mean_coe, ← EReal.coe_sub, ← EReal.coe_mul]
  rfl

/-- and its cotangent before the gain. -/
theorem pay_dgn (hG : ∀ q, gg (ix2 0 q) = (G q : EReal)) (hB : ∀ q, gb (ix2 0 q) = (B q : EReal)) (hY : ∀ q, Y (ix2 i q) = (r q : EReal))
    (hD : ∀ q, D (ix2 i q) = (d q : EReal)) (q : Fin 128) : k1_pay7 gg gb Y D (ix2 i q) = (dgn G B d r q : EReal) := by
  unfold k1_pay7
  pointwise
  simp only [pay_xhat hY, hG, hB, hD, f32_one, ← EReal.coe_mul, ← EReal.coe_add, logistic_coe, ← EReal.coe_sub]
  rfl

theorem pay_dcc (hG : ∀ q, gg (ix2 0 q) = (G q : EReal)) (hB : ∀ q, gb (ix2 0 q) = (B q : EReal)) (hY : ∀ q, Y (ix2 i q) = (r q : EReal))
    (hD : ∀ q, D (ix2 i q) = (d q : EReal)) (q : Fin 128) :
    k1_pay93 gg (k1_pay5 Y) (k1_pay6 Y) (k1_pay7 gg gb Y D) (ix2 i q) = (dcc G B d r q : EReal) := by
  unfold k1_pay93
  pointwise
  simp only [pay_rstd hY, pay_xhat hY, pay_dgn hG hB hY hD, hG, f32_128, ← EReal.coe_mul, mean_coe, ← EReal.coe_sub]
  rfl
end rows

theorem pay90 (g : Vec Ideal S1x128 .f32) (q : Fin 128) : k1_pay90 g (ix2 0 q) = g (ix2 0 q) := by
  unfold_payloads
  pointwise
theorem pay91 (g : Vec Ideal S1x128 .f32) (q : Fin 128) : k1_pay91 g (ix2 0 q) = g (ix2 0 q) := by
  unfold_payloads
  pointwise
theorem pay94 (gg : FVec Ideal S1x128 .f32) (S : FVec Ideal S1024x1 .f32) (X D : FVec Ideal S1024x128 .f32) (i : Fin 1024) (q : Fin 128) :
    k1_pay94 gg S X D (ix2 i q) = k1_pay93 gg S X D (ix2 i q) := by
  unfold k1_pay94
  pointwise
theorem pay95 (gg : FVec Ideal S1x128 .f32) (S : FVec Ideal S1024x1 .f32) (X D : FVec Ideal S1024x128 .f32) (A : Vec Ideal S1x128 .f32) (q : Fin 128) :
    k1_pay95 gg S X D A (ix2 0 q) = A (ix2 0 q) + ∑ i : Fin 1024, k1_pay93 gg S X D (ix2 i q) := by
  unfold k1_pay95
  pointwise
theorem pay92 (D : FVec Ideal S1024x128 .f32) (A : Vec Ideal S1x128 .f32) (q : Fin 128) :
    k1_pay92 D A (ix2 0 q) = A (ix2 0 q) + ∑ i : Fin 1024, D (ix2 i q) := by
  unfold k1_pay92
  pointwise
theorem pay8 (gg gb : FVec Ideal S1x128 .f32) (Y D : Vec Ideal S1024x128 .f32) (A : Vec Ideal S1x128 .f32) (q : Fin 128) :
    k1_pay8 gg gb Y D A (ix2 0 q) = A (ix2 0 q) + ∑ i : Fin 1024, k1_pay7 gg gb Y D (ix2 i q) * k1_pay6 Y (ix2 i q) := by
  unfold k1_pay8
  pointwise
theorem zero87 (q : Fin 128) : k1_pay87 (F := Ideal) (ix2 0 q) = 0 := by
  unfold_payloads
  pointwise
theorem zero88 (q : Fin 128) : k1_pay88 (F := Ideal) (ix2 0 q) = 0 := by
  unfold_payloads
  pointwise
theorem zero89 (q : Fin 128) : k1_pay89 (F := Ideal) (ix2 0 q) = 0 := by
  unfold_payloads
  pointwise
theorem zero83 (i : Fin 32) (q : Fin 128) : k1_pay83 (F := Ideal) (ix2 i q) = 0 := by
  unfold_payloads
  pointwise
theorem zero84 (i : Fin 32) (q : Fin 128) : k1_pay84 (F := Ideal) (ix2 i q) = 0 := by
  unfold_payloads
  pointwise
theorem zero86 (i : Fin 256) (q : Fin 128) : k1_pay86 (F := Ideal) (ix2 i q) = 0 := by
  unfold_payloads
  pointwise
theorem zero100 (i : Fin 32) (q : Fin 128) : k1_pay100 (F := Ideal) (ix2 i q) = 0 := by
  unfold_payloads
  pointwise
theorem pay85 (x : Vec Ideal S8192x128 .f32) (i : Fin 8192) (q : Fin 128) : k1_pay85 x (ix2 i q) = x (ix2 i q) := by
  unfold_payloads
  pointwise
theorem pay101 (A : Vec Ideal S8x128 .f32) (q : Fin 128) : k1_pay101 A (ix2 0 q) = ∑ r : Fin 8, A (ix2 r q) := by
  unfold_payloads
  pointwise
theorem pay98 (C : FVec Ideal S32x128 .f32) (g : Vec Ideal S32x128 .bf16) (j : Fin 32) (q : Fin 128) {c z : ℝ} (hC : C (ix2 j q) = (c : EReal)) (hg : g (ix2 j q) = (z : EReal)) :
    k1_pay98 C g (ix2 j q) = (c * sg z : ℝ) := by
  unfold_payloads
  pointwise
  simp only [hC, hg, logistic_coe, ← EReal.coe_mul]
theorem pay99 (C : FVec Ideal S32x128 .f32) (g v : Vec Ideal S32x128 .bf16) (j : Fin 32) (q : Fin 128) {c z y : ℝ} (hC : C (ix2 j q) = (c : EReal)) (hg : g (ix2 j q) = (z : EReal))
    (hv : v (ix2 j q) = (y : EReal)) : k1_pay99 C g v (ix2 j q) = (c * y * sg z * (1 - sg z) : ℝ) := by
  unfold_payloads
  pointwise
  simp only [hC, hg, hv, f32_one, logistic_coe, ← EReal.coe_mul]
  rw [← EReal.coe_one, ← EReal.coe_sub, ← EReal.coe_mul]

/-! The first loop. -/

theorem off1 : ∀ k : Fin k1_t1_loop.trips, k1_off1 k = ![1024 * k.val, 0] := by decide +kernel
theorem off3 : ∀ k : Fin k1_t2_loop.trips, k1_off3 k = ![32 * k.val, 0] := by decide +kernel
theorem off4 : ∀ k : Fin k1_t2_loop.trips, k1_off4 k = ![32 * k.val, 0] := by decide +kernel
theorem trips2 : k1_t2_loop.trips = 256 := by decide +kernel

/-- A column's sum, a thousand rows at a time. -/
theorem sum_slabs (f : Col) (q : Fin 128) : ∑ i ∈ Finset.range 8, ∑ r : Fin 1024, (below f (1024 * i + r.val) q : EReal) = ((∑ t : Fin 8192, f t q : ℝ) : EReal) := by
  have h : ∀ n : ℕ, ∑ i ∈ Finset.range n, ∑ r : Fin 1024, (below f (1024 * i + r.val) q : EReal) = ∑ t ∈ Finset.range (1024 * n), (below f t q : EReal) := by
    intro n
    induction n with
    | zero => rfl
    | succ n ih =>
      rw [Finset.sum_range_succ, ih, Nat.mul_succ, Finset.sum_range_add, Fin.sum_univ_eq_sum_range (fun r => (below f (1024 * n + r) q : EReal)) 1024]
  rw [h, coe_sum, ← Fin.sum_univ_eq_sum_range (fun t => (below f t q : EReal)) (1024 * 8)]
  exact Finset.sum_congr rfl fun t _ => congrArg Real.toEReal (dif_pos t.isLt)

section norm
variable {gg gb : Vec Ideal S1x128 .f32} {dy y : Vec Ideal S8192x128 .f32} {G B : Lane} {D Y : Col}

/-- The cotangents' columns. -/
def dgnC (G B : Lane) (D Y : Col) : Col := fun t => dgn G B (D t) (Y t)
def dxhC (G B : Lane) (D Y : Col) : Col := fun t q => dgn G B (D t) (Y t) q * xhat (Y t) q
def dccC (G B : Lane) (D Y : Col) : Col := fun t => dcc G B (D t) (Y t)

variable (hG : ∀ q, gg (ix2 0 q) = (G q : EReal)) (hB : ∀ q, gb (ix2 0 q) = (B q : EReal)) (hD : ∀ t q, dy (ix2 t q) = (D t q : EReal)) (hY : ∀ t q, y (ix2 t q) = (Y t q : EReal))
include hG hB hD hY

theorem slab_row {x : Vec Ideal S8192x128 .f32} {X : Col} (hX : ∀ t q, x (ix2 t q) = (X t q : EReal)) (k : Fin k1_t1_loop.trips) (i : Fin 1024) (t : Fin 8192)
    (h : t.val = 1024 * k.val + i.val) (q : Fin 128) : View.ld x (slab k) (ix2 i q) = (X t q : EReal) :=
  (Rows.ld_row (Val := Elt Ideal) (e := .f32) _ (off1 k) x t i q h).trans (hX t q)

theorem at_dgn (k : Fin k1_t1_loop.trips) (i : Fin 1024) (q : Fin 128) :
    dgn (k1_pay90 gg) gb dy y k (ix2 i q) = (below (dgnC G B D Y) (1024 * k.val + i.val) q : EReal) := by
  have hk : k.val < 8 := Nat.lt_of_lt_of_eq k.isLt trips1
  have ht : 1024 * k.val + i.val < 8192 := by omega
  unfold below
  rw [dif_pos ht]
  exact pay_dgn (fun l => (pay90 gg l).trans (hG l)) (fun l => (pay91 gb l).trans (hB l)) (slab_row hG hB hD hY hY k i ⟨_, ht⟩ rfl) (slab_row hG hB hD hY hD k i ⟨_, ht⟩ rfl) q

theorem at_xhat (k : Fin k1_t1_loop.trips) (i : Fin 1024) (q : Fin 128) :
    k1_pay7 (k1_pay90 gg) (k1_pay91 gb) (View.ld y (slab k)) (View.ld dy (slab k)) (ix2 i q) * k1_pay6 (View.ld y (slab k)) (ix2 i q)
      = (below (dxhC G B D Y) (1024 * k.val + i.val) q : EReal) := by
  have hk : k.val < 8 := Nat.lt_of_lt_of_eq k.isLt trips1
  have ht : 1024 * k.val + i.val < 8192 := by omega
  unfold below
  rw [dif_pos ht, pay_dgn (fun l => (pay90 gg l).trans (hG l)) (fun l => (pay91 gb l).trans (hB l)) (slab_row hG hB hD hY hY k i ⟨_, ht⟩ rfl) (slab_row hG hB hD hY hD k i ⟨_, ht⟩ rfl) q,
    pay_xhat (slab_row hG hB hD hY hY k i ⟨_, ht⟩ rfl) q, ← EReal.coe_mul]
  rfl

theorem at_dcc (k : Fin k1_t1_loop.trips) (i : Fin 1024) (q : Fin 128) :
    k1_pay93 (k1_pay90 gg) (k1_pay5 (View.ld y (slab k))) (k1_pay6 (View.ld y (slab k))) (dgn (k1_pay90 gg) gb dy y k) (ix2 i q)
      = (below (dccC G B D Y) (1024 * k.val + i.val) q : EReal) := by
  have hk : k.val < 8 := Nat.lt_of_lt_of_eq k.isLt trips1
  have ht : 1024 * k.val + i.val < 8192 := by omega
  unfold below
  rw [dif_pos ht]
  exact pay_dcc (fun l => (pay90 gg l).trans (hG l)) (fun l => (pay91 gb l).trans (hB l)) (slab_row hG hB hD hY hY k i ⟨_, ht⟩ rfl) (slab_row hG hB hD hY hD k i ⟨_, ht⟩ rfl) q

theorem rowsN (q : Fin 128) : ∀ n, n ≤ k1_t1_loop.trips →
    View.canon (Val := Elt Ideal) (storedN (k1_pay90 gg) gb dy y n).1 (ix2 0 q) = ∑ i ∈ Finset.range n, ∑ r : Fin 1024, (below (dccC G B D Y) (1024 * i + r.val) q : EReal)
    ∧ View.canon (Val := Elt Ideal) (storedN (k1_pay90 gg) gb dy y n).2.1 (ix2 0 q) = ∑ i ∈ Finset.range n, ∑ r : Fin 1024, (below (dxhC G B D Y) (1024 * i + r.val) q : EReal)
    ∧ View.canon (Val := Elt Ideal) (storedN (k1_pay90 gg) gb dy y n).2.2.1 (ix2 0 q) = ∑ i ∈ Finset.range n, ∑ r : Fin 1024, (below (dgnC G B D Y) (1024 * i + r.val) q : EReal)
  | 0, _ => by
    refine ⟨?_, ?_, ?_⟩ <;> refine (Rows.canon_row (Val := Elt Ideal) _ rfl _ _ 0 0 q (by decide)).trans ?_
    · exact zero87 q
    · exact zero88 q
    · exact zero89 q
  | n + 1, hn => by
    obtain ⟨h1, h2, h3⟩ := rowsN q n (Nat.le_of_succ_le hn)
    rw [storedN_succ (k1_pay90 gg) gb dy y ⟨n, hn⟩, Finset.sum_range_succ, Finset.sum_range_succ, Finset.sum_range_succ, ← h1, ← h2, ← h3]
    dsimp only [put12, put13, put14, List.cons_append, List.nil_append]
    refine ⟨?_, ?_, ?_⟩ <;> rw [Rows.canon_row (Val := Elt Ideal) _ rfl _ _ 0 0 q (by decide)]
    · rw [pay95]
      exact congrArg₂ (· + ·) (Rows.ld_row (Val := Elt Ideal) (e := .f32) _ rfl _ 0 0 q (by decide)) (Finset.sum_congr rfl fun i _ => at_dcc hG hB hD hY ⟨n, hn⟩ i q)
    · rw [pay8]
      exact congrArg₂ (· + ·) (Rows.ld_row (Val := Elt Ideal) (e := .f32) _ rfl _ 0 0 q (by decide)) (Finset.sum_congr rfl fun i _ => at_xhat hG hB hD hY ⟨n, hn⟩ i q)
    · rw [pay92]
      exact congrArg₂ (· + ·) (Rows.ld_row (Val := Elt Ideal) (e := .f32) _ rfl _ 0 0 q (by decide)) (Finset.sum_congr rfl fun i _ => at_dgn hG hB hD hY ⟨n, hn⟩ i q)

/-- The gradients of the bias, the gain and the offset. -/
theorem outB_apply (q : Fin 128) : outB dy y gg gb (ix2 0 q) = ((∑ t, dccC G B D Y t q : ℝ) : EReal) := by
  refine (rowsN hG hB hD hY q _ (Nat.le_refl _)).1.trans ?_
  rw [trips1, sum_slabs]
theorem outGg_apply (q : Fin 128) : outGg dy y gg gb (ix2 0 q) = ((∑ t, dxhC G B D Y t q : ℝ) : EReal) := by
  refine (rowsN hG hB hD hY q _ (Nat.le_refl _)).2.1.trans ?_
  rw [trips1, sum_slabs]
theorem outGb_apply (q : Fin 128) : outGb dy y gg gb (ix2 0 q) = ((∑ t, dgnC G B D Y t q : ℝ) : EReal) := by
  refine (rowsN hG hB hD hY q _ (Nat.le_refl _)).2.2.trans ?_
  rw [trips1, sum_slabs]

theorem padN (a : Fin 8224) (q : Fin 128) : ∀ n, n ≤ k1_t1_loop.trips → a.val < 1024 * n ∨ 8192 ≤ a.val →
    View.canon (Val := Elt Ideal) (storedN (k1_pay90 gg) gb dy y n).2.2.2 (ix2 a q) = (below (dccC G B D Y) a.val q : EReal)
  | 0, _, h => by
    have h' : ¬a.val < 8192 := by omega
    refine (Rows.canon_row (Val := Elt Ideal) _ rfl _ _ a (⟨a.val - 8192, by omega⟩ : Fin 32) q (by show a.val = 8192 + (a.val - 8192); omega)).trans ?_
    rw [zero83]
    unfold below
    rw [dif_neg h']
    rfl
  | n + 1, hn, h => by
    have hn8 : n < 8 := Nat.lt_of_lt_of_eq hn trips1
    rw [storedN_succ (k1_pay90 gg) gb dy y ⟨n, hn⟩]
    dsimp only [put15, List.cons_append, List.nil_append]
    by_cases hl : a.val < 1024 * n ∨ 8192 ≤ a.val
    · rw [Rows.canon_row_out (Val := Elt Ideal) _ (off2 ⟨n, hn⟩) _ _ a q (hl.imp_right fun h => by dsimp only; omega)]
      exact padN a q n (Nat.le_of_succ_le hn) hl
    · rw [Rows.canon_row (Val := Elt Ideal) _ (off2 ⟨n, hn⟩) _ _ a ⟨a.val - 1024 * n, by omega⟩ q (by dsimp only; omega), pay94]
      refine (at_dcc hG hB hD hY ⟨n, hn⟩ _ q).trans ?_
      rw [show 1024 * (⟨n, hn⟩ : Fin k1_t1_loop.trips).val + (a.val - 1024 * n) = a.val from by dsimp only; omega]

theorem dpad_apply (a : Fin 8224) (q : Fin 128) : dpad dy y gg gb (ix2 a q) = (below (dccC G B D Y) a.val q : EReal) :=
  padN hG hB hD hY a q _ (Nat.le_refl _) (by rw [trips1]; omega)
end norm

end Cert.Conv31BwdValue

end
-- ==== Proof.Conv31BwdSums.lean ====
module

public import proofs.«01_k».proof.Proof.Conv31BwdValue

@[expose] public section

set_option maxRecDepth 16384

noncomputable section

/-! The second loop of the backward call's body: the gradients of the input's two halves and of the taps. -/

namespace Cert.Conv31BwdSums

open Cert.Conv31Ideal Cert.Conv31Ideal.Gen Cert.Conv31BwdTrip Cert.Conv31BwdBody Cert.Conv31Math Cert.Reals Cert.Conv31BwdValue
open Idealize.ShloMosaic Idealize.ShloMosaic.TcCoe

/-! Pieces stored by a list of taps. -/

theorem blks_at (f : Fin 31 → Vec Ideal S8x128 .f32) (L : List (View.Piece (Elt Ideal) S256x128 .f32)) (k : Fin 31) (r : Fin 8) (q : Fin 128) :
    ∀ l : List (Fin 31), k ∈ l → View.canon (Val := Elt Ideal) ((l.map fun j => (⟨blk j, f j⟩ : View.Piece (Elt Ideal) S256x128 .f32)) ++ L) (ix2 ⟨8 * k.val + r.val, by omega⟩ q) = f k (ix2 r q)
  | j :: l, h => by
    rw [List.map_cons, List.cons_append]
    by_cases hj : k = j
    · subst hj
      exact Rows.canon_row (Val := Elt Ideal) _ rfl _ _ _ r q rfl
    · have hj' : k.val ≠ j.val := fun e => hj (Fin.ext e)
      rw [Rows.canon_row_out (Val := Elt Ideal) _ rfl _ _ _ q (by dsimp only; omega)]
      exact blks_at f L k r q l ((List.mem_cons.mp h).resolve_left hj)

theorem rows_at (f : Fin 31 → Vec Ideal S1x128 .f32) (L : List (View.Piece (Elt Ideal) S32x128 .f32)) (k : Fin 31) (q : Fin 128) :
    ∀ l : List (Fin 31), k ∈ l → View.canon (Val := Elt Ideal) ((l.map fun j => (⟨row j, f j⟩ : View.Piece (Elt Ideal) S32x128 .f32)) ++ L) (ix2 ⟨k.val, by omega⟩ q) = f k (ix2 0 q)
  | j :: l, h => by
    rw [List.map_cons, List.cons_append]
    by_cases hj : k = j
    · subst hj
      exact Rows.canon_row (Val := Elt Ideal) _ rfl _ _ _ 0 q rfl
    · have hj' : k.val ≠ j.val := fun e => hj (Fin.ext e)
      rw [Rows.canon_row_out (Val := Elt Ideal) _ rfl _ _ _ q (by dsimp only; omega)]
      exact rows_at f L k q l ((List.mem_cons.mp h).resolve_left hj)

theorem rows_last (f : Fin 31 → Vec Ideal S1x128 .f32) (L : List (View.Piece (Elt Ideal) S32x128 .f32)) (q : Fin 128) :
    ∀ l : List (Fin 31), View.canon (Val := Elt Ideal) ((l.map fun j => (⟨row j, f j⟩ : View.Piece (Elt Ideal) S32x128 .f32)) ++ L) (ix2 31 q) = View.canon (Val := Elt Ideal) L (ix2 31 q)
  | [] => rfl
  | j :: l => by
    rw [List.map_cons, List.cons_append, Rows.canon_row_out (Val := Elt Ideal) _ rfl _ _ _ q (.inr (by show j.val + 1 ≤ 31; omega))]
    exact rows_last f L q l

section taps
variable {w : Vec Ideal S31x128 .f32} {d x : Vec Ideal S8224x128 .f32} {v g : Vec Ideal S8192x128 .bf16} {D X V S : Col} {W : Fin 31 → Lane}
variable (hd : ∀ a q, d (ix2 a q) = (below D a.val q : EReal)) (hx : ∀ a q, x (ix2 a q) = (above X a.val q : EReal))
variable (hw : ∀ k q, w (ix2 k q) = (W k q : EReal)) (hv : ∀ t q, v (ix2 t q) = (V t q : EReal)) (hg : ∀ t q, g (ix2 t q) = (S t q : EReal))

include hd in
theorem rows_d (k : Fin k1_t2_loop.trips) (i : Fin 64) (q : Fin 128) (n : ℕ) (h : n = 32 * k.val + i.val) : rows d k (ix2 i q) = (below D n q : EReal) := by
  have hk : k.val < 256 := Nat.lt_of_lt_of_eq k.isLt trips2
  subst h
  unfold rows
  rw [Rows.ld_row (Val := Elt Ideal) (e := .f32) _ (off3 k) d ⟨32 * k.val + i.val, by omega⟩ i q rfl, hd]

include hx in
theorem rows_x (k : Fin k1_t2_loop.trips) (i : Fin 64) (q : Fin 128) (n : ℕ) (h : n = 32 * k.val + i.val) : rows x k (ix2 i q) = (above X n q : EReal) := by
  have hk : k.val < 256 := Nat.lt_of_lt_of_eq k.isLt trips2
  subst h
  unfold rows
  rw [Rows.ld_row (Val := Elt Ideal) (e := .f32) _ (off3 k) x ⟨32 * k.val + i.val, by omega⟩ i q rfl, hx]

include hd hw in
theorem conv_row (k : Fin k1_t2_loop.trips) (j : Fin 32) (q : Fin 128) (t : Fin 8192) (h : t.val = 32 * k.val + j.val) :
    Conv31BwdTrip.conv w (rows d k) (ix2 j q) = (dx D W t q : EReal) := by
  rw [Conv31Taps.bwd_conv]
  unfold dx
  rw [coe_sum]
  refine Finset.sum_congr rfl fun l _ => ?_
  rw [hw, rows_d hd k _ q (t.val + (30 - l.val)) (by dsimp only; omega), EReal.coe_mul]

include hd hw hv hg in
theorem stored_at (t : Fin 8192) (q : Fin 128) : ∀ n, n ≤ k1_t2_loop.trips → t.val < 32 * n →
    View.canon (Val := Elt Ideal) (storedX w d x v g n).1 (ix2 t q) = (dval S (dx D W) t q : EReal)
    ∧ View.canon (Val := Elt Ideal) (storedX w d x v g n).2.1 (ix2 t q) = (dgate V S (dx D W) t q : EReal)
  | 0, _, h => absurd h (by omega)
  | n + 1, hn, h => by
    rw [storedX_succ w d x v g ⟨n, hn⟩]
    dsimp only [put9, put10, List.cons_append, List.nil_append]
    by_cases hl : t.val < 32 * n
    · rw [Rows.canon_row_out (Val := Elt Ideal) _ (off4 ⟨n, hn⟩) _ _ t q (.inl hl), Rows.canon_row_out (Val := Elt Ideal) _ (off4 ⟨n, hn⟩) _ _ t q (.inl hl)]
      exact stored_at t q n (Nat.le_of_succ_le hn) hl
    · have hr : t.val = 32 * (⟨n, hn⟩ : Fin k1_t2_loop.trips).val + (⟨t.val - 32 * n, by omega⟩ : Fin 32).val := by dsimp only; omega
      have hg' := (Rows.ld_row (Val := Elt Ideal) (e := .bf16) (k1_off4_inb ⟨n, hn⟩) (off4 ⟨n, hn⟩) g t ⟨t.val - 32 * n, by omega⟩ q hr).trans (hg t q)
      have hv' := (Rows.ld_row (Val := Elt Ideal) (e := .bf16) (k1_off4_inb ⟨n, hn⟩) (off4 ⟨n, hn⟩) v t ⟨t.val - 32 * n, by omega⟩ q hr).trans (hv t q)
      rw [Rows.canon_row (Val := Elt Ideal) _ (off4 ⟨n, hn⟩) _ _ t ⟨t.val - 32 * n, by omega⟩ q hr, Rows.canon_row (Val := Elt Ideal) _ (off4 ⟨n, hn⟩) _ _ t ⟨t.val - 32 * n, by omega⟩ q hr]
      exact ⟨pay98 _ _ _ q (conv_row hd hw ⟨n, hn⟩ _ q t hr) hg', pay99 _ _ _ _ q (conv_row hd hw ⟨n, hn⟩ _ q t hr) hg' hv'⟩

/-- A row's product for a tap. -/
def term (D X : Col) (k : Fin 31) (q : Fin 128) (n : ℕ) : EReal := (below D n q : EReal) * (above X (n + (2 + k.val)) q : EReal)

include hd hx in
theorem taps_at (k : Fin 31) (r : Fin 8) (q : Fin 128) : ∀ n, n ≤ k1_t2_loop.trips →
    View.canon (Val := Elt Ideal) (storedX w d x v g n).2.2 (ix2 ⟨8 * k.val + r.val, by omega⟩ q)
      = ∑ i ∈ Finset.range n, (term D X k q (32 * i + r.val) + term D X k q (32 * i + (8 + r.val)) + term D X k q (32 * i + (16 + r.val)) + term D X k q (32 * i + (24 + r.val)))
  | 0, _ => by
    refine (Rows.canon_row (Val := Elt Ideal) _ rfl _ _ _ (⟨8 * k.val + r.val, by omega⟩ : Fin 256) q (Nat.zero_add _).symm).trans ?_
    exact zero86 _ q
  | n + 1, hn => by
    rw [storedX_succ w d x v g ⟨n, hn⟩, Finset.sum_range_succ, ← taps_at k r q n (Nat.le_of_succ_le hn)]
    dsimp only [put17]
    rw [blks_at _ _ k r q order (by revert k; decide), Conv31Taps.tap]
    refine Conv4Value.add4 (Rows.ld_row (Val := Elt Ideal) (e := .f32) _ rfl _ _ r q rfl) ?_ ?_ ?_ ?_ <;>
      exact congrArg₂ (· * ·) (rows_d hd ⟨n, hn⟩ _ q _ (by dsimp only)) (rows_x hx ⟨n, hn⟩ _ q _ (by dsimp only; omega))

include hd hx in
theorem tap_total (k : Fin 31) (q : Fin 128) : ∑ r : Fin 8, View.canon (Val := Elt Ideal) (storedX w d x v g k1_t2_loop.trips).2.2 (ix2 ⟨8 * k.val + r.val, by omega⟩ q) = (dw D X k q : EReal) := by
  have h := Conv4Value.sum_all (term D X k q)
  unfold dw
  rw [coe_sum]
  refine Eq.trans (Finset.sum_congr rfl fun r _ => ?_) (h.trans (Finset.sum_congr rfl fun t _ => ?_))
  · rw [taps_at hd hx k r q _ (Nat.le_refl _), trips2]
  · unfold term
    rw [show below D t.val q = D t q from dif_pos t.isLt, EReal.coe_mul]
end taps

section outs
variable {gg gb : Vec Ideal S1x128 .f32} {dy y x : Vec Ideal S8192x128 .f32} {v g : Vec Ideal S8192x128 .bf16} {w : Vec Ideal S31x128 .f32}
variable {G B : Lane} {D Y X V S : Col} {W : Fin 31 → Lane}
variable (hG : ∀ q, gg (ix2 0 q) = (G q : EReal)) (hB : ∀ q, gb (ix2 0 q) = (B q : EReal)) (hD : ∀ t q, dy (ix2 t q) = (D t q : EReal)) (hY : ∀ t q, y (ix2 t q) = (Y t q : EReal))
variable (hX : ∀ t q, x (ix2 t q) = (X t q : EReal)) (hw : ∀ k q, w (ix2 k q) = (W k q : EReal)) (hv : ∀ t q, v (ix2 t q) = (V t q : EReal)) (hg : ∀ t q, g (ix2 t q) = (S t q : EReal))

include hX in
theorem xpad_apply (a : Fin 8224) (q : Fin 128) : xpad x (ix2 a q) = (above X a.val q : EReal) := by
  unfold xpad above
  by_cases h : 32 ≤ a.val
  · rw [dif_pos ⟨h, a.isLt⟩, Rows.canon_row (Val := Elt Ideal) _ rfl _ _ a (⟨a.val - 32, by omega⟩ : Fin 8192) q (by show a.val = 32 + (a.val - 32); omega), pay85, hX]
  · rw [dif_neg fun hh => h hh.1, Rows.canon_row_out (Val := Elt Ideal) _ rfl _ _ a q (.inl (by omega)),
      Rows.canon_row (Val := Elt Ideal) _ rfl _ _ a (⟨a.val, by omega⟩ : Fin 32) q (Nat.zero_add _).symm, zero84]
    rfl

include hG hB hD hY hw hv hg in
theorem outV_apply (t : Fin 8192) (q : Fin 128) : outV dy y x v g w gg gb (ix2 t q) = (dval S (dx (dccC G B D Y) W) t q : EReal) :=
  (stored_at (dpad_apply hG hB hD hY) hw hv hg t q _ (Nat.le_refl _) (by rw [trips2]; omega)).1
include hG hB hD hY hw hv hg in
theorem outG_apply (t : Fin 8192) (q : Fin 128) : outG dy y x v g w gg gb (ix2 t q) = (dgate V S (dx (dccC G B D Y) W) t q : EReal) :=
  (stored_at (dpad_apply hG hB hD hY) hw hv hg t q _ (Nat.le_refl _) (by rw [trips2]; omega)).2
include hG hB hD hY hX in
theorem outW_apply (k : Fin 31) (q : Fin 128) : outW dy y x v g w gg gb (ix2 ⟨k.val, by omega⟩ q) = (dw (dccC G B D Y) X k q : EReal) := by
  rw [← tap_total (w := w) (v := v) (g := g) (dpad_apply hG hB hD hY) (xpad_apply hX)]
  unfold outW putW
  rw [rows_at _ _ k q _ (by revert k; decide), pay101]
  exact Finset.sum_congr rfl fun r _ => Rows.ld_row (Val := Elt Ideal) (e := .f32) _ rfl _ _ r q rfl
theorem outW_last (q : Fin 128) : outW dy y x v g w gg gb (ix2 31 q) = 0 := by
  unfold outW putW
  rw [rows_last]
  exact (Rows.canon_row (Val := Elt Ideal) _ rfl _ _ 31 31 q (by decide)).trans (zero100 31 q)
end outs

end Cert.Conv31BwdSums

end
-- ==== Proof.Conv31Lanes.lean ====
module

public import proofs.«01_k».proof.Proof.Conv31Math
public import proofs.«01_k».proof.Proof.Rows

@[expose] public section

set_option maxRecDepth 16384

noncomputable section

/-! The thousand and twenty-four lanes of the convolution's arrays as eight groups, and its values and gradients a group at a time. -/

namespace Cert.Conv31Lanes

open Cert.Conv31Math Idealize.ShloMosaic Idealize.ShloMosaic.TcCoe

/-- Lane `q` of group `p`. -/
def lane (p : Fin 8) (q : Fin 128) : Fin 1024 := ⟨p.val * 128 + q.val, by omega⟩
def grp (a : Fin 1024) : Fin 8 := ⟨a.val / 128, by omega⟩
def off (a : Fin 1024) : Fin 128 := ⟨a.val % 128, by omega⟩

theorem grp_lane (p : Fin 8) (q : Fin 128) : grp (lane p q) = p := Fin.ext (by dsimp only [grp, lane]; omega)
theorem off_lane (p : Fin 8) (q : Fin 128) : off (lane p q) = q := Fin.ext (by dsimp only [off, lane]; omega)
theorem lane_eq (a : Fin 1024) : lane (grp a) (off a) = a := Fin.ext (by dsimp only [grp, off, lane]; omega)

/-- The array whose groups are given. -/
def spread {n : ℕ} (f : Fin 8 → Fin n → Fin 128 → ℝ) : (Rows.Mat n 1024).Idx → EReal := fun i => (f (grp (i 1)) (i 0) (off (i 1)) : EReal)

theorem spread_lane {n : ℕ} (f : Fin 8 → Fin n → Fin 128 → ℝ) (t : Fin n) (p : Fin 8) (q : Fin 128) : spread f (ix2 t (lane p q)) = (f p t q : EReal) := by
  unfold spread
  dsimp only [ix2_0, ix2_1]
  rw [grp_lane, off_lane]

theorem eq_spread {n : ℕ} {f : Fin 8 → Fin n → Fin 128 → ℝ} {A : (Rows.Mat n 1024).Idx → EReal} (h : ∀ p t q, A (ix2 t (lane p q)) = (f p t q : EReal)) : A = spread f := by
  funext i
  obtain ⟨t, a, rfl⟩ : ∃ (t : Fin n) (a : Fin 1024), i = ix2 t a := ⟨i 0, i 1, eq_ix2 i⟩
  rw [← lane_eq a, h, spread_lane]

abbrev Arr (n : ℕ) := Fin n → Fin 1024 → ℝ
abbrev Vec1 := Fin 1024 → ℝ

def part {n : ℕ} (A : Arr n) (p : Fin 8) : Fin n → Fin 128 → ℝ := fun t q => A t (lane p q)
def part1 (A : Vec1) (p : Fin 8) : Lane := fun q => A (lane p q)

/-- The gated linear unit's values. -/
def gated (CV CG : Arr 8192) : Arr 8192 := fun t a => CV t a * sg (CG t a)

/-! The forward values of a group, -/

variable (CV CG : Arr 8192) (W : Arr 31) (B G O : Vec1) (CT : Arr 8192)

def input (p : Fin 8) : Col := glu (part CV p) (part CG p)
def convd (p : Fin 8) : Col := Conv31Math.conv (input CV CG p) (part W p) (part1 B p)
def normed (p : Fin 8) : Col := fun t q => swish (gn (part1 G p) (part1 O p) (convd CV CG W B p t) q)

/-! the cotangents of the convolution and of the normalised rows, -/

def dconv (p : Fin 8) : Col := fun t => dcc (part1 G p) (part1 O p) (part CT p t) (convd CV CG W B p t)
def dnorm (p : Fin 8) : Col := fun t => dgn (part1 G p) (part1 O p) (part CT p t) (convd CV CG W B p t)

/-! and the gradients. -/

def gV (p : Fin 8) : Col := dval (part CG p) (dx (dconv CV CG W B G O CT p) (part W p))
def gG (p : Fin 8) : Col := dgate (part CV p) (part CG p) (dx (dconv CV CG W B G O CT p) (part W p))
def gW (p : Fin 8) : Fin 32 → Fin 128 → ℝ := fun k q => if h : k.val < 31 then dw (dconv CV CG W B G O CT p) (input CV CG p) ⟨k.val, h⟩ q else 0
def gB (p : Fin 8) : Fin 1 → Fin 128 → ℝ := fun _ q => ∑ t, dconv CV CG W B G O CT p t q
def gGg (p : Fin 8) : Fin 1 → Fin 128 → ℝ := fun _ q => ∑ t, dnorm CV CG W B G O CT p t q * xhat (convd CV CG W B p t) q
def gGb (p : Fin 8) : Fin 1 → Fin 128 → ℝ := fun _ q => ∑ t, dnorm CV CG W B G O CT p t q

end Cert.Conv31Lanes

end
-- ==== Proof.Conv31Value.lean ====
module

public import proofs.«01_k».proof.Proof.Conv31Run
public import proofs.«01_k».proof.Proof.Conv31FwdValue
public import proofs.«01_k».proof.Proof.Conv31BwdSums
public import proofs.«01_k».proof.Proof.Conv31Lanes

@[expose] public section

set_option maxRecDepth 16384

noncomputable section

/-! The arrays that the two calls leave, of real arguments. -/

namespace Cert.Conv31Value

open Cert.Conv31Ideal Cert.Conv31Ideal.Gen Cert.Conv31Run Cert.Conv31Lanes Cert.Conv31Math
open Idealize.ShloMosaic Idealize.ShloMosaic.TcCoe Idealize.ShloMosaic.Tactic Idealize.SL.Sem

variable (m : (ℓ : Loc nD τ sig) → Buf (Elt Ideal) ℓ) (c : Dev nD)

abbrev argV : FVec Ideal S8192x1024 .f32 := m ((c : Thread nD τ).loc main_arg0)
abbrev argS : FVec Ideal S8192x1024 .f32 := m ((c : Thread nD τ).loc main_arg1)
abbrev argW : FVec Ideal S31x1024 .f32 := m ((c : Thread nD τ).loc main_arg2)
abbrev argB : FVec Ideal S1024 .f32 := m ((c : Thread nD τ).loc main_arg3)
abbrev argG : FVec Ideal S1024 .f32 := m ((c : Thread nD τ).loc main_arg4)
abbrev argO : FVec Ideal S1024 .f32 := m ((c : Thread nD τ).loc main_arg5)
abbrev argT : FVec Ideal S8192x1024 .f32 := m ((c : Thread nD τ).loc main_arg6)

/-- Every argument is the given array of reals. -/
structure Real (CV CG : Arr 8192) (W : Arr 31) (B G O : Vec1) (CT : Arr 8192) : Prop where
  v : ∀ t a, argV m c (ix2 t a) = (CV t a : EReal)
  s : ∀ t a, argS m c (ix2 t a) = (CG t a : EReal)
  w : ∀ k a, argW m c (ix2 k a) = (W k a : EReal)
  b : ∀ a, argB m c (ix1 a) = (B a : EReal)
  g : ∀ a, argG m c (ix1 a) = (G a : EReal)
  o : ∀ a, argO m c (ix1 a) = (O a : EReal)
  t : ∀ t a, argT m c (ix2 t a) = (CT t a : EReal)

variable {m c} {CV CG : Arr 8192} {W : Arr 31} {B G O : Vec1} {CT : Arr 8192} (h : Real m c CV CG W B G O CT)
include h

/-! The buffers that the regions find. -/

theorem v6 (t : Fin 8192) (a : Fin 1024) : (V1 m c main_v6 : FVec Ideal S8192x1024 .f32) (ix2 t a) = (gated CV CG t a : EReal) := by
  unfold V1
  entry_read
  pointwise
  rw [show V0 m c (Proc.devRef .tc main_arg0) (ix2 t a) = _ from h.v t a, show V0 m c (Proc.devRef .tc main_arg1) (ix2 t a) = _ from h.s t a, ← EReal.coe_one, host_logistic_coe, ← EReal.coe_mul]
  rfl

theorem v7 (a : Fin 1024) : (V1 m c main_v7 : FVec Ideal S1x1024 .f32) (ix2 0 a) = (B a : EReal) := by
  unfold V1
  entry_read
  pointwise
  exact h.b a
theorem v8 (a : Fin 1024) : (V1 m c main_v8 : FVec Ideal S1x1024 .f32) (ix2 0 a) = (G a : EReal) := by
  unfold V1
  entry_read
  pointwise
  exact h.g a
theorem v9 (a : Fin 1024) : (V1 m c main_v9 : FVec Ideal S1x1024 .f32) (ix2 0 a) = (O a : EReal) := by
  unfold V1
  entry_read
  pointwise
  exact h.o a
theorem v11 (t : Fin 8192) (a : Fin 1024) : (W3 m c main_v11 : FVec Ideal S8192x1024 .bf16) (ix2 t a) = (CV t a : EReal) := by
  unfold W3
  entry_read
  pointwise
  rw [keeps0 m c _ (by decide), V1_of m c _ (by decide)]
  exact h.v t a
theorem v12 (t : Fin 8192) (a : Fin 1024) : (W3 m c main_v12 : FVec Ideal S8192x1024 .bf16) (ix2 t a) = (CG t a : EReal) := by
  unfold W3
  entry_read
  pointwise
  rw [keeps0 m c _ (by decide), V1_of m c _ (by decide)]
  exact h.s t a
theorem v13 (a : Fin 1024) : (W3 m c main_v13 : FVec Ideal S1x1024 .f32) (ix2 0 a) = (G a : EReal) := by
  unfold W3
  entry_read
  pointwise
  rw [keeps0 m c _ (by decide), V1_of m c _ (by decide)]
  exact h.g a
theorem v14 (a : Fin 1024) : (W3 m c main_v14 : FVec Ideal S1x1024 .f32) (ix2 0 a) = (O a : EReal) := by
  unfold W3
  entry_read
  pointwise
  rw [keeps0 m c _ (by decide), V1_of m c _ (by decide)]
  exact h.o a

theorem w6 (t : Fin 8192) (a : Fin 1024) : (W3 m c main_v6 : FVec Ideal S8192x1024 .f32) (ix2 t a) = (gated CV CG t a : EReal) := by
  rw [W3_of m c _ (by decide), keeps0 m c _ (by decide)]
  exact v6 h t a
theorem w_w (k : Fin 31) (a : Fin 1024) : (V1 m c main_arg2 : FVec Ideal S31x1024 .f32) (ix2 k a) = (W k a : EReal) := by
  rw [V1_of m c _ (by decide)]
  exact h.w k a
theorem w3_w (k : Fin 31) (a : Fin 1024) : (W3 m c main_arg2 : FVec Ideal S31x1024 .f32) (ix2 k a) = (W k a : EReal) := by
  rw [W3_of m c _ (by decide), keeps0 m c _ (by decide)]
  exact w_w h k a
theorem w3_t (t : Fin 8192) (a : Fin 1024) : (W3 m c main_arg6 : FVec Ideal S8192x1024 .f32) (ix2 t a) = (CT t a : EReal) := by
  rw [W3_of m c _ (by decide), keeps0 m c _ (by decide), V1_of m c _ (by decide)]
  exact h.t t a

/-! The forward region. -/

omit h in
theorem lt8 (t : Fin cfg0.N) : t.val < 8 := Nat.lt_of_lt_of_eq t.isLt N_0
omit h in
theorem lt8' (t : Fin cfg1.N) : t.val < 8 := Nat.lt_of_lt_of_eq t.isLt N_1
/-- The group of lanes that a point takes. -/
def at0 (t : Fin cfg0.N) : Fin 8 := ⟨t.val, lt8 t⟩
def at1 (t : Fin cfg1.N) : Fin 8 := ⟨t.val, lt8' t⟩

omit h in
theorem idx0 : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] := (by decide +kernel : ∀ t : Fin grid0.N, _)

theorem f0 (t : Fin cfg0.N) (i : Fin 8192) (q : Fin 128) : R0.blk (V1 m) c 0 t (ix2 i q) = (input CV CG (at0 t) i q : EReal) := by
  refine Eq.trans ?_ (v6 h i (lane (at0 t) q))
  blk_simp [R0.blk]; blk_ext [idx0 t, lane, at0]
theorem f1 (t : Fin cfg0.N) (k : Fin 31) (q : Fin 128) : R0.blk (V1 m) c 1 t (ix2 k q) = (part W (at0 t) k q : EReal) := by
  refine Eq.trans ?_ (w_w h k (lane (at0 t) q))
  blk_simp [R0.blk]; blk_ext [idx0 t, lane, at0]
theorem f2 (t : Fin cfg0.N) (q : Fin 128) : R0.blk (V1 m) c 2 t (ix2 0 q) = (part1 B (at0 t) q : EReal) := by
  refine Eq.trans ?_ (v7 h (lane (at0 t) q))
  blk_simp [R0.blk]; blk_ext [idx0 t, lane, at0]
theorem f3 (t : Fin cfg0.N) (q : Fin 128) : R0.blk (V1 m) c 3 t (ix2 0 q) = (part1 G (at0 t) q : EReal) := by
  refine Eq.trans ?_ (v8 h (lane (at0 t) q))
  blk_simp [R0.blk]; blk_ext [idx0 t, lane, at0]
theorem f4 (t : Fin cfg0.N) (q : Fin 128) : R0.blk (V1 m) c 4 t (ix2 0 q) = (part1 O (at0 t) q : EReal) := by
  refine Eq.trans ?_ (v9 h (lane (at0 t) q))
  blk_simp [R0.blk]; blk_ext [idx0 t, lane, at0]
omit h in
theorem e5 (t : Fin cfg0.N) (i : Fin 8192) (q : Fin 128) : ((cfg0.win 5).blk t).view.emb (ix2 i q) = ix2 i (lane (at0 t) q) := by
  blk_ext [idx0 t, lane, at0]
omit h in
theorem e6 (t : Fin cfg0.N) (i : Fin 8192) (q : Fin 128) : ((cfg0.win 6).blk t).view.emb (ix2 i q) = ix2 i (lane (at0 t) q) := by
  blk_ext [idx0 t, lane, at0]

theorem final5 : (R0.dat (V1 m) c).arrAt 5 cfg0.N = spread (convd CV CG W B) := by
  refine (R0.dat (V1 m) c).arrAt_eq_of_covers 5 _ (by decide +kernel) fun t _ y => ?_
  blk_simp
  rw [R0.after_5]
  obtain ⟨i, q, rfl⟩ : ∃ (i : Fin 8192) (q : Fin 128), y = ix2 i q := ⟨y 0, y 1, eq_ix2 y⟩
  refine Eq.trans ?_ ((congrArg (spread _) (e5 t i q)).trans (spread_lane _ i _ q)).symm
  exact Conv31FwdValue.outC_apply (f0 h t) (f1 h t) (f2 h t) i q

theorem final6 : (R0.dat (V1 m) c).arrAt 6 cfg0.N = spread (normed CV CG W B G O) := by
  refine (R0.dat (V1 m) c).arrAt_eq_of_covers 6 _ (by decide +kernel) fun t _ y => ?_
  blk_simp
  rw [R0.after_6]
  obtain ⟨i, q, rfl⟩ : ∃ (i : Fin 8192) (q : Fin 128), y = ix2 i q := ⟨y 0, y 1, eq_ix2 y⟩
  refine Eq.trans ?_ ((congrArg (spread _) (e6 t i q)).trans (spread_lane _ i _ q)).symm
  exact Conv31FwdValue.outS_apply (f0 h t) (f1 h t) (f2 h t) (f3 h t) (f4 h t) i q

theorem v10 (t : Fin 8192) (p : Fin 8) (q : Fin 128) : (W3 m c main_v10_0 : FVec Ideal S8192x1024 .f32) (ix2 t (lane p q)) = (convd CV CG W B p t q : EReal) := by
  rw [W3_of m c _ (by decide)]
  refine (congrFun ((Pipeline.afterRegion_arr (R0.dat (V1 m) c) (V1 m c) winFacts0.arr_inj 5).trans (final5 h)) _).trans ?_
  exact spread_lane _ t p q

/-! The backward region. -/

omit h in
theorem idx1 : ∀ t : Fin cfg1.N, win1_0.index t = ![0, t.val] ∧ win1_1.index t = ![0, t.val] ∧ win1_2.index t = ![0, t.val] ∧ win1_3.index t = ![0, t.val]
    ∧ win1_4.index t = ![0, t.val] ∧ win1_5.index t = ![0, t.val] ∧ win1_6.index t = ![0, t.val] ∧ win1_7.index t = ![0, t.val] ∧ win1_8.index t = ![0, t.val]
    ∧ win1_9.index t = ![0, t.val] ∧ win1_10.index t = ![0, t.val] ∧ win1_11.index t = ![0, t.val] ∧ win1_12.index t = ![0, t.val] ∧ win1_13.index t = ![0, t.val] :=
  (by decide +kernel : ∀ t : Fin grid1.N, _)

theorem b0 (t : Fin cfg1.N) (i : Fin 8192) (q : Fin 128) : R1.blk (W3 m) c 0 t (ix2 i q) = (part CT (at1 t) i q : EReal) := by
  refine Eq.trans ?_ (w3_t h i (lane (at1 t) q))
  blk_simp [R1.blk]; blk_ext [idx1 t, lane, at1]
theorem b1 (t : Fin cfg1.N) (i : Fin 8192) (q : Fin 128) : R1.blk (W3 m) c 1 t (ix2 i q) = (convd CV CG W B (at1 t) i q : EReal) := by
  refine Eq.trans ?_ (v10 h i (at1 t) q)
  blk_simp [R1.blk]; blk_ext [idx1 t, lane, at1]
theorem b2 (t : Fin cfg1.N) (i : Fin 8192) (q : Fin 128) : R1.blk (W3 m) c 2 t (ix2 i q) = (input CV CG (at1 t) i q : EReal) := by
  refine Eq.trans ?_ (w6 h i (lane (at1 t) q))
  blk_simp [R1.blk]; blk_ext [idx1 t, lane, at1]
theorem b3 (t : Fin cfg1.N) (i : Fin 8192) (q : Fin 128) : R1.blk (W3 m) c 3 t (ix2 i q) = (part CV (at1 t) i q : EReal) := by
  refine Eq.trans ?_ (v11 h i (lane (at1 t) q))
  blk_simp [R1.blk]; blk_ext [idx1 t, lane, at1]
theorem b4 (t : Fin cfg1.N) (i : Fin 8192) (q : Fin 128) : R1.blk (W3 m) c 4 t (ix2 i q) = (part CG (at1 t) i q : EReal) := by
  refine Eq.trans ?_ (v12 h i (lane (at1 t) q))
  blk_simp [R1.blk]; blk_ext [idx1 t, lane, at1]
theorem b5 (t : Fin cfg1.N) (k : Fin 31) (q : Fin 128) : R1.blk (W3 m) c 5 t (ix2 k q) = (part W (at1 t) k q : EReal) := by
  refine Eq.trans ?_ (w3_w h k (lane (at1 t) q))
  blk_simp [R1.blk]; blk_ext [idx1 t, lane, at1]
theorem b6 (t : Fin cfg1.N) (q : Fin 128) : R1.blk (W3 m) c 6 t (ix2 0 q) = (part1 G (at1 t) q : EReal) := by
  refine Eq.trans ?_ (v13 h (lane (at1 t) q))
  blk_simp [R1.blk]; blk_ext [idx1 t, lane, at1]
theorem b7 (t : Fin cfg1.N) (q : Fin 128) : R1.blk (W3 m) c 7 t (ix2 0 q) = (part1 O (at1 t) q : EReal) := by
  refine Eq.trans ?_ (v14 h (lane (at1 t) q))
  blk_simp [R1.blk]; blk_ext [idx1 t, lane, at1]

omit h in
theorem e8' (t : Fin cfg1.N) (i : Fin 8192) (q : Fin 128) : ((cfg1.win 8).blk t).view.emb (ix2 i q) = ix2 i (lane (at1 t) q) := by
  blk_ext [idx1 t, lane, at1]
theorem final8 : (R1.dat (W3 m) c).arrAt 8 cfg1.N = spread (gV CV CG W B G O CT) := by
  refine (R1.dat (W3 m) c).arrAt_eq_of_covers 8 _ (by decide +kernel) fun t _ y => ?_
  blk_simp
  rw [R1.after_8]
  obtain ⟨i, q, rfl⟩ : ∃ (i : Fin 8192) (q : Fin 128), y = ix2 i q := ⟨y 0, y 1, eq_ix2 y⟩
  refine Eq.trans ?_ ((congrArg (spread _) (e8' t i q)).trans (spread_lane _ i _ q)).symm
  exact Conv31BwdSums.outV_apply (b6 h t) (b7 h t) (b0 h t) (b1 h t) (b5 h t) (b3 h t) (b4 h t) i q

omit h in
theorem e9' (t : Fin cfg1.N) (i : Fin 8192) (q : Fin 128) : ((cfg1.win 9).blk t).view.emb (ix2 i q) = ix2 i (lane (at1 t) q) := by
  blk_ext [idx1 t, lane, at1]
theorem final9 : (R1.dat (W3 m) c).arrAt 9 cfg1.N = spread (gG CV CG W B G O CT) := by
  refine (R1.dat (W3 m) c).arrAt_eq_of_covers 9 _ (by decide +kernel) fun t _ y => ?_
  blk_simp
  rw [R1.after_9]
  obtain ⟨i, q, rfl⟩ : ∃ (i : Fin 8192) (q : Fin 128), y = ix2 i q := ⟨y 0, y 1, eq_ix2 y⟩
  refine Eq.trans ?_ ((congrArg (spread _) (e9' t i q)).trans (spread_lane _ i _ q)).symm
  exact Conv31BwdSums.outG_apply (b6 h t) (b7 h t) (b0 h t) (b1 h t) (b5 h t) (b3 h t) (b4 h t) i q

omit h in
theorem e10' (t : Fin cfg1.N) (i : Fin 32) (q : Fin 128) : ((cfg1.win 10).blk t).view.emb (ix2 i q) = ix2 i (lane (at1 t) q) := by
  blk_ext [idx1 t, lane, at1]
theorem final10 : (R1.dat (W3 m) c).arrAt 10 cfg1.N = spread (gW CV CG W B G O CT) := by
  refine (R1.dat (W3 m) c).arrAt_eq_of_covers 10 _ (by decide +kernel) fun t _ y => ?_
  blk_simp
  rw [R1.after_10]
  obtain ⟨i, q, rfl⟩ : ∃ (i : Fin 32) (q : Fin 128), y = ix2 i q := ⟨y 0, y 1, eq_ix2 y⟩
  refine Eq.trans ?_ ((congrArg (spread _) (e10' t i q)).trans (spread_lane _ i _ q)).symm
  unfold gW
  by_cases hk : i.val < 31
  · rw [dif_pos hk]
    exact Conv31BwdSums.outW_apply (b6 h t) (b7 h t) (b0 h t) (b1 h t) (b2 h t) ⟨i.val, hk⟩ q
  · obtain rfl : i = 31 := Fin.ext (by show i.val = 31; omega)
    rw [dif_neg hk]
    exact Conv31BwdSums.outW_last q

omit h in
theorem e11' (t : Fin cfg1.N) (i : Fin 1) (q : Fin 128) : ((cfg1.win 11).blk t).view.emb (ix2 i q) = ix2 i (lane (at1 t) q) := by
  blk_ext [idx1 t, lane, at1]
theorem final11 : (R1.dat (W3 m) c).arrAt 11 cfg1.N = spread (gB CV CG W B G O CT) := by
  refine (R1.dat (W3 m) c).arrAt_eq_of_covers 11 _ (by decide +kernel) fun t _ y => ?_
  blk_simp
  rw [R1.after_11]
  obtain ⟨i, q, rfl⟩ : ∃ (i : Fin 1) (q : Fin 128), y = ix2 i q := ⟨y 0, y 1, eq_ix2 y⟩
  obtain rfl : i = 0 := Subsingleton.elim _ _
  refine Eq.trans ?_ ((congrArg (spread _) (e11' t 0 q)).trans (spread_lane _ 0 _ q)).symm
  exact Conv31BwdValue.outB_apply (b6 h t) (b7 h t) (b0 h t) (b1 h t) q

omit h in
theorem e12' (t : Fin cfg1.N) (i : Fin 1) (q : Fin 128) : ((cfg1.win 12).blk t).view.emb (ix2 i q) = ix2 i (lane (at1 t) q) := by
  blk_ext [idx1 t, lane, at1]
theorem final12 : (R1.dat (W3 m) c).arrAt 12 cfg1.N = spread (gGg CV CG W B G O CT) := by
  refine (R1.dat (W3 m) c).arrAt_eq_of_covers 12 _ (by decide +kernel) fun t _ y => ?_
  blk_simp
  rw [R1.after_12]
  obtain ⟨i, q, rfl⟩ : ∃ (i : Fin 1) (q : Fin 128), y = ix2 i q := ⟨y 0, y 1, eq_ix2 y⟩
  obtain rfl : i = 0 := Subsingleton.elim _ _
  refine Eq.trans ?_ ((congrArg (spread _) (e12' t 0 q)).trans (spread_lane _ 0 _ q)).symm
  exact Conv31BwdValue.outGg_apply (b6 h t) (b7 h t) (b0 h t) (b1 h t) q

omit h in
theorem e13' (t : Fin cfg1.N) (i : Fin 1) (q : Fin 128) : ((cfg1.win 13).blk t).view.emb (ix2 i q) = ix2 i (lane (at1 t) q) := by
  blk_ext [idx1 t, lane, at1]
theorem final13 : (R1.dat (W3 m) c).arrAt 13 cfg1.N = spread (gGb CV CG W B G O CT) := by
  refine (R1.dat (W3 m) c).arrAt_eq_of_covers 13 _ (by decide +kernel) fun t _ y => ?_
  blk_simp
  rw [R1.after_13]
  obtain ⟨i, q, rfl⟩ : ∃ (i : Fin 1) (q : Fin 128), y = ix2 i q := ⟨y 0, y 1, eq_ix2 y⟩
  obtain rfl : i = 0 := Subsingleton.elim _ _
  refine Eq.trans ?_ ((congrArg (spread _) (e13' t 0 q)).trans (spread_lane _ 0 _ q)).symm
  exact Conv31BwdValue.outGb_apply (b6 h t) (b7 h t) (b0 h t) (b1 h t) q

omit h in
/-- The kernel's results. -/
theorem result (ρ : Dev nD → PrngReg) {CV CG CT : Dev nD → Arr 8192} {W : Dev nD → Arr 31} {B G O : Dev nD → Vec1}
    (h : ∀ c, Real m c (CV c) (CG c) (W c) (B c) (G c) (O c) (CT c)) :
    θ_run defs (onTc (τ := τ) (main (F := Ideal))) ⟨m, fun _ => 0, ρ⟩ (fun r => ∀ c : Dev nD,
      r.2.mem ((c.tc : Thread nD τ).loc main_v10_1) = spread (normed (CV c) (CG c) (W c) (B c) (G c) (O c))
      ∧ r.2.mem ((c.tc : Thread nD τ).loc main_v15_0) = spread (gV (CV c) (CG c) (W c) (B c) (G c) (O c) (CT c))
      ∧ r.2.mem ((c.tc : Thread nD τ).loc main_v15_1) = spread (gG (CV c) (CG c) (W c) (B c) (G c) (O c) (CT c))
      ∧ r.2.mem ((c.tc : Thread nD τ).loc main_v15_2) = spread (gW (CV c) (CG c) (W c) (B c) (G c) (O c) (CT c))
      ∧ r.2.mem ((c.tc : Thread nD τ).loc main_v15_3) = spread (gB (CV c) (CG c) (W c) (B c) (G c) (O c) (CT c))
      ∧ r.2.mem ((c.tc : Thread nD τ).loc main_v15_4) = spread (gGg (CV c) (CG c) (W c) (B c) (G c) (O c) (CT c))
      ∧ r.2.mem ((c.tc : Thread nD τ).loc main_v15_5) = spread (gGb (CV c) (CG c) (W c) (B c) (G c) (O c) (CT c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r k c =>
    have g := fun (w : Fin cfg1.W) (hw : (Pipeline.arrRef spec1 w).isScoped = false) =>
      (k.1.1 c _ (uc (Pipeline.arrRef spec1 w) hw)).trans (Pipeline.afterRegion_arr (R1.dat (W3 m) c) (W3 m c) winFacts1.arr_inj w)
    ⟨(k.1.1 c _ (uc main_v10_1 rfl)).trans ((keeps1 m c _ (by decide)).trans ((W3_of m c _ (by decide)).trans
        ((Pipeline.afterRegion_arr (R0.dat (V1 m) c) (V1 m c) winFacts0.arr_inj 6).trans (final6 (h c))))),
      (g 8 rfl).trans (final8 (h c)), (g 9 rfl).trans (final9 (h c)), (g 10 rfl).trans (final10 (h c)), (g 11 rfl).trans (final11 (h c)),
      (g 12 rfl).trans (final12 (h c)), (g 13 rfl).trans (final13 (h c)), k.2.1 c⟩)
    (θ_run_and (run m ρ) (frame m ρ))

end Cert.Conv31Value

end
-- ==== Proof.Conv31Ref.lean ====
module

public import proofs.«01_k».proof.Proof.Gen.Conv31RefIdeal.Read
public import proofs.«01_k».proof.Proof.Conv31Lanes

@[expose] public section

set_option maxRecDepth 16384

noncomputable section

/-! The reference's values and gradients, a group of lanes at a time. -/

namespace Cert.Conv31Ref

open Cert.Conv31RefIdeal Cert.Conv31RefIdeal.Gen Cert.Conv31RefIdeal.Read Cert.Conv31Lanes Cert.Conv31Math Cert.Reals
open Idealize.ShloMosaic Idealize.ShloMosaic.TcCoe

/-! Sums that pick one row. -/

theorem pick_above (x : Col) (n : ℕ) (q : Fin 128) : ∑ s : Fin 8192, (if s.val + 32 = n then (1 : ℝ) else 0) * x s q = above x n q := by
  unfold above
  by_cases h : 32 ≤ n ∧ n < 8224
  · rw [dif_pos h, Finset.sum_eq_single (⟨n - 32, by omega⟩ : Fin 8192)]
    · rw [if_pos (by dsimp only; omega), one_mul]
    · intro s _ hs
      rw [if_neg (fun e => hs (Fin.ext (by dsimp only; omega))), zero_mul]
    · exact fun hs => absurd (Finset.mem_univ _) hs
  · rw [dif_neg h]
    refine Finset.sum_eq_zero fun s _ => ?_
    rw [if_neg (fun e => h (by omega)), zero_mul]

theorem pick_below (d : Col) (n : ℕ) (q : Fin 128) : ∑ t : Fin 8192, d t q * (if n = t.val then (1 : ℝ) else 0) = below d n q := by
  unfold below
  by_cases h : n < 8192
  · rw [dif_pos h, Finset.sum_eq_single (⟨n, h⟩ : Fin 8192)]
    · rw [if_pos rfl, mul_one]
    · intro s _ hs
      rw [if_neg (fun e => hs (Fin.ext e.symm)), mul_zero]
    · exact fun hs => absurd (Finset.mem_univ _) hs
  · rw [dif_neg h]
    refine Finset.sum_eq_zero fun s _ => ?_
    rw [if_neg (fun e => h (by omega)), mul_zero]

/-! The normalisation's gradient as differentiation gives it: through the centred row, the variance and the mean. -/

theorem f32_mhalf : Ideal.ofBits .f32 0xBF000000#32 = ((-1 / 2 : ℝ) : EReal) := by
  simp [Ideal.ofBits, Ideal.ieee, -EReal.coe_mul]; norm_num

def slope (r : Lane) : ℝ := -1 / 2 * (rstd r / (vari r + eps))
def through (h r : Lane) : ℝ := (∑ q, cent r q * h q) * slope r / 128
def back (h r : Lane) : Lane := fun q => h q * rstd r + cent r q * through h r + through h r * cent r q

theorem mean_cent (r : Lane) : ∑ q, cent r q = 0 := by
  unfold cent mean
  rw [Finset.sum_sub_distrib, Finset.sum_const, Finset.card_univ, Fintype.card_fin]
  simp
  ring

theorem rstd_sq (r : Lane) : rstd r * rstd r = 1 / (vari r + eps) := by
  unfold rstd
  rw [← mul_inv, Real.mul_self_sqrt (vari_pos r).le, one_div]

theorem back_eq (h r : Lane) (q : Fin 128) : back h r q + -mean (back h r) = rstd r * (h q - mean h - xhat r q * mean fun l => h l * xhat r l) := by
  have hu := (vari_pos r).ne'
  have h1 : mean (back h r) = rstd r * mean h := by
    unfold back mean
    have e : ∑ q, (h q * rstd r + cent r q * through h r + through h r * cent r q) = (∑ q, h q) * rstd r + (∑ q, cent r q) * (2 * through h r) := by
      rw [Finset.sum_mul, Finset.sum_mul, ← Finset.sum_add_distrib]
      exact Finset.sum_congr rfl fun q _ => by ring
    rw [e, mean_cent]
    ring
  have h2 : mean (fun l => h l * xhat r l) = (∑ l, cent r l * h l) * rstd r / 128 := by
    unfold mean xhat
    rw [Finset.sum_mul]
    congr 1
    exact Finset.sum_congr rfl fun l _ => by ring
  have h3 : slope r = -1 / 2 * (rstd r * (rstd r * rstd r)) := by
    rw [rstd_sq]; unfold slope; ring
  rw [h1, h2]
  unfold back through xhat
  rw [h3]
  ring

abbrev A2 := (⟨S8192x1024, .f32⟩ : BufTy).Contents (Elt Ideal)
abbrev A31 := (⟨S31x1024, .f32⟩ : BufTy).Contents (Elt Ideal)
abbrev A1 := (⟨S1024, .f32⟩ : BufTy).Contents (Elt Ideal)

/-- Every argument is the given array of reals. -/
structure Real (x0 x1 : A2) (x2 : A31) (x3 x4 x5 : A1) (x6 : A2) (CV CG : Arr 8192) (W : Arr 31) (B G O : Vec1) (CT : Arr 8192) : Prop where
  v : ∀ t a, x0 (ix2 t a) = (CV t a : EReal)
  s : ∀ t a, x1 (ix2 t a) = (CG t a : EReal)
  w : ∀ k a, x2 (ix2 k a) = (W k a : EReal)
  b : ∀ a, x3 (ix1 a) = (B a : EReal)
  g : ∀ a, x4 (ix1 a) = (G a : EReal)
  o : ∀ a, x5 (ix1 a) = (O a : EReal)
  t : ∀ t a, x6 (ix2 t a) = (CT t a : EReal)

variable {x0 x1 x6 : A2} {x2 : A31} {x3 x4 x5 : A1} {CV CG CT : Arr 8192} {W : Arr 31} {B G O : Vec1} (h : Real x0 x1 x2 x3 x4 x5 x6 CV CG W B G O CT)

theorem r17 (k : Fin 31) (t s : Fin 8192) : val_main_v17 (F := Ideal) (ix3 k t s) = ((if s.val + 30 = t.val + k.val then 1 else 0 : ℝ) : EReal) := by
  pointwise [val_main_v17, val_main_v16, val_main_v15, val_main_v14, val_main_v13, val_main_v12, val_main_v11, val_main_v10, val_main_c, val_main_call0_v0, val_main_call0_v1, val_main_cst_2, val_main_cst_3]
  have e : (BitVec.ofNat 32 s.val = BitVec.ofNat 32 t.val - 30#32 + BitVec.ofNat 32 k.val) ↔ s.val + 30 = t.val + k.val := by
    constructor
    · intro he
      have := congrArg BitVec.toNat he
      simp only [BitVec.toNat_add, BitVec.toNat_sub, BitVec.toNat_ofNat] at this
      omega
    · intro he
      apply BitVec.eq_of_toNat_eq
      simp only [BitVec.toNat_add, BitVec.toNat_sub, BitVec.toNat_ofNat]
      omega
  by_cases he : s.val + 30 = t.val + k.val
  · rw [if_pos he]
    simp [Scalar.select, IntOp.cmpi, IntOp.addi, IntOp.subi, e.mpr he]
  · rw [if_neg he]
    have := beq_eq_false_iff_ne.mpr fun hh => he (e.mp hh)
    simp [Scalar.select, IntOp.cmpi, IntOp.addi, IntOp.subi, this]

include h

theorem r5 (t : Fin 8192) (a : Fin 1024) : val_main_v5 (F := Ideal) x1 (ix2 t a) = (sg (CG t a) : EReal) := by
  pointwise [val_main_v5, val_main_v4, val_main_v3, val_main_v2, val_main_v1, val_main_v0, val_main_cst, val_main_cst_0]
  rw [h.s, ← EReal.coe_one, host_logistic_coe]

theorem r9 (t : Fin 8192) (p : Fin 8) (q : Fin 128) : val_main_v9 (F := Ideal) x0 x1 (ix2 t (lane p q)) = (input CV CG p t q : EReal) := by
  pointwise [val_main_v9]
  rw [h.v, r5 h, ← EReal.coe_mul]
  rfl

theorem r19 (k : Fin 31) (t : Fin 8192) (p : Fin 8) (q : Fin 128) :
    val_main_v19 (F := Ideal) x0 x1 (ix3 k t (lane p q)) = (above (input CV CG p) (t.val + (2 + k.val)) q : EReal) := by
  pointwise [val_main_v19, val_main_v18]
  simp only [r17, r9 h, ← EReal.coe_mul]
  rw [← coe_sum, ← pick_above]
  refine congrArg Real.toEReal (Finset.sum_congr rfl fun s _ => ?_)
  rw [if_congr (show s.val + 30 = t.val + k.val ↔ s.val + 32 = t.val + (2 + k.val) by omega) rfl rfl]

theorem r26 (t : Fin 8192) (p : Fin 8) (q : Fin 128) : val_main_v26 (F := Ideal) x0 x1 x2 x3 (ix2 t (lane p q)) = (convd CV CG W B p t q : EReal) := by
  pointwise [val_main_v26, val_main_v25, val_main_v24, val_main_v23, val_main_v22, val_main_v21, val_main_v20, val_main_cst_4]
  simp only [r19 h, h.w, h.b, ← EReal.coe_mul]
  rw [← coe_sum, ← EReal.coe_add]
  rfl

theorem r27 (t : Fin 8192) (p : Fin 8) (q : Fin 128) : val_main_v27 (F := Ideal) x0 x1 x2 x3 (ix3 t p q) = (convd CV CG W B p t q : EReal) := by
  rw [val_main_v27_apply, ← r26 h]
  refine congrArg _ (funext fun a => ?_)
  match a with
  | 0 => exact Fin.ext (by show ((t.val * 8 + p.val) * 128 + q.val) / 1024 = t.val; omega)
  | 1 => exact Fin.ext (by show ((t.val * 8 + p.val) * 128 + q.val) % 1024 = p.val * 128 + q.val; omega)

theorem r31 (t : Fin 8192) (p : Fin 8) : val_main_v31 (F := Ideal) x0 x1 x2 x3 (ix3 t p 0) = (mean (convd CV CG W B p t) : EReal) := by
  pointwise [val_main_v31, val_main_v30, val_main_cst_6, val_main_v29, val_main_v28, val_main_cst_5]
  simp only [r27 h]
  rw [f32_128, mean_coe]

theorem r33 (t : Fin 8192) (p : Fin 8) (q : Fin 128) : val_main_v33 (F := Ideal) x0 x1 x2 x3 (ix3 t p q) = (cent (convd CV CG W B p t) q : EReal) := by
  pointwise [val_main_v33, val_main_v32]
  rw [r27 h, r31 h, ← EReal.coe_sub]
  rfl

theorem r40 (t : Fin 8192) (p : Fin 8) : val_main_v40 (F := Ideal) x0 x1 x2 x3 (ix3 t p 0) = (vari (convd CV CG W B p t) + eps : ℝ) := by
  pointwise [val_main_v40, val_main_v39, val_main_v38, val_main_v37, val_main_v36, val_main_v35, val_main_v34, val_main_cst_7, val_main_cst_8, val_main_cst_9]
  simp only [r33 h, ← EReal.coe_mul]
  rw [f32_128, mean_coe, f32_eps, ← EReal.coe_add]
  rfl

theorem r41 (t : Fin 8192) (p : Fin 8) : val_main_v41 (F := Ideal) x0 x1 x2 x3 (ix3 t p 0) = (rstd (convd CV CG W B p t) : EReal) := by
  pointwise [val_main_v41]
  rw [r40 h, rstd_coe]

theorem r44 (t : Fin 8192) (p : Fin 8) : val_main_v44 (F := Ideal) x0 x1 x2 x3 (ix3 t p 0) = (slope (convd CV CG W B p t) : EReal) := by
  pointwise [val_main_v44, val_main_v43, val_main_cst_10, val_main_v42]
  rw [r41 h, r40 h, f32_mhalf, coe_div (vari_pos _).ne', ← EReal.coe_mul]
  rfl

theorem r46 (t : Fin 8192) (p : Fin 8) (q : Fin 128) : val_main_v46 (F := Ideal) x0 x1 x2 x3 (ix3 t p q) = (xhat (convd CV CG W B p t) q : EReal) := by
  pointwise [val_main_v46, val_main_v45]
  rw [r33 h, r41 h, ← EReal.coe_mul]
  rfl

theorem r47 (t : Fin 8192) (p : Fin 8) (q : Fin 128) : val_main_v47 (F := Ideal) x0 x1 x2 x3 (ix2 t (lane p q)) = (xhat (convd CV CG W B p t) q : EReal) := by
  rw [val_main_v47_apply, ← r46 h]
  refine congrArg _ (funext fun a => ?_)
  match a with
  | 0 => exact Fin.ext (by show (t.val * 1024 + (p.val * 128 + q.val)) / (8 * 128) = t.val; omega)
  | 1 => exact Fin.ext (by show (t.val * 1024 + (p.val * 128 + q.val)) / 128 % 8 = p.val; omega)
  | 2 => exact Fin.ext (by show (t.val * 1024 + (p.val * 128 + q.val)) % 128 = q.val; omega)

theorem r53 (t : Fin 8192) (p : Fin 8) (q : Fin 128) :
    val_main_v53 (F := Ideal) x0 x1 x2 x3 x4 x5 (ix2 t (lane p q)) = (gn (part1 G p) (part1 O p) (convd CV CG W B p t) q : EReal) := by
  pointwise [val_main_v53, val_main_v52, val_main_v51, val_main_v50, val_main_v49, val_main_v48]
  rw [r47 h, h.g, h.o, ← EReal.coe_mul, ← EReal.coe_add]
  rfl

/-- The normalised convolution. -/
theorem r105 (t : Fin 8192) (p : Fin 8) (q : Fin 128) : val_main_v105 (F := Ideal) x0 x1 x2 x3 x4 x5 (ix2 t (lane p q)) = (normed CV CG W B G O p t q : EReal) := by
  pointwise [val_main_v105, val_main_v54_0, val_main_v54_2, val_main_call1_v4, val_main_call1_v3, val_main_call1_v2, val_main_call1_v1, val_main_call1_v0, val_main_call1_cst, val_main_call1_cst_0]
  rw [r53 h, ← EReal.coe_one, host_logistic_coe, ← EReal.coe_mul]
  rfl

theorem r55 (t : Fin 8192) (p : Fin 8) (q : Fin 128) : val_main_v55 (F := Ideal) x0 x1 x2 x3 x4 x5 x6 (ix2 t (lane p q)) = (dnorm CV CG W B G O CT p t q : EReal) := by
  pointwise [val_main_v55, val_main_call2_v2, val_main_call2_v1, val_main_call2_v0, val_main_v54_1, val_main_v54_2, val_main_call1_v7, val_main_call1_v6, val_main_call1_v4, val_main_call1_v3, val_main_call1_v2, val_main_call1_v1, val_main_call1_v0, val_main_call1_cst, val_main_call1_cst_0, val_main_call1_cst_1]
  rw [r53 h, h.t, ← EReal.coe_one, host_logistic_coe]
  simp only [← EReal.coe_mul, ← EReal.coe_sub, ← EReal.coe_add]
  refine congrArg Real.toEReal ?_
  unfold dnorm dgn part
  ring

theorem r65 (t : Fin 8192) (p : Fin 8) (q : Fin 128) :
    val_main_v65 (F := Ideal) x0 x1 x2 x3 x4 x5 x6 (ix3 t p q) = (dxh (part1 G p) (part1 O p) (part CT p t) (convd CV CG W B p t) q : EReal) := by
  have e : val_main_v63 (F := Ideal) x0 x1 x2 x3 x4 x5 x6 (ix2 t (lane p q)) = (dxh (part1 G p) (part1 O p) (part CT p t) (convd CV CG W B p t) q : EReal) := by
    pointwise [val_main_v63, val_main_v62, val_main_v48]
    rw [r55 h, h.g, ← EReal.coe_mul]
    rfl
  rw [val_main_v65_apply, ← e]
  refine congrArg _ (funext fun a => ?_)
  match a with
  | 0 => exact Fin.ext (by show ((t.val * 8 + p.val) * 128 + q.val) / 1024 = t.val; omega)
  | 1 => exact Fin.ext (by show ((t.val * 8 + p.val) * 128 + q.val) % 1024 = p.val * 128 + q.val; omega)

theorem r79 (t : Fin 8192) (p : Fin 8) (q : Fin 128) :
    val_main_v79 (F := Ideal) x0 x1 x2 x3 x4 x5 x6 (ix3 t p q) = (back (dxh (part1 G p) (part1 O p) (part CT p t) (convd CV CG W B p t)) (convd CV CG W B p t) q : EReal) := by
  pointwise [val_main_v79, val_main_v78, val_main_v77, val_main_v76, val_main_v75, val_main_v74, val_main_v73, val_main_v72, val_main_v71, val_main_v70, val_main_v69, val_main_v68, val_main_v67, val_main_v66, val_main_cst_15, val_main_cst_16, val_main_cst_17]
  simp only [Fin.sum_univ_one, r65 h, r41 h, r33 h, r44 h, f32_128, ← EReal.coe_mul, ← coe_sum]
  rw [coe_div (by norm_num)]
  simp only [← EReal.coe_mul, ← EReal.coe_add]
  rfl

theorem r87 (t : Fin 8192) (p : Fin 8) (q : Fin 128) : val_main_v87 (F := Ideal) x0 x1 x2 x3 x4 x5 x6 (ix3 t p q) = (dconv CV CG W B G O CT p t q : EReal) := by
  pointwise [val_main_v87, val_main_v86, val_main_v85, val_main_cst_20, val_main_v84, val_main_v83, val_main_cst_19, val_main_v81, val_main_v82, val_main_cst_18, val_main_v80]
  simp only [Fin.sum_univ_one, r79 h, f32_128, ← EReal.coe_neg]
  rw [mean_coe, ← EReal.coe_add]
  refine congrArg Real.toEReal (Eq.trans ?_ (back_eq _ _ q))
  refine congrArg₂ (· + ·) rfl ?_
  unfold mean
  rw [Finset.sum_neg_distrib, neg_div]

theorem r88 (t : Fin 8192) (p : Fin 8) (q : Fin 128) : val_main_v88 (F := Ideal) x0 x1 x2 x3 x4 x5 x6 (ix2 t (lane p q)) = (dconv CV CG W B G O CT p t q : EReal) := by
  rw [val_main_v88_apply, ← r87 h]
  refine congrArg _ (funext fun a => ?_)
  match a with
  | 0 => exact Fin.ext (by show (t.val * 1024 + (p.val * 128 + q.val)) / (8 * 128) = t.val; omega)
  | 1 => exact Fin.ext (by show (t.val * 1024 + (p.val * 128 + q.val)) / 128 % 8 = p.val; omega)
  | 2 => exact Fin.ext (by show (t.val * 1024 + (p.val * 128 + q.val)) % 128 = q.val; omega)

/-- The gradients of the offset, the gain and the bias, -/
theorem r112 (p : Fin 8) (i : Fin 1) (q : Fin 128) : val_main_v112 (F := Ideal) x0 x1 x2 x3 x4 x5 x6 (ix2 i (lane p q)) = (gGb CV CG W B G O CT p i q : EReal) := by
  obtain rfl : i = 0 := Subsingleton.elim _ _
  pointwise [val_main_v112, val_main_v58, val_main_cst_12, val_main_v57, val_main_v56, val_main_cst_11]
  simp only [Fin.sum_univ_one, r55 h]
  rw [← coe_sum]
  rfl

theorem r111 (p : Fin 8) (i : Fin 1) (q : Fin 128) : val_main_v111 (F := Ideal) x0 x1 x2 x3 x4 x5 x6 (ix2 i (lane p q)) = (gGg CV CG W B G O CT p i q : EReal) := by
  obtain rfl : i = 0 := Subsingleton.elim _ _
  pointwise [val_main_v111, val_main_v64, val_main_cst_14, val_main_v61, val_main_v60, val_main_cst_13, val_main_v59]
  simp only [Fin.sum_univ_one, r55 h, r47 h, ← EReal.coe_mul]
  rw [← coe_sum]
  exact congrArg Real.toEReal (Finset.sum_congr rfl fun t _ => mul_comm _ _)

theorem r110 (p : Fin 8) (i : Fin 1) (q : Fin 128) : val_main_v110 (F := Ideal) x0 x1 x2 x3 x4 x5 x6 (ix2 i (lane p q)) = (gB CV CG W B G O CT p i q : EReal) := by
  obtain rfl : i = 0 := Subsingleton.elim _ _
  pointwise [val_main_v110, val_main_v91, val_main_cst_22, val_main_v90, val_main_v89, val_main_cst_21]
  simp only [Fin.sum_univ_one, r88 h]
  rw [← coe_sum]
  rfl

/-- of the taps' weights, -/
theorem r98 (p : Fin 8) (k : Fin 31) (q : Fin 128) :
    val_main_v98 (F := Ideal) x0 x1 x2 x3 x4 x5 x6 (ix2 k (lane p q)) = (dw (dconv CV CG W B G O CT p) (input CV CG p) k q : EReal) := by
  pointwise [val_main_v98, val_main_cst_24, val_main_v97, val_main_v96, val_main_cst_23, val_main_v95, val_main_v92]
  simp only [Fin.sum_univ_one, r88 h, r19 h, ← EReal.coe_mul]
  rw [← coe_sum]
  rfl

theorem r109 (p : Fin 8) (k : Fin 32) (q : Fin 128) : val_main_v109 (F := Ideal) x0 x1 x2 x3 x4 x5 x6 (ix2 k (lane p q)) = (gW CV CG W B G O CT p k q : EReal) := by
  pointwise [val_main_v109, val_main_v108, val_main_cst_26]
  by_cases hk : k.val < 31
  · have e : gW CV CG W B G O CT p k q = dw (dconv CV CG W B G O CT p) (input CV CG p) ⟨k.val, hk⟩ q := dif_pos hk
    rw [dif_pos hk, e]
    exact r98 h p ⟨k.val, hk⟩ q
  · have e : gW CV CG W B G O CT p k q = 0 := dif_neg hk
    rw [dif_neg hk, e]
    rfl

/-- and of the convolution's input and of its two halves. -/
theorem r101 (p : Fin 8) (s : Fin 8192) (q : Fin 128) :
    val_main_v101 (F := Ideal) x0 x1 x2 x3 x4 x5 x6 (ix2 s (lane p q)) = (dx (dconv CV CG W B G O CT p) (part W p) s q : EReal) := by
  pointwise [val_main_v101, val_main_cst_25, val_main_v100, val_main_v99, val_main_v94, val_main_v93, val_main_v92, val_main_v20]
  simp only [r88 h, r17, h.w, ← EReal.coe_mul, ← coe_sum]
  refine congrArg Real.toEReal (Finset.sum_congr rfl fun k _ => ?_)
  rw [← pick_below, Finset.mul_sum]
  refine Finset.sum_congr rfl fun t _ => ?_
  rw [if_congr (show s.val + 30 = t.val + k.val ↔ s.val + (30 - k.val) = t.val by omega) rfl rfl, mul_assoc]
  rfl

theorem r106 (p : Fin 8) (s : Fin 8192) (q : Fin 128) : val_main_v106 (F := Ideal) x0 x1 x2 x3 x4 x5 x6 (ix2 s (lane p q)) = (gV CV CG W B G O CT p s q : EReal) := by
  pointwise [val_main_v106, val_main_v103]
  rw [r101 h, r5 h, ← EReal.coe_mul]
  rfl

theorem r107 (p : Fin 8) (s : Fin 8192) (q : Fin 128) : val_main_v107 (F := Ideal) x0 x1 x2 x3 x4 x5 x6 (ix2 s (lane p q)) = (gG CV CG W B G O CT p s q : EReal) := by
  pointwise [val_main_v107, val_main_v104, val_main_v102, val_main_v8, val_main_v7, val_main_v6, val_main_cst_1]
  rw [r101 h, r5 h, h.v, ← EReal.coe_one, ← EReal.coe_sub, ← EReal.coe_mul, ← EReal.coe_mul, ← EReal.coe_mul]
  refine congrArg Real.toEReal ?_
  unfold gG dgate part
  ring

end Cert.Conv31Ref

end
-- ==== Proof.Conv31Claim.lean ====
module

public import proofs.«01_k».proof.Defs
public import proofs.«01_k».proof.Proof.Reals
public import proofs.«01_k».proof.Proof.Conv31Value
public import proofs.«01_k».proof.Proof.Conv31Ref
public import proofs.«01_k».proof.Proof.Gen.Conv31
public import proofs.«01_k».proof.Proof.Gen.Pre_finite_conv31
public import proofs.«01_k».proof.Proof.Gen.Conv31RefIdeal.Run

/-! The claims about the convolution with thirty-one taps and its normalisation. -/

@[expose] public section

set_option maxRecDepth 16384

noncomputable section

namespace Cert.Conv31Claim

open Idealize.ShloMosaic Idealize.ShloMosaic.TcCoe Idealize.SL.Sem Cert.Reals Cert.Conv31Lanes

set_option maxHeartbeats 0 in
/-- No operation was rewritten: at the bits the two prints have the same kernel bodies. -/
theorem bodies : Cert.Conv31.defs₀ (F := Bits) = Cert.Conv31Ideal.defs₀ (F := Bits) := by
  unfold Cert.Conv31.defs₀ Cert.Conv31Ideal.defs₀
  refine congrArg Defs.onTc ?_
  funext x y
  match x, y with
  | 0, (t, s) => rfl
  | 1, (t, s) => rfl

set_option maxHeartbeats 0 in
theorem programs : Cert.Conv31.defs (F := Bits) = Cert.Conv31Ideal.defs (F := Bits) :=
  congrArg (Pipeline.defs Cert.Conv31.pcfgs) bodies

set_option maxHeartbeats 0 in
theorem frame : Cert.quiescent_Conv31 := fun m ρ _ => by
  rw [programs]
  exact Conv31Run.frame m ρ
theorem frame_ideal : Cert.quiescent_Conv31Ideal := fun m ρ _ => Conv31Run.frame m ρ
theorem frame_ideal_pre : Cert.quiescent_Conv31Ideal_pre_finite_conv31 := fun m ρ _ => Conv31Run.frame m ρ

theorem frame_ref : Cert.quiescent_Conv31RefIdeal := fun m ρ _ =>
  (θ_run Cert.Conv31RefIdeal.defs _ _).mono (fun r h => ⟨fun c => (h c).2.2.2.2.2.2.2, sem_eq_zero_of_no_sems (by decide) r.2⟩)
    (Cert.Conv31RefIdeal.Value.run (F := Ideal) m ρ)
theorem frame_ref_pre : Cert.quiescent_Conv31RefIdeal_pre_finite_conv31 := fun m ρ _ => frame_ref m ρ trivial

/-- An array of reals by its rows and lanes. -/
theorem lift2 {n k : ℕ} {f : (Rows.Mat n k).Idx → EReal} (h : IsReal f) : ∃ r : Fin n → Fin k → ℝ, ∀ t a, f (ix2 t a) = (r t a : EReal) := by
  obtain ⟨r, rfl⟩ := h.lift
  exact ⟨fun t a => r (ix2 t a), fun _ _ => rfl⟩
theorem lift1 {f : (⟨1, ![1024]⟩ : Shape).Idx → EReal} (h : IsReal f) : ∃ r : Vec1, ∀ a, f (ix1 a) = (r a : EReal) := by
  obtain ⟨r, rfl⟩ := h.lift
  exact ⟨fun a => r (ix1 a), fun _ => rfl⟩

theorem algebraic : Cert.algebraic_Conv31Ideal_Conv31RefIdeal_pre_finite_conv31 := by
  intro m g m' g' hp hm
  have real : ∀ c, ∃ (CV CG : Arr 8192) (W : Arr 31) (B G O : Vec1) (CT : Arr 8192), Conv31Value.Real m c CV CG W B G O CT := by
    intro c
    obtain ⟨p0, p1, p2, p3, p4, p5, p6⟩ := hp c
    obtain ⟨CV, h0⟩ := lift2 (isReal_of_pre _ _ p0 fun _ => rfl)
    obtain ⟨CG, h1⟩ := lift2 (isReal_of_pre _ _ p1 fun _ => rfl)
    obtain ⟨W, h2⟩ := lift2 (isReal_of_pre _ _ p2 fun _ => rfl)
    obtain ⟨B, h3⟩ := lift1 (isReal_of_pre _ _ p3 fun _ => rfl)
    obtain ⟨G, h4⟩ := lift1 (isReal_of_pre _ _ p4 fun _ => rfl)
    obtain ⟨O, h5⟩ := lift1 (isReal_of_pre _ _ p5 fun _ => rfl)
    obtain ⟨CT, h6⟩ := lift2 (isReal_of_pre _ _ p6 fun _ => rfl)
    exact ⟨CV, CG, W, B, G, O, CT, h0, h1, h2, h3, h4, h5, h6⟩
  choose CV CG W B G O CT h using real
  refine ⟨_, _, _, _, _, _, _, Conv31Value.result g h,
    (θ_run Cert.Conv31RefIdeal.defs _ _).mono (fun r k c => ?_) (Cert.Conv31RefIdeal.Value.run (F := Ideal) m' g')⟩
  obtain ⟨e0, e1, e2, e3, e4, e5, e6⟩ := hm c
  have hr : Conv31Ref.Real _ _ _ _ _ _ _ (CV c) (CG c) (W c) (B c) (G c) (O c) (CT c) :=
    ⟨fun t a => (congrFun e0 _).trans ((h c).v t a), fun t a => (congrFun e1 _).trans ((h c).s t a), fun t a => (congrFun e2 _).trans ((h c).w t a),
      fun a => (congrFun e3 _).trans ((h c).b a), fun a => (congrFun e4 _).trans ((h c).g a), fun a => (congrFun e5 _).trans ((h c).o a),
      fun t a => (congrFun e6 _).trans ((h c).t t a)⟩
  obtain ⟨k0, k1, k2, k3, k4, k5, k6, ka⟩ := k c
  exact ⟨k0.trans ((Cert.Conv31RefIdeal.Read.val_main_v105_eq _).trans (eq_spread fun p t q => Conv31Ref.r105 hr t p q)),
    k1.trans ((Cert.Conv31RefIdeal.Read.val_main_v106_eq _).trans (eq_spread fun p t q => Conv31Ref.r106 hr p t q)),
    k2.trans ((Cert.Conv31RefIdeal.Read.val_main_v107_eq _).trans (eq_spread fun p t q => Conv31Ref.r107 hr p t q)),
    k3.trans ((Cert.Conv31RefIdeal.Read.val_main_v109_eq _).trans (eq_spread fun p t q => Conv31Ref.r109 hr p t q)),
    k4.trans ((Cert.Conv31RefIdeal.Read.val_main_v110_eq _).trans (eq_spread fun p t q => Conv31Ref.r110 hr p t q)),
    k5.trans ((Cert.Conv31RefIdeal.Read.val_main_v111_eq _).trans (eq_spread fun p t q => Conv31Ref.r111 hr p t q)),
    k6.trans ((Cert.Conv31RefIdeal.Read.val_main_v112_eq _).trans (eq_spread fun p t q => Conv31Ref.r112 hr p t q)), ka⟩

end Cert.Conv31Claim

end
-- ==== Proof.LayerNorm.lean ====
module

public import proofs.«01_k».proof.Proof.Reals
public import Idealize.ShloMosaic.Lib.Pipeline.ValueKit

/-! The layer norm of a row of 1024 and its gradient, over the reals. -/

@[expose] public section

set_option maxRecDepth 16384

noncomputable section

namespace Cert.LayerNorm

open Cert.Reals Idealize.ShloMosaic

abbrev Row := Fin 1024 → ℝ
abbrev Arr := Fin 8192 → Row

def mean (r : Row) : ℝ := (∑ q, r q) / 1024
def cent (r : Row) : Row := fun q => r q - mean r
def vari (r : Row) : ℝ := mean fun q => cent r q * cent r q
def eps : ℝ := 10995116 / 1099511627776
def rstd (r : Row) : ℝ := (Real.sqrt (vari r + eps))⁻¹
def xhat (r : Row) : Row := fun q => cent r q * rstd r
def ln (g b r : Row) : Row := fun q => xhat r q * g q + b q

/-- The gradient of the row, of the gain and of the offset from that of the norm. -/
def dr (g d r : Row) : Row := fun q =>
  rstd r * (d q * g q - mean (fun l => d l * g l) - xhat r q * mean fun l => d l * g l * xhat r l)
def dg (d r : Arr) : Row := fun q => ∑ t, d t q * xhat (r t) q
def db (d : Arr) : Row := fun q => ∑ t, d t q

/-! The same of reals as extended reals. -/

theorem f32_1024 : Ideal.ofBits .f32 0x44800000#32 = ((1024 : ℝ) : EReal) := by
  simp [Ideal.ofBits, Ideal.ieee, -EReal.coe_mul]; norm_num
/-- The residual's factor. -/
def alpha : ℝ := 11863283 / 8388608
theorem f32_alpha : Ideal.ofBits .f32 0x3FB504F3#32 = (alpha : EReal) := by
  simp [Ideal.ofBits, Ideal.ieee, -EReal.coe_mul, alpha]; norm_num
theorem f32_eps : Ideal.ofBits .f32 0x3727C5AC#32 = (eps : EReal) := by
  simp [Ideal.ofBits, Ideal.ieee, -EReal.coe_mul, eps]; norm_num
theorem f32_mhalf : Ideal.ofBits .f32 0xBF000000#32 = ((-1 / 2 : ℝ) : EReal) := by
  simp [Ideal.ofBits, Ideal.ieee, -EReal.coe_mul]; norm_num

theorem mean_coe (r : Row) : Ideal.div (∑ q : Fin 1024, (r q : EReal)) ((1024 : ℝ) : EReal) = (mean r : EReal) := by
  rw [← coe_sum, coe_div (by norm_num)]; rfl

theorem eps_pos : 0 < eps := by unfold eps; norm_num
theorem vari_nonneg (r : Row) : 0 ≤ vari r := by
  unfold vari mean
  exact div_nonneg (Finset.sum_nonneg fun q _ => mul_self_nonneg _) (by norm_num)
theorem vari_pos (r : Row) : 0 < vari r + eps := add_pos_of_nonneg_of_pos (vari_nonneg r) eps_pos

theorem rstd_coe (r : Row) : Ideal.rsqrt ((vari r + eps : ℝ) : EReal) = (rstd r : EReal) := by
  rw [Ideal.rsqrt_coe, if_neg (not_lt.mpr (vari_pos r).le), if_neg (vari_pos r).ne']; rfl

/-- Sixteen blocks of 512 rows are the 8192 rows. -/
theorem sum_blocks (f : Fin 8192 → ℝ) :
    ∑ t : Fin 16, ((∑ a : Fin 512, f ⟨t.val * 512 + a.val, by omega⟩ : ℝ) : EReal) = ((∑ t, f t : ℝ) : EReal) := by
  rw [← coe_sum]
  exact congrArg Real.toEReal (Fin.sum_mul_add_fin 16 512 f)

/-- An array of reals by its rows and columns. -/
theorem lift2 {n k : ℕ} {f : (⟨2, ![n, k]⟩ : Shape).Idx → EReal} (h : IsReal f) : ∃ r : Fin n → Fin k → ℝ, ∀ t a, f (ix2 t a) = (r t a : EReal) := by
  obtain ⟨r, rfl⟩ := h.lift
  exact ⟨fun t a => r (ix2 t a), fun _ _ => rfl⟩
theorem lift1 {n : ℕ} {f : (⟨1, ![n]⟩ : Shape).Idx → EReal} (h : IsReal f) : ∃ r : Fin n → ℝ, ∀ a, f (ix1 a) = (r a : EReal) := by
  obtain ⟨r, rfl⟩ := h.lift
  exact ⟨fun a => r (ix1 a), fun _ => rfl⟩

/-- Arrays that agree at every row and column. -/
theorem ext2 {n k : ℕ} {f : (⟨2, ![n, k]⟩ : Shape).Idx → EReal} {g : Fin n → Fin k → ℝ} (h : ∀ a b, f (ix2 a b) = (g a b : EReal)) :
    f = fun i => (g (i 0) (i 1) : EReal) := by
  funext i
  obtain ⟨a, b, rfl⟩ : ∃ (a : Fin n) (b : Fin k), i = ix2 a b := ⟨i 0, i 1, eq_ix2 i⟩
  exact h a b

/-! The gradient as differentiation gives it: through the centred row, the variance and the mean. -/

def slope (r : Row) : ℝ := -1 / 2 * (rstd r / (vari r + eps))
def through (h r : Row) : ℝ := (∑ q, cent r q * h q) * slope r / 1024
def back (h r : Row) : Row := fun q => h q * rstd r + cent r q * through h r + through h r * cent r q

theorem mean_cent (r : Row) : ∑ q, cent r q = 0 := by
  unfold cent mean
  rw [Finset.sum_sub_distrib, Finset.sum_const, Finset.card_univ, Fintype.card_fin]
  simp
  ring

theorem mean_neg (r : Row) : (mean fun q => -r q) = -mean r := by
  unfold mean
  rw [Finset.sum_neg_distrib, neg_div]

theorem rstd_sq (r : Row) : rstd r * rstd r = 1 / (vari r + eps) := by
  unfold rstd
  rw [← mul_inv, Real.mul_self_sqrt (vari_pos r).le, one_div]

theorem back_eq (g d r : Row) (q : Fin 1024) : back (fun l => d l * g l) r q + -mean (back (fun l => d l * g l) r) = dr g d r q := by
  have h1 : mean (back (fun l => d l * g l) r) = rstd r * mean fun l => d l * g l := by
    unfold back mean
    have e : ∑ q, (d q * g q * rstd r + cent r q * through (fun l => d l * g l) r + through (fun l => d l * g l) r * cent r q) =
        (∑ q, d q * g q) * rstd r + (∑ q, cent r q) * (2 * through (fun l => d l * g l) r) := by
      rw [Finset.sum_mul, Finset.sum_mul, ← Finset.sum_add_distrib]
      exact Finset.sum_congr rfl fun q _ => by ring
    rw [e, mean_cent]
    ring
  have h2 : (mean fun l => d l * g l * xhat r l) = (∑ l, cent r l * (d l * g l)) * rstd r / 1024 := by
    unfold mean xhat
    rw [Finset.sum_mul]
    congr 1
    exact Finset.sum_congr rfl fun l _ => by ring
  have h3 : slope r = -1 / 2 * (rstd r * (rstd r * rstd r)) := by
    rw [rstd_sq]; unfold slope; ring
  unfold dr
  rw [h1, h2]
  unfold back through xhat
  rw [h3]
  ring

end Cert.LayerNorm

end
-- ==== Proof.LossValue.lean ====
module

public import proofs.«01_k».proof.Proof.Gen.LossIdeal.Value
public import proofs.«01_k».proof.Proof.LayerNorm
public import Idealize.ShloMosaic.Lib.Claim
public import Idealize.ShloMosaic.Lib.Pipeline.ValueKit

@[expose] public section

set_option maxRecDepth 16384

noncomputable section

namespace Cert.LossValue

open Cert.LossIdeal Cert.LossIdeal.Gen Cert.LayerNorm Cert.Reals Idealize.ShloMosaic Idealize.ShloMosaic.TcCoe Idealize.SL.Sem

/-! The norm's gradient on a block of 512 rows: `d` the cotangent, `r` the norm's input, `g` the gain. -/

section
variable {d r : Fin 512 → Row} {g : Row} {V R : S512x1024.Idx → EReal} {G : S1x1024.Idx → EReal}
variable (hV : ∀ a q, V (ix2 a q) = (d a q : EReal)) (hR : ∀ a q, R (ix2 a q) = (r a q : EReal)) (hG : ∀ q, G (ix2 0 q) = (g q : EReal))

include hR in
theorem pay8 (a : Fin 512) (q : Fin 1024) : k0_pay8 (F := Ideal) R (ix2 a q) = (cent (r a) q : EReal) := by
  pointwise [k0_pay8]
  simp only [hR]
  rw [f32_1024, mean_coe, ← EReal.coe_sub]
  rfl

include hR in
theorem pay11 (a : Fin 512) : k0_pay11 (F := Ideal) (k0_pay9 R) k0_pay10 (ix2 a 0) = (rstd (r a) : EReal) := by
  pointwise [k0_pay11, k0_pay9, k0_pay10]
  simp only [pay8 hR, ← EReal.coe_mul]
  rw [f32_1024, mean_coe, f32_eps, ← EReal.coe_add]
  exact rstd_coe (r a)

include hR in
theorem pay12 (a : Fin 512) (q : Fin 1024) : k0_pay12 (F := Ideal) (k0_pay8 R) (k0_pay9 R) k0_pay10 (ix2 a q) = (xhat (r a) q : EReal) := by
  pointwise [k0_pay12]
  rw [pay8 hR, pay11 hR, ← EReal.coe_mul]
  rfl

include hV hR hG in
theorem pay13 (a : Fin 512) (q : Fin 1024) :
    k0_pay13 (F := Ideal) V (k0_pay7 G) (k0_pay8 R) (k0_pay9 R) k0_pay10 (ix2 a q) = (dr g (d a) (r a) q : EReal) := by
  pointwise [k0_pay13, k0_pay7]
  simp only [hV, hG, pay12 hR, pay11 hR, ← EReal.coe_mul]
  rw [f32_1024, mean_coe, mean_coe]
  simp only [← EReal.coe_mul, ← EReal.coe_sub]
  rfl

include hV hR hG in
theorem pay14 (a : Fin 512) (q : Fin 1024) :
    k0_pay14 (F := Ideal) V (k0_pay7 G) (k0_pay8 R) (k0_pay9 R) k0_pay10 (ix2 a q) = (dr g (d a) (r a) q : EReal) := by
  pointwise [k0_pay14]
  exact pay13 hV hR hG a q

include hV hR in
theorem pay15 (A : S1x1024.Idx → EReal) (q : Fin 1024) :
    k0_pay15 (F := Ideal) V (k0_pay8 R) (k0_pay9 R) k0_pay10 A (ix2 0 q) = A (ix2 0 q) + ((∑ a, d a q * xhat (r a) q : ℝ) : EReal) := by
  pointwise [k0_pay15]
  simp only [hV, pay12 hR, ← EReal.coe_mul, ← coe_sum]

include hV in
theorem pay16 (A : S1x1024.Idx → EReal) (q : Fin 1024) :
    k0_pay16 (F := Ideal) V A (ix2 0 q) = A (ix2 0 q) + ((∑ a, d a q : ℝ) : EReal) := by
  pointwise [k0_pay16]
  simp only [hV, ← coe_sum]

end

/-! The loss of a block of rows, and the gradient of the norm's output: `y` the norm, `s` the target. -/

theorem f32_inv : Ideal.ofBits .f32 0x3A800000#32 = ((1 / 1024 : ℝ) : EReal) := by
  simp [Ideal.ofBits, Ideal.ieee, -EReal.coe_mul]; norm_num
theorem f32_half_inv : Ideal.ofBits .f32 0x3A000000#32 = ((1 / 2048 : ℝ) : EReal) := by
  simp [Ideal.ofBits, Ideal.ieee, -EReal.coe_mul]; norm_num

def dy (y s : Row) : Row := fun q => (y q - s q) * (1 / 1024)
def part (y s : Row) : ℝ := ∑ q, (y q - s q) * (y q - s q)

section
variable {y s : Fin 512 → Row} {Y S : S512x1024.Idx → EReal}
variable (hY : ∀ a q, Y (ix2 a q) = (y a q : EReal)) (hS : ∀ a q, S (ix2 a q) = (s a q : EReal))
include hY hS

theorem pay6 (a : Fin 512) (q : Fin 1024) : k0_pay6 (F := Ideal) Y S (ix2 a q) = (dy (y a) (s a) q : EReal) := by
  pointwise [k0_pay6, k0_pay4]
  rw [hY, hS, f32_inv, ← EReal.coe_sub, ← EReal.coe_mul]
  rfl

theorem pay5 (A : S8x128.Idx → EReal) (i : Fin 8) (j : Fin 128) :
    k0_pay5 (F := Ideal) Y S A (ix2 i j) = A (ix2 i j) + ((1 / 2048 * ∑ a, part (y a) (s a) : ℝ) : EReal) := by
  pointwise [k0_pay5, k0_pay4]
  simp only [hY, hS, f32_half_inv, ← EReal.coe_sub, ← EReal.coe_mul, ← coe_sum]
  rfl

end

variable (m : (ℓ : Loc nD τ sig) → Buf (Elt Ideal) ℓ)

/-- The arguments as launched: the norm's input, its gain and offset, and the target. -/
abbrev argR (c : Dev nD) : FVec Ideal S8192x1024 .f32 := m ((c : Thread nD τ).loc main_arg0)
abbrev argG (c : Dev nD) : FVec Ideal S1024 .f32 := m ((c : Thread nD τ).loc main_arg1)
abbrev argB (c : Dev nD) : FVec Ideal S1024 .f32 := m ((c : Thread nD τ).loc main_arg2)
abbrev argT (c : Dev nD) : FVec Ideal S8192x1024 .f32 := m ((c : Thread nD τ).loc main_arg3)

/-- Every argument is the given array of reals. -/
structure Real (c : Dev nD) (X : Arr) (G B : Row) (S : Arr) : Prop where
  r : ∀ t q, argR m c (ix2 t q) = (X t q : EReal)
  g : ∀ q, argG m c (ix1 q) = (G q : EReal)
  b : ∀ q, argB m c (ix1 q) = (B q : EReal)
  t : ∀ t q, argT m c (ix2 t q) = (S t q : EReal)

theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![t.val, 0] ∧ win0_6.index t = ![t.val, 0] ∧
    win0_7.index t = ![0, 0] ∧ win0_8.index t = ![0, 0] :=
  (by decide +kernel : ∀ t : Fin grid0.N, _)

/-- The row of the whole arrays that row `a` of point `t`'s blocks is. -/
def row (t : Fin cfg0.N) (a : Fin 512) : Fin 8192 :=
  ⟨t.val * 512 + a.val, by have : t.val < 16 := t.isLt; omega⟩

variable {m} {c : Dev nD} {X S : Arr} {G B : Row} (h : Real m c X G B S)
include h

theorem iblk0 (t : Fin cfg0.N) (a : Fin 512) (q : Fin 1024) : iblk m c 0 t (ix2 a q) = (ln G B (X (row t a)) q : EReal) := by
  have e : ((View.whole main_v21).slice (win0_0.rect t)).emb (ix2 a q) = ix2 (row t a) q := by blk_ext [idx t, row]
  have hr : ∀ t q, (m (c, Proc.tc.devRef main_arg0) : FVec Ideal S8192x1024 .f32) (ix2 t q) = (X t q : EReal) := h.r
  have hg : ∀ q, (m (c, Proc.tc.devRef main_arg1) : FVec Ideal S1024 .f32) (ix1 q) = (G q : EReal) := h.g
  have hb : ∀ q, (m (c, Proc.tc.devRef main_arg2) : FVec Ideal S1024 .f32) (ix1 q) = (B q : EReal) := h.b
  blk_simp [iblk]; entry_read; pointwise
  rw [e]
  simp only [ix2_0, ix2_1, hr, hg, hb, f32_1024, mean_coe, f32_eps, ← EReal.coe_sub, ← EReal.coe_mul]
  have ev : ((mean fun q => (X (row t a) q - mean (X (row t a))) * (X (row t a) q - mean (X (row t a))) : ℝ) : EReal) + (eps : EReal) =
      ((vari (X (row t a)) + eps : ℝ) : EReal) := (EReal.coe_add _ _).symm
  rw [ev, rstd_coe, ← EReal.coe_mul, ← EReal.coe_mul, ← EReal.coe_add]
  rfl

theorem iblk1 (t : Fin cfg0.N) (a : Fin 512) (q : Fin 1024) : iblk m c 1 t (ix2 a q) = (S (row t a) q : EReal) := by
  rw [← h.t]
  blk_simp [iblk]; entry_read; pointwise; blk_ext [idx t, row]

theorem iblk2 (t : Fin cfg0.N) (a : Fin 512) (q : Fin 1024) : iblk m c 2 t (ix2 a q) = (X (row t a) q : EReal) := by
  rw [← h.r]
  blk_simp [iblk]; entry_read; pointwise; blk_ext [idx t, row]

theorem iblk3 (t : Fin cfg0.N) (q : Fin 1024) : iblk m c 3 t (ix2 0 q) = (G q : EReal) := by
  rw [← h.g]
  blk_simp [iblk]; entry_read; pointwise; blk_ext [idx t, row]

/-- The gradient of the norm's output. -/
abbrev dOut (G B : Row) (X S : Arr) : Arr := fun t => dy (ln G B (X t)) (S t)

theorem dBlk (t : Fin cfg0.N) (a : Fin 512) (q : Fin 1024) :
    k0_pay6 (F := Ideal) (iblk m c 0 t) (iblk m c 1 t) (ix2 a q) = (dOut G B X S (row t a) q : EReal) :=
  pay6 (iblk0 h t) (iblk1 h t) a q

/-! The results: the blocks' rows, and the sums over all points of the blocks' parts. -/

theorem outs5 (t : Fin cfg0.N) (a : Fin 512) (q : Fin 1024) :
    (outsAt0 m c t.val t.isLt).2.1 (ix2 a q) = (dr G (dOut G B X S (row t a)) (X (row t a)) q : EReal) := by
  by_cases h0 : t.val % 16 = 0
  · rw [outsAt0_A m c t h0]; frame_out
    exact pay13 (dBlk h t) (iblk2 h t) (iblk3 h t) a q
  · rw [outsAt0_B m c t h0]; frame_out
    exact pay13 (dBlk h t) (iblk2 h t) (iblk3 h t) a q

theorem outs6 (t : Fin cfg0.N) (a : Fin 512) (q : Fin 1024) :
    (outsAt0 m c t.val t.isLt).2.2.1 (ix2 a q) = (dr G (dOut G B X S (row t a)) (X (row t a)) q : EReal) := by
  by_cases h0 : t.val % 16 = 0
  · rw [outsAt0_A m c t h0]; frame_out
    exact pay14 (dBlk h t) (iblk2 h t) (iblk3 h t) a q
  · rw [outsAt0_B m c t h0]; frame_out
    exact pay14 (dBlk h t) (iblk2 h t) (iblk3 h t) a q

theorem outs4 (t : Fin cfg0.N) (ht : t.val + 1 = cfg0.N) (i : Fin 8) (j : Fin 128) :
    (outsAt0 m c t.val t.isLt).1 (ix2 i j) = ((1 / 2048 * ∑ t, part (ln G B (X t)) (S t) : ℝ) : EReal) := by
  refine (Pipeline.eq_sum_fin_of_reset_step_apply_last (fun n h => fun p : Fin 8 × Fin 128 => (outsAt0 m c n h).1 (ix2 p.1 p.2)) 16 (fun _ => 0)
    (fun t _ => ((∑ a, 1 / 2048 * part (ln G B (X (row t a))) (S (row t a)) : ℝ) : EReal)) ?_ ?_ (le_of_eq N_0) t ht (i, j)).trans ?_
  · intro t h0 p
    rw [outsAt0_A m c t h0]; frame_out
    rw [pay5 (iblk0 h t) (iblk1 h t), Finset.mul_sum]
    exact congrArg₂ (· + ·) (by pointwise [k0_pay1]) rfl
  · intro t h0 p
    rw [outsAt0_B m c t h0]; frame_out
    rw [pay5 (iblk0 h t) (iblk1 h t), Finset.mul_sum]
  · rw [zero_add, Finset.mul_sum]
    exact sum_blocks fun t => 1 / 2048 * part (ln G B (X t)) (S t)

theorem outs7 (t : Fin cfg0.N) (ht : t.val + 1 = cfg0.N) (q : Fin 1024) :
    (outsAt0 m c t.val t.isLt).2.2.2.1 (ix2 0 q) = (dg (dOut G B X S) X q : EReal) := by
  refine (Pipeline.eq_sum_fin_of_reset_step_apply_last (fun n h q => (outsAt0 m c n h).2.2.2.1 (ix2 0 q)) 16 (fun _ => 0)
    (fun t q => ((∑ a, dOut G B X S (row t a) q * xhat (X (row t a)) q : ℝ) : EReal)) ?_ ?_ (le_of_eq N_0) t ht q).trans ?_
  · intro t h0 q
    rw [outsAt0_A m c t h0]; frame_out
    rw [pay15 (dBlk h t) (iblk2 h t)]
    exact congrArg₂ (· + ·) (by pointwise [k0_pay2]) rfl
  · intro t h0 q
    rw [outsAt0_B m c t h0]; frame_out
    rw [pay15 (dBlk h t) (iblk2 h t)]
  · rw [zero_add]
    exact sum_blocks fun t => dOut G B X S t q * xhat (X t) q

theorem outs8 (t : Fin cfg0.N) (ht : t.val + 1 = cfg0.N) (q : Fin 1024) :
    (outsAt0 m c t.val t.isLt).2.2.2.2 (ix2 0 q) = (db (dOut G B X S) q : EReal) := by
  refine (Pipeline.eq_sum_fin_of_reset_step_apply_last (fun n h q => (outsAt0 m c n h).2.2.2.2 (ix2 0 q)) 16 (fun _ => 0)
    (fun t q => ((∑ a, dOut G B X S (row t a) q : ℝ) : EReal)) ?_ ?_ (le_of_eq N_0) t ht q).trans ?_
  · intro t h0 q
    rw [outsAt0_A m c t h0]; frame_out
    rw [pay16 (dBlk h t)]
    exact congrArg₂ (· + ·) (by pointwise [k0_pay3]) rfl
  · intro t h0 q
    rw [outsAt0_B m c t h0]; frame_out
    rw [pay16 (dBlk h t)]
  · rw [zero_add]
    exact sum_blocks fun t => dOut G B X S t q

/-! The whole results. -/

theorem final4 : (dats m 0 c).arrAt 4 cfg0.N = fun _ => ((1 / 2048 * ∑ t, part (ln G B (X t)) (S t) : ℝ) : EReal) := by
  refine (dats m 0 c).arrAt_eq_of_covers 4 _ (by decide +kernel) fun t hf y => ?_
  have ht : t.val + 1 = cfg0.N := by have h1 := (flush0_4 t).mp hf; have h2 : t.val < 16 := t.isLt; show t.val + 1 = 16; omega
  blk_simp
  rw [after0_4]
  obtain ⟨a, b, rfl⟩ : ∃ (a : Fin 8) (b : Fin 128), y = ix2 a b := ⟨y 0, y 1, eq_ix2 y⟩
  exact outs4 h t ht a b

theorem final5 : (dats m 0 c).arrAt 5 cfg0.N = fun i : S8192x1024.Idx => (dr G (dOut G B X S (i 0)) (X (i 0)) (i 1) : EReal) := by
  refine (dats m 0 c).arrAt_eq_of_covers 5 _ (by decide +kernel) fun t _ y => ?_
  blk_simp
  rw [after0_5]
  obtain ⟨a, b, rfl⟩ : ∃ (a : Fin 512) (b : Fin 1024), y = ix2 a b := ⟨y 0, y 1, eq_ix2 y⟩
  have e : ((cfg0.win 5).blk t).view.emb (ix2 a b) = ix2 (row t a) b := by blk_ext [idx t, row]
  rw [outs5 h]
  exact (congrArg (fun i : S8192x1024.Idx => (dr G (dOut G B X S (i 0)) (X (i 0)) (i 1) : EReal)) e).symm

theorem final6 : (dats m 0 c).arrAt 6 cfg0.N = fun i : S8192x1024.Idx => (dr G (dOut G B X S (i 0)) (X (i 0)) (i 1) : EReal) := by
  refine (dats m 0 c).arrAt_eq_of_covers 6 _ (by decide +kernel) fun t _ y => ?_
  blk_simp
  rw [after0_6]
  obtain ⟨a, b, rfl⟩ : ∃ (a : Fin 512) (b : Fin 1024), y = ix2 a b := ⟨y 0, y 1, eq_ix2 y⟩
  have e : ((cfg0.win 6).blk t).view.emb (ix2 a b) = ix2 (row t a) b := by blk_ext [idx t, row]
  rw [outs6 h]
  exact (congrArg (fun i : S8192x1024.Idx => (dr G (dOut G B X S (i 0)) (X (i 0)) (i 1) : EReal)) e).symm

theorem final7 : (dats m 0 c).arrAt 7 cfg0.N = fun i : S1x1024.Idx => (dg (dOut G B X S) X (i 1) : EReal) := by
  refine (dats m 0 c).arrAt_eq_of_covers 7 _ (by decide +kernel) fun t hf y => ?_
  have ht : t.val + 1 = cfg0.N := by have h1 := (flush0_7 t).mp hf; have h2 : t.val < 16 := t.isLt; show t.val + 1 = 16; omega
  blk_simp
  rw [after0_7]
  obtain ⟨a, b, rfl⟩ : ∃ (a : Fin 1) (b : Fin 1024), y = ix2 a b := ⟨y 0, y 1, eq_ix2 y⟩
  obtain rfl : a = 0 := Subsingleton.elim _ _
  have e : ((cfg0.win 7).blk t).view.emb (ix2 (0 : Fin 1) b) = ix2 0 b := by blk_ext [idx t]
  rw [outs7 h t ht]
  exact (congrArg (fun i : S1x1024.Idx => (dg (dOut G B X S) X (i 1) : EReal)) e).symm

theorem final8 : (dats m 0 c).arrAt 8 cfg0.N = fun i : S1x1024.Idx => (db (dOut G B X S) (i 1) : EReal) := by
  refine (dats m 0 c).arrAt_eq_of_covers 8 _ (by decide +kernel) fun t hf y => ?_
  have ht : t.val + 1 = cfg0.N := by have h1 := (flush0_8 t).mp hf; have h2 : t.val < 16 := t.isLt; show t.val + 1 = 16; omega
  blk_simp
  rw [after0_8]
  obtain ⟨a, b, rfl⟩ : ∃ (a : Fin 1) (b : Fin 1024), y = ix2 a b := ⟨y 0, y 1, eq_ix2 y⟩
  obtain rfl : a = 0 := Subsingleton.elim _ _
  have e : ((cfg0.win 8).blk t).view.emb (ix2 (0 : Fin 1) b) = ix2 0 b := by blk_ext [idx t]
  rw [outs8 h t ht]
  exact (congrArg (fun i : S1x1024.Idx => (db (dOut G B X S) (i 1) : EReal)) e).symm

end Cert.LossValue

end
-- ==== Proof.LossRef.lean ====
module

public import proofs.«01_k».proof.Proof.Gen.LossRefIdeal.Read
public import proofs.«01_k».proof.Proof.LayerNorm

@[expose] public section

set_option maxRecDepth 16384

noncomputable section

/-! The reference's loss and gradients, a row at a time. -/

namespace Cert.LossRef

open Cert.LossRefIdeal Cert.LossRefIdeal.Gen Cert.LossRefIdeal.Read Cert.LayerNorm Cert.Reals
open Idealize.ShloMosaic Idealize.ShloMosaic.TcCoe

theorem f32_two : Ideal.ofBits .f32 0x40000000#32 = ((2 : ℝ) : EReal) := by
  simp [Ideal.ofBits, Ideal.ieee, -EReal.coe_mul]; norm_num
abbrev A2 := (⟨S8192x1024, .f32⟩ : BufTy).Contents (Elt Ideal)
abbrev A1 := (⟨S1024, .f32⟩ : BufTy).Contents (Elt Ideal)

/-! The stages of the norm itself. -/

section
variable {x0 : A2} {X : Arr} (hx : ∀ t q, x0 (ix2 t q) = (X t q : EReal))
include hx

theorem r3 (t : Fin 8192) : val_main_v3 (F := Ideal) x0 (ix2 t 0) = (mean (X t) : EReal) := by
  pointwise [val_main_v3, val_main_v2, val_main_v1, val_main_v0, val_main_cst, val_main_cst_0]
  simp only [hx]
  rw [f32_1024, mean_coe]

theorem r5 (t : Fin 8192) (q : Fin 1024) : val_main_v5 (F := Ideal) x0 (ix2 t q) = (cent (X t) q : EReal) := by
  pointwise [val_main_v5, val_main_v4]
  rw [hx, r3 hx, ← EReal.coe_sub]
  rfl

theorem r12 (t : Fin 8192) : val_main_v12 (F := Ideal) x0 (ix2 t 0) = (vari (X t) + eps : ℝ) := by
  pointwise [val_main_v12, val_main_v11, val_main_v10, val_main_v9, val_main_v8, val_main_v7, val_main_v6, val_main_cst_1, val_main_cst_2, val_main_cst_3]
  simp only [r5 hx, ← EReal.coe_mul]
  rw [f32_1024, mean_coe, f32_eps, ← EReal.coe_add]
  rfl

theorem r13 (t : Fin 8192) : val_main_v13 (F := Ideal) x0 (ix2 t 0) = (rstd (X t) : EReal) := by
  pointwise [val_main_v13]
  rw [r12 hx, rstd_coe]

theorem r16 (t : Fin 8192) : val_main_v16 (F := Ideal) x0 (ix2 t 0) = (slope (X t) : EReal) := by
  pointwise [val_main_v16, val_main_v15, val_main_cst_4, val_main_v14]
  rw [r13 hx, r12 hx, f32_mhalf, coe_div (vari_pos _).ne', ← EReal.coe_mul]
  rfl

theorem r18 (t : Fin 8192) (q : Fin 1024) : val_main_v18 (F := Ideal) x0 (ix2 t q) = (xhat (X t) q : EReal) := by
  pointwise [val_main_v18, val_main_v17]
  rw [r5 hx, r13 hx, ← EReal.coe_mul]
  rfl

theorem r24 {x1 x2 : A1} {G B : Row} (hg : ∀ q, x1 (ix1 q) = (G q : EReal)) (hb : ∀ q, x2 (ix1 q) = (B q : EReal)) (t : Fin 8192) (q : Fin 1024) :
    val_main_v24 (F := Ideal) x0 x1 x2 (ix2 t q) = (ln G B (X t) q : EReal) := by
  pointwise [val_main_v24, val_main_v23, val_main_v22, val_main_v21, val_main_v20, val_main_v19]
  rw [r18 hx, hg, hb, ← EReal.coe_mul, ← EReal.coe_add]
  rfl

end

/-- Every argument is the given array of reals. -/
structure Real (x0 : A2) (x1 x2 : A1) (x3 : A2) (X : Arr) (G B : Row) (S : Arr) : Prop where
  r : ∀ t q, x0 (ix2 t q) = (X t q : EReal)
  g : ∀ q, x1 (ix1 q) = (G q : EReal)
  b : ∀ q, x2 (ix1 q) = (B q : EReal)
  t : ∀ t q, x3 (ix2 t q) = (S t q : EReal)

/-- The gradient of the norm's output. -/
abbrev dOut (G B : Row) (X S : Arr) : Arr := fun t q => (ln G B (X t) q - S t q) * (1 / 1024)

variable {x0 x3 : A2} {x1 x2 : A1} {X S : Arr} {G B : Row} (h : Real x0 x1 x2 x3 X G B S)
include h

theorem r25 (t : Fin 8192) (q : Fin 1024) : val_main_v25 (F := Ideal) x0 x1 x2 x3 (ix2 t q) = (ln G B (X t) q - S t q : ℝ) := by
  pointwise [val_main_v25]
  rw [r24 h.r h.g h.b, h.t, ← EReal.coe_sub]

/-- The loss. -/
theorem r71 (i : Fin 8) (j : Fin 128) : val_main_v71 (F := Ideal) x0 x1 x2 x3 (ix2 i j) =
    ((1 / 2048 * ∑ t, ∑ q, (ln G B (X t) q - S t q) * (ln G B (X t) q - S t q) : ℝ) : EReal) := by
  pointwise [val_main_v71, val_main_v33, val_main_cst_9, val_main_v32, val_main_cst_8, val_main_v31, val_main_v30, val_main_cst_7, val_main_v29, val_main_cst_6, val_main_v26]
  simp only [r25 h, half_f32, f32_1024, ← EReal.coe_mul, mean_coe]
  rw [← coe_sum, ← EReal.coe_mul]
  refine congrArg Real.toEReal ?_
  simp only [mean]
  rw [← Finset.sum_div]
  ring

theorem r39 (t : Fin 8192) (q : Fin 1024) : val_main_v39 (F := Ideal) x0 x1 x2 x3 (ix2 t q) = (dOut G B X S t q : EReal) := by
  pointwise [val_main_v39, val_main_v38, val_main_v37, val_main_v36, val_main_cst_12, val_main_v35, val_main_v34, val_main_cst_11, val_main_cst_10, val_main_v28, val_main_v27, val_main_cst_5]
  rw [r25 h, half_f32, f32_1024, f32_two, coe_div (by norm_num), ← EReal.coe_mul, ← EReal.coe_mul]
  refine congrArg Real.toEReal ?_
  unfold dOut
  ring

/-- The gradients of the offset and of the gain, -/
theorem r74 (i : Fin 1) (q : Fin 1024) : val_main_v74 (F := Ideal) x0 x1 x2 x3 (ix2 i q) = (db (dOut G B X S) q : EReal) := by
  obtain rfl : i = 0 := Subsingleton.elim _ _
  pointwise [val_main_v74, val_main_v42, val_main_cst_14, val_main_v41, val_main_v40, val_main_cst_13]
  simp only [Fin.sum_univ_one, r39 h]
  rw [← coe_sum]
  rfl

theorem r73 (i : Fin 1) (q : Fin 1024) : val_main_v73 (F := Ideal) x0 x1 x2 x3 (ix2 i q) = (dg (dOut G B X S) X q : EReal) := by
  obtain rfl : i = 0 := Subsingleton.elim _ _
  pointwise [val_main_v73, val_main_v48, val_main_cst_16, val_main_v45, val_main_v44, val_main_cst_15, val_main_v43]
  simp only [Fin.sum_univ_one, r39 h, r18 h.r, ← EReal.coe_mul]
  rw [← coe_sum]
  exact congrArg Real.toEReal (Finset.sum_congr rfl fun t _ => mul_comm _ _)

/-- and of the norm's input. -/
theorem r47 (t : Fin 8192) (q : Fin 1024) : val_main_v47 (F := Ideal) x0 x1 x2 x3 (ix2 t q) = (dOut G B X S t q * G q : ℝ) := by
  pointwise [val_main_v47, val_main_v46, val_main_v19]
  rw [r39 h, h.g, ← EReal.coe_mul]

theorem r62 (t : Fin 8192) (q : Fin 1024) :
    val_main_v62 (F := Ideal) x0 x1 x2 x3 (ix2 t q) = (back (fun l => dOut G B X S t l * G l) (X t) q : EReal) := by
  pointwise [val_main_v62, val_main_v61, val_main_v60, val_main_v59, val_main_v58, val_main_v57, val_main_cst_19, val_main_v56, val_main_v55, val_main_cst_18, val_main_v54, val_main_v53, val_main_v52, val_main_v51, val_main_v50, val_main_cst_17, val_main_v49]
  simp only [Fin.sum_univ_one, r47 h, r13 h.r, r5 h.r, r16 h.r, f32_1024, ← EReal.coe_mul, ← coe_sum]
  rw [coe_div (by norm_num)]
  simp only [← EReal.coe_mul, ← EReal.coe_add]
  rfl

theorem r70 (t : Fin 8192) (q : Fin 1024) : val_main_v70 (F := Ideal) x0 x1 x2 x3 (ix2 t q) = (dr G (dOut G B X S t) (X t) q : EReal) := by
  pointwise [val_main_v70, val_main_v69, val_main_v68, val_main_cst_22, val_main_v67, val_main_v66, val_main_cst_21, val_main_v65, val_main_v64, val_main_cst_20, val_main_v63]
  simp only [Fin.sum_univ_one, r62 h, f32_1024, ← EReal.coe_neg]
  rw [mean_coe, ← EReal.coe_add, mean_neg]
  exact congrArg Real.toEReal (back_eq _ _ _ q)

theorem r72 (t : Fin 8192) (q : Fin 1024) : val_main_v72 (F := Ideal) x0 x1 x2 x3 (ix2 t q) = (dr G (dOut G B X S t) (X t) q : EReal) := by
  pointwise [val_main_v72]
  exact r70 h t q

end Cert.LossRef

end
-- ==== Proof.LossClaim.lean ====
module

public import proofs.«01_k».proof.Defs
public import proofs.«01_k».proof.Proof.LossValue
public import proofs.«01_k».proof.Proof.LossRef
public import proofs.«01_k».proof.Proof.Gen.Loss.Frame
public import proofs.«01_k».proof.Proof.Gen.Pre_finite_loss
public import proofs.«01_k».proof.Proof.Gen.LossRefIdeal.Run

/-! The claims about the loss and the last norm's gradient. -/

@[expose] public section

set_option maxRecDepth 16384

noncomputable section

namespace Cert.LossClaim

open Idealize.ShloMosaic Idealize.ShloMosaic.TcCoe Idealize.SL.Sem Cert.Reals Cert.LayerNorm

theorem frame : Cert.quiescent_Loss := fun m ρ _ => Cert.Loss.Gen.frame m ρ
theorem frame_ideal : Cert.quiescent_LossIdeal := fun m ρ _ => Cert.LossIdeal.Gen.frame m ρ
theorem frame_ideal_pre : Cert.quiescent_LossIdeal_pre_finite_loss := fun m ρ _ => Cert.LossIdeal.Gen.frame m ρ

theorem frame_ref : Cert.quiescent_LossRefIdeal := fun m ρ _ =>
  (θ_run Cert.LossRefIdeal.defs _ _).mono (fun r h => ⟨fun c => (h c).2.2.2.2.2, sem_eq_zero_of_no_sems (by decide) r.2⟩)
    (Cert.LossRefIdeal.Value.run (F := Ideal) m ρ)
theorem frame_ref_pre : Cert.quiescent_LossRefIdeal_pre_finite_loss := fun m ρ _ => frame_ref m ρ trivial

theorem algebraic : Cert.algebraic_LossIdeal_LossRefIdeal_pre_finite_loss := by
  intro m g m' g' hp hm
  have real : ∀ c, ∃ (X : Arr) (G B : Row) (S : Arr), LossValue.Real m c X G B S := by
    intro c
    obtain ⟨p0, p1, p2, p3⟩ := hp c
    obtain ⟨X, h0⟩ := lift2 (isReal_of_pre _ _ p0 fun _ => rfl)
    obtain ⟨G, h1⟩ := lift1 (isReal_of_pre _ _ p1 fun _ => rfl)
    obtain ⟨B, h2⟩ := lift1 (isReal_of_pre _ _ p2 fun _ => rfl)
    obtain ⟨S, h3⟩ := lift2 (isReal_of_pre _ _ p3 fun _ => rfl)
    exact ⟨X, G, B, S, h0, h1, h2, h3⟩
  choose X G B S h using real
  refine ⟨_, _, _, _, _,
    (θ_run Cert.LossIdeal.defs _ _).mono (fun r k c => ⟨(k c).1.trans (LossValue.final4 (h c)), (k c).2.1.trans (LossValue.final5 (h c)),
      (k c).2.2.1.trans (LossValue.final6 (h c)), (k c).2.2.2.1.trans (LossValue.final7 (h c)), (k c).2.2.2.2.1.trans (LossValue.final8 (h c)),
      (k c).2.2.2.2.2⟩) (Cert.LossIdeal.Value.run_blocks (F := Ideal) m g),
    (θ_run Cert.LossRefIdeal.defs _ _).mono (fun r k c => ?_) (Cert.LossRefIdeal.Value.run (F := Ideal) m' g')⟩
  obtain ⟨e0, e1, e2, e3⟩ := hm c
  have hr : LossRef.Real _ _ _ _ (X c) (G c) (B c) (S c) :=
    ⟨fun t a => (congrFun e0 _).trans ((h c).r t a), fun a => (congrFun e1 _).trans ((h c).g a), fun a => (congrFun e2 _).trans ((h c).b a),
      fun t a => (congrFun e3 _).trans ((h c).t t a)⟩
  obtain ⟨k0, k1, k2, k3, k4, ka⟩ := k c
  exact ⟨k0.trans ((Cert.LossRefIdeal.Read.val_main_v71_eq _ _).trans (ext2 fun i j => LossRef.r71 hr i j)),
    k1.trans ((Cert.LossRefIdeal.Read.val_main_v70_eq _ _).trans (ext2 fun t q => LossRef.r70 hr t q)),
    k2.trans ((Cert.LossRefIdeal.Read.val_main_v72_eq _ _).trans (ext2 fun t q => LossRef.r72 hr t q)),
    k3.trans ((Cert.LossRefIdeal.Read.val_main_v73_eq _ _).trans (ext2 fun t q => LossRef.r73 hr t q)),
    k4.trans ((Cert.LossRefIdeal.Read.val_main_v74_eq _ _ _ _).trans (ext2 fun t q => LossRef.r74 hr t q)), ka⟩

end Cert.LossClaim

end
-- ==== Proof.NormValue.lean ====
module

public import proofs.«01_k».proof.Proof.Gen.NormIdeal.Value
public import proofs.«01_k».proof.Proof.LossValue

@[expose] public section

set_option maxRecDepth 16384

noncomputable section

namespace Cert.NormValue

open Cert.NormIdeal Cert.NormIdeal.Gen Cert.LayerNorm Cert.Reals Idealize.ShloMosaic Idealize.ShloMosaic.TcCoe Idealize.SL.Sem

/-! The norm's gradient on a block of rows: the same operations as the last norm's, on another cotangent. -/

theorem pay1_eq (v0 : S512x1024.Idx → EReal) (v3 : S512x5632.Idx → EReal) (v5 : S5632x1024.Idx → EReal) (R : S512x1024.Idx → EReal) (G : S1x1024.Idx → EReal) :
    k0_pay1 (F := Ideal) (k0_pay9 R) (k0_pay10 R) (k0_pay11 v0 v3 v5 G) (k0_pay12 v0 v3 v5 G) =
      Cert.LossIdeal.Gen.k0_pay13 (F := Ideal) (k0_pay5 v0 v3 v5) (Cert.LossIdeal.Gen.k0_pay7 G) (Cert.LossIdeal.Gen.k0_pay8 R)
        (Cert.LossIdeal.Gen.k0_pay9 R) Cert.LossIdeal.Gen.k0_pay10 := rfl

theorem pay2_eq (v0 : S512x1024.Idx → EReal) (v3 : S512x5632.Idx → EReal) (v5 : S5632x1024.Idx → EReal) (R : S512x1024.Idx → EReal) (G : S1x1024.Idx → EReal) :
    k0_pay2 (F := Ideal) (k0_pay9 R) (k0_pay10 R) (k0_pay11 v0 v3 v5 G) (k0_pay12 v0 v3 v5 G) =
      Cert.LossIdeal.Gen.k0_pay14 (F := Ideal) (k0_pay5 v0 v3 v5) (Cert.LossIdeal.Gen.k0_pay7 G) (Cert.LossIdeal.Gen.k0_pay8 R)
        (Cert.LossIdeal.Gen.k0_pay9 R) Cert.LossIdeal.Gen.k0_pay10 := rfl

theorem pay3_eq (V R : S512x1024.Idx → EReal) (A : S1x1024.Idx → EReal) :
    k0_pay3 (F := Ideal) V (k0_pay10 R) A = Cert.LossIdeal.Gen.k0_pay15 (F := Ideal) V (Cert.LossIdeal.Gen.k0_pay8 R)
        (Cert.LossIdeal.Gen.k0_pay9 R) Cert.LossIdeal.Gen.k0_pay10 A := rfl

theorem pay4_eq (V : S512x1024.Idx → EReal) (A : S1x1024.Idx → EReal) :
    k0_pay4 (F := Ideal) V A = Cert.LossIdeal.Gen.k0_pay16 (F := Ideal) V A := rfl

variable (m : (ℓ : Loc nD τ sig) → Buf (Elt Ideal) ℓ)

/-- The arguments as launched: the norm's input, its gain and offset, the weight and the two cotangents. -/
abbrev argR (c : Dev nD) : FVec Ideal S8192x1024 .f32 := m ((c : Thread nD τ).loc main_arg0)
abbrev argG (c : Dev nD) : FVec Ideal S1024 .f32 := m ((c : Thread nD τ).loc main_arg1)
abbrev argW (c : Dev nD) : FVec Ideal S1024x5632 .f32 := m ((c : Thread nD τ).loc main_arg3)
abbrev argU (c : Dev nD) : FVec Ideal S8192x5632 .f32 := m ((c : Thread nD τ).loc main_arg4)
abbrev argD (c : Dev nD) : FVec Ideal S8192x1024 .f32 := m ((c : Thread nD τ).loc main_arg5)

/-- Every argument the gradient needs is the given array of reals. -/
structure Real (c : Dev nD) (X : Arr) (G : Row) (W : Fin 1024 → Fin 5632 → ℝ) (U : Fin 8192 → Fin 5632 → ℝ) (CT : Arr) : Prop where
  r : ∀ t q, argR m c (ix2 t q) = (X t q : EReal)
  g : ∀ q, argG m c (ix1 q) = (G q : EReal)
  w : ∀ q k, argW m c (ix2 q k) = (W q k : EReal)
  u : ∀ t k, argU m c (ix2 t k) = (U t k : EReal)
  d : ∀ t q, argD m c (ix2 t q) = (CT t q : EReal)

theorem idx : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![t.val, 0] ∧ win0_6.index t = ![t.val, 0] ∧
    win0_7.index t = ![0, 0] ∧ win0_8.index t = ![0, 0] :=
  (by decide +kernel : ∀ t : Fin grid0.N, _)

/-- The row of the whole arrays that row `a` of point `t`'s blocks is. -/
def row (t : Fin cfg0.N) (a : Fin 512) : Fin 8192 :=
  ⟨t.val * 512 + a.val, by have : t.val < 16 := t.isLt; omega⟩

/-- The gradient of the norm's output. -/
abbrev dOut (W : Fin 1024 → Fin 5632 → ℝ) (U : Fin 8192 → Fin 5632 → ℝ) (CT : Arr) : Arr :=
  fun t q => alpha * CT t q + ∑ k, U t k * W q k

variable {m} {c : Dev nD} {X CT : Arr} {G : Row} {W : Fin 1024 → Fin 5632 → ℝ} {U : Fin 8192 → Fin 5632 → ℝ} (h : Real m c X G W U CT)
include h

theorem iblk0 (t : Fin cfg0.N) (a : Fin 512) (k : Fin 5632) : iblk m c 0 t (ix2 a k) = (U (row t a) k : EReal) := by
  rw [← h.u]
  blk_simp [iblk]; entry_read; pointwise; blk_ext [idx t, row]

theorem iblk1 (t : Fin cfg0.N) (k : Fin 5632) (q : Fin 1024) : iblk m c 1 t (ix2 k q) = (W q k : EReal) := by
  rw [← h.w]
  blk_simp [iblk]; entry_read; pointwise; blk_ext [idx t]

theorem iblk2 (t : Fin cfg0.N) (a : Fin 512) (q : Fin 1024) : iblk m c 2 t (ix2 a q) = (CT (row t a) q : EReal) := by
  rw [← h.d]
  blk_simp [iblk]; entry_read; pointwise; blk_ext [idx t, row]

theorem iblk3 (t : Fin cfg0.N) (a : Fin 512) (q : Fin 1024) : iblk m c 3 t (ix2 a q) = (X (row t a) q : EReal) := by
  rw [← h.r]
  blk_simp [iblk]; entry_read; pointwise; blk_ext [idx t, row]

theorem iblk4 (t : Fin cfg0.N) (q : Fin 1024) : iblk m c 4 t (ix2 0 q) = (G q : EReal) := by
  rw [← h.g]
  blk_simp [iblk]; entry_read; pointwise; blk_ext [idx t, row]

theorem dBlk (t : Fin cfg0.N) (a : Fin 512) (q : Fin 1024) :
    k0_pay5 (F := Ideal) (iblk m c 2 t) (iblk m c 0 t) (iblk m c 1 t) (ix2 a q) = (dOut W U CT (row t a) q : EReal) := by
  pointwise [k0_pay5]
  simp only [iblk0 h, iblk1 h, iblk2 h, f32_alpha, ← EReal.coe_mul, ← coe_sum, ← EReal.coe_add]

/-! The results: the blocks' rows, and the sums over all points of the blocks' parts. -/

theorem outs5 (t : Fin cfg0.N) (a : Fin 512) (q : Fin 1024) :
    (outsAt0 m c t.val t.isLt).1 (ix2 a q) = (dr G (dOut W U CT (row t a)) (X (row t a)) q : EReal) := by
  by_cases h0 : t.val % 16 = 0
  · rw [outsAt0_A m c t h0]; frame_out
    rw [pay1_eq]
    exact LossValue.pay13 (dBlk h t) (iblk3 h t) (iblk4 h t) a q
  · rw [outsAt0_B m c t h0]; frame_out
    rw [pay1_eq]
    exact LossValue.pay13 (dBlk h t) (iblk3 h t) (iblk4 h t) a q

theorem outs6 (t : Fin cfg0.N) (a : Fin 512) (q : Fin 1024) :
    (outsAt0 m c t.val t.isLt).2.1 (ix2 a q) = (dr G (dOut W U CT (row t a)) (X (row t a)) q : EReal) := by
  by_cases h0 : t.val % 16 = 0
  · rw [outsAt0_A m c t h0]; frame_out
    rw [pay2_eq]
    exact LossValue.pay14 (dBlk h t) (iblk3 h t) (iblk4 h t) a q
  · rw [outsAt0_B m c t h0]; frame_out
    rw [pay2_eq]
    exact LossValue.pay14 (dBlk h t) (iblk3 h t) (iblk4 h t) a q

theorem outs7 (t : Fin cfg0.N) (ht : t.val + 1 = cfg0.N) (q : Fin 1024) :
    (outsAt0 m c t.val t.isLt).2.2.1 (ix2 0 q) = (dg (dOut W U CT) X q : EReal) := by
  refine (Pipeline.eq_sum_fin_of_reset_step_apply_last (fun n h q => (outsAt0 m c n h).2.2.1 (ix2 0 q)) 16 (fun _ => 0)
    (fun t q => ((∑ a, dOut W U CT (row t a) q * xhat (X (row t a)) q : ℝ) : EReal)) ?_ ?_ (le_of_eq N_0) t ht q).trans ?_
  · intro t h0 q
    rw [outsAt0_A m c t h0]; frame_out
    rw [pay3_eq, LossValue.pay15 (dBlk h t) (iblk3 h t)]
    exact congrArg₂ (· + ·) (by pointwise [k0_pay6]) rfl
  · intro t h0 q
    rw [outsAt0_B m c t h0]; frame_out
    rw [pay3_eq, LossValue.pay15 (dBlk h t) (iblk3 h t)]
  · rw [zero_add]
    exact sum_blocks fun t => dOut W U CT t q * xhat (X t) q

theorem outs8 (t : Fin cfg0.N) (ht : t.val + 1 = cfg0.N) (q : Fin 1024) :
    (outsAt0 m c t.val t.isLt).2.2.2 (ix2 0 q) = (db (dOut W U CT) q : EReal) := by
  refine (Pipeline.eq_sum_fin_of_reset_step_apply_last (fun n h q => (outsAt0 m c n h).2.2.2 (ix2 0 q)) 16 (fun _ => 0)
    (fun t q => ((∑ a, dOut W U CT (row t a) q : ℝ) : EReal)) ?_ ?_ (le_of_eq N_0) t ht q).trans ?_
  · intro t h0 q
    rw [outsAt0_A m c t h0]; frame_out
    rw [pay4_eq, LossValue.pay16 (dBlk h t)]
    exact congrArg₂ (· + ·) (by pointwise [k0_pay7]) rfl
  · intro t h0 q
    rw [outsAt0_B m c t h0]; frame_out
    rw [pay4_eq, LossValue.pay16 (dBlk h t)]
  · rw [zero_add]
    exact sum_blocks fun t => dOut W U CT t q

/-! The whole results. -/

theorem final5 : (dats m 0 c).arrAt 5 cfg0.N = fun i : S8192x1024.Idx => (dr G (dOut W U CT (i 0)) (X (i 0)) (i 1) : EReal) := by
  refine (dats m 0 c).arrAt_eq_of_covers 5 _ (by decide +kernel) fun t _ y => ?_
  blk_simp
  rw [after0_5]
  obtain ⟨a, b, rfl⟩ : ∃ (a : Fin 512) (b : Fin 1024), y = ix2 a b := ⟨y 0, y 1, eq_ix2 y⟩
  have e : ((cfg0.win 5).blk t).view.emb (ix2 a b) = ix2 (row t a) b := by blk_ext [idx t, row]
  rw [outs5 h]
  exact (congrArg (fun i : S8192x1024.Idx => (dr G (dOut W U CT (i 0)) (X (i 0)) (i 1) : EReal)) e).symm

theorem final6 : (dats m 0 c).arrAt 6 cfg0.N = fun i : S8192x1024.Idx => (dr G (dOut W U CT (i 0)) (X (i 0)) (i 1) : EReal) := by
  refine (dats m 0 c).arrAt_eq_of_covers 6 _ (by decide +kernel) fun t _ y => ?_
  blk_simp
  rw [after0_6]
  obtain ⟨a, b, rfl⟩ : ∃ (a : Fin 512) (b : Fin 1024), y = ix2 a b := ⟨y 0, y 1, eq_ix2 y⟩
  have e : ((cfg0.win 6).blk t).view.emb (ix2 a b) = ix2 (row t a) b := by blk_ext [idx t, row]
  rw [outs6 h]
  exact (congrArg (fun i : S8192x1024.Idx => (dr G (dOut W U CT (i 0)) (X (i 0)) (i 1) : EReal)) e).symm

theorem final7 : (dats m 0 c).arrAt 7 cfg0.N = fun i : S1x1024.Idx => (dg (dOut W U CT) X (i 1) : EReal) := by
  refine (dats m 0 c).arrAt_eq_of_covers 7 _ (by decide +kernel) fun t hf y => ?_
  have ht : t.val + 1 = cfg0.N := by have h1 := (flush0_7 t).mp hf; have h2 : t.val < 16 := t.isLt; show t.val + 1 = 16; omega
  blk_simp
  rw [after0_7]
  obtain ⟨a, b, rfl⟩ : ∃ (a : Fin 1) (b : Fin 1024), y = ix2 a b := ⟨y 0, y 1, eq_ix2 y⟩
  obtain rfl : a = 0 := Subsingleton.elim _ _
  have e : ((cfg0.win 7).blk t).view.emb (ix2 (0 : Fin 1) b) = ix2 0 b := by blk_ext [idx t]
  rw [outs7 h t ht]
  exact (congrArg (fun i : S1x1024.Idx => (dg (dOut W U CT) X (i 1) : EReal)) e).symm

theorem final8 : (dats m 0 c).arrAt 8 cfg0.N = fun i : S1x1024.Idx => (db (dOut W U CT) (i 1) : EReal) := by
  refine (dats m 0 c).arrAt_eq_of_covers 8 _ (by decide +kernel) fun t hf y => ?_
  have ht : t.val + 1 = cfg0.N := by have h1 := (flush0_8 t).mp hf; have h2 : t.val < 16 := t.isLt; show t.val + 1 = 16; omega
  blk_simp
  rw [after0_8]
  obtain ⟨a, b, rfl⟩ : ∃ (a : Fin 1) (b : Fin 1024), y = ix2 a b := ⟨y 0, y 1, eq_ix2 y⟩
  obtain rfl : a = 0 := Subsingleton.elim _ _
  have e : ((cfg0.win 8).blk t).view.emb (ix2 (0 : Fin 1) b) = ix2 0 b := by blk_ext [idx t]
  rw [outs8 h t ht]
  exact (congrArg (fun i : S1x1024.Idx => (db (dOut W U CT) (i 1) : EReal)) e).symm

end Cert.NormValue

end
-- ==== Proof.NormRef.lean ====
module

public import proofs.«01_k».proof.Proof.Gen.NormRefIdeal.Read
public import proofs.«01_k».proof.Proof.LossRef

@[expose] public section

set_option maxRecDepth 16384

noncomputable section

/-! The reference's gradients of the second norm, a row at a time. The norm's own stages are the last norm's. -/

namespace Cert.NormRef

open Cert.NormRefIdeal Cert.NormRefIdeal.Gen Cert.NormRefIdeal.Read Cert.LayerNorm Cert.Reals
open Idealize.ShloMosaic Idealize.ShloMosaic.TcCoe

abbrev A2 := (⟨S8192x1024, .f32⟩ : BufTy).Contents (Elt Ideal)
abbrev A1 := (⟨S1024, .f32⟩ : BufTy).Contents (Elt Ideal)
abbrev AW := (⟨S1024x5632, .f32⟩ : BufTy).Contents (Elt Ideal)
abbrev AU := (⟨S8192x5632, .f32⟩ : BufTy).Contents (Elt Ideal)

/-- Every argument the gradient needs is the given array of reals. -/
structure Real (x0 : A2) (x1 : A1) (x3 : AW) (x4 : AU) (x5 : A2) (X : Arr) (G : Row) (W : Fin 1024 → Fin 5632 → ℝ) (U : Fin 8192 → Fin 5632 → ℝ)
    (CT : Arr) : Prop where
  r : ∀ t q, x0 (ix2 t q) = (X t q : EReal)
  g : ∀ q, x1 (ix1 q) = (G q : EReal)
  w : ∀ q k, x3 (ix2 q k) = (W q k : EReal)
  u : ∀ t k, x4 (ix2 t k) = (U t k : EReal)
  d : ∀ t q, x5 (ix2 t q) = (CT t q : EReal)

/-- The gradient of the norm's output. -/
abbrev dOut (W : Fin 1024 → Fin 5632 → ℝ) (U : Fin 8192 → Fin 5632 → ℝ) (CT : Arr) : Arr :=
  fun t q => alpha * CT t q + ∑ k, U t k * W q k

variable {x0 x5 : A2} {x1 : A1} {x3 : AW} {x4 : AU} {X CT : Arr} {G : Row} {W : Fin 1024 → Fin 5632 → ℝ} {U : Fin 8192 → Fin 5632 → ℝ}
variable (h : Real x0 x1 x3 x4 x5 X G W U CT)
include h

theorem r5 (t : Fin 8192) (q : Fin 1024) : val_main_v5 (F := Ideal) x0 (ix2 t q) = (cent (X t) q : EReal) := LossRef.r5 h.r t q
theorem r13 (t : Fin 8192) : val_main_v13 (F := Ideal) x0 (ix2 t 0) = (rstd (X t) : EReal) := LossRef.r13 h.r t
theorem r16 (t : Fin 8192) : val_main_v16 (F := Ideal) x0 (ix2 t 0) = (slope (X t) : EReal) := LossRef.r16 h.r t
theorem r18 (t : Fin 8192) (q : Fin 1024) : val_main_v18 (F := Ideal) x0 (ix2 t q) = (xhat (X t) q : EReal) := LossRef.r18 h.r t q

theorem r31 (t : Fin 8192) (q : Fin 1024) : val_main_v31 (F := Ideal) x3 x4 x5 (ix2 t q) = (dOut W U CT t q : EReal) := by
  pointwise [val_main_v31, val_main_v30, val_main_v29, val_main_v28, val_main_cst_6]
  simp only [h.w, h.u, h.d, f32_alpha, ← EReal.coe_mul, ← coe_sum, ← EReal.coe_add]

/-- The gradients of the offset and of the gain, -/
theorem r65 (i : Fin 1) (q : Fin 1024) : val_main_v65 (F := Ideal) x3 x4 x5 (ix2 i q) = (db (dOut W U CT) q : EReal) := by
  obtain rfl : i = 0 := Subsingleton.elim _ _
  pointwise [val_main_v65, val_main_v34, val_main_cst_8, val_main_v33, val_main_v32, val_main_cst_7]
  simp only [Fin.sum_univ_one, r31 h]
  rw [← coe_sum]
  rfl

theorem r64 (i : Fin 1) (q : Fin 1024) : val_main_v64 (F := Ideal) x0 x3 x4 x5 (ix2 i q) = (dg (dOut W U CT) X q : EReal) := by
  obtain rfl : i = 0 := Subsingleton.elim _ _
  pointwise [val_main_v64, val_main_v40, val_main_cst_10, val_main_v37, val_main_v36, val_main_cst_9, val_main_v35]
  simp only [Fin.sum_univ_one, r31 h, r18 h, ← EReal.coe_mul]
  rw [← coe_sum]
  exact congrArg Real.toEReal (Finset.sum_congr rfl fun t _ => mul_comm _ _)

/-- and of the norm's input. -/
theorem r39 (t : Fin 8192) (q : Fin 1024) : val_main_v39 (F := Ideal) x1 x3 x4 x5 (ix2 t q) = (dOut W U CT t q * G q : ℝ) := by
  pointwise [val_main_v39, val_main_v38, val_main_v19]
  rw [r31 h, h.g, ← EReal.coe_mul]

theorem r54 (t : Fin 8192) (q : Fin 1024) :
    val_main_v54 (F := Ideal) x0 x1 x3 x4 x5 (ix2 t q) = (back (fun l => dOut W U CT t l * G l) (X t) q : EReal) := by
  pointwise [val_main_v54, val_main_v53, val_main_v52, val_main_v51, val_main_v50, val_main_v49, val_main_cst_13, val_main_v48, val_main_v47, val_main_cst_12, val_main_v46, val_main_v45, val_main_v44, val_main_v43, val_main_v42, val_main_cst_11, val_main_v41]
  simp only [Fin.sum_univ_one, r39 h, r13 h, r5 h, r16 h, f32_1024, ← EReal.coe_mul, ← coe_sum]
  rw [coe_div (by norm_num)]
  simp only [← EReal.coe_mul, ← EReal.coe_add]
  rfl

theorem r62 (t : Fin 8192) (q : Fin 1024) : val_main_v62 (F := Ideal) x0 x1 x3 x4 x5 (ix2 t q) = (dr G (dOut W U CT t) (X t) q : EReal) := by
  pointwise [val_main_v62, val_main_v61, val_main_v60, val_main_cst_16, val_main_v59, val_main_v58, val_main_cst_15, val_main_v57, val_main_v56, val_main_cst_14, val_main_v55]
  simp only [Fin.sum_univ_one, r54 h, f32_1024, ← EReal.coe_neg]
  rw [mean_coe, ← EReal.coe_add, mean_neg]
  exact congrArg Real.toEReal (back_eq _ _ _ q)

theorem r63 (t : Fin 8192) (q : Fin 1024) : val_main_v63 (F := Ideal) x0 x1 x3 x4 x5 (ix2 t q) = (dr G (dOut W U CT t) (X t) q : EReal) := by
  pointwise [val_main_v63]
  exact r62 h t q

end Cert.NormRef

end
-- ==== Proof.NormClaim.lean ====
module

public import proofs.«01_k».proof.Defs
public import proofs.«01_k».proof.Proof.NormValue
public import proofs.«01_k».proof.Proof.NormRef
public import proofs.«01_k».proof.Proof.Gen.Norm.Frame
public import proofs.«01_k».proof.Proof.Gen.Pre_finite_norm
public import proofs.«01_k».proof.Proof.Gen.NormRefIdeal.Run

/-! The claims about the second norm's gradient, with the products before it. -/

@[expose] public section

set_option maxRecDepth 16384

noncomputable section

namespace Cert.NormClaim

open Idealize.ShloMosaic Idealize.ShloMosaic.TcCoe Idealize.SL.Sem Cert.Reals Cert.LayerNorm

theorem frame : Cert.quiescent_Norm := fun m ρ _ => Cert.Norm.Gen.frame m ρ
theorem frame_ideal : Cert.quiescent_NormIdeal := fun m ρ _ => Cert.NormIdeal.Gen.frame m ρ
theorem frame_ideal_pre : Cert.quiescent_NormIdeal_pre_finite_norm := fun m ρ _ => Cert.NormIdeal.Gen.frame m ρ

theorem frame_ref : Cert.quiescent_NormRefIdeal := fun m ρ _ =>
  (θ_run Cert.NormRefIdeal.defs _ _).mono (fun r h => ⟨fun c => (h c).2.2.2.2, sem_eq_zero_of_no_sems (by decide) r.2⟩)
    (Cert.NormRefIdeal.Value.run (F := Ideal) m ρ)
theorem frame_ref_pre : Cert.quiescent_NormRefIdeal_pre_finite_norm := fun m ρ _ => frame_ref m ρ trivial

theorem algebraic : Cert.algebraic_NormIdeal_NormRefIdeal_pre_finite_norm := by
  intro m g m' g' hp hm
  have real : ∀ c, ∃ (X : Arr) (G : Row) (W : Fin 1024 → Fin 5632 → ℝ) (U : Fin 8192 → Fin 5632 → ℝ) (CT : Arr), NormValue.Real m c X G W U CT := by
    intro c
    obtain ⟨p0, p1, p3, p4, p5⟩ := hp c
    obtain ⟨X, h0⟩ := lift2 (isReal_of_pre _ _ p0 fun _ => rfl)
    obtain ⟨G, h1⟩ := lift1 (isReal_of_pre _ _ p1 fun _ => rfl)
    obtain ⟨W, h3⟩ := lift2 (isReal_of_pre _ _ p3 fun _ => rfl)
    obtain ⟨U, h4⟩ := lift2 (isReal_of_pre _ _ p4 fun _ => rfl)
    obtain ⟨CT, h5⟩ := lift2 (isReal_of_pre _ _ p5 fun _ => rfl)
    exact ⟨X, G, W, U, CT, h0, h1, h3, h4, h5⟩
  choose X G W U CT h using real
  refine ⟨_, _, _, _,
    (θ_run Cert.NormIdeal.defs _ _).mono (fun r k c => ⟨(k c).1.trans (NormValue.final5 (h c)), (k c).2.1.trans (NormValue.final6 (h c)),
      (k c).2.2.1.trans (NormValue.final7 (h c)), (k c).2.2.2.1.trans (NormValue.final8 (h c)),
      (k c).2.2.2.2⟩) (Cert.NormIdeal.Value.run_blocks (F := Ideal) m g),
    (θ_run Cert.NormRefIdeal.defs _ _).mono (fun r k c => ?_) (Cert.NormRefIdeal.Value.run (F := Ideal) m' g')⟩
  obtain ⟨e0, e1, e2, e3, e4, e5⟩ := hm c
  have hr : NormRef.Real _ _ _ _ _ (X c) (G c) (W c) (U c) (CT c) :=
    ⟨fun t a => (congrFun e0 _).trans ((h c).r t a), fun a => (congrFun e1 _).trans ((h c).g a), fun t a => (congrFun e3 _).trans ((h c).w t a),
      fun t a => (congrFun e4 _).trans ((h c).u t a), fun t a => (congrFun e5 _).trans ((h c).d t a)⟩
  obtain ⟨k0, k1, k2, k3, ka⟩ := k c
  exact ⟨k0.trans ((Cert.NormRefIdeal.Read.val_main_v62_eq _ _).trans (ext2 fun t q => NormRef.r62 hr t q)),
    k1.trans ((Cert.NormRefIdeal.Read.val_main_v63_eq _ _).trans (ext2 fun t q => NormRef.r63 hr t q)),
    k2.trans ((Cert.NormRefIdeal.Read.val_main_v64_eq _ _ _ _).trans (ext2 fun t q => NormRef.r64 hr t q)),
    k3.trans ((Cert.NormRefIdeal.Read.val_main_v65_eq _ _ _).trans (ext2 fun t q => NormRef.r65 hr t q)), ka⟩

end Cert.NormClaim

end
-- ==== Proof.MixinValue.lean ====
module

public import proofs.«01_k».proof.Proof.Gen.MixinIdeal.Value
public import proofs.«01_k».proof.Proof.LossValue
public import Idealize.ShloMosaic.Lib.Pipeline.ReadBack

@[expose] public section

set_option maxRecDepth 16384

noncomputable section

namespace Cert.MixinValue

open Cert.MixinIdeal Cert.MixinIdeal.Gen Cert.LayerNorm Cert.Reals Idealize.ShloMosaic Idealize.ShloMosaic.TcCoe Idealize.SL.Sem

/-! The norm's gradient on a block of rows: the same operations as the last norm's, on another cotangent. -/

theorem pay9_eq (V R : S512x1024.Idx → EReal) (G : S1x1024.Idx → EReal) :
    k0_pay9 (F := Ideal) V R G = Cert.LossIdeal.Gen.k0_pay13 (F := Ideal) V (Cert.LossIdeal.Gen.k0_pay7 G) (Cert.LossIdeal.Gen.k0_pay8 R)
        (Cert.LossIdeal.Gen.k0_pay9 R) Cert.LossIdeal.Gen.k0_pay10 := rfl

theorem pay12_eq (V R : S512x1024.Idx → EReal) (G : S1x1024.Idx → EReal) :
    k0_pay12 (F := Ideal) V R G = Cert.LossIdeal.Gen.k0_pay14 (F := Ideal) V (Cert.LossIdeal.Gen.k0_pay7 G) (Cert.LossIdeal.Gen.k0_pay8 R)
        (Cert.LossIdeal.Gen.k0_pay9 R) Cert.LossIdeal.Gen.k0_pay10 := rfl

theorem pay13_eq (V R : S512x1024.Idx → EReal) (A : S1x1024.Idx → EReal) :
    k0_pay13 (F := Ideal) (k0_pay10 V R) A = Cert.LossIdeal.Gen.k0_pay15 (F := Ideal) V (Cert.LossIdeal.Gen.k0_pay8 R)
        (Cert.LossIdeal.Gen.k0_pay9 R) Cert.LossIdeal.Gen.k0_pay10 A := rfl

theorem pay14_eq (V : S512x1024.Idx → EReal) (A : S1x1024.Idx → EReal) :
    k0_pay14 (F := Ideal) (k0_pay11 V) A = Cert.LossIdeal.Gen.k0_pay16 (F := Ideal) V A := rfl

/-! A sum over the columns of the four pieces. -/

theorem sum_pieces (f : Fin 6912 → ℝ) : ∑ k, f k =
    ∑ k : Fin 1024, f ⟨k, by omega⟩ + ∑ k : Fin 1024, f ⟨1024 + k, by omega⟩ + ∑ k : Fin 1408, f ⟨2048 + k, by omega⟩
      + ∑ k : Fin 3456, f ⟨3456 + k, by omega⟩ := by
  rw [show (∑ k, f k) = ∑ k : Fin (1024 + 1024 + 1408 + 3456), f k from rfl, Fin.sum_univ_add, Fin.sum_univ_add, Fin.sum_univ_add]
  rfl

/-! The four parts of the columns' sums, each stored over what the buffer held. -/

def parts (P0 P1 : S1x1024.Idx → EReal) (P2 : S1x1408.Idx → EReal) (P3 : S1x3456.Idx → EReal) : List (View.Piece (Elt Ideal) S1x6912 .f32) :=
  [⟨Rect.unit ![0, 3456] ![1, 3456] inb_S1x6912_S1x3456_0_3456, P3⟩, ⟨Rect.unit ![0, 2048] ![1, 1408] inb_S1x6912_S1x1408_0_2048, P2⟩,
    ⟨Rect.unit ![0, 1024] ![1, 1024] inb_S1x6912_S1x1024_0_1024, P1⟩, ⟨Rect.unit ![0, 0] ![1, 1024] inb_S1x6912_S1x1024_0_0, P0⟩]

theorem canon_parts {P0 P1 : S1x1024.Idx → EReal} {P2 : S1x1408.Idx → EReal} {P3 : S1x3456.Idx → EReal} {f : Fin 6912 → EReal}
    (h0 : ∀ k : Fin 1024, P0 (ix2 0 k) = f ⟨k, by omega⟩) (h1 : ∀ k : Fin 1024, P1 (ix2 0 k) = f ⟨1024 + k, by omega⟩)
    (h2 : ∀ k : Fin 1408, P2 (ix2 0 k) = f ⟨2048 + k, by omega⟩) (h3 : ∀ k : Fin 3456, P3 (ix2 0 k) = f ⟨3456 + k, by omega⟩)
    (L : List (View.Piece (Elt Ideal) S1x6912 .f32)) (q : Fin 6912) :
    View.canon (Val := Elt Ideal) (parts P0 P1 P2 P3 ++ L) (ix2 0 q) = f q := by
  refine View.canon_append_of_piecesOf (fun i => f (i 1)) L (parts P0 P1 P2 P3) ⟨?_, ?_, ?_, ?_, trivial⟩ (ix2 0 q)
    (View.cover_of_tiledBy _ ![1, 128] (by sl_kernel_rfl) _)
  · intro x
    obtain ⟨a, k, rfl⟩ : ∃ (a : Fin 1) (k : Fin 3456), x = ix2 a k := ⟨x 0, x 1, eq_ix2 x⟩
    obtain rfl : a = 0 := Subsingleton.elim _ _
    exact (h3 k).trans (congrArg f (Fin.ext (by show 3456 + k.val = 3456 + 1 * k.val; omega)))
  · intro x
    obtain ⟨a, k, rfl⟩ : ∃ (a : Fin 1) (k : Fin 1408), x = ix2 a k := ⟨x 0, x 1, eq_ix2 x⟩
    obtain rfl : a = 0 := Subsingleton.elim _ _
    exact (h2 k).trans (congrArg f (Fin.ext (by show 2048 + k.val = 2048 + 1 * k.val; omega)))
  · intro x
    obtain ⟨a, k, rfl⟩ : ∃ (a : Fin 1) (k : Fin 1024), x = ix2 a k := ⟨x 0, x 1, eq_ix2 x⟩
    obtain rfl : a = 0 := Subsingleton.elim _ _
    exact (h1 k).trans (congrArg f (Fin.ext (by show 1024 + k.val = 1024 + 1 * k.val; omega)))
  · intro x
    obtain ⟨a, k, rfl⟩ : ∃ (a : Fin 1) (k : Fin 1024), x = ix2 a k := ⟨x 0, x 1, eq_ix2 x⟩
    obtain rfl : a = 0 := Subsingleton.elim _ _
    exact (h0 k).trans (congrArg f (Fin.ext (by show k.val = 0 + 1 * k.val; omega)))

/-- One part's new contents. -/
theorem pay1 (A : S1x1408.Idx → EReal) (B : S512x1408.Idx → EReal) (k : Fin 1408) :
    k0_pay1 (F := Ideal) A B (ix2 0 k) = A (ix2 0 k) + ∑ a, B (ix2 a k) := by pointwise [k0_pay1]
theorem pay2 (A : S1x3456.Idx → EReal) (B : S512x3456.Idx → EReal) (k : Fin 3456) :
    k0_pay2 (F := Ideal) A B (ix2 0 k) = A (ix2 0 k) + ∑ a, B (ix2 a k) := by pointwise [k0_pay2]
theorem pay16 (A : S1x1024.Idx → EReal) (B : S512x1024.Idx → EReal) (k : Fin 1024) :
    k0_pay16 (F := Ideal) A B (ix2 0 k) = A (ix2 0 k) + ∑ a, B (ix2 a k) := by pointwise [k0_pay16]
theorem pay17 (A : S1x1024.Idx → EReal) (B : S512x1024.Idx → EReal) (k : Fin 1024) :
    k0_pay17 (F := Ideal) A B (ix2 0 k) = A (ix2 0 k) + ∑ a, B (ix2 a k) := by pointwise [k0_pay17]

variable (m : (ℓ : Loc nD τ sig) → Buf (Elt Ideal) ℓ)

/-- The arguments as launched: the norm's input, its gain, the weight and the two cotangents. -/
abbrev argR (c : Dev nD) : FVec Ideal S8192x1024 .f32 := m ((c : Thread nD τ).loc main_arg0)
abbrev argG (c : Dev nD) : FVec Ideal S1024 .f32 := m ((c : Thread nD τ).loc main_arg1)
abbrev argW (c : Dev nD) : FVec Ideal S1024x6912 .f32 := m ((c : Thread nD τ).loc main_arg3)
abbrev argU (c : Dev nD) : FVec Ideal S8192x6912 .f32 := m ((c : Thread nD τ).loc main_arg5)
abbrev argD (c : Dev nD) : FVec Ideal S8192x1024 .f32 := m ((c : Thread nD τ).loc main_arg6)

/-- Every argument the gradient needs is the given array of reals. -/
structure Real (c : Dev nD) (X : Arr) (G : Row) (W : Fin 1024 → Fin 6912 → ℝ) (U : Fin 8192 → Fin 6912 → ℝ) (CT : Arr) : Prop where
  r : ∀ t q, argR m c (ix2 t q) = (X t q : EReal)
  g : ∀ q, argG m c (ix1 q) = (G q : EReal)
  w : ∀ q k, argW m c (ix2 q k) = (W q k : EReal)
  u : ∀ t k, argU m c (ix2 t k) = (U t k : EReal)
  d : ∀ t q, argD m c (ix2 t q) = (CT t q : EReal)

theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![t.val, 0] ∧
    win0_7.index t = ![0, 0] ∧ win0_8.index t = ![t.val, 0] ∧ win0_9.index t = ![t.val, 0] ∧ win0_10.index t = ![0, 0] ∧
    win0_11.index t = ![0, 0] ∧ win0_12.index t = ![0, 0] :=
  (by decide +kernel : ∀ t : Fin grid0.N, _)

/-- The row of the whole arrays that row `a` of point `t`'s blocks is. -/
def row (t : Fin cfg0.N) (a : Fin 512) : Fin 8192 :=
  ⟨t.val * 512 + a.val, by have : t.val < 16 := t.isLt; omega⟩

/-- The gradient of the norm's output. -/
abbrev dOut (W : Fin 1024 → Fin 6912 → ℝ) (U : Fin 8192 → Fin 6912 → ℝ) (CT : Arr) : Arr :=
  fun t q => alpha * CT t q + ∑ k, U t k * W q k

variable {m} {c : Dev nD} {X CT : Arr} {G : Row} {W : Fin 1024 → Fin 6912 → ℝ} {U : Fin 8192 → Fin 6912 → ℝ} (h : Real m c X G W U CT)
include h

theorem iblk0 (t : Fin cfg0.N) (a : Fin 512) (k : Fin 1024) : iblk m c 0 t (ix2 a k) = (U (row t a) ⟨k, by omega⟩ : EReal) := by
  rw [← h.u]
  blk_simp [iblk]; entry_read; pointwise; blk_ext [idx t, row]

theorem iblk1 (t : Fin cfg0.N) (a : Fin 512) (k : Fin 1024) : iblk m c 1 t (ix2 a k) = (U (row t a) ⟨1024 + k, by omega⟩ : EReal) := by
  rw [← h.u]
  blk_simp [iblk]; entry_read; pointwise; blk_ext [idx t, row]

theorem iblk2 (t : Fin cfg0.N) (a : Fin 512) (k : Fin 1408) : iblk m c 2 t (ix2 a k) = (U (row t a) ⟨2048 + k, by omega⟩ : EReal) := by
  rw [← h.u]
  blk_simp [iblk]; entry_read; pointwise; blk_ext [idx t, row]

theorem iblk3 (t : Fin cfg0.N) (a : Fin 512) (k : Fin 3456) : iblk m c 3 t (ix2 a k) = (U (row t a) ⟨3456 + k, by omega⟩ : EReal) := by
  rw [← h.u]
  blk_simp [iblk]; entry_read; pointwise; blk_ext [idx t, row]

theorem iblk4 (t : Fin cfg0.N) (k : Fin 6912) (q : Fin 1024) : iblk m c 4 t (ix2 k q) = (W q k : EReal) := by
  rw [← h.w]
  blk_simp [iblk]; entry_read; pointwise; blk_ext [idx t]

theorem iblk5 (t : Fin cfg0.N) (a : Fin 512) (q : Fin 1024) : iblk m c 5 t (ix2 a q) = (CT (row t a) q : EReal) := by
  rw [← h.d]
  blk_simp [iblk]; entry_read; pointwise; blk_ext [idx t, row]

theorem iblk6 (t : Fin cfg0.N) (a : Fin 512) (q : Fin 1024) : iblk m c 6 t (ix2 a q) = (X (row t a) q : EReal) := by
  rw [← h.r]
  blk_simp [iblk]; entry_read; pointwise; blk_ext [idx t, row]

theorem iblk7 (t : Fin cfg0.N) (q : Fin 1024) : iblk m c 7 t (ix2 0 q) = (G q : EReal) := by
  rw [← h.g]
  blk_simp [iblk]; entry_read; pointwise; blk_ext [idx t, row]

/-- The gradient of the norm's output on a block, as the body adds it up from the four pieces. -/
abbrev dAt (m : (ℓ : Loc nD τ sig) → Buf (Elt Ideal) ℓ) (c : Dev nD) (t : Fin cfg0.N) : S512x1024.Idx → EReal :=
  k0_pay3 (F := Ideal) (iblk m c 5 t) (iblk m c 0 t) (View.ld (iblk m c 4 t) (Rect.unit ![0, 0] ![1024, 1024] inb_S6912x1024_S1024x1024_0_0))
    (iblk m c 1 t) (View.ld (iblk m c 4 t) (Rect.unit ![1024, 0] ![1024, 1024] inb_S6912x1024_S1024x1024_1024_0))
    (iblk m c 2 t) (View.ld (iblk m c 4 t) (Rect.unit ![2048, 0] ![1408, 1024] inb_S6912x1024_S1408x1024_2048_0))
    (iblk m c 3 t) (View.ld (iblk m c 4 t) (Rect.unit ![3456, 0] ![3456, 1024] inb_S6912x1024_S3456x1024_3456_0))

theorem dBlk (t : Fin cfg0.N) (a : Fin 512) (q : Fin 1024) : dAt m c t (ix2 a q) = (dOut W U CT (row t a) q : EReal) := by
  pointwise [dAt, k0_pay3]
  simp only [iblk0 h, iblk1 h, iblk2 h, iblk3 h, iblk4 h, iblk5 h, f32_alpha, ← EReal.coe_mul, ← coe_sum, ← EReal.coe_add]
  refine congrArg Real.toEReal ?_
  rw [dOut, sum_pieces]
  ring

/-! The results: the blocks' rows, and the sums over all points of the blocks' parts. -/

theorem outs8 (t : Fin cfg0.N) (a : Fin 512) (q : Fin 1024) :
    (outsAt0 m c t.val t.isLt).1 (ix2 a q) = (dr G (dOut W U CT (row t a)) (X (row t a)) q : EReal) := by
  by_cases h0 : t.val % 16 = 0
  · rw [outsAt0_A m c t h0 h0]; frame_out
    rw [pay9_eq]
    exact LossValue.pay13 (dBlk h t) (iblk6 h t) (iblk7 h t) a q
  · rw [outsAt0_B m c t h0 h0]; frame_out
    rw [pay9_eq]
    exact LossValue.pay13 (dBlk h t) (iblk6 h t) (iblk7 h t) a q

theorem outs9 (t : Fin cfg0.N) (a : Fin 512) (q : Fin 1024) :
    (outsAt0 m c t.val t.isLt).2.1 (ix2 a q) = (dr G (dOut W U CT (row t a)) (X (row t a)) q : EReal) := by
  by_cases h0 : t.val % 16 = 0
  · rw [outsAt0_A m c t h0 h0]; frame_out
    rw [pay12_eq]
    exact LossValue.pay14 (dBlk h t) (iblk6 h t) (iblk7 h t) a q
  · rw [outsAt0_B m c t h0 h0]; frame_out
    rw [pay12_eq]
    exact LossValue.pay14 (dBlk h t) (iblk6 h t) (iblk7 h t) a q

theorem outs10 (t : Fin cfg0.N) (ht : t.val + 1 = cfg0.N) (q : Fin 1024) :
    (outsAt0 m c t.val t.isLt).2.2.1 (ix2 0 q) = (dg (dOut W U CT) X q : EReal) := by
  refine (Pipeline.eq_sum_fin_of_reset_step_apply_last (fun n h q => (outsAt0 m c n h).2.2.1 (ix2 0 q)) 16 (fun _ => 0)
    (fun t q => ((∑ a, dOut W U CT (row t a) q * xhat (X (row t a)) q : ℝ) : EReal)) ?_ ?_ (le_of_eq N_0) t ht q).trans ?_
  · intro t h0 q
    rw [outsAt0_A m c t h0 h0]; frame_out
    rw [pay13_eq]
    refine (LossValue.pay15 (dBlk h t) (iblk6 h t) _ q).trans ?_
    exact congrArg₂ (· + ·) (by pointwise [k0_pay4]) rfl
  · intro t h0 q
    rw [outsAt0_B m c t h0 h0]; frame_out
    rw [pay13_eq]
    exact LossValue.pay15 (dBlk h t) (iblk6 h t) _ q
  · rw [zero_add]
    exact sum_blocks fun t => dOut W U CT t q * xhat (X t) q

theorem outs11 (t : Fin cfg0.N) (ht : t.val + 1 = cfg0.N) (q : Fin 1024) :
    (outsAt0 m c t.val t.isLt).2.2.2.1 (ix2 0 q) = (db (dOut W U CT) q : EReal) := by
  refine (Pipeline.eq_sum_fin_of_reset_step_apply_last (fun n h q => (outsAt0 m c n h).2.2.2.1 (ix2 0 q)) 16 (fun _ => 0)
    (fun t q => ((∑ a, dOut W U CT (row t a) q : ℝ) : EReal)) ?_ ?_ (le_of_eq N_0) t ht q).trans ?_
  · intro t h0 q
    rw [outsAt0_A m c t h0 h0]; frame_out
    rw [pay14_eq]
    refine (LossValue.pay16 (dBlk h t) _ q).trans ?_
    exact congrArg₂ (· + ·) (by pointwise [k0_pay5]) rfl
  · intro t h0 q
    rw [outsAt0_B m c t h0 h0]; frame_out
    rw [pay14_eq]
    exact LossValue.pay16 (dBlk h t) _ q
  · rw [zero_add]
    exact sum_blocks fun t => dOut W U CT t q

theorem outs12 (t : Fin cfg0.N) (ht : t.val + 1 = cfg0.N) (q : Fin 6912) :
    (outsAt0 m c t.val t.isLt).2.2.2.2 (ix2 0 q) = ((∑ s, U s q : ℝ) : EReal) := by
  refine (Pipeline.eq_sum_fin_of_reset_step_apply_last (fun n h q => (outsAt0 m c n h).2.2.2.2 (ix2 0 q)) 16 (fun _ => 0)
    (fun t q => ((∑ a, U (row t a) q : ℝ) : EReal)) ?_ ?_ (le_of_eq N_0) t ht q).trans ?_
  · intro t h0 q
    rw [outsAt0_A m c t h0 h0]; frame_out
    simp (decide := true) only [↓View.readCov_skip, ↓View.readCov_fill]
    refine canon_parts (f := fun q => 0 + ((∑ a, U (row t a) q : ℝ) : EReal)) (fun k => ?_) (fun k => ?_) (fun k => ?_) (fun k => ?_) [_] q
    · rw [pay16]; simp only [iblk0 h, ← coe_sum]; exact congrArg₂ (· + ·) (by pointwise [k0_pay15]) rfl
    · rw [pay17]; simp only [iblk1 h, ← coe_sum]; exact congrArg₂ (· + ·) (by pointwise [k0_pay15]) rfl
    · rw [pay1]; simp only [iblk2 h, ← coe_sum]; exact congrArg₂ (· + ·) (by pointwise [k0_pay15]) rfl
    · rw [pay2]; simp only [iblk3 h, ← coe_sum]; exact congrArg₂ (· + ·) (by pointwise [k0_pay15]) rfl
  · intro t h0 q
    rw [outsAt0_B m c t h0 h0]; frame_out
    refine canon_parts (f := fun q => (outsAt0 m c (t.val - 1) _).2.2.2.2 (ix2 0 q) + ((∑ a, U (row t a) q : ℝ) : EReal))
      (fun k => ?_) (fun k => ?_) (fun k => ?_) (fun k => ?_) [] q
    · rw [pay16]; simp only [iblk0 h, ← coe_sum]; exact congrArg₂ (· + ·) (by pointwise) rfl
    · rw [pay17]; simp only [iblk1 h, ← coe_sum]; exact congrArg₂ (· + ·) (by pointwise) rfl
    · rw [pay1]; simp only [iblk2 h, ← coe_sum]; exact congrArg₂ (· + ·) (by pointwise) rfl
    · rw [pay2]; simp only [iblk3 h, ← coe_sum]; exact congrArg₂ (· + ·) (by pointwise) rfl
  · rw [zero_add]
    exact sum_blocks fun t => U t q

/-! The whole results. -/

theorem final8 : (dats m 0 c).arrAt 8 cfg0.N = fun i : S8192x1024.Idx => (dr G (dOut W U CT (i 0)) (X (i 0)) (i 1) : EReal) := by
  refine (dats m 0 c).arrAt_eq_of_covers 8 _ (by decide +kernel) fun t _ y => ?_
  blk_simp
  rw [after0_8]
  obtain ⟨a, b, rfl⟩ : ∃ (a : Fin 512) (b : Fin 1024), y = ix2 a b := ⟨y 0, y 1, eq_ix2 y⟩
  have e : ((cfg0.win 8).blk t).view.emb (ix2 a b) = ix2 (row t a) b := by blk_ext [idx t, row]
  rw [outs8 h]
  exact (congrArg (fun i : S8192x1024.Idx => (dr G (dOut W U CT (i 0)) (X (i 0)) (i 1) : EReal)) e).symm

theorem final9 : (dats m 0 c).arrAt 9 cfg0.N = fun i : S8192x1024.Idx => (dr G (dOut W U CT (i 0)) (X (i 0)) (i 1) : EReal) := by
  refine (dats m 0 c).arrAt_eq_of_covers 9 _ (by decide +kernel) fun t _ y => ?_
  blk_simp
  rw [after0_9]
  obtain ⟨a, b, rfl⟩ : ∃ (a : Fin 512) (b : Fin 1024), y = ix2 a b := ⟨y 0, y 1, eq_ix2 y⟩
  have e : ((cfg0.win 9).blk t).view.emb (ix2 a b) = ix2 (row t a) b := by blk_ext [idx t, row]
  rw [outs9 h]
  exact (congrArg (fun i : S8192x1024.Idx => (dr G (dOut W U CT (i 0)) (X (i 0)) (i 1) : EReal)) e).symm

theorem final10 : (dats m 0 c).arrAt 10 cfg0.N = fun i : S1x1024.Idx => (dg (dOut W U CT) X (i 1) : EReal) := by
  refine (dats m 0 c).arrAt_eq_of_covers 10 _ (by decide +kernel) fun t hf y => ?_
  have ht : t.val + 1 = cfg0.N := by have h1 := (flush0_10 t).mp hf; have h2 : t.val < 16 := t.isLt; show t.val + 1 = 16; omega
  blk_simp
  rw [after0_10]
  obtain ⟨a, b, rfl⟩ : ∃ (a : Fin 1) (b : Fin 1024), y = ix2 a b := ⟨y 0, y 1, eq_ix2 y⟩
  obtain rfl : a = 0 := Subsingleton.elim _ _
  have e : ((cfg0.win 10).blk t).view.emb (ix2 (0 : Fin 1) b) = ix2 0 b := by blk_ext [idx t]
  rw [outs10 h t ht]
  exact (congrArg (fun i : S1x1024.Idx => (dg (dOut W U CT) X (i 1) : EReal)) e).symm

theorem final11 : (dats m 0 c).arrAt 11 cfg0.N = fun i : S1x1024.Idx => (db (dOut W U CT) (i 1) : EReal) := by
  refine (dats m 0 c).arrAt_eq_of_covers 11 _ (by decide +kernel) fun t hf y => ?_
  have ht : t.val + 1 = cfg0.N := by have h1 := (flush0_11 t).mp hf; have h2 : t.val < 16 := t.isLt; show t.val + 1 = 16; omega
  blk_simp
  rw [after0_11]
  obtain ⟨a, b, rfl⟩ : ∃ (a : Fin 1) (b : Fin 1024), y = ix2 a b := ⟨y 0, y 1, eq_ix2 y⟩
  obtain rfl : a = 0 := Subsingleton.elim _ _
  have e : ((cfg0.win 11).blk t).view.emb (ix2 (0 : Fin 1) b) = ix2 0 b := by blk_ext [idx t]
  rw [outs11 h t ht]
  exact (congrArg (fun i : S1x1024.Idx => (db (dOut W U CT) (i 1) : EReal)) e).symm

theorem final12 : (dats m 0 c).arrAt 12 cfg0.N = fun i : S1x6912.Idx => ((∑ s, U s (i 1) : ℝ) : EReal) := by
  refine (dats m 0 c).arrAt_eq_of_covers 12 _ (by decide +kernel) fun t hf y => ?_
  have ht : t.val + 1 = cfg0.N := by have h1 := (flush0_12 t).mp hf; have h2 : t.val < 16 := t.isLt; show t.val + 1 = 16; omega
  blk_simp
  rw [after0_12]
  obtain ⟨a, b, rfl⟩ : ∃ (a : Fin 1) (b : Fin 6912), y = ix2 a b := ⟨y 0, y 1, eq_ix2 y⟩
  obtain rfl : a = 0 := Subsingleton.elim _ _
  have e : ((cfg0.win 12).blk t).view.emb (ix2 (0 : Fin 1) b) = ix2 0 b := by blk_ext [idx t]
  rw [outs12 h t ht]
  exact (congrArg (fun i : S1x6912.Idx => ((∑ s, U s (i 1) : ℝ) : EReal)) e).symm

end Cert.MixinValue

end
-- ==== Proof.MixinRef.lean ====
module

public import proofs.«01_k».proof.Proof.Gen.MixinRefIdeal.Read
public import proofs.«01_k».proof.Proof.LossRef

@[expose] public section

set_option maxRecDepth 16384

noncomputable section

/-! The reference's gradients of the first norm, a row at a time. The norm's own stages are the last norm's. -/

namespace Cert.MixinRef

open Cert.MixinRefIdeal Cert.MixinRefIdeal.Gen Cert.MixinRefIdeal.Read Cert.LayerNorm Cert.Reals
open Idealize.ShloMosaic Idealize.ShloMosaic.TcCoe

abbrev A2 := (⟨S8192x1024, .f32⟩ : BufTy).Contents (Elt Ideal)
abbrev A1 := (⟨S1024, .f32⟩ : BufTy).Contents (Elt Ideal)
abbrev AW := (⟨S1024x6912, .f32⟩ : BufTy).Contents (Elt Ideal)
abbrev AU := (⟨S8192x6912, .f32⟩ : BufTy).Contents (Elt Ideal)

/-- Every argument the gradient needs is the given array of reals. -/
structure Real (x0 : A2) (x1 : A1) (x3 : AW) (x5 : AU) (x6 : A2) (X : Arr) (G : Row) (W : Fin 1024 → Fin 6912 → ℝ) (U : Fin 8192 → Fin 6912 → ℝ)
    (CT : Arr) : Prop where
  r : ∀ t q, x0 (ix2 t q) = (X t q : EReal)
  g : ∀ q, x1 (ix1 q) = (G q : EReal)
  w : ∀ q k, x3 (ix2 q k) = (W q k : EReal)
  u : ∀ t k, x5 (ix2 t k) = (U t k : EReal)
  d : ∀ t q, x6 (ix2 t q) = (CT t q : EReal)

/-- The gradient of the norm's output. -/
abbrev dOut (W : Fin 1024 → Fin 6912 → ℝ) (U : Fin 8192 → Fin 6912 → ℝ) (CT : Arr) : Arr :=
  fun t q => alpha * CT t q + ∑ k, U t k * W q k

variable {x0 x6 : A2} {x1 : A1} {x3 : AW} {x5 : AU} {X CT : Arr} {G : Row} {W : Fin 1024 → Fin 6912 → ℝ} {U : Fin 8192 → Fin 6912 → ℝ}
variable (h : Real x0 x1 x3 x5 x6 X G W U CT)
include h

theorem r5 (t : Fin 8192) (q : Fin 1024) : val_main_v5 (F := Ideal) x0 (ix2 t q) = (cent (X t) q : EReal) := LossRef.r5 h.r t q
theorem r13 (t : Fin 8192) : val_main_v13 (F := Ideal) x0 (ix2 t 0) = (rstd (X t) : EReal) := LossRef.r13 h.r t
theorem r16 (t : Fin 8192) : val_main_v16 (F := Ideal) x0 (ix2 t 0) = (slope (X t) : EReal) := LossRef.r16 h.r t
theorem r18 (t : Fin 8192) (q : Fin 1024) : val_main_v18 (F := Ideal) x0 (ix2 t q) = (xhat (X t) q : EReal) := LossRef.r18 h.r t q

theorem r38 (t : Fin 8192) (q : Fin 1024) : val_main_v38 (F := Ideal) x3 x5 x6 (ix2 t q) = (dOut W U CT t q : EReal) := by
  pointwise [val_main_v38, val_main_v37, val_main_v33, val_main_v32, val_main_v31, val_main_cst_6]
  simp only [h.w, h.u, h.d, f32_alpha, ← EReal.coe_mul, ← coe_sum, ← EReal.coe_add]

/-- The gradient of the projection's bias. -/
theorem r73 (i : Fin 1) (q : Fin 6912) : val_main_v73 (F := Ideal) x5 (ix2 i q) = ((∑ t, U t q : ℝ) : EReal) := by
  obtain rfl : i = 0 := Subsingleton.elim _ _
  pointwise [val_main_v73, val_main_v36, val_main_cst_8, val_main_v35, val_main_v34, val_main_cst_7]
  simp only [Fin.sum_univ_one, h.u]
  rw [← coe_sum]

/-- The gradients of the offset and of the gain, -/
theorem r72 (i : Fin 1) (q : Fin 1024) : val_main_v72 (F := Ideal) x3 x5 x6 (ix2 i q) = (db (dOut W U CT) q : EReal) := by
  obtain rfl : i = 0 := Subsingleton.elim _ _
  pointwise [val_main_v72, val_main_v41, val_main_cst_10, val_main_v40, val_main_v39, val_main_cst_9]
  simp only [Fin.sum_univ_one, r38 h]
  rw [← coe_sum]
  rfl

theorem r71 (i : Fin 1) (q : Fin 1024) : val_main_v71 (F := Ideal) x0 x3 x5 x6 (ix2 i q) = (dg (dOut W U CT) X q : EReal) := by
  obtain rfl : i = 0 := Subsingleton.elim _ _
  pointwise [val_main_v71, val_main_v47, val_main_cst_12, val_main_v44, val_main_v43, val_main_cst_11, val_main_v42]
  simp only [Fin.sum_univ_one, r38 h, r18 h, ← EReal.coe_mul]
  rw [← coe_sum]
  exact congrArg Real.toEReal (Finset.sum_congr rfl fun t _ => mul_comm _ _)

/-- and of the norm's input. -/
theorem r46 (t : Fin 8192) (q : Fin 1024) : val_main_v46 (F := Ideal) x1 x3 x5 x6 (ix2 t q) = (dOut W U CT t q * G q : ℝ) := by
  pointwise [val_main_v46, val_main_v45, val_main_v19]
  rw [r38 h, h.g, ← EReal.coe_mul]

theorem r61 (t : Fin 8192) (q : Fin 1024) :
    val_main_v61 (F := Ideal) x0 x1 x3 x5 x6 (ix2 t q) = (back (fun l => dOut W U CT t l * G l) (X t) q : EReal) := by
  pointwise [val_main_v61, val_main_v60, val_main_v59, val_main_v58, val_main_v57, val_main_v56, val_main_cst_15, val_main_v55, val_main_v54, val_main_cst_14, val_main_v53, val_main_v52, val_main_v51, val_main_v50, val_main_v49, val_main_cst_13, val_main_v48]
  simp only [Fin.sum_univ_one, r46 h, r13 h, r5 h, r16 h, f32_1024, ← EReal.coe_mul, ← coe_sum]
  rw [coe_div (by norm_num)]
  simp only [← EReal.coe_mul, ← EReal.coe_add]
  rfl

theorem r69 (t : Fin 8192) (q : Fin 1024) : val_main_v69 (F := Ideal) x0 x1 x3 x5 x6 (ix2 t q) = (dr G (dOut W U CT t) (X t) q : EReal) := by
  pointwise [val_main_v69, val_main_v68, val_main_v67, val_main_cst_18, val_main_v66, val_main_v65, val_main_cst_17, val_main_v64, val_main_v63, val_main_cst_16, val_main_v62]
  simp only [Fin.sum_univ_one, r61 h, f32_1024, ← EReal.coe_neg]
  rw [mean_coe, ← EReal.coe_add, mean_neg]
  exact congrArg Real.toEReal (back_eq _ _ _ q)

theorem r70 (t : Fin 8192) (q : Fin 1024) : val_main_v70 (F := Ideal) x0 x1 x3 x5 x6 (ix2 t q) = (dr G (dOut W U CT t) (X t) q : EReal) := by
  pointwise [val_main_v70]
  exact r69 h t q

end Cert.MixinRef

end
-- ==== Proof.MixinClaim.lean ====
module

public import proofs.«01_k».proof.Defs
public import proofs.«01_k».proof.Proof.MixinValue
public import proofs.«01_k».proof.Proof.MixinRef
public import proofs.«01_k».proof.Proof.Gen.Mixin.Frame
public import proofs.«01_k».proof.Proof.Gen.Pre_finite_mixin
public import proofs.«01_k».proof.Proof.Gen.MixinRefIdeal.Run

/-! The claims about the first norm's gradient, with the four products before it and the bias's gradient. -/

@[expose] public section

set_option maxRecDepth 16384

noncomputable section

namespace Cert.MixinClaim

open Idealize.ShloMosaic Idealize.ShloMosaic.TcCoe Idealize.SL.Sem Cert.Reals Cert.LayerNorm

theorem frame : Cert.quiescent_Mixin := fun m ρ _ => Cert.Mixin.Gen.frame m ρ
theorem frame_ideal : Cert.quiescent_MixinIdeal := fun m ρ _ => Cert.MixinIdeal.Gen.frame m ρ
theorem frame_ideal_pre : Cert.quiescent_MixinIdeal_pre_finite_mixin := fun m ρ _ => Cert.MixinIdeal.Gen.frame m ρ

theorem frame_ref : Cert.quiescent_MixinRefIdeal := fun m ρ _ =>
  (θ_run Cert.MixinRefIdeal.defs _ _).mono (fun r h => ⟨fun c => (h c).2.2.2.2.2, sem_eq_zero_of_no_sems (by decide) r.2⟩)
    (Cert.MixinRefIdeal.Value.run (F := Ideal) m ρ)
theorem frame_ref_pre : Cert.quiescent_MixinRefIdeal_pre_finite_mixin := fun m ρ _ => frame_ref m ρ trivial

theorem algebraic : Cert.algebraic_MixinIdeal_MixinRefIdeal_pre_finite_mixin := by
  intro m g m' g' hp hm
  have real : ∀ c, ∃ (X : Arr) (G : Row) (W : Fin 1024 → Fin 6912 → ℝ) (U : Fin 8192 → Fin 6912 → ℝ) (CT : Arr), MixinValue.Real m c X G W U CT := by
    intro c
    obtain ⟨p0, p1, p3, p4, p5⟩ := hp c
    obtain ⟨X, h0⟩ := lift2 (isReal_of_pre _ _ p0 fun _ => rfl)
    obtain ⟨G, h1⟩ := lift1 (isReal_of_pre _ _ p1 fun _ => rfl)
    obtain ⟨W, h3⟩ := lift2 (isReal_of_pre _ _ p3 fun _ => rfl)
    obtain ⟨U, h4⟩ := lift2 (isReal_of_pre _ _ p4 fun _ => rfl)
    obtain ⟨CT, h5⟩ := lift2 (isReal_of_pre _ _ p5 fun _ => rfl)
    exact ⟨X, G, W, U, CT, h0, h1, h3, h4, h5⟩
  choose X G W U CT h using real
  refine ⟨_, _, _, _, _,
    (θ_run Cert.MixinIdeal.defs _ _).mono (fun r k c => ⟨(k c).1.trans (MixinValue.final8 (h c)), (k c).2.1.trans (MixinValue.final9 (h c)),
      (k c).2.2.1.trans (MixinValue.final10 (h c)), (k c).2.2.2.1.trans (MixinValue.final11 (h c)),
      (k c).2.2.2.2.1.trans (MixinValue.final12 (h c)), (k c).2.2.2.2.2⟩) (Cert.MixinIdeal.Value.run_blocks (F := Ideal) m g),
    (θ_run Cert.MixinRefIdeal.defs _ _).mono (fun r k c => ?_) (Cert.MixinRefIdeal.Value.run (F := Ideal) m' g')⟩
  obtain ⟨e0, e1, e2, e3, e4, e5, e6⟩ := hm c
  have hr : MixinRef.Real _ _ _ _ _ (X c) (G c) (W c) (U c) (CT c) :=
    ⟨fun t a => (congrFun e0 _).trans ((h c).r t a), fun a => (congrFun e1 _).trans ((h c).g a), fun t a => (congrFun e3 _).trans ((h c).w t a),
      fun t a => (congrFun e5 _).trans ((h c).u t a), fun t a => (congrFun e6 _).trans ((h c).d t a)⟩
  obtain ⟨k0, k1, k2, k3, k4, ka⟩ := k c
  exact ⟨k0.trans ((Cert.MixinRefIdeal.Read.val_main_v69_eq _ _).trans (ext2 fun t q => MixinRef.r69 hr t q)),
    k1.trans ((Cert.MixinRefIdeal.Read.val_main_v70_eq _ _).trans (ext2 fun t q => MixinRef.r70 hr t q)),
    k2.trans ((Cert.MixinRefIdeal.Read.val_main_v71_eq _ _ _ _).trans (ext2 fun t q => MixinRef.r71 hr t q)),
    k3.trans ((Cert.MixinRefIdeal.Read.val_main_v72_eq _ _ _).trans (ext2 fun t q => MixinRef.r72 hr t q)),
    k4.trans ((Cert.MixinRefIdeal.Read.val_main_v73_eq _).trans (ext2 fun t q => MixinRef.r73 hr t q)), ka⟩

end Cert.MixinClaim

end
-- ==== Proof.MixMath.lean ====
module

public import proofs.«01_k».proof.Proof.LayerNorm

/-! The gradients around the merge of the two branches, of reals. -/

@[expose] public section

set_option maxRecDepth 16384

noncomputable section

namespace Cert.MixMath

open Cert.LayerNorm Idealize.ShloMosaic

/-- The two branches' outputs with the gate of the recurrent one, the merge's gates, the three weights and the cotangent. -/
structure Data where
  cs : Arr
  h : Fin 8192 → Fin 1408 → ℝ
  rg : Fin 8192 → Fin 1408 → ℝ
  gc : Arr
  gr : Arr
  wc : Fin 1024 → Fin 1024 → ℝ
  wr : Fin 1408 → Fin 1024 → ℝ
  wo : Fin 1024 → Fin 1024 → ℝ
  ct : Arr

def sg (x : ℝ) : ℝ := (1 + Real.exp (-x))⁻¹

/-- The factor of gelu's argument, and its coefficient as the host rounds it. -/
def root : ℝ := 13386282 / 16777216
def rounded : ℝ := 12003091 / 268435456
/-- The coefficient. -/
def coef : ℝ := 8943 / 200000

/-- Gelu with the coefficient `c`, and its derivative. -/
def th (c x : ℝ) : ℝ := Real.tanh (root * (x + c * (x * x * x)))
def gel (c x : ℝ) : ℝ := 1 / 2 * x * (1 + th c x)
def dgel (c x : ℝ) : ℝ := 1 / 2 * (1 + th c x) + 1 / 2 * x * (1 - th c x * th c x) * (root * (1 + 3 * c * x * x))

namespace Data
variable (x : Data)

/-- The branches' projections and the gradient of their merge, -/
def yc : Arr := fun t q => ∑ k, x.cs t k * x.wc k q
def yr : Arr := fun t q => ∑ k, x.h t k * gel rounded (x.rg t k) * x.wr k q
def dm : Arr := fun t q => ∑ k, x.ct t k * x.wo q k
/-- of the projections, -/
def dyc : Arr := fun t q => x.dm t q * sg (x.gc t q)
def dyr : Arr := fun t q => x.dm t q * sg (x.gr t q)
/-- of the gates, -/
def dgc : Arr := fun t q => x.dm t q * x.yc t q * sg (x.gc t q) * (1 - sg (x.gc t q))
def dgr : Arr := fun t q => x.dm t q * x.yr t q * sg (x.gr t q) * (1 - sg (x.gr t q))
/-- and of what is projected. -/
def dcs : Arr := fun t k => ∑ q, x.dyc t q * x.wc k q
def dhg (t : Fin 8192) (k : Fin 1408) : ℝ := ∑ q, x.dyr t q * x.wr k q
def dh (t : Fin 8192) (k : Fin 1408) : ℝ := x.dhg t k * gel coef (x.rg t k)
def drg (t : Fin 8192) (k : Fin 1408) : ℝ := x.dhg t k * x.h t k * dgel coef (x.rg t k)

/-- The three gates' gradients, side by side. -/
def tail (t : Fin 8192) (j : Fin 3456) : ℝ :=
  if h : j.val < 1408 then x.drg t ⟨j.val, h⟩
  else if h' : j.val < 2432 then x.dgc t ⟨j.val - 1408, by omega⟩
  else x.dgr t ⟨j.val - 2432, by omega⟩

theorem tail_rg (t : Fin 8192) (j : Fin 3456) (h : j.val < 1408) : x.tail t j = x.drg t ⟨j.val, h⟩ := dif_pos h
theorem tail_gc (t : Fin 8192) (j : Fin 3456) (h : ¬ j.val < 1408) (h' : j.val < 2432) :
    x.tail t j = x.dgc t ⟨j.val - 1408, by omega⟩ := (dif_neg h).trans (dif_pos h')
theorem tail_gr (t : Fin 8192) (j : Fin 3456) (h : ¬ j.val < 2432) : x.tail t j = x.dgr t ⟨j.val - 2432, by omega⟩ :=
  (dif_neg fun k => h (by omega)).trans (dif_neg h)

end Data

theorem f32_root : Ideal.ofBits .f32 0x3F4C422A#32 = (root : EReal) := by
  simp [Ideal.ofBits, Ideal.ieee, -EReal.coe_mul, root]; norm_num
theorem f32_rounded : Ideal.ofBits .f32 0x3D372713#32 = (rounded : EReal) := by
  simp [Ideal.ofBits, Ideal.ieee, -EReal.coe_mul, rounded]; norm_num
theorem f32_three : Ideal.ofBits .f32 0x40400000#32 = ((3 : ℝ) : EReal) := by
  simp [Ideal.ofBits, Ideal.ieee, -EReal.coe_mul]; norm_num
theorem logistic (x : ℝ) : Ideal.logistic (x : EReal) = (sg x : EReal) := Ideal.logistic_coe x

end Cert.MixMath

end
-- ==== Proof.MixBlocks.lean ====
module

public import proofs.«01_k».proof.Proof.Gen.MixIdeal.Value
public import proofs.«01_k».proof.Proof.MixMath
public import Idealize.ShloMosaic.Lib.Claim
public import Idealize.ShloMosaic.Lib.Pipeline.ValueKit
public import Idealize.ShloMosaic.Lib.Pipeline.ReadBack

@[expose] public section

set_option maxRecDepth 16384

noncomputable section

namespace Cert.MixValue

open Cert.MixIdeal Cert.MixIdeal.Gen Cert.LayerNorm Cert.Reals Cert.MixMath Idealize.ShloMosaic Idealize.ShloMosaic.TcCoe Idealize.SL.Sem

/-- The named coefficients. -/
theorem named_c : Named.named (F := Ideal) κ "gelu_c" (φ := .f32) 0x3D372713#32 = (coef : EReal) :=
  IdealRules.named_const.ideal_named_scalar κ "gelu_c" _ _ rfl
theorem named_3c : Named.named (F := Ideal) κ "gelu_3c" (φ := .f32) 0x3E095D4F#32 = ((26829 / 200000 : ℝ) : EReal) :=
  IdealRules.named_const.ideal_named_scalar κ "gelu_3c" _ _ rfl

variable (m : (ℓ : Loc nD τ sig) → Buf (Elt Ideal) ℓ)

/-- The arguments as launched are the given arrays of reals. -/
structure Real (c : Dev nD) (x : Data) : Prop where
  cs : ∀ t q, (m ((c : Thread nD τ).loc main_arg0) : FVec Ideal S8192x1024 .f32) (ix2 t q) = (x.cs t q : EReal)
  h : ∀ t k, (m ((c : Thread nD τ).loc main_arg1) : FVec Ideal S8192x1408 .f32) (ix2 t k) = (x.h t k : EReal)
  rg : ∀ t k, (m ((c : Thread nD τ).loc main_arg2) : FVec Ideal S8192x1408 .f32) (ix2 t k) = (x.rg t k : EReal)
  gc : ∀ t q, (m ((c : Thread nD τ).loc main_arg3) : FVec Ideal S8192x1024 .f32) (ix2 t q) = (x.gc t q : EReal)
  gr : ∀ t q, (m ((c : Thread nD τ).loc main_arg4) : FVec Ideal S8192x1024 .f32) (ix2 t q) = (x.gr t q : EReal)
  wc : ∀ k q, (m ((c : Thread nD τ).loc main_arg5) : FVec Ideal S1024x1024 .f32) (ix2 k q) = (x.wc k q : EReal)
  wr : ∀ k q, (m ((c : Thread nD τ).loc main_arg6) : FVec Ideal S1408x1024 .f32) (ix2 k q) = (x.wr k q : EReal)
  wo : ∀ k q, (m ((c : Thread nD τ).loc main_arg7) : FVec Ideal S1024x1024 .f32) (ix2 k q) = (x.wo k q : EReal)
  ct : ∀ t q, (m ((c : Thread nD τ).loc main_arg8) : FVec Ideal S8192x1024 .f32) (ix2 t q) = (x.ct t q : EReal)

theorem idx : ∀ t : Fin cfg0.N, win0_0.index t = ![t.val, 0] ∧
    win0_1.index t = ![0, 0] ∧
    win0_2.index t = ![0, 0] ∧
    win0_3.index t = ![0, 0] ∧
    win0_4.index t = ![t.val, 0] ∧
    win0_5.index t = ![t.val, 0] ∧
    win0_6.index t = ![t.val, 0] ∧
    win0_7.index t = ![t.val, 0] ∧
    win0_8.index t = ![t.val, 0] ∧
    win0_9.index t = ![t.val, 0] ∧
    win0_10.index t = ![t.val, 0] ∧
    win0_11.index t = ![t.val, 0] ∧
    win0_12.index t = ![t.val, 0] ∧
    win0_13.index t = ![t.val, 0] ∧
    win0_14.index t = ![t.val, 0] :=
  (by decide +kernel : ∀ t : Fin grid0.N, _)

/-- The row of the whole arrays that row `a` of point `t`'s blocks is. -/
def row (t : Fin cfg0.N) (a : Fin 512) : Fin 8192 :=
  ⟨t.val * 512 + a.val, by have : t.val < 16 := t.isLt; omega⟩

variable {m} {c : Dev nD} {x : Data} (h : Real m c x)
include h

theorem iblk0 (t : Fin cfg0.N) (a : Fin 512) (k : Fin 1024) : iblk m c 0 t (ix2 a k) = (x.ct (row t a) k : EReal) := by
  rw [← h.ct]
  blk_simp [iblk]; entry_read; pointwise; blk_ext [idx t, row]

theorem iblk4 (t : Fin cfg0.N) (a : Fin 512) (k : Fin 1024) : iblk m c 4 t (ix2 a k) = (x.gc (row t a) k : EReal) := by
  rw [← h.gc]
  blk_simp [iblk]; entry_read; pointwise; blk_ext [idx t, row]

theorem iblk5 (t : Fin cfg0.N) (a : Fin 512) (k : Fin 1024) : iblk m c 5 t (ix2 a k) = (x.gr (row t a) k : EReal) := by
  rw [← h.gr]
  blk_simp [iblk]; entry_read; pointwise; blk_ext [idx t, row]

theorem iblk8 (t : Fin cfg0.N) (a : Fin 512) (k : Fin 1408) : iblk m c 8 t (ix2 a k) = (x.rg (row t a) k : EReal) := by
  rw [← h.rg]
  blk_simp [iblk]; entry_read; pointwise; blk_ext [idx t, row]

theorem iblk9 (t : Fin cfg0.N) (a : Fin 512) (k : Fin 1408) : iblk m c 9 t (ix2 a k) = (x.h (row t a) k : EReal) := by
  rw [← h.h]
  blk_simp [iblk]; entry_read; pointwise; blk_ext [idx t, row]

theorem iblk1 (t : Fin cfg0.N) (k : Fin 1024) (q : Fin 1024) : iblk m c 1 t (ix2 k q) = (x.wo k q : EReal) := by
  rw [← h.wo]
  blk_simp [iblk]; entry_read; pointwise; blk_ext [idx t]

theorem iblk2 (t : Fin cfg0.N) (k : Fin 1024) (q : Fin 1024) : iblk m c 2 t (ix2 k q) = (x.wc k q : EReal) := by
  rw [← h.wc]
  blk_simp [iblk]; entry_read; pointwise; blk_ext [idx t]

theorem iblk3 (t : Fin cfg0.N) (k : Fin 1408) (q : Fin 1024) : iblk m c 3 t (ix2 k q) = (x.wr k q : EReal) := by
  rw [← h.wr]
  blk_simp [iblk]; entry_read; pointwise; blk_ext [idx t]

theorem iblk6 (t : Fin cfg0.N) (a : Fin 512) (q : Fin 1024) : iblk m c 6 t (ix2 a q) = (x.yc (row t a) q : EReal) := by
  have e : (((cfg0.win 6).blk t).view.emb (ix2 a q)) = ix2 (row t a) q := by blk_ext [idx t, row]
  blk_simp [iblk]; entry_read; rw [e]; pointwise
  simp only [h.cs, h.wc, ← EReal.coe_mul, ← coe_sum]
  rfl

theorem iblk7 (t : Fin cfg0.N) (a : Fin 512) (q : Fin 1024) : iblk m c 7 t (ix2 a q) = (x.yr (row t a) q : EReal) := by
  have e : (((cfg0.win 7).blk t).view.emb (ix2 a q)) = ix2 (row t a) q := by blk_ext [idx t, row]
  blk_simp [iblk]; entry_read; rw [e]; pointwise
  simp only [h.h, h.rg, h.wr, f32_root, f32_rounded, half_f32, Ideal.ofBits_one_f32, ← EReal.coe_one, ← EReal.coe_mul, ← EReal.coe_add, Ideal.tanh_coe, ← coe_sum]
  refine congrArg Real.toEReal (Finset.sum_congr rfl fun k _ => ?_)
  unfold gel th
  ring_nf

end Cert.MixValue

end
-- ==== Proof.MixValue.lean ====
module

public import proofs.«01_k».proof.Proof.MixBlocks

@[expose] public section

set_option maxRecDepth 16384

noncomputable section

namespace Cert.MixValue

open Cert.MixIdeal Cert.MixIdeal.Gen Cert.LayerNorm Cert.Reals Cert.MixMath Idealize.ShloMosaic Idealize.ShloMosaic.TcCoe Idealize.SL.Sem

/-- The three stores of a block's packed output, the last first. -/
abbrev parts (P1 : S512x1408.Idx → EReal) (P7 P10 : S512x1024.Idx → EReal) : List (View.Piece (Elt Ideal) S512x3456 .f32) :=
  [⟨Rect.unit ![0, 0] ![512, 1408] inb_S512x3456_S512x1408_0_0, P1⟩,
    ⟨Rect.unit ![0, 2432] ![512, 1024] inb_S512x3456_S512x1024_0_2432, P10⟩,
    ⟨Rect.unit ![0, 1408] ![512, 1024] inb_S512x3456_S512x1024_0_1408, P7⟩]

theorem canon_parts (x : Data) (t : Fin cfg0.N) {P1 : S512x1408.Idx → EReal} {P7 P10 : S512x1024.Idx → EReal}
    (h1 : ∀ a k, P1 (ix2 a k) = (x.drg (row t a) k : EReal)) (h7 : ∀ a q, P7 (ix2 a q) = (x.dgc (row t a) q : EReal))
    (h10 : ∀ a q, P10 (ix2 a q) = (x.dgr (row t a) q : EReal)) (a : Fin 512) (j : Fin 3456) :
    View.canon (Val := Elt Ideal) (parts P1 P7 P10) (ix2 a j) = (x.tail (row t a) j : EReal) := by
  refine View.canon_apply_of_pieces (Val := Elt Ideal) (e := .f32) (fun y : S512x3456.Idx => (x.tail (row t (y 0)) (y 1) : EReal)) (parts P1 P7 P10) ?_
    (ix2 a j) (View.cover_of_tiledBy (parts P1 P7 P10) ![512, 128] (by sl_kernel_rfl) _)
  intro p hp z
  simp only [List.mem_cons, List.not_mem_nil, or_false] at hp
  rcases hp with rfl | rfl | rfl
  · obtain ⟨a, k, rfl⟩ : ∃ (a : Fin 512) (k : Fin 1408), z = ix2 a k := ⟨z 0, z 1, eq_ix2 z⟩
    refine (h1 a k).trans (congrArg Real.toEReal (Eq.symm ?_))
    refine (congrArg (fun y : S512x3456.Idx => x.tail (row t (y 0)) (y 1)) (emb_ix2 inb_S512x3456_S512x1408_0_0 a k (by omega) (by omega))).trans ?_
    refine (x.tail_rg _ _ (show 0 + k.val < 1408 by omega)).trans ?_
    exact congrArg₂ (fun a k => x.drg (row t a) k) (Fin.ext (Nat.zero_add _)) (Fin.ext (Nat.zero_add _))
  · obtain ⟨a, k, rfl⟩ : ∃ (a : Fin 512) (k : Fin 1024), z = ix2 a k := ⟨z 0, z 1, eq_ix2 z⟩
    refine (h10 a k).trans (congrArg Real.toEReal (Eq.symm ?_))
    refine (congrArg (fun y : S512x3456.Idx => x.tail (row t (y 0)) (y 1)) (emb_ix2 inb_S512x3456_S512x1024_0_2432 a k (by omega) (by omega))).trans ?_
    refine (x.tail_gr _ _ (show ¬ 2432 + k.val < 2432 by omega)).trans ?_
    exact congrArg₂ (fun a k => x.dgr (row t a) k) (Fin.ext (Nat.zero_add _)) (Fin.ext (Nat.add_sub_cancel_left _ _))
  · obtain ⟨a, k, rfl⟩ : ∃ (a : Fin 512) (k : Fin 1024), z = ix2 a k := ⟨z 0, z 1, eq_ix2 z⟩
    refine (h7 a k).trans (congrArg Real.toEReal (Eq.symm ?_))
    refine (congrArg (fun y : S512x3456.Idx => x.tail (row t (y 0)) (y 1)) (emb_ix2 inb_S512x3456_S512x1024_0_1408 a k (by omega) (by omega))).trans ?_
    refine (x.tail_gc _ _ (show ¬ 1408 + k.val < 1408 by omega) (show 1408 + k.val < 2432 by omega)).trans ?_
    exact congrArg₂ (fun a k => x.dgc (row t a) k) (Fin.ext (Nat.zero_add _)) (Fin.ext (Nat.add_sub_cancel_left _ _))

variable {m : (ℓ : Loc nD τ sig) → Buf (Elt Ideal) ℓ} {c : Dev nD} {x : Data} (h : Real m c x)
include h

/-! A block's values, row by row. -/

theorem p2 (t : Fin cfg0.N) (a : Fin 512) (q : Fin 1024) :
    k0_pay2 (F := Ideal) (iblk m c 0 t) (iblk m c 1 t) (ix2 a q) = (x.dm (row t a) q : EReal) := by
  pointwise [k0_pay2]
  simp only [iblk0 h, iblk1 h, ← EReal.coe_mul, ← coe_sum]
  rfl

theorem p5 (t : Fin cfg0.N) (a : Fin 512) (q : Fin 1024) :
    k0_pay5 (F := Ideal) (iblk m c 0 t) (iblk m c 1 t) (iblk m c 4 t) (ix2 a q) = (x.dyc (row t a) q : EReal) := by
  pointwise [k0_pay5, k0_pay3]
  rw [p2 h, iblk4 h, logistic, ← EReal.coe_mul]
  rfl

theorem p6 (t : Fin cfg0.N) (a : Fin 512) (q : Fin 1024) :
    k0_pay6 (F := Ideal) (iblk m c 0 t) (iblk m c 1 t) (iblk m c 5 t) (ix2 a q) = (x.dyr (row t a) q : EReal) := by
  pointwise [k0_pay6, k0_pay4]
  rw [p2 h, iblk5 h, logistic, ← EReal.coe_mul]
  rfl

theorem p7 (t : Fin cfg0.N) (a : Fin 512) (q : Fin 1024) :
    k0_pay7 (F := Ideal) (iblk m c 0 t) (iblk m c 1 t) (iblk m c 4 t) (iblk m c 6 t) (ix2 a q) = (x.dgc (row t a) q : EReal) := by
  pointwise [k0_pay7, k0_pay3]
  simp only [p2 h, iblk4 h, iblk6 h, logistic, Ideal.ofBits_one_f32, ← EReal.coe_one, ← EReal.coe_sub, ← EReal.coe_mul]
  rfl

theorem p10 (t : Fin cfg0.N) (a : Fin 512) (q : Fin 1024) :
    k0_pay10 (F := Ideal) (k0_pay4 (iblk m c 5 t)) (k0_pay8 (iblk m c 0 t) (iblk m c 1 t) (iblk m c 5 t) (iblk m c 7 t)) k0_pay9 (ix2 a q)
      = (x.dgr (row t a) q : EReal) := by
  pointwise [k0_pay10, k0_pay9, k0_pay8, k0_pay4]
  simp only [p2 h, iblk5 h, iblk7 h, logistic, Ideal.ofBits_one_f32, ← EReal.coe_one, ← EReal.coe_sub, ← EReal.coe_mul]
  rfl

theorem p11 (t : Fin cfg0.N) (a : Fin 512) (k : Fin 1024) :
    k0_pay11 (F := Ideal) (k0_pay5 (iblk m c 0 t) (iblk m c 1 t) (iblk m c 4 t)) (iblk m c 2 t) (ix2 a k) = (x.dcs (row t a) k : EReal) := by
  pointwise [k0_pay11]
  simp only [p5 h, iblk2 h, ← EReal.coe_mul, ← coe_sum]
  rfl

theorem p12 (t : Fin cfg0.N) (a : Fin 512) (k : Fin 1408) :
    k0_pay12 (F := Ideal) (k0_pay6 (iblk m c 0 t) (iblk m c 1 t) (iblk m c 5 t)) (iblk m c 3 t) (ix2 a k) = (x.dhg (row t a) k : EReal) := by
  pointwise [k0_pay12]
  simp only [p6 h, iblk3 h, ← EReal.coe_mul, ← coe_sum]
  rfl

theorem p13 (t : Fin cfg0.N) (a : Fin 512) (k : Fin 1408) : k0_pay13 (F := Ideal) (iblk m c 8 t) (ix2 a k) = (x.rg (row t a) k : EReal) := by
  pointwise [k0_pay13]
  rw [iblk8 h]

theorem p14 (t : Fin cfg0.N) (a : Fin 512) (k : Fin 1408) :
    k0_pay14 (F := Ideal) (iblk m c 8 t) (ix2 a k) = (th coef (x.rg (row t a) k) : EReal) := by
  pointwise [k0_pay14]
  simp only [p13 h, named_c, f32_root, ← EReal.coe_mul, ← EReal.coe_add, Ideal.tanh_coe]
  refine congrArg Real.toEReal ?_
  unfold th
  ring_nf

theorem p15 (t : Fin cfg0.N) (a : Fin 512) (k : Fin 1408) :
    k0_pay15 (F := Ideal) (k0_pay6 (iblk m c 0 t) (iblk m c 1 t) (iblk m c 5 t)) (iblk m c 3 t) (iblk m c 8 t) (ix2 a k) = (x.dh (row t a) k : EReal) := by
  pointwise [k0_pay15]
  simp only [p12 h, p13 h, p14 h, half_f32, Ideal.ofBits_one_f32, ← EReal.coe_one, ← EReal.coe_mul, ← EReal.coe_add]
  rfl

theorem p1 (t : Fin cfg0.N) (a : Fin 512) (k : Fin 1408) :
    k0_pay1 (F := Ideal) (k0_pay13 (iblk m c 8 t)) (k0_pay14 (iblk m c 8 t))
      (k0_pay16 (k0_pay6 (iblk m c 0 t) (iblk m c 1 t) (iblk m c 5 t)) (iblk m c 3 t) (iblk m c 9 t)) (k0_pay17 (iblk m c 8 t)) (ix2 a k)
      = (x.drg (row t a) k : EReal) := by
  pointwise [k0_pay1, k0_pay16, k0_pay17]
  simp only [p12 h, p13 h, p14 h, iblk9 h, named_3c, f32_root, half_f32, Ideal.ofBits_one_f32, ← EReal.coe_one, ← EReal.coe_mul, ← EReal.coe_add, ← EReal.coe_sub]
  refine congrArg Real.toEReal ?_
  unfold Data.drg dgel coef
  ring

/-! A block's outputs. -/

theorem o10 (t : Fin cfg0.N) (a : Fin 512) (q : Fin 1024) : (outsAt0 m c t).1 (ix2 a q) = (x.dyc (row t a) q : EReal) := by
  unfold outsAt0; frame_out
  exact p5 h t a q

theorem o11 (t : Fin cfg0.N) (a : Fin 512) (q : Fin 1024) : (outsAt0 m c t).2.1 (ix2 a q) = (x.dyr (row t a) q : EReal) := by
  unfold outsAt0; frame_out
  exact p6 h t a q

theorem o12 (t : Fin cfg0.N) (a : Fin 512) (j : Fin 3456) : (outsAt0 m c t).2.2.1 (ix2 a j) = (x.tail (row t a) j : EReal) := by
  unfold outsAt0; frame_out
  exact canon_parts x t (p1 h t) (p7 h t) (p10 h t) a j

theorem o13 (t : Fin cfg0.N) (a : Fin 512) (k : Fin 1024) : (outsAt0 m c t).2.2.2.1 (ix2 a k) = (x.dcs (row t a) k : EReal) := by
  unfold outsAt0; frame_out
  exact p11 h t a k

theorem o14 (t : Fin cfg0.N) (a : Fin 512) (k : Fin 1408) : (outsAt0 m c t).2.2.2.2 (ix2 a k) = (x.dh (row t a) k : EReal) := by
  unfold outsAt0; frame_out
  exact p15 h t a k

/-! The whole results. -/

theorem final10 : (dats m 0 c).arrAt 10 cfg0.N = fun i : S8192x1024.Idx => (x.dyc (i 0) (i 1) : EReal) := by
  refine (dats m 0 c).arrAt_eq_of_covers 10 _ (by decide +kernel) fun t _ y => ?_
  blk_simp
  rw [after0_10]
  obtain ⟨a, b, rfl⟩ : ∃ (a : Fin 512) (b : Fin 1024), y = ix2 a b := ⟨y 0, y 1, eq_ix2 y⟩
  have e : ((cfg0.win 10).blk t).view.emb (ix2 a b) = ix2 (row t a) b := by blk_ext [idx t, row]
  rw [o10 h]
  exact (congrArg (fun i : S8192x1024.Idx => (x.dyc (i 0) (i 1) : EReal)) e).symm

theorem final11 : (dats m 0 c).arrAt 11 cfg0.N = fun i : S8192x1024.Idx => (x.dyr (i 0) (i 1) : EReal) := by
  refine (dats m 0 c).arrAt_eq_of_covers 11 _ (by decide +kernel) fun t _ y => ?_
  blk_simp
  rw [after0_11]
  obtain ⟨a, b, rfl⟩ : ∃ (a : Fin 512) (b : Fin 1024), y = ix2 a b := ⟨y 0, y 1, eq_ix2 y⟩
  have e : ((cfg0.win 11).blk t).view.emb (ix2 a b) = ix2 (row t a) b := by blk_ext [idx t, row]
  rw [o11 h]
  exact (congrArg (fun i : S8192x1024.Idx => (x.dyr (i 0) (i 1) : EReal)) e).symm

theorem final12 : (dats m 0 c).arrAt 12 cfg0.N = fun i : S8192x3456.Idx => (x.tail (i 0) (i 1) : EReal) := by
  refine (dats m 0 c).arrAt_eq_of_covers 12 _ (by decide +kernel) fun t _ y => ?_
  blk_simp
  rw [after0_12]
  obtain ⟨a, b, rfl⟩ : ∃ (a : Fin 512) (b : Fin 3456), y = ix2 a b := ⟨y 0, y 1, eq_ix2 y⟩
  have e : ((cfg0.win 12).blk t).view.emb (ix2 a b) = ix2 (row t a) b := by blk_ext [idx t, row]
  rw [o12 h]
  exact (congrArg (fun i : S8192x3456.Idx => (x.tail (i 0) (i 1) : EReal)) e).symm

theorem final13 : (dats m 0 c).arrAt 13 cfg0.N = fun i : S8192x1024.Idx => (x.dcs (i 0) (i 1) : EReal) := by
  refine (dats m 0 c).arrAt_eq_of_covers 13 _ (by decide +kernel) fun t _ y => ?_
  blk_simp
  rw [after0_13]
  obtain ⟨a, b, rfl⟩ : ∃ (a : Fin 512) (b : Fin 1024), y = ix2 a b := ⟨y 0, y 1, eq_ix2 y⟩
  have e : ((cfg0.win 13).blk t).view.emb (ix2 a b) = ix2 (row t a) b := by blk_ext [idx t, row]
  rw [o13 h]
  exact (congrArg (fun i : S8192x1024.Idx => (x.dcs (i 0) (i 1) : EReal)) e).symm

theorem final14 : (dats m 0 c).arrAt 14 cfg0.N = fun i : S8192x1408.Idx => (x.dh (i 0) (i 1) : EReal) := by
  refine (dats m 0 c).arrAt_eq_of_covers 14 _ (by decide +kernel) fun t _ y => ?_
  blk_simp
  rw [after0_14]
  obtain ⟨a, b, rfl⟩ : ∃ (a : Fin 512) (b : Fin 1408), y = ix2 a b := ⟨y 0, y 1, eq_ix2 y⟩
  have e : ((cfg0.win 14).blk t).view.emb (ix2 a b) = ix2 (row t a) b := by blk_ext [idx t, row]
  rw [o14 h]
  exact (congrArg (fun i : S8192x1408.Idx => (x.dh (i 0) (i 1) : EReal)) e).symm

end Cert.MixValue

end
-- ==== Proof.MixRef.lean ====
module

public import proofs.«01_k».proof.Proof.Gen.MixRefIdeal.Value
public import proofs.«01_k».proof.Proof.MixMath
public import Idealize.ShloMosaic.Lib.Claim
public import Idealize.ShloMosaic.Lib.Pipeline.ValueKit
public import Idealize.ShloMosaic.Lib.Pipeline.ReadBack

@[expose] public section

set_option maxRecDepth 16384

noncomputable section

namespace Cert.MixRef

open Cert.MixRefIdeal Cert.MixRefIdeal.Gen Cert.LayerNorm Cert.Reals Cert.MixMath Idealize.ShloMosaic Idealize.ShloMosaic.TcCoe Idealize.SL.Sem

/-- The named coefficient. -/
theorem named_c : Named.named (F := Ideal) κ "gelu_c" (φ := .f32) 0x3D372713#32 = (coef : EReal) :=
  IdealRules.named_const.ideal_named_scalar κ "gelu_c" _ _ rfl
variable (m : (ℓ : Loc nD τ sig) → Buf (Elt Ideal) ℓ)

/-- The arguments as launched are the given arrays of reals. -/
structure Real (c : Dev nD) (x : Data) : Prop where
  cs : ∀ t q, (m ((c : Thread nD τ).loc main_arg0) : FVec Ideal S8192x1024 .f32) (ix2 t q) = (x.cs t q : EReal)
  h : ∀ t k, (m ((c : Thread nD τ).loc main_arg1) : FVec Ideal S8192x1408 .f32) (ix2 t k) = (x.h t k : EReal)
  rg : ∀ t k, (m ((c : Thread nD τ).loc main_arg2) : FVec Ideal S8192x1408 .f32) (ix2 t k) = (x.rg t k : EReal)
  gc : ∀ t q, (m ((c : Thread nD τ).loc main_arg3) : FVec Ideal S8192x1024 .f32) (ix2 t q) = (x.gc t q : EReal)
  gr : ∀ t q, (m ((c : Thread nD τ).loc main_arg4) : FVec Ideal S8192x1024 .f32) (ix2 t q) = (x.gr t q : EReal)
  wc : ∀ k q, (m ((c : Thread nD τ).loc main_arg5) : FVec Ideal S1024x1024 .f32) (ix2 k q) = (x.wc k q : EReal)
  wr : ∀ k q, (m ((c : Thread nD τ).loc main_arg6) : FVec Ideal S1408x1024 .f32) (ix2 k q) = (x.wr k q : EReal)
  wo : ∀ k q, (m ((c : Thread nD τ).loc main_arg7) : FVec Ideal S1024x1024 .f32) (ix2 k q) = (x.wo k q : EReal)
  ct : ∀ t q, (m ((c : Thread nD τ).loc main_arg8) : FVec Ideal S8192x1024 .f32) (ix2 t q) = (x.ct t q : EReal)

/-- An index of the block of a window that is a whole array, placed in the array. -/
theorem whole_emb {sig : RefSig} {s : Shape} {e : EltTy} {cs : CoreSpace} (arr : Memref sig .tc .hbm s e) (o p : Bool)
    (stage : Memref sig .tc (.core cs) ⟨s.rank, s.size⟩ e) (sem : DmaSem sig) (ha : arr.IsWhole) (hs : stage.IsWhole) (t : Fin Pipeline.Grid.none.N)
    (y : s.Idx) : ((Pipeline.Window.whole arr o p stage sem ha hs).rect t).emb y = y := by
  funext k
  apply Fin.ext
  show 0 * s.size k + 1 * (y k).val = (y k).val
  omega

variable {m} {c : Dev nD} {x : Data} (h : Real m c x)
include h

/-! The windows' blocks: each is its whole array. -/

theorem iblk0 (t : Fin cfg0.N) (a : Fin 8192) (k : Fin 1024) : iblk m c 0 t (ix2 a k) = (x.cs a k : EReal) := by
  rw [← h.cs]
  blk_simp [iblk]; entry_read; pointwise; exact congrArg _ (whole_emb _ _ _ _ _ _ _ t _)

theorem iblk1 (t : Fin cfg0.N) (a : Fin 8192) (k : Fin 1408) : iblk m c 1 t (ix2 a k) = (x.h a k : EReal) := by
  rw [← h.h]
  blk_simp [iblk]; entry_read; pointwise; exact congrArg _ (whole_emb _ _ _ _ _ _ _ t _)

theorem iblk2 (t : Fin cfg0.N) (a : Fin 8192) (k : Fin 1408) : iblk m c 2 t (ix2 a k) = (x.rg a k : EReal) := by
  rw [← h.rg]
  blk_simp [iblk]; entry_read; pointwise; exact congrArg _ (whole_emb _ _ _ _ _ _ _ t _)

theorem iblk3 (t : Fin cfg0.N) (a : Fin 8192) (k : Fin 1024) : iblk m c 3 t (ix2 a k) = (x.gc a k : EReal) := by
  rw [← h.gc]
  blk_simp [iblk]; entry_read; pointwise; exact congrArg _ (whole_emb _ _ _ _ _ _ _ t _)

theorem iblk4 (t : Fin cfg0.N) (a : Fin 8192) (k : Fin 1024) : iblk m c 4 t (ix2 a k) = (x.gr a k : EReal) := by
  rw [← h.gr]
  blk_simp [iblk]; entry_read; pointwise; exact congrArg _ (whole_emb _ _ _ _ _ _ _ t _)

theorem iblk7 (t : Fin cfg0.N) (a : Fin 1024) (k : Fin 1024) : iblk m c 7 t (ix2 a k) = (x.wc a k : EReal) := by
  rw [← h.wc]
  blk_simp [iblk]; entry_read; pointwise; exact congrArg _ (whole_emb _ _ _ _ _ _ _ t _)

theorem iblk8 (t : Fin cfg0.N) (a : Fin 1408) (k : Fin 1024) : iblk m c 8 t (ix2 a k) = (x.wr a k : EReal) := by
  rw [← h.wr]
  blk_simp [iblk]; entry_read; pointwise; exact congrArg _ (whole_emb _ _ _ _ _ _ _ t _)

theorem iblk9 (t : Fin cfg0.N) (a : Fin 1024) (k : Fin 1024) : iblk m c 9 t (ix2 a k) = (x.wo a k : EReal) := by
  rw [← h.wo]
  blk_simp [iblk]; entry_read; pointwise; exact congrArg _ (whole_emb _ _ _ _ _ _ _ t _)

theorem iblk10 (t : Fin cfg0.N) (a : Fin 8192) (k : Fin 1024) : iblk m c 10 t (ix2 a k) = (x.ct a k : EReal) := by
  rw [← h.ct]
  blk_simp [iblk]; entry_read; pointwise; exact congrArg _ (whole_emb _ _ _ _ _ _ _ t _)

theorem iblk5 (t : Fin cfg0.N) (a : Fin 8192) (q : Fin 1024) : iblk m c 5 t (ix2 a q) = (x.yc a q : EReal) := by
  have e : (((cfg0.win 5).blk t).view.emb (ix2 a q)) = ix2 a q := by
    show ((View.whole _).slice _).emb _ = _
    exact whole_emb (Memref.whole main_v0) _ _ _ _ (Memref.isWhole_whole _) (hstage0_5 0) t _
  blk_simp [iblk]; entry_read; rw [e]; pointwise
  simp only [h.cs, h.wc, ← EReal.coe_mul, ← coe_sum]
  rfl

theorem iblk6 (t : Fin cfg0.N) (a : Fin 8192) (q : Fin 1024) : iblk m c 6 t (ix2 a q) = (x.yr a q : EReal) := by
  have e : (((cfg0.win 6).blk t).view.emb (ix2 a q)) = ix2 a q := by
    show ((View.whole _).slice _).emb _ = _
    exact whole_emb (Memref.whole main_v15) _ _ _ _ (Memref.isWhole_whole _) (hstage0_6 0) t _
  blk_simp [iblk]; entry_read; rw [e]; pointwise
  simp only [h.h, h.rg, h.wr, f32_root, f32_rounded, half_f32, Ideal.ofBits_one_f32, ← EReal.coe_one, ← EReal.coe_mul, ← EReal.coe_add, Ideal.tanh_coe, ← coe_sum]
  refine congrArg Real.toEReal (Finset.sum_congr rfl fun k _ => ?_)
  unfold gel th
  ring_nf

/-! The call's values. -/

theorem p3 (t : Fin cfg0.N) (a : Fin 8192) (q : Fin 1024) :
    k0_pay3 (F := Ideal) (iblk m c 9 t) (iblk m c 10 t) (ix2 a q) = (x.dm a q : EReal) := by
  pointwise [k0_pay3]
  simp only [iblk9 h, iblk10 h, ← EReal.coe_mul, ← coe_sum]
  rfl

theorem p6 (t : Fin cfg0.N) (a : Fin 8192) (q : Fin 1024) :
    k0_pay6 (F := Ideal) (iblk m c 3 t) (iblk m c 9 t) (iblk m c 10 t) (ix2 a q) = (x.dyc a q : EReal) := by
  pointwise [k0_pay6, k0_pay1]
  rw [p3 h, iblk3 h, logistic, ← EReal.coe_mul]
  refine congrArg Real.toEReal ?_
  unfold Data.dyc
  ring

theorem p4 (t : Fin cfg0.N) (a : Fin 8192) (q : Fin 1024) :
    k0_pay4 (F := Ideal) (iblk m c 4 t) (iblk m c 9 t) (iblk m c 10 t) (ix2 a q) = (x.dyr a q : EReal) := by
  pointwise [k0_pay4, k0_pay2]
  rw [p3 h, iblk4 h, logistic, ← EReal.coe_mul]
  refine congrArg Real.toEReal ?_
  unfold Data.dyr
  ring

theorem p7 (t : Fin cfg0.N) (a : Fin 8192) (q : Fin 1024) :
    k0_pay7 (F := Ideal) (iblk m c 3 t) (iblk m c 5 t) (iblk m c 9 t) (iblk m c 10 t) (ix2 a q) = (x.dgc a q : EReal) := by
  pointwise [k0_pay7, k0_pay1]
  simp only [p3 h, iblk3 h, iblk5 h, logistic, Ideal.ofBits_one_f32, ← EReal.coe_one, ← EReal.coe_sub, ← EReal.coe_mul]
  refine congrArg Real.toEReal ?_
  unfold Data.dgc
  ring

theorem p5 (t : Fin cfg0.N) (a : Fin 8192) (q : Fin 1024) :
    k0_pay5 (F := Ideal) (iblk m c 4 t) (iblk m c 6 t) (iblk m c 9 t) (iblk m c 10 t) (ix2 a q) = (x.dgr a q : EReal) := by
  pointwise [k0_pay5, k0_pay2]
  simp only [p3 h, iblk4 h, iblk6 h, logistic, Ideal.ofBits_one_f32, ← EReal.coe_one, ← EReal.coe_sub, ← EReal.coe_mul]
  refine congrArg Real.toEReal ?_
  unfold Data.dgr
  ring

theorem p8 (t : Fin cfg0.N) (a : Fin 8192) (k : Fin 1024) :
    k0_pay8 (F := Ideal) (iblk m c 3 t) (iblk m c 9 t) (iblk m c 10 t) (iblk m c 7 t) (ix2 a k) = (x.dcs a k : EReal) := by
  pointwise [k0_pay8]
  simp only [p6 h, iblk7 h, ← EReal.coe_mul, ← coe_sum]
  rfl

theorem p13 (t : Fin cfg0.N) (a : Fin 8192) (k : Fin 1408) :
    k0_pay13 (F := Ideal) (k0_pay4 (iblk m c 4 t) (iblk m c 9 t) (iblk m c 10 t)) (iblk m c 8 t) (ix2 a k) = (x.dhg a k : EReal) := by
  pointwise [k0_pay13]
  simp only [p4 h, iblk8 h, ← EReal.coe_mul, ← coe_sum]
  rfl

theorem p11 (t : Fin cfg0.N) (a : Fin 8192) (k : Fin 1408) :
    k0_pay11 (F := Ideal) (iblk m c 2 t) (k0_pay9 (iblk m c 2 t)) (ix2 a k) = (th coef (x.rg a k) : EReal) := by
  pointwise [k0_pay11, k0_pay9]
  simp only [iblk2 h, named_c, f32_root, ← EReal.coe_mul, ← EReal.coe_add, Ideal.tanh_coe]
  refine congrArg Real.toEReal ?_
  unfold th
  ring_nf

theorem p14 (t : Fin cfg0.N) (a : Fin 8192) (k : Fin 1408) :
    k0_pay14 (F := Ideal) (k0_pay4 (iblk m c 4 t) (iblk m c 9 t) (iblk m c 10 t)) (iblk m c 2 t) (iblk m c 8 t) (k0_pay9 (iblk m c 2 t)) (ix2 a k)
      = (x.dh a k : EReal) := by
  pointwise [k0_pay14, k0_pay12]
  simp only [p13 h, p11 h, iblk2 h, half_f32, Ideal.ofBits_one_f32, ← EReal.coe_one, ← EReal.coe_mul, ← EReal.coe_add]
  refine congrArg Real.toEReal ?_
  unfold Data.dh gel
  ring

theorem p15 (t : Fin cfg0.N) (a : Fin 8192) (j : Fin 3456) :
    k0_pay15 (F := Ideal) (k0_pay4 (iblk m c 4 t) (iblk m c 9 t) (iblk m c 10 t))
      (k0_pay5 (iblk m c 4 t) (iblk m c 6 t) (iblk m c 9 t) (iblk m c 10 t)) (k0_pay7 (iblk m c 3 t) (iblk m c 5 t) (iblk m c 9 t) (iblk m c 10 t))
      (iblk m c 1 t) (iblk m c 2 t) (iblk m c 8 t) (k0_pay9 (iblk m c 2 t)) (k0_pay10 (iblk m c 2 t)) (Scalar.ofBits .f32 0x40400000#32) (ix2 a j)
      = (x.tail a j : EReal) := by
  pointwise [k0_pay15]
  by_cases h1 : j.val < 1408
  · refine (dif_pos h1).trans ?_
    pointwise [k0_pay12, k0_pay10]
    simp only [p13 h, p11 h, iblk1 h, iblk2 h, named_c, f32_root, f32_three, half_f32, Ideal.ofBits_one_f32, ← EReal.coe_one, ← EReal.coe_mul,
      ← EReal.coe_add, ← EReal.coe_sub]
    refine congrArg Real.toEReal (Eq.trans ?_ (x.tail_rg a j h1).symm)
    unfold Data.drg dgel coef
    ring
  · refine (dif_neg h1).trans ?_
    by_cases h2 : j.val - 1408 < 1024
    · exact (dif_pos h2).trans ((p7 h t a _).trans (congrArg Real.toEReal (x.tail_gc a j h1 (by omega)).symm))
    · refine (dif_neg h2).trans ((p5 h t a _).trans (congrArg Real.toEReal (Eq.trans ?_ (x.tail_gr a j (by omega)).symm)))
      exact congrArg (x.dgr a) (Fin.ext (by show j.val - 1408 - 1024 = j.val - 2432; omega))

/-! The whole results. -/

theorem o11 (t : Fin cfg0.N) (a : Fin 8192) (b : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a b)
      = (x.dyc a b : EReal) := by
  unfold_out out0_11; frame_out
  pointwise [k0_pay16]; exact p6 h t a b

theorem o12 (t : Fin cfg0.N) (a : Fin 8192) (b : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a b)
      = (x.dyr a b : EReal) := by
  unfold_out out0_12; frame_out
  pointwise [k0_pay17]; exact p4 h t a b

theorem o13 (t : Fin cfg0.N) (a : Fin 8192) (b : Fin 3456) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a b)
      = (x.tail a b : EReal) := by
  unfold_out out0_13; frame_out
  exact p15 h t a b

theorem o14 (t : Fin cfg0.N) (a : Fin 8192) (b : Fin 1024) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a b)
      = (x.dcs a b : EReal) := by
  unfold_out out0_14; frame_out
  exact p8 h t a b

theorem o15 (t : Fin cfg0.N) (a : Fin 8192) (b : Fin 1408) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a b)
      = (x.dh a b : EReal) := by
  unfold_out out0_15; frame_out
  exact p14 h t a b

theorem final11 : (dats m 0 c).arrAt 11 cfg0.N = fun i : S8192x1024.Idx => (x.dyc (i 0) (i 1) : EReal) := by
  refine (dats m 0 c).arrAt_eq_of_covers 11 _ (by decide +kernel) fun t _ y => ?_
  blk_simp
  rw [after0_11]
  obtain ⟨a, b, rfl⟩ : ∃ (a : Fin 8192) (b : Fin 1024), y = ix2 a b := ⟨y 0, y 1, eq_ix2 y⟩
  have e : ((cfg0.win 11).blk t).view.emb (ix2 a b) = ix2 a b := by
    show ((View.whole _).slice _).emb _ = _
    exact whole_emb (Memref.whole main_v16_0) _ _ _ _ (Memref.isWhole_whole _) (hstage0_11 0) t _
  rw [o11 h]
  exact (congrArg (fun i : S8192x1024.Idx => (x.dyc (i 0) (i 1) : EReal)) e).symm

theorem final12 : (dats m 0 c).arrAt 12 cfg0.N = fun i : S8192x1024.Idx => (x.dyr (i 0) (i 1) : EReal) := by
  refine (dats m 0 c).arrAt_eq_of_covers 12 _ (by decide +kernel) fun t _ y => ?_
  blk_simp
  rw [after0_12]
  obtain ⟨a, b, rfl⟩ : ∃ (a : Fin 8192) (b : Fin 1024), y = ix2 a b := ⟨y 0, y 1, eq_ix2 y⟩
  have e : ((cfg0.win 12).blk t).view.emb (ix2 a b) = ix2 a b := by
    show ((View.whole _).slice _).emb _ = _
    exact whole_emb (Memref.whole main_v16_1) _ _ _ _ (Memref.isWhole_whole _) (hstage0_12 0) t _
  rw [o12 h]
  exact (congrArg (fun i : S8192x1024.Idx => (x.dyr (i 0) (i 1) : EReal)) e).symm

theorem final13 : (dats m 0 c).arrAt 13 cfg0.N = fun i : S8192x3456.Idx => (x.tail (i 0) (i 1) : EReal) := by
  refine (dats m 0 c).arrAt_eq_of_covers 13 _ (by decide +kernel) fun t _ y => ?_
  blk_simp
  rw [after0_13]
  obtain ⟨a, b, rfl⟩ : ∃ (a : Fin 8192) (b : Fin 3456), y = ix2 a b := ⟨y 0, y 1, eq_ix2 y⟩
  have e : ((cfg0.win 13).blk t).view.emb (ix2 a b) = ix2 a b := by
    show ((View.whole _).slice _).emb _ = _
    exact whole_emb (Memref.whole main_v16_2) _ _ _ _ (Memref.isWhole_whole _) (hstage0_13 0) t _
  rw [o13 h]
  exact (congrArg (fun i : S8192x3456.Idx => (x.tail (i 0) (i 1) : EReal)) e).symm

theorem final14 : (dats m 0 c).arrAt 14 cfg0.N = fun i : S8192x1024.Idx => (x.dcs (i 0) (i 1) : EReal) := by
  refine (dats m 0 c).arrAt_eq_of_covers 14 _ (by decide +kernel) fun t _ y => ?_
  blk_simp
  rw [after0_14]
  obtain ⟨a, b, rfl⟩ : ∃ (a : Fin 8192) (b : Fin 1024), y = ix2 a b := ⟨y 0, y 1, eq_ix2 y⟩
  have e : ((cfg0.win 14).blk t).view.emb (ix2 a b) = ix2 a b := by
    show ((View.whole _).slice _).emb _ = _
    exact whole_emb (Memref.whole main_v16_3) _ _ _ _ (Memref.isWhole_whole _) (hstage0_14 0) t _
  rw [o14 h]
  exact (congrArg (fun i : S8192x1024.Idx => (x.dcs (i 0) (i 1) : EReal)) e).symm

theorem final15 : (dats m 0 c).arrAt 15 cfg0.N = fun i : S8192x1408.Idx => (x.dh (i 0) (i 1) : EReal) := by
  refine (dats m 0 c).arrAt_eq_of_covers 15 _ (by decide +kernel) fun t _ y => ?_
  blk_simp
  rw [after0_15]
  obtain ⟨a, b, rfl⟩ : ∃ (a : Fin 8192) (b : Fin 1408), y = ix2 a b := ⟨y 0, y 1, eq_ix2 y⟩
  have e : ((cfg0.win 15).blk t).view.emb (ix2 a b) = ix2 a b := by
    show ((View.whole _).slice _).emb _ = _
    exact whole_emb (Memref.whole main_v16_4) _ _ _ _ (Memref.isWhole_whole _) (hstage0_15 0) t _
  rw [o15 h]
  exact (congrArg (fun i : S8192x1408.Idx => (x.dh (i 0) (i 1) : EReal)) e).symm

end Cert.MixRef

end
-- ==== Proof.MixClaim.lean ====
module

public import proofs.«01_k».proof.Defs
public import proofs.«01_k».proof.Proof.MixValue
public import proofs.«01_k».proof.Proof.MixRef
public import proofs.«01_k».proof.Proof.Gen.Mix.Frame
public import proofs.«01_k».proof.Proof.Gen.Pre_finite_mix

/-! The claims about the merge's gradient, with the products around it. -/

@[expose] public section

set_option maxRecDepth 16384

noncomputable section

namespace Cert.MixClaim

open Idealize.ShloMosaic Idealize.ShloMosaic.TcCoe Idealize.SL.Sem Cert.Reals Cert.LayerNorm

theorem frame : Cert.quiescent_Mix := fun m ρ _ => Cert.Mix.Gen.frame m ρ
theorem frame_ideal : Cert.quiescent_MixIdeal := fun m ρ _ => Cert.MixIdeal.Gen.frame m ρ
theorem frame_ideal_pre : Cert.quiescent_MixIdeal_pre_finite_mix := fun m ρ _ => Cert.MixIdeal.Gen.frame m ρ
theorem frame_ref : Cert.quiescent_MixRefIdeal := fun m ρ _ => Cert.MixRefIdeal.Gen.frame m ρ
theorem frame_ref_pre : Cert.quiescent_MixRefIdeal_pre_finite_mix := fun m ρ _ => Cert.MixRefIdeal.Gen.frame m ρ

/-- The words named stand for the numbers written. -/
theorem preserves : Cert.preserves_Mix_MixIdeal :=
  ⟨IdealRules.named_const.statement Cert.MixIdeal.κ "gelu_c" .f32 0x3D372713#32 ((8943 / 200000 : ℝ) : EReal) rfl,
    IdealRules.named_const.statement Cert.MixIdeal.κ "gelu_3c" .f32 0x3E095D4F#32 ((26829 / 200000 : ℝ) : EReal) rfl⟩

theorem algebraic : Cert.algebraic_MixIdeal_MixRefIdeal_pre_finite_mix := by
  intro m g m' g' hp hm
  have real : ∀ c, ∃ x : MixMath.Data, MixValue.Real m c x := by
    intro c
    obtain ⟨p0, p1, p2, p3, p4, p5, p6, p7, p8⟩ := hp c
    obtain ⟨X0, h0⟩ := lift2 (isReal_of_pre _ _ p0 fun _ => rfl)
    obtain ⟨X1, h1⟩ := lift2 (isReal_of_pre _ _ p1 fun _ => rfl)
    obtain ⟨X2, h2⟩ := lift2 (isReal_of_pre _ _ p2 fun _ => rfl)
    obtain ⟨X3, h3⟩ := lift2 (isReal_of_pre _ _ p3 fun _ => rfl)
    obtain ⟨X4, h4⟩ := lift2 (isReal_of_pre _ _ p4 fun _ => rfl)
    obtain ⟨X5, h5⟩ := lift2 (isReal_of_pre _ _ p5 fun _ => rfl)
    obtain ⟨X6, h6⟩ := lift2 (isReal_of_pre _ _ p6 fun _ => rfl)
    obtain ⟨X7, h7⟩ := lift2 (isReal_of_pre _ _ p7 fun _ => rfl)
    obtain ⟨X8, h8⟩ := lift2 (isReal_of_pre _ _ p8 fun _ => rfl)
    exact ⟨⟨X0, X1, X2, X3, X4, X5, X6, X7, X8⟩, ⟨h0, h1, h2, h3, h4, h5, h6, h7, h8⟩⟩
  choose x h using real
  refine ⟨_, _, _, _, _,
    (θ_run Cert.MixIdeal.defs _ _).mono (fun r k c => ⟨(k c).1.trans (MixValue.final10 (h c)), (k c).2.1.trans (MixValue.final11 (h c)),
      (k c).2.2.1.trans (MixValue.final12 (h c)), (k c).2.2.2.1.trans (MixValue.final13 (h c)), (k c).2.2.2.2.1.trans (MixValue.final14 (h c)),
      (k c).2.2.2.2.2⟩) (Cert.MixIdeal.Value.run_blocks (F := Ideal) m g),
    (θ_run Cert.MixRefIdeal.defs _ _).mono (fun r k c => ?_) (Cert.MixRefIdeal.Value.run_blocks (F := Ideal) m' g')⟩
  obtain ⟨e0, e1, e2, e3, e4, e5, e6, e7, e8⟩ := hm c
  have hr : MixRef.Real _ _ (x c) :=
    ⟨fun t a => (congrFun e0 _).trans ((h c).cs t a), fun t a => (congrFun e1 _).trans ((h c).h t a), fun t a => (congrFun e2 _).trans ((h c).rg t a), fun t a => (congrFun e3 _).trans ((h c).gc t a), fun t a => (congrFun e4 _).trans ((h c).gr t a), fun t a => (congrFun e5 _).trans ((h c).wc t a), fun t a => (congrFun e6 _).trans ((h c).wr t a), fun t a => (congrFun e7 _).trans ((h c).wo t a), fun t a => (congrFun e8 _).trans ((h c).ct t a)⟩
  obtain ⟨k0, k1, k2, k3, k4, ka⟩ := k c
  exact ⟨k0.trans (MixRef.final11 hr), k1.trans (MixRef.final12 hr), k2.trans (MixRef.final13 hr), k3.trans (MixRef.final14 hr),
    k4.trans (MixRef.final15 hr), ka⟩

end Cert.MixClaim

end
-- ==== Proof.Forward.lean ====
module

public import proofs.«01_k».proof.Proof.Reals
public import Idealize.ShloMosaic.Lib.Pipeline.ValueKit

/-! The forward steps on extended reals: the layer norm of a row of 1024 and the layers' sums. No entry need be a number. -/

@[expose] public section

set_option maxRecDepth 16384

noncomputable section

namespace Cert.Forward

open Idealize.ShloMosaic

abbrev Mat (n k : ℕ) := (⟨2, ![n, k]⟩ : Shape).Idx → EReal
abbrev Vect (n : ℕ) := (⟨1, ![n]⟩ : Shape).Idx → EReal

def mean (r : Fin 1024 → EReal) : EReal := Ideal.div (∑ q, r q) (Ideal.ofBits .f32 0x44800000#32)
def cent (r : Fin 1024 → EReal) (q : Fin 1024) : EReal := r q - mean r
/-- The layer norm of a row, with its gain and offset. -/
def norm (g b : Vect 1024) (r : Fin 1024 → EReal) (q : Fin 1024) : EReal :=
  cent r q * Ideal.rsqrt (mean (fun l => cent r l * cent r l) + Ideal.ofBits .f32 0x3727C5AC#32) * g (ix1 q) + b (ix1 q)

/-- A product of matrices. -/
def prod {n d k : ℕ} (X : Mat n d) (W : Mat d k) (t : Fin n) (q : Fin k) : EReal := ∑ l : Fin d, X (ix2 t l) * W (ix2 l q)

/-- The gated value of a gate's entry and an up entry, -/
def act (g u : EReal) : EReal := g * Ideal.logistic g * u
/-- and of a row of both. -/
def gated (p : Fin 5632 → EReal) (k : Fin 2816) : EReal := act (p ⟨k, by omega⟩) (p ⟨2816 + k, by omega⟩)

/-- The residual and half the feed-forward network's second product. -/
def down (A : Mat 8192 2816) (W : Mat 2816 1024) (X : Mat 8192 1024) (t : Fin 8192) (q : Fin 1024) : EReal :=
  Ideal.ofBits .f32 0x3FB504F3#32 * X (ix2 t q) + Ideal.ofBits .f32 0x3F000000#32 * ∑ k : Fin 2816, A (ix2 t k) * W (ix2 k q)

/-- The mixer's product in, with its bias, -/
def lin {n d k : ℕ} (X : Mat n d) (W : Mat d k) (B : Vect k) (t : Fin n) (q : Fin k) : EReal := prod X W t q + B (ix1 q)

/-- The arguments of the mixer's second half: the branches, the gates, the residual, the weights, the norm's gain and offset. -/
structure Branches where
  cs : Mat 8192 1024
  h : Mat 8192 1408
  gc : Mat 8192 1024
  gr : Mat 8192 1024
  x : Mat 8192 1024
  wc : Mat 1024 1024
  wr : Mat 1408 1024
  wo : Mat 1024 1024
  g : Vect 1024
  b : Vect 1024

namespace Branches

variable (d : Branches) (t : Fin 8192)

/-- The gated sum of the branches' products, -/
def merged (q : Fin 1024) : EReal :=
  Ideal.logistic (d.gc (ix2 t q)) * prod d.cs d.wc t q + Ideal.logistic (d.gr (ix2 t q)) * prod d.h d.wr t q
/-- its product with the residual, -/
def res (q : Fin 1024) : EReal := Ideal.ofBits .f32 0x3FB504F3#32 * d.x (ix2 t q) + ∑ l : Fin 1024, d.merged t l * d.wo (ix2 l q)
/-- and the norm. -/
def out (q : Fin 1024) : EReal := norm d.g d.b (d.res t) q

end Branches

/-- An array by its rows and columns. -/
theorem ext {n k : ℕ} {f : Mat n k} {g : Fin n → Fin k → EReal} (h : ∀ a b, f (ix2 a b) = g a b) : f = fun i => g (i 0) (i 1) := by
  funext i
  obtain ⟨a, b, rfl⟩ : ∃ (a : Fin n) (b : Fin k), i = ix2 a b := ⟨i 0, i 1, eq_ix2 i⟩
  exact h a b

end Cert.Forward

end
-- ==== Proof.UpValue.lean ====
module

public import proofs.«01_k».proof.Proof.Forward
public import proofs.«01_k».proof.Proof.Gen.UpIdeal.Value

/-! What the feed-forward network's first half leaves in its results: the first product and the hidden values, block by block. -/

@[expose] public section

set_option maxRecDepth 16384
set_option maxHeartbeats 2000000

noncomputable section

namespace Cert.UpValue

open Cert.UpIdeal Cert.UpIdeal.Gen Cert.Forward Idealize.ShloMosaic Idealize.ShloMosaic.TcCoe Idealize.SL.Sem

/-- A row's first product at a column, the weight given by its columns. -/
def dot (x : Fin 1024 → EReal) (w : Mat 5632 1024) (k : Nat) (h : k < 5632) : EReal := ∑ l : Fin 1024, x l * w (ix2 ⟨k, h⟩ l)

/-- The product and the hidden values, of a block of rows. -/
def block (x : Mat 512 1024) (w : Mat 5632 1024) (i : S512x5632.Idx) : EReal := dot (fun l => x (ix2 (i 0) l)) w (i 1).val (i 1).isLt
def blockH (x : Mat 512 1024) (w : Mat 5632 1024) (i : S512x2816.Idx) : EReal :=
  gated (fun k => dot (fun l => x (ix2 (i 0) l)) w k.val k.isLt) (i 1)

section
variable (x : Mat 512 1024) (w : Mat 5632 1024) (c : Nat) (a : Fin 512) (b : Fin 256)

theorem block_at (inb : ∀ a, (![0, c] : Fin 2 → Nat) a + S512x256.size a ≤ S512x5632.size a) (h : c + b.val < 5632) :
    block x w ((Rect.unit (s := S512x5632) ![0, c] S512x256.size inb).emb (ix2 a b)) = dot (fun l => x (ix2 a l)) w (c + b.val) h := by
  rw [Cert.Reals.emb_ix2 inb a b (by omega) h]
  simp only [block, Nat.zero_add, ix2_0, ix2_1]

theorem blockH_at (inb : ∀ a, (![0, c] : Fin 2 → Nat) a + S512x256.size a ≤ S512x2816.size a) (h : c + b.val < 2816) :
    blockH x w ((Rect.unit (s := S512x2816) ![0, c] S512x256.size inb).emb (ix2 a b)) =
      act (dot (fun l => x (ix2 a l)) w (c + b.val) (by omega)) (dot (fun l => x (ix2 a l)) w (2816 + (c + b.val)) (by omega)) := by
  rw [Cert.Reals.emb_ix2 inb a b (by omega) h]
  simp only [blockH, gated, Nat.zero_add, ix2_0, ix2_1]

end

/-- What a point leaves in the outputs' blocks: every piece is the product's, or the hidden values', element at its place. -/
theorem out2_apply (x0 : Vec Ideal S512x1024 .f32) (x1 : Vec Ideal S5632x1024 .bf16) (y : S512x5632.Idx) : out0_2 x0 x1 y = block x0 x1 y := by
  unfold_out out0_2
  refine View.canon_apply_of_pieces (Val := Elt Ideal) (e := .bf16) (block x0 x1) _ ?_ y (cover0_2 _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl <;>
  · idx_vars x
    rw [block_at (h := by omega)]
    unfold_payloads
    pointwise [dot]
    try simp only [← Nat.add_assoc, Nat.reduceAdd, Nat.zero_add]

theorem out3_apply (x0 : Vec Ideal S512x1024 .f32) (x1 : Vec Ideal S5632x1024 .bf16) (y : S512x2816.Idx) : out0_3 x0 x1 y = blockH x0 x1 y := by
  unfold_out out0_3
  refine View.canon_apply_of_pieces (Val := Elt Ideal) (e := .bf16) (blockH x0 x1) _ ?_ y (cover0_3 _ _ _ _ _ _ _ _ _ _ _ y)
  intro p hp x
  simp only [List.mem_cons, List.not_mem_nil, or_false] at hp
  rcases hp with rfl | rfl | rfl | rfl | rfl | rfl | rfl | rfl | rfl | rfl | rfl <;>
  · idx_vars x
    rw [blockH_at (h := by omega)]
    unfold_payloads
    pointwise [dot, act]
    try simp only [← Nat.add_assoc, Nat.reduceAdd, Nat.zero_add]

variable (m : (ℓ : Loc nD τ sig) → Buf (Elt Ideal) ℓ) (c : Dev nD)

/-- The arguments as launched. -/
abbrev argX : Mat 8192 1024 := (m ((c : Thread nD τ).loc main_arg0) : FVec Ideal S8192x1024 .f32)
abbrev argW : Mat 1024 5632 := (m ((c : Thread nD τ).loc main_arg1) : FVec Ideal S1024x5632 .f32)

theorem idx : ∀ t : Fin cfg0.N, win0_0.index t = ![t.val, 0] ∧ win0_1.index t = ![0, 0] ∧ win0_2.index t = ![t.val, 0] ∧
    win0_3.index t = ![t.val, 0] :=
  (by decide +kernel : ∀ t : Fin grid0.N, _)

/-- The row of the whole arrays that row `a` of point `t`'s blocks is. -/
def row (t : Fin cfg0.N) (a : Fin 512) : Fin 8192 :=
  ⟨t.val * 512 + a.val, by have : t.val < 16 := t.isLt; omega⟩

theorem iblk0 (t : Fin cfg0.N) (a : Fin 512) (k : Fin 1024) : iblk m c 0 t (ix2 a k) = argX m c (ix2 (row t a) k) := by
  blk_simp [iblk]; entry_read; pointwise; blk_ext [idx t, row]

theorem iblk1 (t : Fin cfg0.N) (k : Fin 5632) (l : Fin 1024) : iblk m c 1 t (ix2 k l) = argW m c (ix2 l k) := by
  blk_simp [iblk]; entry_read; pointwise; blk_ext [idx t]

theorem dot_eq (t : Fin cfg0.N) (a : Fin 512) (k : Nat) (h : k < 5632) :
    dot (fun l => iblk m c 0 t (ix2 a l)) (iblk m c 1 t) k h = prod (argX m c) (argW m c) (row t a) ⟨k, h⟩ := by
  unfold dot prod
  simp only [iblk0, iblk1]

/-! The whole results. -/

theorem final2 : (dats m 0 c).arrAt 2 cfg0.N = fun i : S8192x5632.Idx => prod (argX m c) (argW m c) (i 0) (i 1) := by
  refine (dats m 0 c).arrAt_eq_of_covers 2 _ (by decide +kernel) fun t _ y => ?_
  blk_simp
  rw [after0_2, out2_apply]
  obtain ⟨a, b, rfl⟩ : ∃ (a : Fin 512) (b : Fin 5632), y = ix2 a b := ⟨y 0, y 1, eq_ix2 y⟩
  have e : ((cfg0.win 2).blk t).view.emb (ix2 a b) = ix2 (row t a) b := by blk_ext [idx t, row]
  exact (dot_eq m c t a b.val b.isLt).trans (congrArg (fun i : S8192x5632.Idx => prod (argX m c) (argW m c) (i 0) (i 1)) e).symm

theorem final3 : (dats m 0 c).arrAt 3 cfg0.N = fun i : S8192x2816.Idx => gated (prod (argX m c) (argW m c) (i 0)) (i 1) := by
  refine (dats m 0 c).arrAt_eq_of_covers 3 _ (by decide +kernel) fun t _ y => ?_
  blk_simp
  rw [after0_3, out3_apply]
  obtain ⟨a, b, rfl⟩ : ∃ (a : Fin 512) (b : Fin 2816), y = ix2 a b := ⟨y 0, y 1, eq_ix2 y⟩
  have e : ((cfg0.win 3).blk t).view.emb (ix2 a b) = ix2 (row t a) b := by blk_ext [idx t, row]
  refine Eq.trans ?_ (congrArg (fun i : S8192x2816.Idx => gated (prod (argX m c) (argW m c) (i 0)) (i 1)) e).symm
  exact congrArg₂ act (dot_eq m c t a _ _) (dot_eq m c t a _ _)

end Cert.UpValue

end
-- ==== Proof.UpRef.lean ====
module

public import proofs.«01_k».proof.Proof.Forward
public import proofs.«01_k».proof.Proof.Gen.UpRefIdeal.Run
public import proofs.«01_k».proof.Proof.Gen.UpRefIdeal.Read

/-! The reference's first product and hidden values, a row at a time. -/

@[expose] public section

set_option maxRecDepth 16384

noncomputable section

namespace Cert.UpRef

open Cert.UpRefIdeal Cert.UpRefIdeal.Gen Cert.UpRefIdeal.Read Cert.Forward Idealize.ShloMosaic Idealize.ShloMosaic.TcCoe

variable (X : Mat 8192 1024) (W : Mat 1024 5632)

theorem r0 (t : Fin 8192) (k : Fin 5632) : val_main_v0 (F := Ideal) X W (ix2 t k) = prod X W t k := by
  pointwise [val_main_v0]
  rfl

theorem r3 (t : Fin 8192) (k : Fin 5632) : val_main_v3 (F := Ideal) X W (ix2 t k) = prod X W t k := by
  pointwise [val_main_v3]
  exact r0 X W t k

theorem r6 (t : Fin 8192) (k : Fin 2816) : val_main_v6 (F := Ideal) X W (ix2 t k) = gated (prod X W t) k := by
  pointwise [val_main_v6, val_main_v5, val_main_v4, val_main_call0_v5, val_main_call0_v4, val_main_call0_cst_0, val_main_call0_v3, val_main_call0_v2, val_main_call0_cst, val_main_call0_v1, val_main_call0_v0, val_main_v1, val_main_v2]
  simp only [r0, Ideal.ofBits_one_f32]
  rfl

end Cert.UpRef

end
-- ==== Proof.UpClaim.lean ====
module

public import proofs.«01_k».proof.Defs
public import proofs.«01_k».proof.Proof.Gen.Up
public import proofs.«01_k».proof.Proof.Gen.Up.Frame
public import proofs.«01_k».proof.Proof.UpValue
public import proofs.«01_k».proof.Proof.UpRef
public import Idealize.ShloMosaic.Adequacy
public import Idealize.ShloMosaic.Init

/-! The feed-forward network's first half: its frames, and its two results are the reference's. -/

@[expose] public section

set_option maxRecDepth 16384

noncomputable section

namespace Cert.UpClaim

open Idealize.ShloMosaic Idealize.ShloMosaic.TcCoe Idealize.SL.Sem Cert.Forward

theorem frame : Cert.quiescent_Up := fun m ρ _ => Cert.Up.Gen.frame m ρ
theorem frame_ideal : Cert.quiescent_UpIdeal := fun m ρ _ => Cert.UpIdeal.Gen.frame m ρ

theorem frame_ref : Cert.quiescent_UpRefIdeal := fun m ρ _ =>
  (θ_run Cert.UpRefIdeal.defs _ _).mono (fun r h => ⟨fun c => (h c).2.2, sem_eq_zero_of_no_sems (by decide) r.2⟩)
    (Cert.UpRefIdeal.Value.run (F := Ideal) m ρ)

theorem algebraic : Cert.algebraic_UpIdeal_UpRefIdeal := by
  intro m g m' g' _ hm
  refine ⟨_, _,
    (θ_run Cert.UpIdeal.defs _ _).mono (fun r k c => ⟨(k c).1.trans (UpValue.final2 m c), (k c).2.1.trans (UpValue.final3 m c), (k c).2.2⟩)
      (Cert.UpIdeal.Value.run_blocks (F := Ideal) m g),
    (θ_run Cert.UpRefIdeal.defs _ _).mono (fun r k c => ?_) (Cert.UpRefIdeal.Value.run (F := Ideal) m' g')⟩
  obtain ⟨e0, e1⟩ := hm c
  obtain ⟨k0, k1, ka⟩ := k c
  have a0 : (m' ((c.tc : Thread Cert.UpRefIdeal.nD Cert.UpRefIdeal.τ).loc Cert.UpRefIdeal.main_arg0) : Mat 8192 1024) = UpValue.argX m c := e0
  have a1 : (m' ((c.tc : Thread Cert.UpRefIdeal.nD Cert.UpRefIdeal.τ).loc Cert.UpRefIdeal.main_arg1) : Mat 1024 5632) = UpValue.argW m c := e1
  exact ⟨k0.trans ((Cert.UpRefIdeal.Read.val_main_v3_eq _ _).trans ((ext (UpRef.r3 _ _)).trans (by rw [a0, a1]))),
    k1.trans ((Cert.UpRefIdeal.Read.val_main_v6_eq _ _).trans ((ext (UpRef.r6 _ _)).trans (by rw [a0, a1]))), ka⟩

end Cert.UpClaim

end
-- ==== Proof.DownValue.lean ====
module

public import proofs.«01_k».proof.Proof.Forward
public import proofs.«01_k».proof.Proof.Gen.DownIdeal.Value

/-! What the feed-forward network's second half leaves in its results: the residual's sum and its norm, block by block. -/

@[expose] public section

set_option maxRecDepth 16384

noncomputable section

namespace Cert.DownValue

open Cert.DownIdeal Cert.DownIdeal.Gen Cert.Forward Idealize.ShloMosaic Idealize.ShloMosaic.TcCoe Idealize.SL.Sem

variable (m : (ℓ : Loc nD τ sig) → Buf (Elt Ideal) ℓ) (c : Dev nD)

/-- The arguments as launched. -/
abbrev argA : Mat 8192 2816 := (m ((c : Thread nD τ).loc main_arg0) : FVec Ideal S8192x2816 .f32)
abbrev argW : Mat 2816 1024 := (m ((c : Thread nD τ).loc main_arg1) : FVec Ideal S2816x1024 .f32)
abbrev argX : Mat 8192 1024 := (m ((c : Thread nD τ).loc main_arg2) : FVec Ideal S8192x1024 .f32)
abbrev argG : Vect 1024 := (m ((c : Thread nD τ).loc main_arg3) : FVec Ideal S1024 .f32)
abbrev argB : Vect 1024 := (m ((c : Thread nD τ).loc main_arg4) : FVec Ideal S1024 .f32)

theorem idx : ∀ t : Fin cfg0.N, win0_0.index t = ![t.val, 0] ∧ win0_1.index t = ![0, 0] ∧ win0_2.index t = ![t.val, 0] ∧
    win0_3.index t = ![0, 0] ∧ win0_4.index t = ![0, 0] ∧ win0_5.index t = ![t.val, 0] ∧ win0_6.index t = ![t.val, 0] ∧
    win0_7.index t = ![t.val, 0] :=
  (by decide +kernel : ∀ t : Fin grid0.N, _)

/-- The row of the whole arrays that row `a` of point `t`'s blocks is. -/
def row (t : Fin cfg0.N) (a : Fin 512) : Fin 8192 :=
  ⟨t.val * 512 + a.val, by have : t.val < 16 := t.isLt; omega⟩

theorem iblk0 (t : Fin cfg0.N) (a : Fin 512) (k : Fin 2816) : iblk m c 0 t (ix2 a k) = argA m c (ix2 (row t a) k) := by
  blk_simp [iblk]; entry_read; pointwise; blk_ext [idx t, row]

theorem iblk1 (t : Fin cfg0.N) (k : Fin 2816) (q : Fin 1024) : iblk m c 1 t (ix2 k q) = argW m c (ix2 k q) := by
  blk_simp [iblk]; entry_read; pointwise; blk_ext [idx t]

theorem iblk2 (t : Fin cfg0.N) (a : Fin 512) (q : Fin 1024) : iblk m c 2 t (ix2 a q) = argX m c (ix2 (row t a) q) := by
  blk_simp [iblk]; entry_read; pointwise; blk_ext [idx t, row]

theorem iblk3 (t : Fin cfg0.N) (q : Fin 1024) : iblk m c 3 t (ix2 0 q) = argG m c (ix1 q) := by
  blk_simp [iblk]; entry_read; pointwise; blk_ext [idx t]

theorem iblk4 (t : Fin cfg0.N) (q : Fin 1024) : iblk m c 4 t (ix2 0 q) = argB m c (ix1 q) := by
  blk_simp [iblk]; entry_read; pointwise; blk_ext [idx t]

/-- The residual's sum, row by row, -/
theorem p2 (t : Fin cfg0.N) (a : Fin 512) (q : Fin 1024) :
    k0_pay2 (F := Ideal) (iblk m c 2 t) (iblk m c 0 t) (iblk m c 1 t) (ix2 a q) = down (argA m c) (argW m c) (argX m c) (row t a) q := by
  pointwise [k0_pay2]
  simp only [iblk0, iblk1, iblk2]
  rfl

/-- and its norm. -/
theorem p3 (t : Fin cfg0.N) (a : Fin 512) (q : Fin 1024) :
    k0_pay3 (F := Ideal) (iblk m c 2 t) (iblk m c 0 t) (iblk m c 1 t) (iblk m c 3 t) (iblk m c 4 t) (ix2 a q) =
      norm (argG m c) (argB m c) (down (argA m c) (argW m c) (argX m c) (row t a)) q := by
  pointwise [k0_pay3]
  simp only [p2, iblk3, iblk4]
  rfl

theorem o5 (t : Fin cfg0.N) (a : Fin 512) (q : Fin 1024) :
    out0_5 (iblk m c 0 t) (iblk m c 1 t) (iblk m c 2 t) (iblk m c 3 t) (iblk m c 4 t) (ix2 a q) = down (argA m c) (argW m c) (argX m c) (row t a) q := by
  unfold_out out0_5; frame_out
  exact p2 m c t a q

theorem o6 (t : Fin cfg0.N) (a : Fin 512) (q : Fin 1024) :
    out0_6 (iblk m c 0 t) (iblk m c 1 t) (iblk m c 2 t) (iblk m c 3 t) (iblk m c 4 t) (ix2 a q) = norm (argG m c) (argB m c) (down (argA m c) (argW m c) (argX m c) (row t a)) q := by
  unfold_out out0_6; frame_out
  exact p3 m c t a q

theorem o7 (t : Fin cfg0.N) (a : Fin 512) (q : Fin 1024) :
    out0_7 (iblk m c 0 t) (iblk m c 1 t) (iblk m c 2 t) (iblk m c 3 t) (iblk m c 4 t) (ix2 a q) = norm (argG m c) (argB m c) (down (argA m c) (argW m c) (argX m c) (row t a)) q := by
  unfold_out out0_7; frame_out
  pointwise [k0_pay1]
  exact p3 m c t a q

/-! The whole results. -/

theorem final5 : (dats m 0 c).arrAt 5 cfg0.N = fun i : S8192x1024.Idx => down (argA m c) (argW m c) (argX m c) (i 0) (i 1) := by
  refine (dats m 0 c).arrAt_eq_of_covers 5 _ (by decide +kernel) fun t _ y => ?_
  blk_simp
  rw [after0_5]
  obtain ⟨a, b, rfl⟩ : ∃ (a : Fin 512) (b : Fin 1024), y = ix2 a b := ⟨y 0, y 1, eq_ix2 y⟩
  have e : ((cfg0.win 5).blk t).view.emb (ix2 a b) = ix2 (row t a) b := by blk_ext [idx t, row]
  rw [o5]
  exact (congrArg (fun i : S8192x1024.Idx => down (argA m c) (argW m c) (argX m c) (i 0) (i 1)) e).symm

theorem final6 : (dats m 0 c).arrAt 6 cfg0.N =
    fun i : S8192x1024.Idx => norm (argG m c) (argB m c) (down (argA m c) (argW m c) (argX m c) (i 0)) (i 1) := by
  refine (dats m 0 c).arrAt_eq_of_covers 6 _ (by decide +kernel) fun t _ y => ?_
  blk_simp
  rw [after0_6]
  obtain ⟨a, b, rfl⟩ : ∃ (a : Fin 512) (b : Fin 1024), y = ix2 a b := ⟨y 0, y 1, eq_ix2 y⟩
  have e : ((cfg0.win 6).blk t).view.emb (ix2 a b) = ix2 (row t a) b := by blk_ext [idx t, row]
  rw [o6]
  exact (congrArg (fun i : S8192x1024.Idx => norm (argG m c) (argB m c) (down (argA m c) (argW m c) (argX m c) (i 0)) (i 1)) e).symm

theorem final7 : (dats m 0 c).arrAt 7 cfg0.N =
    fun i : S8192x1024.Idx => norm (argG m c) (argB m c) (down (argA m c) (argW m c) (argX m c) (i 0)) (i 1) := by
  refine (dats m 0 c).arrAt_eq_of_covers 7 _ (by decide +kernel) fun t _ y => ?_
  blk_simp
  rw [after0_7]
  obtain ⟨a, b, rfl⟩ : ∃ (a : Fin 512) (b : Fin 1024), y = ix2 a b := ⟨y 0, y 1, eq_ix2 y⟩
  have e : ((cfg0.win 7).blk t).view.emb (ix2 a b) = ix2 (row t a) b := by blk_ext [idx t, row]
  rw [o7]
  exact (congrArg (fun i : S8192x1024.Idx => norm (argG m c) (argB m c) (down (argA m c) (argW m c) (argX m c) (i 0)) (i 1)) e).symm

end Cert.DownValue

end
-- ==== Proof.DownRef.lean ====
module

public import proofs.«01_k».proof.Proof.Forward
public import proofs.«01_k».proof.Proof.Gen.DownRefIdeal.Run
public import proofs.«01_k».proof.Proof.Gen.DownRefIdeal.Read

/-! The reference's residual sum and its norm, a row at a time. -/

@[expose] public section

set_option maxRecDepth 16384

noncomputable section

namespace Cert.DownRef

open Cert.DownRefIdeal Cert.DownRefIdeal.Gen Cert.DownRefIdeal.Read Cert.Forward Idealize.ShloMosaic Idealize.ShloMosaic.TcCoe

variable (A : Mat 8192 2816) (W : Mat 2816 1024) (X : Mat 8192 1024) (G B : Vect 1024)

theorem r5 (t : Fin 8192) (q : Fin 1024) : val_main_v5 (F := Ideal) A W X (ix2 t q) = down A W X t q := by
  pointwise [val_main_v5, val_main_v4, val_main_v3, val_main_cst_0, val_main_v2, val_main_v1, val_main_v0, val_main_cst]
  rfl

theorem r9 (t : Fin 8192) : val_main_v9 (F := Ideal) A W X (ix2 t 0) = mean (down A W X t) := by
  pointwise [val_main_v9, val_main_v8, val_main_cst_2, val_main_v7, val_main_v6, val_main_cst_1]
  simp only [r5]
  rfl

theorem r11 (t : Fin 8192) (q : Fin 1024) : val_main_v11 (F := Ideal) A W X (ix2 t q) = cent (down A W X t) q := by
  pointwise [val_main_v11, val_main_v10]
  simp only [r5, r9]
  rfl

theorem r16 (t : Fin 8192) : val_main_v16 (F := Ideal) A W X (ix2 t 0) = mean fun l => cent (down A W X t) l * cent (down A W X t) l := by
  pointwise [val_main_v16, val_main_v15, val_main_cst_4, val_main_v14, val_main_v13, val_main_cst_3, val_main_v12]
  simp only [r11]
  rfl

theorem r27 (t : Fin 8192) (q : Fin 1024) : val_main_v27 (F := Ideal) A W X G B (ix2 t q) = norm G B (down A W X t) q := by
  pointwise [val_main_v27, val_main_v26, val_main_v25, val_main_v24, val_main_v23, val_main_v22, val_main_v21, val_main_v20, val_main_v19, val_main_v18, val_main_v17, val_main_cst_5]
  simp only [r11, r16]
  rfl

theorem r28 (t : Fin 8192) (q : Fin 1024) : val_main_v28 (F := Ideal) A W X G B (ix2 t q) = norm G B (down A W X t) q := by
  pointwise [val_main_v28]
  exact r27 A W X G B t q

end Cert.DownRef

end
-- ==== Proof.DownClaim.lean ====
module

public import proofs.«01_k».proof.Defs
public import proofs.«01_k».proof.Proof.Gen.Down
public import proofs.«01_k».proof.Proof.Gen.Down.Frame
public import proofs.«01_k».proof.Proof.DownValue
public import proofs.«01_k».proof.Proof.DownRef
public import Idealize.ShloMosaic.Adequacy
public import Idealize.ShloMosaic.Init

/-! The feed-forward network's second half: its frames, and its three results are the reference's. -/

@[expose] public section

set_option maxRecDepth 16384

noncomputable section

namespace Cert.DownClaim

open Idealize.ShloMosaic Idealize.ShloMosaic.TcCoe Idealize.SL.Sem Cert.Forward

theorem frame : Cert.quiescent_Down := fun m ρ _ => Cert.Down.Gen.frame m ρ
theorem frame_ideal : Cert.quiescent_DownIdeal := fun m ρ _ => Cert.DownIdeal.Gen.frame m ρ

theorem frame_ref : Cert.quiescent_DownRefIdeal := fun m ρ _ =>
  (θ_run Cert.DownRefIdeal.defs _ _).mono (fun r h => ⟨fun c => (h c).2.2.2, sem_eq_zero_of_no_sems (by decide) r.2⟩)
    (Cert.DownRefIdeal.Value.run (F := Ideal) m ρ)

theorem algebraic : Cert.algebraic_DownIdeal_DownRefIdeal := by
  intro m g m' g' _ hm
  refine ⟨_, _, _,
    (θ_run Cert.DownIdeal.defs _ _).mono (fun r k c => ⟨(k c).1.trans (DownValue.final5 m c), (k c).2.1.trans (DownValue.final6 m c), (k c).2.2.1.trans (DownValue.final7 m c), (k c).2.2.2⟩)
      (Cert.DownIdeal.Value.run_blocks (F := Ideal) m g),
    (θ_run Cert.DownRefIdeal.defs _ _).mono (fun r k c => ?_) (Cert.DownRefIdeal.Value.run (F := Ideal) m' g')⟩
  obtain ⟨e0, e1, e2, e3, e4⟩ := hm c
  obtain ⟨k0, k1, k2, ka⟩ := k c
  have a0 : (m' ((c.tc : Thread Cert.DownRefIdeal.nD Cert.DownRefIdeal.τ).loc Cert.DownRefIdeal.main_arg0) : Mat 8192 2816) = DownValue.argA m c := e0
  have a1 : (m' ((c.tc : Thread Cert.DownRefIdeal.nD Cert.DownRefIdeal.τ).loc Cert.DownRefIdeal.main_arg1) : Mat 2816 1024) = DownValue.argW m c := e1
  have a2 : (m' ((c.tc : Thread Cert.DownRefIdeal.nD Cert.DownRefIdeal.τ).loc Cert.DownRefIdeal.main_arg2) : Mat 8192 1024) = DownValue.argX m c := e2
  have a3 : (m' ((c.tc : Thread Cert.DownRefIdeal.nD Cert.DownRefIdeal.τ).loc Cert.DownRefIdeal.main_arg3) : Vect 1024) = DownValue.argG m c := e3
  have a4 : (m' ((c.tc : Thread Cert.DownRefIdeal.nD Cert.DownRefIdeal.τ).loc Cert.DownRefIdeal.main_arg4) : Vect 1024) = DownValue.argB m c := e4
  exact ⟨k0.trans ((Cert.DownRefIdeal.Read.val_main_v5_eq _ _ _).trans ((ext (DownRef.r5 _ _ _)).trans (by rw [a0, a1, a2]))),
    k1.trans ((Cert.DownRefIdeal.Read.val_main_v27_eq _ _ _ _ _).trans ((ext (DownRef.r27 _ _ _ _ _)).trans (by rw [a0, a1, a2, a3, a4]))),
    k2.trans ((Cert.DownRefIdeal.Read.val_main_v28_eq _ _ _ _ _).trans ((ext (DownRef.r28 _ _ _ _ _)).trans (by rw [a0, a1, a2, a3, a4]))), ka⟩

end Cert.DownClaim

end
-- ==== Proof.SplitValue.lean ====
module

public import proofs.«01_k».proof.Proof.Forward
public import proofs.«01_k».proof.Proof.Gen.SplitIdeal.Value

/-! What the mixer's first half leaves in its results: the parts of the product in, and the conv branch's gated values, block by block. -/

@[expose] public section

set_option maxRecDepth 16384
set_option maxHeartbeats 2000000

noncomputable section

namespace Cert.SplitValue

open Cert.SplitIdeal Cert.SplitIdeal.Gen Cert.Forward Idealize.ShloMosaic Idealize.ShloMosaic.TcCoe Idealize.SL.Sem

section
variable {e : EltTy} {n : ℕ} (f : Fin 512 → Fin n → Elt Ideal e)

/-- The columns `o …` of a block whose element at row `a` and column `j` is `f a j`. -/
def Part (w o : ℕ) (P : (⟨2, ![512, w]⟩ : Shape).Idx → Elt Ideal e) : Prop :=
  ∀ (a : Fin 512) (b : Fin w) (h : o + b.val < n), P (ix2 a b) = f a ⟨o + b.val, h⟩

theorem Part.at {f : Fin 512 → Fin n → Elt Ideal e} {w o : ℕ} {P : (⟨2, ![512, w]⟩ : Shape).Idx → Elt Ideal e} (h : Part f w o P)
    (inb : ∀ a, (![0, o] : Fin 2 → Nat) a + (![512, w] : Fin 2 → Nat) a ≤ (⟨2, ![512, n]⟩ : Shape).size a)
    (x : (⟨2, ![512, w]⟩ : Shape).Idx) :
    P x = (fun y : (⟨2, ![512, n]⟩ : Shape).Idx => f (y 0) (y 1)) ((Rect.unit (s := ⟨2, ![512, n]⟩) ![0, o] ![512, w] inb).emb x) := by
  obtain ⟨a, b, rfl⟩ : ∃ (a : Fin 512) (b : Fin w), x = ix2 a b := ⟨x 0, x 1, eq_ix2 x⟩
  have hb : o + b.val < n := lt_of_lt_of_le (Nat.add_lt_add_left b.isLt o) (inb 1)
  rw [Cert.Reals.emb_ix2 inb a b (by omega) hb, h a b hb]
  exact congrArg (fun i => f i ⟨o + b.val, hb⟩) (Fin.ext (Nat.zero_add _).symm)

end

/-- The stores of a block of 1024 columns, the last first, leave the block they are the parts of, -/
theorem canon_quarters {e : EltTy} (f : Fin 512 → Fin 1024 → Elt Ideal e) {P0 P1 P2 P3 : S512x256.Idx → Elt Ideal e}
    (h0 : Part f 256 0 P0) (h1 : Part f 256 256 P1) (h2 : Part f 256 512 P2) (h3 : Part f 256 768 P3) (a : Fin 512) (q : Fin 1024) :
    View.canon (Val := Elt Ideal) (e := e) (s := S512x1024) [⟨Rect.unit ![0, 768] ![512, 256] inb_S512x1024_S512x256_0_768, P3⟩,
      ⟨Rect.unit ![0, 512] ![512, 256] inb_S512x1024_S512x256_0_512, P2⟩, ⟨Rect.unit ![0, 256] ![512, 256] inb_S512x1024_S512x256_0_256, P1⟩,
      ⟨Rect.unit ![0, 0] ![512, 256] inb_S512x1024_S512x256_0_0, P0⟩] (ix2 a q) = f a q := by
  refine View.canon_apply_of_pieces (Val := Elt Ideal) (e := e) (fun y : S512x1024.Idx => f (y 0) (y 1)) _ ?_ (ix2 a q)
    (View.cover_of_tiledL _ ![512, 256] (by sl_kernel_rfl) _)
  intro p hp x
  simp only [List.mem_cons, List.not_mem_nil, or_false] at hp
  rcases hp with rfl | rfl | rfl | rfl
  exacts [h3.at inb_S512x1024_S512x256_0_768 x, h2.at inb_S512x1024_S512x256_0_512 x, h1.at inb_S512x1024_S512x256_0_256 x,
    h0.at inb_S512x1024_S512x256_0_0 x]

/-- and so do those of a block of 1408. -/
theorem canon_pieces {e : EltTy} (f : Fin 512 → Fin 1408 → Elt Ideal e) {P0 P1 P2 P3 P4 : S512x256.Idx → Elt Ideal e}
    {P5 : S512x128.Idx → Elt Ideal e} (h0 : Part f 256 0 P0) (h1 : Part f 256 256 P1) (h2 : Part f 256 512 P2) (h3 : Part f 256 768 P3)
    (h4 : Part f 256 1024 P4) (h5 : Part f 128 1280 P5) (a : Fin 512) (q : Fin 1408) :
    View.canon (Val := Elt Ideal) (e := e) (s := S512x1408) [⟨Rect.unit ![0, 1280] ![512, 128] inb_S512x1408_S512x128_0_1280, P5⟩,
      ⟨Rect.unit ![0, 1024] ![512, 256] inb_S512x1408_S512x256_0_1024, P4⟩, ⟨Rect.unit ![0, 768] ![512, 256] inb_S512x1408_S512x256_0_768, P3⟩,
      ⟨Rect.unit ![0, 512] ![512, 256] inb_S512x1408_S512x256_0_512, P2⟩, ⟨Rect.unit ![0, 256] ![512, 256] inb_S512x1408_S512x256_0_256, P1⟩,
      ⟨Rect.unit ![0, 0] ![512, 256] inb_S512x1408_S512x256_0_0, P0⟩] (ix2 a q) = f a q := by
  refine View.canon_apply_of_pieces (Val := Elt Ideal) (e := e) (fun y : S512x1408.Idx => f (y 0) (y 1)) _ ?_ (ix2 a q)
    (View.cover_of_tiledBy _ ![512, 128] (by sl_kernel_rfl) _)
  intro p hp x
  simp only [List.mem_cons, List.not_mem_nil, or_false] at hp
  rcases hp with rfl | rfl | rfl | rfl | rfl | rfl
  exacts [h5.at inb_S512x1408_S512x128_0_1280 x, h4.at inb_S512x1408_S512x256_0_1024 x, h3.at inb_S512x1408_S512x256_0_768 x,
    h2.at inb_S512x1408_S512x256_0_512 x, h1.at inb_S512x1408_S512x256_0_256 x, h0.at inb_S512x1408_S512x256_0_0 x]

/-- A block's product in at a column, the weight given by its columns. -/
def blk (x : Mat 512 1024) (w : Mat 6912 1024) (b : Mat 1 6912) (a : Fin 512) (k : ℕ) (h : k < 6912) : EReal :=
  (∑ l : Fin 1024, x (ix2 a l) * w (ix2 ⟨k, h⟩ l)) + b (ix2 0 ⟨k, h⟩)

/-- The columns from `o` on. -/
def cols {n : ℕ} (o : ℕ) (h : o + n ≤ 6912) (x : Mat 512 1024) (w : Mat 6912 1024) (b : Mat 1 6912) (a : Fin 512) (j : Fin n) : EReal :=
  blk x w b a (o + j.val) (by omega)

variable (m : (ℓ : Loc nD τ sig) → Buf (Elt Ideal) ℓ) (c : Dev nD)

/-- The arguments as launched. -/
abbrev argX : Mat 8192 1024 := (m ((c : Thread nD τ).loc main_arg0) : FVec Ideal S8192x1024 .f32)
abbrev argW : Mat 1024 6912 := (m ((c : Thread nD τ).loc main_arg1) : FVec Ideal S1024x6912 .f32)
abbrev argB : Vect 6912 := (m ((c : Thread nD τ).loc main_arg2) : FVec Ideal S6912 .f32)

theorem idx : ∀ t : Fin cfg0.N, win0_0.index t = ![t.val, 0] ∧ win0_1.index t = ![0, 0] ∧ win0_2.index t = ![0, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![t.val, 0] :=
  (by decide +kernel : ∀ t : Fin grid0.N, _)

/-- The row of the whole arrays that row `a` of point `t`'s blocks is. -/
def row (t : Fin cfg0.N) (a : Fin 512) : Fin 8192 :=
  ⟨t.val * 512 + a.val, by have : t.val < 16 := t.isLt; omega⟩

variable (t : Fin cfg0.N)

theorem iblk0 (a : Fin 512) (k : Fin 1024) : iblk m c 0 t (ix2 a k) = argX m c (ix2 (row t a) k) := by
  blk_simp [iblk]; entry_read; pointwise; blk_ext [idx t, row]

theorem iblk1 (k : Fin 6912) (l : Fin 1024) : iblk m c 1 t (ix2 k l) = argW m c (ix2 l k) := by
  blk_simp [iblk]; entry_read; pointwise; blk_ext [idx t]

theorem iblk2 (k : Fin 6912) : iblk m c 2 t (ix2 0 k) = argB m c (ix1 k) := by
  blk_simp [iblk]; entry_read; pointwise; blk_ext [idx t]

/-- A row of the whole product in, its columns from `o` on. -/
def part {n : ℕ} (o : ℕ) (h : o + n ≤ 6912) (t : Fin 8192) (q : Fin n) : EReal := lin (argX m c) (argW m c) (argB m c) t ⟨o + q.val, by omega⟩

theorem cols_eq {n : ℕ} (o : ℕ) (h : o + n ≤ 6912) (a : Fin 512) (q : Fin n) :
    cols o h (iblk m c 0 t) (iblk m c 1 t) (iblk m c 2 t) a q = part m c o h (row t a) q := by
  unfold cols blk part lin prod
  simp only [iblk0, iblk1, iblk2]

/-! A block's results. -/

theorem o3 (a : Fin 512) (q : Fin 1024) : (outsAt0 m c t).1 (ix2 a q) = part m c 0 (by omega) (row t a) q * Ideal.logistic (part (n := 1024) m c 1024 (by omega) (row t a) q) := by
  unfold outsAt0; frame_out
  refine (canon_quarters (e := .f32) (fun a q => cols 0 (by omega) (iblk m c 0 t) (iblk m c 1 t) (iblk m c 2 t) a q * Ideal.logistic (cols 1024 (by omega) (iblk m c 0 t) (iblk m c 1 t) (iblk m c 2 t) a q)) ?_ ?_ ?_ ?_ a q).trans ?_
  rotate_left 4
  · exact congrArg₂ (fun u v => u * Ideal.logistic v) (cols_eq m c t 0 (by omega) a q) (cols_eq m c t 1024 (by omega) a q)
  all_goals
    intro a b h
    unfold_payloads
    pointwise [cols, blk]
    try simp only [← Nat.add_assoc, Nat.reduceAdd, Nat.zero_add]

theorem o4 (a : Fin 512) (q : Fin 1024) : (outsAt0 m c t).2.1 (ix2 a q) = part m c 0 (by omega) (row t a) q := by
  unfold outsAt0; frame_out
  refine (canon_quarters (e := .bf16) (fun a q => cols 0 (by omega) (iblk m c 0 t) (iblk m c 1 t) (iblk m c 2 t) a q) ?_ ?_ ?_ ?_ a q).trans ?_
  rotate_left 4
  · exact cols_eq m c t 0 (by omega) a q
  all_goals
    intro a b h
    unfold_payloads
    pointwise [cols, blk]
    try simp only [← Nat.add_assoc, Nat.reduceAdd, Nat.zero_add]

theorem o5 (a : Fin 512) (q : Fin 1024) : (outsAt0 m c t).2.2.1 (ix2 a q) = part m c 1024 (by omega) (row t a) q := by
  unfold outsAt0; frame_out
  refine (canon_quarters (e := .bf16) (fun a q => cols 1024 (by omega) (iblk m c 0 t) (iblk m c 1 t) (iblk m c 2 t) a q) ?_ ?_ ?_ ?_ a q).trans ?_
  rotate_left 4
  · exact cols_eq m c t 1024 (by omega) a q
  all_goals
    intro a b h
    unfold_payloads
    pointwise [cols, blk]
    try simp only [← Nat.add_assoc, Nat.reduceAdd, Nat.zero_add]

theorem o6 (a : Fin 512) (q : Fin 1408) : (outsAt0 m c t).2.2.2.1 (ix2 a q) = part m c 2048 (by omega) (row t a) q := by
  unfold outsAt0; frame_out
  refine (canon_pieces (e := .f32) (fun a q => cols 2048 (by omega) (iblk m c 0 t) (iblk m c 1 t) (iblk m c 2 t) a q) ?_ ?_ ?_ ?_ ?_ ?_ a q).trans ?_
  rotate_left 6
  · exact cols_eq m c t 2048 (by omega) a q
  all_goals
    intro a b h
    unfold_payloads
    pointwise [cols, blk]
    try simp only [← Nat.add_assoc, Nat.reduceAdd, Nat.zero_add]

theorem o7 (a : Fin 512) (q : Fin 1408) : (outsAt0 m c t).2.2.2.2.1 (ix2 a q) = part m c 3456 (by omega) (row t a) q := by
  unfold outsAt0; frame_out
  refine (canon_pieces (e := .bf16) (fun a q => cols 3456 (by omega) (iblk m c 0 t) (iblk m c 1 t) (iblk m c 2 t) a q) ?_ ?_ ?_ ?_ ?_ ?_ a q).trans ?_
  rotate_left 6
  · exact cols_eq m c t 3456 (by omega) a q
  all_goals
    intro a b h
    unfold_payloads
    pointwise [cols, blk]
    try simp only [← Nat.add_assoc, Nat.reduceAdd, Nat.zero_add]

theorem o8 (a : Fin 512) (q : Fin 1024) : (outsAt0 m c t).2.2.2.2.2.1 (ix2 a q) = part m c 4864 (by omega) (row t a) q := by
  unfold outsAt0; frame_out
  refine (canon_quarters (e := .bf16) (fun a q => cols 4864 (by omega) (iblk m c 0 t) (iblk m c 1 t) (iblk m c 2 t) a q) ?_ ?_ ?_ ?_ a q).trans ?_
  rotate_left 4
  · exact cols_eq m c t 4864 (by omega) a q
  all_goals
    intro a b h
    unfold_payloads
    pointwise [cols, blk]
    try simp only [← Nat.add_assoc, Nat.reduceAdd, Nat.zero_add]

theorem o9 (a : Fin 512) (q : Fin 1024) : (outsAt0 m c t).2.2.2.2.2.2 (ix2 a q) = part m c 5888 (by omega) (row t a) q := by
  unfold outsAt0; frame_out
  refine (canon_quarters (e := .bf16) (fun a q => cols 5888 (by omega) (iblk m c 0 t) (iblk m c 1 t) (iblk m c 2 t) a q) ?_ ?_ ?_ ?_ a q).trans ?_
  rotate_left 4
  · exact cols_eq m c t 5888 (by omega) a q
  all_goals
    intro a b h
    unfold_payloads
    pointwise [cols, blk]
    try simp only [← Nat.add_assoc, Nat.reduceAdd, Nat.zero_add]

/-! The whole results. -/

theorem final3 : (dats m 0 c).arrAt 3 cfg0.N = fun i : S8192x1024.Idx => part (n := 1024) m c 0 (by omega) (i 0) (i 1) * Ideal.logistic (part (n := 1024) m c 1024 (by omega) (i 0) (i 1)) := by
  refine (dats m 0 c).arrAt_eq_of_covers 3 _ (by decide +kernel) fun t _ y => ?_
  blk_simp
  rw [after0_3]
  obtain ⟨a, b, rfl⟩ : ∃ (a : Fin 512) (b : Fin 1024), y = ix2 a b := ⟨y 0, y 1, eq_ix2 y⟩
  have e : ((cfg0.win 3).blk t).view.emb (ix2 a b) = ix2 (row t a) b := by blk_ext [idx t, row]
  rw [o3]
  exact (congrArg (fun i : S8192x1024.Idx => part (n := 1024) m c 0 (by omega) (i 0) (i 1) * Ideal.logistic (part (n := 1024) m c 1024 (by omega) (i 0) (i 1))) e).symm

theorem final4 : (dats m 0 c).arrAt 4 cfg0.N = fun i : S8192x1024.Idx => part (n := 1024) m c 0 (by omega) (i 0) (i 1) := by
  refine (dats m 0 c).arrAt_eq_of_covers 4 _ (by decide +kernel) fun t _ y => ?_
  blk_simp
  rw [after0_4]
  obtain ⟨a, b, rfl⟩ : ∃ (a : Fin 512) (b : Fin 1024), y = ix2 a b := ⟨y 0, y 1, eq_ix2 y⟩
  have e : ((cfg0.win 4).blk t).view.emb (ix2 a b) = ix2 (row t a) b := by blk_ext [idx t, row]
  rw [o4]
  exact (congrArg (fun i : S8192x1024.Idx => part (n := 1024) m c 0 (by omega) (i 0) (i 1)) e).symm

theorem final5 : (dats m 0 c).arrAt 5 cfg0.N = fun i : S8192x1024.Idx => part (n := 1024) m c 1024 (by omega) (i 0) (i 1) := by
  refine (dats m 0 c).arrAt_eq_of_covers 5 _ (by decide +kernel) fun t _ y => ?_
  blk_simp
  rw [after0_5]
  obtain ⟨a, b, rfl⟩ : ∃ (a : Fin 512) (b : Fin 1024), y = ix2 a b := ⟨y 0, y 1, eq_ix2 y⟩
  have e : ((cfg0.win 5).blk t).view.emb (ix2 a b) = ix2 (row t a) b := by blk_ext [idx t, row]
  rw [o5]
  exact (congrArg (fun i : S8192x1024.Idx => part (n := 1024) m c 1024 (by omega) (i 0) (i 1)) e).symm

theorem final6 : (dats m 0 c).arrAt 6 cfg0.N = fun i : S8192x1408.Idx => part (n := 1408) m c 2048 (by omega) (i 0) (i 1) := by
  refine (dats m 0 c).arrAt_eq_of_covers 6 _ (by decide +kernel) fun t _ y => ?_
  blk_simp
  rw [after0_6]
  obtain ⟨a, b, rfl⟩ : ∃ (a : Fin 512) (b : Fin 1408), y = ix2 a b := ⟨y 0, y 1, eq_ix2 y⟩
  have e : ((cfg0.win 6).blk t).view.emb (ix2 a b) = ix2 (row t a) b := by blk_ext [idx t, row]
  rw [o6]
  exact (congrArg (fun i : S8192x1408.Idx => part (n := 1408) m c 2048 (by omega) (i 0) (i 1)) e).symm

theorem final7 : (dats m 0 c).arrAt 7 cfg0.N = fun i : S8192x1408.Idx => part (n := 1408) m c 3456 (by omega) (i 0) (i 1) := by
  refine (dats m 0 c).arrAt_eq_of_covers 7 _ (by decide +kernel) fun t _ y => ?_
  blk_simp
  rw [after0_7]
  obtain ⟨a, b, rfl⟩ : ∃ (a : Fin 512) (b : Fin 1408), y = ix2 a b := ⟨y 0, y 1, eq_ix2 y⟩
  have e : ((cfg0.win 7).blk t).view.emb (ix2 a b) = ix2 (row t a) b := by blk_ext [idx t, row]
  rw [o7]
  exact (congrArg (fun i : S8192x1408.Idx => part (n := 1408) m c 3456 (by omega) (i 0) (i 1)) e).symm

theorem final8 : (dats m 0 c).arrAt 8 cfg0.N = fun i : S8192x1024.Idx => part (n := 1024) m c 4864 (by omega) (i 0) (i 1) := by
  refine (dats m 0 c).arrAt_eq_of_covers 8 _ (by decide +kernel) fun t _ y => ?_
  blk_simp
  rw [after0_8]
  obtain ⟨a, b, rfl⟩ : ∃ (a : Fin 512) (b : Fin 1024), y = ix2 a b := ⟨y 0, y 1, eq_ix2 y⟩
  have e : ((cfg0.win 8).blk t).view.emb (ix2 a b) = ix2 (row t a) b := by blk_ext [idx t, row]
  rw [o8]
  exact (congrArg (fun i : S8192x1024.Idx => part (n := 1024) m c 4864 (by omega) (i 0) (i 1)) e).symm

theorem final9 : (dats m 0 c).arrAt 9 cfg0.N = fun i : S8192x1024.Idx => part (n := 1024) m c 5888 (by omega) (i 0) (i 1) := by
  refine (dats m 0 c).arrAt_eq_of_covers 9 _ (by decide +kernel) fun t _ y => ?_
  blk_simp
  rw [after0_9]
  obtain ⟨a, b, rfl⟩ : ∃ (a : Fin 512) (b : Fin 1024), y = ix2 a b := ⟨y 0, y 1, eq_ix2 y⟩
  have e : ((cfg0.win 9).blk t).view.emb (ix2 a b) = ix2 (row t a) b := by blk_ext [idx t, row]
  rw [o9]
  exact (congrArg (fun i : S8192x1024.Idx => part (n := 1024) m c 5888 (by omega) (i 0) (i 1)) e).symm

end Cert.SplitValue

end
-- ==== Proof.SplitRef.lean ====
module

public import proofs.«01_k».proof.Proof.Forward
public import proofs.«01_k».proof.Proof.Gen.SplitRefIdeal.Run
public import proofs.«01_k».proof.Proof.Gen.SplitRefIdeal.Read

/-! The reference's product in, its parts and the conv branch's gated values, a row at a time. -/

@[expose] public section

set_option maxRecDepth 16384

noncomputable section

namespace Cert.SplitRef

open Cert.SplitRefIdeal Cert.SplitRefIdeal.Gen Cert.SplitRefIdeal.Read Cert.Forward Idealize.ShloMosaic Idealize.ShloMosaic.TcCoe

variable (X : Mat 8192 1024) (W : Mat 1024 6912) (B : Vect 6912) (t : Fin 8192)

/-- A row of the product in, its columns from `o` on. -/
def part {n : ℕ} (o : ℕ) (h : o + n ≤ 6912) (t : Fin 8192) (q : Fin n) : EReal := lin X W B t ⟨o + q.val, by omega⟩

theorem r3 (k : Fin 6912) : val_main_v3 (F := Ideal) X W B (ix2 t k) = lin X W B t k := by
  pointwise [val_main_v3, val_main_v2, val_main_v1, val_main_v0]
  rfl

theorem r16 (q : Fin 1024) :
    val_main_v16 (F := Ideal) X W B (ix2 t q) = part X W B 0 (by omega) t q * Ideal.logistic (part (n := 1024) X W B 1024 (by omega) t q) := by
  pointwise [val_main_v16, val_main_v15, val_main_v14, val_main_cst_0, val_main_v13, val_main_v12, val_main_cst, val_main_v11, val_main_v10, val_main_v5, val_main_v4]
  simp only [r3, Ideal.ofBits_one_f32]
  try simp only [part, Nat.zero_add]
  rfl

theorem r17 (q : Fin 1024) : val_main_v17 (F := Ideal) X W B (ix2 t q) = part X W B 0 (by omega) t q := by
  pointwise [val_main_v17, val_main_v4]
  simp only [r3]
  try simp only [part, Nat.zero_add]

theorem r18 (q : Fin 1024) : val_main_v18 (F := Ideal) X W B (ix2 t q) = part X W B 1024 (by omega) t q := by
  pointwise [val_main_v18, val_main_v5]
  simp only [r3]
  try simp only [part, Nat.zero_add]

theorem r6 (q : Fin 1408) : val_main_v6 (F := Ideal) X W B (ix2 t q) = part X W B 2048 (by omega) t q := by
  pointwise [val_main_v6]
  simp only [r3]
  try simp only [part, Nat.zero_add]

theorem r19 (q : Fin 1408) : val_main_v19 (F := Ideal) X W B (ix2 t q) = part X W B 3456 (by omega) t q := by
  pointwise [val_main_v19, val_main_v7]
  simp only [r3]
  try simp only [part, Nat.zero_add]

theorem r20 (q : Fin 1024) : val_main_v20 (F := Ideal) X W B (ix2 t q) = part X W B 4864 (by omega) t q := by
  pointwise [val_main_v20, val_main_v8]
  simp only [r3]
  try simp only [part, Nat.zero_add]

theorem r21 (q : Fin 1024) : val_main_v21 (F := Ideal) X W B (ix2 t q) = part X W B 5888 (by omega) t q := by
  pointwise [val_main_v21, val_main_v9]
  simp only [r3]
  try simp only [part, Nat.zero_add]

end Cert.SplitRef

end
-- ==== Proof.SplitClaim.lean ====
module

public import proofs.«01_k».proof.Defs
public import proofs.«01_k».proof.Proof.Gen.Split
public import proofs.«01_k».proof.Proof.Gen.Split.Frame
public import proofs.«01_k».proof.Proof.SplitValue
public import proofs.«01_k».proof.Proof.SplitRef
public import Idealize.ShloMosaic.Adequacy
public import Idealize.ShloMosaic.Init

/-! The mixer's first half: its frames, and its seven results are the reference's. -/

@[expose] public section

set_option maxRecDepth 16384

noncomputable section

namespace Cert.SplitClaim

open Idealize.ShloMosaic Idealize.ShloMosaic.TcCoe Idealize.SL.Sem Cert.Forward

theorem frame : Cert.quiescent_Split := fun m ρ _ => Cert.Split.Gen.frame m ρ
theorem frame_ideal : Cert.quiescent_SplitIdeal := fun m ρ _ => Cert.SplitIdeal.Gen.frame m ρ

theorem frame_ref : Cert.quiescent_SplitRefIdeal := fun m ρ _ =>
  (θ_run Cert.SplitRefIdeal.defs _ _).mono (fun r h => ⟨fun c => (h c).2.2.2.2.2.2.2, sem_eq_zero_of_no_sems (by decide) r.2⟩)
    (Cert.SplitRefIdeal.Value.run (F := Ideal) m ρ)

theorem algebraic : Cert.algebraic_SplitIdeal_SplitRefIdeal := by
  intro m g m' g' _ hm
  refine ⟨_, _, _, _, _, _, _,
    (θ_run Cert.SplitIdeal.defs _ _).mono (fun r k c => ⟨(k c).1.trans (SplitValue.final3 m c), (k c).2.1.trans (SplitValue.final4 m c), (k c).2.2.1.trans (SplitValue.final5 m c), (k c).2.2.2.1.trans (SplitValue.final6 m c), (k c).2.2.2.2.1.trans (SplitValue.final7 m c), (k c).2.2.2.2.2.1.trans (SplitValue.final8 m c), (k c).2.2.2.2.2.2.1.trans (SplitValue.final9 m c), (k c).2.2.2.2.2.2.2⟩)
      (Cert.SplitIdeal.Value.run_blocks (F := Ideal) m g),
    (θ_run Cert.SplitRefIdeal.defs _ _).mono (fun r k c => ?_) (Cert.SplitRefIdeal.Value.run (F := Ideal) m' g')⟩
  obtain ⟨e0, e1, e2⟩ := hm c
  obtain ⟨k0, k1, k2, k3, k4, k5, k6, ka⟩ := k c
  have a0 : (m' ((c.tc : Thread Cert.SplitRefIdeal.nD Cert.SplitRefIdeal.τ).loc Cert.SplitRefIdeal.main_arg0) : Mat 8192 1024) = SplitValue.argX m c := e0
  have a1 : (m' ((c.tc : Thread Cert.SplitRefIdeal.nD Cert.SplitRefIdeal.τ).loc Cert.SplitRefIdeal.main_arg1) : Mat 1024 6912) = SplitValue.argW m c := e1
  have a2 : (m' ((c.tc : Thread Cert.SplitRefIdeal.nD Cert.SplitRefIdeal.τ).loc Cert.SplitRefIdeal.main_arg2) : Vect 6912) = SplitValue.argB m c := e2
  exact ⟨k0.trans ((Cert.SplitRefIdeal.Read.val_main_v16_eq _ _ _).trans ((ext (SplitRef.r16 _ _ _)).trans (by rw [a0, a1, a2]; rfl))),
    k1.trans ((Cert.SplitRefIdeal.Read.val_main_v17_eq _ _ _).trans ((ext (SplitRef.r17 _ _ _)).trans (by rw [a0, a1, a2]; rfl))),
    k2.trans ((Cert.SplitRefIdeal.Read.val_main_v18_eq _ _ _).trans ((ext (SplitRef.r18 _ _ _)).trans (by rw [a0, a1, a2]; rfl))),
    k3.trans ((Cert.SplitRefIdeal.Read.val_main_v6_eq _ _ _).trans ((ext (SplitRef.r6 _ _ _)).trans (by rw [a0, a1, a2]; rfl))),
    k4.trans ((Cert.SplitRefIdeal.Read.val_main_v19_eq _ _ _).trans ((ext (SplitRef.r19 _ _ _)).trans (by rw [a0, a1, a2]; rfl))),
    k5.trans ((Cert.SplitRefIdeal.Read.val_main_v20_eq _ _ _).trans ((ext (SplitRef.r20 _ _ _)).trans (by rw [a0, a1, a2]; rfl))),
    k6.trans ((Cert.SplitRefIdeal.Read.val_main_v21_eq _ _ _).trans ((ext (SplitRef.r21 _ _ _)).trans (by rw [a0, a1, a2]; rfl))), ka⟩

end Cert.SplitClaim

end
-- ==== Proof.MergeValue.lean ====
module

public import proofs.«01_k».proof.Proof.Forward
public import proofs.«01_k».proof.Proof.Gen.MergeIdeal.Value

/-! What the mixer's second half leaves in its results: the branches' products, the merge, the residual's sum and its norm. -/

@[expose] public section

set_option maxRecDepth 16384

noncomputable section

namespace Cert.MergeValue

open Cert.MergeIdeal Cert.MergeIdeal.Gen Cert.Forward Idealize.ShloMosaic Idealize.ShloMosaic.TcCoe Idealize.SL.Sem

variable (m : (ℓ : Loc nD τ sig) → Buf (Elt Ideal) ℓ) (c : Dev nD)

/-- The arguments as launched. -/
def args : Branches where
  cs := (m ((c : Thread nD τ).loc main_arg0) : FVec Ideal S8192x1024 .f32)
  h := (m ((c : Thread nD τ).loc main_arg1) : FVec Ideal S8192x1408 .f32)
  gc := (m ((c : Thread nD τ).loc main_arg2) : FVec Ideal S8192x1024 .f32)
  gr := (m ((c : Thread nD τ).loc main_arg3) : FVec Ideal S8192x1024 .f32)
  x := (m ((c : Thread nD τ).loc main_arg4) : FVec Ideal S8192x1024 .f32)
  wc := (m ((c : Thread nD τ).loc main_arg5) : FVec Ideal S1024x1024 .f32)
  wr := (m ((c : Thread nD τ).loc main_arg6) : FVec Ideal S1408x1024 .f32)
  wo := (m ((c : Thread nD τ).loc main_arg7) : FVec Ideal S1024x1024 .f32)
  g := (m ((c : Thread nD τ).loc main_arg8) : FVec Ideal S1024 .f32)
  b := (m ((c : Thread nD τ).loc main_arg9) : FVec Ideal S1024 .f32)

theorem idx : ∀ t : Fin cfg0.N, win0_0.index t = ![t.val, 0] ∧
    win0_1.index t = ![t.val, 0] ∧
    win0_2.index t = ![t.val, 0] ∧
    win0_3.index t = ![t.val, 0] ∧
    win0_4.index t = ![t.val, 0] ∧
    win0_5.index t = ![0, 0] ∧
    win0_6.index t = ![0, 0] ∧
    win0_7.index t = ![0, 0] ∧
    win0_8.index t = ![0, 0] ∧
    win0_9.index t = ![0, 0] ∧
    win0_10.index t = ![t.val, 0] ∧
    win0_11.index t = ![t.val, 0] ∧
    win0_12.index t = ![t.val, 0] ∧
    win0_13.index t = ![t.val, 0] ∧
    win0_14.index t = ![t.val, 0] ∧
    win0_15.index t = ![t.val, 0] :=
  (by decide +kernel : ∀ t : Fin grid0.N, _)

/-- The row of the whole arrays that row `a` of point `t`'s blocks is. -/
def row (t : Fin cfg0.N) (a : Fin 512) : Fin 8192 :=
  ⟨t.val * 512 + a.val, by have : t.val < 16 := t.isLt; omega⟩

variable (t : Fin cfg0.N)

theorem iblk0 (a : Fin 512) (k : Fin 1024) : iblk m c 0 t (ix2 a k) = (args m c).cs (ix2 (row t a) k) := by
  unfold args; blk_simp [iblk]; entry_read; pointwise; blk_ext [idx t, row]

theorem iblk1 (a : Fin 512) (k : Fin 1408) : iblk m c 1 t (ix2 a k) = (args m c).h (ix2 (row t a) k) := by
  unfold args; blk_simp [iblk]; entry_read; pointwise; blk_ext [idx t, row]

theorem iblk2 (a : Fin 512) (k : Fin 1024) : iblk m c 2 t (ix2 a k) = (args m c).gc (ix2 (row t a) k) := by
  unfold args; blk_simp [iblk]; entry_read; pointwise; blk_ext [idx t, row]

theorem iblk3 (a : Fin 512) (k : Fin 1024) : iblk m c 3 t (ix2 a k) = (args m c).gr (ix2 (row t a) k) := by
  unfold args; blk_simp [iblk]; entry_read; pointwise; blk_ext [idx t, row]

theorem iblk4 (a : Fin 512) (k : Fin 1024) : iblk m c 4 t (ix2 a k) = (args m c).x (ix2 (row t a) k) := by
  unfold args; blk_simp [iblk]; entry_read; pointwise; blk_ext [idx t, row]

theorem iblk5 (k : Fin 1024) (q : Fin 1024) : iblk m c 5 t (ix2 k q) = (args m c).wc (ix2 k q) := by
  unfold args; blk_simp [iblk]; entry_read; pointwise; blk_ext [idx t]

theorem iblk6 (k : Fin 1408) (q : Fin 1024) : iblk m c 6 t (ix2 k q) = (args m c).wr (ix2 k q) := by
  unfold args; blk_simp [iblk]; entry_read; pointwise; blk_ext [idx t]

theorem iblk7 (k : Fin 1024) (q : Fin 1024) : iblk m c 7 t (ix2 k q) = (args m c).wo (ix2 k q) := by
  unfold args; blk_simp [iblk]; entry_read; pointwise; blk_ext [idx t]

theorem iblk8 (q : Fin 1024) : iblk m c 8 t (ix2 0 q) = (args m c).g (ix1 q) := by
  unfold args; blk_simp [iblk]; entry_read; pointwise; blk_ext [idx t]

theorem iblk9 (q : Fin 1024) : iblk m c 9 t (ix2 0 q) = (args m c).b (ix1 q) := by
  unfold args; blk_simp [iblk]; entry_read; pointwise; blk_ext [idx t]

/-! A block's values, row by row. -/

theorem p5 (a : Fin 512) (q : Fin 1024) : k0_pay5 (F := Ideal) (iblk m c 0 t) (iblk m c 5 t) (ix2 a q) = prod (args m c).cs (args m c).wc (row t a) q := by
  pointwise [k0_pay5]
  simp only [iblk0, iblk5]
  rfl

theorem p6 (a : Fin 512) (q : Fin 1024) : k0_pay6 (F := Ideal) (iblk m c 1 t) (iblk m c 6 t) (ix2 a q) = prod (args m c).h (args m c).wr (row t a) q := by
  pointwise [k0_pay6]
  simp only [iblk1, iblk6]
  rfl

theorem p7 (a : Fin 512) (q : Fin 1024) :
    k0_pay7 (F := Ideal) (iblk m c 0 t) (iblk m c 5 t) (iblk m c 1 t) (iblk m c 6 t) (iblk m c 2 t) (iblk m c 3 t) (ix2 a q)
      = (args m c).merged (row t a) q := by
  pointwise [k0_pay7]
  simp only [p5, p6, iblk2, iblk3]
  rfl

theorem p8 (a : Fin 512) (q : Fin 1024) :
    k0_pay8 (F := Ideal) (iblk m c 0 t) (iblk m c 5 t) (iblk m c 1 t) (iblk m c 6 t) (iblk m c 2 t) (iblk m c 3 t) (iblk m c 4 t) (iblk m c 7 t) (ix2 a q) = (args m c).res (row t a) q := by
  pointwise [k0_pay8]
  simp only [p7, iblk4, iblk7]
  rfl

theorem p11 (a : Fin 512) :
    k0_pay11 (F := Ideal) (iblk m c 0 t) (iblk m c 5 t) (iblk m c 1 t) (iblk m c 6 t) (iblk m c 2 t) (iblk m c 3 t) (iblk m c 4 t) (iblk m c 7 t) (ix1 a) = ∑ q, (args m c).res (row t a) q := by
  pointwise [k0_pay11]
  simp only [p8]

theorem p1 (a : Fin 512) (q : Fin 1024) :
    k0_pay1 (F := Ideal) (k0_pay8 (iblk m c 0 t) (iblk m c 5 t) (iblk m c 1 t) (iblk m c 6 t) (iblk m c 2 t) (iblk m c 3 t) (iblk m c 4 t) (iblk m c 7 t))
      (k0_pay9 (iblk m c 8 t)) (k0_pay10 (iblk m c 9 t))
      (k0_pay11 (iblk m c 0 t) (iblk m c 5 t) (iblk m c 1 t) (iblk m c 6 t) (iblk m c 2 t) (iblk m c 3 t) (iblk m c 4 t) (iblk m c 7 t)) (ix2 a q) = (args m c).out (row t a) q := by
  pointwise [k0_pay1, k0_pay9, k0_pay10]
  simp only [p8, p11, iblk8, iblk9]
  rfl

/-! The whole results. -/

theorem o10 (a : Fin 512) (q : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 a q) = prod (args m c).cs (args m c).wc (row t a) q := by
  unfold_out out0_10; frame_out
  pointwise [k0_pay2]
  exact p5 m c t a q

theorem final10 : (dats m 0 c).arrAt 10 cfg0.N = fun i : S8192x1024.Idx => prod (args m c).cs (args m c).wc (i 0) (i 1) := by
  refine (dats m 0 c).arrAt_eq_of_covers 10 _ (by decide +kernel) fun t _ y => ?_
  blk_simp
  rw [after0_10]
  obtain ⟨a, b, rfl⟩ : ∃ (a : Fin 512) (b : Fin 1024), y = ix2 a b := ⟨y 0, y 1, eq_ix2 y⟩
  have e : ((cfg0.win 10).blk t).view.emb (ix2 a b) = ix2 (row t a) b := by blk_ext [idx t, row]
  rw [o10]
  exact (congrArg (fun i : S8192x1024.Idx => prod (args m c).cs (args m c).wc (i 0) (i 1)) e).symm

theorem o11 (a : Fin 512) (q : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix2 a q) = prod (args m c).h (args m c).wr (row t a) q := by
  unfold_out out0_11; frame_out
  pointwise [k0_pay3]
  exact p6 m c t a q

theorem final11 : (dats m 0 c).arrAt 11 cfg0.N = fun i : S8192x1024.Idx => prod (args m c).h (args m c).wr (i 0) (i 1) := by
  refine (dats m 0 c).arrAt_eq_of_covers 11 _ (by decide +kernel) fun t _ y => ?_
  blk_simp
  rw [after0_11]
  obtain ⟨a, b, rfl⟩ : ∃ (a : Fin 512) (b : Fin 1024), y = ix2 a b := ⟨y 0, y 1, eq_ix2 y⟩
  have e : ((cfg0.win 11).blk t).view.emb (ix2 a b) = ix2 (row t a) b := by blk_ext [idx t, row]
  rw [o11]
  exact (congrArg (fun i : S8192x1024.Idx => prod (args m c).h (args m c).wr (i 0) (i 1)) e).symm

theorem o12 (a : Fin 512) (q : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (ix2 a q) = (args m c).merged (row t a) q := by
  unfold_out out0_12; frame_out
  exact p7 m c t a q

theorem final12 : (dats m 0 c).arrAt 12 cfg0.N = fun i : S8192x1024.Idx => (args m c).merged (i 0) (i 1) := by
  refine (dats m 0 c).arrAt_eq_of_covers 12 _ (by decide +kernel) fun t _ y => ?_
  blk_simp
  rw [after0_12]
  obtain ⟨a, b, rfl⟩ : ∃ (a : Fin 512) (b : Fin 1024), y = ix2 a b := ⟨y 0, y 1, eq_ix2 y⟩
  have e : ((cfg0.win 12).blk t).view.emb (ix2 a b) = ix2 (row t a) b := by blk_ext [idx t, row]
  rw [o12]
  exact (congrArg (fun i : S8192x1024.Idx => (args m c).merged (i 0) (i 1)) e).symm

theorem o13 (a : Fin 512) (q : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (ix2 a q) = (args m c).res (row t a) q := by
  unfold_out out0_13; frame_out
  exact p8 m c t a q

theorem final13 : (dats m 0 c).arrAt 13 cfg0.N = fun i : S8192x1024.Idx => (args m c).res (i 0) (i 1) := by
  refine (dats m 0 c).arrAt_eq_of_covers 13 _ (by decide +kernel) fun t _ y => ?_
  blk_simp
  rw [after0_13]
  obtain ⟨a, b, rfl⟩ : ∃ (a : Fin 512) (b : Fin 1024), y = ix2 a b := ⟨y 0, y 1, eq_ix2 y⟩
  have e : ((cfg0.win 13).blk t).view.emb (ix2 a b) = ix2 (row t a) b := by blk_ext [idx t, row]
  rw [o13]
  exact (congrArg (fun i : S8192x1024.Idx => (args m c).res (i 0) (i 1)) e).symm

theorem o14 (a : Fin 512) (q : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (ix2 a q) = (args m c).out (row t a) q := by
  unfold_out out0_14; frame_out
  exact p1 m c t a q

theorem final14 : (dats m 0 c).arrAt 14 cfg0.N = fun i : S8192x1024.Idx => (args m c).out (i 0) (i 1) := by
  refine (dats m 0 c).arrAt_eq_of_covers 14 _ (by decide +kernel) fun t _ y => ?_
  blk_simp
  rw [after0_14]
  obtain ⟨a, b, rfl⟩ : ∃ (a : Fin 512) (b : Fin 1024), y = ix2 a b := ⟨y 0, y 1, eq_ix2 y⟩
  have e : ((cfg0.win 14).blk t).view.emb (ix2 a b) = ix2 (row t a) b := by blk_ext [idx t, row]
  rw [o14]
  exact (congrArg (fun i : S8192x1024.Idx => (args m c).out (i 0) (i 1)) e).symm

theorem o15 (a : Fin 512) (q : Fin 1024) :
    out0_15 (iblk m c 0 t) (iblk m c 1 t) (iblk m c 2 t) (iblk m c 3 t) (iblk m c 4 t) (iblk m c 5 t) (iblk m c 6 t) (iblk m c 7 t) (iblk m c 8 t) (iblk m c 9 t) (ix2 a q) = (args m c).out (row t a) q := by
  unfold_out out0_15; frame_out
  pointwise [k0_pay4]
  exact p1 m c t a q

theorem final15 : (dats m 0 c).arrAt 15 cfg0.N = fun i : S8192x1024.Idx => (args m c).out (i 0) (i 1) := by
  refine (dats m 0 c).arrAt_eq_of_covers 15 _ (by decide +kernel) fun t _ y => ?_
  blk_simp
  rw [after0_15]
  obtain ⟨a, b, rfl⟩ : ∃ (a : Fin 512) (b : Fin 1024), y = ix2 a b := ⟨y 0, y 1, eq_ix2 y⟩
  have e : ((cfg0.win 15).blk t).view.emb (ix2 a b) = ix2 (row t a) b := by blk_ext [idx t, row]
  rw [o15]
  exact (congrArg (fun i : S8192x1024.Idx => (args m c).out (i 0) (i 1)) e).symm

end Cert.MergeValue

end
-- ==== Proof.MergeRef.lean ====
module

public import proofs.«01_k».proof.Proof.Forward
public import proofs.«01_k».proof.Proof.Gen.MergeRefIdeal.Run
public import proofs.«01_k».proof.Proof.Gen.MergeRefIdeal.Read

/-! The reference's merge, its residual sum and its norm, a row at a time. -/

@[expose] public section

set_option maxRecDepth 16384

noncomputable section

namespace Cert.MergeRef

open Cert.MergeRefIdeal Cert.MergeRefIdeal.Gen Cert.MergeRefIdeal.Read Cert.Forward Idealize.ShloMosaic Idealize.ShloMosaic.TcCoe Idealize.SL.Sem

/-- The arguments as launched. -/
def args (m : (ℓ : Loc nD τ sig) → Buf (Elt Ideal) ℓ) (c : Dev nD) : Branches where
  cs := (m ((c : Thread nD τ).loc main_arg0) : FVec Ideal S8192x1024 .f32)
  h := (m ((c : Thread nD τ).loc main_arg1) : FVec Ideal S8192x1408 .f32)
  gc := (m ((c : Thread nD τ).loc main_arg2) : FVec Ideal S8192x1024 .f32)
  gr := (m ((c : Thread nD τ).loc main_arg3) : FVec Ideal S8192x1024 .f32)
  x := (m ((c : Thread nD τ).loc main_arg4) : FVec Ideal S8192x1024 .f32)
  wc := (m ((c : Thread nD τ).loc main_arg5) : FVec Ideal S1024x1024 .f32)
  wr := (m ((c : Thread nD τ).loc main_arg6) : FVec Ideal S1408x1024 .f32)
  wo := (m ((c : Thread nD τ).loc main_arg7) : FVec Ideal S1024x1024 .f32)
  g := (m ((c : Thread nD τ).loc main_arg8) : FVec Ideal S1024 .f32)
  b := (m ((c : Thread nD τ).loc main_arg9) : FVec Ideal S1024 .f32)

variable (d : Branches) (t : Fin 8192)

theorem r0 (q : Fin 1024) : val_main_v0 (F := Ideal) d.cs d.wc (ix2 t q) = prod d.cs d.wc t q := by
  pointwise [val_main_v0]
  rfl

theorem r1 (q : Fin 1024) : val_main_v1 (F := Ideal) d.h d.wr (ix2 t q) = prod d.h d.wr t q := by
  pointwise [val_main_v1]
  rfl

theorem r16 (q : Fin 1024) : val_main_v16 (F := Ideal) d.cs d.h d.gc d.gr d.wc d.wr (ix2 t q) = d.merged t q := by
  pointwise [val_main_v16, val_main_v15, val_main_v14, val_main_v13, val_main_cst_2, val_main_v12, val_main_v11, val_main_cst_1, val_main_v10, val_main_v9, val_main_v8, val_main_v7, val_main_v6, val_main_cst_0, val_main_v5, val_main_v4, val_main_cst, val_main_v3, val_main_v2]
  simp only [r0, r1, Ideal.ofBits_one_f32]
  rfl

theorem r20 (q : Fin 1024) : val_main_v20 (F := Ideal) d.cs d.h d.gc d.gr d.x d.wc d.wr d.wo (ix2 t q) = d.res t q := by
  pointwise [val_main_v20, val_main_v19, val_main_v18, val_main_v17, val_main_cst_3]
  simp only [r16]
  rfl

theorem r24 : val_main_v24 (F := Ideal) d.cs d.h d.gc d.gr d.x d.wc d.wr d.wo (ix2 t 0) = mean (d.res t) := by
  pointwise [val_main_v24, val_main_v23, val_main_cst_5, val_main_v22, val_main_v21, val_main_cst_4]
  simp only [r20]
  rfl

theorem r26 (q : Fin 1024) : val_main_v26 (F := Ideal) d.cs d.h d.gc d.gr d.x d.wc d.wr d.wo (ix2 t q) = cent (d.res t) q := by
  pointwise [val_main_v26, val_main_v25]
  simp only [r20, r24]
  rfl

theorem r31 : val_main_v31 (F := Ideal) d.cs d.h d.gc d.gr d.x d.wc d.wr d.wo (ix2 t 0) = mean fun l => cent (d.res t) l * cent (d.res t) l := by
  pointwise [val_main_v31, val_main_v30, val_main_cst_7, val_main_v29, val_main_v28, val_main_cst_6, val_main_v27]
  simp only [r26]
  rfl

theorem r42 (q : Fin 1024) : val_main_v42 (F := Ideal) d.cs d.h d.gc d.gr d.x d.wc d.wr d.wo d.g d.b (ix2 t q) = d.out t q := by
  pointwise [val_main_v42, val_main_v41, val_main_v40, val_main_v39, val_main_v38, val_main_v37, val_main_v36, val_main_v35, val_main_v34, val_main_v33, val_main_v32, val_main_cst_8]
  simp only [r26, r31]
  rfl

theorem r43 (q : Fin 1024) : val_main_v43 (F := Ideal) d.cs d.wc (ix2 t q) = prod d.cs d.wc t q := by
  pointwise [val_main_v43]
  exact r0 d t q

theorem r44 (q : Fin 1024) : val_main_v44 (F := Ideal) d.h d.wr (ix2 t q) = prod d.h d.wr t q := by
  pointwise [val_main_v44]
  exact r1 d t q

theorem r45 (q : Fin 1024) : val_main_v45 (F := Ideal) d.cs d.h d.gc d.gr d.wc d.wr (ix2 t q) = d.merged t q := by
  pointwise [val_main_v45]
  exact r16 d t q

theorem r46 (q : Fin 1024) : val_main_v46 (F := Ideal) d.cs d.h d.gc d.gr d.x d.wc d.wr d.wo d.g d.b (ix2 t q) = d.out t q := by
  pointwise [val_main_v46]
  exact r42 d t q

end Cert.MergeRef

end
-- ==== Proof.MergeClaim.lean ====
module

public import proofs.«01_k».proof.Defs
public import proofs.«01_k».proof.Proof.Gen.Merge
public import proofs.«01_k».proof.Proof.Gen.Merge.Frame
public import proofs.«01_k».proof.Proof.MergeValue
public import proofs.«01_k».proof.Proof.MergeRef
public import Idealize.ShloMosaic.Adequacy
public import Idealize.ShloMosaic.Init

/-! The mixer's second half: its frames, and its six results are the reference's. -/

@[expose] public section

set_option maxRecDepth 16384

noncomputable section

namespace Cert.MergeClaim

open Idealize.ShloMosaic Idealize.ShloMosaic.TcCoe Idealize.SL.Sem Cert.Forward

theorem frame : Cert.quiescent_Merge := fun m ρ _ => Cert.Merge.Gen.frame m ρ
theorem frame_ideal : Cert.quiescent_MergeIdeal := fun m ρ _ => Cert.MergeIdeal.Gen.frame m ρ

theorem frame_ref : Cert.quiescent_MergeRefIdeal := fun m ρ _ =>
  (θ_run Cert.MergeRefIdeal.defs _ _).mono (fun r h => ⟨fun c => (h c).2.2.2.2.2.2, sem_eq_zero_of_no_sems (by decide) r.2⟩)
    (Cert.MergeRefIdeal.Value.run (F := Ideal) m ρ)

theorem algebraic : Cert.algebraic_MergeIdeal_MergeRefIdeal := by
  intro m g m' g' _ hm
  refine ⟨_, _, _, _, _, _,
    (θ_run Cert.MergeIdeal.defs _ _).mono (fun r k c => ⟨(k c).1.trans (MergeValue.final10 m c), (k c).2.1.trans (MergeValue.final11 m c), (k c).2.2.1.trans (MergeValue.final12 m c), (k c).2.2.2.1.trans (MergeValue.final13 m c), (k c).2.2.2.2.1.trans (MergeValue.final14 m c), (k c).2.2.2.2.2.1.trans (MergeValue.final15 m c), (k c).2.2.2.2.2.2⟩)
      (Cert.MergeIdeal.Value.run_blocks (F := Ideal) m g),
    (θ_run Cert.MergeRefIdeal.defs _ _).mono (fun r k c => ?_) (Cert.MergeRefIdeal.Value.run (F := Ideal) m' g')⟩
  obtain ⟨e0, e1, e2, e3, e4, e5, e6, e7, e8, e9⟩ := hm c
  obtain ⟨k0, k1, k2, k3, k4, k5, ka⟩ := k c
  have a : MergeRef.args m' c = MergeValue.args m c := by
    unfold MergeRef.args MergeValue.args
    exact (Branches.mk.injEq ..).mpr ⟨e0, e1, e2, e3, e4, e5, e6, e7, e8, e9⟩
  exact ⟨k0.trans ((Cert.MergeRefIdeal.Read.val_main_v43_eq _ _).trans ((ext (MergeRef.r43 (MergeRef.args m' c))).trans (congrArg (fun d : Branches => fun i : (⟨2, ![8192, 1024]⟩ : Shape).Idx => prod d.cs d.wc (i 0) (i 1)) a))),
    k1.trans ((Cert.MergeRefIdeal.Read.val_main_v44_eq _ _).trans ((ext (MergeRef.r44 (MergeRef.args m' c))).trans (congrArg (fun d : Branches => fun i : (⟨2, ![8192, 1024]⟩ : Shape).Idx => prod d.h d.wr (i 0) (i 1)) a))),
    k2.trans ((Cert.MergeRefIdeal.Read.val_main_v45_eq _ _ _ _ _ _).trans ((ext (MergeRef.r45 (MergeRef.args m' c))).trans (congrArg (fun d : Branches => fun i : (⟨2, ![8192, 1024]⟩ : Shape).Idx => d.merged (i 0) (i 1)) a))),
    k3.trans ((Cert.MergeRefIdeal.Read.val_main_v20_eq _ _ _ _ _ _ _ _).trans ((ext (MergeRef.r20 (MergeRef.args m' c))).trans (congrArg (fun d : Branches => fun i : (⟨2, ![8192, 1024]⟩ : Shape).Idx => d.res (i 0) (i 1)) a))),
    k4.trans ((Cert.MergeRefIdeal.Read.val_main_v42_eq _ _).trans ((ext (MergeRef.r42 (MergeRef.args m' c))).trans (congrArg (fun d : Branches => fun i : (⟨2, ![8192, 1024]⟩ : Shape).Idx => d.out (i 0) (i 1)) a))),
    k5.trans ((Cert.MergeRefIdeal.Read.val_main_v46_eq _ _).trans ((ext (MergeRef.r46 (MergeRef.args m' c))).trans (congrArg (fun d : Branches => fun i : (⟨2, ![8192, 1024]⟩ : Shape).Idx => d.out (i 0) (i 1)) a))), ka⟩

end Cert.MergeClaim

end
-- ==== Proof.RconvTrip.lean ====
module

public import proofs.«01_k».proof.Proof.Gen.RconvIdeal.Value
public import Idealize.ShloMosaic.Lib.VecWindow
public import Idealize.ShloMosaic.Lib.Pipeline.ValueKit

/-! The trips of the forward convolution with four taps: each stores 128 rows, computed from 136 rows of the padded input. -/

@[expose] public section

set_option maxRecDepth 16384

noncomputable section

namespace Cert.RconvTrip

open Cert.RconvIdeal Cert.RconvIdeal.Gen Idealize.ShloMosaic Idealize.ShloMosaic.TcCoe Idealize.SL.Sem

variable {F : FTy → Type} [FloatOps F]

/-- The rows of the padded input that trip `k` loads, -/
def rows (X : Vec F S8200x128 .f32) (k : Fin k0_t1_loop.trips) : Vec F S136x128 .f32 :=
  View.ld X (Rect.unit (s := S8200x128) (k0_off1 k) S136x128.size (k0_off1_inb k))

/-- and the rows of the result that it stores. -/
def put (w : Vec F S4x128 .f32) (b : Vec F S1x128 .f32) (X : Vec F S8200x128 .f32) (k : Fin k0_t1_loop.trips) : View.Piece (Elt F) S8192x128 .f32 :=
  ⟨Rect.unit (s := S8192x128) (k0_off2 k) S128x128.size (k0_off2_inb k), k0_pay3 w b (rows X k)⟩

theorem trip (𝒱 : Variants) (c : Dev nD) (bd : Option 𝒱.V) (i : grid0.Coords) (arg1 : Memref sig .tc .vmem S8192x128 .f32) (h1 : arg1.IsWhole) (arg2 : Memref sig .tc .vmem S4x128 .f32) (h2 : arg2.IsWhole) (arg3 : Memref sig .tc .vmem S1x128 .f32) (h3 : arg3.IsWhole) (arg4 : Memref sig .tc .vmem S8192x128 .f32) (h4 : arg4.IsWhole) (arg5 : Memref sig .tc .vmem S8200x128 .f32) (h5 : arg5.IsWhole)
    (w : Vec F S4x128 .f32) (b : Vec F S1x128 .f32) (X : Vec F S8200x128 .f32) (k : Fin k0_t1_loop.trips) :
    tripL_k0_t1 𝒱 c bd i arg1 h1 arg2 h2 arg3 h3 arg4 h4 arg5 h5 w b (h5.unread X) k = [put w b X k] := by
  unfold tripL_k0_t1 trip_k0_t1
  dsimp only
  sl_unfold_words
  simp only [View.readAt_eq_ld, h5.read_unread]
  rfl

/-- The pieces the first `n` trips have stored, the latest first. -/
def stored (w : Vec F S4x128 .f32) (b : Vec F S1x128 .f32) (X : Vec F S8200x128 .f32) : ℕ → List (View.Piece (Elt F) S8192x128 .f32)
  | 0 => []
  | k + 1 => if h : k < k0_t1_loop.trips then put w b X ⟨k, h⟩ :: stored w b X k else stored w b X k

theorem stored_succ (w : Vec F S4x128 .f32) (b : Vec F S1x128 .f32) (X : Vec F S8200x128 .f32) (k : Fin k0_t1_loop.trips) :
    stored w b X (k.val + 1) = put w b X k :: stored w b X k.val := dif_pos k.isLt

theorem pb_eq (𝒱 : Variants) (c : Dev nD) (bd : Option 𝒱.V) (i : grid0.Coords) (arg1 : Memref sig .tc .vmem S8192x128 .f32) (h1 : arg1.IsWhole) (arg2 : Memref sig .tc .vmem S4x128 .f32) (h2 : arg2.IsWhole) (arg3 : Memref sig .tc .vmem S1x128 .f32) (h3 : arg3.IsWhole) (arg4 : Memref sig .tc .vmem S8192x128 .f32) (h4 : arg4.IsWhole) (arg5 : Memref sig .tc .vmem S8200x128 .f32) (h5 : arg5.IsWhole)
    (w : Vec F S4x128 .f32) (b : Vec F S1x128 .f32) (X : Vec F S8200x128 .f32) : ∀ n, n ≤ k0_t1_loop.trips →
    pb_k0_t1 𝒱 c bd i arg1 h1 arg2 h2 arg3 h3 arg4 h4 arg5 h5 w b (h5.unread X) n = stored w b X n
  | 0, _ => rfl
  | n + 1, hn => by
    rw [stored_succ w b X ⟨n, hn⟩, pb_k0_t1_succ (k := ⟨n, hn⟩), trip, pb_eq 𝒱 c bd i arg1 h1 arg2 h2 arg3 h3 arg4 h4 arg5 h5 w b X n (Nat.le_of_succ_le hn)]
    rfl

/-- The input with eight rows of zeros above it. -/
def xpad (x : Vec F S8192x128 .f32) : Vec F S8200x128 .f32 := View.canon (Val := Elt F)
  [⟨Rect.unit (s := S8200x128) ![8, 0] S8192x128.size inb_S8200x128_S8192x128_8_0, k0_pay2 x⟩,
    ⟨Rect.unit (s := S8200x128) ![0, 0] S8x128.size inb_S8200x128_S8x128_0_0, k0_pay1⟩]

theorem hzx : (![0, 0] : Fin S8192x128.rank → ℕ) = fun _ => 0 := by funext k; fin_cases k <;> rfl
theorem hzw : (![0, 0] : Fin S4x128.rank → ℕ) = fun _ => 0 := by funext k; fin_cases k <;> rfl
theorem hzb : (![0, 0] : Fin S1x128.rank → ℕ) = fun _ => 0 := by funext k; fin_cases k <;> rfl

theorem pieces (c : Dev nD) (i : grid0.Coords) (arg1 : Memref sig .tc .vmem S8192x128 .f32) (h1 : arg1.IsWhole) (arg2 : Memref sig .tc .vmem S4x128 .f32) (h2 : arg2.IsWhole) (arg3 : Memref sig .tc .vmem S1x128 .f32) (h3 : arg3.IsWhole) (arg4 : Memref sig .tc .vmem S8192x128 .f32) (h4 : arg4.IsWhole) (arg5 : Memref sig .tc .vmem S8200x128 .f32) (h5 : arg5.IsWhole)
    (x : Vec F S8192x128 .f32) (w : Vec F S4x128 .f32) (b : Vec F S1x128 .f32) :
    (kernelRun0_A c i arg1 h1 arg2 h2 arg3 h3 arg4 h4 arg5 h5 x w b).1 = stored w b (xpad x) k0_t1_loop.trips := by
  have ex : View.readAt (Elt F) arg1.view (Rect.unit (s := S8192x128) ![0, 0] S8192x128.size inb_S8192x128_S8192x128_0_0).toLoadRect (h1.unread x) = x := by
    rw [View.readAt_eq_ld, h1.read_unread]
    exact View.ld_unit_zero (S := S8192x128) hzx ..
  have ew : View.readAt (Elt F) arg2.view (Rect.unit (s := S4x128) ![0, 0] S4x128.size inb_S4x128_S4x128_0_0).toLoadRect (h2.unread w) = w := by
    rw [View.readAt_eq_ld, h2.read_unread]
    exact View.ld_unit_zero (S := S4x128) hzw ..
  have eb : View.readAt (Elt F) arg3.view (Rect.unit (s := S1x128) ![0, 0] S1x128.size inb_S1x128_S1x128_0_0).toLoadRect (h3.unread b) = b := by
    rw [View.readAt_eq_ld, h3.read_unread]
    exact View.ld_unit_zero (S := S1x128) hzb ..
  unfold kernelRun0_A
  dsimp only
  sl_unfold_words
  rw [ex, ew, eb, h5.eq_unread (X := xpad x) (funext fun y => View.read_writes_junk_apply_eq_canon arg5.view y _)]
  rw [pb_eq Variants.none c none i arg1 h1 arg2 h2 arg3 h3 arg4 h4 arg5 h5 w b (xpad x) _ (Nat.le_refl _)]

end Cert.RconvTrip

end
-- ==== Proof.RconvValue.lean ====
module

public import proofs.«01_k».proof.Proof.RconvTrip
public import proofs.«01_k».proof.Proof.Conv4Value

/-! What the forward convolution with four taps leaves in its result. -/

@[expose] public section

set_option maxRecDepth 16384

noncomputable section

namespace Cert.RconvValue

open Cert.RconvIdeal Cert.RconvIdeal.Gen Cert.RconvTrip Idealize.ShloMosaic Idealize.ShloMosaic.TcCoe Idealize.SL.Sem
open Cert.Conv4Value (xz)

/-- A row of the convolution at a lane: the taps meet the row itself and the three rows before it. -/
def conv {m : ℕ} (x : (Rows.Mat 8192 m).Idx → EReal) (w : (Rows.Mat 4 m).Idx → EReal) (b : EReal) (q : Fin m) (t : ℕ) : EReal :=
  (((0 + w (ix2 0 q) * xz x q (5 + t)) + w (ix2 1 q) * xz x q (6 + t)) + w (ix2 2 q) * xz x q (7 + t)) + w (ix2 3 q) * xz x q (8 + t) + b

section trips
variable (x : Vec Ideal S8192x128 .f32) (w : Vec Ideal S4x128 .f32) (b : Vec Ideal S1x128 .f32) (q : Fin 128)

theorem pay_conv (R : Vec Ideal S136x128 .f32) (j : Fin 128) : k0_pay3 w b R (ix2 j q) =
    (((0 + w (ix2 0 q) * R (ix2 ⟨5 + j.val, by omega⟩ q)) + w (ix2 1 q) * R (ix2 ⟨6 + j.val, by omega⟩ q)) + w (ix2 2 q) * R (ix2 ⟨7 + j.val, by omega⟩ q))
      + w (ix2 3 q) * R (ix2 ⟨8 + j.val, by omega⟩ q) + b (ix2 0 q) := by
  unfold_payloads
  pointwise

theorem pay_zero (i : Fin 8) : k0_pay1 (F := Ideal) (ix2 i q) = 0 := by
  unfold_payloads
  pointwise

theorem xpad_apply (a : Fin 8200) : xpad x (ix2 a q) = xz x q a.val := by
  unfold xpad xz
  by_cases h : 8 ≤ a.val
  · rw [dif_pos ⟨h, a.isLt⟩, Rows.canon_row (Val := Elt Ideal) _ rfl _ _ a (⟨a.val - 8, by omega⟩ : Fin 8192) q (by show a.val = 8 + (a.val - 8); omega)]
    unfold_payloads
    pointwise
  · rw [dif_neg fun hh => h hh.1, Rows.canon_row_out (Val := Elt Ideal) _ rfl _ _ a q (.inl (by omega)), Rows.canon_row (Val := Elt Ideal) _ rfl _ _ a (⟨a.val, by omega⟩ : Fin 8) q (Nat.zero_add _).symm]
    exact pay_zero q _

theorem off1 : ∀ k : Fin k0_t1_loop.trips, k0_off1 k = ![128 * k.val, 0] := by decide +kernel
theorem off2 : ∀ k : Fin k0_t1_loop.trips, k0_off2 k = ![128 * k.val, 0] := by decide +kernel
theorem trips_eq : k0_t1_loop.trips = 64 := by decide +kernel

theorem rows_x (k : Fin k0_t1_loop.trips) (i : Fin 136) (n : ℕ) (h : n = 128 * k.val + i.val) : rows (xpad x) k (ix2 i q) = xz x q n := by
  have hk : k.val < 64 := Nat.lt_of_lt_of_eq k.isLt trips_eq
  subst h
  unfold rows
  rw [Rows.ld_row (Val := Elt Ideal) (e := .f32) _ (off1 k) (xpad x) ⟨128 * k.val + i.val, by omega⟩ i q rfl, xpad_apply]

theorem stored_at (a : Fin 8192) : ∀ n, n ≤ k0_t1_loop.trips → a.val < 128 * n →
    View.canon (Val := Elt Ideal) (stored w b (xpad x) n) (ix2 a q) = conv x w (b (ix2 0 q)) q a.val
  | 0, _, h => absurd h (by omega)
  | n + 1, hn, h => by
    rw [stored_succ w b (xpad x) ⟨n, hn⟩]
    unfold put
    by_cases hl : a.val < 128 * n
    · rw [Rows.canon_row_out (Val := Elt Ideal) _ (off2 ⟨n, hn⟩) _ _ a q (.inl hl)]
      exact stored_at a n (Nat.le_of_succ_le hn) hl
    · rw [Rows.canon_row (Val := Elt Ideal) _ (off2 ⟨n, hn⟩) _ _ a ⟨a.val - 128 * n, by omega⟩ q (by dsimp only; omega), pay_conv,
        rows_x x q ⟨n, hn⟩ _ (5 + a.val) (by dsimp only; omega), rows_x x q ⟨n, hn⟩ _ (6 + a.val) (by dsimp only; omega), rows_x x q ⟨n, hn⟩ _ (7 + a.val) (by dsimp only; omega),
        rows_x x q ⟨n, hn⟩ _ (8 + a.val) (by dsimp only; omega)]
      rfl
end trips

variable (m : (ℓ : Loc nD τ sig) → Buf (Elt Ideal) ℓ) (c : Dev nD)

abbrev argX : FVec Ideal S8192x1408 .f32 := m ((c : Thread nD τ).loc main_arg0)
abbrev argW : FVec Ideal S4x1408 .f32 := m ((c : Thread nD τ).loc main_arg1)
abbrev argB : FVec Ideal S1408 .f32 := m ((c : Thread nD τ).loc main_arg2)

/-- The whole result. -/
def arr (x : FVec Ideal S8192x1408 .f32) (w : FVec Ideal S4x1408 .f32) (b : FVec Ideal S1408 .f32) : FVec Ideal S8192x1408 .f32 :=
  fun i => conv x w (b (ix1 (i 1))) (i 1) (i 0).val

theorem idx : ∀ t : Fin cfg0.N, win0_0.index t = ![0, t.val] ∧ win0_1.index t = ![0, t.val] ∧ win0_2.index t = ![0, t.val] ∧ win0_3.index t = ![0, t.val] :=
  (by decide +kernel : ∀ t : Fin grid0.N, _)
theorem lt11 (t : Fin cfg0.N) : t.val < 11 := Nat.lt_of_lt_of_eq t.isLt N_0

def lane (t : Fin cfg0.N) (q : Fin 128) : Fin 1408 := ⟨t.val * 128 + q.val, by have := lt11 t; omega⟩

theorem iblk0 (t : Fin cfg0.N) (i : Fin 8192) (q : Fin 128) : iblk m c 0 t (ix2 i q) = argX m c (ix2 i (lane t q)) := by
  blk_simp [iblk]; entry_read; pointwise; blk_ext [idx t, lane]
theorem iblk1 (t : Fin cfg0.N) (i : Fin 4) (q : Fin 128) : iblk m c 1 t (ix2 i q) = argW m c (ix2 i (lane t q)) := by
  blk_simp [iblk]; entry_read; pointwise; blk_ext [idx t, lane]
theorem iblk2 (t : Fin cfg0.N) (q : Fin 128) : iblk m c 2 t (ix2 0 q) = argB m c (ix1 (lane t q)) := by
  blk_simp [iblk]; entry_read; pointwise; blk_ext [idx t, lane]
theorem emb3 (t : Fin cfg0.N) (i : Fin 8192) (q : Fin 128) : ((cfg0.win 3).blk t).view.emb (ix2 i q) = ix2 i (lane t q) := by
  blk_ext [idx t, lane]

theorem xz_blk (t : Fin cfg0.N) (q : Fin 128) (n : ℕ) : xz (iblk m c 0 t) q n = xz (argX m c) (lane t q) n := by
  unfold xz
  by_cases h : 8 ≤ n ∧ n < 8200
  · rw [dif_pos h, dif_pos h]; exact iblk0 m c t _ q
  · rw [dif_neg h, dif_neg h]

theorem final3 : (dats m 0 c).arrAt 3 cfg0.N = arr (argX m c) (argW m c) (argB m c) := by
  refine (dats m 0 c).arrAt_eq_of_covers 3 _ (by decide +kernel) fun t _ y => ?_
  blk_simp
  rw [after0_3]
  unfold outsAt0 out0_A_3
  rw [pieces]
  obtain ⟨i, q, rfl⟩ : ∃ (i : Fin 8192) (q : Fin 128), y = ix2 i q := ⟨y 0, y 1, eq_ix2 y⟩
  refine Eq.trans ?_ (congrArg (arr _ _ _) (emb3 t i q)).symm
  refine (View.read_writes_junk_apply_eq_canon _ _ _).trans ((stored_at (iblk m c 0 t) (iblk m c 1 t) (iblk m c 2 t) q i _ (Nat.le_refl _) (by rw [trips_eq]; omega)).trans ?_)
  unfold arr conv
  dsimp only [ix2_0, ix2_1]
  simp only [xz_blk, iblk1, iblk2]

end Cert.RconvValue

end
-- ==== Proof.RconvRef.lean ====
module

public import proofs.«01_k».proof.Proof.RconvValue
public import proofs.«01_k».proof.Proof.Gen.RconvRefIdeal.Read

/-! The reference's sum of shifted products, at an index. -/

@[expose] public section

set_option maxRecDepth 16384

noncomputable section

namespace Cert.RconvRef

open Cert.RconvRefIdeal Cert.RconvRefIdeal.Gen Cert.RconvRefIdeal.Read Idealize.ShloMosaic Cert.RconvValue
open Cert.Conv4Value (xz)

/-- The zero of the padding, written as an integer. -/
theorem zero : FloatOps.sitofp (F := Ideal) .f32 (0#32 : BitVec 32) = (0 : EReal) := by
  show (((0#32 : BitVec 32).toInt : ℝ) : EReal) = 0
  simp

/-- Two readings that are zero outside the array. -/
theorem dite_zero {P Q : Prop} [Decidable P] [Decidable Q] (h : P ↔ Q) (f : P → EReal) (g : Q → EReal) (e : ∀ p q, f p = g q) :
    (if p : P then f p else 0) = if q : Q then g q else 0 := by
  by_cases p : P
  · rw [dif_pos p, dif_pos (h.mp p)]; exact e p _
  · rw [dif_neg p, dif_neg fun q => p (h.mpr q)]

theorem ref (x : FVec Ideal S8192x1408 .f32) (w : FVec Ideal S4x1408 .f32) (b : FVec Ideal S1408 .f32) :
    val_main_v32 (F := Ideal) x w b = arr x w b := by
  funext i
  idx_vars i
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13, val_main_v12,
    val_main_v11, val_main_v10, val_main_v9, val_main_v8, val_main_v7, val_main_cst, val_main_v6, val_main_v5, val_main_v4, val_main_v3, val_main_v2,
    val_main_v1, val_main_v0, val_main_call0_v0, val_main_c, arr, conv, xz]
  have row : ∀ a b : Fin 8192, a = b → x (ix2 a i1) = x (ix2 b i1) := fun a b e => by rw [e]
  rw [zero]
  refine congrArg (· + _) (congrArg₂ (· + ·) (congrArg₂ (· + ·) (congrArg₂ (· + ·) ?_ ?_) ?_) ?_) <;> refine congrArg (_ * ·) ?_
  · exact dite_zero (by omega) _ _ fun p q => row _ _ (Fin.ext (by dsimp only; omega))
  · exact dite_zero (by omega) _ _ fun p q => row _ _ (Fin.ext (by dsimp only; omega))
  · exact dite_zero (by omega) _ _ fun p q => row _ _ (Fin.ext (by dsimp only; omega))
  · rw [dif_pos (show 8 + i0.val < 8200 by omega)]

end Cert.RconvRef

end
-- ==== Proof.RconvClaim.lean ====
module

public import proofs.«01_k».proof.Defs
public import proofs.«01_k».proof.Proof.Gen.Rconv
public import proofs.«01_k».proof.Proof.Gen.Rconv.Frame
public import proofs.«01_k».proof.Proof.RconvRef
public import Idealize.ShloMosaic.Adequacy
public import Idealize.ShloMosaic.Init

/-! The forward convolution with four taps: its frames, and its result is the reference's. -/

@[expose] public section

set_option maxRecDepth 16384

noncomputable section

namespace Cert.RconvClaim

open Idealize.ShloMosaic Idealize.ShloMosaic.TcCoe Idealize.SL.Sem

theorem frame : Cert.quiescent_Rconv := fun m ρ _ => Cert.Rconv.Gen.frame m ρ
theorem frame_ideal : Cert.quiescent_RconvIdeal := fun m ρ _ => Cert.RconvIdeal.Gen.frame m ρ

theorem frame_ref : Cert.quiescent_RconvRefIdeal := fun m ρ _ =>
  (θ_run Cert.RconvRefIdeal.defs _ _).mono (fun r h => ⟨fun c => (h c).2, sem_eq_zero_of_no_sems (by decide) r.2⟩)
    (Cert.RconvRefIdeal.Value.run (F := Ideal) m ρ)

theorem algebraic : Cert.algebraic_RconvIdeal_RconvRefIdeal := by
  intro m g m' g' _ hm
  refine ⟨fun c => RconvValue.arr (RconvValue.argX m c) (RconvValue.argW m c) (RconvValue.argB m c),
    (θ_run Cert.RconvIdeal.defs _ _).mono (fun r k c => ⟨(k c).1.trans (RconvValue.final3 m c), (k c).2⟩) (Cert.RconvIdeal.Value.run_blocks (F := Ideal) m g),
    (θ_run Cert.RconvRefIdeal.defs _ _).mono (fun r k c => ⟨(k c).1.trans ?_, (k c).2⟩) (Cert.RconvRefIdeal.Value.run (F := Ideal) m' g')⟩
  obtain ⟨e0, e1, e2⟩ := hm c
  have a0 : m' ((c.tc : Thread Cert.RconvRefIdeal.nD Cert.RconvRefIdeal.τ).loc Cert.RconvRefIdeal.main_arg0) = RconvValue.argX m c := e0
  have a1 : m' ((c.tc : Thread Cert.RconvRefIdeal.nD Cert.RconvRefIdeal.τ).loc Cert.RconvRefIdeal.main_arg1) = RconvValue.argW m c := e1
  have a2 : m' ((c.tc : Thread Cert.RconvRefIdeal.nD Cert.RconvRefIdeal.τ).loc Cert.RconvRefIdeal.main_arg2) = RconvValue.argB m c := e2
  exact (Cert.RconvRefIdeal.Read.val_main_v32_eq _ _ _).trans ((RconvRef.ref _ _ _).trans (by rw [a0, a1, a2]))

end Cert.RconvClaim

end
-- ==== Proof.DxValue.lean ====
module

public import proofs.«01_k».proof.Proof.Forward
public import proofs.«01_k».proof.Proof.Gen.DxIdeal.Value

/-! What the product with a transposed weight and the residual's cotangent leave in the input's gradient. -/

@[expose] public section

set_option maxRecDepth 16384

noncomputable section

namespace Cert.DxValue

open Cert.DxIdeal Cert.DxIdeal.Gen Cert.Forward Idealize.ShloMosaic Idealize.ShloMosaic.TcCoe Idealize.SL.Sem

/-- The input's gradient, from the weight and the cotangents of the hidden product and of the scaled residual. -/
def grad (w : Mat 1024 5632) (u : Mat 8192 5632) (d : Mat 8192 1024) (t : Fin 8192) (q : Fin 1024) : EReal :=
  Ideal.ofBits .f32 0x3FB504F3#32 * d (ix2 t q) + ∑ k : Fin 5632, u (ix2 t k) * w (ix2 q k)

variable (m : (ℓ : Loc nD τ sig) → Buf (Elt Ideal) ℓ) (c : Dev nD)

/-- The arguments as launched: the weight and the two cotangents. -/
abbrev argW : Mat 1024 5632 := (m ((c : Thread nD τ).loc main_arg1) : FVec Ideal S1024x5632 .f32)
abbrev argU : Mat 8192 5632 := (m ((c : Thread nD τ).loc main_arg2) : FVec Ideal S8192x5632 .f32)
abbrev argD : Mat 8192 1024 := (m ((c : Thread nD τ).loc main_arg3) : FVec Ideal S8192x1024 .f32)

theorem idx : ∀ t : Fin cfg0.N, win0_0.index t = ![t.val, 0] ∧ win0_1.index t = ![0, 0] ∧ win0_2.index t = ![t.val, 0] ∧
    win0_3.index t = ![t.val, 0] :=
  (by decide +kernel : ∀ t : Fin grid0.N, _)

/-- The row of the whole arrays that row `a` of point `t`'s blocks is. -/
def row (t : Fin cfg0.N) (a : Fin 512) : Fin 8192 :=
  ⟨t.val * 512 + a.val, by have : t.val < 16 := t.isLt; omega⟩

theorem iblk0 (t : Fin cfg0.N) (a : Fin 512) (k : Fin 5632) : iblk m c 0 t (ix2 a k) = argU m c (ix2 (row t a) k) := by
  blk_simp [iblk]; entry_read; pointwise; blk_ext [idx t, row]
theorem iblk1 (t : Fin cfg0.N) (k : Fin 5632) (q : Fin 1024) : iblk m c 1 t (ix2 k q) = argW m c (ix2 q k) := by
  blk_simp [iblk]; entry_read; pointwise; blk_ext [idx t]
theorem iblk2 (t : Fin cfg0.N) (a : Fin 512) (q : Fin 1024) : iblk m c 2 t (ix2 a q) = argD m c (ix2 (row t a) q) := by
  blk_simp [iblk]; entry_read; pointwise; blk_ext [idx t, row]

theorem pay (D : S512x1024.Idx → EReal) (U : S512x5632.Idx → EReal) (W : S5632x1024.Idx → EReal) (a : Fin 512) (q : Fin 1024) :
    k0_pay1 (F := Ideal) D U W (ix2 a q) = Ideal.ofBits .f32 0x3FB504F3#32 * D (ix2 a q) + ∑ k : Fin 5632, U (ix2 a k) * W (ix2 k q) := by
  unfold_payloads
  pointwise

theorem final3 : (dats m 0 c).arrAt 3 cfg0.N = fun i : S8192x1024.Idx => grad (argW m c) (argU m c) (argD m c) (i 0) (i 1) := by
  refine (dats m 0 c).arrAt_eq_of_covers 3 _ (by decide +kernel) fun t _ y => ?_
  blk_simp
  rw [after0_3]
  obtain ⟨a, b, rfl⟩ : ∃ (a : Fin 512) (b : Fin 1024), y = ix2 a b := ⟨y 0, y 1, eq_ix2 y⟩
  have e : ((cfg0.win 3).blk t).view.emb (ix2 a b) = ix2 (row t a) b := by blk_ext [idx t, row]
  refine Eq.trans ?_ (congrArg (fun i : S8192x1024.Idx => grad (argW m c) (argU m c) (argD m c) (i 0) (i 1)) e).symm
  unfold out0_3
  frame_out
  refine (pay _ _ _ a b).trans ?_
  simp only [iblk0, iblk1, iblk2]
  rfl

end Cert.DxValue

end
-- ==== Proof.DxRef.lean ====
module

public import proofs.«01_k».proof.Proof.DxValue
public import proofs.«01_k».proof.Proof.Gen.DxRefIdeal.Run
public import proofs.«01_k».proof.Proof.Gen.DxRefIdeal.Read

/-! The reference's gradient at an index. -/

@[expose] public section

set_option maxRecDepth 16384

noncomputable section

namespace Cert.DxRef

open Cert.DxRefIdeal Cert.DxRefIdeal.Gen Cert.DxRefIdeal.Read Cert.Forward Idealize.ShloMosaic Idealize.ShloMosaic.TcCoe

theorem ref (w : Mat 1024 5632) (u : Mat 8192 5632) (d : Mat 8192 1024) (t : Fin 8192) (q : Fin 1024) :
    val_main_v6 (F := Ideal) w u d (ix2 t q) = DxValue.grad w u d t q := by
  pointwise [val_main_v6, val_main_v5, val_main_v4, val_main_v3, val_main_cst_0]
  rfl

end Cert.DxRef

end
-- ==== Proof.DxClaim.lean ====
module

public import proofs.«01_k».proof.Defs
public import proofs.«01_k».proof.Proof.Gen.Dx
public import proofs.«01_k».proof.Proof.Gen.Dx.Frame
public import proofs.«01_k».proof.Proof.DxValue
public import proofs.«01_k».proof.Proof.DxRef
public import Idealize.ShloMosaic.Adequacy
public import Idealize.ShloMosaic.Init

/-! The input's gradient: its frames, and its result is the reference's. -/

@[expose] public section

set_option maxRecDepth 16384

noncomputable section

namespace Cert.DxClaim

open Idealize.ShloMosaic Idealize.ShloMosaic.TcCoe Idealize.SL.Sem Cert.Forward

theorem frame : Cert.quiescent_Dx := fun m ρ _ => Cert.Dx.Gen.frame m ρ
theorem frame_ideal : Cert.quiescent_DxIdeal := fun m ρ _ => Cert.DxIdeal.Gen.frame m ρ

theorem frame_ref : Cert.quiescent_DxRefIdeal := fun m ρ _ =>
  (θ_run Cert.DxRefIdeal.defs _ _).mono (fun r h => ⟨fun c => (h c).2, sem_eq_zero_of_no_sems (by decide) r.2⟩)
    (Cert.DxRefIdeal.Value.run (F := Ideal) m ρ)

theorem algebraic : Cert.algebraic_DxIdeal_DxRefIdeal := by
  intro m g m' g' _ hm
  refine ⟨_,
    (θ_run Cert.DxIdeal.defs _ _).mono (fun r k c => ⟨(k c).1.trans (DxValue.final3 m c), (k c).2⟩) (Cert.DxIdeal.Value.run_blocks (F := Ideal) m g),
    (θ_run Cert.DxRefIdeal.defs _ _).mono (fun r k c => ⟨(k c).1.trans ?_, (k c).2⟩) (Cert.DxRefIdeal.Value.run (F := Ideal) m' g')⟩
  obtain ⟨_, e1, e2, e3⟩ := hm c
  have a1 : (m' ((c.tc : Thread Cert.DxRefIdeal.nD Cert.DxRefIdeal.τ).loc Cert.DxRefIdeal.main_arg1) : Mat 1024 5632) = DxValue.argW m c := e1
  have a2 : (m' ((c.tc : Thread Cert.DxRefIdeal.nD Cert.DxRefIdeal.τ).loc Cert.DxRefIdeal.main_arg2) : Mat 8192 5632) = DxValue.argU m c := e2
  have a3 : (m' ((c.tc : Thread Cert.DxRefIdeal.nD Cert.DxRefIdeal.τ).loc Cert.DxRefIdeal.main_arg3) : Mat 8192 1024) = DxValue.argD m c := e3
  exact (Cert.DxRefIdeal.Read.val_main_v6_eq _ _ _).trans ((ext (DxRef.ref _ _ _)).trans (by rw [a1, a2, a3]))

end Cert.DxClaim

end
-- ==== Proof.DwValue.lean ====
module

public import proofs.«01_k».proof.Proof.Forward
public import proofs.«01_k».proof.Proof.Gen.DwIdeal.Value

/-! What the product of a transposed input with a cotangent leaves in the weight's gradient: the sum of eight blocks of rows. -/

@[expose] public section

set_option maxRecDepth 16384

noncomputable section

namespace Cert.DwValue

open Cert.DwIdeal Cert.DwIdeal.Gen Cert.Forward Idealize.ShloMosaic Idealize.ShloMosaic.TcCoe Idealize.SL.Sem

/-- The weight's gradient, from the input and the product's cotangent. -/
def grad (x : Mat 8192 1024) (u : Mat 8192 5632) (a : Fin 1024) (b : Fin 5632) : EReal := ∑ t : Fin 8192, x (ix2 t a) * u (ix2 t b)

variable (m : (ℓ : Loc nD τ sig) → Buf (Elt Ideal) ℓ) (c : Dev nD)

/-- The arguments as launched: the input and the cotangent. -/
abbrev argX : Mat 8192 1024 := (m ((c : Thread nD τ).loc main_arg0) : FVec Ideal S8192x1024 .f32)
abbrev argU : Mat 8192 5632 := (m ((c : Thread nD τ).loc main_arg2) : FVec Ideal S8192x5632 .f32)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The row and the column of the whole arrays that those of point `t`'s blocks are. -/
def row (t : Fin cfg0.N) (r : Fin 1024) : Fin 8192 := ⟨t.val % 8 * 1024 + r.val, by omega⟩
def col (t : Fin cfg0.N) (b : Fin 2816) : Fin 5632 := ⟨t.val / 8 * 2816 + b.val, by have : t.val < 16 := t.isLt; omega⟩

theorem iblk0 (t : Fin cfg0.N) (r : Fin 1024) (a : Fin 1024) : iblk m c 0 t (ix2 r a) = argX m c (ix2 (row t r) a) := by
  blk_simp [iblk]; entry_read; pointwise; blk_ext [idx t, row]
theorem iblk1 (t : Fin cfg0.N) (r : Fin 1024) (b : Fin 2816) : iblk m c 1 t (ix2 r b) = argU m c (ix2 (row t r) (col t b)) := by
  blk_simp [iblk]; entry_read; pointwise; blk_ext [idx t, row, col]

theorem pay1 (i : S1024x2816.Idx) : k0_pay1 (F := Ideal) i = 0 := by
  idx_vars i
  unfold_payloads
  pointwise
theorem pay2 (A : S1024x2816.Idx → EReal) (X : S1024x1024.Idx → EReal) (U : S1024x2816.Idx → EReal) (a : Fin 1024) (b : Fin 2816) :
    k0_pay2 (F := Ideal) A X U (ix2 a b) = A (ix2 a b) + ∑ r : Fin 1024, X (ix2 r a) * U (ix2 r b) := by
  unfold_payloads
  pointwise

/-- What a point adds. -/
def term (a : Fin 1024) (b : Fin 2816) (t : Fin cfg0.N) : EReal := ∑ r : Fin 1024, argX m c (ix2 (row t r) a) * argU m c (ix2 (row t r) (col t b))

theorem outs (t : Fin cfg0.N) (ht : t.val % 8 = 7) (a : Fin 1024) (b : Fin 2816) :
    outsAt0 m c t.val t.isLt (ix2 a b) = grad (argX m c) (argU m c) a (col t b) := by
  refine (Pipeline.eq_sum_fin_of_reset_step_of_flush (fun n h => outsAt0 m c n h (ix2 a b)) 8 0 (term m c a b) ?_ ?_ t ht).trans ?_
  · intro t h0
    rw [outsAt0_A m c t h0]; frame_out
    rw [pay2, pay1]
    simp only [iblk0, iblk1]
    rfl
  · intro t h0
    rw [outsAt0_B m c t h0]; frame_out
    rw [pay2]
    simp only [iblk0, iblk1]
    rfl
  · rw [zero_add]
    refine Eq.trans ?_ (Fin.sum_mul_add_fin 8 1024 fun s => argX m c (ix2 s a) * argU m c (ix2 s (col t b)))
    refine Finset.sum_congr rfl fun s _ => Finset.sum_congr rfl fun r _ => ?_
    have er : row ⟨8 * (t.val / 8) + s.val, Pipeline.run_point_lt_of_flush t ht s⟩ r = ⟨s.val * 1024 + r.val, by omega⟩ := Fin.ext (by unfold row; dsimp only; omega)
    have ec : col ⟨8 * (t.val / 8) + s.val, Pipeline.run_point_lt_of_flush t ht s⟩ b = col t b := Fin.ext (by unfold col; dsimp only; omega)
    rw [er, ec]

theorem final2 : (dats m 0 c).arrAt 2 cfg0.N = fun i : S1024x5632.Idx => grad (argX m c) (argU m c) (i 0) (i 1) := by
  refine (dats m 0 c).arrAt_eq_of_covers 2 _ (by decide +kernel) fun t hf y => ?_
  have ht := (flush0_2 t).mp hf
  blk_simp
  rw [after0_2]
  obtain ⟨a, b, rfl⟩ : ∃ (a : Fin 1024) (b : Fin 2816), y = ix2 a b := ⟨y 0, y 1, eq_ix2 y⟩
  have e : ((cfg0.win 2).blk t).view.emb (ix2 a b) = ix2 a (col t b) := by blk_ext [idx t, col]
  rw [outs m c t (by omega) a b]
  exact (congrArg (fun i : S1024x5632.Idx => grad (argX m c) (argU m c) (i 0) (i 1)) e).symm

end Cert.DwValue

end
-- ==== Proof.DwRef.lean ====
module

public import proofs.«01_k».proof.Proof.DwValue
public import proofs.«01_k».proof.Proof.Gen.DwRefIdeal.Run
public import proofs.«01_k».proof.Proof.Gen.DwRefIdeal.Read

/-! The reference's gradient at an index. -/

@[expose] public section

set_option maxRecDepth 16384

noncomputable section

namespace Cert.DwRef

open Cert.DwRefIdeal Cert.DwRefIdeal.Gen Cert.DwRefIdeal.Read Cert.Forward Idealize.ShloMosaic Idealize.ShloMosaic.TcCoe

theorem ref (x : Mat 8192 1024) (u : Mat 8192 5632) (a : Fin 1024) (b : Fin 5632) :
    val_main_v2 (F := Ideal) x u (ix2 a b) = DwValue.grad x u a b := by
  pointwise [val_main_v2, val_main_v1]
  exact Finset.sum_congr rfl fun t _ => mul_comm _ _

end Cert.DwRef

end
-- ==== Proof.DwClaim.lean ====
module

public import proofs.«01_k».proof.Defs
public import proofs.«01_k».proof.Proof.Gen.Dw
public import proofs.«01_k».proof.Proof.Gen.Dw.Frame
public import proofs.«01_k».proof.Proof.DwValue
public import proofs.«01_k».proof.Proof.DwRef
public import Idealize.ShloMosaic.Adequacy
public import Idealize.ShloMosaic.Init

/-! A weight's gradient: its frames, and its result is the reference's. -/

@[expose] public section

set_option maxRecDepth 16384

noncomputable section

namespace Cert.DwClaim

open Idealize.ShloMosaic Idealize.ShloMosaic.TcCoe Idealize.SL.Sem Cert.Forward

theorem frame : Cert.quiescent_Dw := fun m ρ _ => Cert.Dw.Gen.frame m ρ
theorem frame_ideal : Cert.quiescent_DwIdeal := fun m ρ _ => Cert.DwIdeal.Gen.frame m ρ

theorem frame_ref : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)

theorem algebraic : Cert.algebraic_DwIdeal_DwRefIdeal := by
  intro m g m' g' _ hm
  refine ⟨_,
    (θ_run Cert.DwIdeal.defs _ _).mono (fun r k c => ⟨(k c).1.trans (DwValue.final2 m c), (k c).2⟩) (Cert.DwIdeal.Value.run_blocks (F := Ideal) m g),
    (θ_run Cert.DwRefIdeal.defs _ _).mono (fun r k c => ⟨(k c).1.trans ?_, (k c).2⟩) (Cert.DwRefIdeal.Value.run (F := Ideal) m' g')⟩
  obtain ⟨e0, _, e2⟩ := hm c
  have a0 : (m' ((c.tc : Thread Cert.DwRefIdeal.nD Cert.DwRefIdeal.τ).loc Cert.DwRefIdeal.main_arg0) : Mat 8192 1024) = DwValue.argX m c := e0
  have a2 : (m' ((c.tc : Thread Cert.DwRefIdeal.nD Cert.DwRefIdeal.τ).loc Cert.DwRefIdeal.main_arg2) : Mat 8192 5632) = DwValue.argU m c := e2
  exact (Cert.DwRefIdeal.Read.val_main_v2_eq _ _).trans ((ext (DwRef.ref _ _)).trans (by rw [a0, a2]))

end Cert.DwClaim

end
-- ==== Proof.AdamwValue.lean ====
module

public import proofs.«01_k».proof.Proof.Forward
public import proofs.«01_k».proof.Proof.Gen.AdamwIdeal.Value

/-! What the optimiser's step leaves in its results: the gradient, the update and the two moments. -/

@[expose] public section

set_option maxRecDepth 16384
set_option maxHeartbeats 1000000

noncomputable section

namespace Cert.AdamwValue

open Cert.AdamwIdeal Cert.AdamwIdeal.Gen Idealize.ShloMosaic Idealize.ShloMosaic.TcCoe Idealize.SL.Sem

/-- Eight parts of a gradient, and an array of the packed shape. -/
abbrev Parts := S8x528x1024.Idx → EReal
abbrev Arr := S1x528x1024.Idx → EReal

/-- A constant of the program, read as a number. -/
abbrev lit (b : BitVec 32) : EReal := Ideal.ofBits .f32 b

/-- The new moments and the update, from a weight, its gradient and its moments. -/
def first (g m : EReal) : EReal := lit 0x3F666666#32 * m + lit 0x3DCCCCCD#32 * g
def second (g v : EReal) : EReal := lit 0x3F7FBE77#32 * v + lit 0x3A83126F#32 * (g * g)
def step (w g m v : EReal) : EReal :=
  lit 0xBA83126F#32 * (Ideal.div (Ideal.div (first g m) (lit 0x3F26BD02#32))
    (Ideal.sqrt (Ideal.div (second g v) (lit 0x3C231ACC#32)) + lit 0x322BCC77#32) + lit 0x3C23D70A#32 * w)

/-- The whole gradient: the sum of the parts. -/
def total (p : Parts) (r : Fin 528) (q : Fin 1024) : EReal := ∑ k : Fin 8, p (ix3 k r q)

def outG (p : Parts) (r : Fin 528) (q : Fin 1024) : EReal := total p r q
def outD (p : Parts) (w m v : Arr) (r : Fin 528) (q : Fin 1024) : EReal := step (w (ix3 0 r q)) (total p r q) (m (ix3 0 r q)) (v (ix3 0 r q))
def outM (p : Parts) (m : Arr) (r : Fin 528) (q : Fin 1024) : EReal := first (total p r q) (m (ix3 0 r q))
def outV (p : Parts) (v : Arr) (r : Fin 528) (q : Fin 1024) : EReal := second (total p r q) (v (ix3 0 r q))

variable (m : (ℓ : Loc nD τ sig) → Buf (Elt Ideal) ℓ) (c : Dev nD)

/-- The arguments as launched. -/
abbrev argP : Parts := (m ((c : Thread nD τ).loc main_arg0) : FVec Ideal S8x528x1024 .f32)
abbrev argW : Arr := (m ((c : Thread nD τ).loc main_arg1) : FVec Ideal S1x528x1024 .f32)
abbrev argM : Arr := (m ((c : Thread nD τ).loc main_arg2) : FVec Ideal S1x528x1024 .f32)
abbrev argV : Arr := (m ((c : Thread nD τ).loc main_arg3) : FVec Ideal S1x528x1024 .f32)

theorem idx : ∀ t : Fin cfg0.N, win0_0.index t = ![0, t.val, 0] ∧ win0_1.index t = ![0, t.val, 0] ∧ win0_2.index t = ![0, t.val, 0] ∧
    win0_3.index t = ![0, t.val, 0] ∧ win0_4.index t = ![0, t.val, 0] ∧ win0_5.index t = ![0, t.val, 0] ∧ win0_6.index t = ![0, t.val, 0] ∧
    win0_7.index t = ![0, t.val, 0] :=
  (by decide +kernel : ∀ t : Fin grid0.N, _)

/-- The row of the whole arrays that row `a` of point `t`'s blocks is. -/
def row (t : Fin cfg0.N) (a : Fin 264) : Fin 528 :=
  ⟨t.val * 264 + a.val, by have : t.val < 2 := t.isLt; omega⟩

theorem iblk0 (t : Fin cfg0.N) (k : Fin 8) (a : Fin 264) (q : Fin 1024) : iblk m c 0 t (ix3 k a q) = argP m c (ix3 k (row t a) q) := by
  blk_simp [iblk]; entry_read; blk_ext [idx t, row]
theorem iblk1 (t : Fin cfg0.N) (a : Fin 264) (q : Fin 1024) : iblk m c 1 t (ix3 0 a q) = argW m c (ix3 0 (row t a) q) := by
  blk_simp [iblk]; entry_read; blk_ext [idx t, row]
theorem iblk2 (t : Fin cfg0.N) (a : Fin 264) (q : Fin 1024) : iblk m c 2 t (ix3 0 a q) = argM m c (ix3 0 (row t a) q) := by
  blk_simp [iblk]; entry_read; blk_ext [idx t, row]
theorem iblk3 (t : Fin cfg0.N) (a : Fin 264) (q : Fin 1024) : iblk m c 3 t (ix3 0 a q) = argV m c (ix3 0 (row t a) q) := by
  blk_simp [iblk]; entry_read; blk_ext [idx t, row]

/-- A function of the row and the column, as an array of the packed shape. -/
theorem ext {f : Arr} {g : Fin 528 → Fin 1024 → EReal} (h : ∀ r q, f (ix3 0 r q) = g r q) : f = fun i => g (i 1) (i 2) := by
  funext i
  have e : i = ix3 0 (i 1) (i 2) := (eq_ix3 i).trans (congrArg (fun u => ix3 u (i 1) (i 2)) (Subsingleton.elim (α := Fin 1) _ _))
  exact (congrArg f e).trans (h _ _)

theorem point (y : S1x264x1024.Idx) : y = ix3 0 (y 1) (y 2) :=
  (eq_ix3 y).trans (congrArg (fun u => ix3 u (y 1) (y 2)) (Subsingleton.elim (α := Fin 1) _ _))

theorem o4 (t : Fin cfg0.N) (a : Fin 264) (q : Fin 1024) : (outsAt0 m c t).1 (ix3 0 a q) = outG (argP m c) (row t a) q := by
  unfold outsAt0
  dsimp only
  frame_out
  unfold_payloads
  pointwise
  simp only [iblk0, iblk1, iblk2, iblk3]
  unfold outG total
  simp only [Fin.sum_univ_eight]

theorem final4 : (dats m 0 c).arrAt 4 cfg0.N = fun i : S1x528x1024.Idx => outG (argP m c) (i 1) (i 2) := by
  refine (dats m 0 c).arrAt_eq_of_covers 4 _ (by decide +kernel) fun t _ y => ?_
  blk_simp
  rw [after0_4, point y]
  have e : ((cfg0.win 4).blk t).view.emb (ix3 0 (y 1) (y 2)) = ix3 0 (row t (y 1)) (y 2) := by blk_ext [idx t, row]
  exact (o4 m c t (y 1) (y 2)).trans (congrArg (fun i : S1x528x1024.Idx => outG (argP m c) (i 1) (i 2)) e).symm

theorem o5 (t : Fin cfg0.N) (a : Fin 264) (q : Fin 1024) : (outsAt0 m c t).2.1 (ix3 0 a q) = outD (argP m c) (argW m c) (argM m c) (argV m c) (row t a) q := by
  unfold outsAt0
  dsimp only
  frame_out
  unfold_payloads
  pointwise
  simp only [iblk0, iblk1, iblk2, iblk3]
  unfold outD step first second total
  simp only [Fin.sum_univ_eight]

theorem final5 : (dats m 0 c).arrAt 5 cfg0.N = fun i : S1x528x1024.Idx => outD (argP m c) (argW m c) (argM m c) (argV m c) (i 1) (i 2) := by
  refine (dats m 0 c).arrAt_eq_of_covers 5 _ (by decide +kernel) fun t _ y => ?_
  blk_simp
  rw [after0_5, point y]
  have e : ((cfg0.win 5).blk t).view.emb (ix3 0 (y 1) (y 2)) = ix3 0 (row t (y 1)) (y 2) := by blk_ext [idx t, row]
  exact (o5 m c t (y 1) (y 2)).trans (congrArg (fun i : S1x528x1024.Idx => outD (argP m c) (argW m c) (argM m c) (argV m c) (i 1) (i 2)) e).symm

theorem o6 (t : Fin cfg0.N) (a : Fin 264) (q : Fin 1024) : (outsAt0 m c t).2.2.1 (ix3 0 a q) = outM (argP m c) (argM m c) (row t a) q := by
  unfold outsAt0
  dsimp only
  frame_out
  unfold_payloads
  pointwise
  simp only [iblk0, iblk1, iblk2, iblk3]
  unfold outM first total
  simp only [Fin.sum_univ_eight]

theorem final6 : (dats m 0 c).arrAt 6 cfg0.N = fun i : S1x528x1024.Idx => outM (argP m c) (argM m c) (i 1) (i 2) := by
  refine (dats m 0 c).arrAt_eq_of_covers 6 _ (by decide +kernel) fun t _ y => ?_
  blk_simp
  rw [after0_6, point y]
  have e : ((cfg0.win 6).blk t).view.emb (ix3 0 (y 1) (y 2)) = ix3 0 (row t (y 1)) (y 2) := by blk_ext [idx t, row]
  exact (o6 m c t (y 1) (y 2)).trans (congrArg (fun i : S1x528x1024.Idx => outM (argP m c) (argM m c) (i 1) (i 2)) e).symm

theorem o7 (t : Fin cfg0.N) (a : Fin 264) (q : Fin 1024) : (outsAt0 m c t).2.2.2 (ix3 0 a q) = outV (argP m c) (argV m c) (row t a) q := by
  unfold outsAt0
  dsimp only
  frame_out
  unfold_payloads
  pointwise
  simp only [iblk0, iblk1, iblk2, iblk3]
  unfold outV second total
  simp only [Fin.sum_univ_eight]

theorem final7 : (dats m 0 c).arrAt 7 cfg0.N = fun i : S1x528x1024.Idx => outV (argP m c) (argV m c) (i 1) (i 2) := by
  refine (dats m 0 c).arrAt_eq_of_covers 7 _ (by decide +kernel) fun t _ y => ?_
  blk_simp
  rw [after0_7, point y]
  have e : ((cfg0.win 7).blk t).view.emb (ix3 0 (y 1) (y 2)) = ix3 0 (row t (y 1)) (y 2) := by blk_ext [idx t, row]
  exact (o7 m c t (y 1) (y 2)).trans (congrArg (fun i : S1x528x1024.Idx => outV (argP m c) (argV m c) (i 1) (i 2)) e).symm

end Cert.AdamwValue

end
-- ==== Proof.AdamwRef.lean ====
module

public import proofs.«01_k».proof.Proof.AdamwValue
public import proofs.«01_k».proof.Proof.Gen.AdamwRefIdeal.Run
public import proofs.«01_k».proof.Proof.Gen.AdamwRefIdeal.Read

/-! The reference's four results at an index. -/

@[expose] public section

set_option maxRecDepth 16384

noncomputable section

namespace Cert.AdamwRef

open Cert.AdamwRefIdeal Cert.AdamwRefIdeal.Gen Cert.AdamwRefIdeal.Read Cert.AdamwValue Idealize.ShloMosaic Idealize.ShloMosaic.TcCoe

theorem r1 (p : Parts) (r : Fin 528) (q : Fin 1024) : val_main_v1 (F := Ideal) p (ix3 0 r q) = outG p r q := by
  pointwise [val_main_v1, val_main_v0, val_main_cst]
  rfl

theorem r6 (p : Parts) (m : Arr) (r : Fin 528) (q : Fin 1024) : val_main_v6 (F := Ideal) p m (ix3 0 r q) = outM p m r q := by
  pointwise [val_main_v6, val_main_v5, val_main_v4, val_main_v3, val_main_v2, val_main_cst_0, val_main_cst_1]
  rw [r1]
  rfl

theorem r12 (p : Parts) (v : Arr) (r : Fin 528) (q : Fin 1024) : val_main_v12 (F := Ideal) p v (ix3 0 r q) = outV p v r q := by
  pointwise [val_main_v12, val_main_v11, val_main_v10, val_main_v9, val_main_v8, val_main_v7, val_main_cst_2, val_main_cst_3]
  rw [r1]
  rfl

theorem r25 (p : Parts) (w m v : Arr) (r : Fin 528) (q : Fin 1024) : val_main_v25 (F := Ideal) p w m v (ix3 0 r q) = outD p w m v r q := by
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]
  rw [r6, r12]
  rfl

end Cert.AdamwRef

end
-- ==== Proof.AdamwClaim.lean ====
module

public import proofs.«01_k».proof.Defs
public import proofs.«01_k».proof.Proof.Gen.Adamw
public import proofs.«01_k».proof.Proof.Gen.Adamw.Frame
public import proofs.«01_k».proof.Proof.AdamwRef
public import Idealize.ShloMosaic.Adequacy
public import Idealize.ShloMosaic.Init

/-! The optimiser's step: its frames, and its four results are the reference's. -/

@[expose] public section

set_option maxRecDepth 16384

noncomputable section

namespace Cert.AdamwClaim

open Idealize.ShloMosaic Idealize.ShloMosaic.TcCoe Idealize.SL.Sem Cert.AdamwValue

theorem frame : Cert.quiescent_Adamw := fun m ρ _ => Cert.Adamw.Gen.frame m ρ
theorem frame_ideal : Cert.quiescent_AdamwIdeal := fun m ρ _ => Cert.AdamwIdeal.Gen.frame m ρ

theorem frame_ref : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)

theorem algebraic : Cert.algebraic_AdamwIdeal_AdamwRefIdeal := by
  intro m g m' g' _ hm
  refine ⟨_, _, _, _,
    (θ_run Cert.AdamwIdeal.defs _ _).mono (fun r k c => ⟨(k c).1.trans (final4 m c), (k c).2.1.trans (final5 m c),
        (k c).2.2.1.trans (final6 m c), (k c).2.2.2.1.trans (final7 m c), (k c).2.2.2.2⟩)
      (Cert.AdamwIdeal.Value.run_blocks (F := Ideal) m g),
    (θ_run Cert.AdamwRefIdeal.defs _ _).mono (fun r k c => ?_) (Cert.AdamwRefIdeal.Value.run (F := Ideal) m' g')⟩
  obtain ⟨e0, e1, e2, e3⟩ := hm c
  obtain ⟨kg, kd, km, kv, ka⟩ := k c
  have a0 : (m' ((c.tc : Thread Cert.AdamwRefIdeal.nD Cert.AdamwRefIdeal.τ).loc Cert.AdamwRefIdeal.main_arg0) : Parts) = argP m c := e0
  have a1 : (m' ((c.tc : Thread Cert.AdamwRefIdeal.nD Cert.AdamwRefIdeal.τ).loc Cert.AdamwRefIdeal.main_arg1) : Arr) = argW m c := e1
  have a2 : (m' ((c.tc : Thread Cert.AdamwRefIdeal.nD Cert.AdamwRefIdeal.τ).loc Cert.AdamwRefIdeal.main_arg2) : Arr) = argM m c := e2
  have a3 : (m' ((c.tc : Thread Cert.AdamwRefIdeal.nD Cert.AdamwRefIdeal.τ).loc Cert.AdamwRefIdeal.main_arg3) : Arr) = argV m c := e3
  exact ⟨kg.trans ((Cert.AdamwRefIdeal.Read.val_main_v1_eq _).trans ((ext (AdamwRef.r1 _)).trans (by rw [a0]))),
    kd.trans ((Cert.AdamwRefIdeal.Read.val_main_v25_eq _ _ _ _).trans ((ext (AdamwRef.r25 _ _ _ _)).trans (by rw [a0, a1, a2, a3]))),
    km.trans ((Cert.AdamwRefIdeal.Read.val_main_v6_eq _ _).trans ((ext (AdamwRef.r6 _ _)).trans (by rw [a0, a2]))),
    kv.trans ((Cert.AdamwRefIdeal.Read.val_main_v12_eq _ _).trans ((ext (AdamwRef.r12 _ _)).trans (by rw [a0, a3]))), ka⟩

end Cert.AdamwClaim

end
-- ==== Proof.RecurTrip.lean ====
module

public import proofs.«01_k».proof.Proof.Gen.RecurIdeal.Frame
public import proofs.«01_k».proof.Proof.Gen.RecurIdeal.Loops
public import Idealize.ShloMosaic.Lib.Claim
public import Idealize.ShloMosaic.Lib.Pipeline.ValueKit

@[expose] public section

set_option maxRecDepth 16384

noncomputable section

namespace Cert.RecurTrip

open Cert.RecurIdeal Cert.RecurIdeal.Gen Idealize.ShloMosaic Idealize.ShloMosaic.TcCoe
open Idealize.SL.Sem

variable {F : FTy → Type} [FloatOps F]

/-- The row number of every entry of a group of eight rows. -/
abbrev rowNo : IVec S8x1408 32 := iota .tc S8x1408 32 [0] iota_S8x1408_d0_w32

/-- The rows of a block that trip `k` works on. -/
abbrev rect (k : Fin k0_t1_loop.trips) : Rect S512x1408 :=
  Rect.unit (s := S512x1408) (k0_off1 k) S8x1408.size (k0_off1_inb k)

def rows (X : Vec F S512x1408 .f32) (k : Fin k0_t1_loop.trips) : Vec F S8x1408 .f32 := View.ld X (rect k)

/-- The state at a group's rows, -/
def now (a u : Vec F S8x1408 .f32) (e : Vec F S1x1408 .f32) : Vec F S8x1408 .f32 :=
  k0_pay2 e (k0_pay8 rowNo a u) (k0_pay9 rowNo a) (k0_pay10 rowNo a) (k0_pay11 rowNo) 4#32

/-- the state one row earlier, -/
def before (a u : Vec F S8x1408 .f32) (e : Vec F S1x1408 .f32) : Vec F S8x1408 .f32 :=
  k0_pay3 e (k0_pay8 rowNo a u) (k0_pay9 rowNo a) (k0_pay10 rowNo a) (k0_pay11 rowNo) 4#32

/-- and the state handed to the next group. -/
def next (a u : Vec F S8x1408 .f32) (e : Vec F S1x1408 .f32) : Vec F S1x1408 .f32 :=
  k0_pay4 e (k0_pay8 rowNo a u) (k0_pay9 rowNo a) (k0_pay10 rowNo a) (k0_pay11 rowNo) 4#32

theorem trip (𝒱 : Variants) (c : Dev nD) (bd : Option 𝒱.V) (i : grid0.Coords) (arg1 : Memref sig .tc .vmem S512x1408 .f32) (h1 : arg1.IsWhole) (arg2 : Memref sig .tc .vmem S512x1408 .f32) (h2 : arg2.IsWhole) (arg3 : Memref sig .tc .vmem S512x1408 .bf16) (h3 : arg3.IsWhole)
    (arg4 : Memref sig .tc .vmem S512x1408 .f32) (h4 : arg4.IsWhole) (arg5 : Memref sig .tc .vmem S512x1408 .f32) (h5 : arg5.IsWhole) (arg6 : Memref sig .tc .vmem S512x1408 .bf16) (h6 : arg6.IsWhole) (arg7 : Memref sig .tc .vmem S1x1408 .f32) (h7 : arg7.IsWhole)
    (a u : Vec F S512x1408 .f32) (k : Fin k0_t1_loop.trips) (e : Vec F S1x1408 .f32) :
    tripR_k0_t1 𝒱 c bd i arg1 h1 arg2 h2 arg3 h3 arg4 h4 arg5 h5 arg6 h6 arg7 h7 rowNo (h1.unread a) (h2.unread u) k e = next (rows a k) (rows u k) e
    ∧ tripL_k0_t1 𝒱 c bd i arg1 h1 arg2 h2 arg3 h3 arg4 h4 arg5 h5 arg6 h6 arg7 h7 rowNo (h1.unread a) (h2.unread u) k e
      = ([⟨rect k, now (rows a k) (rows u k) e⟩], [⟨rect k, before (rows a k) (rows u k) e⟩]) := by
  unfold tripR_k0_t1 tripL_k0_t1 trip_k0_t1 next now before rows
  dsimp only
  sl_unfold_words
  simp only [View.readAt_eq_ld, h1.read_unread, h2.read_unread]
  exact ⟨rfl, rfl⟩

/-- The state a block's trips carry. -/
def carry (a u : Vec F S512x1408 .f32) (e : Vec F S1x1408 .f32) : ℕ → Vec F S1x1408 .f32
  | 0 => e
  | k + 1 => if h : k < k0_t1_loop.trips then next (rows a ⟨k, h⟩) (rows u ⟨k, h⟩) (carry a u e k) else carry a u e k

/-- What the first `n` trips of a block have stored through one of its outputs, the latest first; `f` makes a group's rows. -/
def stored (f : Vec F S8x1408 .f32 → Vec F S8x1408 .f32 → Vec F S1x1408 .f32 → Vec F S8x1408 .f32)
    (a u : Vec F S512x1408 .f32) (e : Vec F S1x1408 .f32) : ℕ → List (View.Piece (Elt F) S512x1408 .f32)
  | 0 => []
  | k + 1 => if h : k < k0_t1_loop.trips then ⟨rect ⟨k, h⟩, f (rows a ⟨k, h⟩) (rows u ⟨k, h⟩) (carry a u e k)⟩ :: stored f a u e k
      else stored f a u e k

theorem carry_succ (a u : Vec F S512x1408 .f32) (e : Vec F S1x1408 .f32) (k : Fin k0_t1_loop.trips) :
    carry a u e (k.val + 1) = next (rows a k) (rows u k) (carry a u e k.val) := dif_pos k.isLt

theorem stored_succ (f : Vec F S8x1408 .f32 → Vec F S8x1408 .f32 → Vec F S1x1408 .f32 → Vec F S8x1408 .f32)
    (a u : Vec F S512x1408 .f32) (e : Vec F S1x1408 .f32) (k : Fin k0_t1_loop.trips) :
    stored f a u e (k.val + 1) = ⟨rect k, f (rows a k) (rows u k) (carry a u e k.val)⟩ :: stored f a u e k.val := dif_pos k.isLt

theorem st_eq (𝒱 : Variants) (c : Dev nD) (bd : Option 𝒱.V) (i : grid0.Coords) (arg1 : Memref sig .tc .vmem S512x1408 .f32) (h1 : arg1.IsWhole) (arg2 : Memref sig .tc .vmem S512x1408 .f32) (h2 : arg2.IsWhole) (arg3 : Memref sig .tc .vmem S512x1408 .bf16) (h3 : arg3.IsWhole)
    (arg4 : Memref sig .tc .vmem S512x1408 .f32) (h4 : arg4.IsWhole) (arg5 : Memref sig .tc .vmem S512x1408 .f32) (h5 : arg5.IsWhole) (arg6 : Memref sig .tc .vmem S512x1408 .bf16) (h6 : arg6.IsWhole) (arg7 : Memref sig .tc .vmem S1x1408 .f32) (h7 : arg7.IsWhole)
    (a u : Vec F S512x1408 .f32) (e : Vec F S1x1408 .f32) : ∀ n, n ≤ k0_t1_loop.trips →
    st_k0_t1 𝒱 c bd i arg1 h1 arg2 h2 arg3 h3 arg4 h4 arg5 h5 arg6 h6 arg7 h7 rowNo (h1.unread a) (h2.unread u) e n
      = (carry a u e n, stored now a u e n, stored before a u e n)
  | 0, _ => rfl
  | n + 1, hn => by
    have ih := st_eq 𝒱 c bd i arg1 h1 arg2 h2 arg3 h3 arg4 h4 arg5 h5 arg6 h6 arg7 h7 a u e n (Nat.le_of_succ_le hn)
    have hs := st_k0_t1_succ (F := F) 𝒱 c bd i arg1 h1 arg2 h2 arg3 h3 arg4 h4 arg5 h5 arg6 h6 arg7 h7 rowNo (h1.unread a) (h2.unread u) e ⟨n, hn⟩
    dsimp only at hs
    rw [hs, ih]
    dsimp only
    obtain ⟨q1, q2⟩ := trip 𝒱 c bd i arg1 h1 arg2 h2 arg3 h3 arg4 h4 arg5 h5 arg6 h6 arg7 h7 a u ⟨n, hn⟩ (carry a u e n)
    have q3 := congrArg Prod.fst q2
    have q4 := congrArg Prod.snd q2
    dsimp only at q3 q4
    rw [q1, q3, q4, carry_succ a u e ⟨n, hn⟩, stored_succ now a u e ⟨n, hn⟩, stored_succ before a u e ⟨n, hn⟩]
    rfl

end Cert.RecurTrip

end
-- ==== Proof.RecurBody.lean ====
module

public import proofs.«01_k».proof.Proof.RecurTrip

@[expose] public section

set_option maxRecDepth 16384

noncomputable section

namespace Cert.RecurBody

open Cert.RecurIdeal Cert.RecurIdeal.Gen Cert.RecurTrip Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a block's sixty-four trips leave of one output, -/
def block (f : Vec F S8x1408 .f32 → Vec F S8x1408 .f32 → Vec F S1x1408 .f32 → Vec F S8x1408 .f32)
    (a u : Vec F S512x1408 .f32) (e : Vec F S1x1408 .f32) : Vec F S512x1408 .f32 :=
  View.canon (Val := Elt F) (stored f a u e k0_t1_loop.trips)

/-- and the state handed to the block below. -/
def below (a u : Vec F S512x1408 .f32) (e : Vec F S1x1408 .f32) : Vec F S1x1408 .f32 := k0_pay5 (carry a u e k0_t1_loop.trips)

theorem stored_cover (f : Vec F S8x1408 .f32 → Vec F S8x1408 .f32 → Vec F S1x1408 .f32 → Vec F S8x1408 .f32)
    (a u : Vec F S512x1408 .f32) (e : Vec F S1x1408 .f32) (y : S512x1408.Idx) : ∃ p ∈ stored f a u e k0_t1_loop.trips, y ∈ p.1.set :=
  View.cover_of_tiledL (stored f a u e k0_t1_loop.trips) S8x1408.size (by sl_kernel_rfl) y

theorem hz : (![0, 0] : Fin S1x1408.rank → ℕ) = fun _ => 0 := by funext k; fin_cases k <;> rfl
theorem hz' : (![0, 0] : Fin S512x1408.rank → ℕ) = fun _ => 0 := by funext k; fin_cases k <;> rfl

/-- The first block is the one that starts the state from zero. -/
abbrev first (i : grid0.Coords) : Prop :=
  (Scalar.cmpi .ne (Scalar.extui (Scalar.cmpi .eq (BitVec.ofNat 32 (i 0).val) 0#32)) 0#32) = 1#1

theorem first_iff : ∀ t : Fin cfg0.N, first (grid0.coords t) ↔ t.val = 0 :=
  (by decide +kernel : ∀ t : Fin grid0.N, first (grid0.coords t) ↔ t.val = 0)

section
variable (c : Dev nD) (i : grid0.Coords)
  (arg1 : Memref sig .tc .vmem S512x1408 .f32) (h1 : arg1.IsWhole) (arg2 : Memref sig .tc .vmem S512x1408 .f32) (h2 : arg2.IsWhole) (arg3 : Memref sig .tc .vmem S512x1408 .bf16) (h3 : arg3.IsWhole)
    (arg4 : Memref sig .tc .vmem S512x1408 .f32) (h4 : arg4.IsWhole) (arg5 : Memref sig .tc .vmem S512x1408 .f32) (h5 : arg5.IsWhole) (arg6 : Memref sig .tc .vmem S512x1408 .bf16) (h6 : arg6.IsWhole) (arg7 : Memref sig .tc .vmem S1x1408 .f32) (h7 : arg7.IsWhole)
  (a u : Vec F S512x1408 .f32) (g : Vec F S512x1408 .bf16)

theorem left_now (e : Vec F S1x1408 .f32) (f : BufTy.Contents (Elt F) arg4.view.ty) :
    View.read (Elt F) arg4.view (arg4.view.writes (Elt F) f (st_k0_t1 Variants.none c none i arg1 h1 arg2 h2 arg3 h3 arg4 h4 arg5 h5 arg6 h6 arg7 h7 rowNo (h1.unread a) (h2.unread u) e k0_t1_loop.trips).2.1) = block now a u e := by
  rw [st_eq Variants.none c none i arg1 h1 arg2 h2 arg3 h3 arg4 h4 arg5 h5 arg6 h6 arg7 h7 a u e _ (Nat.le_refl _)]
  exact View.read_writes_eq_canon _ _ _ (stored_cover now a u e)

theorem left_before (e : Vec F S1x1408 .f32) (f : BufTy.Contents (Elt F) arg5.view.ty) :
    View.read (Elt F) arg5.view (arg5.view.writes (Elt F) f (st_k0_t1 Variants.none c none i arg1 h1 arg2 h2 arg3 h3 arg4 h4 arg5 h5 arg6 h6 arg7 h7 rowNo (h1.unread a) (h2.unread u) e k0_t1_loop.trips).2.2) = block before a u e := by
  rw [st_eq Variants.none c none i arg1 h1 arg2 h2 arg3 h3 arg4 h4 arg5 h5 arg6 h6 arg7 h7 a u e _ (Nat.le_refl _)]
  exact View.read_writes_eq_canon _ _ _ (stored_cover before a u e)

theorem left_carry (e : Vec F S1x1408 .f32) (f : BufTy.Contents (Elt F) arg7.view.ty) (L : List (View.Piece (Elt F) S1x1408 .f32)) :
    View.read (Elt F) arg7.view (arg7.view.writes (Elt F) f (⟨Rect.unit ![0, 0] S1x1408.size inb_S1x1408_S1x1408_0_0,
        k0_pay5 (st_k0_t1 Variants.none c none i arg1 h1 arg2 h2 arg3 h3 arg4 h4 arg5 h5 arg6 h6 arg7 h7 rowNo (h1.unread a) (h2.unread u) e k0_t1_loop.trips).1⟩ :: L)) = below a u e := by
  rw [st_eq Variants.none c none i arg1 h1 arg2 h2 arg3 h3 arg4 h4 arg5 h5 arg6 h6 arg7 h7 a u e _ (Nat.le_refl _)]
  have hy : ∀ y : S1x1408.Idx, y ∈ (Rect.unit (s := S1x1408) ![0, 0] S1x1408.size inb_S1x1408_S1x1408_0_0).set :=
    View.mem_set_unit_zero (S := S1x1408) hz _
  refine (View.read_writes_eq_canon _ _ _ fun y => ⟨_, List.mem_cons_self, hy y⟩).trans ?_
  exact View.canon_cons_unit_zero (Val := Elt F) (S := S1x1408) hz _ _ _

theorem start : View.readCov (Val := Elt F) arg7.view [⟨Rect.unit (s := S1x1408) ![0, 0] S1x1408.size inb_S1x1408_S1x1408_0_0, k0_pay1 (F := F)⟩]
    (Rect.unit (s := S1x1408) ![0, 0] S1x1408.size inb_S1x1408_S1x1408_0_0).toLoadRect = k0_pay1 (F := F) :=
  View.readCov_unit_zero (Val := Elt F) (S := S1x1408) _ hz ..

omit [FloatOps F] in
theorem read_gate : View.readAt (Elt F) arg3.view (Rect.unit (s := S512x1408) ![0, 0] S512x1408.size inb_S512x1408_S512x1408_0_0).toLoadRect (h3.unread g) = g := by
  rw [View.readAt_eq_ld, h3.read_unread]
  exact View.ld_unit_zero (S := S512x1408) hz' ..

theorem left_gated (X : Vec F S512x1408 .bf16) (f : BufTy.Contents (Elt F) arg6.view.ty) (L : List (View.Piece (Elt F) S512x1408 .bf16)) :
    View.read (Elt F) arg6.view (arg6.view.writes (Elt F) f (⟨Rect.unit ![0, 0] S512x1408.size inb_S512x1408_S512x1408_0_0, X⟩ :: L)) = X := by
  refine (View.read_writes_eq_canon _ _ _ fun y => ⟨_, List.mem_cons_self, ?_⟩).trans ?_
  · exact View.mem_set_unit_zero (S := S512x1408) hz' inb_S512x1408_S512x1408_0_0 y
  exact View.canon_cons_unit_zero (Val := Elt F) (S := S512x1408) hz' _ _ _

theorem body_first (hc : first i) (K : PUnit → sProp 𝕄) :
    iprop(owns (c : Thread nD τ) arg1 fullShare a ∗ owns (c : Thread nD τ) arg2 fullShare u ∗ owns (c : Thread nD τ) arg3 fullShare g ∗ (∃ x, owns (c : Thread nD τ) arg4 fullShare x)
        ∗ (∃ x, owns (c : Thread nD τ) arg5 fullShare x) ∗ (∃ x, owns (c : Thread nD τ) arg6 fullShare x) ∗ (∃ x, owns (c : Thread nD τ) arg7 fullShare x)
        ∗ (iprop(owns (c : Thread nD τ) arg1 fullShare a ∗ owns (c : Thread nD τ) arg2 fullShare u ∗ owns (c : Thread nD τ) arg3 fullShare g
            ∗ owns (c : Thread nD τ) arg4 fullShare (block now a u k0_pay1) ∗ owns (c : Thread nD τ) arg5 fullShare (block before a u k0_pay1)
            ∗ owns (c : Thread nD τ) arg6 fullShare (k0_pay6 g (block now a u k0_pay1)) ∗ owns (c : Thread nD τ) arg7 fullShare (below a u k0_pay1)) -∗ K ⟨⟩))
      ⊢ wp frame (wpE (defs₀ (F := F)) Variants.none c none) Set.univ (cc0_scan_1 i arg1 h1 arg2 h2 arg3 h3 arg4 h4 arg5 h5 arg6 h6 arg7 h7) K := by
  simp only [cc0_scan_1_eq_skeleton]; unfold cc0_scan_1_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := h1.eq_unread hf1; obtain rfl := h2.eq_unread hf2; obtain rfl := h3.eq_unread hf3
  sl_exec (disch := first | sl_exact hc)
  sl_step
  have e0 : body_first.sl.v4 (F := F) c arg7 = k0_pay1 := by
    sl_unfold_words
    exact View.readCov_unit_zero (Val := Elt F) (S := S1x1408) _ hz ..
  rw [e0]
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro; exact left_now c i arg1 h1 arg2 h2 arg3 h3 arg4 h4 arg5 h5 arg6 h6 arg7 h7 a u _ _
  isplitl [H5]
  · iexists _; isplitr; swap; · iexact H5
    ipureintro; exact left_before c i arg1 h1 arg2 h2 arg3 h3 arg4 h4 arg5 h5 arg6 h6 arg7 h7 a u _ _
  isplitl [H6]
  · iexists _; isplitr; swap; · iexact H6
    ipureintro
    refine (left_gated arg6 _ _ _).trans (congrArg₂ k0_pay6 (read_gate arg3 h3 g) ?_)
    sl_unfold_words
    rw [View.readAt_eq_ld]
    refine (View.ld_unit_zero (S := S512x1408) hz' ..).trans ?_
    rw [start arg7]
    exact left_now c i arg1 h1 arg2 h2 arg3 h3 arg4 h4 arg5 h5 arg6 h6 arg7 h7 a u _ _
  iexists _; isplitr; swap; · iexact H7
  ipureintro; exact left_carry c i arg1 h1 arg2 h2 arg3 h3 arg4 h4 arg5 h5 arg6 h6 arg7 h7 a u _ _ _

theorem body_next (hc : ¬first i) (e : Vec F S1x1408 .f32) (K : PUnit → sProp 𝕄) :
    iprop(owns (c : Thread nD τ) arg1 fullShare a ∗ owns (c : Thread nD τ) arg2 fullShare u ∗ owns (c : Thread nD τ) arg3 fullShare g ∗ (∃ x, owns (c : Thread nD τ) arg4 fullShare x)
        ∗ (∃ x, owns (c : Thread nD τ) arg5 fullShare x) ∗ (∃ x, owns (c : Thread nD τ) arg6 fullShare x) ∗ owns (c : Thread nD τ) arg7 fullShare e
        ∗ (iprop(owns (c : Thread nD τ) arg1 fullShare a ∗ owns (c : Thread nD τ) arg2 fullShare u ∗ owns (c : Thread nD τ) arg3 fullShare g
            ∗ owns (c : Thread nD τ) arg4 fullShare (block now a u e) ∗ owns (c : Thread nD τ) arg5 fullShare (block before a u e)
            ∗ owns (c : Thread nD τ) arg6 fullShare (k0_pay6 g (block now a u e)) ∗ owns (c : Thread nD τ) arg7 fullShare (below a u e)) -∗ K ⟨⟩))
      ⊢ wp frame (wpE (defs₀ (F := F)) Variants.none c none) Set.univ (cc0_scan_1 i arg1 h1 arg2 h2 arg3 h3 arg4 h4 arg5 h5 arg6 h6 arg7 h7) K := by
  simp only [cc0_scan_1_eq_skeleton]; unfold cc0_scan_1_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, Hk⟩
  obtain rfl := h1.eq_unread hf1; obtain rfl := h2.eq_unread hf2; obtain rfl := h3.eq_unread hf3; obtain rfl := h7.eq_unread hf7
  sl_exec (disch := first | sl_exact hc)
  sl_step
  have e0 : View.readAt (Elt F) arg7.view (Rect.unit (s := S1x1408) ![0, 0] S1x1408.size inb_S1x1408_S1x1408_0_0).toLoadRect (h7.unread e) = e := by
    rw [View.readAt_eq_ld, h7.read_unread]
    exact View.ld_unit_zero (S := S1x1408) hz ..
  rw [e0]
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro; exact left_now c i arg1 h1 arg2 h2 arg3 h3 arg4 h4 arg5 h5 arg6 h6 arg7 h7 a u _ _
  isplitl [H5]
  · iexists _; isplitr; swap; · iexact H5
    ipureintro; exact left_before c i arg1 h1 arg2 h2 arg3 h3 arg4 h4 arg5 h5 arg6 h6 arg7 h7 a u _ _
  isplitl [H6]
  · iexists _; isplitr; swap; · iexact H6
    ipureintro
    refine (left_gated arg6 _ _ _).trans (congrArg₂ k0_pay6 (read_gate arg3 h3 g) ?_)
    sl_unfold_words
    rw [View.readAt_eq_ld]
    refine (View.ld_unit_zero (S := S512x1408) hz' ..).trans ?_
    rw [e0]
    exact left_now c i arg1 h1 arg2 h2 arg3 h3 arg4 h4 arg5 h5 arg6 h6 arg7 h7 a u _ _
  iexists _; isplitr; swap; · iexact H7
  ipureintro; exact left_carry c i arg1 h1 arg2 h2 arg3 h3 arg4 h4 arg5 h5 arg6 h6 arg7 h7 a u _ _ _

end

end Cert.RecurBody

end
-- ==== Proof.RecurRun.lean ====
module

public import proofs.«01_k».proof.Proof.RecurBody

@[expose] public section

set_option maxRecDepth 16384

noncomputable section

namespace Cert.RecurRun

open Cert.RecurIdeal Cert.RecurIdeal.Gen Cert.RecurTrip Cert.RecurBody Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state handed to point `n`: zeros to the first, then what each block hands to the one below it. -/
def row (c : Dev nD) : ℕ → Vec F S1x1408 .f32
  | 0 => k0_pay1
  | n + 1 => if h : n < cfg0.N then below (iblk m c 0 ⟨n, h⟩) (iblk m c 1 ⟨n, h⟩) (row c n) else row c n

theorem row_zero (c : Dev nD) : row m c 0 = k0_pay1 := by unfold row; rfl

theorem row_succ (c : Dev nD) (t : Fin cfg0.N) : row m c (t.val + 1) = below (iblk m c 0 t) (iblk m c 1 t) (row m c t.val) := by
  rw [row]; exact dif_pos t.isLt

/-- What holds between the points: before the first the scratch row holds anything, afterwards the row the
    last point handed over. -/
def between (c : Dev nD) (n : ℕ) : sProp 𝕄 :=
  if n = 0 then Pipeline.ΦA spec0 c
  else iprop(owns (c : Thread nD τ) (Memref.whole cc0_scratch0) fullShare (row m c n) ∗ ∃ r, prngReg c r)

theorem start_eq (c : Dev nD) : (Pipeline.ΦA spec0 c : sProp 𝕄)
    = iprop((∃ d, owns (c : Thread nD τ) (Memref.whole cc0_scratch0) fullShare d) ∗ ∃ r, prngReg c r) := by
  unfold Pipeline.ΦA; rw [scopedRest0_eq]; simp only [owns_whole]; try rfl

/-- The blocks of the three results at a point. -/
def left (c : Dev nD) (t : Fin cfg0.N) (f : Vec F S8x1408 .f32 → Vec F S8x1408 .f32 → Vec F S1x1408 .f32 → Vec F S8x1408 .f32) : Vec F S512x1408 .f32 :=
  block f (iblk m c 0 t) (iblk m c 1 t) (row m c t.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t now
    | ⟨4, _⟩ => left m c t before
    | ⟨5, _⟩ => k0_pay6 (iblk m c 2 t) (left m c t now)
  Φ t := between m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = left m c t now := by dsimp only [dats]
theorem after0_4 (c : Dev nD) (t : Fin cfg0.N) : (dats m 0 c).after 4 t = left m c t before := by dsimp only [dats]
theorem after0_5 (c : Dev nD) (t : Fin cfg0.N) : (dats m 0 c).after 5 t = k0_pay6 (iblk m c 2 t) (left m c t now) := by dsimp only [dats]

theorem before_zero (c : Dev nD) (t : ℕ) (h : t = 0) : between m c t = Pipeline.ΦA spec0 c := if_pos h
theorem before_pos (c : Dev nD) (t : ℕ) (h : t ≠ 0) : between m c t
    = iprop(owns (c : Thread nD τ) (Memref.whole cc0_scratch0) fullShare (row m c t) ∗ ∃ r, prngReg c r) := if_neg h
theorem Φ_castSucc (c : Dev nD) (t : Fin cfg0.N) : (dats m 0 c).Φ t.castSucc = between m c t.val := by dsimp only [dats]; rfl
theorem Φ_succ (c : Dev nD) (t : Fin cfg0.N) : (dats m 0 c).Φ t.succ = between m c (t.val + 1) := by dsimp only [dats]; rfl

theorem point (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (win0_0.stage (cfg0.slots t 0)) fullShare ((dats m 0 c).after 0 t)
        ∗ owns (c : Thread nD τ) (win0_1.stage (cfg0.slots t 1)) fullShare ((dats m 0 c).after 1 t)
        ∗ owns (c : Thread nD τ) (win0_2.stage (cfg0.slots t 2)) fullShare ((dats m 0 c).after 2 t)
        ∗ owns (c : Thread nD τ) (win0_3.stage (cfg0.slots t 3)) fullShare ((dats m 0 c).after 3 t)
        ∗ owns (c : Thread nD τ) (win0_4.stage (cfg0.slots t 4)) fullShare ((dats m 0 c).after 4 t)
        ∗ owns (c : Thread nD τ) (win0_5.stage (cfg0.slots t 5)) fullShare ((dats m 0 c).after 5 t))) := by
  simp only [before0_0_of m (dats m 0 c) (A_eq m c 0) (after0_0 m c) t, before0_1_of m (dats m 0 c) (A_eq m c 1) (after0_1 m c) t,
    before0_2_of m (dats m 0 c) (A_eq m c 2) (after0_2 m c) t, after0_0, after0_1, after0_2, after0_3, after0_4, after0_5]
  rw [show (dats m 0 c).owesAt () t.succ = (dats m 0 c).owesAt () t.castSucc from rfl,
    Φ_castSucc, Φ_succ, before_pos m c (t.val + 1) (Nat.succ_ne_zero _), row_succ]
  unfold bodyAt0 left
  by_cases h0 : t.val = 0
  · rw [before_zero m c _ h0, start_eq, show row m c t.val = k0_pay1 by rw [h0, row_zero]]
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ (iblk m c 0 t) (iblk m c 1 t) (iblk m c 2 t) ((first_iff t).mpr h0))
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [before_pos m c _ h0]
    iintro ⟨⟨HS, Hg⟩, Ho, ⟨%d0, H0⟩, ⟨%d1, H1⟩, ⟨%d2, H2⟩, ⟨%d3, H3⟩, ⟨%d4, H4⟩, ⟨%d5, H5⟩⟩
    iapply (body_next c (grid0.coords t) _ _ _ _ _ _ _ _ _ _ _ _ _ _ (iblk m c 0 t) (iblk m c 1 t) (iblk m c 2 t) (fun h => h0 ((first_iff t).mp h)) (row m c t.val))
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point m c t) rfl .rfl fun _ => .rfl

theorem enter (c : Dev nD) : Pipeline.ΦA spec0 c ⊢ (dats m 0 c).Φ 0 := by
  rw [show (dats m 0 c).Φ 0 = between m c 0 by dsimp only [dats]; rfl, before_zero m c 0 rfl]

theorem leave (c : Dev nD) : (dats m 0 c).Φ (Fin.last cfg0.N) ⊢ Pipeline.ΦA spec0 c := by
  rw [show (dats m 0 c).Φ (Fin.last cfg0.N) = between m c (Fin.last cfg0.N).val by dsimp only [dats],
    before_pos m c _ (by rw [Fin.val_last]; have : cfg0.N = 16 := N_0; omega), start_eq]
  iintro ⟨HS, Hg⟩
  isplitl [HS]
  · iexists _; iexact HS
  iexact Hg

set_option backward.isDefEq.respectTransparency.types false in
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.RecurRun

end
-- ==== Proof.RecurValue.lean ====
module

public import proofs.«01_k».proof.Proof.RecurRun
public import proofs.«01_k».proof.Proof.Reals

@[expose] public section

set_option maxRecDepth 16384

noncomputable section

namespace Cert.RecurValue

open Cert.RecurIdeal Cert.RecurIdeal.Gen Cert.RecurTrip Cert.RecurBody Cert.RecurRun Idealize.ShloMosaic Idealize.ShloMosaic.TcCoe Idealize.SL.Sem

/-- The recurrence: `al n` and `de n` are the factor and the input of row `n`, and `acc n` the state before it. -/
def acc (al de : ℕ → ℝ) (e : ℝ) : ℕ → ℝ
  | 0 => e
  | n + 1 => al n * acc al de e n + de n

theorem acc_add (al de : ℕ → ℝ) (e : ℝ) (m : ℕ) : ∀ n,
    acc (fun i => al (m + i)) (fun i => de (m + i)) (acc al de e m) n = acc al de e (m + n)
  | 0 => rfl
  | n + 1 => by
    show al (m + n) * _ + de (m + n) = al (m + n) * _ + de (m + n)
    rw [acc_add al de e m n]; rfl

/-- A group's rows as the states `s` rows further on. -/
def Steps (s : ℕ) (f : Vec Ideal S8x1408 .f32 → Vec Ideal S8x1408 .f32 → Vec Ideal S1x1408 .f32 → Vec Ideal S8x1408 .f32) : Prop :=
  ∀ (X Y : Vec Ideal S8x1408 .f32) (e : Vec Ideal S1x1408 .f32) (q : Fin 1408) (al de : ℕ → ℝ) (r : ℝ),
    (∀ j : Fin 8, X (ix2 j q) = (al j.val : EReal)) → (∀ j : Fin 8, Y (ix2 j q) = (de j.val : EReal)) → e (ix2 0 q) = (r : EReal) →
    ∀ j : Fin 8, f X Y e (ix2 j q) = (acc al de r (j.val + s) : EReal)

/-- A group's eight rows, by the doubling steps, are the recurrence's. -/
theorem steps_now : Steps 1 now := by
  intro X Y e q al de r hX hY he j
  unfold now
  unfold_payloads
  pointwise [rowNo]
  simp only [hX, hY, he]
  fin_cases j <;>
  · simp [Scalar.select, IntOp.cmpi, acc, -EReal.coe_mul, -EReal.coe_add]
    simp only [← EReal.coe_mul, ← EReal.coe_add, ← EReal.coe_one]
    try exact congrArg Real.toEReal (by ring)

theorem steps_before : Steps 0 before := by
  intro X Y e q al de r hX hY he j
  have h := steps_now X Y e q al de r hX hY he
  unfold now at h
  unfold before k0_pay3
  generalize k0_pay2 e (k0_pay8 rowNo X Y) (k0_pay9 rowNo X) (k0_pay10 rowNo X) (k0_pay11 rowNo) 4#32 = Z at h
  pointwise
  simp only [he, h]
  fin_cases j <;>
  · simp [Scalar.select, IntOp.cmpi, acc]

theorem off : ∀ k : Fin k0_t1_loop.trips, k0_off1 k = ![k.val * 8, 0] := by decide +kernel

theorem trips : k0_t1_loop.trips = 64 := by decide +kernel

theorem lt64 (k : Fin k0_t1_loop.trips) : k.val < 64 := Nat.lt_of_lt_of_eq k.isLt trips

theorem emb_rect (k : Fin k0_t1_loop.trips) (j : Fin 8) (q : Fin 1408) :
    (rect k).emb (ix2 j q) = ix2 ⟨k.val * 8 + j.val, by have := lt64 k; omega⟩ q := by
  have h := off k
  funext a
  apply Fin.ext
  match a with
  | ⟨0, _⟩ => show k0_off1 k 0 + 1 * j.val = k.val * 8 + j.val; rw [h]; show k.val * 8 + 1 * j.val = _; omega
  | ⟨1, _⟩ => show k0_off1 k 1 + 1 * q.val = q.val; rw [h]; show 0 + 1 * q.val = _; omega

section blocks
variable (a u : Vec Ideal S512x1408 .f32) (e : Vec Ideal S1x1408 .f32) (al de : Fin 1408 → ℕ → ℝ) (r : Fin 1408 → ℝ)
  (ha : ∀ (i : Fin 512) (q : Fin 1408), a (ix2 i q) = (al q i.val : EReal))
  (hu : ∀ (i : Fin 512) (q : Fin 1408), u (ix2 i q) = (de q i.val : EReal))
  (he : ∀ q : Fin 1408, e (ix2 0 q) = (r q : EReal))

include ha in
theorem rows_real (k : Fin k0_t1_loop.trips) (q : Fin 1408) (j : Fin 8) :
    rows a k (ix2 j q) = ((fun i => al q (8 * k.val + i)) j.val : EReal) := by
  refine (congrArg a (emb_rect k j q)).trans ((ha _ q).trans ?_)
  show ((al q (k.val * 8 + j.val) : ℝ) : EReal) = (al q (8 * k.val + j.val) : ℝ)
  rw [Nat.mul_comm]

include ha hu he in
theorem carry_real (q : Fin 1408) : ∀ n, n ≤ k0_t1_loop.trips → carry a u e n (ix2 0 q) = (acc (al q) (de q) (r q) (8 * n) : EReal)
  | 0, _ => he q
  | n + 1, hn => by
    rw [carry_succ a u e ⟨n, hn⟩]
    have ih := carry_real q n (Nat.le_of_succ_le hn)
    have h := steps_now (rows a ⟨n, hn⟩) (rows u ⟨n, hn⟩) (carry a u e n) q (fun i => al q (8 * n + i)) (fun i => de q (8 * n + i)) _
      (rows_real a al ha ⟨n, hn⟩ q) (rows_real u de hu ⟨n, hn⟩ q) ih 7
    rw [acc_add] at h
    refine Eq.trans ?_ h
    unfold next now k0_pay4
    pointwise

/-- The states of a block's rows, `s` rows further on. -/
def target (s : ℕ) (i : S512x1408.Idx) : EReal := (acc (al (i 1)) (de (i 1)) (r (i 1)) ((i 0).val + s) : ℝ)

section
variable (s : ℕ) (f : Vec Ideal S8x1408 .f32 → Vec Ideal S8x1408 .f32 → Vec Ideal S1x1408 .f32 → Vec Ideal S8x1408 .f32) (hf : Steps s f)

include ha hu he hf in
theorem stored_real : ∀ n, n ≤ k0_t1_loop.trips → ∀ p ∈ stored f a u e n, ∀ x, p.2 x = target al de r s (p.1.emb x)
  | 0, _ => fun p hp => absurd hp List.not_mem_nil
  | n + 1, hn => fun p hp => by
    rw [stored_succ f a u e ⟨n, hn⟩] at hp
    rcases List.mem_cons.mp hp with rfl | hp
    · intro x
      obtain ⟨j, q, rfl⟩ : ∃ (j : Fin 8) (q : Fin 1408), x = ix2 j q := ⟨x 0, x 1, eq_ix2 x⟩
      have h := hf (rows a ⟨n, hn⟩) (rows u ⟨n, hn⟩) (carry a u e n) q (fun i => al q (8 * n + i)) (fun i => de q (8 * n + i)) _
        (rows_real a al ha ⟨n, hn⟩ q) (rows_real u de hu ⟨n, hn⟩ q) (carry_real a u e al de r ha hu he q n (Nat.le_of_succ_le hn)) j
      rw [acc_add] at h
      refine h.trans ?_
      refine Eq.trans ?_ (congrArg (target al de r s) (emb_rect ⟨n, hn⟩ j q)).symm
      show ((_ : ℝ) : EReal) = ((acc (al q) (de q) (r q) (n * 8 + j.val + s) : ℝ) : EReal)
      rw [Nat.mul_comm n 8, Nat.add_assoc]
    · exact stored_real n (Nat.le_of_succ_le hn) p hp

include ha hu he hf in
theorem block_real (i : S512x1408.Idx) : block f a u e i = target al de r s i :=
  View.canon_apply_of_pieces (Val := Elt Ideal) (e := .f32) (target al de r s) _
    (stored_real a u e al de r ha hu he s f hf _ (Nat.le_refl _)) i (stored_cover f a u e i)
end

include ha hu he in
theorem below_real (q : Fin 1408) : below a u e (ix2 0 q) = (acc (al q) (de q) (r q) 512 : EReal) := by
  have h := carry_real a u e al de r ha hu he q _ (Nat.le_refl _)
  refine Eq.trans ?_ (h.trans (by rw [trips]))
  unfold below k0_pay5
  rw [shapeCast_self]

end blocks

/-- The state's product with the gelu of its gate. -/
def gated (h r : EReal) : EReal :=
  h * (r * (Ideal.ofBits .f32 0x3F000000#32 * (Ideal.ofBits .f32 0x3F800000#32
    + Ideal.tanh (Ideal.ofBits .f32 0x3F4C422A#32 * (r + Ideal.ofBits .f32 0x3D372713#32 * (r * r * r))))))

theorem pay6 (g : Vec Ideal S512x1408 .bf16) (h : Vec Ideal S512x1408 .f32) (i : S512x1408.Idx) : k0_pay6 g h i = gated (h i) (g i) := by
  unfold k0_pay6 gated
  pointwise
  simp only [mul_assoc, mul_left_comm]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

/-- Column `q` of an array. -/
def col (X : FVec Ideal S8192x1408 .f32) (q : Fin 1408) (n : ℕ) : ℝ := if h : n < 8192 then (X (ix2 ⟨n, h⟩ q)).toReal else 0

theorem col_coe {X : FVec Ideal S8192x1408 .f32} (hX : Cert.Reals.IsReal (ι := S8192x1408.Idx) X) (q : Fin 1408) (i : Fin 8192) (n : ℕ) (h : n = i.val) :
    X (ix2 i q) = (col X q n : EReal) := by
  subst h
  obtain ⟨x, rfl⟩ := hX.lift
  unfold col
  rw [dif_pos i.isLt, EReal.toReal_coe]

/-- The states, `s` rows further on. -/
def out (s : ℕ) (a u : FVec Ideal S8192x1408 .f32) : FVec Ideal S8192x1408 .f32 := fun i =>
  (acc (col a (i 1)) (col u (i 1)) 0 ((i 0).val + s) : ℝ)

/-- The gated states. -/
def outG (a u r : FVec Ideal S8192x1408 .f32) : FVec Ideal S8192x1408 .bf16 := fun i => gated (out 1 a u i) (r i)

variable (m : (ℓ : Loc nD τ sig) → Buf (Elt Ideal) ℓ)

abbrev argA (c : Dev nD) : FVec Ideal S8192x1408 .f32 := m ((c : Thread nD τ).loc main_arg0)
abbrev argU (c : Dev nD) : FVec Ideal S8192x1408 .f32 := m ((c : Thread nD τ).loc main_arg1)
abbrev argR (c : Dev nD) : FVec Ideal S8192x1408 .f32 := m ((c : Thread nD τ).loc main_arg2)

theorem lt16 (t : Fin cfg0.N) : t.val < 16 := Nat.lt_of_lt_of_eq t.isLt N_0

def at_ (t : Fin cfg0.N) (i : Fin 512) : Fin 8192 := ⟨t.val * 512 + i.val, by have := lt16 t; omega⟩

theorem iblk0 (c : Dev nD) (t : Fin cfg0.N) (i : Fin 512) (q : Fin 1408) : iblk m c 0 t (ix2 i q) = argA m c (ix2 (at_ t i) q) := by
  blk_simp [iblk]; entry_read; pointwise; blk_ext [idx t, at_]

theorem iblk1 (c : Dev nD) (t : Fin cfg0.N) (i : Fin 512) (q : Fin 1408) : iblk m c 1 t (ix2 i q) = argU m c (ix2 (at_ t i) q) := by
  blk_simp [iblk]; entry_read; pointwise; blk_ext [idx t, at_]

theorem iblk2 (c : Dev nD) (t : Fin cfg0.N) (i : Fin 512) (q : Fin 1408) : iblk m c 2 t (ix2 i q) = argR m c (ix2 (at_ t i) q) := by
  blk_simp [iblk]; entry_read; pointwise; blk_ext [idx t, at_]

theorem emb3 (t : Fin cfg0.N) (i : Fin 512) (q : Fin 1408) : ((cfg0.win 3).blk t).view.emb (ix2 i q) = ix2 (at_ t i) q := by
  blk_ext [idx t, at_]
theorem emb4 (t : Fin cfg0.N) (i : Fin 512) (q : Fin 1408) : ((cfg0.win 4).blk t).view.emb (ix2 i q) = ix2 (at_ t i) q := by
  blk_ext [idx t, at_]
theorem emb5 (t : Fin cfg0.N) (i : Fin 512) (q : Fin 1408) : ((cfg0.win 5).blk t).view.emb (ix2 i q) = ix2 (at_ t i) q := by
  blk_ext [idx t, at_]

section real
variable (c : Dev nD) (hA : Cert.Reals.IsReal (ι := S8192x1408.Idx) (argA m c)) (hU : Cert.Reals.IsReal (ι := S8192x1408.Idx) (argU m c))

theorem at_col (t : Fin cfg0.N) (i : Fin 512) : 512 * t.val + i.val = (at_ t i).val := congrArg (· + i.val) (Nat.mul_comm 512 t.val)

include hA in
theorem iblk0_real (t : Fin cfg0.N) (i : Fin 512) (q : Fin 1408) :
    iblk m c 0 t (ix2 i q) = ((fun (q : Fin 1408) n => col (argA m c) q (512 * t.val + n)) q i.val : EReal) := by
  rw [iblk0]; exact col_coe hA q _ _ (at_col t i)

include hU in
theorem iblk1_real (t : Fin cfg0.N) (i : Fin 512) (q : Fin 1408) :
    iblk m c 1 t (ix2 i q) = ((fun (q : Fin 1408) n => col (argU m c) q (512 * t.val + n)) q i.val : EReal) := by
  rw [iblk1]; exact col_coe hU q _ _ (at_col t i)

include hA hU in
theorem row_real (q : Fin 1408) : ∀ n, n ≤ cfg0.N → row m c n (ix2 0 q) = (acc (col (argA m c) q) (col (argU m c) q) 0 (512 * n) : EReal)
  | 0, _ => by
    rw [row_zero]
    unfold k0_pay1
    pointwise
    rfl
  | n + 1, hn => by
    rw [row_succ m c ⟨n, hn⟩]
    have h := below_real (iblk m c 0 ⟨n, hn⟩) (iblk m c 1 ⟨n, hn⟩) (row m c n) (fun q i => col (argA m c) q (512 * n + i))
      (fun q i => col (argU m c) q (512 * n + i)) (fun q => acc (col (argA m c) q) (col (argU m c) q) 0 (512 * n))
      (iblk0_real m c hA ⟨n, hn⟩) (iblk1_real m c hU ⟨n, hn⟩) (fun q => row_real q n (Nat.le_of_succ_le hn)) q
    refine h.trans ?_
    rw [acc_add]
    rfl

include hA hU in
theorem left_real (s : ℕ) (f : Vec Ideal S8x1408 .f32 → Vec Ideal S8x1408 .f32 → Vec Ideal S1x1408 .f32 → Vec Ideal S8x1408 .f32) (hf : Steps s f)
    (t : Fin cfg0.N) (i : Fin 512) (q : Fin 1408) : left m c t f (ix2 i q) = out s (argA m c) (argU m c) (ix2 (at_ t i) q) := by
  refine (block_real (iblk m c 0 t) (iblk m c 1 t) (row m c t.val) (fun q i => col (argA m c) q (512 * t.val + i))
      (fun q i => col (argU m c) q (512 * t.val + i)) (fun q => acc (col (argA m c) q) (col (argU m c) q) 0 (512 * t.val))
      (iblk0_real m c hA t) (iblk1_real m c hU t) (fun q => row_real m c hA hU q t.val (Nat.le_of_lt t.isLt)) s f hf (ix2 i q)).trans ?_
  unfold target out
  dsimp only [ix2_0, ix2_1]
  rw [acc_add, ← Nat.add_assoc, at_col]

include hA hU in
theorem final3 : (dats m 0 c).arrAt 3 cfg0.N = out 1 (argA m c) (argU m c) := by
  refine (dats m 0 c).arrAt_eq_of_covers 3 _ (by decide +kernel) fun t _ y => ?_
  blk_simp
  rw [after0_3]
  obtain ⟨i, q, rfl⟩ : ∃ (i : Fin 512) (q : Fin 1408), y = ix2 i q := ⟨y 0, y 1, eq_ix2 y⟩
  exact (left_real m c hA hU 1 now steps_now t i q).trans (congrArg (out 1 _ _) (emb3 t i q)).symm

include hA hU in
theorem final4 : (dats m 0 c).arrAt 4 cfg0.N = out 0 (argA m c) (argU m c) := by
  refine (dats m 0 c).arrAt_eq_of_covers 4 _ (by decide +kernel) fun t _ y => ?_
  blk_simp
  rw [after0_4]
  obtain ⟨i, q, rfl⟩ : ∃ (i : Fin 512) (q : Fin 1408), y = ix2 i q := ⟨y 0, y 1, eq_ix2 y⟩
  exact (left_real m c hA hU 0 before steps_before t i q).trans (congrArg (out 0 _ _) (emb4 t i q)).symm

include hA hU in
theorem final5 : (dats m 0 c).arrAt 5 cfg0.N = outG (argA m c) (argU m c) (argR m c) := by
  refine (dats m 0 c).arrAt_eq_of_covers 5 _ (by decide +kernel) fun t _ y => ?_
  blk_simp
  rw [after0_5]
  obtain ⟨i, q, rfl⟩ : ∃ (i : Fin 512) (q : Fin 1408), y = ix2 i q := ⟨y 0, y 1, eq_ix2 y⟩
  refine Eq.trans ?_ (congrArg (outG _ _ _) (emb5 t i q)).symm
  rw [pay6, left_real m c hA hU 1 now steps_now, iblk2]
  rfl
end real

/-- The kernel's results. -/
theorem result (ρ : Dev nD → PrngReg)
    (hA : ∀ c, Cert.Reals.IsReal (ι := S8192x1408.Idx) (argA m c)) (hU : ∀ c, Cert.Reals.IsReal (ι := S8192x1408.Idx) (argU m c)) :
    θ_run defs (onTc (τ := τ) (main (F := Ideal))) ⟨m, fun _ => 0, ρ⟩ (fun r => ∀ c : Dev nD,
      r.2.mem ((c.tc : Thread nD τ).loc main_v1_0) = out 1 (argA m c) (argU m c)
      ∧ r.2.mem ((c.tc : Thread nD τ).loc main_v1_1) = out 0 (argA m c) (argU m c)
      ∧ r.2.mem ((c.tc : Thread nD τ).loc main_v1_2) = outG (argA m c) (argU m c) (argR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 3).trans (final3 m c (hA c) (hU c)), ((h.1.1 c).1 4).trans (final4 m c (hA c) (hU c)),
    ((h.1.1 c).1 5).trans (final5 m c (hA c) (hU c)), h.2.1 c⟩) (θ_run_and (run m ρ) (frame m ρ))

end Cert.RecurValue

end
-- ==== Proof.RecurRef.lean ====
module

public import proofs.«01_k».proof.Proof.RecurValue
public import proofs.«01_k».proof.Proof.Gen.RecurRefIdeal.Run
public import Idealize.ShloMosaic.Lib.DynamicIndex

@[expose] public section

set_option maxRecDepth 65536

noncomputable section

namespace Cert.RecurRef

open Cert.RecurRefIdeal Cert.RecurRefIdeal.Gen Cert.RecurRefIdeal.Value
open Idealize.ShloMosaic Idealize.ShloMosaic.TcCoe Idealize.ShloMosaic.StableHlo Idealize.SL.Sem
open Cert.RecurValue (acc col col_coe out outG gated)

/-- The contents of every buffer during the reference's loop. -/
abbrev Mem := Valuation τ sig (Elt Ideal)

/-- A trip's number as the word the loop counts with. -/
def word (n : ℕ) : (⟨S_, .i32⟩ : BufTy).Contents (Elt Ideal) := constantI S_ 32 (BitVec.ofNat 32 n)

abbrev decay (V : Mem) : FVec Ideal S8192x1408 .f32 := V (Proc.devRef .tc main_v3_0)
abbrev input (V : Mem) : FVec Ideal S8192x1408 .f32 := V (Proc.devRef .tc main_v3_1)
abbrev count (V : Mem) : (⟨S_, .i32⟩ : BufTy).Contents (Elt Ideal) := V (Proc.devRef .tc main_v3_2)
abbrev carried (V : Mem) : FVec Ideal S1408 .f32 := V (Proc.devRef .tc main_v3_3)
abbrev states (V : Mem) : FVec Ideal S8192x1408 .f32 := V (Proc.devRef .tc main_v3_4)
abbrev earlier (V : Mem) : FVec Ideal S8192x1408 .f32 := V (Proc.devRef .tc main_v3_5)

theorem fits (n : ℕ) (hn : n < 8192) : S8192x1408.Slices ![n, 0] S1x1408 :=
  ⟨rfl, fun k => by
    match k with
    | ⟨0, _⟩ => show n + 1 ≤ 8192; omega
    | ⟨1, _⟩ => show 0 + 1408 ≤ 1408; omega⟩

/-- Trip `n` works on row `n`. -/
theorem starts (V : Mem) (n : ℕ) (hn : n < 8192) (hV : count V = word n) (k : Fin 2) :
    (((![count V, constantI S_ 32 0#32] : Fin 2 → (⟨S_, .i32⟩ : BufTy).Contents (Elt Ideal))) k (Shape.Idx.first h_S_)).toInt
      = ((![n, 0] : Fin 2 → ℕ) k : Int) := by
  match k with
  | ⟨0, _⟩ =>
    show (count V _).toInt = (n : Int)
    rw [hV]
    exact toInt_ofNat_of_lt (by omega)
  | ⟨1, _⟩ => rfl

/-- A trip's read of an array: its row. -/
theorem read_row (X : FVec Ideal S8192x1408 .f32) (n : ℕ) (hn : n < 8192) (st : Fin 2 → Int) (hst : ∀ k, st k = ((![n, 0] : Fin 2 → ℕ) k : Int))
    (h : S8192x1408.Slices (fun _ => 0) S1x1408) (hc : S1x1408.ShapeCasts S1408) (q : Fin 1408) :
    shapeCast S1408 (Host.dynamicSlice S1x1408 X st h) hc (ix1 q) = X (ix2 ⟨n, hn⟩ q) := by
  rw [Host.dynamicSlice_eq_extractStridedSlice S1x1408 X st _ h (fits n hn) hst]
  pointwise

/-- A trip's write of an array: its row. -/
theorem write_row (X : FVec Ideal S8192x1408 .f32) (z : FVec Ideal S1408 .f32) (n : ℕ) (hn : n < 8192) (st : Fin 2 → Int)
    (hst : ∀ k, st k = ((![n, 0] : Fin 2 → ℕ) k : Int)) (h : S8192x1408.Slices (fun _ => 0) S1x1408) (i : Fin 8192) (q : Fin 1408) :
    Host.dynamicUpdateSlice X (broadcastInDim S1x1408 ![1] bcast_S1408_S1x1408_1 z) st h (ix2 i q)
      = if i.val = n then z (ix1 q) else X (ix2 i q) := by
  rw [WordCmp.dynamicUpdateSlice_eq_update X _ st h _ (fits n hn) hst]
  pointwise
  by_cases e : i.val = n
  · rw [if_pos e, dif_pos (by omega)]
  · rw [if_neg e, dif_neg (by omega)]

theorem step_carried (V : Mem) (n : ℕ) (hn : n < 8192) (hV : count V = word n) (q : Fin 1408) :
    carried (STEP V) (ix1 q) = decay V (ix2 ⟨n, hn⟩ q) * carried V (ix1 q) + input V (ix2 ⟨n, hn⟩ q) := by
  rw [show carried (STEP V) = step_main_v3_3 V from STEP_main_v3_3 V]
  exact congrArg₂ (fun x y => x * carried V (ix1 q) + y) (read_row (decay V) n hn _ (starts V n hn hV) _ _ q)
    (read_row (input V) n hn _ (starts V n hn hV) _ _ q)

theorem step_states (V : Mem) (n : ℕ) (hn : n < 8192) (hV : count V = word n) (i : Fin 8192) (q : Fin 1408) :
    states (STEP V) (ix2 i q) = if i.val = n then carried (STEP V) (ix1 q) else states V (ix2 i q) := by
  rw [show states (STEP V) = step_main_v3_4 V from STEP_main_v3_4 V, show carried (STEP V) = step_main_v3_3 V from STEP_main_v3_3 V]
  unfold step_main_v3_4 step_main_v3_3
  exact write_row (states V) _ n hn _ (starts V n hn hV) _ i q

theorem step_earlier (V : Mem) (n : ℕ) (hn : n < 8192) (hV : count V = word n) (i : Fin 8192) (q : Fin 1408) :
    earlier (STEP V) (ix2 i q) = if i.val = n then carried V (ix1 q) else earlier V (ix2 i q) := by
  rw [show earlier (STEP V) = step_main_v3_5 V from STEP_main_v3_5 V]
  unfold step_main_v3_5
  exact write_row (earlier V) _ n hn _ (starts V n hn hV) _ i q

theorem step_count (V : Mem) (n : ℕ) (hV : count V = word n) : count (STEP V) = word (n + 1) := by
  rw [show count (STEP V) = step_main_v3_2 V from STEP_main_v3_2 V]
  unfold step_main_v3_2
  rw [show V (Proc.devRef .tc main_v3_2) = word n from hV]
  funext i
  show BitVec.ofNat 32 n + 1#32 = BitVec.ofNat 32 (n + 1)
  simp only [BitVec.ofNat_add]

variable (m : (ℓ : Loc nD τ sig) → Buf (Elt Ideal) ℓ) (c : Dev nD)

/-- The buffers before trip `n`. -/
def mem (n : ℕ) : Mem := STEP^[n] (entryContents preI m c)

theorem mem_succ (n : ℕ) : mem m c (n + 1) = STEP (mem m c n) := Function.iterate_succ_apply' _ _ _

abbrev argA : FVec Ideal S8192x1408 .f32 := m ((c.tc : Thread nD τ).loc main_arg0)
abbrev argU : FVec Ideal S8192x1408 .f32 := m ((c.tc : Thread nD τ).loc main_arg1)
abbrev argR : FVec Ideal S8192x1408 .f32 := m ((c.tc : Thread nD τ).loc main_arg2)

theorem entry : count (mem m c 0) = word 0 ∧ decay (mem m c 0) = argA m c ∧ input (mem m c 0) = argU m c
    ∧ ∀ q, carried (mem m c 0) (ix1 q) = (0 : EReal) := by
  refine ⟨?_, ?_, ?_, fun q => ?_⟩
  · show entryContents preI m c _ = _
    simp only [entryContents, afterL_cons, afterL_nil]; after_reads_simp; rfl
  · show entryContents preI m c _ = _
    simp only [entryContents, afterL_cons, afterL_nil]; after_reads_simp; rfl
  · show entryContents preI m c _ = _
    simp only [entryContents, afterL_cons, afterL_nil]; after_reads_simp; rfl
  · show entryContents preI m c _ _ = _
    simp only [entryContents, afterL_cons, afterL_nil]; after_reads_simp
    pointwise
    exact Ideal.ofBits_zero_f32

/-- What no trip changes, and the trip's number. -/
theorem keeps : ∀ n, count (mem m c n) = word n ∧ decay (mem m c n) = argA m c ∧ input (mem m c n) = argU m c
  | 0 => ⟨(entry m c).1, (entry m c).2.1, (entry m c).2.2.1⟩
  | n + 1 => by
    obtain ⟨h1, h2, h3⟩ := keeps n
    rw [mem_succ]
    exact ⟨step_count _ n h1, (STEP_main_v3_0 _).trans h2, (STEP_main_v3_1 _).trans h3⟩

variable (hA : Cert.Reals.IsReal (ι := S8192x1408.Idx) (argA m c)) (hU : Cert.Reals.IsReal (ι := S8192x1408.Idx) (argU m c))

include hA hU in
theorem carried_eq (q : Fin 1408) : ∀ n, n ≤ 8192 → carried (mem m c n) (ix1 q) = (acc (col (argA m c) q) (col (argU m c) q) 0 n : EReal)
  | 0, _ => (entry m c).2.2.2 q
  | n + 1, hn => by
    rw [mem_succ, step_carried _ n hn (keeps m c n).1, carried_eq q n (Nat.le_of_succ_le hn), (keeps m c n).2.1, (keeps m c n).2.2,
      col_coe hA q _ n rfl, col_coe hU q _ n rfl, ← EReal.coe_mul, ← EReal.coe_add]
    rfl

include hA hU in
theorem rows_eq (i : Fin 8192) (q : Fin 1408) : ∀ n, n ≤ 8192 → i.val < n →
    states (mem m c n) (ix2 i q) = out 1 (argA m c) (argU m c) (ix2 i q) ∧ earlier (mem m c n) (ix2 i q) = out 0 (argA m c) (argU m c) (ix2 i q)
  | 0, _, h => absurd h (Nat.not_lt_zero _)
  | n + 1, hn, h => by
    have hc := carried_eq m c hA hU q (n + 1) hn
    rw [mem_succ] at hc ⊢
    rw [step_states _ n hn (keeps m c n).1, step_earlier _ n hn (keeps m c n).1, hc, carried_eq m c hA hU q n (Nat.le_of_succ_le hn)]
    by_cases hi : i.val = n
    · rw [if_pos hi, if_pos hi, ← hi]
      exact ⟨rfl, rfl⟩
    · rw [if_neg hi, if_neg hi]
      exact rows_eq i q n (Nat.le_of_succ_le hn) (by omega)

include hA hU in
theorem ref_states : states (mem m c 8192) = out 1 (argA m c) (argU m c) := by
  funext y
  obtain ⟨i, q, rfl⟩ : ∃ (i : Fin 8192) (q : Fin 1408), y = ix2 i q := ⟨y 0, y 1, eq_ix2 y⟩
  exact (rows_eq m c hA hU i q 8192 (Nat.le_refl _) i.isLt).1

include hA hU in
theorem ref_earlier : earlier (mem m c 8192) = out 0 (argA m c) (argU m c) := by
  funext y
  obtain ⟨i, q, rfl⟩ : ∃ (i : Fin 8192) (q : Fin 1408), y = ix2 i q := ⟨y 0, y 1, eq_ix2 y⟩
  exact (rows_eq m c hA hU i q 8192 (Nat.le_refl _) i.isLt).2

include hA hU in
theorem ref_gated : out_main_v18 (mem m c 8192) = outG (argA m c) (argU m c) (argR m c) := by
  funext y
  have hr : mem m c 8192 (Proc.devRef .tc main_arg2) = argR m c := iter_main_arg2 m c 8192
  unfold out_main_v18 outG gated
  rw [hr, show mem m c 8192 (Proc.devRef .tc main_v3_4) = _ from ref_states m c hA hU]
  pointwise

end Cert.RecurRef

end
-- ==== Proof.RecurClaim.lean ====
module

public import proofs.«01_k».proof.Defs
public import proofs.«01_k».proof.Proof.RecurRef
public import proofs.«01_k».proof.Proof.Gen.Recur
public import proofs.«01_k».proof.Proof.Gen.Pre_finite_recur

/-! The claims about the linear recurrence and its gating. -/

@[expose] public section

set_option maxRecDepth 16384

noncomputable section

namespace Cert.RecurClaim

open Idealize.ShloMosaic Idealize.ShloMosaic.TcCoe Idealize.SL.Sem Cert.Reals

/-- No operation was rewritten: at the bits the two prints have the same kernel body. -/
theorem bodies : Cert.Recur.defs₀ (F := Bits) = Cert.RecurIdeal.defs₀ (F := Bits) := by
  unfold Cert.Recur.defs₀ Cert.RecurIdeal.defs₀
  refine congrArg Defs.onTc ?_
  funext x y
  match x, y with
  | 0, (t, s) => rfl

theorem programs : Cert.Recur.defs (F := Bits) = Cert.RecurIdeal.defs (F := Bits) :=
  congrArg (Pipeline.defs Cert.Recur.pcfgs) bodies

theorem frame : Cert.quiescent_Recur := fun m ρ _ => by
  rw [programs]
  exact RecurRun.frame m ρ
theorem frame_ideal : Cert.quiescent_RecurIdeal := fun m ρ _ => RecurRun.frame m ρ
theorem frame_ideal_pre : Cert.quiescent_RecurIdeal_pre_finite_recur := fun m ρ _ => RecurRun.frame m ρ

theorem frame_ref : Cert.quiescent_RecurRefIdeal := fun m ρ _ =>
  (θ_run Cert.RecurRefIdeal.defs _ _).mono (fun r h => ⟨fun c => (h c).2.2.2, sem_eq_zero_of_no_sems (by decide) r.2⟩)
    (Cert.RecurRefIdeal.Value.run (F := Ideal) m ρ)

theorem frame_ref_pre : Cert.quiescent_RecurRefIdeal_pre_finite_recur := fun m ρ _ => frame_ref m ρ trivial

theorem algebraic : Cert.algebraic_RecurIdeal_RecurRefIdeal_pre_finite_recur := by
  intro m g m' g' hp hm
  have hA : ∀ c, IsReal (ι := Cert.RecurIdeal.S8192x1408.Idx) (RecurValue.argA m c) := fun c => isReal_of_pre _ _ (hp c).1 fun _ => rfl
  have hU : ∀ c, IsReal (ι := Cert.RecurIdeal.S8192x1408.Idx) (RecurValue.argU m c) := fun c => isReal_of_pre _ _ (hp c).2 fun _ => rfl
  refine ⟨fun c => RecurValue.out 1 (RecurValue.argA m c) (RecurValue.argU m c), fun c => RecurValue.out 0 (RecurValue.argA m c) (RecurValue.argU m c),
    fun c => RecurValue.outG (RecurValue.argA m c) (RecurValue.argU m c) (RecurValue.argR m c), RecurValue.result m g hA hU,
    (θ_run Cert.RecurRefIdeal.defs _ _).mono (fun r h c => ?_) (Cert.RecurRefIdeal.Value.run (F := Ideal) m' g')⟩
  obtain ⟨e0, e1, e2⟩ := hm c
  have ea : RecurRef.argA m' c = RecurValue.argA m c := e0
  have eu : RecurRef.argU m' c = RecurValue.argU m c := e1
  have er : RecurRef.argR m' c = RecurValue.argR m c := e2
  have hA' : IsReal (ι := Cert.RecurIdeal.S8192x1408.Idx) (RecurRef.argA m' c) := by rw [ea]; exact hA c
  have hU' : IsReal (ι := Cert.RecurIdeal.S8192x1408.Idx) (RecurRef.argU m' c) := by rw [eu]; exact hU c
  have h0 := RecurRef.ref_states m' c hA' hU'
  have h1 := RecurRef.ref_earlier m' c hA' hU'
  have h2 := RecurRef.ref_gated m' c hA' hU'
  rw [ea, eu] at h0 h1 h2
  rw [er] at h2
  exact ⟨(h c).1.trans h0, (h c).2.1.trans h1, (h c).2.2.1.trans h2, (h c).2.2.2⟩

end Cert.RecurClaim

end
-- ==== Proof.BandRun.lean ====
module

public import proofs.«01_k».proof.Defs
public import proofs.«01_k».proof.Proof.Gen.Band
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import Idealize.ShloMosaic.Lib.Pipeline.FrameBody
public import Idealize.ShloMosaic.Adequacy
public import Idealize.ShloMosaic.Init

/-! The run of the gates' weight gradients inside the band: it ends, faults nowhere and leaves the arguments
as they were. What the two accumulators hold is left open, so the proof data of the loop constrain nothing
of what a point leaves in a block. -/

@[expose] public section

set_option maxRecDepth 16384

noncomputable section

namespace Cert.BandRun

open Cert.BandIdeal Cert.BandIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- The first point is the one that clears the accumulators. -/
abbrev first (i : grid0.Coords) : Prop :=
  (Scalar.cmpi .ne (Scalar.extui (Scalar.cmpi .eq (BitVec.ofNat 32 (i 0).val) 0#32)) 0#32) = 1#1

section
variable (c : Dev nD) (i : grid0.Coords)
  (arg1 : Memref sig .tc .vmem S512x1408 .f32) (h1 : arg1.IsWhole) (arg2 : Memref sig .tc .vmem S512x1408 .bf16) (h2 : arg2.IsWhole)
  (arg3 : Memref sig .tc .vmem S512x1408 .bf16) (h3 : arg3.IsWhole) (arg4 : Memref sig .tc .vmem S1408x1408 .f32) (h4 : arg4.IsWhole)
  (arg5 : Memref sig .tc .vmem S1408x1408 .f32) (h5 : arg5.IsWhole)

/-- Some contents in each of the five blocks. -/
def held : sProp 𝕄 :=
  iprop((∃ x, owns (c : Thread nD τ) arg1 fullShare x) ∗ (∃ x, owns (c : Thread nD τ) arg2 fullShare x) ∗ (∃ x, owns (c : Thread nD τ) arg3 fullShare x)
    ∗ (∃ x, owns (c : Thread nD τ) arg4 fullShare x) ∗ (∃ x, owns (c : Thread nD τ) arg5 fullShare x))

theorem body (K : PUnit → sProp 𝕄) :
    iprop(held c arg1 arg2 arg3 arg4 arg5 ∗ (held c arg1 arg2 arg3 arg4 arg5 -∗ K ⟨⟩))
      ⊢ wp frame (wpE (defs₀ (F := F)) Variants.none c none) Set.univ (cc0_rnn_dw_ax_1 i arg1 h1 arg2 h2 arg3 h3 arg4 h4 arg5 h5) K := by
  rw [cc0_rnn_dw_ax_1_eq_skeleton]
  unfold cc0_rnn_dw_ax_1_skel
  rw [k0_part1_eq_skeleton, k0_part2_eq_skeleton, k0_part3_eq_skeleton]
  unfold k0_part1_skel k0_part2_skel k0_part3_skel held owns
  iintro ⟨⟨⟨%d1, %f1, -, H1⟩, ⟨%d2, %f2, -, H2⟩, ⟨%d3, %f3, -, H3⟩, ⟨%d4, %f4, -, H4⟩, ⟨%d5, %f5, -, H5⟩⟩, Hk⟩
  by_cases hc : first i
  all_goals
    sl_exec (disch := first | sl_exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    iexists _, _; isplitr; swap; · iexact H5
    ipureintro; rfl

end

variable (m : (ℓ : Loc nD τ sig) → Buf (Elt F) ℓ) (ρ : Dev nD → PrngReg)

/-- The proof data of the loop: the arrays as the call finds them, and anything in a block after a point. -/
def dats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem body_row (t : Fin cfg0.N) : defs₀ (F := F) .tc cfg0.body (cfg0.bodyArgs t (cfg0.slots t)) = bodyAt0 t := by
  unfold defs₀; rw [Defs.onTc_tc]

theorem obligation (c : Dev nD) : (dats (F := F) m c).BodyObligation (defs₀ (F := F)) Variants.none () Set.univ := fun t Y _ => by
  rw [bigSep_W0, body_row]
  simp only [bigSep_W0]
  rw [show (dats m c).owesAt () t.succ = (dats m c).owesAt () t.castSucc from rfl,
    show (dats m c).Φ t.succ = (dats m c).Φ t.castSucc from rfl]
  unfold bodyAt0
  iintro ⟨HΦ, Ho, H0, H1, H2, H3, H4⟩
  iapply (body c (grid0.coords t) (win0_0.stage (cfg0.slots t 0)) _ (win0_1.stage (cfg0.slots t 1)) _ (win0_2.stage (cfg0.slots t 2)) _
    (win0_3.stage (cfg0.slots t 3)) _ (win0_4.stage (cfg0.slots t 4)) _)
  unfold held
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iintro ⟨⟨%x0, H0⟩, ⟨%x1, H1⟩, ⟨%x2, H2⟩, ⟨%x3, H3⟩, ⟨%x4, H4⟩⟩
  isplitl [HΦ]; · iexact HΦ
  isplitl [Ho]; · iexact Ho
  isplitl [H0]
  · iexists x0; isplitr; · ipureintro; trivial
    iexact H0
  isplitl [H1]
  · iexists x1; isplitr; · ipureintro; trivial
    iexact H1
  isplitl [H2]
  · iexists x2; isplitr; · ipureintro; trivial
    iexact H2
  isplitl [H3]
  · iexists x3; isplitr; · ipureintro; trivial
    iexact H3
  iexists x4; isplitr; · ipureintro; trivial
  iexact H4

theorem share (c : Dev nD) (w : Fin cfg0.W) : (dats (F := F) m c).share w = fullShare := by
  unfold RDat.share; split <;> rfl

set_option backward.isDefEq.respectTransparency.types false in
theorem run : θ_run defs (onTc (τ := τ) (main (F := F))) (s₀ m ρ)
    (fun r => RDat.FramePost cfg0 (dats m) (V m) r ∧ r.2.sem = fun _ => 0) :=
  Pipeline.RDat.θ_run_frame (Q' := _) cfgs (0 : Fin 1) launch0 defs₀ Variants.none (dats m) m ρ main
    (hbody := obligation m) (hshare := share m) (howed := fun _ _ => rfl) (V := V m) (hmain := hmain m Variants.none)
    (hA := fun _ _ => rfl) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

/-- No operation was rewritten: at the bits the two prints have the same kernel body. -/
theorem bodies : Cert.Band.defs₀ (F := Bits) = Cert.BandIdeal.defs₀ (F := Bits) := by
  unfold Cert.Band.defs₀ Cert.BandIdeal.defs₀
  refine congrArg Defs.onTc ?_
  funext x y
  match x, y with
  | 0, (t, s) => rfl

theorem programs : Cert.Band.defs (F := Bits) = Cert.BandIdeal.defs (F := Bits) :=
  congrArg (Pipeline.defs Cert.Band.pcfgs) bodies

theorem frame_bits : Cert.quiescent_Band := fun m ρ _ => by
  rw [programs]
  exact frame m ρ

theorem frame_ideal : Cert.quiescent_BandIdeal := fun m ρ _ => frame m ρ

end Cert.BandRun

end
-- ==== Proof.lean ====
module

public import proofs.«01_k».proof.Proof.FfnClaim
public import proofs.«01_k».proof.Proof.ScanClaim
public import proofs.«01_k».proof.Proof.Conv4Claim
public import proofs.«01_k».proof.Proof.Conv31Claim
public import proofs.«01_k».proof.Proof.LossClaim
public import proofs.«01_k».proof.Proof.NormClaim
public import proofs.«01_k».proof.Proof.MixinClaim
public import proofs.«01_k».proof.Proof.MixClaim
public import proofs.«01_k».proof.Proof.UpClaim
public import proofs.«01_k».proof.Proof.DownClaim
public import proofs.«01_k».proof.Proof.SplitClaim
public import proofs.«01_k».proof.Proof.MergeClaim
public import proofs.«01_k».proof.Proof.RconvClaim
public import proofs.«01_k».proof.Proof.DxClaim
public import proofs.«01_k».proof.Proof.DwClaim
public import proofs.«01_k».proof.Proof.AdamwClaim
public import proofs.«01_k».proof.Proof.RecurClaim
public import proofs.«01_k».proof.Proof.BandRun
public import proofs.«01_k».proof.Proof.Gen.Rgates
public import proofs.«01_k».proof.Proof.Gen.Rgates.Frame
public import proofs.«01_k».proof.Proof.Gen.RgatesIdeal
public import proofs.«01_k».proof.Proof.Gen.RgatesIdeal.Frame
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_finite_ffn
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts,
  Cert.Scan.Gen.facts, Cert.ScanIdeal.Gen.facts, Cert.ScanRefIdeal.Gen.facts,
  Cert.Conv4.Gen.facts, Cert.Conv4Ideal.Gen.facts, Cert.Conv4RefIdeal.Gen.facts,
  Cert.Conv31.Gen.facts, Cert.Conv31Ideal.Gen.facts, Cert.Conv31RefIdeal.Gen.facts,
  Cert.Loss.Gen.facts, Cert.LossIdeal.Gen.facts, Cert.LossRefIdeal.Gen.facts,
  Cert.Norm.Gen.facts, Cert.NormIdeal.Gen.facts, Cert.NormRefIdeal.Gen.facts,
  Cert.Mixin.Gen.facts, Cert.MixinIdeal.Gen.facts, Cert.MixinRefIdeal.Gen.facts,
  Cert.Mix.Gen.facts, Cert.MixIdeal.Gen.facts, Cert.MixRefIdeal.Gen.facts,
  Cert.Gates.Gen.facts, Cert.GatesIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Split.Gen.facts, Cert.SplitIdeal.Gen.facts, Cert.SplitRefIdeal.Gen.facts,
  Cert.Merge.Gen.facts, Cert.MergeIdeal.Gen.facts, Cert.MergeRefIdeal.Gen.facts,
  Cert.Rconv.Gen.facts, Cert.RconvIdeal.Gen.facts, Cert.RconvRefIdeal.Gen.facts,
  Cert.Rgates.Gen.facts, Cert.RgatesIdeal.Gen.facts,
  Cert.Dx.Gen.facts, Cert.DxIdeal.Gen.facts, Cert.DxRefIdeal.Gen.facts,
  Cert.Dw.Gen.facts, Cert.DwIdeal.Gen.facts, Cert.DwRefIdeal.Gen.facts,
  Cert.Adamw.Gen.facts, Cert.AdamwIdeal.Gen.facts, Cert.AdamwRefIdeal.Gen.facts,
  Cert.Recur.Gen.facts, Cert.RecurIdeal.Gen.facts, Cert.RecurRefIdeal.Gen.facts,
  Cert.Band.Gen.facts, Cert.BandIdeal.Gen.facts,
  Cert.Pre_finite_ffn.Gen.facts, Cert.Pre_finite_scan.Gen.facts, Cert.Pre_finite_conv31.Gen.facts,
  Cert.Pre_finite_loss.Gen.facts, Cert.Pre_finite_norm.Gen.facts, Cert.Pre_finite_mixin.Gen.facts, Cert.Pre_finite_mix.Gen.facts,
  Cert.Pre_finite_recur.Gen.facts,
  FfnClaim.frame, FfnClaim.frame_ideal, FfnClaim.frame_ideal_pre, FfnClaim.frame_ref, FfnClaim.frame_ref_pre,
  ScanClaim.frame, ScanClaim.frame_ideal, ScanClaim.frame_ideal_pre, ScanClaim.frame_ref, ScanClaim.frame_ref_pre,
  Conv4Claim.frame, Conv4Claim.frame_ideal, Conv4Claim.frame_ref,
  Conv31Claim.frame, Conv31Claim.frame_ideal, Conv31Claim.frame_ideal_pre, Conv31Claim.frame_ref, Conv31Claim.frame_ref_pre,
  LossClaim.frame, LossClaim.frame_ideal, LossClaim.frame_ideal_pre, LossClaim.frame_ref, LossClaim.frame_ref_pre,
  NormClaim.frame, NormClaim.frame_ideal, NormClaim.frame_ideal_pre, NormClaim.frame_ref, NormClaim.frame_ref_pre,
  MixinClaim.frame, MixinClaim.frame_ideal, MixinClaim.frame_ideal_pre, MixinClaim.frame_ref, MixinClaim.frame_ref_pre,
  MixClaim.frame, MixClaim.frame_ideal, MixClaim.frame_ideal_pre, MixClaim.frame_ref, MixClaim.frame_ref_pre,
  fun m ρ _ => Cert.Gates.Gen.frame m ρ, fun m ρ _ => Cert.GatesIdeal.Gen.frame m ρ,
  UpClaim.frame, UpClaim.frame_ideal, UpClaim.frame_ref,
  DownClaim.frame, DownClaim.frame_ideal, DownClaim.frame_ref,
  SplitClaim.frame, SplitClaim.frame_ideal, SplitClaim.frame_ref,
  MergeClaim.frame, MergeClaim.frame_ideal, MergeClaim.frame_ref,
  RconvClaim.frame, RconvClaim.frame_ideal, RconvClaim.frame_ref,
  fun m ρ _ => Cert.Rgates.Gen.frame m ρ, fun m ρ _ => Cert.RgatesIdeal.Gen.frame m ρ,
  DxClaim.frame, DxClaim.frame_ideal, DxClaim.frame_ref,
  DwClaim.frame, DwClaim.frame_ideal, DwClaim.frame_ref,
  AdamwClaim.frame, AdamwClaim.frame_ideal, AdamwClaim.frame_ref,
  RecurClaim.frame, RecurClaim.frame_ideal, RecurClaim.frame_ideal_pre, RecurClaim.frame_ref, RecurClaim.frame_ref_pre,
  BandRun.frame_bits, BandRun.frame_ideal,
  trivial, FfnClaim.algebraic, trivial, ScanClaim.algebraic, trivial, Conv4Claim.algebraic,
  trivial, Conv31Claim.algebraic, trivial, LossClaim.algebraic, trivial, NormClaim.algebraic,
  trivial, MixinClaim.algebraic, MixClaim.preserves, MixClaim.algebraic,
  trivial, trivial, UpClaim.algebraic, trivial, DownClaim.algebraic, trivial, SplitClaim.algebraic, trivial, MergeClaim.algebraic,
  trivial, RconvClaim.algebraic, trivial, trivial, DxClaim.algebraic, trivial, DwClaim.algebraic, trivial, AdamwClaim.algebraic,
  trivial, RecurClaim.algebraic, trivial⟩

end Cert.Proof

end
